-- ==== Defs.lean ====
def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatRefIdeal (m : (ℓ : Loc Cert.DcatRefIdeal.nD Cert.DcatRefIdeal.τ Cert.DcatRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Rms2 (m : (ℓ : Loc Cert.Rms2.nD Cert.Rms2.τ Cert.Rms2.sig) → Buf (Elt Bits) ℓ) : Prop :=
  True

def Pre_Rms2Ideal (m : (ℓ : Loc Cert.Rms2Ideal.nD Cert.Rms2Ideal.τ Cert.Rms2Ideal.sig) → Buf (Elt Ideal) ℓ) : Prop :=
  True

def Pre_Rms2Ideal_rms2_finite [hPre_rms2_finite : Cert.Pre_rms2_finite.Facts] (m : (ℓ : Loc Cert.Rms2Ideal.nD Cert.Rms2Ideal.τ Cert.Rms2Ideal.sig) → Buf (Elt Ideal) ℓ) : Prop :=
  ∀ c : Dev Cert.Rms2Ideal.nD,
    (Cert.Pre_rms2_finite.fn (F := Ideal) (m ((c.tc : Thread Cert.Rms2Ideal.nD Cert.Rms2Ideal.τ).loc Cert.Rms2Ideal.main_arg0)) (m ((c.tc : Thread Cert.Rms2Ideal.nD Cert.Rms2Ideal.τ).loc Cert.Rms2Ideal.main_arg1)) (m ((c.tc : Thread Cert.Rms2Ideal.nD Cert.Rms2Ideal.τ).loc Cert.Rms2Ideal.main_arg2)) (m ((c.tc : Thread Cert.Rms2Ideal.nD Cert.Rms2Ideal.τ).loc Cert.Rms2Ideal.main_arg3)) (m ((c.tc : Thread Cert.Rms2Ideal.nD Cert.Rms2Ideal.τ).loc Cert.Rms2Ideal.main_arg4)) (m ((c.tc : Thread Cert.Rms2Ideal.nD Cert.Rms2Ideal.τ).loc Cert.Rms2Ideal.main_arg5))) = (fun _ => 1#1)

def Pre_Rms2RefIdeal (m : (ℓ : Loc Cert.Rms2RefIdeal.nD Cert.Rms2RefIdeal.τ Cert.Rms2RefIdeal.sig) → Buf (Elt Ideal) ℓ) : Prop :=
  True

def Pre_Rms2RefIdeal_rms2_finite [hPre_rms2_finite : Cert.Pre_rms2_finite.Facts] (m : (ℓ : Loc Cert.Rms2RefIdeal.nD Cert.Rms2RefIdeal.τ Cert.Rms2RefIdeal.sig) → Buf (Elt Ideal) ℓ) : Prop :=
  ∀ c : Dev Cert.Rms2RefIdeal.nD,
    (Cert.Pre_rms2_finite.fn (F := Ideal) (m ((c.tc : Thread Cert.Rms2RefIdeal.nD Cert.Rms2RefIdeal.τ).loc Cert.Rms2RefIdeal.main_arg0)) (m ((c.tc : Thread Cert.Rms2RefIdeal.nD Cert.Rms2RefIdeal.τ).loc Cert.Rms2RefIdeal.main_arg1)) (m ((c.tc : Thread Cert.Rms2RefIdeal.nD Cert.Rms2RefIdeal.τ).loc Cert.Rms2RefIdeal.main_arg2)) (m ((c.tc : Thread Cert.Rms2RefIdeal.nD Cert.Rms2RefIdeal.τ).loc Cert.Rms2RefIdeal.main_arg3)) (m ((c.tc : Thread Cert.Rms2RefIdeal.nD Cert.Rms2RefIdeal.τ).loc Cert.Rms2RefIdeal.main_arg4)) (m ((c.tc : Thread Cert.Rms2RefIdeal.nD Cert.Rms2RefIdeal.τ).loc Cert.Rms2RefIdeal.main_arg5))) = (fun _ => 1#1)

def Pre_Rmsb (m : (ℓ : Loc Cert.Rmsb.nD Cert.Rmsb.τ Cert.Rmsb.sig) → Buf (Elt Bits) ℓ) : Prop :=
  True

def Pre_RmsbIdeal (m : (ℓ : Loc Cert.RmsbIdeal.nD Cert.RmsbIdeal.τ Cert.RmsbIdeal.sig) → Buf (Elt Ideal) ℓ) : Prop :=
  True

def Pre_RmsbIdeal_rmsb_finite [hPre_rmsb_finite : Cert.Pre_rmsb_finite.Facts] (m : (ℓ : Loc Cert.RmsbIdeal.nD Cert.RmsbIdeal.τ Cert.RmsbIdeal.sig) → Buf (Elt Ideal) ℓ) : Prop :=
  ∀ c : Dev Cert.RmsbIdeal.nD,
    (Cert.Pre_rmsb_finite.fn (F := Ideal) (m ((c.tc : Thread Cert.RmsbIdeal.nD Cert.RmsbIdeal.τ).loc Cert.RmsbIdeal.main_arg0)) (m ((c.tc : Thread Cert.RmsbIdeal.nD Cert.RmsbIdeal.τ).loc Cert.RmsbIdeal.main_arg1)) (m ((c.tc : Thread Cert.RmsbIdeal.nD Cert.RmsbIdeal.τ).loc Cert.RmsbIdeal.main_arg2))) = (fun _ => 1#1)

def Pre_RmsbRefIdeal (m : (ℓ : Loc Cert.RmsbRefIdeal.nD Cert.RmsbRefIdeal.τ Cert.RmsbRefIdeal.sig) → Buf (Elt Ideal) ℓ) : Prop :=
  True

def Pre_RmsbRefIdeal_rmsb_finite [hPre_rmsb_finite : Cert.Pre_rmsb_finite.Facts] (m : (ℓ : Loc Cert.RmsbRefIdeal.nD Cert.RmsbRefIdeal.τ Cert.RmsbRefIdeal.sig) → Buf (Elt Ideal) ℓ) : Prop :=
  ∀ c : Dev Cert.RmsbRefIdeal.nD,
    (Cert.Pre_rmsb_finite.fn (F := Ideal) (m ((c.tc : Thread Cert.RmsbRefIdeal.nD Cert.RmsbRefIdeal.τ).loc Cert.RmsbRefIdeal.main_arg0)) (m ((c.tc : Thread Cert.RmsbRefIdeal.nD Cert.RmsbRefIdeal.τ).loc Cert.RmsbRefIdeal.main_arg1)) (m ((c.tc : Thread Cert.RmsbRefIdeal.nD Cert.RmsbRefIdeal.τ).loc Cert.RmsbRefIdeal.main_arg2))) = (fun _ => 1#1)

def Pre_Convf (m : (ℓ : Loc Cert.Convf.nD Cert.Convf.τ Cert.Convf.sig) → Buf (Elt Bits) ℓ) : Prop :=
  True

def Pre_ConvfIdeal (m : (ℓ : Loc Cert.ConvfIdeal.nD Cert.ConvfIdeal.τ Cert.ConvfIdeal.sig) → Buf (Elt Ideal) ℓ) : Prop :=
  True

def Pre_ConvfRefIdeal (m : (ℓ : Loc Cert.ConvfRefIdeal.nD Cert.ConvfRefIdeal.τ Cert.ConvfRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatRefIdeal [hDcatRefIdeal : Cert.DcatRefIdeal.Facts] : Prop :=
  ∀ (m : (ℓ : Loc Cert.DcatRefIdeal.nD Cert.DcatRefIdeal.τ Cert.DcatRefIdeal.sig) → Buf (Elt Ideal) ℓ) (g : Dev Cert.DcatRefIdeal.nD → PrngReg), Pre_DcatRefIdeal m →
    θ_run (Cert.DcatRefIdeal.defs (F := Ideal)) (onTc (τ := Cert.DcatRefIdeal.τ) (Cert.DcatRefIdeal.main (F := Ideal))) ⟨m, fun _ => 0, g⟩ (fun r => (∀ c : Dev Cert.DcatRefIdeal.nD,
      r.2.mem ((c.tc : Thread Cert.DcatRefIdeal.nD Cert.DcatRefIdeal.τ).loc Cert.DcatRefIdeal.main_arg0) = m ((c.tc : Thread Cert.DcatRefIdeal.nD Cert.DcatRefIdeal.τ).loc Cert.DcatRefIdeal.main_arg0)
      ∧ r.2.mem ((c.tc : Thread Cert.DcatRefIdeal.nD Cert.DcatRefIdeal.τ).loc Cert.DcatRefIdeal.main_arg1) = m ((c.tc : Thread Cert.DcatRefIdeal.nD Cert.DcatRefIdeal.τ).loc Cert.DcatRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1)
      ∧ r.2.mem ((c.tc : Thread Cert.Dwout.nD Cert.Dwout.τ).loc Cert.Dwout.main_arg2) = m ((c.tc : Thread Cert.Dwout.nD Cert.Dwout.τ).loc Cert.Dwout.main_arg2)
      ∧ r.2.mem ((c.tc : Thread Cert.Dwout.nD Cert.Dwout.τ).loc Cert.Dwout.main_arg3) = m ((c.tc : Thread Cert.Dwout.nD Cert.Dwout.τ).loc Cert.Dwout.main_arg3))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
      ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2)
      ∧ r.2.mem ((c.tc : Thread Cert.DwoutIdeal.nD Cert.DwoutIdeal.τ).loc Cert.DwoutIdeal.main_arg3) = m ((c.tc : Thread Cert.DwoutIdeal.nD Cert.DwoutIdeal.τ).loc Cert.DwoutIdeal.main_arg3))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1)
      ∧ r.2.mem ((c.tc : Thread Cert.DwoutRefIdeal.nD Cert.DwoutRefIdeal.τ).loc Cert.DwoutRefIdeal.main_arg2) = m ((c.tc : Thread Cert.DwoutRefIdeal.nD Cert.DwoutRefIdeal.τ).loc Cert.DwoutRefIdeal.main_arg2)
      ∧ r.2.mem ((c.tc : Thread Cert.DwoutRefIdeal.nD Cert.DwoutRefIdeal.τ).loc Cert.DwoutRefIdeal.main_arg3) = m ((c.tc : Thread Cert.DwoutRefIdeal.nD Cert.DwoutRefIdeal.τ).loc Cert.DwoutRefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2)
      ∧ r.2.mem ((c.tc : Thread Cert.Dwin.nD Cert.Dwin.τ).loc Cert.Dwin.main_arg3) = m ((c.tc : Thread Cert.Dwin.nD Cert.Dwin.τ).loc Cert.Dwin.main_arg3))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
      ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1)
      ∧ r.2.mem ((c.tc : Thread Cert.DwinRefIdeal.nD Cert.DwinRefIdeal.τ).loc Cert.DwinRefIdeal.main_arg2) = m ((c.tc : Thread Cert.DwinRefIdeal.nD Cert.DwinRefIdeal.τ).loc Cert.DwinRefIdeal.main_arg2)
      ∧ r.2.mem ((c.tc : Thread Cert.DwinRefIdeal.nD Cert.DwinRefIdeal.τ).loc Cert.DwinRefIdeal.main_arg3) = m ((c.tc : Thread Cert.DwinRefIdeal.nD Cert.DwinRefIdeal.τ).loc Cert.DwinRefIdeal.main_arg3))
      ∧ r.2.sem = fun _ => 0)

def quiescent_Rms2 [hRms2 : Cert.Rms2.Facts] : Prop :=
  ∀ (m : (ℓ : Loc Cert.Rms2.nD Cert.Rms2.τ Cert.Rms2.sig) → Buf (Elt Bits) ℓ) (g : Dev Cert.Rms2.nD → PrngReg), Pre_Rms2 m →
    θ_run (Cert.Rms2.defs (F := Bits)) (onTc (τ := Cert.Rms2.τ) (Cert.Rms2.main (F := Bits))) ⟨m, fun _ => 0, g⟩ (fun r => (∀ c : Dev Cert.Rms2.nD,
      r.2.mem ((c.tc : Thread Cert.Rms2.nD Cert.Rms2.τ).loc Cert.Rms2.main_arg0) = m ((c.tc : Thread Cert.Rms2.nD Cert.Rms2.τ).loc Cert.Rms2.main_arg0)
      ∧ r.2.mem ((c.tc : Thread Cert.Rms2.nD Cert.Rms2.τ).loc Cert.Rms2.main_arg1) = m ((c.tc : Thread Cert.Rms2.nD Cert.Rms2.τ).loc Cert.Rms2.main_arg1)
      ∧ r.2.mem ((c.tc : Thread Cert.Rms2.nD Cert.Rms2.τ).loc Cert.Rms2.main_arg2) = m ((c.tc : Thread Cert.Rms2.nD Cert.Rms2.τ).loc Cert.Rms2.main_arg2)
      ∧ r.2.mem ((c.tc : Thread Cert.Rms2.nD Cert.Rms2.τ).loc Cert.Rms2.main_arg3) = m ((c.tc : Thread Cert.Rms2.nD Cert.Rms2.τ).loc Cert.Rms2.main_arg3)
      ∧ r.2.mem ((c.tc : Thread Cert.Rms2.nD Cert.Rms2.τ).loc Cert.Rms2.main_arg4) = m ((c.tc : Thread Cert.Rms2.nD Cert.Rms2.τ).loc Cert.Rms2.main_arg4)
      ∧ r.2.mem ((c.tc : Thread Cert.Rms2.nD Cert.Rms2.τ).loc Cert.Rms2.main_arg5) = m ((c.tc : Thread Cert.Rms2.nD Cert.Rms2.τ).loc Cert.Rms2.main_arg5))
      ∧ r.2.sem = fun _ => 0)

def quiescent_Rms2Ideal [hRms2Ideal : Cert.Rms2Ideal.Facts] : Prop :=
  ∀ (m : (ℓ : Loc Cert.Rms2Ideal.nD Cert.Rms2Ideal.τ Cert.Rms2Ideal.sig) → Buf (Elt Ideal) ℓ) (g : Dev Cert.Rms2Ideal.nD → PrngReg), Pre_Rms2Ideal m →
    θ_run (Cert.Rms2Ideal.defs (F := Ideal)) (onTc (τ := Cert.Rms2Ideal.τ) (Cert.Rms2Ideal.main (F := Ideal))) ⟨m, fun _ => 0, g⟩ (fun r => (∀ c : Dev Cert.Rms2Ideal.nD,
      r.2.mem ((c.tc : Thread Cert.Rms2Ideal.nD Cert.Rms2Ideal.τ).loc Cert.Rms2Ideal.main_arg0) = m ((c.tc : Thread Cert.Rms2Ideal.nD Cert.Rms2Ideal.τ).loc Cert.Rms2Ideal.main_arg0)
      ∧ r.2.mem ((c.tc : Thread Cert.Rms2Ideal.nD Cert.Rms2Ideal.τ).loc Cert.Rms2Ideal.main_arg1) = m ((c.tc : Thread Cert.Rms2Ideal.nD Cert.Rms2Ideal.τ).loc Cert.Rms2Ideal.main_arg1)
      ∧ r.2.mem ((c.tc : Thread Cert.Rms2Ideal.nD Cert.Rms2Ideal.τ).loc Cert.Rms2Ideal.main_arg2) = m ((c.tc : Thread Cert.Rms2Ideal.nD Cert.Rms2Ideal.τ).loc Cert.Rms2Ideal.main_arg2)
      ∧ r.2.mem ((c.tc : Thread Cert.Rms2Ideal.nD Cert.Rms2Ideal.τ).loc Cert.Rms2Ideal.main_arg3) = m ((c.tc : Thread Cert.Rms2Ideal.nD Cert.Rms2Ideal.τ).loc Cert.Rms2Ideal.main_arg3)
      ∧ r.2.mem ((c.tc : Thread Cert.Rms2Ideal.nD Cert.Rms2Ideal.τ).loc Cert.Rms2Ideal.main_arg4) = m ((c.tc : Thread Cert.Rms2Ideal.nD Cert.Rms2Ideal.τ).loc Cert.Rms2Ideal.main_arg4)
      ∧ r.2.mem ((c.tc : Thread Cert.Rms2Ideal.nD Cert.Rms2Ideal.τ).loc Cert.Rms2Ideal.main_arg5) = m ((c.tc : Thread Cert.Rms2Ideal.nD Cert.Rms2Ideal.τ).loc Cert.Rms2Ideal.main_arg5))
      ∧ r.2.sem = fun _ => 0)

def quiescent_Rms2Ideal_pre_rms2_finite [hRms2Ideal : Cert.Rms2Ideal.Facts] [hPre_rms2_finite : Cert.Pre_rms2_finite.Facts] : Prop :=
  ∀ (m : (ℓ : Loc Cert.Rms2Ideal.nD Cert.Rms2Ideal.τ Cert.Rms2Ideal.sig) → Buf (Elt Ideal) ℓ) (g : Dev Cert.Rms2Ideal.nD → PrngReg), Pre_Rms2Ideal_rms2_finite m →
    θ_run (Cert.Rms2Ideal.defs (F := Ideal)) (onTc (τ := Cert.Rms2Ideal.τ) (Cert.Rms2Ideal.main (F := Ideal))) ⟨m, fun _ => 0, g⟩ (fun r => (∀ c : Dev Cert.Rms2Ideal.nD,
      r.2.mem ((c.tc : Thread Cert.Rms2Ideal.nD Cert.Rms2Ideal.τ).loc Cert.Rms2Ideal.main_arg0) = m ((c.tc : Thread Cert.Rms2Ideal.nD Cert.Rms2Ideal.τ).loc Cert.Rms2Ideal.main_arg0)
      ∧ r.2.mem ((c.tc : Thread Cert.Rms2Ideal.nD Cert.Rms2Ideal.τ).loc Cert.Rms2Ideal.main_arg1) = m ((c.tc : Thread Cert.Rms2Ideal.nD Cert.Rms2Ideal.τ).loc Cert.Rms2Ideal.main_arg1)
      ∧ r.2.mem ((c.tc : Thread Cert.Rms2Ideal.nD Cert.Rms2Ideal.τ).loc Cert.Rms2Ideal.main_arg2) = m ((c.tc : Thread Cert.Rms2Ideal.nD Cert.Rms2Ideal.τ).loc Cert.Rms2Ideal.main_arg2)
      ∧ r.2.mem ((c.tc : Thread Cert.Rms2Ideal.nD Cert.Rms2Ideal.τ).loc Cert.Rms2Ideal.main_arg3) = m ((c.tc : Thread Cert.Rms2Ideal.nD Cert.Rms2Ideal.τ).loc Cert.Rms2Ideal.main_arg3)
      ∧ r.2.mem ((c.tc : Thread Cert.Rms2Ideal.nD Cert.Rms2Ideal.τ).loc Cert.Rms2Ideal.main_arg4) = m ((c.tc : Thread Cert.Rms2Ideal.nD Cert.Rms2Ideal.τ).loc Cert.Rms2Ideal.main_arg4)
      ∧ r.2.mem ((c.tc : Thread Cert.Rms2Ideal.nD Cert.Rms2Ideal.τ).loc Cert.Rms2Ideal.main_arg5) = m ((c.tc : Thread Cert.Rms2Ideal.nD Cert.Rms2Ideal.τ).loc Cert.Rms2Ideal.main_arg5))
      ∧ r.2.sem = fun _ => 0)

def quiescent_Rms2RefIdeal [hRms2RefIdeal : Cert.Rms2RefIdeal.Facts] : Prop :=
  ∀ (m : (ℓ : Loc Cert.Rms2RefIdeal.nD Cert.Rms2RefIdeal.τ Cert.Rms2RefIdeal.sig) → Buf (Elt Ideal) ℓ) (g : Dev Cert.Rms2RefIdeal.nD → PrngReg), Pre_Rms2RefIdeal m →
    θ_run (Cert.Rms2RefIdeal.defs (F := Ideal)) (onTc (τ := Cert.Rms2RefIdeal.τ) (Cert.Rms2RefIdeal.main (F := Ideal))) ⟨m, fun _ => 0, g⟩ (fun r => (∀ c : Dev Cert.Rms2RefIdeal.nD,
      r.2.mem ((c.tc : Thread Cert.Rms2RefIdeal.nD Cert.Rms2RefIdeal.τ).loc Cert.Rms2RefIdeal.main_arg0) = m ((c.tc : Thread Cert.Rms2RefIdeal.nD Cert.Rms2RefIdeal.τ).loc Cert.Rms2RefIdeal.main_arg0)
      ∧ r.2.mem ((c.tc : Thread Cert.Rms2RefIdeal.nD Cert.Rms2RefIdeal.τ).loc Cert.Rms2RefIdeal.main_arg1) = m ((c.tc : Thread Cert.Rms2RefIdeal.nD Cert.Rms2RefIdeal.τ).loc Cert.Rms2RefIdeal.main_arg1)
      ∧ r.2.mem ((c.tc : Thread Cert.Rms2RefIdeal.nD Cert.Rms2RefIdeal.τ).loc Cert.Rms2RefIdeal.main_arg2) = m ((c.tc : Thread Cert.Rms2RefIdeal.nD Cert.Rms2RefIdeal.τ).loc Cert.Rms2RefIdeal.main_arg2)
      ∧ r.2.mem ((c.tc : Thread Cert.Rms2RefIdeal.nD Cert.Rms2RefIdeal.τ).loc Cert.Rms2RefIdeal.main_arg3) = m ((c.tc : Thread Cert.Rms2RefIdeal.nD Cert.Rms2RefIdeal.τ).loc Cert.Rms2RefIdeal.main_arg3)
      ∧ r.2.mem ((c.tc : Thread Cert.Rms2RefIdeal.nD Cert.Rms2RefIdeal.τ).loc Cert.Rms2RefIdeal.main_arg4) = m ((c.tc : Thread Cert.Rms2RefIdeal.nD Cert.Rms2RefIdeal.τ).loc Cert.Rms2RefIdeal.main_arg4)
      ∧ r.2.mem ((c.tc : Thread Cert.Rms2RefIdeal.nD Cert.Rms2RefIdeal.τ).loc Cert.Rms2RefIdeal.main_arg5) = m ((c.tc : Thread Cert.Rms2RefIdeal.nD Cert.Rms2RefIdeal.τ).loc Cert.Rms2RefIdeal.main_arg5))
      ∧ r.2.sem = fun _ => 0)

def quiescent_Rms2RefIdeal_pre_rms2_finite [hRms2RefIdeal : Cert.Rms2RefIdeal.Facts] [hPre_rms2_finite : Cert.Pre_rms2_finite.Facts] : Prop :=
  ∀ (m : (ℓ : Loc Cert.Rms2RefIdeal.nD Cert.Rms2RefIdeal.τ Cert.Rms2RefIdeal.sig) → Buf (Elt Ideal) ℓ) (g : Dev Cert.Rms2RefIdeal.nD → PrngReg), Pre_Rms2RefIdeal_rms2_finite m →
    θ_run (Cert.Rms2RefIdeal.defs (F := Ideal)) (onTc (τ := Cert.Rms2RefIdeal.τ) (Cert.Rms2RefIdeal.main (F := Ideal))) ⟨m, fun _ => 0, g⟩ (fun r => (∀ c : Dev Cert.Rms2RefIdeal.nD,
      r.2.mem ((c.tc : Thread Cert.Rms2RefIdeal.nD Cert.Rms2RefIdeal.τ).loc Cert.Rms2RefIdeal.main_arg0) = m ((c.tc : Thread Cert.Rms2RefIdeal.nD Cert.Rms2RefIdeal.τ).loc Cert.Rms2RefIdeal.main_arg0)
      ∧ r.2.mem ((c.tc : Thread Cert.Rms2RefIdeal.nD Cert.Rms2RefIdeal.τ).loc Cert.Rms2RefIdeal.main_arg1) = m ((c.tc : Thread Cert.Rms2RefIdeal.nD Cert.Rms2RefIdeal.τ).loc Cert.Rms2RefIdeal.main_arg1)
      ∧ r.2.mem ((c.tc : Thread Cert.Rms2RefIdeal.nD Cert.Rms2RefIdeal.τ).loc Cert.Rms2RefIdeal.main_arg2) = m ((c.tc : Thread Cert.Rms2RefIdeal.nD Cert.Rms2RefIdeal.τ).loc Cert.Rms2RefIdeal.main_arg2)
      ∧ r.2.mem ((c.tc : Thread Cert.Rms2RefIdeal.nD Cert.Rms2RefIdeal.τ).loc Cert.Rms2RefIdeal.main_arg3) = m ((c.tc : Thread Cert.Rms2RefIdeal.nD Cert.Rms2RefIdeal.τ).loc Cert.Rms2RefIdeal.main_arg3)
      ∧ r.2.mem ((c.tc : Thread Cert.Rms2RefIdeal.nD Cert.Rms2RefIdeal.τ).loc Cert.Rms2RefIdeal.main_arg4) = m ((c.tc : Thread Cert.Rms2RefIdeal.nD Cert.Rms2RefIdeal.τ).loc Cert.Rms2RefIdeal.main_arg4)
      ∧ r.2.mem ((c.tc : Thread Cert.Rms2RefIdeal.nD Cert.Rms2RefIdeal.τ).loc Cert.Rms2RefIdeal.main_arg5) = m ((c.tc : Thread Cert.Rms2RefIdeal.nD Cert.Rms2RefIdeal.τ).loc Cert.Rms2RefIdeal.main_arg5))
      ∧ r.2.sem = fun _ => 0)

def quiescent_Rmsb [hRmsb : Cert.Rmsb.Facts] : Prop :=
  ∀ (m : (ℓ : Loc Cert.Rmsb.nD Cert.Rmsb.τ Cert.Rmsb.sig) → Buf (Elt Bits) ℓ) (g : Dev Cert.Rmsb.nD → PrngReg), Pre_Rmsb m →
    θ_run (Cert.Rmsb.defs (F := Bits)) (onTc (τ := Cert.Rmsb.τ) (Cert.Rmsb.main (F := Bits))) ⟨m, fun _ => 0, g⟩ (fun r => (∀ c : Dev Cert.Rmsb.nD,
      r.2.mem ((c.tc : Thread Cert.Rmsb.nD Cert.Rmsb.τ).loc Cert.Rmsb.main_arg0) = m ((c.tc : Thread Cert.Rmsb.nD Cert.Rmsb.τ).loc Cert.Rmsb.main_arg0)
      ∧ r.2.mem ((c.tc : Thread Cert.Rmsb.nD Cert.Rmsb.τ).loc Cert.Rmsb.main_arg1) = m ((c.tc : Thread Cert.Rmsb.nD Cert.Rmsb.τ).loc Cert.Rmsb.main_arg1)
      ∧ r.2.mem ((c.tc : Thread Cert.Rmsb.nD Cert.Rmsb.τ).loc Cert.Rmsb.main_arg2) = m ((c.tc : Thread Cert.Rmsb.nD Cert.Rmsb.τ).loc Cert.Rmsb.main_arg2))
      ∧ r.2.sem = fun _ => 0)

def quiescent_RmsbIdeal [hRmsbIdeal : Cert.RmsbIdeal.Facts] : Prop :=
  ∀ (m : (ℓ : Loc Cert.RmsbIdeal.nD Cert.RmsbIdeal.τ Cert.RmsbIdeal.sig) → Buf (Elt Ideal) ℓ) (g : Dev Cert.RmsbIdeal.nD → PrngReg), Pre_RmsbIdeal m →
    θ_run (Cert.RmsbIdeal.defs (F := Ideal)) (onTc (τ := Cert.RmsbIdeal.τ) (Cert.RmsbIdeal.main (F := Ideal))) ⟨m, fun _ => 0, g⟩ (fun r => (∀ c : Dev Cert.RmsbIdeal.nD,
      r.2.mem ((c.tc : Thread Cert.RmsbIdeal.nD Cert.RmsbIdeal.τ).loc Cert.RmsbIdeal.main_arg0) = m ((c.tc : Thread Cert.RmsbIdeal.nD Cert.RmsbIdeal.τ).loc Cert.RmsbIdeal.main_arg0)
      ∧ r.2.mem ((c.tc : Thread Cert.RmsbIdeal.nD Cert.RmsbIdeal.τ).loc Cert.RmsbIdeal.main_arg1) = m ((c.tc : Thread Cert.RmsbIdeal.nD Cert.RmsbIdeal.τ).loc Cert.RmsbIdeal.main_arg1)
      ∧ r.2.mem ((c.tc : Thread Cert.RmsbIdeal.nD Cert.RmsbIdeal.τ).loc Cert.RmsbIdeal.main_arg2) = m ((c.tc : Thread Cert.RmsbIdeal.nD Cert.RmsbIdeal.τ).loc Cert.RmsbIdeal.main_arg2))
      ∧ r.2.sem = fun _ => 0)

def quiescent_RmsbIdeal_pre_rmsb_finite [hRmsbIdeal : Cert.RmsbIdeal.Facts] [hPre_rmsb_finite : Cert.Pre_rmsb_finite.Facts] : Prop :=
  ∀ (m : (ℓ : Loc Cert.RmsbIdeal.nD Cert.RmsbIdeal.τ Cert.RmsbIdeal.sig) → Buf (Elt Ideal) ℓ) (g : Dev Cert.RmsbIdeal.nD → PrngReg), Pre_RmsbIdeal_rmsb_finite m →
    θ_run (Cert.RmsbIdeal.defs (F := Ideal)) (onTc (τ := Cert.RmsbIdeal.τ) (Cert.RmsbIdeal.main (F := Ideal))) ⟨m, fun _ => 0, g⟩ (fun r => (∀ c : Dev Cert.RmsbIdeal.nD,
      r.2.mem ((c.tc : Thread Cert.RmsbIdeal.nD Cert.RmsbIdeal.τ).loc Cert.RmsbIdeal.main_arg0) = m ((c.tc : Thread Cert.RmsbIdeal.nD Cert.RmsbIdeal.τ).loc Cert.RmsbIdeal.main_arg0)
      ∧ r.2.mem ((c.tc : Thread Cert.RmsbIdeal.nD Cert.RmsbIdeal.τ).loc Cert.RmsbIdeal.main_arg1) = m ((c.tc : Thread Cert.RmsbIdeal.nD Cert.RmsbIdeal.τ).loc Cert.RmsbIdeal.main_arg1)
      ∧ r.2.mem ((c.tc : Thread Cert.RmsbIdeal.nD Cert.RmsbIdeal.τ).loc Cert.RmsbIdeal.main_arg2) = m ((c.tc : Thread Cert.RmsbIdeal.nD Cert.RmsbIdeal.τ).loc Cert.RmsbIdeal.main_arg2))
      ∧ r.2.sem = fun _ => 0)

def quiescent_RmsbRefIdeal [hRmsbRefIdeal : Cert.RmsbRefIdeal.Facts] : Prop :=
  ∀ (m : (ℓ : Loc Cert.RmsbRefIdeal.nD Cert.RmsbRefIdeal.τ Cert.RmsbRefIdeal.sig) → Buf (Elt Ideal) ℓ) (g : Dev Cert.RmsbRefIdeal.nD → PrngReg), Pre_RmsbRefIdeal m →
    θ_run (Cert.RmsbRefIdeal.defs (F := Ideal)) (onTc (τ := Cert.RmsbRefIdeal.τ) (Cert.RmsbRefIdeal.main (F := Ideal))) ⟨m, fun _ => 0, g⟩ (fun r => (∀ c : Dev Cert.RmsbRefIdeal.nD,
      r.2.mem ((c.tc : Thread Cert.RmsbRefIdeal.nD Cert.RmsbRefIdeal.τ).loc Cert.RmsbRefIdeal.main_arg0) = m ((c.tc : Thread Cert.RmsbRefIdeal.nD Cert.RmsbRefIdeal.τ).loc Cert.RmsbRefIdeal.main_arg0)
      ∧ r.2.mem ((c.tc : Thread Cert.RmsbRefIdeal.nD Cert.RmsbRefIdeal.τ).loc Cert.RmsbRefIdeal.main_arg1) = m ((c.tc : Thread Cert.RmsbRefIdeal.nD Cert.RmsbRefIdeal.τ).loc Cert.RmsbRefIdeal.main_arg1)
      ∧ r.2.mem ((c.tc : Thread Cert.RmsbRefIdeal.nD Cert.RmsbRefIdeal.τ).loc Cert.RmsbRefIdeal.main_arg2) = m ((c.tc : Thread Cert.RmsbRefIdeal.nD Cert.RmsbRefIdeal.τ).loc Cert.RmsbRefIdeal.main_arg2))
      ∧ r.2.sem = fun _ => 0)

def quiescent_RmsbRefIdeal_pre_rmsb_finite [hRmsbRefIdeal : Cert.RmsbRefIdeal.Facts] [hPre_rmsb_finite : Cert.Pre_rmsb_finite.Facts] : Prop :=
  ∀ (m : (ℓ : Loc Cert.RmsbRefIdeal.nD Cert.RmsbRefIdeal.τ Cert.RmsbRefIdeal.sig) → Buf (Elt Ideal) ℓ) (g : Dev Cert.RmsbRefIdeal.nD → PrngReg), Pre_RmsbRefIdeal_rmsb_finite m →
    θ_run (Cert.RmsbRefIdeal.defs (F := Ideal)) (onTc (τ := Cert.RmsbRefIdeal.τ) (Cert.RmsbRefIdeal.main (F := Ideal))) ⟨m, fun _ => 0, g⟩ (fun r => (∀ c : Dev Cert.RmsbRefIdeal.nD,
      r.2.mem ((c.tc : Thread Cert.RmsbRefIdeal.nD Cert.RmsbRefIdeal.τ).loc Cert.RmsbRefIdeal.main_arg0) = m ((c.tc : Thread Cert.RmsbRefIdeal.nD Cert.RmsbRefIdeal.τ).loc Cert.RmsbRefIdeal.main_arg0)
      ∧ r.2.mem ((c.tc : Thread Cert.RmsbRefIdeal.nD Cert.RmsbRefIdeal.τ).loc Cert.RmsbRefIdeal.main_arg1) = m ((c.tc : Thread Cert.RmsbRefIdeal.nD Cert.RmsbRefIdeal.τ).loc Cert.RmsbRefIdeal.main_arg1)
      ∧ r.2.mem ((c.tc : Thread Cert.RmsbRefIdeal.nD Cert.RmsbRefIdeal.τ).loc Cert.RmsbRefIdeal.main_arg2) = m ((c.tc : Thread Cert.RmsbRefIdeal.nD Cert.RmsbRefIdeal.τ).loc Cert.RmsbRefIdeal.main_arg2))
      ∧ r.2.sem = fun _ => 0)

def quiescent_Convf [hConvf : Cert.Convf.Facts] : Prop :=
  ∀ (m : (ℓ : Loc Cert.Convf.nD Cert.Convf.τ Cert.Convf.sig) → Buf (Elt Bits) ℓ) (g : Dev Cert.Convf.nD → PrngReg), Pre_Convf m →
    θ_run (Cert.Convf.defs (F := Bits)) (onTc (τ := Cert.Convf.τ) (Cert.Convf.main (F := Bits))) ⟨m, fun _ => 0, g⟩ (fun r => (∀ c : Dev Cert.Convf.nD,
      r.2.mem ((c.tc : Thread Cert.Convf.nD Cert.Convf.τ).loc Cert.Convf.main_arg0) = m ((c.tc : Thread Cert.Convf.nD Cert.Convf.τ).loc Cert.Convf.main_arg0)
      ∧ r.2.mem ((c.tc : Thread Cert.Convf.nD Cert.Convf.τ).loc Cert.Convf.main_arg1) = m ((c.tc : Thread Cert.Convf.nD Cert.Convf.τ).loc Cert.Convf.main_arg1))
      ∧ r.2.sem = fun _ => 0)

def quiescent_ConvfIdeal [hConvfIdeal : Cert.ConvfIdeal.Facts] : Prop :=
  ∀ (m : (ℓ : Loc Cert.ConvfIdeal.nD Cert.ConvfIdeal.τ Cert.ConvfIdeal.sig) → Buf (Elt Ideal) ℓ) (g : Dev Cert.ConvfIdeal.nD → PrngReg), Pre_ConvfIdeal m →
    θ_run (Cert.ConvfIdeal.defs (F := Ideal)) (onTc (τ := Cert.ConvfIdeal.τ) (Cert.ConvfIdeal.main (F := Ideal))) ⟨m, fun _ => 0, g⟩ (fun r => (∀ c : Dev Cert.ConvfIdeal.nD,
      r.2.mem ((c.tc : Thread Cert.ConvfIdeal.nD Cert.ConvfIdeal.τ).loc Cert.ConvfIdeal.main_arg0) = m ((c.tc : Thread Cert.ConvfIdeal.nD Cert.ConvfIdeal.τ).loc Cert.ConvfIdeal.main_arg0)
      ∧ r.2.mem ((c.tc : Thread Cert.ConvfIdeal.nD Cert.ConvfIdeal.τ).loc Cert.ConvfIdeal.main_arg1) = m ((c.tc : Thread Cert.ConvfIdeal.nD Cert.ConvfIdeal.τ).loc Cert.ConvfIdeal.main_arg1))
      ∧ r.2.sem = fun _ => 0)

def quiescent_ConvfRefIdeal [hConvfRefIdeal : Cert.ConvfRefIdeal.Facts] : Prop :=
  ∀ (m : (ℓ : Loc Cert.ConvfRefIdeal.nD Cert.ConvfRefIdeal.τ Cert.ConvfRefIdeal.sig) → Buf (Elt Ideal) ℓ) (g : Dev Cert.ConvfRefIdeal.nD → PrngReg), Pre_ConvfRefIdeal m →
    θ_run (Cert.ConvfRefIdeal.defs (F := Ideal)) (onTc (τ := Cert.ConvfRefIdeal.τ) (Cert.ConvfRefIdeal.main (F := Ideal))) ⟨m, fun _ => 0, g⟩ (fun r => (∀ c : Dev Cert.ConvfRefIdeal.nD,
      r.2.mem ((c.tc : Thread Cert.ConvfRefIdeal.nD Cert.ConvfRefIdeal.τ).loc Cert.ConvfRefIdeal.main_arg0) = m ((c.tc : Thread Cert.ConvfRefIdeal.nD Cert.ConvfRefIdeal.τ).loc Cert.ConvfRefIdeal.main_arg0)
      ∧ r.2.mem ((c.tc : Thread Cert.ConvfRefIdeal.nD Cert.ConvfRefIdeal.τ).loc Cert.ConvfRefIdeal.main_arg1) = m ((c.tc : Thread Cert.ConvfRefIdeal.nD Cert.ConvfRefIdeal.τ).loc Cert.ConvfRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)) →
    ∃ (v0 : (c : Dev Cert.SconvIdeal.nD) → Buf (Elt Ideal) ((c.tc : Thread Cert.SconvIdeal.nD Cert.SconvIdeal.τ).loc Cert.SconvIdeal.main_v0_0)) (v1 : (c : Dev Cert.SconvIdeal.nD) → Buf (Elt Ideal) ((c.tc : Thread Cert.SconvIdeal.nD Cert.SconvIdeal.τ).loc Cert.SconvIdeal.main_v0_1)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v0_0) = v0 c
          ∧ r.2.mem ((c.tc : Thread Cert.SconvIdeal.nD Cert.SconvIdeal.τ).loc Cert.SconvIdeal.main_v0_1) = v1 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v71) = v0 c
          ∧ r.2.mem ((c.tc : Thread Cert.SconvRefIdeal.nD Cert.SconvRefIdeal.τ).loc Cert.SconvRefIdeal.main_v63) = v1 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v8) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v0)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v0) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v9) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v9) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)) →
    ∃ (v0 : (c : Dev Cert.DwupIdeal.nD) → Buf (Elt Ideal) ((c.tc : Thread Cert.DwupIdeal.nD Cert.DwupIdeal.τ).loc Cert.DwupIdeal.main_v0)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v10) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v3) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v3)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v6) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_Dcat_DcatIdeal : Prop :=
  True

def algebraic_DcatIdeal_DcatRefIdeal [hDcatIdeal : Cert.DcatIdeal.Facts] [hDcatRefIdeal : Cert.DcatRefIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatRefIdeal.nD Cert.DcatRefIdeal.τ Cert.DcatRefIdeal.sig) → Buf (Elt Ideal) ℓ) (g' : Dev Cert.DcatRefIdeal.nD → PrngReg), Pre_DcatIdeal m →
    (∀ c : Dev Cert.DcatIdeal.nD,
      m' ((c.tc : Thread Cert.DcatRefIdeal.nD Cert.DcatRefIdeal.τ).loc Cert.DcatRefIdeal.main_arg0) = m ((c.tc : Thread Cert.DcatIdeal.nD Cert.DcatIdeal.τ).loc Cert.DcatIdeal.main_arg0)
      ∧ m' ((c.tc : Thread Cert.DcatRefIdeal.nD Cert.DcatRefIdeal.τ).loc Cert.DcatRefIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v0)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v0) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatRefIdeal.defs (F := Ideal)) (onTc (τ := Cert.DcatRefIdeal.τ) (Cert.DcatRefIdeal.main (F := Ideal))) ⟨m', fun _ => 0, g'⟩ (fun r => ∀ c : Dev Cert.DcatRefIdeal.nD,
          r.2.mem ((c.tc : Thread Cert.DcatRefIdeal.nD Cert.DcatRefIdeal.τ).loc Cert.DcatRefIdeal.main_v5) = v0 c
          ∧ r.2.mem ((c.tc : Thread Cert.DcatRefIdeal.nD Cert.DcatRefIdeal.τ).loc Cert.DcatRefIdeal.main_arg0) = m' ((c.tc : Thread Cert.DcatRefIdeal.nD Cert.DcatRefIdeal.τ).loc Cert.DcatRefIdeal.main_arg0)
          ∧ r.2.mem ((c.tc : Thread Cert.DcatRefIdeal.nD Cert.DcatRefIdeal.τ).loc Cert.DcatRefIdeal.main_arg1) = m' ((c.tc : Thread Cert.DcatRefIdeal.nD Cert.DcatRefIdeal.τ).loc Cert.DcatRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)
      ∧ m' ((c.tc : Thread Cert.DwoutRefIdeal.nD Cert.DwoutRefIdeal.τ).loc Cert.DwoutRefIdeal.main_arg2) = m ((c.tc : Thread Cert.DwoutIdeal.nD Cert.DwoutIdeal.τ).loc Cert.DwoutIdeal.main_arg2)
      ∧ m' ((c.tc : Thread Cert.DwoutRefIdeal.nD Cert.DwoutRefIdeal.τ).loc Cert.DwoutRefIdeal.main_arg3) = m ((c.tc : Thread Cert.DwoutIdeal.nD Cert.DwoutIdeal.τ).loc Cert.DwoutIdeal.main_arg3)) →
    ∃ (v0 : (c : Dev Cert.DwoutIdeal.nD) → Buf (Elt Ideal) ((c.tc : Thread Cert.DwoutIdeal.nD Cert.DwoutIdeal.τ).loc Cert.DwoutIdeal.main_v0_0)) (v1 : (c : Dev Cert.DwoutIdeal.nD) → Buf (Elt Ideal) ((c.tc : Thread Cert.DwoutIdeal.nD Cert.DwoutIdeal.τ).loc Cert.DwoutIdeal.main_v0_1)) (v2 : (c : Dev Cert.DwoutIdeal.nD) → Buf (Elt Ideal) ((c.tc : Thread Cert.DwoutIdeal.nD Cert.DwoutIdeal.τ).loc Cert.DwoutIdeal.main_v0_2)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0_0) = v0 c
          ∧ r.2.mem ((c.tc : Thread Cert.DwoutIdeal.nD Cert.DwoutIdeal.τ).loc Cert.DwoutIdeal.main_v0_1) = v1 c
          ∧ r.2.mem ((c.tc : Thread Cert.DwoutIdeal.nD Cert.DwoutIdeal.τ).loc Cert.DwoutIdeal.main_v0_2) = v2 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
          ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2)
          ∧ r.2.mem ((c.tc : Thread Cert.DwoutIdeal.nD Cert.DwoutIdeal.τ).loc Cert.DwoutIdeal.main_arg3) = m ((c.tc : Thread Cert.DwoutIdeal.nD Cert.DwoutIdeal.τ).loc Cert.DwoutIdeal.main_arg3))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v10) = v0 c
          ∧ r.2.mem ((c.tc : Thread Cert.DwoutRefIdeal.nD Cert.DwoutRefIdeal.τ).loc Cert.DwoutRefIdeal.main_v11) = v1 c
          ∧ r.2.mem ((c.tc : Thread Cert.DwoutRefIdeal.nD Cert.DwoutRefIdeal.τ).loc Cert.DwoutRefIdeal.main_v12) = v2 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1)
          ∧ r.2.mem ((c.tc : Thread Cert.DwoutRefIdeal.nD Cert.DwoutRefIdeal.τ).loc Cert.DwoutRefIdeal.main_arg2) = m' ((c.tc : Thread Cert.DwoutRefIdeal.nD Cert.DwoutRefIdeal.τ).loc Cert.DwoutRefIdeal.main_arg2)
          ∧ r.2.mem ((c.tc : Thread Cert.DwoutRefIdeal.nD Cert.DwoutRefIdeal.τ).loc Cert.DwoutRefIdeal.main_arg3) = m' ((c.tc : Thread Cert.DwoutRefIdeal.nD Cert.DwoutRefIdeal.τ).loc Cert.DwoutRefIdeal.main_arg3))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v3)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v3) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v8) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)
      ∧ m' ((c.tc : Thread Cert.DwinRefIdeal.nD Cert.DwinRefIdeal.τ).loc Cert.DwinRefIdeal.main_arg2) = m ((c.tc : Thread Cert.DwinIdeal.nD Cert.DwinIdeal.τ).loc Cert.DwinIdeal.main_arg2)
      ∧ m' ((c.tc : Thread Cert.DwinRefIdeal.nD Cert.DwinRefIdeal.τ).loc Cert.DwinRefIdeal.main_arg3) = m ((c.tc : Thread Cert.DwinIdeal.nD Cert.DwinIdeal.τ).loc Cert.DwinIdeal.main_arg3)) →
    ∃ (v0 : (c : Dev Cert.DwinIdeal.nD) → Buf (Elt Ideal) ((c.tc : Thread Cert.DwinIdeal.nD Cert.DwinIdeal.τ).loc Cert.DwinIdeal.main_v0_0)) (v1 : (c : Dev Cert.DwinIdeal.nD) → Buf (Elt Ideal) ((c.tc : Thread Cert.DwinIdeal.nD Cert.DwinIdeal.τ).loc Cert.DwinIdeal.main_v0_1)) (v2 : (c : Dev Cert.DwinIdeal.nD) → Buf (Elt Ideal) ((c.tc : Thread Cert.DwinIdeal.nD Cert.DwinIdeal.τ).loc Cert.DwinIdeal.main_v0_2)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0_0) = v0 c
          ∧ r.2.mem ((c.tc : Thread Cert.DwinIdeal.nD Cert.DwinIdeal.τ).loc Cert.DwinIdeal.main_v0_1) = v1 c
          ∧ r.2.mem ((c.tc : Thread Cert.DwinIdeal.nD Cert.DwinIdeal.τ).loc Cert.DwinIdeal.main_v0_2) = v2 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
          ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v10) = v0 c
          ∧ r.2.mem ((c.tc : Thread Cert.DwinRefIdeal.nD Cert.DwinRefIdeal.τ).loc Cert.DwinRefIdeal.main_v11) = v1 c
          ∧ r.2.mem ((c.tc : Thread Cert.DwinRefIdeal.nD Cert.DwinRefIdeal.τ).loc Cert.DwinRefIdeal.main_v12) = v2 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1)
          ∧ r.2.mem ((c.tc : Thread Cert.DwinRefIdeal.nD Cert.DwinRefIdeal.τ).loc Cert.DwinRefIdeal.main_arg2) = m' ((c.tc : Thread Cert.DwinRefIdeal.nD Cert.DwinRefIdeal.τ).loc Cert.DwinRefIdeal.main_arg2)
          ∧ r.2.mem ((c.tc : Thread Cert.DwinRefIdeal.nD Cert.DwinRefIdeal.τ).loc Cert.DwinRefIdeal.main_arg3) = m' ((c.tc : Thread Cert.DwinRefIdeal.nD Cert.DwinRefIdeal.τ).loc Cert.DwinRefIdeal.main_arg3))

def preserves_Rms2_Rms2Ideal : Prop :=
  True

def algebraic_Rms2Ideal_Rms2RefIdeal_pre_rms2_finite [hRms2Ideal : Cert.Rms2Ideal.Facts] [hRms2RefIdeal : Cert.Rms2RefIdeal.Facts] [hPre_rms2_finite : Cert.Pre_rms2_finite.Facts] : Prop :=
  ∀ (m : (ℓ : Loc Cert.Rms2Ideal.nD Cert.Rms2Ideal.τ Cert.Rms2Ideal.sig) → Buf (Elt Ideal) ℓ) (g : Dev Cert.Rms2Ideal.nD → PrngReg)
    (m' : (ℓ : Loc Cert.Rms2RefIdeal.nD Cert.Rms2RefIdeal.τ Cert.Rms2RefIdeal.sig) → Buf (Elt Ideal) ℓ) (g' : Dev Cert.Rms2RefIdeal.nD → PrngReg), Pre_Rms2Ideal_rms2_finite m →
    (∀ c : Dev Cert.Rms2Ideal.nD,
      m' ((c.tc : Thread Cert.Rms2RefIdeal.nD Cert.Rms2RefIdeal.τ).loc Cert.Rms2RefIdeal.main_arg0) = m ((c.tc : Thread Cert.Rms2Ideal.nD Cert.Rms2Ideal.τ).loc Cert.Rms2Ideal.main_arg0)
      ∧ m' ((c.tc : Thread Cert.Rms2RefIdeal.nD Cert.Rms2RefIdeal.τ).loc Cert.Rms2RefIdeal.main_arg1) = m ((c.tc : Thread Cert.Rms2Ideal.nD Cert.Rms2Ideal.τ).loc Cert.Rms2Ideal.main_arg1)
      ∧ m' ((c.tc : Thread Cert.Rms2RefIdeal.nD Cert.Rms2RefIdeal.τ).loc Cert.Rms2RefIdeal.main_arg2) = m ((c.tc : Thread Cert.Rms2Ideal.nD Cert.Rms2Ideal.τ).loc Cert.Rms2Ideal.main_arg2)
      ∧ m' ((c.tc : Thread Cert.Rms2RefIdeal.nD Cert.Rms2RefIdeal.τ).loc Cert.Rms2RefIdeal.main_arg3) = m ((c.tc : Thread Cert.Rms2Ideal.nD Cert.Rms2Ideal.τ).loc Cert.Rms2Ideal.main_arg3)
      ∧ m' ((c.tc : Thread Cert.Rms2RefIdeal.nD Cert.Rms2RefIdeal.τ).loc Cert.Rms2RefIdeal.main_arg4) = m ((c.tc : Thread Cert.Rms2Ideal.nD Cert.Rms2Ideal.τ).loc Cert.Rms2Ideal.main_arg4)
      ∧ m' ((c.tc : Thread Cert.Rms2RefIdeal.nD Cert.Rms2RefIdeal.τ).loc Cert.Rms2RefIdeal.main_arg5) = m ((c.tc : Thread Cert.Rms2Ideal.nD Cert.Rms2Ideal.τ).loc Cert.Rms2Ideal.main_arg5)) →
    ∃ (v0 : (c : Dev Cert.Rms2Ideal.nD) → Buf (Elt Ideal) ((c.tc : Thread Cert.Rms2Ideal.nD Cert.Rms2Ideal.τ).loc Cert.Rms2Ideal.main_v0_0)) (v1 : (c : Dev Cert.Rms2Ideal.nD) → Buf (Elt Ideal) ((c.tc : Thread Cert.Rms2Ideal.nD Cert.Rms2Ideal.τ).loc Cert.Rms2Ideal.main_v0_1)) (v2 : (c : Dev Cert.Rms2Ideal.nD) → Buf (Elt Ideal) ((c.tc : Thread Cert.Rms2Ideal.nD Cert.Rms2Ideal.τ).loc Cert.Rms2Ideal.main_v0_2)) (v3 : (c : Dev Cert.Rms2Ideal.nD) → Buf (Elt Ideal) ((c.tc : Thread Cert.Rms2Ideal.nD Cert.Rms2Ideal.τ).loc Cert.Rms2Ideal.main_v0_3)),
      θ_run (Cert.Rms2Ideal.defs (F := Ideal)) (onTc (τ := Cert.Rms2Ideal.τ) (Cert.Rms2Ideal.main (F := Ideal))) ⟨m, fun _ => 0, g⟩ (fun r => ∀ c : Dev Cert.Rms2Ideal.nD,
          r.2.mem ((c.tc : Thread Cert.Rms2Ideal.nD Cert.Rms2Ideal.τ).loc Cert.Rms2Ideal.main_v0_0) = v0 c
          ∧ r.2.mem ((c.tc : Thread Cert.Rms2Ideal.nD Cert.Rms2Ideal.τ).loc Cert.Rms2Ideal.main_v0_1) = v1 c
          ∧ r.2.mem ((c.tc : Thread Cert.Rms2Ideal.nD Cert.Rms2Ideal.τ).loc Cert.Rms2Ideal.main_v0_2) = v2 c
          ∧ r.2.mem ((c.tc : Thread Cert.Rms2Ideal.nD Cert.Rms2Ideal.τ).loc Cert.Rms2Ideal.main_v0_3) = v3 c
          ∧ r.2.mem ((c.tc : Thread Cert.Rms2Ideal.nD Cert.Rms2Ideal.τ).loc Cert.Rms2Ideal.main_arg0) = m ((c.tc : Thread Cert.Rms2Ideal.nD Cert.Rms2Ideal.τ).loc Cert.Rms2Ideal.main_arg0)
          ∧ r.2.mem ((c.tc : Thread Cert.Rms2Ideal.nD Cert.Rms2Ideal.τ).loc Cert.Rms2Ideal.main_arg1) = m ((c.tc : Thread Cert.Rms2Ideal.nD Cert.Rms2Ideal.τ).loc Cert.Rms2Ideal.main_arg1)
          ∧ r.2.mem ((c.tc : Thread Cert.Rms2Ideal.nD Cert.Rms2Ideal.τ).loc Cert.Rms2Ideal.main_arg2) = m ((c.tc : Thread Cert.Rms2Ideal.nD Cert.Rms2Ideal.τ).loc Cert.Rms2Ideal.main_arg2)
          ∧ r.2.mem ((c.tc : Thread Cert.Rms2Ideal.nD Cert.Rms2Ideal.τ).loc Cert.Rms2Ideal.main_arg3) = m ((c.tc : Thread Cert.Rms2Ideal.nD Cert.Rms2Ideal.τ).loc Cert.Rms2Ideal.main_arg3)
          ∧ r.2.mem ((c.tc : Thread Cert.Rms2Ideal.nD Cert.Rms2Ideal.τ).loc Cert.Rms2Ideal.main_arg4) = m ((c.tc : Thread Cert.Rms2Ideal.nD Cert.Rms2Ideal.τ).loc Cert.Rms2Ideal.main_arg4)
          ∧ r.2.mem ((c.tc : Thread Cert.Rms2Ideal.nD Cert.Rms2Ideal.τ).loc Cert.Rms2Ideal.main_arg5) = m ((c.tc : Thread Cert.Rms2Ideal.nD Cert.Rms2Ideal.τ).loc Cert.Rms2Ideal.main_arg5))
      ∧ θ_run (Cert.Rms2RefIdeal.defs (F := Ideal)) (onTc (τ := Cert.Rms2RefIdeal.τ) (Cert.Rms2RefIdeal.main (F := Ideal))) ⟨m', fun _ => 0, g'⟩ (fun r => ∀ c : Dev Cert.Rms2RefIdeal.nD,
          r.2.mem ((c.tc : Thread Cert.Rms2RefIdeal.nD Cert.Rms2RefIdeal.τ).loc Cert.Rms2RefIdeal.main_v35) = v0 c
          ∧ r.2.mem ((c.tc : Thread Cert.Rms2RefIdeal.nD Cert.Rms2RefIdeal.τ).loc Cert.Rms2RefIdeal.main_v71) = v1 c
          ∧ r.2.mem ((c.tc : Thread Cert.Rms2RefIdeal.nD Cert.Rms2RefIdeal.τ).loc Cert.Rms2RefIdeal.main_v18) = v2 c
          ∧ r.2.mem ((c.tc : Thread Cert.Rms2RefIdeal.nD Cert.Rms2RefIdeal.τ).loc Cert.Rms2RefIdeal.main_v54) = v3 c
          ∧ r.2.mem ((c.tc : Thread Cert.Rms2RefIdeal.nD Cert.Rms2RefIdeal.τ).loc Cert.Rms2RefIdeal.main_arg0) = m' ((c.tc : Thread Cert.Rms2RefIdeal.nD Cert.Rms2RefIdeal.τ).loc Cert.Rms2RefIdeal.main_arg0)
          ∧ r.2.mem ((c.tc : Thread Cert.Rms2RefIdeal.nD Cert.Rms2RefIdeal.τ).loc Cert.Rms2RefIdeal.main_arg1) = m' ((c.tc : Thread Cert.Rms2RefIdeal.nD Cert.Rms2RefIdeal.τ).loc Cert.Rms2RefIdeal.main_arg1)
          ∧ r.2.mem ((c.tc : Thread Cert.Rms2RefIdeal.nD Cert.Rms2RefIdeal.τ).loc Cert.Rms2RefIdeal.main_arg2) = m' ((c.tc : Thread Cert.Rms2RefIdeal.nD Cert.Rms2RefIdeal.τ).loc Cert.Rms2RefIdeal.main_arg2)
          ∧ r.2.mem ((c.tc : Thread Cert.Rms2RefIdeal.nD Cert.Rms2RefIdeal.τ).loc Cert.Rms2RefIdeal.main_arg3) = m' ((c.tc : Thread Cert.Rms2RefIdeal.nD Cert.Rms2RefIdeal.τ).loc Cert.Rms2RefIdeal.main_arg3)
          ∧ r.2.mem ((c.tc : Thread Cert.Rms2RefIdeal.nD Cert.Rms2RefIdeal.τ).loc Cert.Rms2RefIdeal.main_arg4) = m' ((c.tc : Thread Cert.Rms2RefIdeal.nD Cert.Rms2RefIdeal.τ).loc Cert.Rms2RefIdeal.main_arg4)
          ∧ r.2.mem ((c.tc : Thread Cert.Rms2RefIdeal.nD Cert.Rms2RefIdeal.τ).loc Cert.Rms2RefIdeal.main_arg5) = m' ((c.tc : Thread Cert.Rms2RefIdeal.nD Cert.Rms2RefIdeal.τ).loc Cert.Rms2RefIdeal.main_arg5))

def preserves_Rmsb_RmsbIdeal : Prop :=
  True

def algebraic_RmsbIdeal_RmsbRefIdeal_pre_rmsb_finite [hRmsbIdeal : Cert.RmsbIdeal.Facts] [hRmsbRefIdeal : Cert.RmsbRefIdeal.Facts] [hPre_rmsb_finite : Cert.Pre_rmsb_finite.Facts] : Prop :=
  ∀ (m : (ℓ : Loc Cert.RmsbIdeal.nD Cert.RmsbIdeal.τ Cert.RmsbIdeal.sig) → Buf (Elt Ideal) ℓ) (g : Dev Cert.RmsbIdeal.nD → PrngReg)
    (m' : (ℓ : Loc Cert.RmsbRefIdeal.nD Cert.RmsbRefIdeal.τ Cert.RmsbRefIdeal.sig) → Buf (Elt Ideal) ℓ) (g' : Dev Cert.RmsbRefIdeal.nD → PrngReg), Pre_RmsbIdeal_rmsb_finite m →
    (∀ c : Dev Cert.RmsbIdeal.nD,
      m' ((c.tc : Thread Cert.RmsbRefIdeal.nD Cert.RmsbRefIdeal.τ).loc Cert.RmsbRefIdeal.main_arg0) = m ((c.tc : Thread Cert.RmsbIdeal.nD Cert.RmsbIdeal.τ).loc Cert.RmsbIdeal.main_arg0)
      ∧ m' ((c.tc : Thread Cert.RmsbRefIdeal.nD Cert.RmsbRefIdeal.τ).loc Cert.RmsbRefIdeal.main_arg1) = m ((c.tc : Thread Cert.RmsbIdeal.nD Cert.RmsbIdeal.τ).loc Cert.RmsbIdeal.main_arg1)
      ∧ m' ((c.tc : Thread Cert.RmsbRefIdeal.nD Cert.RmsbRefIdeal.τ).loc Cert.RmsbRefIdeal.main_arg2) = m ((c.tc : Thread Cert.RmsbIdeal.nD Cert.RmsbIdeal.τ).loc Cert.RmsbIdeal.main_arg2)) →
    ∃ (v0 : (c : Dev Cert.RmsbIdeal.nD) → Buf (Elt Ideal) ((c.tc : Thread Cert.RmsbIdeal.nD Cert.RmsbIdeal.τ).loc Cert.RmsbIdeal.main_v0_0)) (v1 : (c : Dev Cert.RmsbIdeal.nD) → Buf (Elt Ideal) ((c.tc : Thread Cert.RmsbIdeal.nD Cert.RmsbIdeal.τ).loc Cert.RmsbIdeal.main_v0_1)),
      θ_run (Cert.RmsbIdeal.defs (F := Ideal)) (onTc (τ := Cert.RmsbIdeal.τ) (Cert.RmsbIdeal.main (F := Ideal))) ⟨m, fun _ => 0, g⟩ (fun r => ∀ c : Dev Cert.RmsbIdeal.nD,
          r.2.mem ((c.tc : Thread Cert.RmsbIdeal.nD Cert.RmsbIdeal.τ).loc Cert.RmsbIdeal.main_v0_0) = v0 c
          ∧ r.2.mem ((c.tc : Thread Cert.RmsbIdeal.nD Cert.RmsbIdeal.τ).loc Cert.RmsbIdeal.main_v0_1) = v1 c
          ∧ r.2.mem ((c.tc : Thread Cert.RmsbIdeal.nD Cert.RmsbIdeal.τ).loc Cert.RmsbIdeal.main_arg0) = m ((c.tc : Thread Cert.RmsbIdeal.nD Cert.RmsbIdeal.τ).loc Cert.RmsbIdeal.main_arg0)
          ∧ r.2.mem ((c.tc : Thread Cert.RmsbIdeal.nD Cert.RmsbIdeal.τ).loc Cert.RmsbIdeal.main_arg1) = m ((c.tc : Thread Cert.RmsbIdeal.nD Cert.RmsbIdeal.τ).loc Cert.RmsbIdeal.main_arg1)
          ∧ r.2.mem ((c.tc : Thread Cert.RmsbIdeal.nD Cert.RmsbIdeal.τ).loc Cert.RmsbIdeal.main_arg2) = m ((c.tc : Thread Cert.RmsbIdeal.nD Cert.RmsbIdeal.τ).loc Cert.RmsbIdeal.main_arg2))
      ∧ θ_run (Cert.RmsbRefIdeal.defs (F := Ideal)) (onTc (τ := Cert.RmsbRefIdeal.τ) (Cert.RmsbRefIdeal.main (F := Ideal))) ⟨m', fun _ => 0, g'⟩ (fun r => ∀ c : Dev Cert.RmsbRefIdeal.nD,
          r.2.mem ((c.tc : Thread Cert.RmsbRefIdeal.nD Cert.RmsbRefIdeal.τ).loc Cert.RmsbRefIdeal.main_v35) = v0 c
          ∧ r.2.mem ((c.tc : Thread Cert.RmsbRefIdeal.nD Cert.RmsbRefIdeal.τ).loc Cert.RmsbRefIdeal.main_v18) = v1 c
          ∧ r.2.mem ((c.tc : Thread Cert.RmsbRefIdeal.nD Cert.RmsbRefIdeal.τ).loc Cert.RmsbRefIdeal.main_arg0) = m' ((c.tc : Thread Cert.RmsbRefIdeal.nD Cert.RmsbRefIdeal.τ).loc Cert.RmsbRefIdeal.main_arg0)
          ∧ r.2.mem ((c.tc : Thread Cert.RmsbRefIdeal.nD Cert.RmsbRefIdeal.τ).loc Cert.RmsbRefIdeal.main_arg1) = m' ((c.tc : Thread Cert.RmsbRefIdeal.nD Cert.RmsbRefIdeal.τ).loc Cert.RmsbRefIdeal.main_arg1)
          ∧ r.2.mem ((c.tc : Thread Cert.RmsbRefIdeal.nD Cert.RmsbRefIdeal.τ).loc Cert.RmsbRefIdeal.main_arg2) = m' ((c.tc : Thread Cert.RmsbRefIdeal.nD Cert.RmsbRefIdeal.τ).loc Cert.RmsbRefIdeal.main_arg2))

def preserves_Convf_ConvfIdeal : Prop :=
  True

def algebraic_ConvfIdeal_ConvfRefIdeal [hConvfIdeal : Cert.ConvfIdeal.Facts] [hConvfRefIdeal : Cert.ConvfRefIdeal.Facts] : Prop :=
  ∀ (m : (ℓ : Loc Cert.ConvfIdeal.nD Cert.ConvfIdeal.τ Cert.ConvfIdeal.sig) → Buf (Elt Ideal) ℓ) (g : Dev Cert.ConvfIdeal.nD → PrngReg)
    (m' : (ℓ : Loc Cert.ConvfRefIdeal.nD Cert.ConvfRefIdeal.τ Cert.ConvfRefIdeal.sig) → Buf (Elt Ideal) ℓ) (g' : Dev Cert.ConvfRefIdeal.nD → PrngReg), Pre_ConvfIdeal m →
    (∀ c : Dev Cert.ConvfIdeal.nD,
      m' ((c.tc : Thread Cert.ConvfRefIdeal.nD Cert.ConvfRefIdeal.τ).loc Cert.ConvfRefIdeal.main_arg0) = m ((c.tc : Thread Cert.ConvfIdeal.nD Cert.ConvfIdeal.τ).loc Cert.ConvfIdeal.main_arg0)
      ∧ m' ((c.tc : Thread Cert.ConvfRefIdeal.nD Cert.ConvfRefIdeal.τ).loc Cert.ConvfRefIdeal.main_arg1) = m ((c.tc : Thread Cert.ConvfIdeal.nD Cert.ConvfIdeal.τ).loc Cert.ConvfIdeal.main_arg1)) →
    ∃ (v0 : (c : Dev Cert.ConvfIdeal.nD) → Buf (Elt Ideal) ((c.tc : Thread Cert.ConvfIdeal.nD Cert.ConvfIdeal.τ).loc Cert.ConvfIdeal.main_v0)),
      θ_run (Cert.ConvfIdeal.defs (F := Ideal)) (onTc (τ := Cert.ConvfIdeal.τ) (Cert.ConvfIdeal.main (F := Ideal))) ⟨m, fun _ => 0, g⟩ (fun r => ∀ c : Dev Cert.ConvfIdeal.nD,
          r.2.mem ((c.tc : Thread Cert.ConvfIdeal.nD Cert.ConvfIdeal.τ).loc Cert.ConvfIdeal.main_v0) = v0 c
          ∧ r.2.mem ((c.tc : Thread Cert.ConvfIdeal.nD Cert.ConvfIdeal.τ).loc Cert.ConvfIdeal.main_arg0) = m ((c.tc : Thread Cert.ConvfIdeal.nD Cert.ConvfIdeal.τ).loc Cert.ConvfIdeal.main_arg0)
          ∧ r.2.mem ((c.tc : Thread Cert.ConvfIdeal.nD Cert.ConvfIdeal.τ).loc Cert.ConvfIdeal.main_arg1) = m ((c.tc : Thread Cert.ConvfIdeal.nD Cert.ConvfIdeal.τ).loc Cert.ConvfIdeal.main_arg1))
      ∧ θ_run (Cert.ConvfRefIdeal.defs (F := Ideal)) (onTc (τ := Cert.ConvfRefIdeal.τ) (Cert.ConvfRefIdeal.main (F := Ideal))) ⟨m', fun _ => 0, g'⟩ (fun r => ∀ c : Dev Cert.ConvfRefIdeal.nD,
          r.2.mem ((c.tc : Thread Cert.ConvfRefIdeal.nD Cert.ConvfRefIdeal.τ).loc Cert.ConvfRefIdeal.main_v30) = v0 c
          ∧ r.2.mem ((c.tc : Thread Cert.ConvfRefIdeal.nD Cert.ConvfRefIdeal.τ).loc Cert.ConvfRefIdeal.main_arg0) = m' ((c.tc : Thread Cert.ConvfRefIdeal.nD Cert.ConvfRefIdeal.τ).loc Cert.ConvfRefIdeal.main_arg0)
          ∧ r.2.mem ((c.tc : Thread Cert.ConvfRefIdeal.nD Cert.ConvfRefIdeal.τ).loc Cert.ConvfRefIdeal.main_arg1) = m' ((c.tc : Thread Cert.ConvfRefIdeal.nD Cert.ConvfRefIdeal.τ).loc Cert.ConvfRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v3)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v3) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v37) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def Claim : Prop :=
  ∃ (hSconv : Cert.Sconv.Facts) (hSconvIdeal : Cert.SconvIdeal.Facts) (hSconvRefIdeal : Cert.SconvRefIdeal.Facts) (hDact : Cert.Dact.Facts) (hDactIdeal : Cert.DactIdeal.Facts) (hDactRefIdeal : Cert.DactRefIdeal.Facts) (hDwdown : Cert.Dwdown.Facts) (hDwdownIdeal : Cert.DwdownIdeal.Facts) (hDwdownRefIdeal : Cert.DwdownRefIdeal.Facts) (hDh2 : Cert.Dh2.Facts) (hDh2Ideal : Cert.Dh2Ideal.Facts) (hDh2RefIdeal : Cert.Dh2RefIdeal.Facts) (hDwup : Cert.Dwup.Facts) (hDwupIdeal : Cert.DwupIdeal.Facts) (hDwupRefIdeal : Cert.DwupRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hDcat : Cert.Dcat.Facts) (hDcatIdeal : Cert.DcatIdeal.Facts) (hDcatRefIdeal : Cert.DcatRefIdeal.Facts) (hDwout : Cert.Dwout.Facts) (hDwoutIdeal : Cert.DwoutIdeal.Facts) (hDwoutRefIdeal : Cert.DwoutRefIdeal.Facts) (hDh : Cert.Dh.Facts) (hDhIdeal : Cert.DhIdeal.Facts) (hDhRefIdeal : Cert.DhRefIdeal.Facts) (hDwin : Cert.Dwin.Facts) (hDwinIdeal : Cert.DwinIdeal.Facts) (hDwinRefIdeal : Cert.DwinRefIdeal.Facts) (hRms2 : Cert.Rms2.Facts) (hRms2Ideal : Cert.Rms2Ideal.Facts) (hRms2RefIdeal : Cert.Rms2RefIdeal.Facts) (hRmsb : Cert.Rmsb.Facts) (hRmsbIdeal : Cert.RmsbIdeal.Facts) (hRmsbRefIdeal : Cert.RmsbRefIdeal.Facts) (hConvf : Cert.Convf.Facts) (hConvfIdeal : Cert.ConvfIdeal.Facts) (hConvfRefIdeal : Cert.ConvfRefIdeal.Facts) (hAct : Cert.Act.Facts) (hActIdeal : Cert.ActIdeal.Facts) (hActRefIdeal : Cert.ActRefIdeal.Facts) (hPre_rms2_finite : Cert.Pre_rms2_finite.Facts) (hPre_rmsb_finite : Cert.Pre_rmsb_finite.Facts),
    quiescent_Sconv (hSconv := hSconv)
    ∧ quiescent_SconvIdeal (hSconvIdeal := hSconvIdeal)
    ∧ quiescent_SconvRefIdeal (hSconvRefIdeal := hSconvRefIdeal)
    ∧ quiescent_Dact (hDact := hDact)
    ∧ quiescent_DactIdeal (hDactIdeal := hDactIdeal)
    ∧ quiescent_DactRefIdeal (hDactRefIdeal := hDactRefIdeal)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Dwup (hDwup := hDwup)
    ∧ quiescent_DwupIdeal (hDwupIdeal := hDwupIdeal)
    ∧ quiescent_DwupRefIdeal (hDwupRefIdeal := hDwupRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Dcat (hDcat := hDcat)
    ∧ quiescent_DcatIdeal (hDcatIdeal := hDcatIdeal)
    ∧ quiescent_DcatRefIdeal (hDcatRefIdeal := hDcatRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dh (hDh := hDh)
    ∧ quiescent_DhIdeal (hDhIdeal := hDhIdeal)
    ∧ quiescent_DhRefIdeal (hDhRefIdeal := hDhRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Rms2 (hRms2 := hRms2)
    ∧ quiescent_Rms2Ideal (hRms2Ideal := hRms2Ideal)
    ∧ quiescent_Rms2Ideal_pre_rms2_finite (hRms2Ideal := hRms2Ideal) (hPre_rms2_finite := hPre_rms2_finite)
    ∧ quiescent_Rms2RefIdeal (hRms2RefIdeal := hRms2RefIdeal)
    ∧ quiescent_Rms2RefIdeal_pre_rms2_finite (hRms2RefIdeal := hRms2RefIdeal) (hPre_rms2_finite := hPre_rms2_finite)
    ∧ quiescent_Rmsb (hRmsb := hRmsb)
    ∧ quiescent_RmsbIdeal (hRmsbIdeal := hRmsbIdeal)
    ∧ quiescent_RmsbIdeal_pre_rmsb_finite (hRmsbIdeal := hRmsbIdeal) (hPre_rmsb_finite := hPre_rmsb_finite)
    ∧ quiescent_RmsbRefIdeal (hRmsbRefIdeal := hRmsbRefIdeal)
    ∧ quiescent_RmsbRefIdeal_pre_rmsb_finite (hRmsbRefIdeal := hRmsbRefIdeal) (hPre_rmsb_finite := hPre_rmsb_finite)
    ∧ quiescent_Convf (hConvf := hConvf)
    ∧ quiescent_ConvfIdeal (hConvfIdeal := hConvfIdeal)
    ∧ quiescent_ConvfRefIdeal (hConvfRefIdeal := hConvfRefIdeal)
    ∧ quiescent_Act (hAct := hAct)
    ∧ quiescent_ActIdeal (hActIdeal := hActIdeal)
    ∧ quiescent_ActRefIdeal (hActRefIdeal := hActRefIdeal)
    ∧ preserves_Sconv_SconvIdeal
    ∧ algebraic_SconvIdeal_SconvRefIdeal (hSconvIdeal := hSconvIdeal) (hSconvRefIdeal := hSconvRefIdeal)
    ∧ preserves_Dact_DactIdeal
    ∧ algebraic_DactIdeal_DactRefIdeal (hDactIdeal := hDactIdeal) (hDactRefIdeal := hDactRefIdeal)
    ∧ preserves_Dwdown_DwdownIdeal
    ∧ algebraic_DwdownIdeal_DwdownRefIdeal (hDwdownIdeal := hDwdownIdeal) (hDwdownRefIdeal := hDwdownRefIdeal)
    ∧ preserves_Dh2_Dh2Ideal
    ∧ algebraic_Dh2Ideal_Dh2RefIdeal (hDh2Ideal := hDh2Ideal) (hDh2RefIdeal := hDh2RefIdeal)
    ∧ preserves_Dwup_DwupIdeal
    ∧ algebraic_DwupIdeal_DwupRefIdeal (hDwupIdeal := hDwupIdeal) (hDwupRefIdeal := hDwupRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Dcat_DcatIdeal
    ∧ algebraic_DcatIdeal_DcatRefIdeal (hDcatIdeal := hDcatIdeal) (hDcatRefIdeal := hDcatRefIdeal)
    ∧ preserves_Dwout_DwoutIdeal
    ∧ algebraic_DwoutIdeal_DwoutRefIdeal (hDwoutIdeal := hDwoutIdeal) (hDwoutRefIdeal := hDwoutRefIdeal)
    ∧ preserves_Dh_DhIdeal
    ∧ algebraic_DhIdeal_DhRefIdeal (hDhIdeal := hDhIdeal) (hDhRefIdeal := hDhRefIdeal)
    ∧ preserves_Dwin_DwinIdeal
    ∧ algebraic_DwinIdeal_DwinRefIdeal (hDwinIdeal := hDwinIdeal) (hDwinRefIdeal := hDwinRefIdeal)
    ∧ preserves_Rms2_Rms2Ideal
    ∧ algebraic_Rms2Ideal_Rms2RefIdeal_pre_rms2_finite (hRms2Ideal := hRms2Ideal) (hRms2RefIdeal := hRms2RefIdeal) (hPre_rms2_finite := hPre_rms2_finite)
    ∧ preserves_Rmsb_RmsbIdeal
    ∧ algebraic_RmsbIdeal_RmsbRefIdeal_pre_rmsb_finite (hRmsbIdeal := hRmsbIdeal) (hRmsbRefIdeal := hRmsbRefIdeal) (hPre_rmsb_finite := hPre_rmsb_finite)
    ∧ preserves_Convf_ConvfIdeal
    ∧ algebraic_ConvfIdeal_ConvfRefIdeal (hConvfIdeal := hConvfIdeal) (hConvfRefIdeal := hConvfRefIdeal)
    ∧ preserves_Act_ActIdeal
    ∧ algebraic_ActIdeal_ActRefIdeal (hActIdeal := hActIdeal) (hActRefIdeal := hActRefIdeal)
-- ==== Pre_rms2_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)
  bitsLt_bf16_f32 : FTy.bits .bf16 < FTy.bits .f32

variable [Facts]

def fn_part1 {F : FTy → Type} [FloatOps F] (main_arg5 : FVec F S1x1024 .f32) (main_v16 : IVec S4096x1024 1) (main_v18 : FVec F S4096x1024 .f32) (main_cst_3 : FVec F S_ .f32) : IVec S4096x1024 1 :=
  let main_v19 : FVec F S4096x1024 .f32 := broadcastInDim S4096x1024 ![] bcast_S_S4096x1024 main_cst_3
  let main_v20 : IVec S4096x1024 1 := cmpf .olt main_v18 main_v19
  let main_v21 : IVec S4096x1024 1 := andi main_v16 main_v20
  let main_v22 : FVec F S1x1024 .f32 := Host.absf main_arg5
  let main_cst_4 : FVec F S_ .f32 := constant S_ .f32 0x7F800000#32
  let main_v23 : FVec F S1x1024 .f32 := broadcastInDim S1x1024 ![] bcast_S_S1x1024 main_cst_4
  let main_v24 : IVec S1x1024 1 := cmpf .olt main_v22 main_v23
  let main_v25 : IVec S4096x1024 1 := broadcastInDim S4096x1024 ![0, 1] bcast_S1x1024_S4096x1024_0_1 main_v24
  let main_v26 : IVec S4096x1024 1 := andi main_v21 main_v25
  main_v26

def fn {F : FTy → Type} [FloatOps F] (main_arg0 : FVec F S4096x1024 .f32) (main_arg1 : FVec F S1x1024 .f32) (main_arg2 : FVec F S4096x1024 .bf16) (main_arg3 : FVec F S4096x1024 .f32) (main_arg4 : FVec F S4096x1024 .bf16) (main_arg5 : FVec F S1x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S4096x1024 1 := broadcastInDim S4096x1024 ![0, 1] bcast_S1x1024_S4096x1024_0_1 main_v5
  let main_v7 : IVec S4096x1024 1 := andi main_v2 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : IVec S4096x1024 1 := andi main_v7 main_v11
  let main_v13 : FVec F S4096x1024 .f32 := Host.absf main_arg3
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_v16 : IVec S4096x1024 1 := andi main_v12 main_v15
  let main_v17 : FVec F S4096x1024 .f32 := (extf .f32 · bitsLt_bf16_f32) main_arg4
  let main_v18 : FVec F S4096x1024 .f32 := Host.absf main_v17
  let main_cst_3 : FVec F S_ .f32 := constant S_ .f32 0x7F800000#32
  fn_part1 (F := F) main_arg5 main_v16 main_v18 main_cst_3
-- ==== Pre_rmsb_finite.lean ====
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)

variable [Facts]

def fn {F : FTy → Type} [FloatOps F] (main_arg0 : FVec F S4096x1024 .bf16) (main_arg1 : FVec F S1x1024 .f32) (main_arg2 : FVec F S4096x1024 .f32) : IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : IVec S4096x1024 1 := broadcastInDim S4096x1024 ![0, 1] bcast_S1x1024_S4096x1024_0_1 main_v6
  let main_v8 : IVec S4096x1024 1 := andi main_v3 main_v7
  let main_v9 : FVec F S4096x1024 .f32 := Host.absf main_arg2
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : IVec S4096x1024 1 := andi main_v8 main_v11
  main_v12
-- ==== Sconv.lean ====
abbrev S4096x2432 : Shape := ⟨2, ![4096, 2432]⟩
abbrev S4096x1536 : Shape := ⟨2, ![4096, 1536]⟩
abbrev S3x256 : Shape := ⟨2, ![3, 256]⟩
abbrev S4096x768 : Shape := ⟨2, ![4096, 768]⟩
abbrev S512x256 : Shape := ⟨2, ![512, 256]⟩
abbrev S16x256 : Shape := ⟨2, ![16, 256]⟩
abbrev S512x768 : Shape := ⟨2, ![512, 768]⟩
abbrev S528x256 : Shape := ⟨2, ![528, 256]⟩
abbrev S1x256 : Shape := ⟨2, ![1, 256]⟩
abbrev S256 : Shape := ⟨1, ![256]⟩

abbrev nBuf : Space → Nat
  | .hbm => 5
  | .vmem => 22
  | .smem => 0
  | _ => 0

abbrev bufTy : (tb : Table) → Fin (tcTables nBuf tb) → BufTy
  | .hbm, ⟨0, _⟩ => ⟨S4096x2432, .bf16⟩
  | .hbm, ⟨1, _⟩ => ⟨S4096x1536, .bf16⟩
  | .hbm, ⟨2, _⟩ => ⟨S3x256, .f32⟩
  | .hbm, ⟨3, _⟩ => ⟨S4096x768, .bf16⟩
  | .hbm, ⟨4, _⟩ => ⟨S3x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S16x256, .bf16⟩
  | .local _ .vmem, ⟨7, _⟩ => ⟨S16x256, .bf16⟩
  | .local _ .vmem, ⟨8, _⟩ => ⟨S16x256, .bf16⟩
  | .local _ .vmem, ⟨9, _⟩ => ⟨S16x256, .bf16⟩
  | .local _ .vmem, ⟨10, _⟩ => ⟨S512x256, .bf16⟩
  | .local _ .vmem, ⟨11, _⟩ => ⟨S512x256, .bf16⟩
  | .local _ .vmem, ⟨12, _⟩ => ⟨S16x256, .bf16⟩
  | .local _ .vmem, ⟨13, _⟩ => ⟨S16x256, .bf16⟩
  | .local _ .vmem, ⟨14, _⟩ => ⟨S16x256, .bf16⟩
  | .local _ .vmem, ⟨15, _⟩ => ⟨S16x256, .bf16⟩
  | .local _ .vmem, ⟨16, _⟩ => ⟨S3x256, .f32⟩
  | .local _ .vmem, ⟨17, _⟩ => ⟨S512x768, .bf16⟩
  | .local _ .vmem, ⟨18, _⟩ => ⟨S512x768, .bf16⟩
  | .local _ .vmem, ⟨19, _⟩ => ⟨S3x256, .f32⟩
  | .local _ .vmem, ⟨20, _⟩ => ⟨S528x256, .f32⟩
  | .local _ .vmem, ⟨21, _⟩ => ⟨S528x256, .f32⟩
  | _, _ => ⟨S4096x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c4_i32 : BitVec 32 := 4#32
  let c0_i32 : BitVec 32 := 0#32
  ![v2.toNat, c4_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SconvRefIdeal.lean ====
abbrev S4096x2432 : Shape := ⟨2, ![4096, 2432]⟩
abbrev S4096x1536 : Shape := ⟨2, ![4096, 1536]⟩
abbrev S3x256 : Shape := ⟨2, ![3, 256]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩
abbrev S4096x768 : Shape := ⟨2, ![4096, 768]⟩

abbrev nBuf : Space → Nat
  | .hbm => 89
  | .vmem => 0
  | .smem => 0
  | _ => 0

abbrev bufTy : (tb : Table) → Fin (tcTables nBuf tb) → BufTy
  | .hbm, ⟨0, _⟩ => ⟨S4096x2432, .bf16⟩
  | .hbm, ⟨1, _⟩ => ⟨S4096x1536, .bf16⟩
  | .hbm, ⟨2, _⟩ => ⟨S3x256, .f32⟩
  | .hbm, ⟨3, _⟩ => ⟨S4096x256, .bf16⟩
  | .hbm, ⟨4, _⟩ => ⟨S4096x256, .f32⟩
  | .hbm, ⟨5, _⟩ => ⟨S4096x256, .bf16⟩
  | .hbm, ⟨6, _⟩ => ⟨S4096x256, .f32⟩
  | .hbm, ⟨7, _⟩ => ⟨S4096x256, .bf16⟩
  | .hbm, ⟨8, _⟩ => ⟨S4096x256, .f32⟩
  | .hbm, ⟨9, _⟩ => ⟨S4096x256, .bf16⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S2x256, .f32⟩
  | .hbm, ⟨14, _⟩ => ⟨S4098x256, .f32⟩
  | .hbm, ⟨15, _⟩ => ⟨S_, .f32⟩
  | .hbm, ⟨16, _⟩ => ⟨S2x256, .f32⟩
  | .hbm, ⟨17, _⟩ => ⟨S4096x256, .f32⟩
  | .hbm, ⟨18, _⟩ => ⟨S1x256, .f32⟩
  | .hbm, ⟨19, _⟩ => ⟨S256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S1x256, .f32⟩
  | .hbm, ⟨25, _⟩ => ⟨S256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S1x256, .f32⟩
  | .hbm, ⟨32, _⟩ => ⟨S256, .f32⟩
  | .hbm, ⟨33, _⟩ => ⟨S1x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S256, .f32⟩
  | .hbm, ⟨43, _⟩ => ⟨S1x256, .f32⟩
  | .hbm, ⟨44, _⟩ => ⟨S4096x256, .f32⟩
  | .hbm, ⟨45, _⟩ => ⟨S4096x256, .f32⟩
  | .hbm, ⟨46, _⟩ => ⟨S_, .f32⟩
  | .hbm, ⟨47, _⟩ => ⟨S256, .f32⟩
  | .hbm, ⟨48, _⟩ => ⟨S1x256, .f32⟩
  | .hbm, ⟨49, _⟩ => ⟨S_, .f32⟩
  | .hbm, ⟨50, _⟩ => ⟨S3x256, .f32⟩
  | .hbm, ⟨51, _⟩ => ⟨S_, .f32⟩
  | .hbm, ⟨52, _⟩ => ⟨S4098x256, .f32⟩
  | .hbm, ⟨53, _⟩ => ⟨S4096x256, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S4096x256, .f32⟩
  | .hbm, ⟨58, _⟩ => ⟨S4096x256, .f32⟩
  | .hbm, ⟨59, _⟩ => ⟨S_, .f32⟩
  | .hbm, ⟨60, _⟩ => ⟨S256, .f32⟩
  | .hbm, ⟨61, _⟩ => ⟨S1x256, .f32⟩
  | .hbm, ⟨62, _⟩ => ⟨S_, .f32⟩
  | .hbm, ⟨63, _⟩ => ⟨S3x256, .f32⟩
  | .hbm, ⟨64, _⟩ => ⟨S3x256, .f32⟩
  | .hbm, ⟨65, _⟩ => ⟨S_, .f32⟩
  | .hbm, ⟨66, _⟩ => ⟨S4098x256, .f32⟩
  | .hbm, ⟨67, _⟩ => ⟨S4098x256, .f32⟩
  | .hbm, ⟨68, _⟩ => ⟨S4096x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S4096x256, .f32⟩
  | .hbm, ⟨73, _⟩ => ⟨S4096x256, .f32⟩
  | .hbm, ⟨74, _⟩ => ⟨S_, .f32⟩
  | .hbm, ⟨75, _⟩ => ⟨S256, .f32⟩
  | .hbm, ⟨76, _⟩ => ⟨S1x256, .f32⟩
  | .hbm, ⟨77, _⟩ => ⟨S_, .f32⟩
  | .hbm, ⟨78, _⟩ => ⟨S3x256, .f32⟩
  | .hbm, ⟨79, _⟩ => ⟨S3x256, .f32⟩
  | .hbm, ⟨80, _⟩ => ⟨S_, .f32⟩
  | .hbm, ⟨81, _⟩ => ⟨S4098x256, .f32⟩
  | .hbm, ⟨82, _⟩ => ⟨S4098x256, .f32⟩
  | .hbm, ⟨83, _⟩ => ⟨S2x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x768, .f32⟩
  | .hbm, ⟨88, _⟩ => ⟨S4096x768, .bf16⟩
  | _, _ => ⟨S4096x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Dact.lean ====
abbrev S4096x1024 : Shape := ⟨2, ![4096, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S4096x1024 : Shape := ⟨2, ![4096, 1024]⟩
abbrev S4x704x1024 : Shape := ⟨3, ![4, 704, 1024]⟩
abbrev S2816x1024 : Shape := ⟨2, ![2816, 1024]⟩
abbrev S_ : Shape := ⟨0, ![]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x704x1024, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x2816, .f32⟩
  | .hbm, ⟨7, _⟩ => ⟨S4096x1024, .f32⟩
  | .hbm, ⟨8, _⟩ => ⟨S4096x2816, .f32⟩
  | .hbm, ⟨9, _⟩ => ⟨S4096x4x704, .f32⟩
  | .hbm, ⟨10, _⟩ => ⟨S4x4096x704, .f32⟩
  | .hbm, ⟨11, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dwdown.lean ====
abbrev S4x4096x704 : Shape := ⟨3, ![4, 4096, 704]⟩
abbrev S4096x1024 : Shape := ⟨2, ![4096, 1024]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwdownRefIdeal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S2816x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Dh2.lean ====
abbrev S8x4096x704 : Shape := ⟨3, ![8, 4096, 704]⟩
abbrev S8x1024x704 : Shape := ⟨3, ![8, 1024, 704]⟩
abbrev S4096x1024 : Shape := ⟨2, ![4096, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S4096x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Dh2RefIdeal.lean ====
abbrev S8x4096x704 : Shape := ⟨3, ![8, 4096, 704]⟩
abbrev S8x1024x704 : Shape := ⟨3, ![8, 1024, 704]⟩
abbrev S1024x8x704 : Shape := ⟨3, ![1024, 8, 704]⟩
abbrev S1024x5632 : Shape := ⟨2, ![1024, 5632]⟩
abbrev S4096x8x704 : Shape := ⟨3, ![4096, 8, 704]⟩
abbrev S4096x5632 : Shape := ⟨2, ![4096, 5632]⟩
abbrev S_ : Shape := ⟨0, ![]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S8x1024x704, .f32⟩
  | .hbm, ⟨3, _⟩ => ⟨S1024x8x704, .f32⟩
  | .hbm, ⟨4, _⟩ => ⟨S1024x5632, .f32⟩
  | .hbm, ⟨5, _⟩ => ⟨S8x4096x704, .f32⟩
  | .hbm, ⟨6, _⟩ => ⟨S4096x8x704, .f32⟩
  | .hbm, ⟨7, _⟩ => ⟨S4096x5632, .f32⟩
  | .hbm, ⟨8, _⟩ => ⟨S_, .f32⟩
  | .hbm, ⟨9, _⟩ => ⟨S4096x1024, .f32⟩
  | .hbm, ⟨10, _⟩ => ⟨S4096x5632, .f32⟩
  | .hbm, ⟨11, _⟩ => ⟨S4096x1024, .f32⟩
  | .hbm, ⟨12, _⟩ => ⟨S4096x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Dwup.lean ====
abbrev S4096x1024 : Shape := ⟨2, ![4096, 1024]⟩
abbrev S8x4096x704 : Shape := ⟨3, ![8, 4096, 704]⟩
abbrev S8x1024x704 : Shape := ⟨3, ![8, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S8x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwupRefIdeal.lean ====
abbrev S4096x1024 : Shape := ⟨2, ![4096, 1024]⟩
abbrev S8x4096x704 : Shape := ⟨3, ![8, 4096, 704]⟩
abbrev S4096x8x704 : Shape := ⟨3, ![4096, 8, 704]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S4096x1024, .f32⟩
  | .hbm, ⟨3, _⟩ => ⟨S8x4096x704, .f32⟩
  | .hbm, ⟨4, _⟩ => ⟨S4096x8x704, .f32⟩
  | .hbm, ⟨5, _⟩ => ⟨S4096x5632, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x8x704, .f32⟩
  | .hbm, ⟨12, _⟩ => ⟨S8x1024x704, .f32⟩
  | .hbm, ⟨13, _⟩ => ⟨S8x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Up.lean ====
abbrev S4096x1024 : Shape := ⟨2, ![4096, 1024]⟩
abbrev S8x1024x704 : Shape := ⟨3, ![8, 1024, 704]⟩
abbrev S8x4096x704 : Shape := ⟨3, ![8, 4096, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S8x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S4096x1024, .f32⟩
  | .hbm, ⟨3, _⟩ => ⟨S8x1024x704, .f32⟩
  | .hbm, ⟨4, _⟩ => ⟨S1024x8x704, .f32⟩
  | .hbm, ⟨5, _⟩ => ⟨S1024x5632, .f32⟩
  | .hbm, ⟨6, _⟩ => ⟨S4096x5632, .f32⟩
  | .hbm, ⟨7, _⟩ => ⟨S4096x8x704, .f32⟩
  | .hbm, ⟨8, _⟩ => ⟨S8x4096x704, .f32⟩
  | .hbm, ⟨9, _⟩ => ⟨S8x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Down.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownRefIdeal.lean ====
abbrev S4x4096x704 : Shape := ⟨3, ![4, 4096, 704]⟩
abbrev S4x704x1024 : Shape := ⟨3, ![4, 704, 1024]⟩
abbrev S4096x4x704 : Shape := ⟨3, ![4096, 4, 704]⟩
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S4x704x1024, .f32⟩
  | .hbm, ⟨6, _⟩ => ⟨S2816x1024, .f32⟩
  | .hbm, ⟨7, _⟩ => ⟨S4096x1024, .f32⟩
  | .hbm, ⟨8, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Inproj.lean ====
abbrev S4096x1024 : Shape := ⟨2, ![4096, 1024]⟩
abbrev S1024x2432 : Shape := ⟨2, ![1024, 2432]⟩
abbrev S4096x2432 : Shape := ⟨2, ![4096, 2432]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2432, .bf16⟩
  | .hbm, ⟨2, _⟩ => ⟨S4096x2432, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InprojRefIdeal.lean ====
abbrev S4096x1024 : Shape := ⟨2, ![4096, 1024]⟩
abbrev S1024x2432 : Shape := ⟨2, ![1024, 2432]⟩
abbrev S4096x2432 : Shape := ⟨2, ![4096, 2432]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2432, .bf16⟩
  | .hbm, ⟨2, _⟩ => ⟨S4096x1024, .f32⟩
  | .hbm, ⟨3, _⟩ => ⟨S1024x2432, .f32⟩
  | .hbm, ⟨4, _⟩ => ⟨S4096x2432, .f32⟩
  | .hbm, ⟨5, _⟩ => ⟨S4096x2432, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Outproj.lean ====
abbrev S4096x1024 : Shape := ⟨2, ![4096, 1024]⟩
abbrev S4096x256 : Shape := ⟨2, ![4096, 256]⟩
abbrev S1536x1024 : Shape := ⟨2, ![1536, 1024]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S1536x1024, .bf16⟩
  | .hbm, ⟨4, _⟩ => ⟨S1024x1024, .bf16⟩
  | .hbm, ⟨5, _⟩ => ⟨S256x1024, .bf16⟩
  | .hbm, ⟨6, _⟩ => ⟨S256x1024, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .bf16⟩
  | .local _ .vmem, ⟨10, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutprojRefIdeal.lean ====
abbrev S4096x1024 : Shape := ⟨2, ![4096, 1024]⟩
abbrev S4096x256 : Shape := ⟨2, ![4096, 256]⟩
abbrev S1536x1024 : Shape := ⟨2, ![1536, 1024]⟩
abbrev S4096x1536 : Shape := ⟨2, ![4096, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S1536x1024, .bf16⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S4096x1536, .f32⟩
  | .hbm, ⟨8, _⟩ => ⟨S1536x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dcat.lean ====
abbrev S4096x1024 : Shape := ⟨2, ![4096, 1024]⟩
abbrev S1536x1024 : Shape := ⟨2, ![1536, 1024]⟩
abbrev S4096x1536 : Shape := ⟨2, ![4096, 1536]⟩
abbrev S1024x1024 : Shape := ⟨2, ![1024, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DcatRefIdeal.lean ====
abbrev S4096x1024 : Shape := ⟨2, ![4096, 1024]⟩
abbrev S1536x1024 : Shape := ⟨2, ![1536, 1024]⟩
abbrev S_ : Shape := ⟨0, ![]⟩
abbrev S4096x1536 : Shape := ⟨2, ![4096, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S1536x1024, .f32⟩
  | .hbm, ⟨3, _⟩ => ⟨S4096x1024, .f32⟩
  | .hbm, ⟨4, _⟩ => ⟨S_, .f32⟩
  | .hbm, ⟨5, _⟩ => ⟨S4096x1536, .f32⟩
  | .hbm, ⟨6, _⟩ => ⟨S4096x1024, .f32⟩
  | .hbm, ⟨7, _⟩ => ⟨S4096x1536, .f32⟩
  | .hbm, ⟨8, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwout.lean ====
abbrev S4096x1024 : Shape := ⟨2, ![4096, 1024]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S1024x1024, .bf16⟩
  | .hbm, ⟨5, _⟩ => ⟨S256x1024, .bf16⟩
  | .hbm, ⟨6, _⟩ => ⟨S256x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .f32⟩
  | .local _ .vmem, ⟨12, _⟩ => ⟨S256x1024, .f32⟩
  | .local _ .vmem, ⟨13, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v25 : BitVec 1 := Scalar.cmpi .eq arg0 c3_i32
  let v26 : BitVec 32 := Scalar.extui v25
  let c0_i32_22 : BitVec 32 := 0#32
  let v27 : BitVec 1 := Scalar.cmpi .ne v26 c0_i32_22
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DwoutRefIdeal.lean ====
abbrev S4096x1024 : Shape := ⟨2, ![4096, 1024]⟩
abbrev S4096x256 : Shape := ⟨2, ![4096, 256]⟩
abbrev S4096x1536 : Shape := ⟨2, ![4096, 1536]⟩
abbrev S_ : Shape := ⟨0, ![]⟩
abbrev S1536x1024 : Shape := ⟨2, ![1536, 1024]⟩
abbrev S1024x1536 : Shape := ⟨2, ![1024, 1536]⟩
abbrev S1024x1024 : Shape := ⟨2, ![1024, 1024]⟩
abbrev S256x1024 : Shape := ⟨2, ![256, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S4096x1536, .f32⟩
  | .hbm, ⟨8, _⟩ => ⟨S4096x1024, .f32⟩
  | .hbm, ⟨9, _⟩ => ⟨S_, .f32⟩
  | .hbm, ⟨10, _⟩ => ⟨S1536x1024, .f32⟩
  | .hbm, ⟨11, _⟩ => ⟨S4096x1024, .f32⟩
  | .hbm, ⟨12, _⟩ => ⟨S1024x1536, .f32⟩
  | .hbm, ⟨13, _⟩ => ⟨S1536x1024, .f32⟩
  | .hbm, ⟨14, _⟩ => ⟨S1536x1024, .bf16⟩
  | .hbm, ⟨15, _⟩ => ⟨S1024x1024, .bf16⟩
  | .hbm, ⟨16, _⟩ => ⟨S256x1024, .bf16⟩
  | .hbm, ⟨17, _⟩ => ⟨S256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dh.lean ====
abbrev S4096x512 : Shape := ⟨2, ![4096, 512]⟩
abbrev S4096x768 : Shape := ⟨2, ![4096, 768]⟩
abbrev S4096x1152 : Shape := ⟨2, ![4096, 1152]⟩
abbrev S1024x2432 : Shape := ⟨2, ![1024, 2432]⟩
abbrev S1024x512 : Shape := ⟨2, ![1024, 512]⟩
abbrev S1024x768 : Shape := ⟨2, ![1024, 768]⟩
abbrev S1024x1152 : Shape := ⟨2, ![1024, 1152]⟩
abbrev S4096x1024 : Shape := ⟨2, ![4096, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S4096x768, .bf16⟩
  | .hbm, ⟨2, _⟩ => ⟨S4096x1152, .bf16⟩
  | .hbm, ⟨3, _⟩ => ⟨S1024x2432, .bf16⟩
  | .hbm, ⟨4, _⟩ => ⟨S1024x512, .bf16⟩
  | .hbm, ⟨5, _⟩ => ⟨S1024x768, .bf16⟩
  | .hbm, ⟨6, _⟩ => ⟨S1024x1152, .bf16⟩
  | .hbm, ⟨7, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x768, .bf16⟩
  | .local _ .vmem, ⟨3, _⟩ => ⟨S1024x768, .bf16⟩
  | .local _ .vmem, ⟨4, _⟩ => ⟨S1024x1152, .bf16⟩
  | .local _ .vmem, ⟨5, _⟩ => ⟨S1024x1152, .bf16⟩
  | .local _ .vmem, ⟨6, _⟩ => ⟨S1024x512, .bf16⟩
  | .local _ .vmem, ⟨7, _⟩ => ⟨S1024x768, .bf16⟩
  | .local _ .vmem, ⟨8, _⟩ => ⟨S1024x1152, .bf16⟩
  | .local _ .vmem, ⟨9, _⟩ => ⟨S1024x1024, .bf16⟩
  | .local _ .vmem, ⟨10, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DhRefIdeal.lean ====
abbrev S4096x512 : Shape := ⟨2, ![4096, 512]⟩
abbrev S4096x768 : Shape := ⟨2, ![4096, 768]⟩
abbrev S4096x1152 : Shape := ⟨2, ![4096, 1152]⟩
abbrev S1024x2432 : Shape := ⟨2, ![1024, 2432]⟩
abbrev S4096x2432 : Shape := ⟨2, ![4096, 2432]⟩
abbrev S_ : Shape := ⟨0, ![]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x768, .bf16⟩
  | .hbm, ⟨2, _⟩ => ⟨S4096x1152, .bf16⟩
  | .hbm, ⟨3, _⟩ => ⟨S1024x2432, .bf16⟩
  | .hbm, ⟨4, _⟩ => ⟨S1024x2432, .f32⟩
  | .hbm, ⟨5, _⟩ => ⟨S4096x512, .f32⟩
  | .hbm, ⟨6, _⟩ => ⟨S4096x768, .f32⟩
  | .hbm, ⟨7, _⟩ => ⟨S4096x1152, .f32⟩
  | .hbm, ⟨8, _⟩ => ⟨S4096x2432, .f32⟩
  | .hbm, ⟨9, _⟩ => ⟨S_, .f32⟩
  | .hbm, ⟨10, _⟩ => ⟨S4096x1024, .f32⟩
  | .hbm, ⟨11, _⟩ => ⟨S4096x2432, .f32⟩
  | .hbm, ⟨12, _⟩ => ⟨S4096x1024, .f32⟩
  | .hbm, ⟨13, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Dwin.lean ====
abbrev S4096x1024 : Shape := ⟨2, ![4096, 1024]⟩
abbrev S4096x512 : Shape := ⟨2, ![4096, 512]⟩
abbrev S4096x768 : Shape := ⟨2, ![4096, 768]⟩
abbrev S4096x1152 : Shape := ⟨2, ![4096, 1152]⟩
abbrev S1024x512 : Shape := ⟨2, ![1024, 512]⟩
abbrev S1024x768 : Shape := ⟨2, ![1024, 768]⟩
abbrev S1024x1152 : Shape := ⟨2, ![1024, 1152]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x768, .bf16⟩
  | .hbm, ⟨3, _⟩ => ⟨S4096x1152, .bf16⟩
  | .hbm, ⟨4, _⟩ => ⟨S1024x512, .bf16⟩
  | .hbm, ⟨5, _⟩ => ⟨S1024x768, .bf16⟩
  | .hbm, ⟨6, _⟩ => ⟨S1024x1152, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x768, .bf16⟩
  | .local _ .vmem, ⟨5, _⟩ => ⟨S1024x768, .bf16⟩
  | .local _ .vmem, ⟨6, _⟩ => ⟨S1024x1152, .bf16⟩
  | .local _ .vmem, ⟨7, _⟩ => ⟨S1024x1152, .bf16⟩
  | .local _ .vmem, ⟨8, _⟩ => ⟨S1024x512, .bf16⟩
  | .local _ .vmem, ⟨9, _⟩ => ⟨S1024x768, .bf16⟩
  | .local _ .vmem, ⟨10, _⟩ => ⟨S1024x1152, .bf16⟩
  | .local _ .vmem, ⟨11, _⟩ => ⟨S1024x512, .f32⟩
  | .local _ .vmem, ⟨12, _⟩ => ⟨S1024x768, .f32⟩
  | .local _ .vmem, ⟨13, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v25 : BitVec 1 := Scalar.cmpi .eq arg0 c3_i32
  let v26 : BitVec 32 := Scalar.extui v25
  let c0_i32_22 : BitVec 32 := 0#32
  let v27 : BitVec 1 := Scalar.cmpi .ne v26 c0_i32_22
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DwinRefIdeal.lean ====
abbrev S4096x1024 : Shape := ⟨2, ![4096, 1024]⟩
abbrev S4096x512 : Shape := ⟨2, ![4096, 512]⟩
abbrev S4096x768 : Shape := ⟨2, ![4096, 768]⟩
abbrev S4096x1152 : Shape := ⟨2, ![4096, 1152]⟩
abbrev S4096x2432 : Shape := ⟨2, ![4096, 2432]⟩
abbrev S_ : Shape := ⟨0, ![]⟩
abbrev S1024x2432 : Shape := ⟨2, ![1024, 2432]⟩
abbrev S2432x1024 : Shape := ⟨2, ![2432, 1024]⟩
abbrev S1024x512 : Shape := ⟨2, ![1024, 512]⟩
abbrev S1024x768 : Shape := ⟨2, ![1024, 768]⟩
abbrev S1024x1152 : Shape := ⟨2, ![1024, 1152]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x768, .bf16⟩
  | .hbm, ⟨3, _⟩ => ⟨S4096x1152, .bf16⟩
  | .hbm, ⟨4, _⟩ => ⟨S4096x1024, .f32⟩
  | .hbm, ⟨5, _⟩ => ⟨S4096x512, .f32⟩
  | .hbm, ⟨6, _⟩ => ⟨S4096x768, .f32⟩
  | .hbm, ⟨7, _⟩ => ⟨S4096x1152, .f32⟩
  | .hbm, ⟨8, _⟩ => ⟨S4096x2432, .f32⟩
  | .hbm, ⟨9, _⟩ => ⟨S_, .f32⟩
  | .hbm, ⟨10, _⟩ => ⟨S1024x2432, .f32⟩
  | .hbm, ⟨11, _⟩ => ⟨S4096x2432, .f32⟩
  | .hbm, ⟨12, _⟩ => ⟨S2432x1024, .f32⟩
  | .hbm, ⟨13, _⟩ => ⟨S1024x2432, .f32⟩
  | .hbm, ⟨14, _⟩ => ⟨S1024x2432, .bf16⟩
  | .hbm, ⟨15, _⟩ => ⟨S1024x512, .bf16⟩
  | .hbm, ⟨16, _⟩ => ⟨S1024x768, .bf16⟩
  | .hbm, ⟨17, _⟩ => ⟨S1024x1152, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Rms2.lean ====
abbrev S4096x1024 : Shape := ⟨2, ![4096, 1024]⟩
abbrev S1x1024 : Shape := ⟨2, ![1, 1024]⟩
abbrev S512x1024 : Shape := ⟨2, ![512, 1024]⟩
abbrev S2x32x1024 : Shape := ⟨3, ![2, 32, 1024]⟩
abbrev S32x1024 : Shape := ⟨2, ![32, 1024]⟩
abbrev S32 : Shape := ⟨1, ![32]⟩
abbrev S32x1 : Shape := ⟨2, ![32, 1]⟩
abbrev S1x32x1024 : Shape := ⟨3, ![1, 32, 1024]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S2x32x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Rms2RefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Rmsb.lean ====
abbrev S4096x1024 : Shape := ⟨2, ![4096, 1024]⟩
abbrev S1x1024 : Shape := ⟨2, ![1, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩
abbrev S1024 : Shape := ⟨1, ![1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S32x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsbRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Convf.lean ====
abbrev S4096x2432 : Shape := ⟨2, ![4096, 2432]⟩
abbrev S3x256 : Shape := ⟨2, ![3, 256]⟩
abbrev S4096x256 : Shape := ⟨2, ![4096, 256]⟩
abbrev S512x256 : Shape := ⟨2, ![512, 256]⟩
abbrev S16x256 : Shape := ⟨2, ![16, 256]⟩
abbrev S528x256 : Shape := ⟨2, ![528, 256]⟩
abbrev S1x256 : Shape := ⟨2, ![1, 256]⟩

abbrev nBuf : Space → Nat
  | .hbm => 3
  | .vmem => 14
  | .smem => 0
  | _ => 0

abbrev bufTy : (tb : Table) → Fin (tcTables nBuf tb) → BufTy
  | .hbm, ⟨0, _⟩ => ⟨S4096x2432, .bf16⟩
  | .hbm, ⟨1, _⟩ => ⟨S3x256, .f32⟩
  | .hbm, ⟨2, _⟩ => ⟨S4096x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S16x256, .bf16⟩
  | .local _ .vmem, ⟨7, _⟩ => ⟨S16x256, .bf16⟩
  | .local _ .vmem, ⟨8, _⟩ => ⟨S16x256, .bf16⟩
  | .local _ .vmem, ⟨9, _⟩ => ⟨S16x256, .bf16⟩
  | .local _ .vmem, ⟨10, _⟩ => ⟨S3x256, .f32⟩
  | .local _ .vmem, ⟨11, _⟩ => ⟨S512x256, .bf16⟩
  | .local _ .vmem, ⟨12, _⟩ => ⟨S512x256, .bf16⟩
  | .local _ .vmem, ⟨13, _⟩ => ⟨S528x256, .f32⟩
  | _, _ => ⟨S4096x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvfRefIdeal.lean ====
abbrev S4096x2432 : Shape := ⟨2, ![4096, 2432]⟩
abbrev S3x256 : Shape := ⟨2, ![3, 256]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩

abbrev nBuf : Space → Nat
  | .hbm => 34
  | .vmem => 0
  | .smem => 0
  | _ => 0

abbrev bufTy : (tb : Table) → Fin (tcTables nBuf tb) → BufTy
  | .hbm, ⟨0, _⟩ => ⟨S4096x2432, .bf16⟩
  | .hbm, ⟨1, _⟩ => ⟨S3x256, .f32⟩
  | .hbm, ⟨2, _⟩ => ⟨S4096x256, .bf16⟩
  | .hbm, ⟨3, _⟩ => ⟨S4096x256, .f32⟩
  | .hbm, ⟨4, _⟩ => ⟨S4096x256, .bf16⟩
  | .hbm, ⟨5, _⟩ => ⟨S4096x256, .f32⟩
  | .hbm, ⟨6, _⟩ => ⟨S4096x256, .bf16⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S2x256, .f32⟩
  | .hbm, ⟨11, _⟩ => ⟨S4098x256, .f32⟩
  | .hbm, ⟨12, _⟩ => ⟨S4096x256, .f32⟩
  | .hbm, ⟨13, _⟩ => ⟨S1x256, .f32⟩
  | .hbm, ⟨14, _⟩ => ⟨S256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S1x256, .f32⟩
  | .hbm, ⟨20, _⟩ => ⟨S256, .f32⟩
  | .hbm, ⟨21, _⟩ => ⟨S1x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S1x256, .f32⟩
  | .hbm, ⟨27, _⟩ => ⟨S256, .f32⟩
  | .hbm, ⟨28, _⟩ => ⟨S1x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .bf16⟩
  | _, _ => ⟨S4096x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== Act.lean ====
abbrev S8x4096x704 : Shape := ⟨3, ![8, 4096, 704]⟩
abbrev S8x3x704 : Shape := ⟨3, ![8, 3, 704]⟩
abbrev S8x1x704 : Shape := ⟨3, ![8, 1, 704]⟩
abbrev S2x4x4096x704 : Shape := ⟨4, ![2, 4, 4096, 704]⟩
abbrev S2x4x3x704 : Shape := ⟨4, ![2, 4, 3, 704]⟩
abbrev S2x4x1x704 : Shape := ⟨4, ![2, 4, 1, 704]⟩
abbrev S4x4096x704 : Shape := ⟨3, ![4, 4096, 704]⟩
abbrev S2x1x512x704 : Shape := ⟨4, ![2, 1, 512, 704]⟩
abbrev S2x1x16x704 : Shape := ⟨4, ![2, 1, 16, 704]⟩
abbrev S2x1x3x704 : Shape := ⟨4, ![2, 1, 3, 704]⟩
abbrev S2x1x1x704 : Shape := ⟨4, ![2, 1, 1, 704]⟩
abbrev S1x512x704 : Shape := ⟨3, ![1, 512, 704]⟩
abbrev S528x704 : Shape := ⟨2, ![528, 704]⟩
abbrev S1x1x16x704 : Shape := ⟨4, ![1, 1, 16, 704]⟩
abbrev S16x704 : Shape := ⟨2, ![16, 704]⟩
abbrev S1x1x512x704 : Shape := ⟨4, ![1, 1, 512, 704]⟩
abbrev S512x704 : Shape := ⟨2, ![512, 704]⟩
abbrev S1x1x1x704 : Shape := ⟨4, ![1, 1, 1, 704]⟩
abbrev S1x704 : Shape := ⟨2, ![1, 704]⟩
abbrev S1x1x3x704 : Shape := ⟨4, ![1, 1, 3, 704]⟩
abbrev S3x704 : Shape := ⟨2, ![3, 704]⟩
abbrev S1x16x704 : Shape := ⟨3, ![1, 16, 704]⟩

abbrev nBuf : Space → Nat
  | .hbm => 7
  | .vmem => 12
  | .smem => 0
  | _ => 0

abbrev bufTy : (tb : Table) → Fin (tcTables nBuf tb) → BufTy
  | .hbm, ⟨0, _⟩ => ⟨S8x4096x704, .bf16⟩
  | .hbm, ⟨1, _⟩ => ⟨S8x3x704, .f32⟩
  | .hbm, ⟨2, _⟩ => ⟨S8x1x704, .f32⟩
  | .hbm, ⟨3, _⟩ => ⟨S2x4x4096x704, .bf16⟩
  | .hbm, ⟨4, _⟩ => ⟨S2x4x3x704, .f32⟩
  | .hbm, ⟨5, _⟩ => ⟨S2x4x1x704, .f32⟩
  | .hbm, ⟨6, _⟩ => ⟨S4x4096x704, .bf16⟩
  | .local _ .vmem, ⟨0, _⟩ => ⟨S2x1x512x704, .bf16⟩
  | .local _ .vmem, ⟨1, _⟩ => ⟨S2x1x512x704, .bf16⟩
  | .local _ .vmem, ⟨2, _⟩ => ⟨S2x1x16x704, .bf16⟩
  | .local _ .vmem, ⟨3, _⟩ => ⟨S2x1x16x704, .bf16⟩
  | .local _ .vmem, ⟨4, _⟩ => ⟨S2x1x3x704, .f32⟩
  | .local _ .vmem, ⟨5, _⟩ => ⟨S2x1x3x704, .f32⟩
  | .local _ .vmem, ⟨6, _⟩ => ⟨S2x1x1x704, .f32⟩
  | .local _ .vmem, ⟨7, _⟩ => ⟨S2x1x1x704, .f32⟩
  | .local _ .vmem, ⟨8, _⟩ => ⟨S1x512x704, .bf16⟩
  | .local _ .vmem, ⟨9, _⟩ => ⟨S1x512x704, .bf16⟩
  | .local _ .vmem, ⟨10, _⟩ => ⟨S528x704, .f32⟩
  | .local _ .vmem, ⟨11, _⟩ => ⟨S528x704, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, arg0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x3x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActRefIdeal.lean ====
abbrev S8x4096x704 : Shape := ⟨3, ![8, 4096, 704]⟩
abbrev S8x3x704 : Shape := ⟨3, ![8, 3, 704]⟩
abbrev S8x1x704 : Shape := ⟨3, ![8, 1, 704]⟩
abbrev S4096x8x704 : Shape := ⟨3, ![4096, 8, 704]⟩
abbrev S4096x5632 : Shape := ⟨2, ![4096, 5632]⟩
abbrev S3x8x704 : Shape := ⟨3, ![3, 8, 704]⟩
abbrev S3x5632 : Shape := ⟨2, ![3, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S1x8x704 : Shape := ⟨3, ![1, 8, 704]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x3x704, .f32⟩
  | .hbm, ⟨2, _⟩ => ⟨S8x1x704, .f32⟩
  | .hbm, ⟨3, _⟩ => ⟨S8x4096x704, .f32⟩
  | .hbm, ⟨4, _⟩ => ⟨S4096x8x704, .f32⟩
  | .hbm, ⟨5, _⟩ => ⟨S4096x5632, .f32⟩
  | .hbm, ⟨6, _⟩ => ⟨S3x8x704, .f32⟩
  | .hbm, ⟨7, _⟩ => ⟨S3x5632, .f32⟩
  | .hbm, ⟨8, _⟩ => ⟨S_, .f32⟩
  | .hbm, ⟨9, _⟩ => ⟨S2x5632, .f32⟩
  | .hbm, ⟨10, _⟩ => ⟨S4098x5632, .f32⟩
  | .hbm, ⟨11, _⟩ => ⟨S4096x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S1x8x704, .f32⟩
  | .hbm, ⟨32, _⟩ => ⟨S1x5632, .f32⟩
  | .hbm, ⟨33, _⟩ => ⟨S4096x5632, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x4x704, .f32⟩
  | .hbm, ⟨48, _⟩ => ⟨S4x4096x704, .f32⟩
  | .hbm, ⟨49, _⟩ => ⟨S4x4096x704, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Proof.SconvBlock.lean ====
/-
  What one grid point of the short convolution's gradient kernel leaves in its two output blocks, at the extended reals.
  The body keeps two scratch buffers: the gated product `C * h` of the block's rows under the sixteen rows before them,
  and the gradient `g = ct * B` of the convolution's result over the sixteen rows after them. Both are read back at three
  row offsets. Every statement below is at a row and a lane.
-/
module

public import proofs.«01_k».proof.Proof.Gen.SconvIdeal.Value
public import Idealize.ShloMosaic.Lib.Pipeline.ValueKit.Tiles
public import Idealize.ShloMosaic.Lib.Pipeline.CanonAppend
public import Idealize.ShloMosaic.Lib.Pointwise
public import Idealize.ShloMosaic.Lib.Tactic

@[expose] public section

set_option maxRecDepth 16384

noncomputable section

namespace Cert.SconvIdeal.Block

open Cert.SconvIdeal Cert.SconvIdeal.Gen Idealize.ShloMosaic Idealize.ShloMosaic.TcCoe Idealize.SL.Sem
open Idealize.ShloMosaic.Pipeline (Dat)

/-- The zero-or-one factor that switches the rows before the first block off. -/
def flagPrev (i : grid0.Coords) : EReal :=
  Scalar.sitofp (F := Ideal) .f32 (Scalar.extui (Scalar.cmpi .sgt (BitVec.ofNat 32 (i 0).val) 0#32) : BitVec 32)

/-- The zero-or-one factor that switches the rows after the last block off. -/
def flagNext (i : grid0.Coords) : EReal :=
  Scalar.sitofp (F := Ideal) .f32 (Scalar.extui (Scalar.cmpi .slt (BitVec.ofNat 32 (i 0).val) 7#32) : BitVec 32)

/-- Row `n` of the first scratch buffer: sixteen rows of the previous block's product, then the block's own. -/
def prod (f : EReal) (x1 x2 : Vec Ideal S512x256 .bf16) (x3 x4 : Vec Ideal S16x256 .bf16) (n : ℕ) (l : Fin 256) : EReal :=
  if h : n < 16 then x3 (ix2 ⟨n, h⟩ l) * x4 (ix2 ⟨n, h⟩ l) * f
  else if h' : n - 16 < 512 then x1 (ix2 ⟨n - 16, h'⟩ l) * x2 (ix2 ⟨n - 16, h'⟩ l) else 0

/-- Row `n` of the second scratch buffer: the block's own gradient, then sixteen rows of the next block's. -/
def grad (f : EReal) (x0 x5 : Vec Ideal S512x256 .bf16) (x6 x7 : Vec Ideal S16x256 .bf16) (n : ℕ) (l : Fin 256) : EReal :=
  if h : n < 512 then x5 (ix2 ⟨n, h⟩ l) * x0 (ix2 ⟨n, h⟩ l)
  else if h' : n - 512 < 16 then x6 (ix2 ⟨n - 512, h'⟩ l) * x7 (ix2 ⟨n - 512, h'⟩ l) * f else 0

/-- A load of 512 rows from row `k` of the first scratch buffer, after its two stores. -/
theorem load_prod (v : View sig .tc .vmem S528x256 .f32) (i : grid0.Coords) (x1 x2 : Vec Ideal S512x256 .bf16)
    (x3 x4 : Vec Ideal S16x256 .bf16) (k : ℕ) (hk : k ≤ 16)
    (inb : ∀ a, (![k, 0] : Fin 2 → ℕ) a + (![512, 256] : Fin 2 → ℕ) a ≤ S528x256.size a) :
    v.readCov (Val := Elt Ideal) [(⟨Rect.unit (s := S528x256) ![16, 0] ![512, 256] inb_S528x256_S512x256_16_0, k0_pay7 x1 x2⟩ : View.Piece (Elt Ideal) S528x256 .f32),
        ⟨Rect.unit (s := S528x256) ![0, 0] ![16, 256] inb_S528x256_S16x256_0_0, k0_pay6 i x3 x4⟩]
      (Rect.unit (s := S528x256) ![k, 0] ![512, 256] inb).toLoadRect
    = fun x => prod (flagPrev i) x1 x2 x3 x4 (k + (x 0).val) (x 1) := by
  have hcov := View.cover_of_tiledBy (Val := Elt Ideal) [(⟨Rect.unit (s := S528x256) ![16, 0] ![512, 256] inb_S528x256_S512x256_16_0, k0_pay7 x1 x2⟩ : View.Piece (Elt Ideal) S528x256 .f32),
        ⟨Rect.unit (s := S528x256) ![0, 0] ![16, 256] inb_S528x256_S16x256_0_0, k0_pay6 i x3 x4⟩] ![16, 256] (by sl_kernel_rfl)
  rw [View.readCov_eq_canon_ld _ _ _ hcov]
  funext x
  rw [View.ld_apply]
  have e : ∀ y : S528x256.Idx, (y 0).val = k + (x 0).val → y 1 = x 1 → View.canon (Val := Elt Ideal) [(⟨Rect.unit (s := S528x256) ![16, 0] ![512, 256] inb_S528x256_S512x256_16_0, k0_pay7 x1 x2⟩ : View.Piece (Elt Ideal) S528x256 .f32),
        ⟨Rect.unit (s := S528x256) ![0, 0] ![16, 256] inb_S528x256_S16x256_0_0, k0_pay6 i x3 x4⟩] y = prod (flagPrev i) x1 x2 x3 x4 (k + (x 0).val) (x 1) := by
    intro y e0 e1
    rw [← e0, ← e1]
    idx_vars y
    canon_tiles z q using hcov (ix2 y0 y1)
    · idx_vars z
      replace q0 : (y0 : ℕ) = 16 + (z0 : ℕ) := q0
      obtain rfl : y1 = z1 := Fin.ext q1
      have e2 : (⟨y0.val - 16, by omega⟩ : Fin 512) = z0 := Fin.ext (by show y0.val - 16 = _; omega)
      show _ = prod (flagPrev i) x1 x2 x3 x4 y0.val y1
      unfold prod
      rw [dif_neg (by omega), dif_pos (show y0.val - 16 < 512 by omega), e2]
      pointwise [k0_pay7, k0_pay3, k0_pay4]
    · idx_vars z
      replace q0 : (y0 : ℕ) = (z0 : ℕ) := q0
      obtain rfl : y1 = z1 := Fin.ext q1
      have e2 : (⟨y0.val, by omega⟩ : Fin 16) = z0 := Fin.ext q0
      show _ = prod (flagPrev i) x1 x2 x3 x4 y0.val y1
      unfold prod
      rw [dif_pos (show y0.val < 16 by omega), e2]
      pointwise [k0_pay6, flagPrev]
  exact e _ (by show k + 1 * (x 0).val = _; omega) (Fin.ext (by show 0 + 1 * (x 1).val = _; omega))

/-- A load of 512 rows from row `k` of the second scratch buffer, after its two stores. -/
theorem load_grad (v : View sig .tc .vmem S528x256 .f32) (i : grid0.Coords) (x0 x5 : Vec Ideal S512x256 .bf16)
    (x6 x7 : Vec Ideal S16x256 .bf16) (k : ℕ) (hk : k ≤ 16)
    (inb : ∀ a, (![k, 0] : Fin 2 → ℕ) a + (![512, 256] : Fin 2 → ℕ) a ≤ S528x256.size a) :
    v.readCov (Val := Elt Ideal) [(⟨Rect.unit (s := S528x256) ![512, 0] ![16, 256] inb_S528x256_S16x256_512_0, k0_pay13 (BitVec.ofNat 32 (i 0).val) x6 x7⟩ : View.Piece (Elt Ideal) S528x256 .f32),
        ⟨Rect.unit (s := S528x256) ![0, 0] ![512, 256] inb_S528x256_S512x256_0_0, k0_pay12 (k0_pay5 x0) (k0_pay8 x5)⟩]
      (Rect.unit (s := S528x256) ![k, 0] ![512, 256] inb).toLoadRect
    = fun x => grad (flagNext i) x0 x5 x6 x7 (k + (x 0).val) (x 1) := by
  have hcov := View.cover_of_tiledBy (Val := Elt Ideal) [(⟨Rect.unit (s := S528x256) ![512, 0] ![16, 256] inb_S528x256_S16x256_512_0, k0_pay13 (BitVec.ofNat 32 (i 0).val) x6 x7⟩ : View.Piece (Elt Ideal) S528x256 .f32),
        ⟨Rect.unit (s := S528x256) ![0, 0] ![512, 256] inb_S528x256_S512x256_0_0, k0_pay12 (k0_pay5 x0) (k0_pay8 x5)⟩] ![16, 256] (by sl_kernel_rfl)
  rw [View.readCov_eq_canon_ld _ _ _ hcov]
  funext x
  rw [View.ld_apply]
  have e : ∀ y : S528x256.Idx, (y 0).val = k + (x 0).val → y 1 = x 1 → View.canon (Val := Elt Ideal) [(⟨Rect.unit (s := S528x256) ![512, 0] ![16, 256] inb_S528x256_S16x256_512_0, k0_pay13 (BitVec.ofNat 32 (i 0).val) x6 x7⟩ : View.Piece (Elt Ideal) S528x256 .f32),
        ⟨Rect.unit (s := S528x256) ![0, 0] ![512, 256] inb_S528x256_S512x256_0_0, k0_pay12 (k0_pay5 x0) (k0_pay8 x5)⟩] y = grad (flagNext i) x0 x5 x6 x7 (k + (x 0).val) (x 1) := by
    intro y e0 e1
    rw [← e0, ← e1]
    idx_vars y
    canon_tiles z q using hcov (ix2 y0 y1)
    · idx_vars z
      replace q0 : (y0 : ℕ) = 512 + (z0 : ℕ) := q0
      obtain rfl : y1 = z1 := Fin.ext q1
      have e2 : (⟨y0.val - 512, by omega⟩ : Fin 16) = z0 := Fin.ext (by show y0.val - 512 = _; omega)
      show _ = grad (flagNext i) x0 x5 x6 x7 y0.val y1
      unfold grad
      rw [dif_neg (by omega), dif_pos (show y0.val - 512 < 16 by omega), e2]
      pointwise [k0_pay13, flagNext]
    · idx_vars z
      replace q0 : (y0 : ℕ) = (z0 : ℕ) := q0
      obtain rfl : y1 = z1 := Fin.ext q1
      have e2 : (⟨y0.val, by omega⟩ : Fin 512) = z0 := Fin.ext q0
      show _ = grad (flagNext i) x0 x5 x6 x7 y0.val y1
      unfold grad
      rw [dif_pos (show y0.val < 512 by omega), e2]
      pointwise [k0_pay12, k0_pay11, k0_pay5, k0_pay8]
  exact e _ (by show k + 1 * (x 0).val = _; omega) (Fin.ext (by show 0 + 1 * (x 1).val = _; omega))

/-- The causal convolution of three taps: tap `k` multiplies the row `k` after `n`. -/
def conv (w : Vec Ideal S3x256 .f32) (p : ℕ → Fin 256 → EReal) (n : ℕ) (l : Fin 256) : EReal :=
  w (ix2 0 l) * p n l + w (ix2 1 l) * p (n + 1) l + w (ix2 2 l) * p (n + 2) l

/-- The transposed convolution: tap `k` multiplies the row `2 - k` after `n`. -/
def convT (w : Vec Ideal S3x256 .f32) (p : ℕ → Fin 256 → EReal) (n : ℕ) (l : Fin 256) : EReal :=
  w (ix2 0 l) * p (n + 2) l + w (ix2 1 l) * p (n + 1) l + w (ix2 2 l) * p n l

/-- What the three column groups of an output block hold: the gradients of `B`, of `C` and of `h`. -/
def rows (c : Vec Ideal S512x256 .bf16) (h : Vec Ideal S512x256 .bf16) (ct : Vec Ideal S512x256 .bf16) (w : Vec Ideal S3x256 .f32)
    (p g : ℕ → Fin 256 → EReal) : Vec Ideal S512x768 .bf16 := fun y =>
  if h0 : (y 1).val < 256 then ct (ix2 (y 0) ⟨(y 1).val, h0⟩) * conv w p (14 + (y 0).val) ⟨(y 1).val, h0⟩
  else if h1 : (y 1).val - 256 < 256 then convT w g (y 0).val ⟨(y 1).val - 256, h1⟩ * h (ix2 (y 0) ⟨(y 1).val - 256, h1⟩)
  else if h2 : (y 1).val - 512 < 256 then convT w g (y 0).val ⟨(y 1).val - 512, h2⟩ * c (ix2 (y 0) ⟨(y 1).val - 512, h2⟩)
  else 0

/-- The first 256 columns of a block of rows: the gradient of the output gate. -/
theorem rows_db (c h ct : Vec Ideal S512x256 .bf16) (w : Vec Ideal S3x256 .f32) (p g : ℕ → Fin 256 → EReal)
    (r : Fin 512) (y : Fin 768) (l : Fin 256) (hy : y.val = l.val) :
    rows c h ct w p g (ix2 r y) = ct (ix2 r l) * conv w p (14 + r.val) l := by
  have e : ∀ h, (⟨((ix2 r y : S512x768.Idx) 1).val, h⟩ : Fin 256) = l := fun h => Fin.ext hy
  unfold rows
  rw [dif_pos (show ((ix2 r y : S512x768.Idx) 1).val < 256 from hy ▸ l.isLt)]
  simp only [e]
  rfl

/-- The middle 256 columns: the gradient of the input gate. -/
theorem rows_dc (c h ct : Vec Ideal S512x256 .bf16) (w : Vec Ideal S3x256 .f32) (p g : ℕ → Fin 256 → EReal)
    (r : Fin 512) (y : Fin 768) (l : Fin 256) (hy : y.val = 256 + l.val) :
    rows c h ct w p g (ix2 r y) = convT w g r.val l * h (ix2 r l) := by
  have e : ∀ h, (⟨((ix2 r y : S512x768.Idx) 1).val - 256, h⟩ : Fin 256) = l := fun h => Fin.ext (by show y.val - 256 = _; omega)
  unfold rows
  rw [dif_neg (show ¬ ((ix2 r y : S512x768.Idx) 1).val < 256 from by show ¬ y.val < 256; omega),
    dif_pos (show ((ix2 r y : S512x768.Idx) 1).val - 256 < 256 from by show y.val - 256 < 256; omega)]
  simp only [e]
  rfl

/-- The last 256 columns: the gradient of the value. -/
theorem rows_dh (c h ct : Vec Ideal S512x256 .bf16) (w : Vec Ideal S3x256 .f32) (p g : ℕ → Fin 256 → EReal)
    (r : Fin 512) (y : Fin 768) (l : Fin 256) (hy : y.val = 512 + l.val) :
    rows c h ct w p g (ix2 r y) = convT w g r.val l * c (ix2 r l) := by
  have e : ∀ h, (⟨((ix2 r y : S512x768.Idx) 1).val - 512, h⟩ : Fin 256) = l := fun h => Fin.ext (by show y.val - 512 = _; omega)
  unfold rows
  rw [dif_neg (show ¬ ((ix2 r y : S512x768.Idx) 1).val < 256 from by show ¬ y.val < 256; omega),
    dif_neg (show ¬ ((ix2 r y : S512x768.Idx) 1).val - 256 < 256 from by show ¬ y.val - 256 < 256; omega),
    dif_pos (show ((ix2 r y : S512x768.Idx) 1).val - 512 < 256 from by show y.val - 512 < 256; omega)]
  simp only [e]
  rfl

private theorem hz : (![0, 0] : Fin 2 → Nat) = fun _ => 0 := funext fun a => by fin_cases a <;> rfl

/-- Row `k` of the three taps. -/
def tap (w : Vec Ideal S3x256 .f32) (k : Fin 3) : Vec Ideal S1x256 .f32 := fun x => w (ix2 k (x 1))

/-- A load of one row of the taps. -/
theorem ld_tap (w : Vec Ideal S3x256 .f32) (k : Fin 3)
    (inb : ∀ a, (![k.val, 0] : Fin 2 → ℕ) a + (![1, 256] : Fin 2 → ℕ) a ≤ S3x256.size a) :
    View.ld (Val := Elt Ideal) (e' := .f32) w (Rect.unit (s := S3x256) ![k.val, 0] ![1, 256] inb) = tap w k := by
  funext x
  rw [View.ld_apply]
  have hx : (x 0).val < 1 := (x 0).isLt
  exact congrArg w (funext fun a => by
    fin_cases a
    · exact Fin.ext (by show k.val + 1 * (x 0).val = k.val; omega)
    · exact Fin.ext (by show 0 + 1 * (x 1).val = (x 1).val; omega))

/-- The first row of the taps, loaded. -/
theorem ld_tap0 (w : Vec Ideal S3x256 .f32) (inb : ∀ a, (![0, 0] : Fin 2 → ℕ) a + (![1, 256] : Fin 2 → ℕ) a ≤ S3x256.size a) :
    View.ld (Val := Elt Ideal) (e' := .f32) w (Rect.unit (s := S3x256) ![0, 0] ![1, 256] inb) = tap w 0 := ld_tap w 0 inb

/-- The second row of the taps, loaded. -/
theorem ld_tap1 (w : Vec Ideal S3x256 .f32) (inb : ∀ a, (![1, 0] : Fin 2 → ℕ) a + (![1, 256] : Fin 2 → ℕ) a ≤ S3x256.size a) :
    View.ld (Val := Elt Ideal) (e' := .f32) w (Rect.unit (s := S3x256) ![1, 0] ![1, 256] inb) = tap w 1 := ld_tap w 1 inb

/-- The third row of the taps, loaded. -/
theorem ld_tap2 (w : Vec Ideal S3x256 .f32) (inb : ∀ a, (![2, 0] : Fin 2 → ℕ) a + (![1, 256] : Fin 2 → ℕ) a ≤ S3x256.size a) :
    View.ld (Val := Elt Ideal) (e' := .f32) w (Rect.unit (s := S3x256) ![2, 0] ![1, 256] inb) = tap w 2 := ld_tap w 2 inb

/-- The three stores of the output block, side by side. -/
theorem canon_rows (x1 x2 x5 : Vec Ideal S512x256 .bf16) (w : Vec Ideal S3x256 .f32) (p g : ℕ → Fin 256 → EReal) :
    View.canon (Val := Elt Ideal) [(⟨Rect.unit (s := S512x768) ![0, 512] ![512, 256] inb_S512x768_S512x256_0_512,
        k0_pay17 (k0_pay3 x1) (k0_pay14 (tap w 0) (fun x => g (2 + (x 0).val) (x 1))) (tap w 1) (fun x => g (1 + (x 0).val) (x 1))
          (tap w 2) (fun x => g (0 + (x 0).val) (x 1))⟩ : View.Piece (Elt Ideal) S512x768 .bf16),
      ⟨Rect.unit (s := S512x768) ![0, 256] ![512, 256] inb_S512x768_S512x256_0_256,
        k0_pay16 (k0_pay4 x2) (k0_pay14 (tap w 0) (fun x => g (2 + (x 0).val) (x 1))) (tap w 1) (fun x => g (1 + (x 0).val) (x 1))
          (tap w 2) (fun x => g (0 + (x 0).val) (x 1))⟩,
      ⟨Rect.unit (s := S512x768) ![0, 0] ![512, 256] inb_S512x768_S512x256_0_0,
        k0_pay10 (k0_pay8 x5) (k0_pay9 (tap w 0) (fun x => p (14 + (x 0).val) (x 1))) (tap w 1) (fun x => p (15 + (x 0).val) (x 1))
          (tap w 2) (fun x => p (16 + (x 0).val) (x 1))⟩] = rows x1 x2 x5 w p g := by
  have hcov := View.cover_of_tiledBy (Val := Elt Ideal) [(⟨Rect.unit (s := S512x768) ![0, 512] ![512, 256] inb_S512x768_S512x256_0_512,
        k0_pay17 (k0_pay3 x1) (k0_pay14 (tap w 0) (fun x => g (2 + (x 0).val) (x 1))) (tap w 1) (fun x => g (1 + (x 0).val) (x 1))
          (tap w 2) (fun x => g (0 + (x 0).val) (x 1))⟩ : View.Piece (Elt Ideal) S512x768 .bf16),
      ⟨Rect.unit (s := S512x768) ![0, 256] ![512, 256] inb_S512x768_S512x256_0_256,
        k0_pay16 (k0_pay4 x2) (k0_pay14 (tap w 0) (fun x => g (2 + (x 0).val) (x 1))) (tap w 1) (fun x => g (1 + (x 0).val) (x 1))
          (tap w 2) (fun x => g (0 + (x 0).val) (x 1))⟩,
      ⟨Rect.unit (s := S512x768) ![0, 0] ![512, 256] inb_S512x768_S512x256_0_0,
        k0_pay10 (k0_pay8 x5) (k0_pay9 (tap w 0) (fun x => p (14 + (x 0).val) (x 1))) (tap w 1) (fun x => p (15 + (x 0).val) (x 1))
          (tap w 2) (fun x => p (16 + (x 0).val) (x 1))⟩] ![512, 256] (by sl_kernel_rfl)
  funext y
  idx_vars y
  canon_tiles z q using hcov (ix2 y0 y1)
  · idx_vars z
    obtain rfl : y0 = z0 := Fin.ext q0
    rw [rows_dh _ _ _ _ _ _ y0 y1 z1 q1]
    pointwise [k0_pay17, k0_pay15, k0_pay14, k0_pay3, convT, tap, Nat.add_comm]
  · idx_vars z
    obtain rfl : y0 = z0 := Fin.ext q0
    rw [rows_dc _ _ _ _ _ _ y0 y1 z1 q1]
    pointwise [k0_pay16, k0_pay15, k0_pay14, k0_pay4, convT, tap, Nat.add_comm]
  · idx_vars z
    obtain rfl : y0 = z0 := Fin.ext q0
    rw [rows_db _ _ _ _ _ _ y0 y1 z1 q1]
    pointwise [k0_pay10, k0_pay9, k0_pay8, conv, tap, Nat.add_comm, Nat.add_left_comm]

/-- What a point leaves in the output block of the three gradients, from its blocks. -/
theorem outA9 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S16x256 .bf16) (harg4 : arg4.IsWhole) (arg5 : Memref sig .tc .vmem S16x256 .bf16) (harg5 : arg5.IsWhole) (arg6 : Memref sig .tc .vmem S512x256 .bf16) (harg6 : arg6.IsWhole) (arg7 : Memref sig .tc .vmem S16x256 .bf16) (harg7 : arg7.IsWhole) (arg8 : Memref sig .tc .vmem S16x256 .bf16) (harg8 : arg8.IsWhole) (arg9 : Memref sig .tc .vmem S3x256 .f32) (harg9 : arg9.IsWhole) (arg10 : Memref sig .tc .vmem S512x768 .bf16) (harg10 : arg10.IsWhole) (arg11 : Memref sig .tc .vmem S3x256 .f32) (harg11 : arg11.IsWhole) (arg12 : Memref sig .tc .vmem S528x256 .f32) (harg12 : arg12.IsWhole) (arg13 : Memref sig .tc .vmem S528x256 .f32) (harg13 : arg13.IsWhole) (hc0 : cond0_0 i) (x0 x1 x2 : Vec Ideal S512x256 .bf16) (x3 x4 : Vec Ideal S16x256 .bf16) (x5 : Vec Ideal S512x256 .bf16) (x6 x7 : Vec Ideal S16x256 .bf16) (x8 : Vec Ideal S3x256 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = rows x1 x2 x5 x8 (prod (flagPrev i) x1 x2 x3 x4) (grad (flagNext i) x0 x5 x6 x7) := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x256) hz, View.ld_unit_zero (S := S16x256) hz]
  simp only [ld_tap0, ld_tap1, ld_tap2, load_prod _ _ _ _ _ _ _ (show 14 ≤ 16 by decide), load_prod _ _ _ _ _ _ _ (show 15 ≤ 16 by decide), load_prod _ _ _ _ _ _ _ (show 16 ≤ 16 by decide),
    load_grad _ _ _ _ _ _ _ (show 0 ≤ 16 by decide), load_grad _ _ _ _ _ _ _ (show 1 ≤ 16 by decide), load_grad _ _ _ _ _ _ _ (show 2 ≤ 16 by decide)]
  exact canon_rows x1 x2 x5 x8 _ _

/-- What a point leaves in the output block of the three gradients, from its blocks. -/
theorem outB9 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S16x256 .bf16) (harg4 : arg4.IsWhole) (arg5 : Memref sig .tc .vmem S16x256 .bf16) (harg5 : arg5.IsWhole) (arg6 : Memref sig .tc .vmem S512x256 .bf16) (harg6 : arg6.IsWhole) (arg7 : Memref sig .tc .vmem S16x256 .bf16) (harg7 : arg7.IsWhole) (arg8 : Memref sig .tc .vmem S16x256 .bf16) (harg8 : arg8.IsWhole) (arg9 : Memref sig .tc .vmem S3x256 .f32) (harg9 : arg9.IsWhole) (arg10 : Memref sig .tc .vmem S512x768 .bf16) (harg10 : arg10.IsWhole) (arg11 : Memref sig .tc .vmem S3x256 .f32) (harg11 : arg11.IsWhole) (arg12 : Memref sig .tc .vmem S528x256 .f32) (harg12 : arg12.IsWhole) (arg13 : Memref sig .tc .vmem S528x256 .f32) (harg13 : arg13.IsWhole) (hc0 : ¬cond0_0 i) (x0 x1 x2 : Vec Ideal S512x256 .bf16) (x3 x4 : Vec Ideal S16x256 .bf16) (x5 : Vec Ideal S512x256 .bf16) (x6 x7 : Vec Ideal S16x256 .bf16) (x8 : Vec Ideal S3x256 .f32) (xo : Vec Ideal S3x256 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo = rows x1 x2 x5 x8 (prod (flagPrev i) x1 x2 x3 x4) (grad (flagNext i) x0 x5 x6 x7) := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x256) hz, View.ld_unit_zero (S := S16x256) hz]
  simp only [ld_tap0, ld_tap1, ld_tap2, load_prod _ _ _ _ _ _ _ (show 14 ≤ 16 by decide), load_prod _ _ _ _ _ _ _ (show 15 ≤ 16 by decide), load_prod _ _ _ _ _ _ _ (show 16 ≤ 16 by decide),
    load_grad _ _ _ _ _ _ _ (show 0 ≤ 16 by decide), load_grad _ _ _ _ _ _ _ (show 1 ≤ 16 by decide), load_grad _ _ _ _ _ _ _ (show 2 ≤ 16 by decide)]
  exact canon_rows x1 x2 x5 x8 _ _

/-- The taps' gradient after a block: tap `k` gains the sum over the block's rows of the gradient times the row `k` after. -/
def taps (old : Vec Ideal S3x256 .f32) (x0 x5 : Vec Ideal S512x256 .bf16) (p : ℕ → Fin 256 → EReal) : Vec Ideal S3x256 .f32 := fun y =>
  old y + ∑ r : Fin 512, (x5 (ix2 r (y 1)) * x0 (ix2 r (y 1))) * p (14 + (y 0).val + r.val) (y 1)

/-- A row of the taps' block that no store since the zeroing has reached is zero. -/
theorem old_zero (v : View sig .tc .vmem S3x256 .f32) (k : Fin 3) (L : List (View.Piece (Elt Ideal) S3x256 .f32))
    (inb : ∀ a, (![k.val, 0] : Fin 2 → ℕ) a + (![1, 256] : Fin 2 → ℕ) a ≤ S3x256.size a)
    (hL : ∀ p ∈ L, ∀ y : S3x256.Idx, (y 0).val = k.val → y ∉ p.1.set) :
    v.readCov (Val := Elt Ideal) (L ++ [(⟨Rect.unit (s := S3x256) ![0, 0] ![3, 256] inb_S3x256_S3x256_0_0, k0_pay2 (F := Ideal)⟩ : View.Piece (Elt Ideal) S3x256 .f32)])
      (Rect.unit (s := S3x256) ![k.val, 0] ![1, 256] inb).toLoadRect = tap (fun _ => 0) k := by
  have hw := View.cover_of_tiledBy (Val := Elt Ideal) [(⟨Rect.unit (s := S3x256) ![0, 0] ![3, 256] inb_S3x256_S3x256_0_0, k0_pay2 (F := Ideal)⟩ : View.Piece (Elt Ideal) S3x256 .f32)] ![3, 256] (by sl_kernel_rfl)
  have hcov : ∀ y, ∃ p ∈ L ++ [(⟨Rect.unit (s := S3x256) ![0, 0] ![3, 256] inb_S3x256_S3x256_0_0, k0_pay2 (F := Ideal)⟩ : View.Piece (Elt Ideal) S3x256 .f32)], y ∈ p.1.set := fun y => by
    obtain ⟨p, hp, h⟩ := hw y
    exact ⟨p, List.mem_append_right _ hp, h⟩
  rw [View.readCov_eq_canon_ld _ _ _ hcov]
  funext x
  rw [View.ld_apply]
  have hx : (x 0).val < 1 := (x 0).isLt
  have e : ∀ (y : S3x256.Idx), (y 0).val = k.val → View.canon (Val := Elt Ideal) (L ++ [(⟨Rect.unit (s := S3x256) ![0, 0] ![3, 256] inb_S3x256_S3x256_0_0, k0_pay2 (F := Ideal)⟩ : View.Piece (Elt Ideal) S3x256 .f32)]) y = 0 := by
    intro y hy
    clear hcov
    induction L with
    | nil =>
      refine View.canon_apply_of_pieces (fun _ => (0 : EReal)) _ (fun p hp z => ?_) y (hw y)
      obtain rfl := List.mem_singleton.mp hp
      exact Ideal.ofBits_zero_f32
    | cons p L ih =>
      rw [List.cons_append, View.canon_cons_of_not_mem _ _ (hL p List.mem_cons_self y hy)]
      exact ih fun p hp => hL p (List.mem_cons_of_mem _ hp)
  exact e _ (by show k.val + 1 * (x 0).val = _; omega)

/-- A row's store does not reach another row. -/
theorem not_mem_row (j k : Fin 3) (h : j ≠ k) (inb : ∀ a, (![j.val, 0] : Fin 2 → ℕ) a + (![1, 256] : Fin 2 → ℕ) a ≤ S3x256.size a)
    (y : S3x256.Idx) (hy : (y 0).val = k.val) : y ∉ (Rect.unit (s := S3x256) ![j.val, 0] ![1, 256] inb).set := fun hm => by
  have h0 : j.val ≤ (y 0).val ∧ (y 0).val < j.val + 1 := Rect.mem_set_unit.mp hm 0
  exact h (Fin.ext (by omega))

/-- What the first tap's row holds when it is read for accumulation at the first point. -/
theorem old0 (v : View sig .tc .vmem S3x256 .f32) :
    v.readCov (Val := Elt Ideal) [(⟨Rect.unit (s := S3x256) ![0, 0] ![3, 256] inb_S3x256_S3x256_0_0, k0_pay2 (F := Ideal)⟩ : View.Piece (Elt Ideal) S3x256 .f32)]
      (Rect.unit (s := S3x256) ![0, 0] ![1, 256] inb_S3x256_S1x256_0_0).toLoadRect = tap (fun _ => 0) 0 :=
  old_zero v 0 [] _ (by simp)

/-- The same of the second tap's row, after the first was written. -/
theorem old1 (v : View sig .tc .vmem S3x256 .f32) (u : Vec Ideal S1x256 .f32) :
    v.readCov (Val := Elt Ideal) [(⟨Rect.unit (s := S3x256) ![0, 0] ![1, 256] inb_S3x256_S1x256_0_0, u⟩ : View.Piece (Elt Ideal) S3x256 .f32),
        ⟨Rect.unit (s := S3x256) ![0, 0] ![3, 256] inb_S3x256_S3x256_0_0, k0_pay2 (F := Ideal)⟩]
      (Rect.unit (s := S3x256) ![1, 0] ![1, 256] inb_S3x256_S1x256_1_0).toLoadRect = tap (fun _ => 0) 1 :=
  old_zero v 1 [_] _ (by
    intro p hp y hy
    obtain rfl := List.mem_singleton.mp hp
    exact not_mem_row 0 1 (by decide) inb_S3x256_S1x256_0_0 y hy)

/-- The same of the third, after the first two were written. -/
theorem old2 (v : View sig .tc .vmem S3x256 .f32) (u u' : Vec Ideal S1x256 .f32) :
    v.readCov (Val := Elt Ideal) [(⟨Rect.unit (s := S3x256) ![1, 0] ![1, 256] inb_S3x256_S1x256_1_0, u'⟩ : View.Piece (Elt Ideal) S3x256 .f32),
        ⟨Rect.unit (s := S3x256) ![0, 0] ![1, 256] inb_S3x256_S1x256_0_0, u⟩,
        ⟨Rect.unit (s := S3x256) ![0, 0] ![3, 256] inb_S3x256_S3x256_0_0, k0_pay2 (F := Ideal)⟩]
      (Rect.unit (s := S3x256) ![2, 0] ![1, 256] inb_S3x256_S1x256_2_0).toLoadRect = tap (fun _ => 0) 2 :=
  old_zero v 2 [_, _] _ (by
    intro p hp y hy
    rcases List.mem_cons.mp hp with rfl | hp
    · exact not_mem_row 1 2 (by decide) inb_S3x256_S1x256_1_0 y hy
    · obtain rfl := List.mem_singleton.mp hp
      exact not_mem_row 0 2 (by decide) inb_S3x256_S1x256_0_0 y hy)

/-- The three stores of the taps' block, over whatever was stored before. -/
theorem canon_taps (old : Vec Ideal S3x256 .f32) (x0 x5 : Vec Ideal S512x256 .bf16) (p : ℕ → Fin 256 → EReal)
    (L' : List (View.Piece (Elt Ideal) S3x256 .f32)) :
    View.canon (Val := Elt Ideal) ([(⟨Rect.unit (s := S3x256) ![2, 0] ![1, 256] inb_S3x256_S1x256_2_0,
        k0_pay1 (k0_pay11 (k0_pay5 x0) (k0_pay8 x5)) (tap old 2) (fun x => p (16 + (x 0).val) (x 1))⟩ : View.Piece (Elt Ideal) S3x256 .f32),
      ⟨Rect.unit (s := S3x256) ![1, 0] ![1, 256] inb_S3x256_S1x256_1_0,
        k0_pay19 (k0_pay11 (k0_pay5 x0) (k0_pay8 x5)) (tap old 1) (fun x => p (15 + (x 0).val) (x 1))⟩,
      ⟨Rect.unit (s := S3x256) ![0, 0] ![1, 256] inb_S3x256_S1x256_0_0,
        k0_pay18 (k0_pay11 (k0_pay5 x0) (k0_pay8 x5)) (tap old 0) (fun x => p (14 + (x 0).val) (x 1))⟩] ++ L') = taps old x0 x5 p := by
  have hcov := View.cover_of_tiledBy (Val := Elt Ideal) [(⟨Rect.unit (s := S3x256) ![2, 0] ![1, 256] inb_S3x256_S1x256_2_0,
        k0_pay1 (k0_pay11 (k0_pay5 x0) (k0_pay8 x5)) (tap old 2) (fun x => p (16 + (x 0).val) (x 1))⟩ : View.Piece (Elt Ideal) S3x256 .f32),
      ⟨Rect.unit (s := S3x256) ![1, 0] ![1, 256] inb_S3x256_S1x256_1_0,
        k0_pay19 (k0_pay11 (k0_pay5 x0) (k0_pay8 x5)) (tap old 1) (fun x => p (15 + (x 0).val) (x 1))⟩,
      ⟨Rect.unit (s := S3x256) ![0, 0] ![1, 256] inb_S3x256_S1x256_0_0,
        k0_pay18 (k0_pay11 (k0_pay5 x0) (k0_pay8 x5)) (tap old 0) (fun x => p (14 + (x 0).val) (x 1))⟩] ![1, 256] (by sl_kernel_rfl)
  funext y
  refine View.canon_append_of_pieces (taps old x0 x5 p) L' _ (fun q hq z => ?_) y (hcov y)
  have e : ∀ (k : Fin 3) (inb : ∀ a, (![k.val, 0] : Fin 2 → ℕ) a + (![1, 256] : Fin 2 → ℕ) a ≤ S3x256.size a)
      (z : S1x256.Idx), (Rect.unit (s := S3x256) ![k.val, 0] ![1, 256] inb).emb z = (ix2 k (z 1) : S3x256.Idx) := by
    intro k inb z
    have hz : (z 0).val < 1 := (z 0).isLt
    funext a
    fin_cases a
    · exact Fin.ext (by show k.val + 1 * (z 0).val = k.val; omega)
    · exact Fin.ext (by show 0 + 1 * (z 1).val = (z 1).val; omega)
  rcases List.mem_cons.mp hq with rfl | hq
  · refine Eq.trans ?_ (congrArg (taps old x0 x5 p) (e 2 inb_S3x256_S1x256_2_0 z)).symm
    revert z
    intro (z : S1x256.Idx)
    idx_vars z
    pointwise [k0_pay1, k0_pay11, k0_pay5, k0_pay8, taps, tap]
  rcases List.mem_cons.mp hq with rfl | hq
  · refine Eq.trans ?_ (congrArg (taps old x0 x5 p) (e 1 inb_S3x256_S1x256_1_0 z)).symm
    revert z
    intro (z : S1x256.Idx)
    idx_vars z
    pointwise [k0_pay19, k0_pay11, k0_pay5, k0_pay8, taps, tap]
  · obtain rfl := List.mem_singleton.mp hq
    refine Eq.trans ?_ (congrArg (taps old x0 x5 p) (e 0 inb_S3x256_S1x256_0_0 z)).symm
    revert z
    intro (z : S1x256.Idx)
    idx_vars z
    pointwise [k0_pay18, k0_pay11, k0_pay5, k0_pay8, taps, tap]

/-- What a point leaves in the block of the taps' gradient. -/
theorem outA10 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S16x256 .bf16) (harg4 : arg4.IsWhole) (arg5 : Memref sig .tc .vmem S16x256 .bf16) (harg5 : arg5.IsWhole) (arg6 : Memref sig .tc .vmem S512x256 .bf16) (harg6 : arg6.IsWhole) (arg7 : Memref sig .tc .vmem S16x256 .bf16) (harg7 : arg7.IsWhole) (arg8 : Memref sig .tc .vmem S16x256 .bf16) (harg8 : arg8.IsWhole) (arg9 : Memref sig .tc .vmem S3x256 .f32) (harg9 : arg9.IsWhole) (arg10 : Memref sig .tc .vmem S512x768 .bf16) (harg10 : arg10.IsWhole) (arg11 : Memref sig .tc .vmem S3x256 .f32) (harg11 : arg11.IsWhole) (arg12 : Memref sig .tc .vmem S528x256 .f32) (harg12 : arg12.IsWhole) (arg13 : Memref sig .tc .vmem S528x256 .f32) (harg13 : arg13.IsWhole) (hc0 : cond0_0 i) (x0 x1 x2 : Vec Ideal S512x256 .bf16) (x3 x4 : Vec Ideal S16x256 .bf16) (x5 : Vec Ideal S512x256 .bf16) (x6 x7 : Vec Ideal S16x256 .bf16) (x8 : Vec Ideal S3x256 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = taps (fun _ => 0) x0 x5 (prod (flagPrev i) x1 x2 x3 x4) := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x256) hz, View.ld_unit_zero (S := S16x256) hz]
  simp only [load_prod _ _ _ _ _ _ _ (show 14 ≤ 16 by decide), load_prod _ _ _ _ _ _ _ (show 15 ≤ 16 by decide), load_prod _ _ _ _ _ _ _ (show 16 ≤ 16 by decide)]
  simp only [old0, old1, old2]
  exact canon_taps _ x0 x5 _ [_]

/-- What a point leaves in the block of the taps' gradient. -/
theorem outB10 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S16x256 .bf16) (harg4 : arg4.IsWhole) (arg5 : Memref sig .tc .vmem S16x256 .bf16) (harg5 : arg5.IsWhole) (arg6 : Memref sig .tc .vmem S512x256 .bf16) (harg6 : arg6.IsWhole) (arg7 : Memref sig .tc .vmem S16x256 .bf16) (harg7 : arg7.IsWhole) (arg8 : Memref sig .tc .vmem S16x256 .bf16) (harg8 : arg8.IsWhole) (arg9 : Memref sig .tc .vmem S3x256 .f32) (harg9 : arg9.IsWhole) (arg10 : Memref sig .tc .vmem S512x768 .bf16) (harg10 : arg10.IsWhole) (arg11 : Memref sig .tc .vmem S3x256 .f32) (harg11 : arg11.IsWhole) (arg12 : Memref sig .tc .vmem S528x256 .f32) (harg12 : arg12.IsWhole) (arg13 : Memref sig .tc .vmem S528x256 .f32) (harg13 : arg13.IsWhole) (hc0 : ¬cond0_0 i) (x0 x1 x2 : Vec Ideal S512x256 .bf16) (x3 x4 : Vec Ideal S16x256 .bf16) (x5 : Vec Ideal S512x256 .bf16) (x6 x7 : Vec Ideal S16x256 .bf16) (x8 : Vec Ideal S3x256 .f32) (xo : Vec Ideal S3x256 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo = taps xo x0 x5 (prod (flagPrev i) x1 x2 x3 x4) := by
  unfold out0_B_10
  rw [View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg11.read_unread, View.ld_unit_zero (S := S512x256) hz, View.ld_unit_zero (S := S16x256) hz]
  simp only [load_prod _ _ _ _ _ _ _ (show 14 ≤ 16 by decide), load_prod _ _ _ _ _ _ _ (show 15 ≤ 16 by decide), load_prod _ _ _ _ _ _ _ (show 16 ≤ 16 by decide)]
  simp only [ld_tap0, ld_tap1, ld_tap2]
  exact canon_taps _ x0 x5 _ []

end Cert.SconvIdeal.Block

end
-- ==== Proof.SconvSpec.lean ====
/-
  The gradients of the short gated convolution `B * conv (C * h)` as functions of the whole arrays: `P` holds the projection
  (columns 512.. the gate `B`, 768.. the gate `C`, 1024.. the value `h`), `D` the cotangent (columns 1024..), `w` the
  three taps. Rows are natural numbers; a row past the array counts as zero.
-/
module

public import proofs.«01_k».proof.Proof.SconvBlock

@[expose] public section

set_option maxRecDepth 16384

noncomputable section

namespace Cert.SconvIdeal.Spec

open Cert.SconvIdeal Cert.SconvIdeal.Block Idealize.ShloMosaic Idealize.ShloMosaic.TcCoe Idealize.SL.Sem

/-- Column `l` of column group `k` of the projection. -/
def pcol (P : Vec Ideal S4096x2432 .bf16) (k : Fin 3) (r : Fin 4096) (l : Fin 256) : EReal :=
  P (ix2 r ⟨512 + 256 * k.val + l.val, by omega⟩)

/-- Column `l` of the cotangent's group. -/
def dcol (D : Vec Ideal S4096x1536 .bf16) (r : Fin 4096) (l : Fin 256) : EReal := D (ix2 r ⟨1024 + l.val, by omega⟩)

/-- Row `n` of the product `C * h`, under two rows of zeros. -/
def up (P : Vec Ideal S4096x2432 .bf16) (n : ℕ) (l : Fin 256) : EReal :=
  if n < 2 then 0 else if h : n - 2 < 4096 then pcol P 1 ⟨n - 2, h⟩ l * pcol P 2 ⟨n - 2, h⟩ l else 0

/-- Row `n` of the gradient `ct * B` of the convolution's result. -/
def gg (P : Vec Ideal S4096x2432 .bf16) (D : Vec Ideal S4096x1536 .bf16) (n : ℕ) (l : Fin 256) : EReal :=
  if h : n < 4096 then dcol D ⟨n, h⟩ l * pcol P 0 ⟨n, h⟩ l else 0

/-- The gradients of `B`, `C` and `h`, side by side. -/
def out (P : Vec Ideal S4096x2432 .bf16) (D : Vec Ideal S4096x1536 .bf16) (w : Vec Ideal S3x256 .f32) : Vec Ideal S4096x768 .bf16 := fun y =>
  if h0 : (y 1).val < 256 then dcol D (y 0) ⟨(y 1).val, h0⟩ * conv w (up P) (y 0).val ⟨(y 1).val, h0⟩
  else if h1 : (y 1).val - 256 < 256 then convT w (gg P D) (y 0).val ⟨(y 1).val - 256, h1⟩ * pcol P 2 (y 0) ⟨(y 1).val - 256, h1⟩
  else if h2 : (y 1).val - 512 < 256 then convT w (gg P D) (y 0).val ⟨(y 1).val - 512, h2⟩ * pcol P 1 (y 0) ⟨(y 1).val - 512, h2⟩
  else 0

/-- The gradient of the taps, summed over the first `n` rows. -/
def dw (P : Vec Ideal S4096x2432 .bf16) (D : Vec Ideal S4096x1536 .bf16) (n : ℕ) : Vec Ideal S3x256 .f32 := fun y =>
  ∑ r ∈ Finset.range n, gg P D r (y 1) * up P (r + (y 0).val) (y 1)

/-- The causal convolution depends only on the three rows it reads. -/
theorem conv_congr (w : Vec Ideal S3x256 .f32) (p q : ℕ → Fin 256 → EReal) (n k : ℕ) (l : Fin 256)
    (h : ∀ j, j < 3 → p (n + j) l = q (k + j) l) : conv w p n l = conv w q k l := by
  have h0 := h 0 (by omega)
  have h1 := h 1 (by omega)
  have h2 := h 2 (by omega)
  unfold conv
  simp only [Nat.add_zero] at h0
  rw [h0, h1, h2]

/-- So does the transposed one. -/
theorem convT_congr (w : Vec Ideal S3x256 .f32) (p q : ℕ → Fin 256 → EReal) (n k : ℕ) (l : Fin 256)
    (h : ∀ j, j < 3 → p (n + j) l = q (k + j) l) : convT w p n l = convT w q k l := by
  have h0 := h 0 (by omega)
  have h1 := h 1 (by omega)
  have h2 := h 2 (by omega)
  unfold convT
  simp only [Nat.add_zero] at h0
  rw [h0, h1, h2]

/-- The first 256 columns of the whole gradient. -/
theorem out_db (P : Vec Ideal S4096x2432 .bf16) (D : Vec Ideal S4096x1536 .bf16) (w : Vec Ideal S3x256 .f32)
    (r : Fin 4096) (y : Fin 768) (l : Fin 256) (hy : y.val = l.val) :
    out P D w (ix2 r y) = dcol D r l * conv w (up P) r.val l := by
  have e : ∀ h, (⟨((ix2 r y : S4096x768.Idx) 1).val, h⟩ : Fin 256) = l := fun h => Fin.ext hy
  unfold out
  rw [dif_pos (show ((ix2 r y : S4096x768.Idx) 1).val < 256 from hy ▸ l.isLt)]
  simp only [e]
  rfl

/-- The middle 256 columns of the whole gradient. -/
theorem out_dc (P : Vec Ideal S4096x2432 .bf16) (D : Vec Ideal S4096x1536 .bf16) (w : Vec Ideal S3x256 .f32)
    (r : Fin 4096) (y : Fin 768) (l : Fin 256) (hy : y.val = 256 + l.val) :
    out P D w (ix2 r y) = convT w (gg P D) r.val l * pcol P 2 r l := by
  have e : ∀ h, (⟨((ix2 r y : S4096x768.Idx) 1).val - 256, h⟩ : Fin 256) = l := fun h => Fin.ext (by show y.val - 256 = _; omega)
  unfold out
  rw [dif_neg (show ¬ ((ix2 r y : S4096x768.Idx) 1).val < 256 from by show ¬ y.val < 256; omega),
    dif_pos (show ((ix2 r y : S4096x768.Idx) 1).val - 256 < 256 from by show y.val - 256 < 256; omega)]
  simp only [e]
  rfl

/-- The last 256 columns of the whole gradient. -/
theorem out_dh (P : Vec Ideal S4096x2432 .bf16) (D : Vec Ideal S4096x1536 .bf16) (w : Vec Ideal S3x256 .f32)
    (r : Fin 4096) (y : Fin 768) (l : Fin 256) (hy : y.val = 512 + l.val) :
    out P D w (ix2 r y) = convT w (gg P D) r.val l * pcol P 1 r l := by
  have e : ∀ h, (⟨((ix2 r y : S4096x768.Idx) 1).val - 512, h⟩ : Fin 256) = l := fun h => Fin.ext (by show y.val - 512 = _; omega)
  unfold out
  rw [dif_neg (show ¬ ((ix2 r y : S4096x768.Idx) 1).val < 256 from by show ¬ y.val < 256; omega),
    dif_neg (show ¬ ((ix2 r y : S4096x768.Idx) 1).val - 256 < 256 from by show ¬ y.val - 256 < 256; omega),
    dif_pos (show ((ix2 r y : S4096x768.Idx) 1).val - 512 < 256 from by show y.val - 512 < 256; omega)]
  simp only [e]
  rfl

/-- One block's rows of the three gradients are the rows of the whole arrays' gradients. -/
theorem rows_eq (P : Vec Ideal S4096x2432 .bf16) (D : Vec Ideal S4096x1536 .bf16) (w : Vec Ideal S3x256 .f32)
    (t : Fin 8) (c h ct : Vec Ideal S512x256 .bf16) (p g : ℕ → Fin 256 → EReal)
    (hc : ∀ r l, c (ix2 r l) = pcol P 1 ⟨512 * t.val + r.val, by omega⟩ l)
    (hh : ∀ r l, h (ix2 r l) = pcol P 2 ⟨512 * t.val + r.val, by omega⟩ l)
    (hct : ∀ r l, ct (ix2 r l) = dcol D ⟨512 * t.val + r.val, by omega⟩ l)
    (hp : ∀ n l, n < 514 → p (14 + n) l = up P (512 * t.val + n) l)
    (hg : ∀ n l, n < 514 → g n l = gg P D (512 * t.val + n) l) (r : Fin 512) (y : Fin 768) (j : Fin 4096)
    (hj : j.val = 512 * t.val + r.val) :
    rows c h ct w p g (ix2 r y) = out P D w (ix2 j y) := by
  have hlt : 512 * t.val + r.val < 4096 := by clear hj; omega
  have ej : (⟨512 * t.val + r.val, hlt⟩ : Fin 4096) = j := Fin.ext hj.symm
  have e1 : ∀ l, conv w p (14 + r.val) l = conv w (up P) (512 * t.val + r.val) l := fun l =>
    conv_congr w _ _ _ _ l fun j hj => by rw [Nat.add_assoc 14, Nat.add_assoc]; exact hp _ _ (by omega)
  have e2 : ∀ l, convT w g r.val l = convT w (gg P D) (512 * t.val + r.val) l := fun l =>
    convT_congr w _ _ _ _ l fun j hj => by rw [Nat.add_assoc]; exact hg _ _ (by omega)
  rw [← hj] at e1 e2
  by_cases h0 : y.val < 256
  · rw [rows_db _ _ _ _ _ _ r y ⟨y.val, h0⟩ rfl, out_db _ _ _ j y ⟨y.val, h0⟩ rfl, hct, ej, e1]
  by_cases h1 : y.val < 512
  · rw [rows_dc _ _ _ _ _ _ r y ⟨y.val - 256, by omega⟩ (by show y.val = 256 + (y.val - 256); omega),
      out_dc _ _ _ j y ⟨y.val - 256, by omega⟩ (by show y.val = 256 + (y.val - 256); omega), hh, ej, e2]
  · rw [rows_dh _ _ _ _ _ _ r y ⟨y.val - 512, by omega⟩ (by show y.val = 512 + (y.val - 512); omega),
      out_dh _ _ _ j y ⟨y.val - 512, by omega⟩ (by show y.val = 512 + (y.val - 512); omega), hc, ej, e2]

/-- The taps' gradient gains one block's rows. -/
theorem taps_eq (P : Vec Ideal S4096x2432 .bf16) (D : Vec Ideal S4096x1536 .bf16)
    (t : Fin 8) (b ct : Vec Ideal S512x256 .bf16) (p : ℕ → Fin 256 → EReal)
    (hb : ∀ r l, b (ix2 r l) = pcol P 0 ⟨512 * t.val + r.val, by omega⟩ l)
    (hct : ∀ r l, ct (ix2 r l) = dcol D ⟨512 * t.val + r.val, by omega⟩ l)
    (hp : ∀ n l, n < 514 → p (14 + n) l = up P (512 * t.val + n) l) :
    taps (dw P D (512 * t.val)) b ct p = dw P D (512 * (t.val + 1)) := by
  funext y
  idx_vars y
  have e : 512 * (t.val + 1) = 512 * t.val + 512 := by omega
  unfold taps dw
  rw [e, Finset.sum_range_add, Finset.sum_range (n := 512)]
  refine congrArg₂ (· + ·) rfl (Finset.sum_congr rfl fun r _ => ?_)
  have hr : 512 * t.val + r.val < 4096 := by omega
  show ct (ix2 r y1) * b (ix2 r y1) * p (14 + y0.val + r.val) y1 = gg P D (512 * t.val + r.val) y1 * up P (512 * t.val + r.val + y0.val) y1
  rw [hb, hct, Nat.add_assoc, hp _ _ (by omega)]
  unfold gg
  rw [dif_pos hr, show 512 * t.val + (y0.val + r.val) = 512 * t.val + r.val + y0.val by omega]

end Cert.SconvIdeal.Spec

end
-- ==== Proof.SconvArray.lean ====
/-
  What the two result arrays of the short convolution's gradient kernel hold after the run: the gradients of `Spec`, as
  functions of the argument arrays. The grid is one axis of eight row blocks.
-/
module

public import proofs.«01_k».proof.Proof.SconvSpec

@[expose] public section

set_option maxRecDepth 16384

noncomputable section

namespace Cert.SconvIdeal.Arr

open Cert.SconvIdeal Cert.SconvIdeal.Gen Cert.SconvIdeal.Block Cert.SconvIdeal.Spec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The projection, the cotangent and the taps as the launch finds them. -/
abbrev aP (c : Dev nD) : Vec Ideal S4096x2432 .bf16 := m ((c : Thread nD τ).loc main_arg0)
/-- The cotangent's array (the columns of all three mixers). -/
abbrev aD (c : Dev nD) : Vec Ideal S4096x1536 .bf16 := m ((c : Thread nD τ).loc main_arg1)
/-- The taps. -/
abbrev aW (c : Dev nD) : Vec Ideal S3x256 .f32 := m ((c : Thread nD τ).loc main_arg2)

/-- A grid point as a number below eight. -/
def pt (t : Fin cfg0.N) : Fin 8 := t.cast N_0

/-- Which block each of the full-size windows holds at each point of the grid. -/
theorem index_big : ∀ t : Fin cfg0.N, (win0_0.index t 0 = t.val ∧ win0_0.index t 1 = 2) ∧ (win0_1.index t 0 = t.val ∧ win0_1.index t 1 = 3)
    ∧ (win0_2.index t 0 = t.val ∧ win0_2.index t 1 = 4) ∧ (win0_5.index t 0 = t.val ∧ win0_5.index t 1 = 4) :=
  (by decide +kernel : ∀ t : Fin grid0.N, (win0_0.index t 0 = t.val ∧ win0_0.index t 1 = 2) ∧ (win0_1.index t 0 = t.val ∧ win0_1.index t 1 = 3)
    ∧ (win0_2.index t 0 = t.val ∧ win0_2.index t 1 = 4) ∧ (win0_5.index t 0 = t.val ∧ win0_5.index t 1 = 4))

/-- Which block each of the sixteen-row windows holds at each point of the grid. -/
theorem index_halo : ∀ t : Fin cfg0.N, (win0_3.index t 0 = 32 * t.val - 1 ∧ win0_3.index t 1 = 3) ∧ (win0_4.index t 0 = 32 * t.val - 1 ∧ win0_4.index t 1 = 4)
    ∧ (win0_6.index t 0 = min (32 * (t.val + 1)) 255 ∧ win0_6.index t 1 = 4) ∧ (win0_7.index t 0 = min (32 * (t.val + 1)) 255 ∧ win0_7.index t 1 = 2) :=
  (by decide +kernel : ∀ t : Fin grid0.N, (win0_3.index t 0 = 32 * t.val - 1 ∧ win0_3.index t 1 = 3) ∧ (win0_4.index t 0 = 32 * t.val - 1 ∧ win0_4.index t 1 = 4)
    ∧ (win0_6.index t 0 = min (32 * (t.val + 1)) 255 ∧ win0_6.index t 1 = 4) ∧ (win0_7.index t 0 = min (32 * (t.val + 1)) 255 ∧ win0_7.index t 1 = 2))

/-- The block of the gate `B` at a point, read off the projection. -/
theorem blk0 (c : Dev nD) (t : Fin cfg0.N) (r : Fin 512) (l : Fin 256) :
    X0_0 m c t (ix2 r l) = pcol (aP m c) 0 ⟨512 * (pt t).val + r.val, by omega⟩ l := by
  unfold X0_0 Pipeline.Window.fill
  rw [dif_pos (moved0_0 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_big t).1
  match a with
  | ⟨0, _⟩ => show win0_0.index t 0 * 512 + 1 * r.val = 512 * t.val + r.val; rw [h.1]; omega
  | ⟨1, _⟩ => show win0_0.index t 1 * 256 + 1 * l.val = 512 + 256 * 0 + l.val; rw [h.2]; omega

/-- The block of the gate `C` at a point, read off the projection. -/
theorem blk1 (c : Dev nD) (t : Fin cfg0.N) (r : Fin 512) (l : Fin 256) :
    X0_1 m c t (ix2 r l) = pcol (aP m c) 1 ⟨512 * (pt t).val + r.val, by omega⟩ l := by
  unfold X0_1 Pipeline.Window.fill
  rw [dif_pos (moved0_1 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_big t).2.1
  match a with
  | ⟨0, _⟩ => show win0_1.index t 0 * 512 + 1 * r.val = 512 * t.val + r.val; rw [h.1]; omega
  | ⟨1, _⟩ => show win0_1.index t 1 * 256 + 1 * l.val = 512 + 256 * 1 + l.val; rw [h.2]; omega

/-- The block of the value `h` at a point, read off the projection. -/
theorem blk2 (c : Dev nD) (t : Fin cfg0.N) (r : Fin 512) (l : Fin 256) :
    X0_2 m c t (ix2 r l) = pcol (aP m c) 2 ⟨512 * (pt t).val + r.val, by omega⟩ l := by
  unfold X0_2 Pipeline.Window.fill
  rw [dif_pos (moved0_2 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_big t).2.2.1
  match a with
  | ⟨0, _⟩ => show win0_2.index t 0 * 512 + 1 * r.val = 512 * t.val + r.val; rw [h.1]; omega
  | ⟨1, _⟩ => show win0_2.index t 1 * 256 + 1 * l.val = 512 + 256 * 2 + l.val; rw [h.2]; omega

/-- The block of the cotangent at a point. -/
theorem blk5 (c : Dev nD) (t : Fin cfg0.N) (r : Fin 512) (l : Fin 256) :
    (iblk m c 5 t : Vec Ideal S512x256 .bf16) (ix2 r l) = dcol (aD m c) ⟨512 * (pt t).val + r.val, by omega⟩ l := by
  unfold iblk
  rw [View.read_apply]
  show V m c main_arg1 _ = (m ((c : Thread nD τ).loc main_arg1) : Vec Ideal S4096x1536 .bf16) _
  rw [V_main_arg1]
  refine congrArg _ (funext fun a => Fin.ext ?_)
  have h := (index_big t).2.2.2
  match a with
  | ⟨0, _⟩ => show win0_5.index t 0 * 512 + 1 * r.val = 512 * t.val + r.val; rw [h.1]; omega
  | ⟨1, _⟩ => show win0_5.index t 1 * 256 + 1 * l.val = 1024 + l.val; rw [h.2]; omega

/-- The whole taps at every point. -/
theorem blk8 (c : Dev nD) (t : Fin cfg0.N) : (iblk m c 8 t : Vec Ideal S3x256 .f32) = aW m c := by
  unfold iblk
  have h : ∀ t : Fin cfg0.N, win0_8.index t 0 = 0 ∧ win0_8.index t 1 = 0 :=
    (by decide +kernel : ∀ t : Fin grid0.N, win0_8.index t 0 = 0 ∧ win0_8.index t 1 = 0)
  funext j
  rw [View.read_apply]
  show V m c main_arg2 _ = (m ((c : Thread nD τ).loc main_arg2) : Vec Ideal S3x256 .f32) _
  rw [V_main_arg2]
  refine congrArg _ (funext fun a => Fin.ext ?_)
  match a with
  | ⟨0, _⟩ => show win0_8.index t 0 * 3 + 1 * (j 0).val = (j 0).val; rw [(h t).1]; omega
  | ⟨1, _⟩ => show win0_8.index t 1 * 256 + 1 * (j 1).val = (j 1).val; rw [(h t).2]; omega

/-- The sixteen rows of the gate `C` before a point's block. -/
theorem blk3 (c : Dev nD) (t : Fin cfg0.N) (r : Fin 16) (l : Fin 256) (j : Fin 4096) (hj : j.val = 16 * (32 * t.val - 1) + r.val) :
    X0_3 m c t (ix2 r l) = pcol (aP m c) 1 j l := by
  unfold X0_3 Pipeline.Window.fill
  rw [dif_pos (moved0_3 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_halo t).1
  match a with
  | ⟨0, _⟩ => show win0_3.index t 0 * 16 + 1 * r.val = j.val; rw [h.1, hj]; omega
  | ⟨1, _⟩ => show win0_3.index t 1 * 256 + 1 * l.val = 512 + 256 * 1 + l.val; rw [h.2]; omega

/-- The sixteen rows of the value `h` before a point's block. -/
theorem blk4 (c : Dev nD) (t : Fin cfg0.N) (r : Fin 16) (l : Fin 256) (j : Fin 4096) (hj : j.val = 16 * (32 * t.val - 1) + r.val) :
    X0_4 m c t (ix2 r l) = pcol (aP m c) 2 j l := by
  unfold X0_4 Pipeline.Window.fill
  rw [dif_pos (moved0_4 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_halo t).2.1
  match a with
  | ⟨0, _⟩ => show win0_4.index t 0 * 16 + 1 * r.val = j.val; rw [h.1, hj]; omega
  | ⟨1, _⟩ => show win0_4.index t 1 * 256 + 1 * l.val = 512 + 256 * 2 + l.val; rw [h.2]; omega

/-- The sixteen rows of the cotangent after a point's block. -/
theorem blk6 (c : Dev nD) (t : Fin cfg0.N) (r : Fin 16) (l : Fin 256) (j : Fin 4096) (hj : j.val = 16 * min (32 * (t.val + 1)) 255 + r.val) :
    (iblk m c 6 t : Vec Ideal S16x256 .bf16) (ix2 r l) = dcol (aD m c) j l := by
  unfold iblk
  rw [View.read_apply]
  show V m c main_arg1 _ = (m ((c : Thread nD τ).loc main_arg1) : Vec Ideal S4096x1536 .bf16) _
  rw [V_main_arg1]
  refine congrArg _ (funext fun a => Fin.ext ?_)
  have h := (index_halo t).2.2.1
  match a with
  | ⟨0, _⟩ => show win0_6.index t 0 * 16 + 1 * r.val = j.val; rw [h.1, hj]; omega
  | ⟨1, _⟩ => show win0_6.index t 1 * 256 + 1 * l.val = 1024 + l.val; rw [h.2]; omega

/-- The sixteen rows of the gate `B` after a point's block. -/
theorem blk7 (c : Dev nD) (t : Fin cfg0.N) (r : Fin 16) (l : Fin 256) (j : Fin 4096) (hj : j.val = 16 * min (32 * (t.val + 1)) 255 + r.val) :
    X0_7 m c t (ix2 r l) = pcol (aP m c) 0 j l := by
  unfold X0_7 Pipeline.Window.fill
  rw [dif_pos (moved0_7 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_halo t).2.2.2
  match a with
  | ⟨0, _⟩ => show win0_7.index t 0 * 16 + 1 * r.val = j.val; rw [h.1, hj]; omega
  | ⟨1, _⟩ => show win0_7.index t 1 * 256 + 1 * l.val = 512 + 256 * 0 + l.val; rw [h.2]; omega

/-- The factor of the rows before a block: zero at the first block, one after it. -/
theorem flagPrev_eq (t : Fin cfg0.N) : flagPrev (grid0.coords t) = if t.val = 0 then 0 else 1 := by
  have h : ∀ t : Fin grid0.N, (Scalar.extui (Scalar.cmpi .sgt (BitVec.ofNat 32 (grid0.coords t 0).val) 0#32) : BitVec 32) = if t.val = 0 then 0#32 else 1#32 := by
    decide +kernel
  unfold flagPrev
  rw [h t]
  split
  · pointwise
    rw [show (0#32 : BitVec 32).toInt = 0 from rfl]; simp
  · pointwise
    rw [show (1#32 : BitVec 32).toInt = 1 from rfl]; simp

/-- The factor of the rows after a block: zero at the last block, one before it. -/
theorem flagNext_eq (t : Fin cfg0.N) : flagNext (grid0.coords t) = if t.val = 7 then 0 else 1 := by
  have h : ∀ t : Fin grid0.N, (Scalar.extui (Scalar.cmpi .slt (BitVec.ofNat 32 (grid0.coords t 0).val) 7#32) : BitVec 32) = if t.val = 7 then 0#32 else 1#32 := by
    decide +kernel
  unfold flagNext
  rw [h t]
  split
  · pointwise
    rw [show (0#32 : BitVec 32).toInt = 0 from rfl]; simp
  · pointwise
    rw [show (1#32 : BitVec 32).toInt = 1 from rfl]; simp

/-- The first scratch buffer's rows from the fourteenth are the product's rows, two zeros first. -/
theorem prod_eq (c : Dev nD) (t : Fin cfg0.N) (n : ℕ) (l : Fin 256) (hn : n < 514) :
    prod (flagPrev (grid0.coords t)) (X0_1 m c t) (X0_2 m c t) (X0_3 m c t) (X0_4 m c t) (14 + n) l = up (aP m c) (512 * (pt t).val + n) l := by
  have ht : t.val < 8 := (pt t).isLt
  have hp : (pt t).val = t.val := rfl
  rw [flagPrev_eq]
  unfold prod up
  by_cases h : 14 + n < 16
  · rw [dif_pos h]
    by_cases h0 : t.val = 0
    · rw [if_pos h0, if_pos (by omega), mul_zero]
    · rw [if_neg h0, if_neg (by omega), dif_pos (by omega), mul_one,
        blk3 m c t _ l ⟨512 * (pt t).val + n - 2, by omega⟩ (by show 512 * (pt t).val + n - 2 = 16 * (32 * t.val - 1) + (14 + n); omega),
        blk4 m c t _ l ⟨512 * (pt t).val + n - 2, by omega⟩ (by show 512 * (pt t).val + n - 2 = 16 * (32 * t.val - 1) + (14 + n); omega)]
  · rw [dif_neg h, dif_pos (by omega), if_neg (by omega), dif_pos (by omega), blk1, blk2]
    have e : (⟨512 * (pt t).val + (14 + n - 16), by omega⟩ : Fin 4096) = ⟨512 * (pt t).val + n - 2, by omega⟩ := Fin.ext (by show 512 * (pt t).val + (14 + n - 16) = 512 * (pt t).val + n - 2; omega)
    rw [e]

/-- The second scratch buffer's rows are the gradient's rows. -/
theorem grad_eq (c : Dev nD) (t : Fin cfg0.N) (n : ℕ) (l : Fin 256) (hn : n < 514) :
    grad (flagNext (grid0.coords t)) (X0_0 m c t) (iblk m c 5 t) (iblk m c 6 t) (X0_7 m c t) n l = gg (aP m c) (aD m c) (512 * (pt t).val + n) l := by
  have ht : t.val < 8 := (pt t).isLt
  have hp : (pt t).val = t.val := rfl
  rw [flagNext_eq]
  unfold grad gg
  by_cases h : n < 512
  · rw [dif_pos h, dif_pos (by omega), blk0]
    exact congrArg (· * _) (blk5 m c t _ l)
  · rw [dif_neg h, dif_pos (by omega)]
    by_cases h7 : t.val = 7
    · rw [if_pos h7, dif_neg (by omega), mul_zero]
    · rw [if_neg h7, dif_pos (by omega), mul_one,
        blk7 m c t _ l ⟨512 * (pt t).val + n, by omega⟩ (by show 512 * (pt t).val + n = 16 * min (32 * (t.val + 1)) 255 + (n - 512); omega)]
      exact congrArg (· * _) (blk6 m c t _ l ⟨512 * (pt t).val + n, by omega⟩ (by show 512 * (pt t).val + n = 16 * min (32 * (t.val + 1)) 255 + (n - 512); omega))

/-- The output block of the three gradients after a point, by row and column. -/
theorem outs_fst (c : Dev nD) (t : Fin cfg0.N) (r : Fin 512) (y : Fin 768) (j : Fin 4096) (hj : j.val = 512 * (pt t).val + r.val) :
    (outsAt0 m c t.val t.isLt).1 (ix2 r y) = out (aP m c) (aD m c) (aW m c) (ix2 j y) := by
  have key := rows_eq (aP m c) (aD m c) (aW m c) (pt t) (X0_1 m c t) (X0_2 m c t) (iblk m c 5 t)
    (prod (flagPrev (grid0.coords t)) (X0_1 m c t) (X0_2 m c t) (X0_3 m c t) (X0_4 m c t))
    (grad (flagNext (grid0.coords t)) (X0_0 m c t) (iblk m c 5 t) (iblk m c 6 t) (X0_7 m c t))
    (blk1 m c t) (blk2 m c t) (blk5 m c t) (prod_eq m c t) (grad_eq m c t) r y j hj
  by_cases h0 : t.val % 8 = 0
  · rw [outsAt0_A m c t h0, outA9, blk8]
    exact key
  · rw [outsAt0_B m c t h0, outB9, blk8]
    exact key

/-- The block of the taps' gradient after a point: the sum over the rows so far. -/
theorem outs_snd (c : Dev nD) : ∀ (n : ℕ) (h : n < cfg0.N), (outsAt0 m c n h).2 = dw (aP m c) (aD m c) (512 * (n + 1))
  | 0, h => by
    have e := outsAt0_A m c ⟨0, h⟩ rfl
    have key := taps_eq (aP m c) (aD m c) (pt ⟨0, h⟩) (X0_0 m c ⟨0, h⟩) (iblk m c 5 ⟨0, h⟩) _
      (blk0 m c ⟨0, h⟩) (blk5 m c ⟨0, h⟩) (prod_eq m c ⟨0, h⟩)
    refine (congrArg Prod.snd e).trans (Eq.trans ?_ key)
    rw [outA10]
    refine congrArg (fun o => taps o _ _ _) (funext fun y => ?_)
    show (0 : EReal) = ∑ r ∈ Finset.range 0, _
    rw [Finset.sum_range_zero]
  | n + 1, h => by
    have hN : cfg0.N = 8 := N_0
    have h8 : ¬ (n + 1) % 8 = 0 := by omega
    have e := outsAt0_B m c ⟨n + 1, h⟩ h8
    have key := taps_eq (aP m c) (aD m c) (pt ⟨n + 1, h⟩) (X0_0 m c ⟨n + 1, h⟩) (iblk m c 5 ⟨n + 1, h⟩) _
      (blk0 m c ⟨n + 1, h⟩) (blk5 m c ⟨n + 1, h⟩) (prod_eq m c ⟨n + 1, h⟩)
    refine (congrArg Prod.snd e).trans (Eq.trans ?_ key)
    rw [outB10]
    exact congrArg (fun o => taps o _ _ _) (outs_snd c n _)

/-- What each point writes back is its block of the gradients' array. -/
theorem flushed_out (c : Dev nD) (t : Fin cfg0.N) (hf : (cfg0.win 9).flush t = true) :
    (dats m 0 c).flushed 9 t = ((cfg0.win 9).blk t).view.read (Elt Ideal) (out (aP m c) (aD m c) (aW m c)) := by
  have hi : ∀ t : Fin cfg0.N, win0_9.index t 0 = t.val ∧ win0_9.index t 1 = 0 :=
    (by decide +kernel : ∀ t : Fin grid0.N, win0_9.index t 0 = t.val ∧ win0_9.index t 1 = 0)
  rw [Cert.SconvIdeal.Value.flushed9]
  funext x
  rw [View.read_apply]
  have ht : t.val < 8 := (pt t).isLt
  have h0 : (x 0).val < 512 := (x 0).isLt
  have h1 : (x 1).val < 768 := (x 1).isLt
  have e := outs_fst m c t ⟨(x 0).val, h0⟩ ⟨(x 1).val, h1⟩ ⟨512 * (pt t).val + (x 0).val, by have : (pt t).val = t.val := rfl; omega⟩ rfl
  refine Eq.trans (congrArg (outsAt0 m c t.val t.isLt).1 ?_) (e.trans (congrArg (out (aP m c) (aD m c) (aW m c)) ?_))
  · exact eq_ix2 _
  · refine funext fun a => Fin.ext ?_
    match a with
    | ⟨0, _⟩ => show 512 * t.val + (x 0).val = win0_9.index t 0 * 512 + 1 * (x 0).val; rw [(hi t).1]; omega
    | ⟨1, _⟩ => show (x 1).val = win0_9.index t 1 * 768 + 1 * (x 1).val; rw [(hi t).2]; omega

/-- The gradients' array after the run. -/
theorem final_out (c : Dev nD) : (dats m 0 c).arrAt 9 cfg0.N = out (aP m c) (aD m c) (aW m c) :=
  (dats m 0 c).arrAt_eq_of_cover 9 (out (aP m c) (aD m c) (aW m c)) (flushed_out m c) fun i => by
    have h0 : (i 0 : Nat) < 4096 := (i 0).isLt
    have h1 : (i 1 : Nat) < 768 := (i 1).isLt
    have hN : cfg0.N = 8 := N_0
    let t : Fin cfg0.N := ⟨(i 0 : Nat) / 512, by omega⟩
    have hi : ∀ t : Fin cfg0.N, win0_9.index t 0 * win0_9.size 0 = 512 * t.val ∧ win0_9.index t 1 * win0_9.size 1 = 0 ∧ win0_9.xsize (grid0.coords t) 0 = 512 ∧ win0_9.xsize (grid0.coords t) 1 = 768 :=
      (by decide +kernel : ∀ t : Fin grid0.N, win0_9.index t 0 * win0_9.size 0 = 512 * t.val ∧ win0_9.index t 1 * win0_9.size 1 = 0 ∧ win0_9.xsize (grid0.coords t) 0 = 512 ∧ win0_9.xsize (grid0.coords t) 1 = 768)
    refine ⟨t, flush0_9 t, ?_⟩
    show i ∈ ((View.whole main_v0_0).slice (win0_9.rect t)).set
    rw [View.set_slice_whole, Rect.mem_set_unit]
    intro a
    have ht : t.val = (i 0 : Nat) / 512 := rfl
    match a with
    | ⟨0, _⟩ => show win0_9.index t 0 * win0_9.size 0 ≤ (i 0 : Nat) ∧ (i 0 : Nat) < win0_9.index t 0 * win0_9.size 0 + win0_9.xsize (grid0.coords t) 0
                rw [(hi t).1, (hi t).2.2.1]; omega
    | ⟨1, _⟩ => show win0_9.index t 1 * win0_9.size 1 ≤ (i 1 : Nat) ∧ (i 1 : Nat) < win0_9.index t 1 * win0_9.size 1 + win0_9.xsize (grid0.coords t) 1
                rw [(hi t).2.1, (hi t).2.2.2]; omega

/-- The last point writes the taps' gradient back. -/
theorem flushed_dw (c : Dev nD) (t : Fin cfg0.N) (hf : (cfg0.win 10).flush t = true) :
    (dats m 0 c).flushed 10 t = ((cfg0.win 10).blk t).view.read (Elt Ideal) (dw (aP m c) (aD m c) 4096) := by
  have h7 : t.val % 8 = 7 := (flush0_10 t).mp hf
  have ht : t.val < 8 := (pt t).isLt
  have hi : ∀ t : Fin cfg0.N, win0_10.index t 0 = 0 ∧ win0_10.index t 1 = 0 :=
    (by decide +kernel : ∀ t : Fin grid0.N, win0_10.index t 0 = 0 ∧ win0_10.index t 1 = 0)
  rw [Cert.SconvIdeal.Value.flushed10]
  funext x
  rw [View.read_apply]
  refine Eq.trans (congrFun (outs_snd m c t.val t.isLt) _) ?_
  rw [show 512 * (t.val + 1) = 4096 by omega]
  refine congrArg (dw (aP m c) (aD m c) 4096) (funext fun a => Fin.ext ?_)
  match a with
  | ⟨0, _⟩ => show (x 0).val = win0_10.index t 0 * 3 + 1 * (x 0).val; rw [(hi t).1]; omega
  | ⟨1, _⟩ => show (x 1).val = win0_10.index t 1 * 256 + 1 * (x 1).val; rw [(hi t).2]; omega

/-- The taps' gradient after the run. -/
theorem final_dw (c : Dev nD) : (dats m 0 c).arrAt 10 cfg0.N = dw (aP m c) (aD m c) 4096 :=
  (dats m 0 c).arrAt_eq_of_cover 10 (dw (aP m c) (aD m c) 4096) (flushed_dw m c) fun i => by
    have h0 : (i 0 : Nat) < 3 := (i 0).isLt
    have h1 : (i 1 : Nat) < 256 := (i 1).isLt
    have hN : cfg0.N = 8 := N_0
    let t : Fin cfg0.N := ⟨7, by omega⟩
    have hi : ∀ t : Fin cfg0.N, win0_10.index t 0 * win0_10.size 0 = 0 ∧ win0_10.index t 1 * win0_10.size 1 = 0 ∧ win0_10.xsize (grid0.coords t) 0 = 3 ∧ win0_10.xsize (grid0.coords t) 1 = 256 :=
      (by decide +kernel : ∀ t : Fin grid0.N, win0_10.index t 0 * win0_10.size 0 = 0 ∧ win0_10.index t 1 * win0_10.size 1 = 0 ∧ win0_10.xsize (grid0.coords t) 0 = 3 ∧ win0_10.xsize (grid0.coords t) 1 = 256)
    refine ⟨t, (flush0_10 t).mpr rfl, ?_⟩
    show i ∈ ((View.whole main_v0_1).slice (win0_10.rect t)).set
    rw [View.set_slice_whole, Rect.mem_set_unit]
    intro a
    match a with
    | ⟨0, _⟩ => show win0_10.index t 0 * win0_10.size 0 ≤ (i 0 : Nat) ∧ (i 0 : Nat) < win0_10.index t 0 * win0_10.size 0 + win0_10.xsize (grid0.coords t) 0
                rw [(hi t).1, (hi t).2.2.1]; omega
    | ⟨1, _⟩ => show win0_10.index t 1 * win0_10.size 1 ≤ (i 1 : Nat) ∧ (i 1 : Nat) < win0_10.index t 1 * win0_10.size 1 + win0_10.xsize (grid0.coords t) 1
                rw [(hi t).2.1, (hi t).2.2.2]; omega

/-- The run, read: both results at the gradients, the arguments unchanged. -/
theorem run : θ_run defs (onTc (τ := τ) (main (F := Ideal))) ⟨m, fun _ => 0, ρ⟩ fun r => ∀ c : Dev nD,
      r.2.mem ((c : Thread nD τ).loc main_v0_0) = out (aP m c) (aD m c) (aW m c)
      ∧ r.2.mem ((c : Thread nD τ).loc main_v0_1) = dw (aP m c) (aD m c) 4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_out m c), (h c).2.1.trans (final_dw m c), (h c).2.2⟩)
    (Cert.SconvIdeal.Value.run_blocks m ρ)

end Cert.SconvIdeal.Arr

end
-- ==== Proof.SconvRef.lean ====
/-
  What the reference's two results hold, element by element: the derivative of the gated short convolution as the
  differentiation writes it.
-/
module

public import proofs.«01_k».proof.Proof.SconvSpec
public import proofs.«01_k».proof.Proof.Gen.SconvRefIdeal.Run
public import proofs.«01_k».proof.Proof.Gen.SconvRefIdeal.Read

@[expose] public section

set_option maxRecDepth 16384

noncomputable section

namespace Cert.SconvRefIdeal.Eq

open Cert.SconvRefIdeal Cert.SconvRefIdeal.Gen Cert.SconvRefIdeal.Read Idealize.ShloMosaic Idealize.ShloMosaic.TcCoe Idealize.SL.Sem
open Cert.SconvIdeal.Spec (pcol dcol up gg out dw out_db out_dc out_dh)
open Cert.SconvIdeal.Block (conv convT)

variable (P : Vec Ideal S4096x2432 .bf16) (D : Vec Ideal S4096x1536 .bf16) (w : Vec Ideal S3x256 .f32)

/-- The reference's output gate is the first column group. -/
theorem gate_b (r : Fin 4096) (l : Fin 256) : val_main_v1 (F := Ideal) P (ix2 r l) = pcol P 0 r l := by
  pointwise [val_main_v1, val_main_v0, pcol]

/-- Its input gate is the second. -/
theorem gate_c (r : Fin 4096) (l : Fin 256) : val_main_v3 (F := Ideal) P (ix2 r l) = pcol P 1 r l := by
  pointwise [val_main_v3, val_main_v2, pcol]

/-- Its value is the third. -/
theorem value_h (r : Fin 4096) (l : Fin 256) : val_main_v5 (F := Ideal) P (ix2 r l) = pcol P 2 r l := by
  pointwise [val_main_v5, val_main_v4, pcol]

/-- Its cotangent is the short convolution's columns of the array. -/
theorem cotangent (r : Fin 4096) (l : Fin 256) : val_main_v7 (F := Ideal) D (ix2 r l) = dcol D r l := by
  pointwise [val_main_v7, val_main_v6, dcol]

/-- The product under two rows of zeros. -/
theorem padded (n : Fin 4098) (l : Fin 256) : val_main_v10 (F := Ideal) P (ix2 n l) = up P n.val l := by
  pointwise [val_main_v10, val_main_v9, val_main_v8, val_main_cst]
  unfold up
  by_cases h : n.val < 2
  · rw [dif_pos h, if_pos h]
  · rw [dif_neg h, if_neg h, dif_pos (show n.val - 2 < 4096 by omega), gate_c, value_h]

/-- The product's rows, shifted by none, one and two. -/
theorem shift0 (r : Fin 4096) (l : Fin 256) : val_main_v12 (F := Ideal) P (ix2 r l) = up P r.val l := by
  pointwise [val_main_v12]
  rw [padded]

/-- The padded product from its second row on. -/
theorem shift1 (r : Fin 4096) (l : Fin 256) : val_main_v18 (F := Ideal) P (ix2 r l) = up P (r.val + 1) l := by
  pointwise [val_main_v18]
  rw [padded]
  exact congrArg (fun n => up P n l) (Nat.add_comm _ _)

/-- The padded product from its third row on. -/
theorem shift2 (r : Fin 4096) (l : Fin 256) : val_main_v25 (F := Ideal) P (ix2 r l) = up P (r.val + 2) l := by
  pointwise [val_main_v25]
  rw [padded]
  exact congrArg (fun n => up P n l) (Nat.add_comm _ _)

/-- The gradient of the convolution's result. -/
theorem gradient (r : Fin 4096) (l : Fin 256) : val_main_v33 (F := Ideal) P D (ix2 r l) = gg P D r.val l := by
  pointwise [val_main_v33]
  unfold gg
  rw [dif_pos r.isLt, gate_b, cotangent]
  exact mul_comm _ _

/-- The convolution. -/
theorem convolved (r : Fin 4096) (l : Fin 256) : val_main_v31 (F := Ideal) P w (ix2 r l) = conv w (up P) r.val l := by
  pointwise [val_main_v31, val_main_v30, val_main_v29, val_main_v28, val_main_v27, val_main_v26, val_main_v24, val_main_v23, val_main_v22,
    val_main_v21, val_main_v20, val_main_v19, val_main_v17, val_main_v16, val_main_v15, val_main_v14, val_main_v13]
  rw [shift0, shift1, shift2]
  unfold conv
  rw [mul_comm (up P r.val l), mul_comm (up P (r.val + 1) l), mul_comm (up P (r.val + 2) l)]

/-- The transposed convolution: the three scaled copies of the gradient, moved down by two, one and no rows, without the first two rows. -/
theorem transposed (r : Fin 4096) (l : Fin 256) : val_main_v67 (F := Ideal) P D w (ix2 r l) = convT w (gg P D) r.val l := by
  pointwise [val_main_v67, val_main_v65, val_main_v64, val_main_v54, val_main_v43, val_main_v53, val_main_v39, val_main_v48, val_main_v59,
    val_main_v38, val_main_v47, val_main_v58, val_main_v28, val_main_v27, val_main_v26, val_main_v21, val_main_v20, val_main_v19,
    val_main_v15, val_main_v14, val_main_v13, val_main_cst_8, val_main_cst_12]
  rw [gradient]
  have e1 : (if h : 1 ≤ 2 + r.val ∧ 2 + r.val - 1 < 4096 then val_main_v33 (F := Ideal) P D (ix2 ⟨2 + r.val - 1, h.2⟩ l) * w (ix2 1 l) else 0) = gg P D (r.val + 1) l * w (ix2 1 l) := by
    by_cases h : r.val + 1 < 4096
    · rw [dif_pos ⟨by omega, by omega⟩, gradient]
      exact congrArg (fun n => gg P D n l * _) (by show 2 + r.val - 1 = r.val + 1; omega)
    · rw [dif_neg (by omega)]
      unfold gg
      rw [dif_neg h, zero_mul]
  have e2 : (if h : 2 + r.val < 4096 then val_main_v33 (F := Ideal) P D (ix2 ⟨2 + r.val, h⟩ l) * w (ix2 0 l) else 0) = gg P D (r.val + 2) l * w (ix2 0 l) := by
    by_cases h : r.val + 2 < 4096
    · rw [dif_pos (by omega), gradient]
      exact congrArg (fun n => gg P D n l * _) (by show 2 + r.val = r.val + 2; omega)
    · rw [dif_neg (by omega)]
      unfold gg
      rw [dif_neg h, zero_mul]
  unfold convT
  refine (congrArg₂ (· + ·) (congrArg₂ (· + ·) rfl e1) e2).trans ?_
  simp only [mul_comm (w _)]
  ac_rfl

/-- The taps' gradient. -/
theorem dw_eq : val_main_v63 (F := Ideal) P D = dw P D 4096 := by
  funext y
  idx_vars y
  have hs : ∀ k : ℕ, (∑ r ∈ Finset.range 4096, gg P D r y1 * up P (r + k) y1) = ∑ r : Fin 4096, gg P D r.val y1 * up P (r.val + k) y1 := fun k =>
    Finset.sum_range _
  have hd : dw P D 4096 (ix2 y0 y1) = ∑ r : Fin 4096, gg P D r.val y1 * up P (r.val + y0.val) y1 := hs y0.val
  rw [hd]
  pointwise [val_main_v63, val_main_v62, val_main_v52, val_main_v42, val_main_v51, val_main_v41, val_main_v50, val_main_v61, val_main_v40, val_main_v49, val_main_v60,
    val_main_v37, val_main_v46, val_main_v57, val_main_v36, val_main_v45, val_main_v56, val_main_cst_1, val_main_cst_2, val_main_cst_3, val_main_cst_5,
    val_main_cst_6, val_main_cst_7, val_main_cst_9, val_main_cst_10, val_main_cst_11, val_main_v35, val_main_v44, val_main_v55]
  simp only [shift0, shift1, shift2, gradient]
  fin_cases y0 <;> simp [mul_comm]

/-- The three gradients side by side. -/
theorem out_eq : val_main_v71 (F := Ideal) P D w = out P D w := by
  funext i
  idx_vars i
  pointwise [val_main_v71, val_main_v70]
  by_cases h0 : i1.val < 256
  · rw [dif_pos h0, out_db P D w i0 i1 ⟨i1.val, h0⟩ rfl]
    pointwise [val_main_v34]
    rw [cotangent, convolved]
  by_cases h1 : i1.val - 256 < 256
  · rw [dif_neg h0, dif_pos h1, out_dc P D w i0 i1 ⟨i1.val - 256, h1⟩ (by show i1.val = 256 + (i1.val - 256); omega)]
    pointwise [val_main_v69]
    rw [transposed, value_h]
  · rw [dif_neg h0, dif_neg h1, out_dh P D w i0 i1 ⟨i1.val - 256 - 256, by omega⟩ (by show i1.val = 512 + (i1.val - 256 - 256); omega)]
    pointwise [val_main_v68]
    rw [gate_c, transposed]
    exact mul_comm _ _

end Cert.SconvRefIdeal.Eq

end
-- ==== Proof.SconvClaims.lean ====
/-
  The claims about the short convolution's gradient, assembled.
-/
module

public import proofs.«01_k».proof.Defs
public import proofs.«01_k».proof.Proof.SconvArray
public import proofs.«01_k».proof.Proof.SconvRef
public import proofs.«01_k».proof.Proof.Gen.Sconv.Frame

@[expose] public section

noncomputable section

namespace Cert.SconvClaims

open Idealize.ShloMosaic Idealize.SL.Sem

instance : Cert.Sconv.Facts := Cert.Sconv.Gen.facts
instance : Cert.SconvIdeal.Facts := Cert.SconvIdeal.Gen.facts
instance : Cert.SconvRefIdeal.Facts := Cert.SconvRefIdeal.Gen.facts

/-- The kernel's program ends, faultless, its arguments unchanged, every semaphore at zero. -/
theorem frame_kernel : Cert.quiescent_Sconv := fun m ρ _ => Cert.Sconv.Gen.frame m ρ

/-- The same of the kernel over the extended reals. -/
theorem frame_ideal : Cert.quiescent_SconvIdeal := fun m ρ _ => Cert.SconvIdeal.Gen.frame m ρ

/-- The reference ends, faultless, its arguments unchanged, every semaphore at zero. -/
theorem frame_ref : Cert.quiescent_SconvRefIdeal := fun m ρ _ =>
  (θ_run Cert.SconvRefIdeal.defs _ _).mono (fun r h => ⟨fun c => (h c).2.2, sem_eq_zero_of_no_sems (by decide) r.2⟩)
    (Cert.SconvRefIdeal.Value.run m ρ)

/-- Kernel and reference end with the same two gradients. -/
theorem algebraic : Cert.algebraic_SconvIdeal_SconvRefIdeal := fun m ρ m' ρ' _ hag =>
  ⟨fun c => Cert.SconvIdeal.Spec.out (Cert.SconvIdeal.Arr.aP m c) (Cert.SconvIdeal.Arr.aD m c) (Cert.SconvIdeal.Arr.aW m c),
    fun c => Cert.SconvIdeal.Spec.dw (Cert.SconvIdeal.Arr.aP m c) (Cert.SconvIdeal.Arr.aD m c) 4096,
    Cert.SconvIdeal.Arr.run m ρ,
    (θ_run _ _ _).mono (fun r h c => by
      obtain ⟨h0, h1, h2⟩ := h c
      obtain ⟨e0, e1, e2⟩ := hag c
      refine ⟨h0.trans ((Cert.SconvRefIdeal.Read.val_main_v71_eq m' c).trans ?_), h1.trans ((Cert.SconvRefIdeal.Read.val_main_v63_eq _ _).trans ?_), h2⟩
      · rw [e0, e1, e2]; exact Cert.SconvRefIdeal.Eq.out_eq _ _ _
      · rw [e0, e1]; exact Cert.SconvRefIdeal.Eq.dw_eq _ _) (Cert.SconvRefIdeal.Value.run m' ρ')⟩

end Cert.SconvClaims

end
-- ==== Proof.DactArray.lean ====
/-
  The gradient of the activation, the product with the transposed down-projection's weights:
  what one grid point computes, and what the result array holds after the run.
-/
module

public import proofs.«01_k».proof.Proof.Gen.DactIdeal.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.DactIdeal.Arr

open Cert.DactIdeal Cert.DactIdeal.Gen Idealize.ShloMosaic Idealize.ShloMosaic.TcCoe Idealize.SL.Sem
open Idealize.ShloMosaic.Pipeline (Dat)

/-- The product of a point's blocks. -/
def dot (x0 : Vec Ideal S1024x1024 .bf16) (x1 : Vec Ideal S1x704x1024 .bf16) (y : S1x1024x704.Idx) : EReal :=
  (∑ k : Fin 1024, x0 (ix2 (y 1) k) * x1 (ix3 0 (y 2) k))

/-- The whole product. -/
def prod (A : Vec Ideal S4096x1024 .bf16) (B : Vec Ideal S4x704x1024 .bf16) : Vec Ideal S4x4096x704 .bf16 := fun z =>
  (∑ k : Fin 1024, A (ix2 (z 1) k) * B (ix3 (z 0) (z 2) k))

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The body's arithmetic is the product of the blocks. -/
theorem computed (x0 : Vec Ideal S1024x1024 .bf16) (x1 : Vec Ideal S1x704x1024 .bf16) : k0_pay1 (F := Ideal) x0 x1 = dot x0 x1 := by
  funext y
  idx_vars y
  pointwise [k0_pay1, dot]

/-- What a point leaves in the output block. -/
theorem out_eq (x0 : Vec Ideal S1024x1024 .bf16) (x1 : Vec Ideal S1x704x1024 .bf16) : out0_2 (F := Ideal) x0 x1 = dot x0 x1 := by
  unfold out0_2
  simp only [View.ld_unit_zero (S := S1024x1024) hz2, View.ld_unit_zero (S := S1x704x1024) hz3]
  rw [View.canon_cons_unit_zero hz3]
  exact computed x0 x1

variable (m : (ℓ : Loc nD τ sig) → Buf (Elt Ideal) ℓ) (ρ : Dev nD → PrngReg)

/-- Operand 0. -/
abbrev aA (c : Dev nD) : Vec Ideal S4096x1024 .bf16 := m ((c : Thread nD τ).loc main_arg0)

/-- Operand 1. -/
abbrev aB (c : Dev nD) : Vec Ideal S4x704x1024 .bf16 := m ((c : Thread nD τ).loc main_arg1)

/-- Where window 0's block lies at a point. -/
theorem index0 : ∀ t : Fin cfg0.N, win0_0.index t 0 = t.val % 4 ∧ win0_0.index t 1 = 0 :=
  (by decide +kernel : ∀ t : Fin grid0.N, win0_0.index t 0 = t.val % 4 ∧ win0_0.index t 1 = 0)

/-- Where window 1's block lies at a point. -/
theorem index1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- Where window 2's block lies at a point. -/
theorem index2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)

/-- Window 0's block at a point, in the operand's own indices. -/
theorem blk0 (c : Dev nD) (t : Fin cfg0.N) (y : S1x1024x704.Idx) (z : S4x4096x704.Idx) (h0 : (z 0).val = t.val / 4) (h1 : (z 1).val = 1024 * (t.val % 4) + (y 1).val) (h2 : (z 2).val = (y 2).val) (k : Fin 1024) :
    (iblk m c 0 t : Vec Ideal _ .bf16) (ix2 (y 1) k) = aA m c (ix2 (z 1) k) := by
  unfold iblk
  rw [View.read_apply]
  show V m c main_arg0 _ = aA m c _
  rw [V_main_arg0]
  refine congrArg _ (funext fun a => Fin.ext ?_)
  · match a with
    | ⟨0, _⟩ => show win0_0.index t 0 * 1024 + 1 * (y 1).val = (z 1).val; rw [(index0 t).1]; omega
    | ⟨1, _⟩ => show win0_0.index t 1 * 1024 + 1 * k.val = k.val; rw [(index0 t).2]; omega

/-- Window 1's block at a point, in the operand's own indices. -/
theorem blk1 (c : Dev nD) (t : Fin cfg0.N) (y : S1x1024x704.Idx) (z : S4x4096x704.Idx) (h0 : (z 0).val = t.val / 4) (h1 : (z 1).val = 1024 * (t.val % 4) + (y 1).val) (h2 : (z 2).val = (y 2).val) (k : Fin 1024) :
    (iblk m c 1 t : Vec Ideal _ .bf16) (ix3 0 (y 2) k) = aB m c (ix3 (z 0) (z 2) k) := by
  unfold iblk
  rw [View.read_apply]
  show V m c main_arg1 _ = aB m c _
  rw [V_main_arg1]
  refine congrArg _ (funext fun a => Fin.ext ?_)
  · match a with
    | ⟨0, _⟩ => show win0_1.index t 0 * 1 + 1 * 0 = (z 0).val; rw [(index1 t).1]; omega
    | ⟨1, _⟩ => show win0_1.index t 1 * 704 + 1 * (y 2).val = (z 2).val; rw [(index1 t).2.1]; omega
    | ⟨2, _⟩ => show win0_1.index t 2 * 1024 + 1 * k.val = k.val; rw [(index1 t).2.2]; omega

/-- A point's product of blocks is the whole product there. -/
theorem part_eq (c : Dev nD) (t : Fin cfg0.N) (y : S1x1024x704.Idx) (z : S4x4096x704.Idx) (h0 : (z 0).val = t.val / 4) (h1 : (z 1).val = 1024 * (t.val % 4) + (y 1).val) (h2 : (z 2).val = (y 2).val) :
    dot (iblk m c 0 t) (iblk m c 1 t) y = prod (aA m c) (aB m c) z := by
  unfold dot prod
  exact (Finset.sum_congr rfl fun k _ => congrArg₂ (· * ·) (blk0 m c t y z h0 h1 h2 k) (blk1 m c t y z h0 h1 h2 k))

/-- What a point writes back is its block of the product. -/
theorem flushed (c : Dev nD) (t : Fin cfg0.N) (hf : (cfg0.win 2).flush t = true) :
    (dats m 0 c).flushed 2 t = ((cfg0.win 2).blk t).view.read (Elt Ideal) (prod (aA m c) (aB m c)) := by
  have hN : t.val < 16 := t.isLt
  rw [Cert.DactIdeal.Value.flushed2, out_eq]
  funext x
  rw [View.read_apply]
  have x0 : (x 0).val < 1 := (x 0).isLt
  have x1 : (x 1).val < 1024 := (x 1).isLt
  have x2 : (x 2).val < 704 := (x 2).isLt
  refine Eq.trans (congrArg (dot (iblk m c 0 t) (iblk m c 1 t)) (?_ : _ = (ix3 ⟨(x 0).val, x0⟩ ⟨(x 1).val, x1⟩ ⟨(x 2).val, x2⟩ : S1x1024x704.Idx))) ?_
  · exact eq_ix3 _
  refine (part_eq m c t _ (ix3 ⟨t.val / 4, by omega⟩ ⟨1024 * (t.val % 4) + (x 1).val, by omega⟩ ⟨(x 2).val, by omega⟩) rfl rfl rfl).trans (congrArg (prod (aA m c) (aB m c)) (funext fun a => Fin.ext ?_))
  match a with
  | ⟨0, _⟩ => show t.val / 4 = win0_2.index t 0 * 1 + 1 * (x 0).val; rw [(index2 t).1]; omega
  | ⟨1, _⟩ => show 1024 * (t.val % 4) + (x 1).val = win0_2.index t 1 * 1024 + 1 * (x 1).val; rw [(index2 t).2.1]; omega
  | ⟨2, _⟩ => show (x 2).val = win0_2.index t 2 * 704 + 1 * (x 2).val; rw [(index2 t).2.2]; omega

/-- The result array after the run: every index lies in the block of one point. -/
theorem final (c : Dev nD) : (dats m 0 c).arrAt 2 cfg0.N = prod (aA m c) (aB m c) :=
  (dats m 0 c).arrAt_eq_of_cover 2 (prod (aA m c) (aB m c)) (flushed m c) fun i => by
    have h0 : (i 0 : Nat) < 4 := (i 0).isLt
    have h1 : (i 1 : Nat) < 4096 := (i 1).isLt
    have h2 : (i 2 : Nat) < 704 := (i 2).isLt
    have hN : cfg0.N = 16 := N_0
    let t : Fin cfg0.N := ⟨4 * (i 0).val + (i 1).val / 1024, by omega⟩
    have ht : t.val = 4 * (i 0).val + (i 1).val / 1024 := rfl
    have hi : ∀ t : Fin cfg0.N, win0_2.index t 0 * win0_2.size 0 = 1 * (t.val / 4) ∧ win0_2.index t 1 * win0_2.size 1 = 1024 * (t.val % 4) ∧ win0_2.index t 2 * win0_2.size 2 = 0 ∧ win0_2.xsize (grid0.coords t) 0 = 1 ∧ win0_2.xsize (grid0.coords t) 1 = 1024 ∧ win0_2.xsize (grid0.coords t) 2 = 704 :=
      (by decide +kernel : ∀ t : Fin grid0.N, win0_2.index t 0 * win0_2.size 0 = 1 * (t.val / 4) ∧ win0_2.index t 1 * win0_2.size 1 = 1024 * (t.val % 4) ∧ win0_2.index t 2 * win0_2.size 2 = 0 ∧ win0_2.xsize (grid0.coords t) 0 = 1 ∧ win0_2.xsize (grid0.coords t) 1 = 1024 ∧ win0_2.xsize (grid0.coords t) 2 = 704)
    refine ⟨t, flush0_2 t, ?_⟩
    show i ∈ ((View.whole main_v0).slice (win0_2.rect t)).set
    rw [View.set_slice_whole, Rect.mem_set_unit]
    intro a
    match a with
    | ⟨0, _⟩ => show win0_2.index t 0 * win0_2.size 0 ≤ (i 0 : Nat) ∧ (i 0 : Nat) < win0_2.index t 0 * win0_2.size 0 + win0_2.xsize (grid0.coords t) 0
                rw [(hi t).1, (hi t).2.2.2.1]; omega
    | ⟨1, _⟩ => show win0_2.index t 1 * win0_2.size 1 ≤ (i 1 : Nat) ∧ (i 1 : Nat) < win0_2.index t 1 * win0_2.size 1 + win0_2.xsize (grid0.coords t) 1
                rw [(hi t).2.1, (hi t).2.2.2.2.1]; omega
    | ⟨2, _⟩ => show win0_2.index t 2 * win0_2.size 2 ≤ (i 2 : Nat) ∧ (i 2 : Nat) < win0_2.index t 2 * win0_2.size 2 + win0_2.xsize (grid0.coords t) 2
                rw [(hi t).2.2.1, (hi t).2.2.2.2.2]; omega

/-- The run, read: the result at the product, the arguments unchanged. -/
theorem run : θ_run defs (onTc (τ := τ) (main (F := Ideal))) ⟨m, fun _ => 0, ρ⟩ fun r => ∀ c : Dev nD,
      r.2.mem ((c : Thread nD τ).loc main_v0) = prod (aA m c) (aB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.DactIdeal.Value.run_blocks m ρ)

end Cert.DactIdeal.Arr

end
-- ==== Proof.Sums.lean ====
/-
  Sums that a kernel accumulates over the points of its grid: the accumulator is set at every `J`-th point and gains one
  part at each of the others, so at the last of `J` points it holds the sum of the `J` parts.
-/
module

public import Idealize.ShloMosaic.Lib.Pointwise

@[expose] public section

namespace Cert.Sums

/-- The accumulator `g`, set to the point's part at every `J`-th point and increased by it at the others, holds at point
    `n` the sum of the parts since the last of those points. -/
theorem acc_eq {N J : ℕ} (hJ : 0 < J) (g : ∀ n, n < N → EReal) (p : ℕ → EReal)
    (h0 : ∀ n h, n % J = 0 → g n h = p n)
    (hs : ∀ n (h : n + 1 < N) (h' : n < N), ¬(n + 1) % J = 0 → g (n + 1) h = g n h' + p (n + 1)) :
    ∀ n h, g n h = ∑ i ∈ Finset.range (n % J + 1), p (n - n % J + i) := by
  intro n
  induction n with
  | zero => intro h; rw [h0 0 h (Nat.zero_mod _), Nat.zero_mod]; simp
  | succ n ih =>
    intro h
    by_cases hz : (n + 1) % J = 0
    · rw [h0 _ h hz, hz]; simp
    · have e : (n + 1) % J = n % J + 1 := by
        have hlt := Nat.mod_lt n hJ
        by_cases hl : n % J + 1 < J
        · rw [Nat.add_mod, Nat.mod_eq_of_lt (show 1 < J by omega), Nat.mod_eq_of_lt hl]
        · exfalso; apply hz
          have : n % J + 1 = J := by omega
          rw [show n + 1 = J * (n / J) + J by have := Nat.div_add_mod n J; omega, Nat.add_mod_right, Nat.mul_mod_right]
      rw [hs n h (by omega) hz, ih (by omega), e, Finset.sum_range_succ _ (n % J + 1)]
      have hle := Nat.mod_le n J
      rw [show n + 1 - (n % J + 1) = n - n % J by omega, show n - n % J + (n % J + 1) = n + 1 by omega]

/-- At the last of `J` points it holds all `J` parts. -/
theorem acc_full {N J : ℕ} (hJ : 0 < J) (g : ∀ n, n < N → EReal) (p : ℕ → EReal)
    (h0 : ∀ n h, n % J = 0 → g n h = p n)
    (hs : ∀ n (h : n + 1 < N) (h' : n < N), ¬(n + 1) % J = 0 → g (n + 1) h = g n h' + p (n + 1))
    (n : ℕ) (h : n < N) (hl : n % J + 1 = J) : g n h = ∑ i : Fin J, p (J * (n / J) + i.val) := by
  rw [acc_eq hJ g p h0 hs n h, hl, Finset.sum_range]
  refine Finset.sum_congr rfl fun i _ => ?_
  have := Nat.div_add_mod n J
  rw [show n - n % J = J * (n / J) by omega]

/-- A sum over three stretches of an index range. -/
theorem three (a b c : ℕ) {N : ℕ} (h : a + b + c = N) (f : Fin N → EReal) :
    ∑ k : Fin N, f k = (∑ k : Fin a, f ⟨k.val, by omega⟩) + (∑ k : Fin b, f ⟨a + k.val, by omega⟩)
      + ∑ k : Fin c, f ⟨a + b + k.val, by omega⟩ := by
  subst h
  rw [Fin.sum_univ_add, Fin.sum_univ_add]
  rfl

end Cert.Sums
-- ==== Proof.DactRef.lean ====
/-
  The reference's result is the same product.
-/
module

public import proofs.«01_k».proof.Proof.Sums
public import proofs.«01_k».proof.Proof.DactArray
public import proofs.«01_k».proof.Proof.Gen.DactRefIdeal.Run
public import proofs.«01_k».proof.Proof.Gen.DactRefIdeal.Read

@[expose] public section

set_option maxRecDepth 16384

noncomputable section

namespace Cert.DactRefIdeal.Eq

open Cert.DactRefIdeal Cert.DactRefIdeal.Gen Cert.DactRefIdeal.Read Idealize.ShloMosaic Idealize.ShloMosaic.TcCoe Idealize.SL.Sem
open Idealize.ShloMosaic.Pipeline (Dat)

/-- The reference's product is the kernel's. -/
theorem result (A : Vec Ideal S4096x1024 .bf16) (B : Vec Ideal S4x704x1024 .bf16) : val_main_v8 (F := Ideal) A B = Cert.DactIdeal.Arr.prod A B := by
  funext z
  idx_vars z
  pointwise [val_main_v0, val_main_v1, val_main_v2, val_main_cst, val_main_v3, val_main_v4, val_main_v5, val_main_v6, val_main_v7, val_main_v8]
  unfold Cert.DactIdeal.Arr.prod
  rfl

end Cert.DactRefIdeal.Eq

end
-- ==== Proof.DactClaims.lean ====
/-
  The claims about the gradient of the activation, assembled.
-/
module

public import proofs.«01_k».proof.Defs
public import proofs.«01_k».proof.Proof.DactArray
public import proofs.«01_k».proof.Proof.DactRef
public import proofs.«01_k».proof.Proof.Gen.Dact.Frame

@[expose] public section

noncomputable section

namespace Cert.DactClaims

open Idealize.ShloMosaic Idealize.SL.Sem

instance : Cert.Dact.Facts := Cert.Dact.Gen.facts
instance : Cert.DactIdeal.Facts := Cert.DactIdeal.Gen.facts
instance : Cert.DactRefIdeal.Facts := Cert.DactRefIdeal.Gen.facts

/-- The kernel's program ends, faultless, its arguments unchanged, every semaphore at zero. -/
theorem frame_kernel : Cert.quiescent_Dact := fun m ρ _ => Cert.Dact.Gen.frame m ρ

/-- The same of the kernel over the extended reals. -/
theorem frame_ideal : Cert.quiescent_DactIdeal := fun m ρ _ => Cert.DactIdeal.Gen.frame m ρ

/-- The reference ends, faultless, its arguments unchanged, every semaphore at zero. -/
theorem frame_ref : Cert.quiescent_DactRefIdeal := fun m ρ _ =>
  (θ_run Cert.DactRefIdeal.defs _ _).mono (fun r h => ⟨fun c => (h c).2, sem_eq_zero_of_no_sems (by decide) r.2⟩)
    (Cert.DactRefIdeal.Value.run m ρ)

/-- Kernel and reference end with the same result. -/
theorem algebraic : Cert.algebraic_DactIdeal_DactRefIdeal := fun m ρ m' ρ' _ hag =>
  ⟨fun c => Cert.DactIdeal.Arr.prod (Cert.DactIdeal.Arr.aA m c) (Cert.DactIdeal.Arr.aB m c),
    Cert.DactIdeal.Arr.run m ρ,
    (θ_run _ _ _).mono (fun r h c => by
      obtain ⟨h0, hk⟩ := h c
      obtain ⟨e0, e1⟩ := hag c
      refine ⟨h0.trans ((Cert.DactRefIdeal.Read.val_main_v8_eq _ _).trans ?_), hk⟩
      · rw [e0, e1]; exact Cert.DactRefIdeal.Eq.result _ _) (Cert.DactRefIdeal.Value.run m' ρ')⟩

end Cert.DactClaims

end
-- ==== Proof.DwdownProd.lean ====
/-
  The gradient of the down-projection's weights: what one grid point leaves
  in the accumulator and in the output block.
-/
module

public import proofs.«01_k».proof.Proof.Sums
public import proofs.«01_k».proof.Proof.Gen.DwdownIdeal.Value
public import Idealize.ShloMosaic.Lib.Pipeline.ValueKit.Tiles
public import Idealize.ShloMosaic.Lib.Pipeline.ValueKit.Acc
public import Idealize.ShloMosaic.Lib.Tactic

@[expose] public section

set_option maxRecDepth 16384

noncomputable section

namespace Cert.DwdownIdeal.Prod

open Cert.DwdownIdeal Cert.DwdownIdeal.Gen Idealize.ShloMosaic Idealize.ShloMosaic.TcCoe Idealize.SL.Sem
open Idealize.ShloMosaic.Pipeline (Dat)

/-- The product of a point's two blocks at an index of the accumulator. -/
def dot (x0 : Vec Ideal S1x1024x704 .bf16) (x1 : Vec Ideal S1024x1024 .bf16) (y : S704x1024.Idx) : EReal :=
  ∑ k : Fin 1024, x0 (ix3 0 k (y 0)) * x1 (ix2 k (y 1))

/-- The accumulator is cleared with zeros. -/
theorem cleared : k0_pay1 (F := Ideal) = fun _ => (0 : EReal) := by
  funext y
  pointwise [k0_pay1]

/-- It gains the product of the blocks. -/
theorem gained (v : Vec Ideal S704x1024 .f32) (x0 : Vec Ideal S1x1024x704 .bf16) (x1 : Vec Ideal S1024x1024 .bf16) :
    k0_pay2 (F := Ideal) v x0 x1 = fun y => v y + dot x0 x1 y := by
  funext y
  idx_vars y
  pointwise [k0_pay2, dot]

/-- The output block is the accumulator. -/
theorem copied (v : Vec Ideal S704x1024 .f32) : k0_pay3 (F := Ideal) v = fun y => v (ix2 (y 1) (y 2)) := by
  funext y
  idx_vars y
  pointwise [k0_pay3]

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The accumulator after the first point of a run. -/
theorem acc_A (c : Dev nD) (i : grid0.Coords) (arg3 : Memref sig .tc .vmem S1x1024x704 .bf16) (harg3 : arg3.IsWhole) (arg4 : Memref sig .tc .vmem S1024x1024 .bf16) (harg4 : arg4.IsWhole) (arg5 : Memref sig .tc .vmem S1x704x1024 .bf16) (harg5 : arg5.IsWhole) (arg6 : Memref sig .tc .vmem S704x1024 .f32) (harg6 : arg6.IsWhole) (hc0 : cond0_0 i) (hc1 : ¬cond0_1 i) (x0 : Vec Ideal S1x1024x704 .bf16) (x1 : Vec Ideal S1024x1024 .bf16) :
    sout0_A_0 (F := Ideal) c i arg3 harg3 arg4 harg4 arg5 harg5 arg6 harg6 hc0 hc1 x0 x1 = fun y => 0 + dot x0 x1 y := by
  unfold sout0_A_0
  rw [View.read_writes_eq_canon _ _ _ (scover0_A_0 (F := Ideal) c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1x1024x704) hz3, View.ld_unit_zero (S := S1024x1024) hz2, View.ld_unit_zero (S := S704x1024) hz2, View.readCov_unit_zero (S := S704x1024) _ hz2]
  rw [View.canon_cons_unit_zero hz2]
  rw [gained, cleared]

/-- The accumulator after a point in the middle. -/
theorem acc_B (c : Dev nD) (i : grid0.Coords) (arg3 : Memref sig .tc .vmem S1x1024x704 .bf16) (harg3 : arg3.IsWhole) (arg4 : Memref sig .tc .vmem S1024x1024 .bf16) (harg4 : arg4.IsWhole) (arg5 : Memref sig .tc .vmem S1x704x1024 .bf16) (harg5 : arg5.IsWhole) (arg6 : Memref sig .tc .vmem S704x1024 .f32) (harg6 : arg6.IsWhole) (hc0 : ¬cond0_0 i) (hc1 : ¬cond0_1 i) (x0 : Vec Ideal S1x1024x704 .bf16) (x1 : Vec Ideal S1024x1024 .bf16) (xs0 : Vec Ideal S704x1024 .f32) :
    sout0_B_0 (F := Ideal) c i arg3 harg3 arg4 harg4 arg5 harg5 arg6 harg6 hc0 hc1 x0 x1 xs0 = fun y => xs0 y + dot x0 x1 y := by
  unfold sout0_B_0
  rw [View.read_writes_eq_canon _ _ _ (scover0_B_0 (F := Ideal) c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1x1024x704) hz3, View.ld_unit_zero (S := S1024x1024) hz2, View.ld_unit_zero (S := S704x1024) hz2, View.readCov_unit_zero (S := S704x1024) _ hz2]
  rw [View.canon_cons_unit_zero hz2]
  rw [gained]

/-- The accumulator after the last point. -/
theorem acc_C (c : Dev nD) (i : grid0.Coords) (arg3 : Memref sig .tc .vmem S1x1024x704 .bf16) (harg3 : arg3.IsWhole) (arg4 : Memref sig .tc .vmem S1024x1024 .bf16) (harg4 : arg4.IsWhole) (arg5 : Memref sig .tc .vmem S1x704x1024 .bf16) (harg5 : arg5.IsWhole) (arg6 : Memref sig .tc .vmem S704x1024 .f32) (harg6 : arg6.IsWhole) (hc0 : ¬cond0_0 i) (hc1 : cond0_1 i) (x0 : Vec Ideal S1x1024x704 .bf16) (x1 : Vec Ideal S1024x1024 .bf16) (xs0 : Vec Ideal S704x1024 .f32) :
    sout0_C_0 (F := Ideal) c i arg3 harg3 arg4 harg4 arg5 harg5 arg6 harg6 hc0 hc1 x0 x1 xs0 = fun y => xs0 y + dot x0 x1 y := by
  unfold sout0_C_0
  rw [View.read_writes_eq_canon _ _ _ (scover0_C_0 (F := Ideal) c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1x1024x704) hz3, View.ld_unit_zero (S := S1024x1024) hz2, View.ld_unit_zero (S := S704x1024) hz2, View.readCov_unit_zero (S := S704x1024) _ hz2]
  rw [View.canon_cons_unit_zero hz2]
  rw [gained]

/-- The output block after the last point. -/
theorem out_C (c : Dev nD) (i : grid0.Coords) (arg3 : Memref sig .tc .vmem S1x1024x704 .bf16) (harg3 : arg3.IsWhole) (arg4 : Memref sig .tc .vmem S1024x1024 .bf16) (harg4 : arg4.IsWhole) (arg5 : Memref sig .tc .vmem S1x704x1024 .bf16) (harg5 : arg5.IsWhole) (arg6 : Memref sig .tc .vmem S704x1024 .f32) (harg6 : arg6.IsWhole) (hc0 : ¬cond0_0 i) (hc1 : cond0_1 i) (x0 : Vec Ideal S1x1024x704 .bf16) (x1 : Vec Ideal S1024x1024 .bf16) (xs0 : Vec Ideal S704x1024 .f32) :
    out0_C_2 (F := Ideal) c i arg3 harg3 arg4 harg4 arg5 harg5 arg6 harg6 hc0 hc1 x0 x1 xs0 = fun y => xs0 (ix2 (y 1) (y 2)) + dot x0 x1 (ix2 (y 1) (y 2)) := by
  unfold out0_C_2
  rw [View.read_writes_eq_canon _ _ _ (cover0_C_2 (F := Ideal) c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1x1024x704) hz3, View.ld_unit_zero (S := S1024x1024) hz2, View.ld_unit_zero (S := S704x1024) hz2, View.readCov_unit_zero (S := S704x1024) _ hz2]
  rw [View.canon_cons_unit_zero hz3]
  rw [copied, gained]

end Cert.DwdownIdeal.Prod

end
-- ==== Proof.DwdownArray.lean ====
/-
  The product summed over the tiles, and what the result array holds after the run.
-/
module

public import proofs.«01_k».proof.Proof.Sums
public import proofs.«01_k».proof.Proof.DwdownProd

@[expose] public section

set_option maxRecDepth 16384

noncomputable section

namespace Cert.DwdownIdeal.Arr

open Cert.DwdownIdeal Cert.DwdownIdeal.Gen Cert.DwdownIdeal.Prod Idealize.ShloMosaic Idealize.ShloMosaic.TcCoe Idealize.SL.Sem
open Idealize.ShloMosaic.Pipeline (Dat)

/-- One tile's share of the product, at an index of the result. -/
def term (A : Vec Ideal S4x4096x704 .bf16) (B : Vec Ideal S4096x1024 .bf16) (z : S4x704x1024.Idx) (i : Fin 4) : EReal :=
  ∑ k : Fin 1024, A (ix3 (z 0) ⟨i.val * 1024 + k.val, by omega⟩ (z 1)) * B (ix2 ⟨i.val * 1024 + k.val, by omega⟩ (z 2))

/-- The product, its sum taken tile by tile. -/
def prod (A : Vec Ideal S4x4096x704 .bf16) (B : Vec Ideal S4096x1024 .bf16) : Vec Ideal S4x704x1024 .bf16 :=
  fun z => ∑ i : Fin 4, term A B z i

variable (m : (ℓ : Loc nD τ sig) → Buf (Elt Ideal) ℓ) (ρ : Dev nD → PrngReg)

/-- The first operand. -/
abbrev aA (c : Dev nD) : Vec Ideal S4x4096x704 .bf16 := m ((c : Thread nD τ).loc main_arg0)

/-- The second operand. -/
abbrev aB (c : Dev nD) : Vec Ideal S4096x1024 .bf16 := m ((c : Thread nD τ).loc main_arg1)

/-- Where window 0's block lies at a point. -/
theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- Where window 1's block lies at a point. -/
theorem index1 : ∀ t : Fin cfg0.N, win0_1.index t 0 = t.val % 4 ∧ win0_1.index t 1 = 0 :=
  (by decide +kernel : ∀ t : Fin grid0.N, win0_1.index t 0 = t.val % 4 ∧ win0_1.index t 1 = 0)

/-- Where window 2's block lies at a point. -/
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- Window 0's block at a point, in the operand's own indices. -/
theorem blk0 (c : Dev nD) (t : Fin cfg0.N) (i : Fin 4) (hi : t.val % 4 = i.val) (y : S704x1024.Idx) (z : S4x704x1024.Idx) (h0 : (z 0).val = t.val / 4) (h1 : (z 1).val = (y 0).val) (h2 : (z 2).val = (y 1).val) (k : Fin 1024) :
    (iblk m c 0 t : Vec Ideal _ .bf16) (ix3 0 k (y 0)) = aA m c (ix3 (z 0) ⟨i.val * 1024 + k.val, by omega⟩ (z 1)) := by
  have hN : t.val < 16 := t.isLt
  unfold iblk
  rw [View.read_apply]
  show V m c main_arg0 _ = (m ((c : Thread nD τ).loc main_arg0) : Vec Ideal S4x4096x704 .bf16) _
  rw [V_main_arg0]
  refine congrArg _ (funext fun a => Fin.ext ?_)
  match a with
  | ⟨0, _⟩ => show win0_0.index t 0 * 1 + 1 * 0 = (z 0).val; rw [(index0 t).1]; omega
  | ⟨1, _⟩ => show win0_0.index t 1 * 1024 + 1 * k.val = (i.val * 1024 + k.val); rw [(index0 t).2.1]; omega
  | ⟨2, _⟩ => show win0_0.index t 2 * 704 + 1 * (y 0).val = (z 1).val; rw [(index0 t).2.2]; omega

/-- Window 1's block at a point, in the operand's own indices. -/
theorem blk1 (c : Dev nD) (t : Fin cfg0.N) (i : Fin 4) (hi : t.val % 4 = i.val) (y : S704x1024.Idx) (z : S4x704x1024.Idx) (h0 : (z 0).val = t.val / 4) (h1 : (z 1).val = (y 0).val) (h2 : (z 2).val = (y 1).val) (k : Fin 1024) :
    (iblk m c 1 t : Vec Ideal _ .bf16) (ix2 k (y 1)) = aB m c (ix2 ⟨i.val * 1024 + k.val, by omega⟩ (z 2)) := by
  have hN : t.val < 16 := t.isLt
  unfold iblk
  rw [View.read_apply]
  show V m c main_arg1 _ = (m ((c : Thread nD τ).loc main_arg1) : Vec Ideal S4096x1024 .bf16) _
  rw [V_main_arg1]
  refine congrArg _ (funext fun a => Fin.ext ?_)
  match a with
  | ⟨0, _⟩ => show win0_1.index t 0 * 1024 + 1 * k.val = (i.val * 1024 + k.val); rw [(index1 t).1]; omega
  | ⟨1, _⟩ => show win0_1.index t 1 * 1024 + 1 * (y 1).val = (z 2).val; rw [(index1 t).2]; omega

/-- A point's product of blocks is its tile's share. -/
theorem part_eq (c : Dev nD) (t : Fin cfg0.N) (i : Fin 4) (hi : t.val % 4 = i.val) (y : S704x1024.Idx) (z : S4x704x1024.Idx) (h0 : (z 0).val = t.val / 4) (h1 : (z 1).val = (y 0).val) (h2 : (z 2).val = (y 1).val) :
    dot (iblk m c 0 t) (iblk m c 1 t) y = term (aA m c) (aB m c) z i := by
  unfold dot term
  exact Finset.sum_congr rfl fun k _ => congrArg₂ (· * ·) (blk0 m c t i hi y z h0 h1 h2 k) (blk1 m c t i hi y z h0 h1 h2 k)

/-- A point's product of blocks, as a function of the point's number. -/
def part (c : Dev nD) (y : S704x1024.Idx) (n : ℕ) : EReal :=
  if h : n < cfg0.N then dot (iblk m c 0 ⟨n, h⟩) (iblk m c 1 ⟨n, h⟩) y else 0

/-- The accumulator at the end of a run of points: the sum of the run's products. -/
theorem acc_last (c : Dev nD) (y : S704x1024.Idx) (n : ℕ) (h : n < cfg0.N) (hl : n % 4 + 1 = 4) :
    (outsAt0 m c n h).2 y = ∑ i : Fin 4, part m c y (4 * (n / 4) + i.val) := by
  refine Sums.acc_full (by decide) (fun n h => (outsAt0 m c n h).2 y) (part m c y) ?_ ?_ n h hl
  · intro n h hn
    have e := congrArg Prod.snd (outsAt0_A m c ⟨n, h⟩ hn (by show ¬ n % 4 = 3; omega))
    dsimp only at e
    rw [acc_A] at e
    show (outsAt0 m c n h).2 y = _
    rw [e]
    unfold part
    rw [dif_pos h]
    exact zero_add _
  · intro n h h' hn
    show (outsAt0 m c (n + 1) h).2 y = (outsAt0 m c n h').2 y + part m c y (n + 1)
    unfold part
    rw [dif_pos h]
    by_cases hl : (n + 1) % 4 = 3
    · have e := congrArg Prod.snd (outsAt0_C m c ⟨n + 1, h⟩ hn hl)
      dsimp only at e
      rw [acc_C] at e
      exact congrFun e y
    · have e := congrArg Prod.snd (outsAt0_B m c ⟨n + 1, h⟩ hn hl)
      dsimp only at e
      rw [acc_B] at e
      exact congrFun e y

/-- The output block at the end of a run of points is the accumulator. -/
theorem out_last (c : Dev nD) (t : Fin cfg0.N) (h1 : t.val % 4 = 3) :
    (outsAt0 m c t.val t.isLt).1 = fun (x : S1x704x1024.Idx) => (outsAt0 m c t.val t.isLt).2 (ix2 (x 1) (x 2)) := by
  have e := outsAt0_C m c t (by omega) h1
  have e1 := congrArg Prod.fst e
  have e2 := congrArg Prod.snd e
  dsimp only at e1 e2
  rw [out_C] at e1
  rw [acc_C] at e2
  rw [e1, e2]

/-- What a point writes back is its block of the product. -/
theorem flushed (c : Dev nD) (t : Fin cfg0.N) (hf : (cfg0.win 2).flush t = true) :
    (dats m 0 c).flushed 2 t = ((cfg0.win 2).blk t).view.read (Elt Ideal) (prod (aA m c) (aB m c)) := by
  have h1 : t.val % 4 = 3 := (flush0_2 t).mp hf
  have hN : t.val < 16 := t.isLt
  rw [Cert.DwdownIdeal.Value.flushed2]
  funext x
  rw [View.read_apply]
  rw [out_last m c t h1]
  have x0 : (x 0).val < 1 := (x 0).isLt
  have x1 : (x 1).val < 704 := (x 1).isLt
  have x2 : (x 2).val < 1024 := (x 2).isLt
  refine Eq.trans (congrArg (outsAt0 m c t.val t.isLt).2 (?_ : _ = (ix2 ⟨(x 1).val, x1⟩ ⟨(x 2).val, x2⟩ : S704x1024.Idx))) ?_
  · exact eq_ix2 _
  rw [acc_last m c _ t.val t.isLt (by omega)]
  refine Eq.trans (b := prod (aA m c) (aB m c) (ix3 ⟨t.val / 4, by omega⟩ ⟨(x 1).val, by omega⟩ ⟨(x 2).val, by omega⟩)) ?_ (congrArg (prod (aA m c) (aB m c)) (funext fun a => Fin.ext ?_))
  · refine Finset.sum_congr rfl fun i _ => ?_
    have hi : i.val < 4 := i.isLt
    have hn : 4 * (t.val / 4) + i.val < cfg0.N := by show _ < 16; omega
    unfold part
    rw [dif_pos hn]
    refine part_eq m c ⟨_, hn⟩ i (by show (4 * (t.val / 4) + i.val) % 4 = i.val; omega) _ _ ?_ ?_ ?_
    · show t.val / 4 = (4 * (t.val / 4) + i.val) / 4; omega
    · show (x 1).val = (x 1).val; omega
    · show (x 2).val = (x 2).val; omega
  · match a with
    | ⟨0, _⟩ => show t.val / 4 = win0_2.index t 0 * 1 + 1 * (x 0).val; rw [(index2 t).1]; omega
    | ⟨1, _⟩ => show (x 1).val = win0_2.index t 1 * 704 + 1 * (x 1).val; rw [(index2 t).2.1]; omega
    | ⟨2, _⟩ => show (x 2).val = win0_2.index t 2 * 1024 + 1 * (x 2).val; rw [(index2 t).2.2]; omega

/-- The result array after the run. -/
theorem final (c : Dev nD) : (dats m 0 c).arrAt 2 cfg0.N = prod (aA m c) (aB m c) :=
  (dats m 0 c).arrAt_eq_of_cover 2 (prod (aA m c) (aB m c)) (flushed m c) fun i =>
    (Cert.DwdownIdeal.Value.covered_iff2 i).2 ⟨Nat.zero_le _, (i 0).isLt, Nat.zero_le _, (i 1).isLt, Nat.zero_le _, (i 2).isLt⟩

/-- The run, read: the result at the product, the arguments unchanged. -/
theorem run : θ_run defs (onTc (τ := τ) (main (F := Ideal))) ⟨m, fun _ => 0, ρ⟩ fun r => ∀ c : Dev nD,
      r.2.mem ((c : Thread nD τ).loc main_v0) = prod (aA m c) (aB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.DwdownIdeal.Value.run_blocks m ρ)

end Cert.DwdownIdeal.Arr

end
-- ==== Proof.DwdownRef.lean ====
/-
  The reference's result: the same product, its sum in one piece.
-/
module

public import proofs.«01_k».proof.Proof.DwdownArray
public import proofs.«01_k».proof.Proof.Gen.DwdownRefIdeal.Run
public import proofs.«01_k».proof.Proof.Gen.DwdownRefIdeal.Read

@[expose] public section

set_option maxRecDepth 16384

noncomputable section

namespace Cert.DwdownRefIdeal.Eq

open Cert.DwdownRefIdeal Cert.DwdownRefIdeal.Gen Cert.DwdownRefIdeal.Read Idealize.ShloMosaic Idealize.ShloMosaic.TcCoe Idealize.SL.Sem
open Idealize.ShloMosaic.Pipeline (Dat)

/-- The reference's product is the kernel's, whose sum is taken tile by tile. -/
theorem result (A : Vec Ideal S4x4096x704 .bf16) (B : Vec Ideal S4096x1024 .bf16) : val_main_v9 (F := Ideal) A B = Cert.DwdownIdeal.Arr.prod A B := by
  funext z
  idx_vars z
  pointwise [val_main_v0, val_main_v1, val_main_v2, val_main_v3, val_main_cst, val_main_v4, val_main_v5, val_main_v6, val_main_v7, val_main_v8, val_main_v9]
  unfold Cert.DwdownIdeal.Arr.prod Cert.DwdownIdeal.Arr.term
  rw [Fin.sum_univ_tiles 4 1024 (by norm_num)]
  exact Finset.sum_congr rfl fun i _ => Finset.sum_congr rfl fun k _ => mul_comm _ _

end Cert.DwdownRefIdeal.Eq

end
-- ==== Proof.DwdownClaims.lean ====
/-
  The claims about the gradient of the down-projection's weights, assembled.
-/
module

public import proofs.«01_k».proof.Defs
public import proofs.«01_k».proof.Proof.DwdownArray
public import proofs.«01_k».proof.Proof.DwdownRef
public import proofs.«01_k».proof.Proof.Gen.Dwdown.Frame

@[expose] public section

noncomputable section

namespace Cert.DwdownClaims

open Idealize.ShloMosaic Idealize.SL.Sem

instance : Cert.Dwdown.Facts := Cert.Dwdown.Gen.facts
instance : Cert.DwdownIdeal.Facts := Cert.DwdownIdeal.Gen.facts
instance : Cert.DwdownRefIdeal.Facts := Cert.DwdownRefIdeal.Gen.facts

/-- The kernel's program ends, faultless, its arguments unchanged, every semaphore at zero. -/
theorem frame_kernel : Cert.quiescent_Dwdown := fun m ρ _ => Cert.Dwdown.Gen.frame m ρ

/-- The same of the kernel over the extended reals. -/
theorem frame_ideal : Cert.quiescent_DwdownIdeal := fun m ρ _ => Cert.DwdownIdeal.Gen.frame m ρ

/-- The reference ends, faultless, its arguments unchanged, every semaphore at zero. -/
theorem frame_ref : Cert.quiescent_DwdownRefIdeal := fun m ρ _ =>
  (θ_run Cert.DwdownRefIdeal.defs _ _).mono (fun r h => ⟨fun c => (h c).2, sem_eq_zero_of_no_sems (by decide) r.2⟩)
    (Cert.DwdownRefIdeal.Value.run m ρ)

/-- Kernel and reference end with the same result. -/
theorem algebraic : Cert.algebraic_DwdownIdeal_DwdownRefIdeal := fun m ρ m' ρ' _ hag =>
  ⟨fun c => Cert.DwdownIdeal.Arr.prod (Cert.DwdownIdeal.Arr.aA m c) (Cert.DwdownIdeal.Arr.aB m c),
    Cert.DwdownIdeal.Arr.run m ρ,
    (θ_run _ _ _).mono (fun r h c => by
      obtain ⟨h0, hk⟩ := h c
      obtain ⟨e0, e1⟩ := hag c
      refine ⟨h0.trans ((Cert.DwdownRefIdeal.Read.val_main_v9_eq _ _).trans ?_), hk⟩
      · rw [e0, e1]; exact Cert.DwdownRefIdeal.Eq.result _ _) (Cert.DwdownRefIdeal.Value.run m' ρ')⟩

end Cert.DwdownClaims

end
-- ==== Proof.Dh2Prod.lean ====
/-
  The gradient of the up-projection's input: what one grid point leaves
  in the accumulator and in the output block.
-/
module

public import proofs.«01_k».proof.Proof.Sums
public import proofs.«01_k».proof.Proof.Gen.Dh2Ideal.Value
public import Idealize.ShloMosaic.Lib.Pipeline.ValueKit.Tiles
public import Idealize.ShloMosaic.Lib.Pipeline.ValueKit.Acc
public import Idealize.ShloMosaic.Lib.Tactic

@[expose] public section

set_option maxRecDepth 16384

noncomputable section

namespace Cert.Dh2Ideal.Prod

open Cert.Dh2Ideal Cert.Dh2Ideal.Gen Idealize.ShloMosaic Idealize.ShloMosaic.TcCoe Idealize.SL.Sem
open Idealize.ShloMosaic.Pipeline (Dat)

/-- The product of a point's two blocks at an index of the accumulator. -/
def dot (x0 : Vec Ideal S1x1024x704 .bf16) (x1 : Vec Ideal S1x1024x704 .bf16) (y : S1024x1024.Idx) : EReal :=
  ∑ k : Fin 704, x0 (ix3 0 (y 0) k) * x1 (ix3 0 (y 1) k)

/-- The accumulator is cleared with zeros. -/
theorem cleared : k0_pay1 (F := Ideal) = fun _ => (0 : EReal) := by
  funext y
  pointwise [k0_pay1]

/-- It gains the product of the blocks. -/
theorem gained (v : Vec Ideal S1024x1024 .f32) (x0 : Vec Ideal S1x1024x704 .bf16) (x1 : Vec Ideal S1x1024x704 .bf16) :
    k0_pay2 (F := Ideal) v x0 x1 = fun y => v y + dot x0 x1 y := by
  funext y
  idx_vars y
  pointwise [k0_pay2, dot]

/-- The output block is the accumulator. -/
theorem copied (v : Vec Ideal S1024x1024 .f32) : k0_pay3 (F := Ideal) v = fun y => v y := by
  funext y
  idx_vars y
  pointwise [k0_pay3]

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The accumulator after the first point of a run. -/
theorem acc_A (c : Dev nD) (i : grid0.Coords) (arg3 : Memref sig .tc .vmem S1x1024x704 .bf16) (harg3 : arg3.IsWhole) (arg4 : Memref sig .tc .vmem S1x1024x704 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec Ideal S1x1024x704 .bf16) (x1 : Vec Ideal S1x1024x704 .bf16) :
    sout0_A_0 (F := Ideal) c i arg3 harg3 arg4 harg4 arg5 harg5 arg6 harg6 hc0 hc1 x0 x1 = fun y => 0 + dot x0 x1 y := by
  unfold sout0_A_0
  rw [View.read_writes_eq_canon _ _ _ (scover0_A_0 (F := Ideal) c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1x1024x704) hz3, View.ld_unit_zero (S := S1024x1024) hz2, View.readCov_unit_zero (S := S1024x1024) _ hz2]
  rw [View.canon_cons_unit_zero hz2]
  rw [gained, cleared]

/-- The accumulator after a point in the middle. -/
theorem acc_B (c : Dev nD) (i : grid0.Coords) (arg3 : Memref sig .tc .vmem S1x1024x704 .bf16) (harg3 : arg3.IsWhole) (arg4 : Memref sig .tc .vmem S1x1024x704 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 : Vec Ideal S1x1024x704 .bf16) (x1 : Vec Ideal S1x1024x704 .bf16) (xs0 : Vec Ideal S1024x1024 .f32) :
    sout0_B_0 (F := Ideal) c i arg3 harg3 arg4 harg4 arg5 harg5 arg6 harg6 hc0 hc1 x0 x1 xs0 = fun y => xs0 y + dot x0 x1 y := by
  unfold sout0_B_0
  rw [View.read_writes_eq_canon _ _ _ (scover0_B_0 (F := Ideal) c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1x1024x704) hz3, View.ld_unit_zero (S := S1024x1024) hz2, View.readCov_unit_zero (S := S1024x1024) _ hz2]
  rw [View.canon_cons_unit_zero hz2]
  rw [gained]

/-- The accumulator after the last point. -/
theorem acc_C (c : Dev nD) (i : grid0.Coords) (arg3 : Memref sig .tc .vmem S1x1024x704 .bf16) (harg3 : arg3.IsWhole) (arg4 : Memref sig .tc .vmem S1x1024x704 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec Ideal S1x1024x704 .bf16) (x1 : Vec Ideal S1x1024x704 .bf16) (xs0 : Vec Ideal S1024x1024 .f32) :
    sout0_C_0 (F := Ideal) c i arg3 harg3 arg4 harg4 arg5 harg5 arg6 harg6 hc0 hc1 x0 x1 xs0 = fun y => xs0 y + dot x0 x1 y := by
  unfold sout0_C_0
  rw [View.read_writes_eq_canon _ _ _ (scover0_C_0 (F := Ideal) c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1x1024x704) hz3, View.ld_unit_zero (S := S1024x1024) hz2, View.readCov_unit_zero (S := S1024x1024) _ hz2]
  rw [View.canon_cons_unit_zero hz2]
  rw [gained]

/-- The output block after the last point. -/
theorem out_C (c : Dev nD) (i : grid0.Coords) (arg3 : Memref sig .tc .vmem S1x1024x704 .bf16) (harg3 : arg3.IsWhole) (arg4 : Memref sig .tc .vmem S1x1024x704 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec Ideal S1x1024x704 .bf16) (x1 : Vec Ideal S1x1024x704 .bf16) (xs0 : Vec Ideal S1024x1024 .f32) :
    out0_C_2 (F := Ideal) c i arg3 harg3 arg4 harg4 arg5 harg5 arg6 harg6 hc0 hc1 x0 x1 xs0 = fun y => xs0 y + dot x0 x1 y := by
  unfold out0_C_2
  rw [View.read_writes_eq_canon _ _ _ (cover0_C_2 (F := Ideal) c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1x1024x704) hz3, View.ld_unit_zero (S := S1024x1024) hz2, View.readCov_unit_zero (S := S1024x1024) _ hz2]
  rw [View.canon_cons_unit_zero hz2]
  rw [copied, gained]

end Cert.Dh2Ideal.Prod

end
-- ==== Proof.Dh2Array.lean ====
/-
  The product summed over the tiles, and what the result array holds after the run.
-/
module

public import proofs.«01_k».proof.Proof.Sums
public import proofs.«01_k».proof.Proof.Dh2Prod

@[expose] public section

set_option maxRecDepth 16384

noncomputable section

namespace Cert.Dh2Ideal.Arr

open Cert.Dh2Ideal Cert.Dh2Ideal.Gen Cert.Dh2Ideal.Prod Idealize.ShloMosaic Idealize.ShloMosaic.TcCoe Idealize.SL.Sem
open Idealize.ShloMosaic.Pipeline (Dat)

/-- One tile's share of the product, at an index of the result. -/
def term (A : Vec Ideal S8x4096x704 .bf16) (B : Vec Ideal S8x1024x704 .bf16) (z : S4096x1024.Idx) (i : Fin 8) : EReal :=
  ∑ k : Fin 704, A (ix3 i (z 0) k) * B (ix3 i (z 1) k)

/-- The product, its sum taken tile by tile. -/
def prod (A : Vec Ideal S8x4096x704 .bf16) (B : Vec Ideal S8x1024x704 .bf16) : Vec Ideal S4096x1024 .bf16 :=
  fun z => ∑ i : Fin 8, term A B z i

variable (m : (ℓ : Loc nD τ sig) → Buf (Elt Ideal) ℓ) (ρ : Dev nD → PrngReg)

/-- The first operand. -/
abbrev aA (c : Dev nD) : Vec Ideal S8x4096x704 .bf16 := m ((c : Thread nD τ).loc main_arg0)

/-- The second operand. -/
abbrev aB (c : Dev nD) : Vec Ideal S8x1024x704 .bf16 := m ((c : Thread nD τ).loc main_arg1)

/-- Where window 0's block lies at a point. -/
theorem index0 : ∀ t : Fin cfg0.N, win0_0.index t 0 = t.val % 8 ∧ win0_0.index t 1 = t.val / 8 ∧ win0_0.index t 2 = 0 :=
  (by decide +kernel : ∀ t : Fin grid0.N, win0_0.index t 0 = t.val % 8 ∧ win0_0.index t 1 = t.val / 8 ∧ win0_0.index t 2 = 0)

/-- Where window 1's block lies at a point. -/
theorem index1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)

/-- Where window 2's block lies at a point. -/
theorem index2 : ∀ t : Fin cfg0.N, win0_2.index t 0 = t.val / 8 ∧ win0_2.index t 1 = 0 :=
  (by decide +kernel : ∀ t : Fin grid0.N, win0_2.index t 0 = t.val / 8 ∧ win0_2.index t 1 = 0)

/-- Window 0's block at a point, in the operand's own indices. -/
theorem blk0 (c : Dev nD) (t : Fin cfg0.N) (i : Fin 8) (hi : t.val % 8 = i.val) (y : S1024x1024.Idx) (z : S4096x1024.Idx) (h0 : (z 0).val = 1024 * (t.val / 8) + (y 0).val) (h1 : (z 1).val = (y 1).val) (k : Fin 704) :
    (iblk m c 0 t : Vec Ideal _ .bf16) (ix3 0 (y 0) k) = aA m c (ix3 i (z 0) k) := by
  have hN : t.val < 32 := t.isLt
  unfold iblk
  rw [View.read_apply]
  show V m c main_arg0 _ = (m ((c : Thread nD τ).loc main_arg0) : Vec Ideal S8x4096x704 .bf16) _
  rw [V_main_arg0]
  refine congrArg _ (funext fun a => Fin.ext ?_)
  match a with
  | ⟨0, _⟩ => show win0_0.index t 0 * 1 + 1 * 0 = i.val; rw [(index0 t).1]; omega
  | ⟨1, _⟩ => show win0_0.index t 1 * 1024 + 1 * (y 0).val = (z 0).val; rw [(index0 t).2.1]; omega
  | ⟨2, _⟩ => show win0_0.index t 2 * 704 + 1 * k.val = k.val; rw [(index0 t).2.2]; omega

/-- Window 1's block at a point, in the operand's own indices. -/
theorem blk1 (c : Dev nD) (t : Fin cfg0.N) (i : Fin 8) (hi : t.val % 8 = i.val) (y : S1024x1024.Idx) (z : S4096x1024.Idx) (h0 : (z 0).val = 1024 * (t.val / 8) + (y 0).val) (h1 : (z 1).val = (y 1).val) (k : Fin 704) :
    (iblk m c 1 t : Vec Ideal _ .bf16) (ix3 0 (y 1) k) = aB m c (ix3 i (z 1) k) := by
  have hN : t.val < 32 := t.isLt
  unfold iblk
  rw [View.read_apply]
  show V m c main_arg1 _ = (m ((c : Thread nD τ).loc main_arg1) : Vec Ideal S8x1024x704 .bf16) _
  rw [V_main_arg1]
  refine congrArg _ (funext fun a => Fin.ext ?_)
  match a with
  | ⟨0, _⟩ => show win0_1.index t 0 * 1 + 1 * 0 = i.val; rw [(index1 t).1]; omega
  | ⟨1, _⟩ => show win0_1.index t 1 * 1024 + 1 * (y 1).val = (z 1).val; rw [(index1 t).2.1]; omega
  | ⟨2, _⟩ => show win0_1.index t 2 * 704 + 1 * k.val = k.val; rw [(index1 t).2.2]; omega

/-- A point's product of blocks is its tile's share. -/
theorem part_eq (c : Dev nD) (t : Fin cfg0.N) (i : Fin 8) (hi : t.val % 8 = i.val) (y : S1024x1024.Idx) (z : S4096x1024.Idx) (h0 : (z 0).val = 1024 * (t.val / 8) + (y 0).val) (h1 : (z 1).val = (y 1).val) :
    dot (iblk m c 0 t) (iblk m c 1 t) y = term (aA m c) (aB m c) z i := by
  unfold dot term
  exact Finset.sum_congr rfl fun k _ => congrArg₂ (· * ·) (blk0 m c t i hi y z h0 h1 k) (blk1 m c t i hi y z h0 h1 k)

/-- A point's product of blocks, as a function of the point's number. -/
def part (c : Dev nD) (y : S1024x1024.Idx) (n : ℕ) : EReal :=
  if h : n < cfg0.N then dot (iblk m c 0 ⟨n, h⟩) (iblk m c 1 ⟨n, h⟩) y else 0

/-- The accumulator at the end of a run of points: the sum of the run's products. -/
theorem acc_last (c : Dev nD) (y : S1024x1024.Idx) (n : ℕ) (h : n < cfg0.N) (hl : n % 8 + 1 = 8) :
    (outsAt0 m c n h).2 y = ∑ i : Fin 8, part m c y (8 * (n / 8) + i.val) := by
  refine Sums.acc_full (by decide) (fun n h => (outsAt0 m c n h).2 y) (part m c y) ?_ ?_ n h hl
  · intro n h hn
    have e := congrArg Prod.snd (outsAt0_A m c ⟨n, h⟩ hn (by show ¬ n % 8 = 7; omega))
    dsimp only at e
    rw [acc_A] at e
    show (outsAt0 m c n h).2 y = _
    rw [e]
    unfold part
    rw [dif_pos h]
    exact zero_add _
  · intro n h h' hn
    show (outsAt0 m c (n + 1) h).2 y = (outsAt0 m c n h').2 y + part m c y (n + 1)
    unfold part
    rw [dif_pos h]
    by_cases hl : (n + 1) % 8 = 7
    · have e := congrArg Prod.snd (outsAt0_C m c ⟨n + 1, h⟩ hn hl)
      dsimp only at e
      rw [acc_C] at e
      exact congrFun e y
    · have e := congrArg Prod.snd (outsAt0_B m c ⟨n + 1, h⟩ hn hl)
      dsimp only at e
      rw [acc_B] at e
      exact congrFun e y

/-- The output block at the end of a run of points is the accumulator. -/
theorem out_last (c : Dev nD) (t : Fin cfg0.N) (h1 : t.val % 8 = 7) :
    (outsAt0 m c t.val t.isLt).1 = fun (x : S1024x1024.Idx) => (outsAt0 m c t.val t.isLt).2 (x) := by
  have e := outsAt0_C m c t (by omega) h1
  have e1 := congrArg Prod.fst e
  have e2 := congrArg Prod.snd e
  dsimp only at e1 e2
  rw [out_C] at e1
  rw [acc_C] at e2
  rw [e1, e2]

/-- What a point writes back is its block of the product. -/
theorem flushed (c : Dev nD) (t : Fin cfg0.N) (hf : (cfg0.win 2).flush t = true) :
    (dats m 0 c).flushed 2 t = ((cfg0.win 2).blk t).view.read (Elt Ideal) (prod (aA m c) (aB m c)) := by
  have h1 : t.val % 8 = 7 := (flush0_2 t).mp hf
  have hN : t.val < 32 := t.isLt
  rw [Cert.Dh2Ideal.Value.flushed2]
  funext x
  rw [View.read_apply]
  rw [out_last m c t h1]
  have x0 : (x 0).val < 1024 := (x 0).isLt
  have x1 : (x 1).val < 1024 := (x 1).isLt
  refine Eq.trans (congrArg (outsAt0 m c t.val t.isLt).2 (?_ : _ = (ix2 ⟨(x 0).val, x0⟩ ⟨(x 1).val, x1⟩ : S1024x1024.Idx))) ?_
  · exact eq_ix2 _
  rw [acc_last m c _ t.val t.isLt (by omega)]
  refine Eq.trans (b := prod (aA m c) (aB m c) (ix2 ⟨1024 * (t.val / 8) + (x 0).val, by omega⟩ ⟨(x 1).val, by omega⟩)) ?_ (congrArg (prod (aA m c) (aB m c)) (funext fun a => Fin.ext ?_))
  · refine Finset.sum_congr rfl fun i _ => ?_
    have hi : i.val < 8 := i.isLt
    have hn : 8 * (t.val / 8) + i.val < cfg0.N := by show _ < 32; omega
    unfold part
    rw [dif_pos hn]
    refine part_eq m c ⟨_, hn⟩ i (by show (8 * (t.val / 8) + i.val) % 8 = i.val; omega) _ _ ?_ ?_
    · show 1024 * (t.val / 8) + (x 0).val = 1024 * ((8 * (t.val / 8) + i.val) / 8) + (x 0).val; omega
    · show (x 1).val = (x 1).val; omega
  · match a with
    | ⟨0, _⟩ => show 1024 * (t.val / 8) + (x 0).val = win0_2.index t 0 * 1024 + 1 * (x 0).val; rw [(index2 t).1]; omega
    | ⟨1, _⟩ => show (x 1).val = win0_2.index t 1 * 1024 + 1 * (x 1).val; rw [(index2 t).2]; omega

/-- The result array after the run. -/
theorem final (c : Dev nD) : (dats m 0 c).arrAt 2 cfg0.N = prod (aA m c) (aB m c) :=
  (dats m 0 c).arrAt_eq_of_cover 2 (prod (aA m c) (aB m c)) (flushed m c) fun i =>
    (Cert.Dh2Ideal.Value.covered_iff2 i).2 ⟨Nat.zero_le _, (i 0).isLt, Nat.zero_le _, (i 1).isLt⟩

/-- The run, read: the result at the product, the arguments unchanged. -/
theorem run : θ_run defs (onTc (τ := τ) (main (F := Ideal))) ⟨m, fun _ => 0, ρ⟩ fun r => ∀ c : Dev nD,
      r.2.mem ((c : Thread nD τ).loc main_v0) = prod (aA m c) (aB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Dh2Ideal.Value.run_blocks m ρ)

end Cert.Dh2Ideal.Arr

end
-- ==== Proof.Dh2Ref.lean ====
/-
  The reference's result: the same product, its sum in one piece.
-/
module

public import proofs.«01_k».proof.Proof.Dh2Array
public import proofs.«01_k».proof.Proof.Gen.Dh2RefIdeal.Run
public import proofs.«01_k».proof.Proof.Gen.Dh2RefIdeal.Read

@[expose] public section

set_option maxRecDepth 16384

noncomputable section

namespace Cert.Dh2RefIdeal.Eq

open Cert.Dh2RefIdeal Cert.Dh2RefIdeal.Gen Cert.Dh2RefIdeal.Read Idealize.ShloMosaic Idealize.ShloMosaic.TcCoe Idealize.SL.Sem
open Idealize.ShloMosaic.Pipeline (Dat)

/-- The reference's product is the kernel's, whose sum is taken tile by tile. -/
theorem result (A : Vec Ideal S8x4096x704 .bf16) (B : Vec Ideal S8x1024x704 .bf16) : val_main_v9 (F := Ideal) A B = Cert.Dh2Ideal.Arr.prod A B := by
  funext z
  idx_vars z
  pointwise [val_main_v0, val_main_v1, val_main_v2, val_main_v3, val_main_v4, val_main_v5, val_main_cst, val_main_v6, val_main_v7, val_main_v8, val_main_v9]
  unfold Cert.Dh2Ideal.Arr.prod Cert.Dh2Ideal.Arr.term
  rw [Fin.sum_univ_tiles 8 704 (by norm_num)]
  refine Finset.sum_congr rfl fun i _ => Finset.sum_congr rfl fun k _ => ?_
  have hk : k.val < 704 := k.isLt
  refine congrArg₂ (· * ·) (congrArg A (funext fun a => Fin.ext ?_)) (congrArg B (funext fun a => Fin.ext ?_))
  · match a with
    | ⟨0, _⟩ => show (i.val * 704 + k.val) / 704 = i.val; omega
    | ⟨1, _⟩ => rfl
    | ⟨2, _⟩ => show (i.val * 704 + k.val) % 704 = k.val; omega
  · match a with
    | ⟨0, _⟩ => show (i.val * 704 + k.val) / 704 = i.val; omega
    | ⟨1, _⟩ => rfl
    | ⟨2, _⟩ => show (i.val * 704 + k.val) % 704 = k.val; omega

end Cert.Dh2RefIdeal.Eq

end
-- ==== Proof.Dh2Claims.lean ====
/-
  The claims about the gradient of the feed-forward block's input, assembled.
-/
module

public import proofs.«01_k».proof.Defs
public import proofs.«01_k».proof.Proof.Dh2Array
public import proofs.«01_k».proof.Proof.Dh2Ref
public import proofs.«01_k».proof.Proof.Gen.Dh2.Frame

@[expose] public section

noncomputable section

namespace Cert.Dh2Claims

open Idealize.ShloMosaic Idealize.SL.Sem

instance : Cert.Dh2.Facts := Cert.Dh2.Gen.facts
instance : Cert.Dh2Ideal.Facts := Cert.Dh2Ideal.Gen.facts
instance : Cert.Dh2RefIdeal.Facts := Cert.Dh2RefIdeal.Gen.facts

/-- The kernel's program ends, faultless, its arguments unchanged, every semaphore at zero. -/
theorem frame_kernel : Cert.quiescent_Dh2 := fun m ρ _ => Cert.Dh2.Gen.frame m ρ

/-- The same of the kernel over the extended reals. -/
theorem frame_ideal : Cert.quiescent_Dh2Ideal := fun m ρ _ => Cert.Dh2Ideal.Gen.frame m ρ

/-- The reference ends, faultless, its arguments unchanged, every semaphore at zero. -/
theorem frame_ref : Cert.quiescent_Dh2RefIdeal := fun m ρ _ =>
  (θ_run Cert.Dh2RefIdeal.defs _ _).mono (fun r h => ⟨fun c => (h c).2, sem_eq_zero_of_no_sems (by decide) r.2⟩)
    (Cert.Dh2RefIdeal.Value.run m ρ)

/-- Kernel and reference end with the same result. -/
theorem algebraic : Cert.algebraic_Dh2Ideal_Dh2RefIdeal := fun m ρ m' ρ' _ hag =>
  ⟨fun c => Cert.Dh2Ideal.Arr.prod (Cert.Dh2Ideal.Arr.aA m c) (Cert.Dh2Ideal.Arr.aB m c),
    Cert.Dh2Ideal.Arr.run m ρ,
    (θ_run _ _ _).mono (fun r h c => by
      obtain ⟨h0, hk⟩ := h c
      obtain ⟨e0, e1⟩ := hag c
      refine ⟨h0.trans ((Cert.Dh2RefIdeal.Read.val_main_v9_eq _ _).trans ?_), hk⟩
      · rw [e0, e1]; exact Cert.Dh2RefIdeal.Eq.result _ _) (Cert.Dh2RefIdeal.Value.run m' ρ')⟩

end Cert.Dh2Claims

end
-- ==== Proof.DwupProd.lean ====
/-
  The gradient of the up-projection's weights: what one grid point leaves
  in the accumulator and in the output block.
-/
module

public import proofs.«01_k».proof.Proof.Sums
public import proofs.«01_k».proof.Proof.Gen.DwupIdeal.Value
public import Idealize.ShloMosaic.Lib.Pipeline.ValueKit.Tiles
public import Idealize.ShloMosaic.Lib.Pipeline.ValueKit.Acc
public import Idealize.ShloMosaic.Lib.Tactic

@[expose] public section

set_option maxRecDepth 16384

noncomputable section

namespace Cert.DwupIdeal.Prod

open Cert.DwupIdeal Cert.DwupIdeal.Gen Idealize.ShloMosaic Idealize.ShloMosaic.TcCoe Idealize.SL.Sem
open Idealize.ShloMosaic.Pipeline (Dat)

/-- The product of a point's two blocks at an index of the accumulator. -/
def dot (x0 : Vec Ideal S1024x1024 .bf16) (x1 : Vec Ideal S1x1024x704 .bf16) (y : S1024x704.Idx) : EReal :=
  ∑ k : Fin 1024, x0 (ix2 k (y 0)) * x1 (ix3 0 k (y 1))

/-- The accumulator is cleared with zeros. -/
theorem cleared : k0_pay1 (F := Ideal) = fun _ => (0 : EReal) := by
  funext y
  pointwise [k0_pay1]

/-- It gains the product of the blocks. -/
theorem gained (v : Vec Ideal S1024x704 .f32) (x0 : Vec Ideal S1024x1024 .bf16) (x1 : Vec Ideal S1x1024x704 .bf16) :
    k0_pay2 (F := Ideal) v x0 x1 = fun y => v y + dot x0 x1 y := by
  funext y
  idx_vars y
  pointwise [k0_pay2, dot]

/-- The output block is the accumulator. -/
theorem copied (v : Vec Ideal S1024x704 .f32) : k0_pay3 (F := Ideal) v = fun y => v (ix2 (y 1) (y 2)) := by
  funext y
  idx_vars y
  pointwise [k0_pay3]

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The accumulator after the first point of a run. -/
theorem acc_A (c : Dev nD) (i : grid0.Coords) (arg3 : Memref sig .tc .vmem S1024x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1024x704 .f32) (harg6 : arg6.IsWhole) (hc0 : cond0_0 i) (hc1 : ¬cond0_1 i) (x0 : Vec Ideal S1024x1024 .bf16) (x1 : Vec Ideal S1x1024x704 .bf16) :
    sout0_A_0 (F := Ideal) c i arg3 harg3 arg4 harg4 arg5 harg5 arg6 harg6 hc0 hc1 x0 x1 = fun y => 0 + dot x0 x1 y := by
  unfold sout0_A_0
  rw [View.read_writes_eq_canon _ _ _ (scover0_A_0 (F := Ideal) c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1024x1024) hz2, View.ld_unit_zero (S := S1x1024x704) hz3, View.ld_unit_zero (S := S1024x704) hz2, View.readCov_unit_zero (S := S1024x704) _ hz2]
  rw [View.canon_cons_unit_zero hz2]
  rw [gained, cleared]

/-- The accumulator after a point in the middle. -/
theorem acc_B (c : Dev nD) (i : grid0.Coords) (arg3 : Memref sig .tc .vmem S1024x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1024x704 .f32) (harg6 : arg6.IsWhole) (hc0 : ¬cond0_0 i) (hc1 : ¬cond0_1 i) (x0 : Vec Ideal S1024x1024 .bf16) (x1 : Vec Ideal S1x1024x704 .bf16) (xs0 : Vec Ideal S1024x704 .f32) :
    sout0_B_0 (F := Ideal) c i arg3 harg3 arg4 harg4 arg5 harg5 arg6 harg6 hc0 hc1 x0 x1 xs0 = fun y => xs0 y + dot x0 x1 y := by
  unfold sout0_B_0
  rw [View.read_writes_eq_canon _ _ _ (scover0_B_0 (F := Ideal) c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1024x1024) hz2, View.ld_unit_zero (S := S1x1024x704) hz3, View.ld_unit_zero (S := S1024x704) hz2, View.readCov_unit_zero (S := S1024x704) _ hz2]
  rw [View.canon_cons_unit_zero hz2]
  rw [gained]

/-- The accumulator after the last point. -/
theorem acc_C (c : Dev nD) (i : grid0.Coords) (arg3 : Memref sig .tc .vmem S1024x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1024x704 .f32) (harg6 : arg6.IsWhole) (hc0 : ¬cond0_0 i) (hc1 : cond0_1 i) (x0 : Vec Ideal S1024x1024 .bf16) (x1 : Vec Ideal S1x1024x704 .bf16) (xs0 : Vec Ideal S1024x704 .f32) :
    sout0_C_0 (F := Ideal) c i arg3 harg3 arg4 harg4 arg5 harg5 arg6 harg6 hc0 hc1 x0 x1 xs0 = fun y => xs0 y + dot x0 x1 y := by
  unfold sout0_C_0
  rw [View.read_writes_eq_canon _ _ _ (scover0_C_0 (F := Ideal) c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1024x1024) hz2, View.ld_unit_zero (S := S1x1024x704) hz3, View.ld_unit_zero (S := S1024x704) hz2, View.readCov_unit_zero (S := S1024x704) _ hz2]
  rw [View.canon_cons_unit_zero hz2]
  rw [gained]

/-- The output block after the last point. -/
theorem out_C (c : Dev nD) (i : grid0.Coords) (arg3 : Memref sig .tc .vmem S1024x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1024x704 .f32) (harg6 : arg6.IsWhole) (hc0 : ¬cond0_0 i) (hc1 : cond0_1 i) (x0 : Vec Ideal S1024x1024 .bf16) (x1 : Vec Ideal S1x1024x704 .bf16) (xs0 : Vec Ideal S1024x704 .f32) :
    out0_C_2 (F := Ideal) c i arg3 harg3 arg4 harg4 arg5 harg5 arg6 harg6 hc0 hc1 x0 x1 xs0 = fun y => xs0 (ix2 (y 1) (y 2)) + dot x0 x1 (ix2 (y 1) (y 2)) := by
  unfold out0_C_2
  rw [View.read_writes_eq_canon _ _ _ (cover0_C_2 (F := Ideal) c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1024x1024) hz2, View.ld_unit_zero (S := S1x1024x704) hz3, View.ld_unit_zero (S := S1024x704) hz2, View.readCov_unit_zero (S := S1024x704) _ hz2]
  rw [View.canon_cons_unit_zero hz3]
  rw [copied, gained]

end Cert.DwupIdeal.Prod

end
-- ==== Proof.DwupArray.lean ====
/-
  The product summed over the tiles, and what the result array holds after the run.
-/
module

public import proofs.«01_k».proof.Proof.Sums
public import proofs.«01_k».proof.Proof.DwupProd

@[expose] public section

set_option maxRecDepth 16384

noncomputable section

namespace Cert.DwupIdeal.Arr

open Cert.DwupIdeal Cert.DwupIdeal.Gen Cert.DwupIdeal.Prod Idealize.ShloMosaic Idealize.ShloMosaic.TcCoe Idealize.SL.Sem
open Idealize.ShloMosaic.Pipeline (Dat)

/-- One tile's share of the product, at an index of the result. -/
def term (A : Vec Ideal S4096x1024 .bf16) (B : Vec Ideal S8x4096x704 .bf16) (z : S8x1024x704.Idx) (i : Fin 4) : EReal :=
  ∑ k : Fin 1024, A (ix2 ⟨i.val * 1024 + k.val, by omega⟩ (z 1)) * B (ix3 (z 0) ⟨i.val * 1024 + k.val, by omega⟩ (z 2))

/-- The product, its sum taken tile by tile. -/
def prod (A : Vec Ideal S4096x1024 .bf16) (B : Vec Ideal S8x4096x704 .bf16) : Vec Ideal S8x1024x704 .bf16 :=
  fun z => ∑ i : Fin 4, term A B z i

variable (m : (ℓ : Loc nD τ sig) → Buf (Elt Ideal) ℓ) (ρ : Dev nD → PrngReg)

/-- The first operand. -/
abbrev aA (c : Dev nD) : Vec Ideal S4096x1024 .bf16 := m ((c : Thread nD τ).loc main_arg0)

/-- The second operand. -/
abbrev aB (c : Dev nD) : Vec Ideal S8x4096x704 .bf16 := m ((c : Thread nD τ).loc main_arg1)

/-- Where window 0's block lies at a point. -/
theorem index0 : ∀ t : Fin cfg0.N, win0_0.index t 0 = t.val % 4 ∧ win0_0.index t 1 = 0 :=
  (by decide +kernel : ∀ t : Fin grid0.N, win0_0.index t 0 = t.val % 4 ∧ win0_0.index t 1 = 0)

/-- Where window 1's block lies at a point. -/
theorem index1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

/-- Where window 2's block lies at a point. -/
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- Window 0's block at a point, in the operand's own indices. -/
theorem blk0 (c : Dev nD) (t : Fin cfg0.N) (i : Fin 4) (hi : t.val % 4 = i.val) (y : S1024x704.Idx) (z : S8x1024x704.Idx) (h0 : (z 0).val = t.val / 4) (h1 : (z 1).val = (y 0).val) (h2 : (z 2).val = (y 1).val) (k : Fin 1024) :
    (iblk m c 0 t : Vec Ideal _ .bf16) (ix2 k (y 0)) = aA m c (ix2 ⟨i.val * 1024 + k.val, by omega⟩ (z 1)) := by
  have hN : t.val < 32 := t.isLt
  unfold iblk
  rw [View.read_apply]
  show V m c main_arg0 _ = (m ((c : Thread nD τ).loc main_arg0) : Vec Ideal S4096x1024 .bf16) _
  rw [V_main_arg0]
  refine congrArg _ (funext fun a => Fin.ext ?_)
  match a with
  | ⟨0, _⟩ => show win0_0.index t 0 * 1024 + 1 * k.val = (i.val * 1024 + k.val); rw [(index0 t).1]; omega
  | ⟨1, _⟩ => show win0_0.index t 1 * 1024 + 1 * (y 0).val = (z 1).val; rw [(index0 t).2]; omega

/-- Window 1's block at a point, in the operand's own indices. -/
theorem blk1 (c : Dev nD) (t : Fin cfg0.N) (i : Fin 4) (hi : t.val % 4 = i.val) (y : S1024x704.Idx) (z : S8x1024x704.Idx) (h0 : (z 0).val = t.val / 4) (h1 : (z 1).val = (y 0).val) (h2 : (z 2).val = (y 1).val) (k : Fin 1024) :
    (iblk m c 1 t : Vec Ideal _ .bf16) (ix3 0 k (y 1)) = aB m c (ix3 (z 0) ⟨i.val * 1024 + k.val, by omega⟩ (z 2)) := by
  have hN : t.val < 32 := t.isLt
  unfold iblk
  rw [View.read_apply]
  show V m c main_arg1 _ = (m ((c : Thread nD τ).loc main_arg1) : Vec Ideal S8x4096x704 .bf16) _
  rw [V_main_arg1]
  refine congrArg _ (funext fun a => Fin.ext ?_)
  match a with
  | ⟨0, _⟩ => show win0_1.index t 0 * 1 + 1 * 0 = (z 0).val; rw [(index1 t).1]; omega
  | ⟨1, _⟩ => show win0_1.index t 1 * 1024 + 1 * k.val = (i.val * 1024 + k.val); rw [(index1 t).2.1]; omega
  | ⟨2, _⟩ => show win0_1.index t 2 * 704 + 1 * (y 1).val = (z 2).val; rw [(index1 t).2.2]; omega

/-- A point's product of blocks is its tile's share. -/
theorem part_eq (c : Dev nD) (t : Fin cfg0.N) (i : Fin 4) (hi : t.val % 4 = i.val) (y : S1024x704.Idx) (z : S8x1024x704.Idx) (h0 : (z 0).val = t.val / 4) (h1 : (z 1).val = (y 0).val) (h2 : (z 2).val = (y 1).val) :
    dot (iblk m c 0 t) (iblk m c 1 t) y = term (aA m c) (aB m c) z i := by
  unfold dot term
  exact Finset.sum_congr rfl fun k _ => congrArg₂ (· * ·) (blk0 m c t i hi y z h0 h1 h2 k) (blk1 m c t i hi y z h0 h1 h2 k)

/-- A point's product of blocks, as a function of the point's number. -/
def part (c : Dev nD) (y : S1024x704.Idx) (n : ℕ) : EReal :=
  if h : n < cfg0.N then dot (iblk m c 0 ⟨n, h⟩) (iblk m c 1 ⟨n, h⟩) y else 0

/-- The accumulator at the end of a run of points: the sum of the run's products. -/
theorem acc_last (c : Dev nD) (y : S1024x704.Idx) (n : ℕ) (h : n < cfg0.N) (hl : n % 4 + 1 = 4) :
    (outsAt0 m c n h).2 y = ∑ i : Fin 4, part m c y (4 * (n / 4) + i.val) := by
  refine Sums.acc_full (by decide) (fun n h => (outsAt0 m c n h).2 y) (part m c y) ?_ ?_ n h hl
  · intro n h hn
    have e := congrArg Prod.snd (outsAt0_A m c ⟨n, h⟩ hn (by show ¬ n % 4 = 3; omega))
    dsimp only at e
    rw [acc_A] at e
    show (outsAt0 m c n h).2 y = _
    rw [e]
    unfold part
    rw [dif_pos h]
    exact zero_add _
  · intro n h h' hn
    show (outsAt0 m c (n + 1) h).2 y = (outsAt0 m c n h').2 y + part m c y (n + 1)
    unfold part
    rw [dif_pos h]
    by_cases hl : (n + 1) % 4 = 3
    · have e := congrArg Prod.snd (outsAt0_C m c ⟨n + 1, h⟩ hn hl)
      dsimp only at e
      rw [acc_C] at e
      exact congrFun e y
    · have e := congrArg Prod.snd (outsAt0_B m c ⟨n + 1, h⟩ hn hl)
      dsimp only at e
      rw [acc_B] at e
      exact congrFun e y

/-- The output block at the end of a run of points is the accumulator. -/
theorem out_last (c : Dev nD) (t : Fin cfg0.N) (h1 : t.val % 4 = 3) :
    (outsAt0 m c t.val t.isLt).1 = fun (x : S1x1024x704.Idx) => (outsAt0 m c t.val t.isLt).2 (ix2 (x 1) (x 2)) := by
  have e := outsAt0_C m c t (by omega) h1
  have e1 := congrArg Prod.fst e
  have e2 := congrArg Prod.snd e
  dsimp only at e1 e2
  rw [out_C] at e1
  rw [acc_C] at e2
  rw [e1, e2]

/-- What a point writes back is its block of the product. -/
theorem flushed (c : Dev nD) (t : Fin cfg0.N) (hf : (cfg0.win 2).flush t = true) :
    (dats m 0 c).flushed 2 t = ((cfg0.win 2).blk t).view.read (Elt Ideal) (prod (aA m c) (aB m c)) := by
  have h1 : t.val % 4 = 3 := (flush0_2 t).mp hf
  have hN : t.val < 32 := t.isLt
  rw [Cert.DwupIdeal.Value.flushed2]
  funext x
  rw [View.read_apply]
  rw [out_last m c t h1]
  have x0 : (x 0).val < 1 := (x 0).isLt
  have x1 : (x 1).val < 1024 := (x 1).isLt
  have x2 : (x 2).val < 704 := (x 2).isLt
  refine Eq.trans (congrArg (outsAt0 m c t.val t.isLt).2 (?_ : _ = (ix2 ⟨(x 1).val, x1⟩ ⟨(x 2).val, x2⟩ : S1024x704.Idx))) ?_
  · exact eq_ix2 _
  rw [acc_last m c _ t.val t.isLt (by omega)]
  refine Eq.trans (b := prod (aA m c) (aB m c) (ix3 ⟨t.val / 4, by omega⟩ ⟨(x 1).val, by omega⟩ ⟨(x 2).val, by omega⟩)) ?_ (congrArg (prod (aA m c) (aB m c)) (funext fun a => Fin.ext ?_))
  · refine Finset.sum_congr rfl fun i _ => ?_
    have hi : i.val < 4 := i.isLt
    have hn : 4 * (t.val / 4) + i.val < cfg0.N := by show _ < 32; omega
    unfold part
    rw [dif_pos hn]
    refine part_eq m c ⟨_, hn⟩ i (by show (4 * (t.val / 4) + i.val) % 4 = i.val; omega) _ _ ?_ ?_ ?_
    · show t.val / 4 = (4 * (t.val / 4) + i.val) / 4; omega
    · show (x 1).val = (x 1).val; omega
    · show (x 2).val = (x 2).val; omega
  · match a with
    | ⟨0, _⟩ => show t.val / 4 = win0_2.index t 0 * 1 + 1 * (x 0).val; rw [(index2 t).1]; omega
    | ⟨1, _⟩ => show (x 1).val = win0_2.index t 1 * 1024 + 1 * (x 1).val; rw [(index2 t).2.1]; omega
    | ⟨2, _⟩ => show (x 2).val = win0_2.index t 2 * 704 + 1 * (x 2).val; rw [(index2 t).2.2]; omega

/-- The result array after the run. -/
theorem final (c : Dev nD) : (dats m 0 c).arrAt 2 cfg0.N = prod (aA m c) (aB m c) :=
  (dats m 0 c).arrAt_eq_of_cover 2 (prod (aA m c) (aB m c)) (flushed m c) fun i =>
    (Cert.DwupIdeal.Value.covered_iff2 i).2 ⟨Nat.zero_le _, (i 0).isLt, Nat.zero_le _, (i 1).isLt, Nat.zero_le _, (i 2).isLt⟩

/-- The run, read: the result at the product, the arguments unchanged. -/
theorem run : θ_run defs (onTc (τ := τ) (main (F := Ideal))) ⟨m, fun _ => 0, ρ⟩ fun r => ∀ c : Dev nD,
      r.2.mem ((c : Thread nD τ).loc main_v0) = prod (aA m c) (aB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.DwupIdeal.Value.run_blocks m ρ)

end Cert.DwupIdeal.Arr

end
-- ==== Proof.DwupRef.lean ====
/-
  The reference's result: the same product, its sum in one piece.
-/
module

public import proofs.«01_k».proof.Proof.DwupArray
public import proofs.«01_k».proof.Proof.Gen.DwupRefIdeal.Run
public import proofs.«01_k».proof.Proof.Gen.DwupRefIdeal.Read

@[expose] public section

set_option maxRecDepth 16384

noncomputable section

namespace Cert.DwupRefIdeal.Eq

open Cert.DwupRefIdeal Cert.DwupRefIdeal.Gen Cert.DwupRefIdeal.Read Idealize.ShloMosaic Idealize.ShloMosaic.TcCoe Idealize.SL.Sem
open Idealize.ShloMosaic.Pipeline (Dat)

/-- The reference's product is the kernel's, whose sum is taken tile by tile. -/
theorem result (A : Vec Ideal S4096x1024 .bf16) (B : Vec Ideal S8x4096x704 .bf16) : val_main_v10 (F := Ideal) A B = Cert.DwupIdeal.Arr.prod A B := by
  funext z
  idx_vars z
  pointwise [val_main_v0, val_main_v1, val_main_v2, val_main_v3, val_main_cst, val_main_v4, val_main_v5, val_main_v6, val_main_v7, val_main_v8, val_main_v9, val_main_v10]
  unfold Cert.DwupIdeal.Arr.prod Cert.DwupIdeal.Arr.term
  rw [Fin.sum_univ_tiles 4 1024 (by norm_num)]
  exact Finset.sum_congr rfl fun i _ => Finset.sum_congr rfl fun k _ => mul_comm _ _

end Cert.DwupRefIdeal.Eq

end
-- ==== Proof.DwupClaims.lean ====
/-
  The claims about the gradient of the up-projection's weights, assembled.
-/
module

public import proofs.«01_k».proof.Defs
public import proofs.«01_k».proof.Proof.DwupArray
public import proofs.«01_k».proof.Proof.DwupRef
public import proofs.«01_k».proof.Proof.Gen.Dwup.Frame

@[expose] public section

noncomputable section

namespace Cert.DwupClaims

open Idealize.ShloMosaic Idealize.SL.Sem

instance : Cert.Dwup.Facts := Cert.Dwup.Gen.facts
instance : Cert.DwupIdeal.Facts := Cert.DwupIdeal.Gen.facts
instance : Cert.DwupRefIdeal.Facts := Cert.DwupRefIdeal.Gen.facts

/-- The kernel's program ends, faultless, its arguments unchanged, every semaphore at zero. -/
theorem frame_kernel : Cert.quiescent_Dwup := fun m ρ _ => Cert.Dwup.Gen.frame m ρ

/-- The same of the kernel over the extended reals. -/
theorem frame_ideal : Cert.quiescent_DwupIdeal := fun m ρ _ => Cert.DwupIdeal.Gen.frame m ρ

/-- The reference ends, faultless, its arguments unchanged, every semaphore at zero. -/
theorem frame_ref : Cert.quiescent_DwupRefIdeal := fun m ρ _ =>
  (θ_run Cert.DwupRefIdeal.defs _ _).mono (fun r h => ⟨fun c => (h c).2, sem_eq_zero_of_no_sems (by decide) r.2⟩)
    (Cert.DwupRefIdeal.Value.run m ρ)

/-- Kernel and reference end with the same result. -/
theorem algebraic : Cert.algebraic_DwupIdeal_DwupRefIdeal := fun m ρ m' ρ' _ hag =>
  ⟨fun c => Cert.DwupIdeal.Arr.prod (Cert.DwupIdeal.Arr.aA m c) (Cert.DwupIdeal.Arr.aB m c),
    Cert.DwupIdeal.Arr.run m ρ,
    (θ_run _ _ _).mono (fun r h c => by
      obtain ⟨h0, hk⟩ := h c
      obtain ⟨e0, e1⟩ := hag c
      refine ⟨h0.trans ((Cert.DwupRefIdeal.Read.val_main_v10_eq _ _).trans ?_), hk⟩
      · rw [e0, e1]; exact Cert.DwupRefIdeal.Eq.result _ _) (Cert.DwupRefIdeal.Value.run m' ρ')⟩

end Cert.DwupClaims

end
-- ==== Proof.UpArray.lean ====
/-
  The up-projection:
  what one grid point computes, and what the result array holds after the run.
-/
module

public import proofs.«01_k».proof.Proof.Gen.UpIdeal.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.UpIdeal.Arr

open Cert.UpIdeal Cert.UpIdeal.Gen Idealize.ShloMosaic Idealize.ShloMosaic.TcCoe Idealize.SL.Sem
open Idealize.ShloMosaic.Pipeline (Dat)

/-- The product of a point's blocks. -/
def dot (x0 : Vec Ideal S1024x1024 .bf16) (x1 : Vec Ideal S1x1024x704 .bf16) (y : S1x1024x704.Idx) : EReal :=
  (∑ k : Fin 1024, x0 (ix2 (y 1) k) * x1 (ix3 0 k (y 2)))

/-- The whole product. -/
def prod (A : Vec Ideal S4096x1024 .bf16) (B : Vec Ideal S8x1024x704 .bf16) : Vec Ideal S8x4096x704 .bf16 := fun z =>
  (∑ k : Fin 1024, A (ix2 (z 1) k) * B (ix3 (z 0) k (z 2)))

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The body's arithmetic is the product of the blocks. -/
theorem computed (x0 : Vec Ideal S1024x1024 .bf16) (x1 : Vec Ideal S1x1024x704 .bf16) : k0_pay1 (F := Ideal) x0 x1 = dot x0 x1 := by
  funext y
  idx_vars y
  pointwise [k0_pay1, dot]

/-- What a point leaves in the output block. -/
theorem out_eq (x0 : Vec Ideal S1024x1024 .bf16) (x1 : Vec Ideal S1x1024x704 .bf16) : out0_2 (F := Ideal) x0 x1 = dot x0 x1 := by
  unfold out0_2
  simp only [View.ld_unit_zero (S := S1024x1024) hz2, View.ld_unit_zero (S := S1x1024x704) hz3]
  rw [View.canon_cons_unit_zero hz3]
  exact computed x0 x1

variable (m : (ℓ : Loc nD τ sig) → Buf (Elt Ideal) ℓ) (ρ : Dev nD → PrngReg)

/-- Operand 0. -/
abbrev aA (c : Dev nD) : Vec Ideal S4096x1024 .bf16 := m ((c : Thread nD τ).loc main_arg0)

/-- Operand 1. -/
abbrev aB (c : Dev nD) : Vec Ideal S8x1024x704 .bf16 := m ((c : Thread nD τ).loc main_arg1)

/-- Where window 0's block lies at a point. -/
theorem index0 : ∀ t : Fin cfg0.N, win0_0.index t 0 = t.val % 4 ∧ win0_0.index t 1 = 0 :=
  (by decide +kernel : ∀ t : Fin grid0.N, win0_0.index t 0 = t.val % 4 ∧ win0_0.index t 1 = 0)

/-- Where window 1's block lies at a point. -/
theorem index1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- Where window 2's block lies at a point. -/
theorem index2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)

/-- Window 0's block at a point, in the operand's own indices. -/
theorem blk0 (c : Dev nD) (t : Fin cfg0.N) (y : S1x1024x704.Idx) (z : S8x4096x704.Idx) (h0 : (z 0).val = t.val / 4) (h1 : (z 1).val = 1024 * (t.val % 4) + (y 1).val) (h2 : (z 2).val = (y 2).val) (k : Fin 1024) :
    (iblk m c 0 t : Vec Ideal _ .bf16) (ix2 (y 1) k) = aA m c (ix2 (z 1) k) := by
  unfold iblk
  rw [View.read_apply]
  show V m c main_arg0 _ = aA m c _
  rw [V_main_arg0]
  refine congrArg _ (funext fun a => Fin.ext ?_)
  · match a with
    | ⟨0, _⟩ => show win0_0.index t 0 * 1024 + 1 * (y 1).val = (z 1).val; rw [(index0 t).1]; omega
    | ⟨1, _⟩ => show win0_0.index t 1 * 1024 + 1 * k.val = k.val; rw [(index0 t).2]; omega

/-- Window 1's block at a point, in the operand's own indices. -/
theorem blk1 (c : Dev nD) (t : Fin cfg0.N) (y : S1x1024x704.Idx) (z : S8x4096x704.Idx) (h0 : (z 0).val = t.val / 4) (h1 : (z 1).val = 1024 * (t.val % 4) + (y 1).val) (h2 : (z 2).val = (y 2).val) (k : Fin 1024) :
    (iblk m c 1 t : Vec Ideal _ .bf16) (ix3 0 k (y 2)) = aB m c (ix3 (z 0) k (z 2)) := by
  unfold iblk
  rw [View.read_apply]
  show V m c main_arg1 _ = aB m c _
  rw [V_main_arg1]
  refine congrArg _ (funext fun a => Fin.ext ?_)
  · match a with
    | ⟨0, _⟩ => show win0_1.index t 0 * 1 + 1 * 0 = (z 0).val; rw [(index1 t).1]; omega
    | ⟨1, _⟩ => show win0_1.index t 1 * 1024 + 1 * k.val = k.val; rw [(index1 t).2.1]; omega
    | ⟨2, _⟩ => show win0_1.index t 2 * 704 + 1 * (y 2).val = (z 2).val; rw [(index1 t).2.2]; omega

/-- A point's product of blocks is the whole product there. -/
theorem part_eq (c : Dev nD) (t : Fin cfg0.N) (y : S1x1024x704.Idx) (z : S8x4096x704.Idx) (h0 : (z 0).val = t.val / 4) (h1 : (z 1).val = 1024 * (t.val % 4) + (y 1).val) (h2 : (z 2).val = (y 2).val) :
    dot (iblk m c 0 t) (iblk m c 1 t) y = prod (aA m c) (aB m c) z := by
  unfold dot prod
  exact (Finset.sum_congr rfl fun k _ => congrArg₂ (· * ·) (blk0 m c t y z h0 h1 h2 k) (blk1 m c t y z h0 h1 h2 k))

/-- What a point writes back is its block of the product. -/
theorem flushed (c : Dev nD) (t : Fin cfg0.N) (hf : (cfg0.win 2).flush t = true) :
    (dats m 0 c).flushed 2 t = ((cfg0.win 2).blk t).view.read (Elt Ideal) (prod (aA m c) (aB m c)) := by
  have hN : t.val < 32 := t.isLt
  rw [Cert.UpIdeal.Value.flushed2, out_eq]
  funext x
  rw [View.read_apply]
  have x0 : (x 0).val < 1 := (x 0).isLt
  have x1 : (x 1).val < 1024 := (x 1).isLt
  have x2 : (x 2).val < 704 := (x 2).isLt
  refine Eq.trans (congrArg (dot (iblk m c 0 t) (iblk m c 1 t)) (?_ : _ = (ix3 ⟨(x 0).val, x0⟩ ⟨(x 1).val, x1⟩ ⟨(x 2).val, x2⟩ : S1x1024x704.Idx))) ?_
  · exact eq_ix3 _
  refine (part_eq m c t _ (ix3 ⟨t.val / 4, by omega⟩ ⟨1024 * (t.val % 4) + (x 1).val, by omega⟩ ⟨(x 2).val, by omega⟩) rfl rfl rfl).trans (congrArg (prod (aA m c) (aB m c)) (funext fun a => Fin.ext ?_))
  match a with
  | ⟨0, _⟩ => show t.val / 4 = win0_2.index t 0 * 1 + 1 * (x 0).val; rw [(index2 t).1]; omega
  | ⟨1, _⟩ => show 1024 * (t.val % 4) + (x 1).val = win0_2.index t 1 * 1024 + 1 * (x 1).val; rw [(index2 t).2.1]; omega
  | ⟨2, _⟩ => show (x 2).val = win0_2.index t 2 * 704 + 1 * (x 2).val; rw [(index2 t).2.2]; omega

/-- The result array after the run: every index lies in the block of one point. -/
theorem final (c : Dev nD) : (dats m 0 c).arrAt 2 cfg0.N = prod (aA m c) (aB m c) :=
  (dats m 0 c).arrAt_eq_of_cover 2 (prod (aA m c) (aB m c)) (flushed m c) fun i => by
    have h0 : (i 0 : Nat) < 8 := (i 0).isLt
    have h1 : (i 1 : Nat) < 4096 := (i 1).isLt
    have h2 : (i 2 : Nat) < 704 := (i 2).isLt
    have hN : cfg0.N = 32 := N_0
    let t : Fin cfg0.N := ⟨4 * (i 0).val + (i 1).val / 1024, by omega⟩
    have ht : t.val = 4 * (i 0).val + (i 1).val / 1024 := rfl
    have hi : ∀ t : Fin cfg0.N, win0_2.index t 0 * win0_2.size 0 = 1 * (t.val / 4) ∧ win0_2.index t 1 * win0_2.size 1 = 1024 * (t.val % 4) ∧ win0_2.index t 2 * win0_2.size 2 = 0 ∧ win0_2.xsize (grid0.coords t) 0 = 1 ∧ win0_2.xsize (grid0.coords t) 1 = 1024 ∧ win0_2.xsize (grid0.coords t) 2 = 704 :=
      (by decide +kernel : ∀ t : Fin grid0.N, win0_2.index t 0 * win0_2.size 0 = 1 * (t.val / 4) ∧ win0_2.index t 1 * win0_2.size 1 = 1024 * (t.val % 4) ∧ win0_2.index t 2 * win0_2.size 2 = 0 ∧ win0_2.xsize (grid0.coords t) 0 = 1 ∧ win0_2.xsize (grid0.coords t) 1 = 1024 ∧ win0_2.xsize (grid0.coords t) 2 = 704)
    refine ⟨t, flush0_2 t, ?_⟩
    show i ∈ ((View.whole main_v0).slice (win0_2.rect t)).set
    rw [View.set_slice_whole, Rect.mem_set_unit]
    intro a
    match a with
    | ⟨0, _⟩ => show win0_2.index t 0 * win0_2.size 0 ≤ (i 0 : Nat) ∧ (i 0 : Nat) < win0_2.index t 0 * win0_2.size 0 + win0_2.xsize (grid0.coords t) 0
                rw [(hi t).1, (hi t).2.2.2.1]; omega
    | ⟨1, _⟩ => show win0_2.index t 1 * win0_2.size 1 ≤ (i 1 : Nat) ∧ (i 1 : Nat) < win0_2.index t 1 * win0_2.size 1 + win0_2.xsize (grid0.coords t) 1
                rw [(hi t).2.1, (hi t).2.2.2.2.1]; omega
    | ⟨2, _⟩ => show win0_2.index t 2 * win0_2.size 2 ≤ (i 2 : Nat) ∧ (i 2 : Nat) < win0_2.index t 2 * win0_2.size 2 + win0_2.xsize (grid0.coords t) 2
                rw [(hi t).2.2.1, (hi t).2.2.2.2.2]; omega

/-- The run, read: the result at the product, the arguments unchanged. -/
theorem run : θ_run defs (onTc (τ := τ) (main (F := Ideal))) ⟨m, fun _ => 0, ρ⟩ fun r => ∀ c : Dev nD,
      r.2.mem ((c : Thread nD τ).loc main_v0) = prod (aA m c) (aB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.UpIdeal.Value.run_blocks m ρ)

end Cert.UpIdeal.Arr

end
-- ==== Proof.UpRef.lean ====
/-
  The reference's result is the same product.
-/
module

public import proofs.«01_k».proof.Proof.Sums
public import proofs.«01_k».proof.Proof.UpArray
public import proofs.«01_k».proof.Proof.Gen.UpRefIdeal.Run
public import proofs.«01_k».proof.Proof.Gen.UpRefIdeal.Read

@[expose] public section

set_option maxRecDepth 16384

noncomputable section

namespace Cert.UpRefIdeal.Eq

open Cert.UpRefIdeal Cert.UpRefIdeal.Gen Cert.UpRefIdeal.Read Idealize.ShloMosaic Idealize.ShloMosaic.TcCoe Idealize.SL.Sem
open Idealize.ShloMosaic.Pipeline (Dat)

/-- The reference's product is the kernel's. -/
theorem result (A : Vec Ideal S4096x1024 .bf16) (B : Vec Ideal S8x1024x704 .bf16) : val_main_v7 (F := Ideal) A B = Cert.UpIdeal.Arr.prod A B := by
  funext z
  idx_vars z
  pointwise [val_main_v0, val_main_v1, val_main_v2, val_main_v3, val_main_v4, val_main_v5, val_main_v6, val_main_v7]
  unfold Cert.UpIdeal.Arr.prod
  rfl

end Cert.UpRefIdeal.Eq

end
-- ==== Proof.UpClaims.lean ====
/-
  The claims about the up-projection, assembled.
-/
module

public import proofs.«01_k».proof.Defs
public import proofs.«01_k».proof.Proof.UpArray
public import proofs.«01_k».proof.Proof.UpRef
public import proofs.«01_k».proof.Proof.Gen.Up.Frame

@[expose] public section

noncomputable section

namespace Cert.UpClaims

open Idealize.ShloMosaic Idealize.SL.Sem

instance : Cert.Up.Facts := Cert.Up.Gen.facts
instance : Cert.UpIdeal.Facts := Cert.UpIdeal.Gen.facts
instance : Cert.UpRefIdeal.Facts := Cert.UpRefIdeal.Gen.facts

/-- The kernel's program ends, faultless, its arguments unchanged, every semaphore at zero. -/
theorem frame_kernel : Cert.quiescent_Up := fun m ρ _ => Cert.Up.Gen.frame m ρ

/-- The same of the kernel over the extended reals. -/
theorem frame_ideal : Cert.quiescent_UpIdeal := fun m ρ _ => Cert.UpIdeal.Gen.frame m ρ

/-- The reference ends, faultless, its arguments unchanged, every semaphore at zero. -/
theorem frame_ref : Cert.quiescent_UpRefIdeal := fun m ρ _ =>
  (θ_run Cert.UpRefIdeal.defs _ _).mono (fun r h => ⟨fun c => (h c).2, sem_eq_zero_of_no_sems (by decide) r.2⟩)
    (Cert.UpRefIdeal.Value.run m ρ)

/-- Kernel and reference end with the same result. -/
theorem algebraic : Cert.algebraic_UpIdeal_UpRefIdeal := fun m ρ m' ρ' _ hag =>
  ⟨fun c => Cert.UpIdeal.Arr.prod (Cert.UpIdeal.Arr.aA m c) (Cert.UpIdeal.Arr.aB m c),
    Cert.UpIdeal.Arr.run m ρ,
    (θ_run _ _ _).mono (fun r h c => by
      obtain ⟨h0, hk⟩ := h c
      obtain ⟨e0, e1⟩ := hag c
      refine ⟨h0.trans ((Cert.UpRefIdeal.Read.val_main_v7_eq _ _).trans ?_), hk⟩
      · rw [e0, e1]; exact Cert.UpRefIdeal.Eq.result _ _) (Cert.UpRefIdeal.Value.run m' ρ')⟩

end Cert.UpClaims

end
-- ==== Proof.DownProd.lean ====
/-
  The down-projection: what one grid point leaves
  in the accumulator and in the output block.
-/
module

public import proofs.«01_k».proof.Proof.Sums
public import proofs.«01_k».proof.Proof.Gen.DownIdeal.Value
public import Idealize.ShloMosaic.Lib.Pipeline.ValueKit.Tiles
public import Idealize.ShloMosaic.Lib.Pipeline.ValueKit.Acc
public import Idealize.ShloMosaic.Lib.Tactic

@[expose] public section

set_option maxRecDepth 16384

noncomputable section

namespace Cert.DownIdeal.Prod

open Cert.DownIdeal Cert.DownIdeal.Gen Idealize.ShloMosaic Idealize.ShloMosaic.TcCoe Idealize.SL.Sem
open Idealize.ShloMosaic.Pipeline (Dat)

/-- The product of a point's two blocks at an index of the accumulator. -/
def dot (x0 : Vec Ideal S1x1024x704 .bf16) (x1 : Vec Ideal S1x704x1024 .bf16) (y : S1024x1024.Idx) : EReal :=
  ∑ k : Fin 704, x0 (ix3 0 (y 0) k) * x1 (ix3 0 k (y 1))

/-- The accumulator is cleared with zeros. -/
theorem cleared : k0_pay1 (F := Ideal) = fun _ => (0 : EReal) := by
  funext y
  pointwise [k0_pay1]

/-- It gains the product of the blocks. -/
theorem gained (v : Vec Ideal S1024x1024 .f32) (x0 : Vec Ideal S1x1024x704 .bf16) (x1 : Vec Ideal S1x704x1024 .bf16) :
    k0_pay2 (F := Ideal) v x0 x1 = fun y => v y + dot x0 x1 y := by
  funext y
  idx_vars y
  pointwise [k0_pay2, dot]

/-- The output block is the accumulator. -/
theorem copied (v : Vec Ideal S1024x1024 .f32) : k0_pay3 (F := Ideal) v = fun y => v y := by
  funext y
  idx_vars y
  pointwise [k0_pay3]

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The accumulator after the first point of a run. -/
theorem acc_A (c : Dev nD) (i : grid0.Coords) (arg3 : Memref sig .tc .vmem S1x1024x704 .bf16) (harg3 : arg3.IsWhole) (arg4 : Memref sig .tc .vmem S1x704x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec Ideal S1x1024x704 .bf16) (x1 : Vec Ideal S1x704x1024 .bf16) :
    sout0_A_0 (F := Ideal) c i arg3 harg3 arg4 harg4 arg5 harg5 arg6 harg6 hc0 hc1 x0 x1 = fun y => 0 + dot x0 x1 y := by
  unfold sout0_A_0
  rw [View.read_writes_eq_canon _ _ _ (scover0_A_0 (F := Ideal) c i arg3 harg3 arg4 harg4 arg5 harg5 arg6 harg6 hc0 hc1 x0 x1)]
  unfold kernelRun0_A
  dsimp only
  sl_unfold_words
  simp only [View.readAt_eq_ld, harg3.read_unread, harg4.read_unread, harg5.read_unread, harg6.read_unread, View.ld_unit_zero (S := S1x1024x704) hz3, View.ld_unit_zero (S := S1x704x1024) hz3, View.ld_unit_zero (S := S1024x1024) hz2, View.readCov_unit_zero (S := S1024x1024) _ hz2]
  rw [View.canon_cons_unit_zero hz2]
  rw [gained, cleared]

/-- The accumulator after a point in the middle. -/
theorem acc_B (c : Dev nD) (i : grid0.Coords) (arg3 : Memref sig .tc .vmem S1x1024x704 .bf16) (harg3 : arg3.IsWhole) (arg4 : Memref sig .tc .vmem S1x704x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i) (x0 : Vec Ideal S1x1024x704 .bf16) (x1 : Vec Ideal S1x704x1024 .bf16) (xs0 : Vec Ideal S1024x1024 .f32) :
    sout0_B_0 (F := Ideal) c i arg3 harg3 arg4 harg4 arg5 harg5 arg6 harg6 hc0 hc1 x0 x1 xs0 = fun y => xs0 y + dot x0 x1 y := by
  unfold sout0_B_0
  rw [View.read_writes_eq_canon _ _ _ (scover0_B_0 (F := Ideal) c i arg3 harg3 arg4 harg4 arg5 harg5 arg6 harg6 hc0 hc1 x0 x1 xs0)]
  unfold kernelRun0_B
  dsimp only
  sl_unfold_words
  simp only [View.readAt_eq_ld, harg3.read_unread, harg4.read_unread, harg5.read_unread, harg6.read_unread, View.ld_unit_zero (S := S1x1024x704) hz3, View.ld_unit_zero (S := S1x704x1024) hz3, View.ld_unit_zero (S := S1024x1024) hz2, View.readCov_unit_zero (S := S1024x1024) _ hz2]
  rw [View.canon_cons_unit_zero hz2]
  rw [gained]

/-- The accumulator after the last point. -/
theorem acc_C (c : Dev nD) (i : grid0.Coords) (arg3 : Memref sig .tc .vmem S1x1024x704 .bf16) (harg3 : arg3.IsWhole) (arg4 : Memref sig .tc .vmem S1x704x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec Ideal S1x1024x704 .bf16) (x1 : Vec Ideal S1x704x1024 .bf16) (xs0 : Vec Ideal S1024x1024 .f32) :
    sout0_C_0 (F := Ideal) c i arg3 harg3 arg4 harg4 arg5 harg5 arg6 harg6 hc0 hc1 x0 x1 xs0 = fun y => xs0 y + dot x0 x1 y := by
  unfold sout0_C_0
  rw [View.read_writes_eq_canon _ _ _ (scover0_C_0 (F := Ideal) c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1x1024x704) hz3, View.ld_unit_zero (S := S1x704x1024) hz3, View.ld_unit_zero (S := S1024x1024) hz2, View.readCov_unit_zero (S := S1024x1024) _ hz2]
  rw [View.canon_cons_unit_zero hz2]
  rw [gained]

/-- The output block after the last point. -/
theorem out_C (c : Dev nD) (i : grid0.Coords) (arg3 : Memref sig .tc .vmem S1x1024x704 .bf16) (harg3 : arg3.IsWhole) (arg4 : Memref sig .tc .vmem S1x704x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec Ideal S1x1024x704 .bf16) (x1 : Vec Ideal S1x704x1024 .bf16) (xs0 : Vec Ideal S1024x1024 .f32) :
    out0_C_2 (F := Ideal) c i arg3 harg3 arg4 harg4 arg5 harg5 arg6 harg6 hc0 hc1 x0 x1 xs0 = fun y => xs0 y + dot x0 x1 y := by
  unfold out0_C_2
  rw [View.read_writes_eq_canon _ _ _ (cover0_C_2 (F := Ideal) c i arg3 harg3 arg4 harg4 arg5 harg5 arg6 harg6 hc0 hc1 x0 x1 xs0)]
  unfold kernelRun0_C
  dsimp only
  sl_unfold_words
  simp only [View.readAt_eq_ld, harg3.read_unread, harg4.read_unread, harg5.read_unread, harg6.read_unread, View.ld_unit_zero (S := S1x1024x704) hz3, View.ld_unit_zero (S := S1x704x1024) hz3, View.ld_unit_zero (S := S1024x1024) hz2, View.readCov_unit_zero (S := S1024x1024) _ hz2]
  rw [View.canon_cons_unit_zero hz2]
  rw [copied, gained]

end Cert.DownIdeal.Prod

end
-- ==== Proof.DownArray.lean ====
/-
  The product summed over the tiles, and what the result array holds after the run.
-/
module

public import proofs.«01_k».proof.Proof.Sums
public import proofs.«01_k».proof.Proof.DownProd

@[expose] public section

set_option maxRecDepth 16384

noncomputable section

namespace Cert.DownIdeal.Arr

open Cert.DownIdeal Cert.DownIdeal.Gen Cert.DownIdeal.Prod Idealize.ShloMosaic Idealize.ShloMosaic.TcCoe Idealize.SL.Sem
open Idealize.ShloMosaic.Pipeline (Dat)

/-- One tile's share of the product, at an index of the result. -/
def term (A : Vec Ideal S4x4096x704 .bf16) (B : Vec Ideal S4x704x1024 .bf16) (z : S4096x1024.Idx) (i : Fin 4) : EReal :=
  ∑ k : Fin 704, A (ix3 i (z 0) k) * B (ix3 i k (z 1))

/-- The product, its sum taken tile by tile. -/
def prod (A : Vec Ideal S4x4096x704 .bf16) (B : Vec Ideal S4x704x1024 .bf16) : Vec Ideal S4096x1024 .bf16 :=
  fun z => ∑ i : Fin 4, term A B z i

variable (m : (ℓ : Loc nD τ sig) → Buf (Elt Ideal) ℓ) (ρ : Dev nD → PrngReg)

/-- The first operand. -/
abbrev aA (c : Dev nD) : Vec Ideal S4x4096x704 .bf16 := m ((c : Thread nD τ).loc main_arg0)

/-- The second operand. -/
abbrev aB (c : Dev nD) : Vec Ideal S4x704x1024 .bf16 := m ((c : Thread nD τ).loc main_arg1)

/-- Where window 0's block lies at a point. -/
theorem index0 : ∀ t : Fin cfg0.N, win0_0.index t 0 = t.val % 4 ∧ win0_0.index t 1 = t.val / 4 ∧ win0_0.index t 2 = 0 :=
  (by decide +kernel : ∀ t : Fin grid0.N, win0_0.index t 0 = t.val % 4 ∧ win0_0.index t 1 = t.val / 4 ∧ win0_0.index t 2 = 0)

/-- Where window 1's block lies at a point. -/
theorem index1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)

/-- Where window 2's block lies at a point. -/
theorem index2 : ∀ t : Fin cfg0.N, win0_2.index t 0 = t.val / 4 ∧ win0_2.index t 1 = 0 :=
  (by decide +kernel : ∀ t : Fin grid0.N, win0_2.index t 0 = t.val / 4 ∧ win0_2.index t 1 = 0)

/-- Window 0's block at a point, in the operand's own indices. -/
theorem blk0 (c : Dev nD) (t : Fin cfg0.N) (i : Fin 4) (hi : t.val % 4 = i.val) (y : S1024x1024.Idx) (z : S4096x1024.Idx) (h0 : (z 0).val = 1024 * (t.val / 4) + (y 0).val) (h1 : (z 1).val = (y 1).val) (k : Fin 704) :
    (iblk m c 0 t : Vec Ideal _ .bf16) (ix3 0 (y 0) k) = aA m c (ix3 i (z 0) k) := by
  have hN : t.val < 16 := t.isLt
  unfold iblk
  rw [View.read_apply]
  show V m c main_arg0 _ = (m ((c : Thread nD τ).loc main_arg0) : Vec Ideal S4x4096x704 .bf16) _
  rw [V_main_arg0]
  refine congrArg _ (funext fun a => Fin.ext ?_)
  match a with
  | ⟨0, _⟩ => show win0_0.index t 0 * 1 + 1 * 0 = i.val; rw [(index0 t).1]; omega
  | ⟨1, _⟩ => show win0_0.index t 1 * 1024 + 1 * (y 0).val = (z 0).val; rw [(index0 t).2.1]; omega
  | ⟨2, _⟩ => show win0_0.index t 2 * 704 + 1 * k.val = k.val; rw [(index0 t).2.2]; omega

/-- Window 1's block at a point, in the operand's own indices. -/
theorem blk1 (c : Dev nD) (t : Fin cfg0.N) (i : Fin 4) (hi : t.val % 4 = i.val) (y : S1024x1024.Idx) (z : S4096x1024.Idx) (h0 : (z 0).val = 1024 * (t.val / 4) + (y 0).val) (h1 : (z 1).val = (y 1).val) (k : Fin 704) :
    (iblk m c 1 t : Vec Ideal _ .bf16) (ix3 0 k (y 1)) = aB m c (ix3 i k (z 1)) := by
  have hN : t.val < 16 := t.isLt
  unfold iblk
  rw [View.read_apply]
  show V m c main_arg1 _ = (m ((c : Thread nD τ).loc main_arg1) : Vec Ideal S4x704x1024 .bf16) _
  rw [V_main_arg1]
  refine congrArg _ (funext fun a => Fin.ext ?_)
  match a with
  | ⟨0, _⟩ => show win0_1.index t 0 * 1 + 1 * 0 = i.val; rw [(index1 t).1]; omega
  | ⟨1, _⟩ => show win0_1.index t 1 * 704 + 1 * k.val = k.val; rw [(index1 t).2.1]; omega
  | ⟨2, _⟩ => show win0_1.index t 2 * 1024 + 1 * (y 1).val = (z 1).val; rw [(index1 t).2.2]; omega

/-- A point's product of blocks is its tile's share. -/
theorem part_eq (c : Dev nD) (t : Fin cfg0.N) (i : Fin 4) (hi : t.val % 4 = i.val) (y : S1024x1024.Idx) (z : S4096x1024.Idx) (h0 : (z 0).val = 1024 * (t.val / 4) + (y 0).val) (h1 : (z 1).val = (y 1).val) :
    dot (iblk m c 0 t) (iblk m c 1 t) y = term (aA m c) (aB m c) z i := by
  unfold dot term
  exact Finset.sum_congr rfl fun k _ => congrArg₂ (· * ·) (blk0 m c t i hi y z h0 h1 k) (blk1 m c t i hi y z h0 h1 k)

/-- A point's product of blocks, as a function of the point's number. -/
def part (c : Dev nD) (y : S1024x1024.Idx) (n : ℕ) : EReal :=
  if h : n < cfg0.N then dot (iblk m c 0 ⟨n, h⟩) (iblk m c 1 ⟨n, h⟩) y else 0

/-- The accumulator at the end of a run of points: the sum of the run's products. -/
theorem acc_last (c : Dev nD) (y : S1024x1024.Idx) (n : ℕ) (h : n < cfg0.N) (hl : n % 4 + 1 = 4) :
    (outsAt0 m c n h).2 y = ∑ i : Fin 4, part m c y (4 * (n / 4) + i.val) := by
  refine Sums.acc_full (by decide) (fun n h => (outsAt0 m c n h).2 y) (part m c y) ?_ ?_ n h hl
  · intro n h hn
    have e := congrArg Prod.snd (outsAt0_A m c ⟨n, h⟩ hn (by show ¬ n % 4 = 3; omega))
    dsimp only at e
    rw [acc_A] at e
    show (outsAt0 m c n h).2 y = _
    rw [e]
    unfold part
    rw [dif_pos h]
    exact zero_add _
  · intro n h h' hn
    show (outsAt0 m c (n + 1) h).2 y = (outsAt0 m c n h').2 y + part m c y (n + 1)
    unfold part
    rw [dif_pos h]
    by_cases hl : (n + 1) % 4 = 3
    · have e := congrArg Prod.snd (outsAt0_C m c ⟨n + 1, h⟩ hn hl)
      dsimp only at e
      rw [acc_C] at e
      exact congrFun e y
    · have e := congrArg Prod.snd (outsAt0_B m c ⟨n + 1, h⟩ hn hl)
      dsimp only at e
      rw [acc_B] at e
      exact congrFun e y

/-- The output block at the end of a run of points is the accumulator. -/
theorem out_last (c : Dev nD) (t : Fin cfg0.N) (h1 : t.val % 4 = 3) :
    (outsAt0 m c t.val t.isLt).1 = fun (x : S1024x1024.Idx) => (outsAt0 m c t.val t.isLt).2 (x) := by
  have e := outsAt0_C m c t (by omega) h1
  have e1 := congrArg Prod.fst e
  have e2 := congrArg Prod.snd e
  dsimp only at e1 e2
  rw [out_C] at e1
  rw [acc_C] at e2
  rw [e1, e2]

/-- What a point writes back is its block of the product. -/
theorem flushed (c : Dev nD) (t : Fin cfg0.N) (hf : (cfg0.win 2).flush t = true) :
    (dats m 0 c).flushed 2 t = ((cfg0.win 2).blk t).view.read (Elt Ideal) (prod (aA m c) (aB m c)) := by
  have h1 : t.val % 4 = 3 := (flush0_2 t).mp hf
  have hN : t.val < 16 := t.isLt
  rw [Cert.DownIdeal.Value.flushed2]
  funext x
  rw [View.read_apply]
  rw [out_last m c t h1]
  have x0 : (x 0).val < 1024 := (x 0).isLt
  have x1 : (x 1).val < 1024 := (x 1).isLt
  refine Eq.trans (congrArg (outsAt0 m c t.val t.isLt).2 (?_ : _ = (ix2 ⟨(x 0).val, x0⟩ ⟨(x 1).val, x1⟩ : S1024x1024.Idx))) ?_
  · exact eq_ix2 _
  rw [acc_last m c _ t.val t.isLt (by omega)]
  refine Eq.trans (b := prod (aA m c) (aB m c) (ix2 ⟨1024 * (t.val / 4) + (x 0).val, by omega⟩ ⟨(x 1).val, by omega⟩)) ?_ (congrArg (prod (aA m c) (aB m c)) (funext fun a => Fin.ext ?_))
  · refine Finset.sum_congr rfl fun i _ => ?_
    have hi : i.val < 4 := i.isLt
    have hn : 4 * (t.val / 4) + i.val < cfg0.N := by show _ < 16; omega
    unfold part
    rw [dif_pos hn]
    refine part_eq m c ⟨_, hn⟩ i (by show (4 * (t.val / 4) + i.val) % 4 = i.val; omega) _ _ ?_ ?_
    · show 1024 * (t.val / 4) + (x 0).val = 1024 * ((4 * (t.val / 4) + i.val) / 4) + (x 0).val; omega
    · show (x 1).val = (x 1).val; omega
  · match a with
    | ⟨0, _⟩ => show 1024 * (t.val / 4) + (x 0).val = win0_2.index t 0 * 1024 + 1 * (x 0).val; rw [(index2 t).1]; omega
    | ⟨1, _⟩ => show (x 1).val = win0_2.index t 1 * 1024 + 1 * (x 1).val; rw [(index2 t).2]; omega

/-- The result array after the run. -/
theorem final (c : Dev nD) : (dats m 0 c).arrAt 2 cfg0.N = prod (aA m c) (aB m c) :=
  (dats m 0 c).arrAt_eq_of_cover 2 (prod (aA m c) (aB m c)) (flushed m c) fun i =>
    (Cert.DownIdeal.Value.covered_iff2 i).2 ⟨Nat.zero_le _, (i 0).isLt, Nat.zero_le _, (i 1).isLt⟩

/-- The run, read: the result at the product, the arguments unchanged. -/
theorem run : θ_run defs (onTc (τ := τ) (main (F := Ideal))) ⟨m, fun _ => 0, ρ⟩ fun r => ∀ c : Dev nD,
      r.2.mem ((c : Thread nD τ).loc main_v0) = prod (aA m c) (aB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.DownIdeal.Value.run_blocks m ρ)

end Cert.DownIdeal.Arr

end
-- ==== Proof.DownRef.lean ====
/-
  The reference's result: the same product, its sum in one piece.
-/
module

public import proofs.«01_k».proof.Proof.DownArray
public import proofs.«01_k».proof.Proof.Gen.DownRefIdeal.Run
public import proofs.«01_k».proof.Proof.Gen.DownRefIdeal.Read

@[expose] public section

set_option maxRecDepth 16384

noncomputable section

namespace Cert.DownRefIdeal.Eq

open Cert.DownRefIdeal Cert.DownRefIdeal.Gen Cert.DownRefIdeal.Read Idealize.ShloMosaic Idealize.ShloMosaic.TcCoe Idealize.SL.Sem
open Idealize.ShloMosaic.Pipeline (Dat)

/-- The reference's product is the kernel's, whose sum is taken tile by tile. -/
theorem result (A : Vec Ideal S4x4096x704 .bf16) (B : Vec Ideal S4x704x1024 .bf16) : val_main_v6 (F := Ideal) A B = Cert.DownIdeal.Arr.prod A B := by
  funext z
  idx_vars z
  pointwise [val_main_v0, val_main_v1, val_main_v2, val_main_v3, val_main_v4, val_main_v5, val_main_v6]
  unfold Cert.DownIdeal.Arr.prod Cert.DownIdeal.Arr.term
  rw [Fin.sum_univ_tiles 4 704 (by norm_num)]
  refine Finset.sum_congr rfl fun i _ => Finset.sum_congr rfl fun k _ => ?_
  have hk : k.val < 704 := k.isLt
  refine congrArg₂ (· * ·) (congrArg A (funext fun a => Fin.ext ?_)) (congrArg B (funext fun a => Fin.ext ?_))
  · match a with
    | ⟨0, _⟩ => show (i.val * 704 + k.val) / 704 = i.val; omega
    | ⟨1, _⟩ => rfl
    | ⟨2, _⟩ => show (i.val * 704 + k.val) % 704 = k.val; omega
  · match a with
    | ⟨0, _⟩ => show (i.val * 704 + k.val) / 704 = i.val; omega
    | ⟨1, _⟩ => show (i.val * 704 + k.val) % 704 = k.val; omega
    | ⟨2, _⟩ => rfl

end Cert.DownRefIdeal.Eq

end
-- ==== Proof.DownClaims.lean ====
/-
  The claims about the down-projection, assembled.
-/
module

public import proofs.«01_k».proof.Defs
public import proofs.«01_k».proof.Proof.DownArray
public import proofs.«01_k».proof.Proof.DownRef
public import proofs.«01_k».proof.Proof.Gen.Down.Frame

@[expose] public section

noncomputable section

namespace Cert.DownClaims

open Idealize.ShloMosaic Idealize.SL.Sem

instance : Cert.Down.Facts := Cert.Down.Gen.facts
instance : Cert.DownIdeal.Facts := Cert.DownIdeal.Gen.facts
instance : Cert.DownRefIdeal.Facts := Cert.DownRefIdeal.Gen.facts

/-- The kernel's program ends, faultless, its arguments unchanged, every semaphore at zero. -/
theorem frame_kernel : Cert.quiescent_Down := fun m ρ _ => Cert.Down.Gen.frame m ρ

/-- The same of the kernel over the extended reals. -/
theorem frame_ideal : Cert.quiescent_DownIdeal := fun m ρ _ => Cert.DownIdeal.Gen.frame m ρ

/-- The reference ends, faultless, its arguments unchanged, every semaphore at zero. -/
theorem frame_ref : Cert.quiescent_DownRefIdeal := fun m ρ _ =>
  (θ_run Cert.DownRefIdeal.defs _ _).mono (fun r h => ⟨fun c => (h c).2, sem_eq_zero_of_no_sems (by decide) r.2⟩)
    (Cert.DownRefIdeal.Value.run m ρ)

/-- Kernel and reference end with the same result. -/
theorem algebraic : Cert.algebraic_DownIdeal_DownRefIdeal := fun m ρ m' ρ' _ hag =>
  ⟨fun c => Cert.DownIdeal.Arr.prod (Cert.DownIdeal.Arr.aA m c) (Cert.DownIdeal.Arr.aB m c),
    Cert.DownIdeal.Arr.run m ρ,
    (θ_run _ _ _).mono (fun r h c => by
      obtain ⟨h0, hk⟩ := h c
      obtain ⟨e0, e1⟩ := hag c
      refine ⟨h0.trans ((Cert.DownRefIdeal.Read.val_main_v6_eq _ _).trans ?_), hk⟩
      · rw [e0, e1]; exact Cert.DownRefIdeal.Eq.result _ _) (Cert.DownRefIdeal.Value.run m' ρ')⟩

end Cert.DownClaims

end
-- ==== Proof.InprojArray.lean ====
/-
  The in-projection:
  what one grid point computes, and what the result array holds after the run.
-/
module

public import proofs.«01_k».proof.Proof.Gen.InprojIdeal.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.InprojIdeal.Arr

open Cert.InprojIdeal Cert.InprojIdeal.Gen Idealize.ShloMosaic Idealize.ShloMosaic.TcCoe Idealize.SL.Sem
open Idealize.ShloMosaic.Pipeline (Dat)

/-- The product of a point's blocks. -/
def dot (x0 : Vec Ideal S1024x1024 .bf16) (x1 : Vec Ideal S1024x2432 .bf16) (y : S1024x2432.Idx) : EReal :=
  (∑ k : Fin 1024, x0 (ix2 (y 0) k) * x1 (ix2 k (y 1)))

/-- The whole product. -/
def prod (A : Vec Ideal S4096x1024 .bf16) (B : Vec Ideal S1024x2432 .bf16) : Vec Ideal S4096x2432 .bf16 := fun z =>
  (∑ k : Fin 1024, A (ix2 (z 0) k) * B (ix2 k (z 1)))

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The body's arithmetic is the product of the blocks. -/
theorem computed (x0 : Vec Ideal S1024x1024 .bf16) (x1 : Vec Ideal S1024x2432 .bf16) : k0_pay1 (F := Ideal) x0 x1 = dot x0 x1 := by
  funext y
  idx_vars y
  pointwise [k0_pay1, dot]

/-- What a point leaves in the output block. -/
theorem out_eq (x0 : Vec Ideal S1024x1024 .bf16) (x1 : Vec Ideal S1024x2432 .bf16) : out0_2 (F := Ideal) x0 x1 = dot x0 x1 := by
  unfold out0_2
  simp only [View.ld_unit_zero (S := S1024x1024) hz2, View.ld_unit_zero (S := S1024x2432) hz2]
  rw [View.canon_cons_unit_zero hz2]
  exact computed x0 x1

variable (m : (ℓ : Loc nD τ sig) → Buf (Elt Ideal) ℓ) (ρ : Dev nD → PrngReg)

/-- Operand 0. -/
abbrev aA (c : Dev nD) : Vec Ideal S4096x1024 .bf16 := m ((c : Thread nD τ).loc main_arg0)

/-- Operand 1. -/
abbrev aB (c : Dev nD) : Vec Ideal S1024x2432 .bf16 := m ((c : Thread nD τ).loc main_arg1)

/-- Where window 0's block lies at a point. -/
theorem index0 : ∀ t : Fin cfg0.N, win0_0.index t 0 = t.val ∧ win0_0.index t 1 = 0 :=
  (by decide +kernel : ∀ t : Fin grid0.N, win0_0.index t 0 = t.val ∧ win0_0.index t 1 = 0)

/-- Where window 1's block lies at a point. -/
theorem index1 : ∀ t : Fin cfg0.N, win0_1.index t 0 = 0 ∧ win0_1.index t 1 = 0 :=
  (by decide +kernel : ∀ t : Fin grid0.N, win0_1.index t 0 = 0 ∧ win0_1.index t 1 = 0)

/-- Where window 2's block lies at a point. -/
theorem index2 : ∀ t : Fin cfg0.N, win0_2.index t 0 = t.val ∧ win0_2.index t 1 = 0 :=
  (by decide +kernel : ∀ t : Fin grid0.N, win0_2.index t 0 = t.val ∧ win0_2.index t 1 = 0)

/-- Window 0's block at a point, in the operand's own indices. -/
theorem blk0 (c : Dev nD) (t : Fin cfg0.N) (y : S1024x2432.Idx) (z : S4096x2432.Idx) (h0 : (z 0).val = 1024 * t.val + (y 0).val) (h1 : (z 1).val = (y 1).val) (k : Fin 1024) :
    (iblk m c 0 t : Vec Ideal _ .bf16) (ix2 (y 0) k) = aA m c (ix2 (z 0) k) := by
  unfold iblk
  rw [View.read_apply]
  show V m c main_arg0 _ = aA m c _
  rw [V_main_arg0]
  refine congrArg _ (funext fun a => Fin.ext ?_)
  · match a with
    | ⟨0, _⟩ => show win0_0.index t 0 * 1024 + 1 * (y 0).val = (z 0).val; rw [(index0 t).1]; omega
    | ⟨1, _⟩ => show win0_0.index t 1 * 1024 + 1 * k.val = k.val; rw [(index0 t).2]; omega

/-- Window 1's block at a point, in the operand's own indices. -/
theorem blk1 (c : Dev nD) (t : Fin cfg0.N) (y : S1024x2432.Idx) (z : S4096x2432.Idx) (h0 : (z 0).val = 1024 * t.val + (y 0).val) (h1 : (z 1).val = (y 1).val) (k : Fin 1024) :
    (iblk m c 1 t : Vec Ideal _ .bf16) (ix2 k (y 1)) = aB m c (ix2 k (z 1)) := by
  unfold iblk
  rw [View.read_apply]
  show V m c main_arg1 _ = aB m c _
  rw [V_main_arg1]
  refine congrArg _ (funext fun a => Fin.ext ?_)
  · match a with
    | ⟨0, _⟩ => show win0_1.index t 0 * 1024 + 1 * k.val = k.val; rw [(index1 t).1]; omega
    | ⟨1, _⟩ => show win0_1.index t 1 * 2432 + 1 * (y 1).val = (z 1).val; rw [(index1 t).2]; omega

/-- A point's product of blocks is the whole product there. -/
theorem part_eq (c : Dev nD) (t : Fin cfg0.N) (y : S1024x2432.Idx) (z : S4096x2432.Idx) (h0 : (z 0).val = 1024 * t.val + (y 0).val) (h1 : (z 1).val = (y 1).val) :
    dot (iblk m c 0 t) (iblk m c 1 t) y = prod (aA m c) (aB m c) z := by
  unfold dot prod
  exact (Finset.sum_congr rfl fun k _ => congrArg₂ (· * ·) (blk0 m c t y z h0 h1 k) (blk1 m c t y z h0 h1 k))

/-- What a point writes back is its block of the product. -/
theorem flushed (c : Dev nD) (t : Fin cfg0.N) (hf : (cfg0.win 2).flush t = true) :
    (dats m 0 c).flushed 2 t = ((cfg0.win 2).blk t).view.read (Elt Ideal) (prod (aA m c) (aB m c)) := by
  have hN : t.val < 4 := t.isLt
  rw [Cert.InprojIdeal.Value.flushed2, out_eq]
  funext x
  rw [View.read_apply]
  have x0 : (x 0).val < 1024 := (x 0).isLt
  have x1 : (x 1).val < 2432 := (x 1).isLt
  refine Eq.trans (congrArg (dot (iblk m c 0 t) (iblk m c 1 t)) (?_ : _ = (ix2 ⟨(x 0).val, x0⟩ ⟨(x 1).val, x1⟩ : S1024x2432.Idx))) ?_
  · exact eq_ix2 _
  refine (part_eq m c t _ (ix2 ⟨1024 * t.val + (x 0).val, by omega⟩ ⟨(x 1).val, by omega⟩) rfl rfl).trans (congrArg (prod (aA m c) (aB m c)) (funext fun a => Fin.ext ?_))
  match a with
  | ⟨0, _⟩ => show 1024 * t.val + (x 0).val = win0_2.index t 0 * 1024 + 1 * (x 0).val; rw [(index2 t).1]; omega
  | ⟨1, _⟩ => show (x 1).val = win0_2.index t 1 * 2432 + 1 * (x 1).val; rw [(index2 t).2]; omega

/-- The result array after the run: every index lies in the block of one point. -/
theorem final (c : Dev nD) : (dats m 0 c).arrAt 2 cfg0.N = prod (aA m c) (aB m c) :=
  (dats m 0 c).arrAt_eq_of_cover 2 (prod (aA m c) (aB m c)) (flushed m c) fun i => by
    have h0 : (i 0 : Nat) < 4096 := (i 0).isLt
    have h1 : (i 1 : Nat) < 2432 := (i 1).isLt
    have hN : cfg0.N = 4 := N_0
    let t : Fin cfg0.N := ⟨(i 0).val / 1024, by omega⟩
    have ht : t.val = (i 0).val / 1024 := rfl
    have hi : ∀ t : Fin cfg0.N, win0_2.index t 0 * win0_2.size 0 = 1024 * (t.val) ∧ win0_2.index t 1 * win0_2.size 1 = 0 ∧ win0_2.xsize (grid0.coords t) 0 = 1024 ∧ win0_2.xsize (grid0.coords t) 1 = 2432 :=
      (by decide +kernel : ∀ t : Fin grid0.N, win0_2.index t 0 * win0_2.size 0 = 1024 * (t.val) ∧ win0_2.index t 1 * win0_2.size 1 = 0 ∧ win0_2.xsize (grid0.coords t) 0 = 1024 ∧ win0_2.xsize (grid0.coords t) 1 = 2432)
    refine ⟨t, flush0_2 t, ?_⟩
    show i ∈ ((View.whole main_v0).slice (win0_2.rect t)).set
    rw [View.set_slice_whole, Rect.mem_set_unit]
    intro a
    match a with
    | ⟨0, _⟩ => show win0_2.index t 0 * win0_2.size 0 ≤ (i 0 : Nat) ∧ (i 0 : Nat) < win0_2.index t 0 * win0_2.size 0 + win0_2.xsize (grid0.coords t) 0
                rw [(hi t).1, (hi t).2.2.1]; omega
    | ⟨1, _⟩ => show win0_2.index t 1 * win0_2.size 1 ≤ (i 1 : Nat) ∧ (i 1 : Nat) < win0_2.index t 1 * win0_2.size 1 + win0_2.xsize (grid0.coords t) 1
                rw [(hi t).2.1, (hi t).2.2.2]; omega

/-- The run, read: the result at the product, the arguments unchanged. -/
theorem run : θ_run defs (onTc (τ := τ) (main (F := Ideal))) ⟨m, fun _ => 0, ρ⟩ fun r => ∀ c : Dev nD,
      r.2.mem ((c : Thread nD τ).loc main_v0) = prod (aA m c) (aB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.InprojIdeal.Value.run_blocks m ρ)

end Cert.InprojIdeal.Arr

end
-- ==== Proof.InprojRef.lean ====
/-
  The reference's result is the same product.
-/
module

public import proofs.«01_k».proof.Proof.Sums
public import proofs.«01_k».proof.Proof.InprojArray
public import proofs.«01_k».proof.Proof.Gen.InprojRefIdeal.Run
public import proofs.«01_k».proof.Proof.Gen.InprojRefIdeal.Read

@[expose] public section

set_option maxRecDepth 16384

noncomputable section

namespace Cert.InprojRefIdeal.Eq

open Cert.InprojRefIdeal Cert.InprojRefIdeal.Gen Cert.InprojRefIdeal.Read Idealize.ShloMosaic Idealize.ShloMosaic.TcCoe Idealize.SL.Sem
open Idealize.ShloMosaic.Pipeline (Dat)

/-- The reference's product is the kernel's. -/
theorem result (A : Vec Ideal S4096x1024 .bf16) (B : Vec Ideal S1024x2432 .bf16) : val_main_v3 (F := Ideal) A B = Cert.InprojIdeal.Arr.prod A B := by
  funext z
  idx_vars z
  pointwise [val_main_v0, val_main_v1, val_main_v2, val_main_v3]
  unfold Cert.InprojIdeal.Arr.prod
  rfl

end Cert.InprojRefIdeal.Eq

end
-- ==== Proof.InprojClaims.lean ====
/-
  The claims about the in-projection, assembled.
-/
module

public import proofs.«01_k».proof.Defs
public import proofs.«01_k».proof.Proof.InprojArray
public import proofs.«01_k».proof.Proof.InprojRef
public import proofs.«01_k».proof.Proof.Gen.Inproj.Frame

@[expose] public section

noncomputable section

namespace Cert.InprojClaims

open Idealize.ShloMosaic Idealize.SL.Sem

instance : Cert.Inproj.Facts := Cert.Inproj.Gen.facts
instance : Cert.InprojIdeal.Facts := Cert.InprojIdeal.Gen.facts
instance : Cert.InprojRefIdeal.Facts := Cert.InprojRefIdeal.Gen.facts

/-- The kernel's program ends, faultless, its arguments unchanged, every semaphore at zero. -/
theorem frame_kernel : Cert.quiescent_Inproj := fun m ρ _ => Cert.Inproj.Gen.frame m ρ

/-- The same of the kernel over the extended reals. -/
theorem frame_ideal : Cert.quiescent_InprojIdeal := fun m ρ _ => Cert.InprojIdeal.Gen.frame m ρ

/-- The reference ends, faultless, its arguments unchanged, every semaphore at zero. -/
theorem frame_ref : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run m ρ)

/-- Kernel and reference end with the same result. -/
theorem algebraic : Cert.algebraic_InprojIdeal_InprojRefIdeal := fun m ρ m' ρ' _ hag =>
  ⟨fun c => Cert.InprojIdeal.Arr.prod (Cert.InprojIdeal.Arr.aA m c) (Cert.InprojIdeal.Arr.aB m c),
    Cert.InprojIdeal.Arr.run m ρ,
    (θ_run _ _ _).mono (fun r h c => by
      obtain ⟨h0, hk⟩ := h c
      obtain ⟨e0, e1⟩ := hag c
      refine ⟨h0.trans ((Cert.InprojRefIdeal.Read.val_main_v3_eq _ _).trans ?_), hk⟩
      · rw [e0, e1]; exact Cert.InprojRefIdeal.Eq.result _ _) (Cert.InprojRefIdeal.Value.run m' ρ')⟩

end Cert.InprojClaims

end
-- ==== Proof.OutprojArray.lean ====
/-
  The out-projection of the three mixers' outputs:
  what one grid point computes, and what the result array holds after the run.
-/
module

public import proofs.«01_k».proof.Proof.Gen.OutprojIdeal.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.OutprojIdeal.Arr

open Cert.OutprojIdeal Cert.OutprojIdeal.Gen Idealize.ShloMosaic Idealize.ShloMosaic.TcCoe Idealize.SL.Sem
open Idealize.ShloMosaic.Pipeline (Dat)

/-- The product of a point's blocks. -/
def dot (x0 : Vec Ideal S1024x1024 .bf16) (x1 : Vec Ideal S1024x256 .bf16) (x2 : Vec Ideal S1024x256 .bf16) (x3 : Vec Ideal S1024x1024 .bf16) (x4 : Vec Ideal S256x1024 .bf16) (x5 : Vec Ideal S256x1024 .bf16) (y : S1024x1024.Idx) : EReal :=
  (∑ k : Fin 1024, x0 (ix2 (y 0) k) * x3 (ix2 k (y 1))) + (∑ k : Fin 256, x1 (ix2 (y 0) k) * x4 (ix2 k (y 1))) + (∑ k : Fin 256, x2 (ix2 (y 0) k) * x5 (ix2 k (y 1)))

/-- The whole product. -/
def prod (A : Vec Ideal S4096x1024 .bf16) (B : Vec Ideal S4096x256 .bf16) (C : Vec Ideal S4096x256 .bf16) (W : Vec Ideal S1536x1024 .bf16) : Vec Ideal S4096x1024 .bf16 := fun z =>
  (∑ k : Fin 1024, A (ix2 (z 0) k) * W (ix2 ⟨k.val, by omega⟩ (z 1))) + (∑ k : Fin 256, B (ix2 (z 0) k) * W (ix2 ⟨1024 + k.val, by omega⟩ (z 1))) + (∑ k : Fin 256, C (ix2 (z 0) k) * W (ix2 ⟨1280 + k.val, by omega⟩ (z 1)))

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The body's arithmetic is the product of the blocks. -/
theorem computed (x0 : Vec Ideal S1024x1024 .bf16) (x1 : Vec Ideal S1024x256 .bf16) (x2 : Vec Ideal S1024x256 .bf16) (x3 : Vec Ideal S1024x1024 .bf16) (x4 : Vec Ideal S256x1024 .bf16) (x5 : Vec Ideal S256x1024 .bf16) : k0_pay1 (F := Ideal) x0 x3 x1 x4 x2 x5 = dot x0 x1 x2 x3 x4 x5 := by
  funext y
  idx_vars y
  pointwise [k0_pay1, dot]

/-- What a point leaves in the output block. -/
theorem out_eq (x0 : Vec Ideal S1024x1024 .bf16) (x1 : Vec Ideal S1024x256 .bf16) (x2 : Vec Ideal S1024x256 .bf16) (x3 : Vec Ideal S1024x1024 .bf16) (x4 : Vec Ideal S256x1024 .bf16) (x5 : Vec Ideal S256x1024 .bf16) : out0_6 (F := Ideal) x0 x1 x2 x3 x4 x5 = dot x0 x1 x2 x3 x4 x5 := by
  unfold out0_6
  simp only [View.ld_unit_zero (S := S1024x1024) hz2, View.ld_unit_zero (S := S1024x256) hz2, View.ld_unit_zero (S := S256x1024) hz2]
  rw [View.canon_cons_unit_zero hz2]
  exact computed x0 x1 x2 x3 x4 x5

variable (m : (ℓ : Loc nD τ sig) → Buf (Elt Ideal) ℓ) (ρ : Dev nD → PrngReg)

/-- Operand 0. -/
abbrev aA (c : Dev nD) : Vec Ideal S4096x1024 .bf16 := m ((c : Thread nD τ).loc main_arg0)

/-- Operand 1. -/
abbrev aB (c : Dev nD) : Vec Ideal S4096x256 .bf16 := m ((c : Thread nD τ).loc main_arg1)

/-- Operand 2. -/
abbrev aC (c : Dev nD) : Vec Ideal S4096x256 .bf16 := m ((c : Thread nD τ).loc main_arg2)

/-- Operand 3. -/
abbrev aW (c : Dev nD) : Vec Ideal S1536x1024 .bf16 := m ((c : Thread nD τ).loc main_arg3)

/-- Where window 0's block lies at a point. -/
theorem index0 : ∀ t : Fin cfg0.N, win0_0.index t 0 = t.val ∧ win0_0.index t 1 = 0 :=
  (by decide +kernel : ∀ t : Fin grid0.N, win0_0.index t 0 = t.val ∧ win0_0.index t 1 = 0)

/-- Where window 1's block lies at a point. -/
theorem index1 : ∀ t : Fin cfg0.N, win0_1.index t 0 = t.val ∧ win0_1.index t 1 = 0 :=
  (by decide +kernel : ∀ t : Fin grid0.N, win0_1.index t 0 = t.val ∧ win0_1.index t 1 = 0)

/-- Where window 2's block lies at a point. -/
theorem index2 : ∀ t : Fin cfg0.N, win0_2.index t 0 = t.val ∧ win0_2.index t 1 = 0 :=
  (by decide +kernel : ∀ t : Fin grid0.N, win0_2.index t 0 = t.val ∧ win0_2.index t 1 = 0)

/-- Where window 3's block lies at a point. -/
theorem index3 : ∀ t : Fin cfg0.N, win0_3.index t 0 = 0 ∧ win0_3.index t 1 = 0 :=
  (by decide +kernel : ∀ t : Fin grid0.N, win0_3.index t 0 = 0 ∧ win0_3.index t 1 = 0)

/-- Where window 4's block lies at a point. -/
theorem index4 : ∀ t : Fin cfg0.N, win0_4.index t 0 = 0 ∧ win0_4.index t 1 = 0 :=
  (by decide +kernel : ∀ t : Fin grid0.N, win0_4.index t 0 = 0 ∧ win0_4.index t 1 = 0)

/-- Where window 5's block lies at a point. -/
theorem index5 : ∀ t : Fin cfg0.N, win0_5.index t 0 = 0 ∧ win0_5.index t 1 = 0 :=
  (by decide +kernel : ∀ t : Fin grid0.N, win0_5.index t 0 = 0 ∧ win0_5.index t 1 = 0)

/-- Where window 6's block lies at a point. -/
theorem index6 : ∀ t : Fin cfg0.N, win0_6.index t 0 = t.val ∧ win0_6.index t 1 = 0 :=
  (by decide +kernel : ∀ t : Fin grid0.N, win0_6.index t 0 = t.val ∧ win0_6.index t 1 = 0)

/-- The slice of the weights that window 3 reads. -/
theorem slice0 (c : Dev nD) (i : Fin 1024) (j : Fin 1024) : (V m c main_v0 : Vec Ideal S1024x1024 .bf16) (ix2 i j) = aW m c (ix2 ⟨0 + i.val, by omega⟩ ⟨0 + j.val, by omega⟩) := by
  have e : V m c main_v0 = extractStridedSlice S1024x1024 ![0, 0] (aW m c) slices_S1536x1024_S1024x1024_0_0 := by
    show StableHlo.after hostOps0 _ (Proc.devRef .tc main_v0) = _
    after_results
  rw [e]
  refine congrArg (aW m c) (funext fun a => Fin.ext ?_)
  match a with
  | ⟨0, _⟩ => rfl
  | ⟨1, _⟩ => rfl

/-- The slice of the weights that window 4 reads. -/
theorem slice1 (c : Dev nD) (i : Fin 256) (j : Fin 1024) : (V m c main_v1 : Vec Ideal S256x1024 .bf16) (ix2 i j) = aW m c (ix2 ⟨1024 + i.val, by omega⟩ ⟨0 + j.val, by omega⟩) := by
  have e : V m c main_v1 = extractStridedSlice S256x1024 ![1024, 0] (aW m c) slices_S1536x1024_S256x1024_1024_0 := by
    show StableHlo.after hostOps0 _ (Proc.devRef .tc main_v1) = _
    after_results
  rw [e]
  refine congrArg (aW m c) (funext fun a => Fin.ext ?_)
  match a with
  | ⟨0, _⟩ => rfl
  | ⟨1, _⟩ => rfl

/-- The slice of the weights that window 5 reads. -/
theorem slice2 (c : Dev nD) (i : Fin 256) (j : Fin 1024) : (V m c main_v2 : Vec Ideal S256x1024 .bf16) (ix2 i j) = aW m c (ix2 ⟨1280 + i.val, by omega⟩ ⟨0 + j.val, by omega⟩) := by
  have e : V m c main_v2 = extractStridedSlice S256x1024 ![1280, 0] (aW m c) slices_S1536x1024_S256x1024_1280_0 := by
    show StableHlo.after hostOps0 _ (Proc.devRef .tc main_v2) = _
    after_results
  rw [e]
  refine congrArg (aW m c) (funext fun a => Fin.ext ?_)
  match a with
  | ⟨0, _⟩ => rfl
  | ⟨1, _⟩ => rfl

/-- Window 0's block at a point, in the operand's own indices. -/
theorem blk0 (c : Dev nD) (t : Fin cfg0.N) (y : S1024x1024.Idx) (z : S4096x1024.Idx) (h0 : (z 0).val = 1024 * t.val + (y 0).val) (h1 : (z 1).val = (y 1).val) (k : Fin 1024) :
    (iblk m c 0 t : Vec Ideal _ .bf16) (ix2 (y 0) k) = aA m c (ix2 (z 0) k) := by
  unfold iblk
  rw [View.read_apply]
  show V m c main_arg0 _ = aA m c _
  rw [V_main_arg0]
  refine congrArg _ (funext fun a => Fin.ext ?_)
  · match a with
    | ⟨0, _⟩ => show win0_0.index t 0 * 1024 + 1 * (y 0).val = (z 0).val; rw [(index0 t).1]; omega
    | ⟨1, _⟩ => show win0_0.index t 1 * 1024 + 1 * k.val = k.val; rw [(index0 t).2]; omega

/-- Window 1's block at a point, in the operand's own indices. -/
theorem blk1 (c : Dev nD) (t : Fin cfg0.N) (y : S1024x1024.Idx) (z : S4096x1024.Idx) (h0 : (z 0).val = 1024 * t.val + (y 0).val) (h1 : (z 1).val = (y 1).val) (k : Fin 256) :
    (iblk m c 1 t : Vec Ideal _ .bf16) (ix2 (y 0) k) = aB m c (ix2 (z 0) k) := by
  unfold iblk
  rw [View.read_apply]
  show V m c main_arg1 _ = aB m c _
  rw [V_main_arg1]
  refine congrArg _ (funext fun a => Fin.ext ?_)
  · match a with
    | ⟨0, _⟩ => show win0_1.index t 0 * 1024 + 1 * (y 0).val = (z 0).val; rw [(index1 t).1]; omega
    | ⟨1, _⟩ => show win0_1.index t 1 * 256 + 1 * k.val = k.val; rw [(index1 t).2]; omega

/-- Window 2's block at a point, in the operand's own indices. -/
theorem blk2 (c : Dev nD) (t : Fin cfg0.N) (y : S1024x1024.Idx) (z : S4096x1024.Idx) (h0 : (z 0).val = 1024 * t.val + (y 0).val) (h1 : (z 1).val = (y 1).val) (k : Fin 256) :
    (iblk m c 2 t : Vec Ideal _ .bf16) (ix2 (y 0) k) = aC m c (ix2 (z 0) k) := by
  unfold iblk
  rw [View.read_apply]
  show V m c main_arg2 _ = aC m c _
  rw [V_main_arg2]
  refine congrArg _ (funext fun a => Fin.ext ?_)
  · match a with
    | ⟨0, _⟩ => show win0_2.index t 0 * 1024 + 1 * (y 0).val = (z 0).val; rw [(index2 t).1]; omega
    | ⟨1, _⟩ => show win0_2.index t 1 * 256 + 1 * k.val = k.val; rw [(index2 t).2]; omega

/-- Window 3's block at a point, in the operand's own indices. -/
theorem blk3 (c : Dev nD) (t : Fin cfg0.N) (y : S1024x1024.Idx) (z : S4096x1024.Idx) (h0 : (z 0).val = 1024 * t.val + (y 0).val) (h1 : (z 1).val = (y 1).val) (k : Fin 1024) :
    (iblk m c 3 t : Vec Ideal _ .bf16) (ix2 k (y 1)) = aW m c (ix2 ⟨k.val, by omega⟩ (z 1)) := by
  unfold iblk
  rw [View.read_apply]
  show (V m c main_v0 : Vec Ideal S1024x1024 .bf16) _ = _
  refine (congrArg _ (?_ : _ = ix2 k (z 1))).trans ((slice0 m c k (z 1)).trans ?_)
  · refine funext fun a => Fin.ext ?_
    match a with
    | ⟨0, _⟩ => show win0_3.index t 0 * 1024 + 1 * k.val = k.val; rw [(index3 t).1]; omega
    | ⟨1, _⟩ => show win0_3.index t 1 * 1024 + 1 * (y 1).val = (z 1).val; rw [(index3 t).2]; omega
  · refine congrArg (aW m c) (funext fun a => Fin.ext ?_)
    match a with
    | ⟨0, _⟩ => exact Nat.zero_add _
    | ⟨1, _⟩ => exact Nat.zero_add _

/-- Window 4's block at a point, in the operand's own indices. -/
theorem blk4 (c : Dev nD) (t : Fin cfg0.N) (y : S1024x1024.Idx) (z : S4096x1024.Idx) (h0 : (z 0).val = 1024 * t.val + (y 0).val) (h1 : (z 1).val = (y 1).val) (k : Fin 256) :
    (iblk m c 4 t : Vec Ideal _ .bf16) (ix2 k (y 1)) = aW m c (ix2 ⟨1024 + k.val, by omega⟩ (z 1)) := by
  unfold iblk
  rw [View.read_apply]
  show (V m c main_v1 : Vec Ideal S256x1024 .bf16) _ = _
  refine (congrArg _ (?_ : _ = ix2 k (z 1))).trans ((slice1 m c k (z 1)).trans ?_)
  · refine funext fun a => Fin.ext ?_
    match a with
    | ⟨0, _⟩ => show win0_4.index t 0 * 256 + 1 * k.val = k.val; rw [(index4 t).1]; omega
    | ⟨1, _⟩ => show win0_4.index t 1 * 1024 + 1 * (y 1).val = (z 1).val; rw [(index4 t).2]; omega
  · refine congrArg (aW m c) (funext fun a => Fin.ext ?_)
    match a with
    | ⟨0, _⟩ => rfl
    | ⟨1, _⟩ => exact Nat.zero_add _

/-- Window 5's block at a point, in the operand's own indices. -/
theorem blk5 (c : Dev nD) (t : Fin cfg0.N) (y : S1024x1024.Idx) (z : S4096x1024.Idx) (h0 : (z 0).val = 1024 * t.val + (y 0).val) (h1 : (z 1).val = (y 1).val) (k : Fin 256) :
    (iblk m c 5 t : Vec Ideal _ .bf16) (ix2 k (y 1)) = aW m c (ix2 ⟨1280 + k.val, by omega⟩ (z 1)) := by
  unfold iblk
  rw [View.read_apply]
  show (V m c main_v2 : Vec Ideal S256x1024 .bf16) _ = _
  refine (congrArg _ (?_ : _ = ix2 k (z 1))).trans ((slice2 m c k (z 1)).trans ?_)
  · refine funext fun a => Fin.ext ?_
    match a with
    | ⟨0, _⟩ => show win0_5.index t 0 * 256 + 1 * k.val = k.val; rw [(index5 t).1]; omega
    | ⟨1, _⟩ => show win0_5.index t 1 * 1024 + 1 * (y 1).val = (z 1).val; rw [(index5 t).2]; omega
  · refine congrArg (aW m c) (funext fun a => Fin.ext ?_)
    match a with
    | ⟨0, _⟩ => rfl
    | ⟨1, _⟩ => exact Nat.zero_add _

/-- A point's product of blocks is the whole product there. -/
theorem part_eq (c : Dev nD) (t : Fin cfg0.N) (y : S1024x1024.Idx) (z : S4096x1024.Idx) (h0 : (z 0).val = 1024 * t.val + (y 0).val) (h1 : (z 1).val = (y 1).val) :
    dot (iblk m c 0 t) (iblk m c 1 t) (iblk m c 2 t) (iblk m c 3 t) (iblk m c 4 t) (iblk m c 5 t) y = prod (aA m c) (aB m c) (aC m c) (aW m c) z := by
  unfold dot prod
  exact (congrArg₂ (· + ·) (congrArg₂ (· + ·) (Finset.sum_congr rfl fun k _ => congrArg₂ (· * ·) (blk0 m c t y z h0 h1 k) (blk3 m c t y z h0 h1 k)) (Finset.sum_congr rfl fun k _ => congrArg₂ (· * ·) (blk1 m c t y z h0 h1 k) (blk4 m c t y z h0 h1 k))) (Finset.sum_congr rfl fun k _ => congrArg₂ (· * ·) (blk2 m c t y z h0 h1 k) (blk5 m c t y z h0 h1 k)))

/-- What a point writes back is its block of the product. -/
theorem flushed (c : Dev nD) (t : Fin cfg0.N) (hf : (cfg0.win 6).flush t = true) :
    (dats m 0 c).flushed 6 t = ((cfg0.win 6).blk t).view.read (Elt Ideal) (prod (aA m c) (aB m c) (aC m c) (aW m c)) := by
  have hN : t.val < 4 := t.isLt
  rw [Cert.OutprojIdeal.Value.flushed6, out_eq]
  funext x
  rw [View.read_apply]
  have x0 : (x 0).val < 1024 := (x 0).isLt
  have x1 : (x 1).val < 1024 := (x 1).isLt
  refine Eq.trans (congrArg (dot (iblk m c 0 t) (iblk m c 1 t) (iblk m c 2 t) (iblk m c 3 t) (iblk m c 4 t) (iblk m c 5 t)) (?_ : _ = (ix2 ⟨(x 0).val, x0⟩ ⟨(x 1).val, x1⟩ : S1024x1024.Idx))) ?_
  · exact eq_ix2 _
  refine (part_eq m c t _ (ix2 ⟨1024 * t.val + (x 0).val, by omega⟩ ⟨(x 1).val, by omega⟩) rfl rfl).trans (congrArg (prod (aA m c) (aB m c) (aC m c) (aW m c)) (funext fun a => Fin.ext ?_))
  match a with
  | ⟨0, _⟩ => show 1024 * t.val + (x 0).val = win0_6.index t 0 * 1024 + 1 * (x 0).val; rw [(index6 t).1]; omega
  | ⟨1, _⟩ => show (x 1).val = win0_6.index t 1 * 1024 + 1 * (x 1).val; rw [(index6 t).2]; omega

/-- The result array after the run: every index lies in the block of one point. -/
theorem final (c : Dev nD) : (dats m 0 c).arrAt 6 cfg0.N = prod (aA m c) (aB m c) (aC m c) (aW m c) :=
  (dats m 0 c).arrAt_eq_of_cover 6 (prod (aA m c) (aB m c) (aC m c) (aW m c)) (flushed m c) fun i => by
    have h0 : (i 0 : Nat) < 4096 := (i 0).isLt
    have h1 : (i 1 : Nat) < 1024 := (i 1).isLt
    have hN : cfg0.N = 4 := N_0
    let t : Fin cfg0.N := ⟨(i 0).val / 1024, by omega⟩
    have ht : t.val = (i 0).val / 1024 := rfl
    have hi : ∀ t : Fin cfg0.N, win0_6.index t 0 * win0_6.size 0 = 1024 * (t.val) ∧ win0_6.index t 1 * win0_6.size 1 = 0 ∧ win0_6.xsize (grid0.coords t) 0 = 1024 ∧ win0_6.xsize (grid0.coords t) 1 = 1024 :=
      (by decide +kernel : ∀ t : Fin grid0.N, win0_6.index t 0 * win0_6.size 0 = 1024 * (t.val) ∧ win0_6.index t 1 * win0_6.size 1 = 0 ∧ win0_6.xsize (grid0.coords t) 0 = 1024 ∧ win0_6.xsize (grid0.coords t) 1 = 1024)
    refine ⟨t, flush0_6 t, ?_⟩
    show i ∈ ((View.whole main_v3).slice (win0_6.rect t)).set
    rw [View.set_slice_whole, Rect.mem_set_unit]
    intro a
    match a with
    | ⟨0, _⟩ => show win0_6.index t 0 * win0_6.size 0 ≤ (i 0 : Nat) ∧ (i 0 : Nat) < win0_6.index t 0 * win0_6.size 0 + win0_6.xsize (grid0.coords t) 0
                rw [(hi t).1, (hi t).2.2.1]; omega
    | ⟨1, _⟩ => show win0_6.index t 1 * win0_6.size 1 ≤ (i 1 : Nat) ∧ (i 1 : Nat) < win0_6.index t 1 * win0_6.size 1 + win0_6.xsize (grid0.coords t) 1
                rw [(hi t).2.1, (hi t).2.2.2]; omega

/-- The run, read: the result at the product, the arguments unchanged. -/
theorem run : θ_run defs (onTc (τ := τ) (main (F := Ideal))) ⟨m, fun _ => 0, ρ⟩ fun r => ∀ c : Dev nD,
      r.2.mem ((c : Thread nD τ).loc main_v3) = prod (aA m c) (aB m c) (aC m c) (aW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.OutprojIdeal.Value.run_blocks m ρ)

end Cert.OutprojIdeal.Arr

end
-- ==== Proof.OutprojRef.lean ====
/-
  The reference's result is the same product.
-/
module

public import proofs.«01_k».proof.Proof.Sums
public import proofs.«01_k».proof.Proof.OutprojArray
public import proofs.«01_k».proof.Proof.Gen.OutprojRefIdeal.Run
public import proofs.«01_k».proof.Proof.Gen.OutprojRefIdeal.Read

@[expose] public section

set_option maxRecDepth 16384

noncomputable section

namespace Cert.OutprojRefIdeal.Eq

open Cert.OutprojRefIdeal Cert.OutprojRefIdeal.Gen Cert.OutprojRefIdeal.Read Idealize.ShloMosaic Idealize.ShloMosaic.TcCoe Idealize.SL.Sem
open Idealize.ShloMosaic.Pipeline (Dat)

/-- The reference's product is the kernel's. -/
theorem result (A : Vec Ideal S4096x1024 .bf16) (B : Vec Ideal S4096x256 .bf16) (C : Vec Ideal S4096x256 .bf16) (W : Vec Ideal S1536x1024 .bf16) : val_main_v6 (F := Ideal) A B C W = Cert.OutprojIdeal.Arr.prod A B C W := by
  funext z
  idx_vars z
  pointwise [val_main_v0, val_main_v1, val_main_v2, val_main_v3, val_main_v4, val_main_v5, val_main_v6]
  unfold Cert.OutprojIdeal.Arr.prod
  rw [Sums.three 1024 256 256 (by norm_num)]
  refine congrArg₂ (· + ·) (congrArg₂ (· + ·) ?_ ?_) ?_
  · refine Finset.sum_congr rfl fun k _ => ?_
    have hk : k.val < 1024 := k.isLt
    dsimp only
    rw [dif_pos hk]
    rfl
  · refine Finset.sum_congr rfl fun k _ => ?_
    have hk : k.val < 256 := k.isLt
    dsimp only
    rw [dif_neg (by omega), dif_pos (by omega)]
    refine congrArg₂ (· * ·) (congrArg B (funext fun a => Fin.ext ?_)) rfl
    match a with
    | ⟨0, _⟩ => rfl
    | ⟨1, _⟩ => exact Nat.add_sub_cancel_left _ _
  · refine Finset.sum_congr rfl fun k _ => ?_
    have hk : k.val < 256 := k.isLt
    dsimp only
    rw [dif_neg (by omega), dif_neg (by omega)]
    refine congrArg₂ (· * ·) (congrArg C (funext fun a => Fin.ext ?_)) rfl
    match a with
    | ⟨0, _⟩ => rfl
    | ⟨1, _⟩ => show 1024 + 256 + k.val - 1024 - 256 = k.val; omega

end Cert.OutprojRefIdeal.Eq

end
-- ==== Proof.OutprojClaims.lean ====
/-
  The claims about the out-projection, assembled.
-/
module

public import proofs.«01_k».proof.Defs
public import proofs.«01_k».proof.Proof.OutprojArray
public import proofs.«01_k».proof.Proof.OutprojRef
public import proofs.«01_k».proof.Proof.Gen.Outproj.Frame

@[expose] public section

noncomputable section

namespace Cert.OutprojClaims

open Idealize.ShloMosaic Idealize.SL.Sem

instance : Cert.Outproj.Facts := Cert.Outproj.Gen.facts
instance : Cert.OutprojIdeal.Facts := Cert.OutprojIdeal.Gen.facts
instance : Cert.OutprojRefIdeal.Facts := Cert.OutprojRefIdeal.Gen.facts

/-- The kernel's program ends, faultless, its arguments unchanged, every semaphore at zero. -/
theorem frame_kernel : Cert.quiescent_Outproj := fun m ρ _ => Cert.Outproj.Gen.frame m ρ

/-- The same of the kernel over the extended reals. -/
theorem frame_ideal : Cert.quiescent_OutprojIdeal := fun m ρ _ => Cert.OutprojIdeal.Gen.frame m ρ

/-- The reference ends, faultless, its arguments unchanged, every semaphore at zero. -/
theorem frame_ref : Cert.quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run m ρ)

/-- Kernel and reference end with the same result. -/
theorem algebraic : Cert.algebraic_OutprojIdeal_OutprojRefIdeal := fun m ρ m' ρ' _ hag =>
  ⟨fun c => Cert.OutprojIdeal.Arr.prod (Cert.OutprojIdeal.Arr.aA m c) (Cert.OutprojIdeal.Arr.aB m c) (Cert.OutprojIdeal.Arr.aC m c) (Cert.OutprojIdeal.Arr.aW m c),
    Cert.OutprojIdeal.Arr.run m ρ,
    (θ_run _ _ _).mono (fun r h c => by
      obtain ⟨h0, hk⟩ := h c
      obtain ⟨e0, e1, e2, e3⟩ := hag c
      refine ⟨h0.trans ((Cert.OutprojRefIdeal.Read.val_main_v6_eq _ _ _ _).trans ?_), hk⟩
      · rw [e0, e1, e2, e3]; exact Cert.OutprojRefIdeal.Eq.result _ _ _ _) (Cert.OutprojRefIdeal.Value.run m' ρ')⟩

end Cert.OutprojClaims

end
-- ==== Proof.DcatArray.lean ====
/-
  The gradient of the mixers' outputs, the product with the transposed out-projection's weights:
  what one grid point computes, and what the result array holds after the run.
-/
module

public import proofs.«01_k».proof.Proof.Gen.DcatIdeal.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.DcatIdeal.Arr

open Cert.DcatIdeal Cert.DcatIdeal.Gen Idealize.ShloMosaic Idealize.ShloMosaic.TcCoe Idealize.SL.Sem
open Idealize.ShloMosaic.Pipeline (Dat)

/-- The product of a point's blocks. -/
def dot (x0 : Vec Ideal S1024x1024 .bf16) (x1 : Vec Ideal S1536x1024 .bf16) (y : S1024x1536.Idx) : EReal :=
  (∑ k : Fin 1024, x0 (ix2 (y 0) k) * x1 (ix2 (y 1) k))

/-- The whole product. -/
def prod (A : Vec Ideal S4096x1024 .bf16) (B : Vec Ideal S1536x1024 .bf16) : Vec Ideal S4096x1536 .bf16 := fun z =>
  (∑ k : Fin 1024, A (ix2 (z 0) k) * B (ix2 (z 1) k))

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The body's arithmetic is the product of the blocks. -/
theorem computed (x0 : Vec Ideal S1024x1024 .bf16) (x1 : Vec Ideal S1536x1024 .bf16) : k0_pay1 (F := Ideal) x0 x1 = dot x0 x1 := by
  funext y
  idx_vars y
  pointwise [k0_pay1, dot]

/-- What a point leaves in the output block. -/
theorem out_eq (x0 : Vec Ideal S1024x1024 .bf16) (x1 : Vec Ideal S1536x1024 .bf16) : out0_2 (F := Ideal) x0 x1 = dot x0 x1 := by
  unfold out0_2
  simp only [View.ld_unit_zero (S := S1024x1024) hz2, View.ld_unit_zero (S := S1536x1024) hz2]
  rw [View.canon_cons_unit_zero hz2]
  exact computed x0 x1

variable (m : (ℓ : Loc nD τ sig) → Buf (Elt Ideal) ℓ) (ρ : Dev nD → PrngReg)

/-- Operand 0. -/
abbrev aA (c : Dev nD) : Vec Ideal S4096x1024 .bf16 := m ((c : Thread nD τ).loc main_arg0)

/-- Operand 1. -/
abbrev aB (c : Dev nD) : Vec Ideal S1536x1024 .bf16 := m ((c : Thread nD τ).loc main_arg1)

/-- Where window 0's block lies at a point. -/
theorem index0 : ∀ t : Fin cfg0.N, win0_0.index t 0 = t.val ∧ win0_0.index t 1 = 0 :=
  (by decide +kernel : ∀ t : Fin grid0.N, win0_0.index t 0 = t.val ∧ win0_0.index t 1 = 0)

/-- Where window 1's block lies at a point. -/
theorem index1 : ∀ t : Fin cfg0.N, win0_1.index t 0 = 0 ∧ win0_1.index t 1 = 0 :=
  (by decide +kernel : ∀ t : Fin grid0.N, win0_1.index t 0 = 0 ∧ win0_1.index t 1 = 0)

/-- Where window 2's block lies at a point. -/
theorem index2 : ∀ t : Fin cfg0.N, win0_2.index t 0 = t.val ∧ win0_2.index t 1 = 0 :=
  (by decide +kernel : ∀ t : Fin grid0.N, win0_2.index t 0 = t.val ∧ win0_2.index t 1 = 0)

/-- Window 0's block at a point, in the operand's own indices. -/
theorem blk0 (c : Dev nD) (t : Fin cfg0.N) (y : S1024x1536.Idx) (z : S4096x1536.Idx) (h0 : (z 0).val = 1024 * t.val + (y 0).val) (h1 : (z 1).val = (y 1).val) (k : Fin 1024) :
    (iblk m c 0 t : Vec Ideal _ .bf16) (ix2 (y 0) k) = aA m c (ix2 (z 0) k) := by
  unfold iblk
  rw [View.read_apply]
  show V m c main_arg0 _ = aA m c _
  rw [V_main_arg0]
  refine congrArg _ (funext fun a => Fin.ext ?_)
  · match a with
    | ⟨0, _⟩ => show win0_0.index t 0 * 1024 + 1 * (y 0).val = (z 0).val; rw [(index0 t).1]; omega
    | ⟨1, _⟩ => show win0_0.index t 1 * 1024 + 1 * k.val = k.val; rw [(index0 t).2]; omega

/-- Window 1's block at a point, in the operand's own indices. -/
theorem blk1 (c : Dev nD) (t : Fin cfg0.N) (y : S1024x1536.Idx) (z : S4096x1536.Idx) (h0 : (z 0).val = 1024 * t.val + (y 0).val) (h1 : (z 1).val = (y 1).val) (k : Fin 1024) :
    (iblk m c 1 t : Vec Ideal _ .bf16) (ix2 (y 1) k) = aB m c (ix2 (z 1) k) := by
  unfold iblk
  rw [View.read_apply]
  show V m c main_arg1 _ = aB m c _
  rw [V_main_arg1]
  refine congrArg _ (funext fun a => Fin.ext ?_)
  · match a with
    | ⟨0, _⟩ => show win0_1.index t 0 * 1536 + 1 * (y 1).val = (z 1).val; rw [(index1 t).1]; omega
    | ⟨1, _⟩ => show win0_1.index t 1 * 1024 + 1 * k.val = k.val; rw [(index1 t).2]; omega

/-- A point's product of blocks is the whole product there. -/
theorem part_eq (c : Dev nD) (t : Fin cfg0.N) (y : S1024x1536.Idx) (z : S4096x1536.Idx) (h0 : (z 0).val = 1024 * t.val + (y 0).val) (h1 : (z 1).val = (y 1).val) :
    dot (iblk m c 0 t) (iblk m c 1 t) y = prod (aA m c) (aB m c) z := by
  unfold dot prod
  exact (Finset.sum_congr rfl fun k _ => congrArg₂ (· * ·) (blk0 m c t y z h0 h1 k) (blk1 m c t y z h0 h1 k))

/-- What a point writes back is its block of the product. -/
theorem flushed (c : Dev nD) (t : Fin cfg0.N) (hf : (cfg0.win 2).flush t = true) :
    (dats m 0 c).flushed 2 t = ((cfg0.win 2).blk t).view.read (Elt Ideal) (prod (aA m c) (aB m c)) := by
  have hN : t.val < 4 := t.isLt
  rw [Cert.DcatIdeal.Value.flushed2, out_eq]
  funext x
  rw [View.read_apply]
  have x0 : (x 0).val < 1024 := (x 0).isLt
  have x1 : (x 1).val < 1536 := (x 1).isLt
  refine Eq.trans (congrArg (dot (iblk m c 0 t) (iblk m c 1 t)) (?_ : _ = (ix2 ⟨(x 0).val, x0⟩ ⟨(x 1).val, x1⟩ : S1024x1536.Idx))) ?_
  · exact eq_ix2 _
  refine (part_eq m c t _ (ix2 ⟨1024 * t.val + (x 0).val, by omega⟩ ⟨(x 1).val, by omega⟩) rfl rfl).trans (congrArg (prod (aA m c) (aB m c)) (funext fun a => Fin.ext ?_))
  match a with
  | ⟨0, _⟩ => show 1024 * t.val + (x 0).val = win0_2.index t 0 * 1024 + 1 * (x 0).val; rw [(index2 t).1]; omega
  | ⟨1, _⟩ => show (x 1).val = win0_2.index t 1 * 1536 + 1 * (x 1).val; rw [(index2 t).2]; omega

/-- The result array after the run: every index lies in the block of one point. -/
theorem final (c : Dev nD) : (dats m 0 c).arrAt 2 cfg0.N = prod (aA m c) (aB m c) :=
  (dats m 0 c).arrAt_eq_of_cover 2 (prod (aA m c) (aB m c)) (flushed m c) fun i => by
    have h0 : (i 0 : Nat) < 4096 := (i 0).isLt
    have h1 : (i 1 : Nat) < 1536 := (i 1).isLt
    have hN : cfg0.N = 4 := N_0
    let t : Fin cfg0.N := ⟨(i 0).val / 1024, by omega⟩
    have ht : t.val = (i 0).val / 1024 := rfl
    have hi : ∀ t : Fin cfg0.N, win0_2.index t 0 * win0_2.size 0 = 1024 * (t.val) ∧ win0_2.index t 1 * win0_2.size 1 = 0 ∧ win0_2.xsize (grid0.coords t) 0 = 1024 ∧ win0_2.xsize (grid0.coords t) 1 = 1536 :=
      (by decide +kernel : ∀ t : Fin grid0.N, win0_2.index t 0 * win0_2.size 0 = 1024 * (t.val) ∧ win0_2.index t 1 * win0_2.size 1 = 0 ∧ win0_2.xsize (grid0.coords t) 0 = 1024 ∧ win0_2.xsize (grid0.coords t) 1 = 1536)
    refine ⟨t, flush0_2 t, ?_⟩
    show i ∈ ((View.whole main_v0).slice (win0_2.rect t)).set
    rw [View.set_slice_whole, Rect.mem_set_unit]
    intro a
    match a with
    | ⟨0, _⟩ => show win0_2.index t 0 * win0_2.size 0 ≤ (i 0 : Nat) ∧ (i 0 : Nat) < win0_2.index t 0 * win0_2.size 0 + win0_2.xsize (grid0.coords t) 0
                rw [(hi t).1, (hi t).2.2.1]; omega
    | ⟨1, _⟩ => show win0_2.index t 1 * win0_2.size 1 ≤ (i 1 : Nat) ∧ (i 1 : Nat) < win0_2.index t 1 * win0_2.size 1 + win0_2.xsize (grid0.coords t) 1
                rw [(hi t).2.1, (hi t).2.2.2]; omega

/-- The run, read: the result at the product, the arguments unchanged. -/
theorem run : θ_run defs (onTc (τ := τ) (main (F := Ideal))) ⟨m, fun _ => 0, ρ⟩ fun r => ∀ c : Dev nD,
      r.2.mem ((c : Thread nD τ).loc main_v0) = prod (aA m c) (aB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.DcatIdeal.Value.run_blocks m ρ)

end Cert.DcatIdeal.Arr

end
-- ==== Proof.DcatRef.lean ====
/-
  The reference's result is the same product.
-/
module

public import proofs.«01_k».proof.Proof.Sums
public import proofs.«01_k».proof.Proof.DcatArray
public import proofs.«01_k».proof.Proof.Gen.DcatRefIdeal.Run
public import proofs.«01_k».proof.Proof.Gen.DcatRefIdeal.Read

@[expose] public section

set_option maxRecDepth 16384

noncomputable section

namespace Cert.DcatRefIdeal.Eq

open Cert.DcatRefIdeal Cert.DcatRefIdeal.Gen Cert.DcatRefIdeal.Read Idealize.ShloMosaic Idealize.ShloMosaic.TcCoe Idealize.SL.Sem
open Idealize.ShloMosaic.Pipeline (Dat)

/-- The reference's product is the kernel's. -/
theorem result (A : Vec Ideal S4096x1024 .bf16) (B : Vec Ideal S1536x1024 .bf16) : val_main_v5 (F := Ideal) A B = Cert.DcatIdeal.Arr.prod A B := by
  funext z
  idx_vars z
  pointwise [val_main_v0, val_main_v1, val_main_cst, val_main_v2, val_main_v3, val_main_v4, val_main_v5]
  unfold Cert.DcatIdeal.Arr.prod
  rfl

end Cert.DcatRefIdeal.Eq

end
-- ==== Proof.DcatClaims.lean ====
/-
  The claims about the gradient of the mixers' outputs, assembled.
-/
module

public import proofs.«01_k».proof.Defs
public import proofs.«01_k».proof.Proof.DcatArray
public import proofs.«01_k».proof.Proof.DcatRef
public import proofs.«01_k».proof.Proof.Gen.Dcat.Frame

@[expose] public section

noncomputable section

namespace Cert.DcatClaims

open Idealize.ShloMosaic Idealize.SL.Sem

instance : Cert.Dcat.Facts := Cert.Dcat.Gen.facts
instance : Cert.DcatIdeal.Facts := Cert.DcatIdeal.Gen.facts
instance : Cert.DcatRefIdeal.Facts := Cert.DcatRefIdeal.Gen.facts

/-- The kernel's program ends, faultless, its arguments unchanged, every semaphore at zero. -/
theorem frame_kernel : Cert.quiescent_Dcat := fun m ρ _ => Cert.Dcat.Gen.frame m ρ

/-- The same of the kernel over the extended reals. -/
theorem frame_ideal : Cert.quiescent_DcatIdeal := fun m ρ _ => Cert.DcatIdeal.Gen.frame m ρ

/-- The reference ends, faultless, its arguments unchanged, every semaphore at zero. -/
theorem frame_ref : Cert.quiescent_DcatRefIdeal := fun m ρ _ =>
  (θ_run Cert.DcatRefIdeal.defs _ _).mono (fun r h => ⟨fun c => (h c).2, sem_eq_zero_of_no_sems (by decide) r.2⟩)
    (Cert.DcatRefIdeal.Value.run m ρ)

/-- Kernel and reference end with the same result. -/
theorem algebraic : Cert.algebraic_DcatIdeal_DcatRefIdeal := fun m ρ m' ρ' _ hag =>
  ⟨fun c => Cert.DcatIdeal.Arr.prod (Cert.DcatIdeal.Arr.aA m c) (Cert.DcatIdeal.Arr.aB m c),
    Cert.DcatIdeal.Arr.run m ρ,
    (θ_run _ _ _).mono (fun r h c => by
      obtain ⟨h0, hk⟩ := h c
      obtain ⟨e0, e1⟩ := hag c
      refine ⟨h0.trans ((Cert.DcatRefIdeal.Read.val_main_v5_eq _ _).trans ?_), hk⟩
      · rw [e0, e1]; exact Cert.DcatRefIdeal.Eq.result _ _) (Cert.DcatRefIdeal.Value.run m' ρ')⟩

end Cert.DcatClaims

end
-- ==== Proof.DwoutProd.lean ====
/-
  The gradient of the out-projection's weights, mixer by mixer:
  what one grid point leaves in the three accumulators and in the output blocks.
-/
module

public import proofs.«01_k».proof.Proof.Sums
public import proofs.«01_k».proof.Proof.Gen.DwoutIdeal.Value
public import Idealize.ShloMosaic.Lib.Pipeline.ValueKit.Tiles
public import Idealize.ShloMosaic.Lib.Pipeline.ValueKit.Acc
public import Idealize.ShloMosaic.Lib.Tactic

@[expose] public section

set_option maxRecDepth 16384

noncomputable section

namespace Cert.DwoutIdeal.Prod

open Cert.DwoutIdeal Cert.DwoutIdeal.Gen Idealize.ShloMosaic Idealize.ShloMosaic.TcCoe Idealize.SL.Sem
open Idealize.ShloMosaic.Pipeline (Dat)

/-- The zero offsets of a load or store through a whole block. -/
theorem hz2 : (![0, 0] : Fin 2 → ℕ) = fun _ => 0 := by
  funext a; match a with | ⟨0, _⟩ => rfl | ⟨1, _⟩ => rfl

/-- Product 0 of a point's blocks at an index of its accumulator. -/
def dot0 (xl : Vec Ideal S1024x1024 .bf16) (xr : Vec Ideal S1024x1024 .bf16) (y : S1024x1024.Idx) : EReal :=
  ∑ k : Fin 1024, xl (ix2 k (y 0)) * xr (ix2 k (y 1))

/-- Accumulator 0 is cleared with zeros. -/
theorem cleared0 : k0_pay4 (F := Ideal) = fun _ => (0 : EReal) := by
  funext y
  pointwise [k0_pay4]

/-- It gains the product of the blocks. -/
theorem gained0 (v : Vec Ideal S1024x1024 .f32) (xl : Vec Ideal S1024x1024 .bf16) (xr : Vec Ideal S1024x1024 .bf16) :
    k0_pay7 (F := Ideal) xr v xl = fun y => v y + dot0 xl xr y := by
  funext y
  idx_vars y
  pointwise [k0_pay7, dot0]

/-- The output block is the accumulator. -/
theorem copied0 (v : Vec Ideal S1024x1024 .f32) : k0_pay1 (F := Ideal) v = v := by
  funext y
  idx_vars y
  pointwise [k0_pay1]

/-- Product 1 of a point's blocks at an index of its accumulator. -/
def dot1 (xl : Vec Ideal S1024x256 .bf16) (xr : Vec Ideal S1024x1024 .bf16) (y : S256x1024.Idx) : EReal :=
  ∑ k : Fin 1024, xl (ix2 k (y 0)) * xr (ix2 k (y 1))

/-- Accumulator 1 is cleared with zeros. -/
theorem cleared1 : k0_pay5 (F := Ideal) = fun _ => (0 : EReal) := by
  funext y
  pointwise [k0_pay5]

/-- It gains the product of the blocks. -/
theorem gained1 (v : Vec Ideal S256x1024 .f32) (xl : Vec Ideal S1024x256 .bf16) (xr : Vec Ideal S1024x1024 .bf16) :
    k0_pay8 (F := Ideal) xr v xl = fun y => v y + dot1 xl xr y := by
  funext y
  idx_vars y
  pointwise [k0_pay8, dot1]

/-- The output block is the accumulator. -/
theorem copied1 (v : Vec Ideal S256x1024 .f32) : k0_pay2 (F := Ideal) v = v := by
  funext y
  idx_vars y
  pointwise [k0_pay2]

/-- Product 2 of a point's blocks at an index of its accumulator. -/
def dot2 (xl : Vec Ideal S1024x256 .bf16) (xr : Vec Ideal S1024x1024 .bf16) (y : S256x1024.Idx) : EReal :=
  ∑ k : Fin 1024, xl (ix2 k (y 0)) * xr (ix2 k (y 1))

/-- Accumulator 2 is cleared with zeros. -/
theorem cleared2 : k0_pay6 (F := Ideal) = fun _ => (0 : EReal) := by
  funext y
  pointwise [k0_pay6]

/-- It gains the product of the blocks. -/
theorem gained2 (v : Vec Ideal S256x1024 .f32) (xl : Vec Ideal S1024x256 .bf16) (xr : Vec Ideal S1024x1024 .bf16) :
    k0_pay9 (F := Ideal) xr v xl = fun y => v y + dot2 xl xr y := by
  funext y
  idx_vars y
  pointwise [k0_pay9, dot2]

/-- The output block is the accumulator. -/
theorem copied2 (v : Vec Ideal S256x1024 .f32) : k0_pay3 (F := Ideal) v = v := by
  funext y
  idx_vars y
  pointwise [k0_pay3]

/-- Accumulator 0 after the first point. -/
theorem acc0_A (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : cond0_0 i) (hc1 : ¬cond0_1 i) (x0 : Vec Ideal S1024x1024 .bf16) (x1 : Vec Ideal S1024x256 .bf16) (x2 : Vec Ideal S1024x256 .bf16) (x3 : Vec Ideal S1024x1024 .bf16) :
    sout0_A_0 (F := Ideal) c i arg1 harg1 arg2 harg2 arg3 harg3 arg4 harg4 arg5 harg5 arg6 harg6 arg7 harg7 arg8 harg8 arg9 harg9 arg10 harg10 hc0 hc1 x0 x1 x2 x3 = fun y => 0 + dot0 x0 x3 y := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [gained0, cleared0]

/-- Accumulator 0 after a point in the middle. -/
theorem acc0_B (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : ¬cond0_1 i) (x0 : Vec Ideal S1024x1024 .bf16) (x1 : Vec Ideal S1024x256 .bf16) (x2 : Vec Ideal S1024x256 .bf16) (x3 : Vec Ideal S1024x1024 .bf16) (xs0 : Vec Ideal S1024x1024 .f32) (xs1 : Vec Ideal S256x1024 .f32) (xs2 : Vec Ideal S256x1024 .f32) :
    sout0_B_0 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs0 y + dot0 x0 x3 y := by
  unfold sout0_B_0
  rw [View.read_writes_eq_canon _ _ _ (scover0_B_0 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [gained0]

/-- Accumulator 0 after the last point. -/
theorem acc0_C (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i) (x0 : Vec Ideal S1024x1024 .bf16) (x1 : Vec Ideal S1024x256 .bf16) (x2 : Vec Ideal S1024x256 .bf16) (x3 : Vec Ideal S1024x1024 .bf16) (xs0 : Vec Ideal S1024x1024 .f32) (xs1 : Vec Ideal S256x1024 .f32) (xs2 : Vec Ideal S256x1024 .f32) :
    sout0_C_0 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs0 y + dot0 x0 x3 y := by
  unfold sout0_C_0
  rw [View.read_writes_eq_canon _ _ _ (scover0_C_0 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [gained0]

/-- Output block 0 after the last point. -/
theorem out0_C (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i) (x0 : Vec Ideal S1024x1024 .bf16) (x1 : Vec Ideal S1024x256 .bf16) (x2 : Vec Ideal S1024x256 .bf16) (x3 : Vec Ideal S1024x1024 .bf16) (xs0 : Vec Ideal S1024x1024 .f32) (xs1 : Vec Ideal S256x1024 .f32) (xs2 : Vec Ideal S256x1024 .f32) :
    out0_C_4 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs0 y + dot0 x0 x3 y := by
  unfold out0_C_4
  rw [View.read_writes_eq_canon _ _ _ (cover0_C_4 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [copied0, gained0]

/-- Accumulator 1 after the first point. -/
theorem acc1_A (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : cond0_0 i) (hc1 : ¬cond0_1 i) (x0 : Vec Ideal S1024x1024 .bf16) (x1 : Vec Ideal S1024x256 .bf16) (x2 : Vec Ideal S1024x256 .bf16) (x3 : Vec Ideal S1024x1024 .bf16) :
    sout0_A_1 (F := Ideal) c i arg1 harg1 arg2 harg2 arg3 harg3 arg4 harg4 arg5 harg5 arg6 harg6 arg7 harg7 arg8 harg8 arg9 harg9 arg10 harg10 hc0 hc1 x0 x1 x2 x3 = fun y => 0 + dot1 x1 x3 y := by
  unfold sout0_A_1
  rw [View.read_writes_eq_canon _ _ _ (scover0_A_1 (F := Ideal) c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [gained1, cleared1]

/-- Accumulator 1 after a point in the middle. -/
theorem acc1_B (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : ¬cond0_1 i) (x0 : Vec Ideal S1024x1024 .bf16) (x1 : Vec Ideal S1024x256 .bf16) (x2 : Vec Ideal S1024x256 .bf16) (x3 : Vec Ideal S1024x1024 .bf16) (xs0 : Vec Ideal S1024x1024 .f32) (xs1 : Vec Ideal S256x1024 .f32) (xs2 : Vec Ideal S256x1024 .f32) :
    sout0_B_1 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs1 y + dot1 x1 x3 y := by
  unfold sout0_B_1
  rw [View.read_writes_eq_canon _ _ _ (scover0_B_1 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [gained1]

/-- Accumulator 1 after the last point. -/
theorem acc1_C (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i) (x0 : Vec Ideal S1024x1024 .bf16) (x1 : Vec Ideal S1024x256 .bf16) (x2 : Vec Ideal S1024x256 .bf16) (x3 : Vec Ideal S1024x1024 .bf16) (xs0 : Vec Ideal S1024x1024 .f32) (xs1 : Vec Ideal S256x1024 .f32) (xs2 : Vec Ideal S256x1024 .f32) :
    sout0_C_1 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs1 y + dot1 x1 x3 y := by
  unfold sout0_C_1
  rw [View.read_writes_eq_canon _ _ _ (scover0_C_1 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [gained1]

/-- Output block 1 after the last point. -/
theorem out1_C (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i) (x0 : Vec Ideal S1024x1024 .bf16) (x1 : Vec Ideal S1024x256 .bf16) (x2 : Vec Ideal S1024x256 .bf16) (x3 : Vec Ideal S1024x1024 .bf16) (xs0 : Vec Ideal S1024x1024 .f32) (xs1 : Vec Ideal S256x1024 .f32) (xs2 : Vec Ideal S256x1024 .f32) :
    out0_C_5 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs1 y + dot1 x1 x3 y := by
  unfold out0_C_5
  rw [View.read_writes_eq_canon _ _ _ (cover0_C_5 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [copied1, gained1]

/-- Accumulator 2 after the first point. -/
theorem acc2_A (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : cond0_0 i) (hc1 : ¬cond0_1 i) (x0 : Vec Ideal S1024x1024 .bf16) (x1 : Vec Ideal S1024x256 .bf16) (x2 : Vec Ideal S1024x256 .bf16) (x3 : Vec Ideal S1024x1024 .bf16) :
    sout0_A_2 (F := Ideal) c i arg1 harg1 arg2 harg2 arg3 harg3 arg4 harg4 arg5 harg5 arg6 harg6 arg7 harg7 arg8 harg8 arg9 harg9 arg10 harg10 hc0 hc1 x0 x1 x2 x3 = fun y => 0 + dot2 x2 x3 y := by
  unfold sout0_A_2
  rw [View.read_writes_eq_canon _ _ _ (scover0_A_2 (F := Ideal) c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [gained2, cleared2]

/-- Accumulator 2 after a point in the middle. -/
theorem acc2_B (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : ¬cond0_1 i) (x0 : Vec Ideal S1024x1024 .bf16) (x1 : Vec Ideal S1024x256 .bf16) (x2 : Vec Ideal S1024x256 .bf16) (x3 : Vec Ideal S1024x1024 .bf16) (xs0 : Vec Ideal S1024x1024 .f32) (xs1 : Vec Ideal S256x1024 .f32) (xs2 : Vec Ideal S256x1024 .f32) :
    sout0_B_2 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs2 y + dot2 x2 x3 y := by
  unfold sout0_B_2
  rw [View.read_writes_eq_canon _ _ _ (scover0_B_2 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [gained2]

/-- Accumulator 2 after the last point. -/
theorem acc2_C (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i) (x0 : Vec Ideal S1024x1024 .bf16) (x1 : Vec Ideal S1024x256 .bf16) (x2 : Vec Ideal S1024x256 .bf16) (x3 : Vec Ideal S1024x1024 .bf16) (xs0 : Vec Ideal S1024x1024 .f32) (xs1 : Vec Ideal S256x1024 .f32) (xs2 : Vec Ideal S256x1024 .f32) :
    sout0_C_2 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs2 y + dot2 x2 x3 y := by
  unfold sout0_C_2
  rw [View.read_writes_eq_canon _ _ _ (scover0_C_2 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [gained2]

/-- Output block 2 after the last point. -/
theorem out2_C (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i) (x0 : Vec Ideal S1024x1024 .bf16) (x1 : Vec Ideal S1024x256 .bf16) (x2 : Vec Ideal S1024x256 .bf16) (x3 : Vec Ideal S1024x1024 .bf16) (xs0 : Vec Ideal S1024x1024 .f32) (xs1 : Vec Ideal S256x1024 .f32) (xs2 : Vec Ideal S256x1024 .f32) :
    out0_C_6 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs2 y + dot2 x2 x3 y := by
  unfold out0_C_6
  rw [View.read_writes_eq_canon _ _ _ (cover0_C_6 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x256) hz2, View.ld_unit_zero (S := S256x1024) hz2, View.readCov_unit_zero (S := S1024x1024) _ hz2, View.readCov_unit_zero (S := S256x1024) _ hz2]
  rw [View.canon_cons_unit_zero hz2]
  rw [copied2, gained2]

end Cert.DwoutIdeal.Prod

end
-- ==== Proof.DwoutArray.lean ====
/-
  The products summed over the tiles, and what the result arrays hold after the run.
-/
module

public import proofs.«01_k».proof.Proof.Sums
public import proofs.«01_k».proof.Proof.DwoutProd

@[expose] public section

set_option maxRecDepth 16384

noncomputable section

namespace Cert.DwoutIdeal.Arr

open Cert.DwoutIdeal Cert.DwoutIdeal.Gen Cert.DwoutIdeal.Prod Idealize.ShloMosaic Idealize.ShloMosaic.TcCoe Idealize.SL.Sem
open Idealize.ShloMosaic.Pipeline (Dat)

/-- One tile's share of product 0, at an index of the result. -/
def term0 (A : Vec Ideal S4096x1024 .bf16) (B : Vec Ideal S4096x1024 .bf16) (z : S1024x1024.Idx) (i : Fin 4) : EReal :=
  ∑ k : Fin 1024, A (ix2 ⟨i.val * 1024 + k.val, by omega⟩ (z 0)) * B (ix2 ⟨i.val * 1024 + k.val, by omega⟩ (z 1))

/-- Product 0, its sum taken tile by tile. -/
def prod0 (A : Vec Ideal S4096x1024 .bf16) (B : Vec Ideal S4096x1024 .bf16) : Vec Ideal S1024x1024 .bf16 :=
  fun z => ∑ i : Fin 4, term0 A B z i

/-- One tile's share of product 1, at an index of the result. -/
def term1 (A : Vec Ideal S4096x256 .bf16) (B : Vec Ideal S4096x1024 .bf16) (z : S256x1024.Idx) (i : Fin 4) : EReal :=
  ∑ k : Fin 1024, A (ix2 ⟨i.val * 1024 + k.val, by omega⟩ (z 0)) * B (ix2 ⟨i.val * 1024 + k.val, by omega⟩ (z 1))

/-- Product 1, its sum taken tile by tile. -/
def prod1 (A : Vec Ideal S4096x256 .bf16) (B : Vec Ideal S4096x1024 .bf16) : Vec Ideal S256x1024 .bf16 :=
  fun z => ∑ i : Fin 4, term1 A B z i

/-- One tile's share of product 2, at an index of the result. -/
def term2 (A : Vec Ideal S4096x256 .bf16) (B : Vec Ideal S4096x1024 .bf16) (z : S256x1024.Idx) (i : Fin 4) : EReal :=
  ∑ k : Fin 1024, A (ix2 ⟨i.val * 1024 + k.val, by omega⟩ (z 0)) * B (ix2 ⟨i.val * 1024 + k.val, by omega⟩ (z 1))

/-- Product 2, its sum taken tile by tile. -/
def prod2 (A : Vec Ideal S4096x256 .bf16) (B : Vec Ideal S4096x1024 .bf16) : Vec Ideal S256x1024 .bf16 :=
  fun z => ∑ i : Fin 4, term2 A B z i

variable (m : (ℓ : Loc nD τ sig) → Buf (Elt Ideal) ℓ) (ρ : Dev nD → PrngReg)

/-- Operand 0. -/
abbrev a0 (c : Dev nD) : Vec Ideal S4096x1024 .bf16 := m ((c : Thread nD τ).loc main_arg0)

/-- Operand 1. -/
abbrev a1 (c : Dev nD) : Vec Ideal S4096x256 .bf16 := m ((c : Thread nD τ).loc main_arg1)

/-- Operand 2. -/
abbrev a2 (c : Dev nD) : Vec Ideal S4096x256 .bf16 := m ((c : Thread nD τ).loc main_arg2)

/-- Operand 3. -/
abbrev a3 (c : Dev nD) : Vec Ideal S4096x1024 .bf16 := m ((c : Thread nD τ).loc main_arg3)

/-- Where window 0's block lies at a point. -/
theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, in the operand's own indices. -/
theorem blk0 (c : Dev nD) (t : Fin cfg0.N) (i : Fin 4) (hi : t.val = i.val) (k : Fin 1024) (l : Fin 1024) :
    (iblk m c 0 t : Vec Ideal _ .bf16) (ix2 k l) = a0 m c (ix2 ⟨i.val * 1024 + k.val, by omega⟩ l) := by
  unfold iblk
  rw [View.read_apply]
  show V m c main_arg0 _ = a0 m c _
  rw [V_main_arg0]
  refine congrArg _ (funext fun a => Fin.ext ?_)
  match a with
  | ⟨0, _⟩ => show win0_0.index t 0 * 1024 + 1 * k.val = i.val * 1024 + k.val; rw [(index0 t).1]; omega
  | ⟨1, _⟩ => show win0_0.index t 1 * 1024 + 1 * l.val = l.val; rw [(index0 t).2]; omega

/-- Where window 1's block lies at a point. -/
theorem index1 : ∀ t : Fin cfg0.N, win0_1.index t 0 = t.val ∧ win0_1.index t 1 = 0 :=
  (by decide +kernel : ∀ t : Fin grid0.N, win0_1.index t 0 = t.val ∧ win0_1.index t 1 = 0)

/-- Window 1's block at a point, in the operand's own indices. -/
theorem blk1 (c : Dev nD) (t : Fin cfg0.N) (i : Fin 4) (hi : t.val = i.val) (k : Fin 1024) (l : Fin 256) :
    (iblk m c 1 t : Vec Ideal _ .bf16) (ix2 k l) = a1 m c (ix2 ⟨i.val * 1024 + k.val, by omega⟩ l) := by
  unfold iblk
  rw [View.read_apply]
  show V m c main_arg1 _ = a1 m c _
  rw [V_main_arg1]
  refine congrArg _ (funext fun a => Fin.ext ?_)
  match a with
  | ⟨0, _⟩ => show win0_1.index t 0 * 1024 + 1 * k.val = i.val * 1024 + k.val; rw [(index1 t).1]; omega
  | ⟨1, _⟩ => show win0_1.index t 1 * 256 + 1 * l.val = l.val; rw [(index1 t).2]; omega

/-- Where window 2's block lies at a point. -/
theorem index2 : ∀ t : Fin cfg0.N, win0_2.index t 0 = t.val ∧ win0_2.index t 1 = 0 :=
  (by decide +kernel : ∀ t : Fin grid0.N, win0_2.index t 0 = t.val ∧ win0_2.index t 1 = 0)

/-- Window 2's block at a point, in the operand's own indices. -/
theorem blk2 (c : Dev nD) (t : Fin cfg0.N) (i : Fin 4) (hi : t.val = i.val) (k : Fin 1024) (l : Fin 256) :
    (iblk m c 2 t : Vec Ideal _ .bf16) (ix2 k l) = a2 m c (ix2 ⟨i.val * 1024 + k.val, by omega⟩ l) := by
  unfold iblk
  rw [View.read_apply]
  show V m c main_arg2 _ = a2 m c _
  rw [V_main_arg2]
  refine congrArg _ (funext fun a => Fin.ext ?_)
  match a with
  | ⟨0, _⟩ => show win0_2.index t 0 * 1024 + 1 * k.val = i.val * 1024 + k.val; rw [(index2 t).1]; omega
  | ⟨1, _⟩ => show win0_2.index t 1 * 256 + 1 * l.val = l.val; rw [(index2 t).2]; omega

/-- Where window 3's block lies at a point. -/
theorem index3 : ∀ t : Fin cfg0.N, win0_3.index t 0 = t.val ∧ win0_3.index t 1 = 0 :=
  (by decide +kernel : ∀ t : Fin grid0.N, win0_3.index t 0 = t.val ∧ win0_3.index t 1 = 0)

/-- Window 3's block at a point, in the operand's own indices. -/
theorem blk3 (c : Dev nD) (t : Fin cfg0.N) (i : Fin 4) (hi : t.val = i.val) (k : Fin 1024) (l : Fin 1024) :
    (iblk m c 3 t : Vec Ideal _ .bf16) (ix2 k l) = a3 m c (ix2 ⟨i.val * 1024 + k.val, by omega⟩ l) := by
  unfold iblk
  rw [View.read_apply]
  show V m c main_arg3 _ = a3 m c _
  rw [V_main_arg3]
  refine congrArg _ (funext fun a => Fin.ext ?_)
  match a with
  | ⟨0, _⟩ => show win0_3.index t 0 * 1024 + 1 * k.val = i.val * 1024 + k.val; rw [(index3 t).1]; omega
  | ⟨1, _⟩ => show win0_3.index t 1 * 1024 + 1 * l.val = l.val; rw [(index3 t).2]; omega

/-- A point's product 0 of blocks is its tile's share. -/
theorem part_eq0 (c : Dev nD) (t : Fin cfg0.N) (i : Fin 4) (hi : t.val = i.val) (y : S1024x1024.Idx) :
    dot0 (iblk m c 0 t) (iblk m c 3 t) y = term0 (a0 m c) (a3 m c) y i := by
  unfold dot0 term0
  exact Finset.sum_congr rfl fun k _ => congrArg₂ (· * ·) (blk0 m c t i hi k (y 0)) (blk3 m c t i hi k (y 1))

/-- A point's product 0 of blocks, as a function of the point's number. -/
def part0 (c : Dev nD) (y : S1024x1024.Idx) (n : ℕ) : EReal :=
  if h : n < cfg0.N then dot0 (iblk m c 0 ⟨n, h⟩) (iblk m c 3 ⟨n, h⟩) y else 0

/-- Accumulator 0 at the end of the run: the sum of the points' products. -/
theorem acc_last0 (c : Dev nD) (y : S1024x1024.Idx) (n : ℕ) (h : n < cfg0.N) (hl : n % 4 + 1 = 4) :
    (outsAt0 m c n h).2.2.2.1 y = ∑ i : Fin 4, part0 m c y (4 * (n / 4) + i.val) := by
  refine Sums.acc_full (by decide) (fun n h => (outsAt0 m c n h).2.2.2.1 y) (part0 m c y) ?_ ?_ n h hl
  · intro n h hn
    have e := congrArg (fun o => o.2.2.2.1) (outsAt0_A m c ⟨n, h⟩ hn (by show ¬ n % 4 = 3; omega))
    dsimp only at e
    rw [acc0_A] at e
    show (outsAt0 m c n h).2.2.2.1 y = _
    rw [e]
    unfold part0
    rw [dif_pos h]
    exact zero_add _
  · intro n h h' hn
    show (outsAt0 m c (n + 1) h).2.2.2.1 y = (outsAt0 m c n h').2.2.2.1 y + part0 m c y (n + 1)
    unfold part0
    rw [dif_pos h]
    by_cases hl : (n + 1) % 4 = 3
    · have e := congrArg (fun o => o.2.2.2.1) (outsAt0_C m c ⟨n + 1, h⟩ hn hl)
      dsimp only at e
      rw [acc0_C] at e
      exact congrFun e y
    · have e := congrArg (fun o => o.2.2.2.1) (outsAt0_B m c ⟨n + 1, h⟩ hn hl)
      dsimp only at e
      rw [acc0_B] at e
      exact congrFun e y

/-- Output block 0 at the end of the run is the accumulator. -/
theorem out_last0 (c : Dev nD) (t : Fin cfg0.N) (h1 : t.val % 4 = 3) :
    (outsAt0 m c t.val t.isLt).1 = (outsAt0 m c t.val t.isLt).2.2.2.1 := by
  have e := outsAt0_C m c t (by omega) h1
  have e1 := congrArg (fun o => o.1) e
  have e2 := congrArg (fun o => o.2.2.2.1) e
  dsimp only at e1 e2
  rw [out0_C] at e1
  rw [acc0_C] at e2
  rw [e1, e2]

/-- Where window 4's block lies: it is the whole result. -/
theorem index4 : ∀ t : Fin cfg0.N, win0_4.index t 0 = 0 ∧ win0_4.index t 1 = 0 :=
  (by decide +kernel : ∀ t : Fin grid0.N, win0_4.index t 0 = 0 ∧ win0_4.index t 1 = 0)

/-- What the last point writes back is the product. -/
theorem flushed0 (c : Dev nD) (t : Fin cfg0.N) (hf : (cfg0.win 4).flush t = true) :
    (dats m 0 c).flushed 4 t = ((cfg0.win 4).blk t).view.read (Elt Ideal) (prod0 (a0 m c) (a3 m c)) := by
  have h1 : t.val % 4 = 3 := (flush0_4 t).mp hf
  have hN : t.val < 4 := t.isLt
  rw [Cert.DwoutIdeal.Value.flushed4]
  funext x
  rw [View.read_apply]
  rw [out_last0 m c t h1]
  have x0 : (x 0).val < 1024 := (x 0).isLt
  have x1 : (x 1).val < 1024 := (x 1).isLt
  refine Eq.trans (congrArg (outsAt0 m c t.val t.isLt).2.2.2.1 (?_ : _ = (ix2 ⟨(x 0).val, x0⟩ ⟨(x 1).val, x1⟩ : S1024x1024.Idx))) ?_
  · exact eq_ix2 _
  rw [acc_last0 m c _ t.val t.isLt (by omega)]
  refine Eq.trans (b := prod0 (a0 m c) (a3 m c) (ix2 ⟨(x 0).val, x0⟩ ⟨(x 1).val, x1⟩)) ?_ (congrArg (prod0 (a0 m c) (a3 m c)) (funext fun a => Fin.ext ?_))
  · refine Finset.sum_congr rfl fun i _ => ?_
    have hi : i.val < 4 := i.isLt
    have hn : 4 * (t.val / 4) + i.val < cfg0.N := by show _ < 4; omega
    unfold part0
    rw [dif_pos hn]
    exact part_eq0 m c ⟨_, hn⟩ i (by show 4 * (t.val / 4) + i.val = i.val; omega) _
  · match a with
    | ⟨0, _⟩ => show (x 0).val = win0_4.index t 0 * 1024 + 1 * (x 0).val; rw [(index4 t).1]; omega
    | ⟨1, _⟩ => show (x 1).val = win0_4.index t 1 * 1024 + 1 * (x 1).val; rw [(index4 t).2]; omega

/-- Result array 0 after the run. -/
theorem final0 (c : Dev nD) : (dats m 0 c).arrAt 4 cfg0.N = prod0 (a0 m c) (a3 m c) :=
  (dats m 0 c).arrAt_eq_of_cover 4 (prod0 (a0 m c) (a3 m c)) (flushed0 m c) fun i =>
    (Cert.DwoutIdeal.Value.covered_iff4 i).2 ⟨Nat.zero_le _, (i 0).isLt, Nat.zero_le _, (i 1).isLt⟩

/-- A point's product 1 of blocks is its tile's share. -/
theorem part_eq1 (c : Dev nD) (t : Fin cfg0.N) (i : Fin 4) (hi : t.val = i.val) (y : S256x1024.Idx) :
    dot1 (iblk m c 1 t) (iblk m c 3 t) y = term1 (a1 m c) (a3 m c) y i := by
  unfold dot1 term1
  exact Finset.sum_congr rfl fun k _ => congrArg₂ (· * ·) (blk1 m c t i hi k (y 0)) (blk3 m c t i hi k (y 1))

/-- A point's product 1 of blocks, as a function of the point's number. -/
def part1 (c : Dev nD) (y : S256x1024.Idx) (n : ℕ) : EReal :=
  if h : n < cfg0.N then dot1 (iblk m c 1 ⟨n, h⟩) (iblk m c 3 ⟨n, h⟩) y else 0

/-- Accumulator 1 at the end of the run: the sum of the points' products. -/
theorem acc_last1 (c : Dev nD) (y : S256x1024.Idx) (n : ℕ) (h : n < cfg0.N) (hl : n % 4 + 1 = 4) :
    (outsAt0 m c n h).2.2.2.2.1 y = ∑ i : Fin 4, part1 m c y (4 * (n / 4) + i.val) := by
  refine Sums.acc_full (by decide) (fun n h => (outsAt0 m c n h).2.2.2.2.1 y) (part1 m c y) ?_ ?_ n h hl
  · intro n h hn
    have e := congrArg (fun o => o.2.2.2.2.1) (outsAt0_A m c ⟨n, h⟩ hn (by show ¬ n % 4 = 3; omega))
    dsimp only at e
    rw [acc1_A] at e
    show (outsAt0 m c n h).2.2.2.2.1 y = _
    rw [e]
    unfold part1
    rw [dif_pos h]
    exact zero_add _
  · intro n h h' hn
    show (outsAt0 m c (n + 1) h).2.2.2.2.1 y = (outsAt0 m c n h').2.2.2.2.1 y + part1 m c y (n + 1)
    unfold part1
    rw [dif_pos h]
    by_cases hl : (n + 1) % 4 = 3
    · have e := congrArg (fun o => o.2.2.2.2.1) (outsAt0_C m c ⟨n + 1, h⟩ hn hl)
      dsimp only at e
      rw [acc1_C] at e
      exact congrFun e y
    · have e := congrArg (fun o => o.2.2.2.2.1) (outsAt0_B m c ⟨n + 1, h⟩ hn hl)
      dsimp only at e
      rw [acc1_B] at e
      exact congrFun e y

/-- Output block 1 at the end of the run is the accumulator. -/
theorem out_last1 (c : Dev nD) (t : Fin cfg0.N) (h1 : t.val % 4 = 3) :
    (outsAt0 m c t.val t.isLt).2.1 = (outsAt0 m c t.val t.isLt).2.2.2.2.1 := by
  have e := outsAt0_C m c t (by omega) h1
  have e1 := congrArg (fun o => o.2.1) e
  have e2 := congrArg (fun o => o.2.2.2.2.1) e
  dsimp only at e1 e2
  rw [out1_C] at e1
  rw [acc1_C] at e2
  rw [e1, e2]

/-- Where window 5's block lies: it is the whole result. -/
theorem index5 : ∀ t : Fin cfg0.N, win0_5.index t 0 = 0 ∧ win0_5.index t 1 = 0 :=
  (by decide +kernel : ∀ t : Fin grid0.N, win0_5.index t 0 = 0 ∧ win0_5.index t 1 = 0)

/-- What the last point writes back is the product. -/
theorem flushed1 (c : Dev nD) (t : Fin cfg0.N) (hf : (cfg0.win 5).flush t = true) :
    (dats m 0 c).flushed 5 t = ((cfg0.win 5).blk t).view.read (Elt Ideal) (prod1 (a1 m c) (a3 m c)) := by
  have h1 : t.val % 4 = 3 := (flush0_5 t).mp hf
  have hN : t.val < 4 := t.isLt
  rw [Cert.DwoutIdeal.Value.flushed5]
  funext x
  rw [View.read_apply]
  rw [out_last1 m c t h1]
  have x0 : (x 0).val < 256 := (x 0).isLt
  have x1 : (x 1).val < 1024 := (x 1).isLt
  refine Eq.trans (congrArg (outsAt0 m c t.val t.isLt).2.2.2.2.1 (?_ : _ = (ix2 ⟨(x 0).val, x0⟩ ⟨(x 1).val, x1⟩ : S256x1024.Idx))) ?_
  · exact eq_ix2 _
  rw [acc_last1 m c _ t.val t.isLt (by omega)]
  refine Eq.trans (b := prod1 (a1 m c) (a3 m c) (ix2 ⟨(x 0).val, x0⟩ ⟨(x 1).val, x1⟩)) ?_ (congrArg (prod1 (a1 m c) (a3 m c)) (funext fun a => Fin.ext ?_))
  · refine Finset.sum_congr rfl fun i _ => ?_
    have hi : i.val < 4 := i.isLt
    have hn : 4 * (t.val / 4) + i.val < cfg0.N := by show _ < 4; omega
    unfold part1
    rw [dif_pos hn]
    exact part_eq1 m c ⟨_, hn⟩ i (by show 4 * (t.val / 4) + i.val = i.val; omega) _
  · match a with
    | ⟨0, _⟩ => show (x 0).val = win0_5.index t 0 * 256 + 1 * (x 0).val; rw [(index5 t).1]; omega
    | ⟨1, _⟩ => show (x 1).val = win0_5.index t 1 * 1024 + 1 * (x 1).val; rw [(index5 t).2]; omega

/-- Result array 1 after the run. -/
theorem final1 (c : Dev nD) : (dats m 0 c).arrAt 5 cfg0.N = prod1 (a1 m c) (a3 m c) :=
  (dats m 0 c).arrAt_eq_of_cover 5 (prod1 (a1 m c) (a3 m c)) (flushed1 m c) fun i =>
    (Cert.DwoutIdeal.Value.covered_iff5 i).2 ⟨Nat.zero_le _, (i 0).isLt, Nat.zero_le _, (i 1).isLt⟩

/-- A point's product 2 of blocks is its tile's share. -/
theorem part_eq2 (c : Dev nD) (t : Fin cfg0.N) (i : Fin 4) (hi : t.val = i.val) (y : S256x1024.Idx) :
    dot2 (iblk m c 2 t) (iblk m c 3 t) y = term2 (a2 m c) (a3 m c) y i := by
  unfold dot2 term2
  exact Finset.sum_congr rfl fun k _ => congrArg₂ (· * ·) (blk2 m c t i hi k (y 0)) (blk3 m c t i hi k (y 1))

/-- A point's product 2 of blocks, as a function of the point's number. -/
def part2 (c : Dev nD) (y : S256x1024.Idx) (n : ℕ) : EReal :=
  if h : n < cfg0.N then dot2 (iblk m c 2 ⟨n, h⟩) (iblk m c 3 ⟨n, h⟩) y else 0

/-- Accumulator 2 at the end of the run: the sum of the points' products. -/
theorem acc_last2 (c : Dev nD) (y : S256x1024.Idx) (n : ℕ) (h : n < cfg0.N) (hl : n % 4 + 1 = 4) :
    (outsAt0 m c n h).2.2.2.2.2 y = ∑ i : Fin 4, part2 m c y (4 * (n / 4) + i.val) := by
  refine Sums.acc_full (by decide) (fun n h => (outsAt0 m c n h).2.2.2.2.2 y) (part2 m c y) ?_ ?_ n h hl
  · intro n h hn
    have e := congrArg (fun o => o.2.2.2.2.2) (outsAt0_A m c ⟨n, h⟩ hn (by show ¬ n % 4 = 3; omega))
    dsimp only at e
    rw [acc2_A] at e
    show (outsAt0 m c n h).2.2.2.2.2 y = _
    rw [e]
    unfold part2
    rw [dif_pos h]
    exact zero_add _
  · intro n h h' hn
    show (outsAt0 m c (n + 1) h).2.2.2.2.2 y = (outsAt0 m c n h').2.2.2.2.2 y + part2 m c y (n + 1)
    unfold part2
    rw [dif_pos h]
    by_cases hl : (n + 1) % 4 = 3
    · have e := congrArg (fun o => o.2.2.2.2.2) (outsAt0_C m c ⟨n + 1, h⟩ hn hl)
      dsimp only at e
      rw [acc2_C] at e
      exact congrFun e y
    · have e := congrArg (fun o => o.2.2.2.2.2) (outsAt0_B m c ⟨n + 1, h⟩ hn hl)
      dsimp only at e
      rw [acc2_B] at e
      exact congrFun e y

/-- Output block 2 at the end of the run is the accumulator. -/
theorem out_last2 (c : Dev nD) (t : Fin cfg0.N) (h1 : t.val % 4 = 3) :
    (outsAt0 m c t.val t.isLt).2.2.1 = (outsAt0 m c t.val t.isLt).2.2.2.2.2 := by
  have e := outsAt0_C m c t (by omega) h1
  have e1 := congrArg (fun o => o.2.2.1) e
  have e2 := congrArg (fun o => o.2.2.2.2.2) e
  dsimp only at e1 e2
  rw [out2_C] at e1
  rw [acc2_C] at e2
  rw [e1, e2]

/-- Where window 6's block lies: it is the whole result. -/
theorem index6 : ∀ t : Fin cfg0.N, win0_6.index t 0 = 0 ∧ win0_6.index t 1 = 0 :=
  (by decide +kernel : ∀ t : Fin grid0.N, win0_6.index t 0 = 0 ∧ win0_6.index t 1 = 0)

/-- What the last point writes back is the product. -/
theorem flushed2 (c : Dev nD) (t : Fin cfg0.N) (hf : (cfg0.win 6).flush t = true) :
    (dats m 0 c).flushed 6 t = ((cfg0.win 6).blk t).view.read (Elt Ideal) (prod2 (a2 m c) (a3 m c)) := by
  have h1 : t.val % 4 = 3 := (flush0_6 t).mp hf
  have hN : t.val < 4 := t.isLt
  rw [Cert.DwoutIdeal.Value.flushed6]
  funext x
  rw [View.read_apply]
  rw [out_last2 m c t h1]
  have x0 : (x 0).val < 256 := (x 0).isLt
  have x1 : (x 1).val < 1024 := (x 1).isLt
  refine Eq.trans (congrArg (outsAt0 m c t.val t.isLt).2.2.2.2.2 (?_ : _ = (ix2 ⟨(x 0).val, x0⟩ ⟨(x 1).val, x1⟩ : S256x1024.Idx))) ?_
  · exact eq_ix2 _
  rw [acc_last2 m c _ t.val t.isLt (by omega)]
  refine Eq.trans (b := prod2 (a2 m c) (a3 m c) (ix2 ⟨(x 0).val, x0⟩ ⟨(x 1).val, x1⟩)) ?_ (congrArg (prod2 (a2 m c) (a3 m c)) (funext fun a => Fin.ext ?_))
  · refine Finset.sum_congr rfl fun i _ => ?_
    have hi : i.val < 4 := i.isLt
    have hn : 4 * (t.val / 4) + i.val < cfg0.N := by show _ < 4; omega
    unfold part2
    rw [dif_pos hn]
    exact part_eq2 m c ⟨_, hn⟩ i (by show 4 * (t.val / 4) + i.val = i.val; omega) _
  · match a with
    | ⟨0, _⟩ => show (x 0).val = win0_6.index t 0 * 256 + 1 * (x 0).val; rw [(index6 t).1]; omega
    | ⟨1, _⟩ => show (x 1).val = win0_6.index t 1 * 1024 + 1 * (x 1).val; rw [(index6 t).2]; omega

/-- Result array 2 after the run. -/
theorem final2 (c : Dev nD) : (dats m 0 c).arrAt 6 cfg0.N = prod2 (a2 m c) (a3 m c) :=
  (dats m 0 c).arrAt_eq_of_cover 6 (prod2 (a2 m c) (a3 m c)) (flushed2 m c) fun i =>
    (Cert.DwoutIdeal.Value.covered_iff6 i).2 ⟨Nat.zero_le _, (i 0).isLt, Nat.zero_le _, (i 1).isLt⟩

/-- The run, read: the results at the products, the arguments unchanged. -/
theorem run : θ_run defs (onTc (τ := τ) (main (F := Ideal))) ⟨m, fun _ => 0, ρ⟩ fun r => ∀ c : Dev nD,
      r.2.mem ((c : Thread nD τ).loc main_v0_0) = prod0 (a0 m c) (a3 m c)
      ∧ r.2.mem ((c : Thread nD τ).loc main_v0_1) = prod1 (a1 m c) (a3 m c)
      ∧ r.2.mem ((c : Thread nD τ).loc main_v0_2) = prod2 (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final0 m c), (h c).2.1.trans (final1 m c), (h c).2.2.1.trans (final2 m c), (h c).2.2.2⟩) (Cert.DwoutIdeal.Value.run_blocks m ρ)

end Cert.DwoutIdeal.Arr

end
-- ==== Proof.DwoutRef.lean ====
/-
  The reference's three results are the same products, each sum in one piece.
-/
module

public import proofs.«01_k».proof.Proof.Sums
public import proofs.«01_k».proof.Proof.DwoutArray
public import proofs.«01_k».proof.Proof.Gen.DwoutRefIdeal.Run
public import proofs.«01_k».proof.Proof.Gen.DwoutRefIdeal.Read

@[expose] public section

set_option maxRecDepth 16384

noncomputable section

namespace Cert.DwoutRefIdeal.Eq

open Cert.DwoutRefIdeal Cert.DwoutRefIdeal.Gen Cert.DwoutRefIdeal.Read Idealize.ShloMosaic Idealize.ShloMosaic.TcCoe Idealize.SL.Sem
open Idealize.ShloMosaic.Pipeline (Dat)

/-- The reference's result 0 is the kernel's product 0. -/
theorem result0 (A : Vec Ideal S4096x1024 .bf16) (B : Vec Ideal S4096x256 .bf16) (C : Vec Ideal S4096x256 .bf16) (D : Vec Ideal S4096x1024 .bf16) : val_main_v10 (F := Ideal) A B C D = Cert.DwoutIdeal.Arr.prod0 A D := by
  funext z
  idx_vars z
  pointwise [val_main_v0, val_main_v1, val_main_v2, val_main_v3, val_main_v4, val_main_cst, val_main_v5, val_main_v6, val_main_v7, val_main_v8, val_main_v9, val_main_v10, val_main_v11, val_main_v12]
  unfold Cert.DwoutIdeal.Arr.prod0 Cert.DwoutIdeal.Arr.term0
  rw [Fin.sum_univ_tiles 4 1024 (by norm_num)]
  exact Finset.sum_congr rfl fun i _ => Finset.sum_congr rfl fun k _ => mul_comm _ _

/-- The reference's result 1 is the kernel's product 1. -/
theorem result1 (A : Vec Ideal S4096x1024 .bf16) (B : Vec Ideal S4096x256 .bf16) (C : Vec Ideal S4096x256 .bf16) (D : Vec Ideal S4096x1024 .bf16) : val_main_v11 (F := Ideal) A B C D = Cert.DwoutIdeal.Arr.prod1 B D := by
  funext z
  idx_vars z
  pointwise [val_main_v0, val_main_v1, val_main_v2, val_main_v3, val_main_v4, val_main_cst, val_main_v5, val_main_v6, val_main_v7, val_main_v8, val_main_v9, val_main_v10, val_main_v11, val_main_v12]
  unfold Cert.DwoutIdeal.Arr.prod1 Cert.DwoutIdeal.Arr.term1
  rw [Fin.sum_univ_tiles 4 1024 (by norm_num)]
  exact Finset.sum_congr rfl fun i _ => Finset.sum_congr rfl fun k _ => mul_comm _ _

/-- The reference's result 2 is the kernel's product 2. -/
theorem result2 (A : Vec Ideal S4096x1024 .bf16) (B : Vec Ideal S4096x256 .bf16) (C : Vec Ideal S4096x256 .bf16) (D : Vec Ideal S4096x1024 .bf16) : val_main_v12 (F := Ideal) A B C D = Cert.DwoutIdeal.Arr.prod2 C D := by
  funext z
  idx_vars z
  pointwise [val_main_v0, val_main_v1, val_main_v2, val_main_v3, val_main_v4, val_main_cst, val_main_v5, val_main_v6, val_main_v7, val_main_v8, val_main_v9, val_main_v10, val_main_v11, val_main_v12]
  unfold Cert.DwoutIdeal.Arr.prod2 Cert.DwoutIdeal.Arr.term2
  rw [Fin.sum_univ_tiles 4 1024 (by norm_num)]
  refine Finset.sum_congr rfl fun i _ => Finset.sum_congr rfl fun k _ => ?_
  rw [dif_neg (by omega), dif_neg (by omega), mul_comm]
  refine congrArg₂ (· * ·) (congrArg C (funext fun a => Fin.ext ?_)) rfl
  match a with
  | ⟨0, _⟩ => rfl
  | ⟨1, _⟩ => show 1280 + z0.val - 1024 - 256 = z0.val; omega

end Cert.DwoutRefIdeal.Eq

end
-- ==== Proof.DwoutClaims.lean ====
/-
  The claims about the gradient of the out-projection's weights, assembled.
-/
module

public import proofs.«01_k».proof.Defs
public import proofs.«01_k».proof.Proof.DwoutArray
public import proofs.«01_k».proof.Proof.DwoutRef
public import proofs.«01_k».proof.Proof.Gen.Dwout.Frame

@[expose] public section

noncomputable section

namespace Cert.DwoutClaims

open Idealize.ShloMosaic Idealize.SL.Sem

instance : Cert.Dwout.Facts := Cert.Dwout.Gen.facts
instance : Cert.DwoutIdeal.Facts := Cert.DwoutIdeal.Gen.facts
instance : Cert.DwoutRefIdeal.Facts := Cert.DwoutRefIdeal.Gen.facts

/-- The kernel's program ends, faultless, its arguments unchanged, every semaphore at zero. -/
theorem frame_kernel : Cert.quiescent_Dwout := fun m ρ _ => Cert.Dwout.Gen.frame m ρ

/-- The same of the kernel over the extended reals. -/
theorem frame_ideal : Cert.quiescent_DwoutIdeal := fun m ρ _ => Cert.DwoutIdeal.Gen.frame m ρ

/-- The reference ends, faultless, its arguments unchanged, every semaphore at zero. -/
theorem frame_ref : Cert.quiescent_DwoutRefIdeal := fun m ρ _ =>
  (θ_run Cert.DwoutRefIdeal.defs _ _).mono (fun r h => ⟨fun c => (h c).2.2.2, sem_eq_zero_of_no_sems (by decide) r.2⟩)
    (Cert.DwoutRefIdeal.Value.run m ρ)

/-- Kernel and reference end with the same three results. -/
theorem algebraic : Cert.algebraic_DwoutIdeal_DwoutRefIdeal := fun m ρ m' ρ' _ hag =>
  ⟨fun c => Cert.DwoutIdeal.Arr.prod0 (Cert.DwoutIdeal.Arr.a0 m c) (Cert.DwoutIdeal.Arr.a3 m c), fun c => Cert.DwoutIdeal.Arr.prod1 (Cert.DwoutIdeal.Arr.a1 m c) (Cert.DwoutIdeal.Arr.a3 m c), fun c => Cert.DwoutIdeal.Arr.prod2 (Cert.DwoutIdeal.Arr.a2 m c) (Cert.DwoutIdeal.Arr.a3 m c),
    Cert.DwoutIdeal.Arr.run m ρ,
    (θ_run _ _ _).mono (fun r h c => by
      obtain ⟨h0, h1, h2, hk⟩ := h c
      obtain ⟨e0, e1, e2, e3⟩ := hag c
      refine ⟨h0.trans ((Cert.DwoutRefIdeal.Read.val_main_v10_eq _ _ _ _).trans ?_), h1.trans ((Cert.DwoutRefIdeal.Read.val_main_v11_eq _ _ _ _).trans ?_), h2.trans ((Cert.DwoutRefIdeal.Read.val_main_v12_eq _ _ _ _).trans ?_), hk⟩
      · try rw [e0, e1, e2, e3]
        exact Cert.DwoutRefIdeal.Eq.result0 _ _ _ _
      · try rw [e0, e1, e2, e3]
        exact Cert.DwoutRefIdeal.Eq.result1 _ _ _ _
      · try rw [e0, e1, e2, e3]
        exact Cert.DwoutRefIdeal.Eq.result2 _ _ _ _) (Cert.DwoutRefIdeal.Value.run m' ρ')⟩

end Cert.DwoutClaims

end
-- ==== Proof.DhArray.lean ====
/-
  The gradient of the in-projection's input:
  what one grid point computes, and what the result array holds after the run.
-/
module

public import proofs.«01_k».proof.Proof.Gen.DhIdeal.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.DhIdeal.Arr

open Cert.DhIdeal Cert.DhIdeal.Gen Idealize.ShloMosaic Idealize.ShloMosaic.TcCoe Idealize.SL.Sem
open Idealize.ShloMosaic.Pipeline (Dat)

/-- The product of a point's blocks. -/
def dot (x0 : Vec Ideal S1024x512 .bf16) (x1 : Vec Ideal S1024x768 .bf16) (x2 : Vec Ideal S1024x1152 .bf16) (x3 : Vec Ideal S1024x512 .bf16) (x4 : Vec Ideal S1024x768 .bf16) (x5 : Vec Ideal S1024x1152 .bf16) (y : S1024x1024.Idx) : EReal :=
  (∑ k : Fin 512, x0 (ix2 (y 0) k) * x3 (ix2 (y 1) k)) + (∑ k : Fin 768, x1 (ix2 (y 0) k) * x4 (ix2 (y 1) k)) + (∑ k : Fin 1152, x2 (ix2 (y 0) k) * x5 (ix2 (y 1) k))

/-- The whole product. -/
def prod (A : Vec Ideal S4096x512 .bf16) (B : Vec Ideal S4096x768 .bf16) (C : Vec Ideal S4096x1152 .bf16) (W : Vec Ideal S1024x2432 .bf16) : Vec Ideal S4096x1024 .bf16 := fun z =>
  (∑ k : Fin 512, A (ix2 (z 0) k) * W (ix2 (z 1) ⟨k.val, by omega⟩)) + (∑ k : Fin 768, B (ix2 (z 0) k) * W (ix2 (z 1) ⟨512 + k.val, by omega⟩)) + (∑ k : Fin 1152, C (ix2 (z 0) k) * W (ix2 (z 1) ⟨1280 + k.val, by omega⟩))

/-- The zero offsets of a load or store through a whole block. -/
theorem hz2 : (![0, 0] : Fin 2 → ℕ) = fun _ => 0 := by
  funext a; match a with | ⟨0, _⟩ => rfl | ⟨1, _⟩ => rfl

/-- The same with three axes. -/
theorem hz3 : (![0, 0, 0] : Fin 3 → ℕ) = fun _ => 0 := by
  funext a; match a with | ⟨0, _⟩ => rfl | ⟨1, _⟩ => rfl | ⟨2, _⟩ => rfl

/-- The body's arithmetic is the product of the blocks. -/
theorem computed (x0 : Vec Ideal S1024x512 .bf16) (x1 : Vec Ideal S1024x768 .bf16) (x2 : Vec Ideal S1024x1152 .bf16) (x3 : Vec Ideal S1024x512 .bf16) (x4 : Vec Ideal S1024x768 .bf16) (x5 : Vec Ideal S1024x1152 .bf16) : k0_pay1 (F := Ideal) x0 x3 x1 x4 x2 x5 = dot x0 x1 x2 x3 x4 x5 := by
  funext y
  idx_vars y
  pointwise [k0_pay1, dot]

/-- What a point leaves in the output block. -/
theorem out_eq (x0 : Vec Ideal S1024x512 .bf16) (x1 : Vec Ideal S1024x768 .bf16) (x2 : Vec Ideal S1024x1152 .bf16) (x3 : Vec Ideal S1024x512 .bf16) (x4 : Vec Ideal S1024x768 .bf16) (x5 : Vec Ideal S1024x1152 .bf16) : out0_6 (F := Ideal) x0 x1 x2 x3 x4 x5 = dot x0 x1 x2 x3 x4 x5 := by
  unfold out0_6
  simp only [View.ld_unit_zero (S := S1024x512) hz2, View.ld_unit_zero (S := S1024x768) hz2, View.ld_unit_zero (S := S1024x1152) hz2]
  rw [View.canon_cons_unit_zero hz2]
  exact computed x0 x1 x2 x3 x4 x5

variable (m : (ℓ : Loc nD τ sig) → Buf (Elt Ideal) ℓ) (ρ : Dev nD → PrngReg)

/-- Operand 0. -/
abbrev aA (c : Dev nD) : Vec Ideal S4096x512 .bf16 := m ((c : Thread nD τ).loc main_arg0)

/-- Operand 1. -/
abbrev aB (c : Dev nD) : Vec Ideal S4096x768 .bf16 := m ((c : Thread nD τ).loc main_arg1)

/-- Operand 2. -/
abbrev aC (c : Dev nD) : Vec Ideal S4096x1152 .bf16 := m ((c : Thread nD τ).loc main_arg2)

/-- Operand 3. -/
abbrev aW (c : Dev nD) : Vec Ideal S1024x2432 .bf16 := m ((c : Thread nD τ).loc main_arg3)

/-- Where window 0's block lies at a point. -/
theorem index0 : ∀ t : Fin cfg0.N, win0_0.index t 0 = t.val ∧ win0_0.index t 1 = 0 :=
  (by decide +kernel : ∀ t : Fin grid0.N, win0_0.index t 0 = t.val ∧ win0_0.index t 1 = 0)

/-- Where window 1's block lies at a point. -/
theorem index1 : ∀ t : Fin cfg0.N, win0_1.index t 0 = t.val ∧ win0_1.index t 1 = 0 :=
  (by decide +kernel : ∀ t : Fin grid0.N, win0_1.index t 0 = t.val ∧ win0_1.index t 1 = 0)

/-- Where window 2's block lies at a point. -/
theorem index2 : ∀ t : Fin cfg0.N, win0_2.index t 0 = t.val ∧ win0_2.index t 1 = 0 :=
  (by decide +kernel : ∀ t : Fin grid0.N, win0_2.index t 0 = t.val ∧ win0_2.index t 1 = 0)

/-- Where window 3's block lies at a point. -/
theorem index3 : ∀ t : Fin cfg0.N, win0_3.index t 0 = 0 ∧ win0_3.index t 1 = 0 :=
  (by decide +kernel : ∀ t : Fin grid0.N, win0_3.index t 0 = 0 ∧ win0_3.index t 1 = 0)

/-- Where window 4's block lies at a point. -/
theorem index4 : ∀ t : Fin cfg0.N, win0_4.index t 0 = 0 ∧ win0_4.index t 1 = 0 :=
  (by decide +kernel : ∀ t : Fin grid0.N, win0_4.index t 0 = 0 ∧ win0_4.index t 1 = 0)

/-- Where window 5's block lies at a point. -/
theorem index5 : ∀ t : Fin cfg0.N, win0_5.index t 0 = 0 ∧ win0_5.index t 1 = 0 :=
  (by decide +kernel : ∀ t : Fin grid0.N, win0_5.index t 0 = 0 ∧ win0_5.index t 1 = 0)

/-- Where window 6's block lies at a point. -/
theorem index6 : ∀ t : Fin cfg0.N, win0_6.index t 0 = t.val ∧ win0_6.index t 1 = 0 :=
  (by decide +kernel : ∀ t : Fin grid0.N, win0_6.index t 0 = t.val ∧ win0_6.index t 1 = 0)

/-- The slice of the weights that window 3 reads. -/
theorem slice0 (c : Dev nD) (i : Fin 1024) (j : Fin 512) : (V m c main_v0 : Vec Ideal S1024x512 .bf16) (ix2 i j) = aW m c (ix2 ⟨0 + i.val, by omega⟩ ⟨0 + j.val, by omega⟩) := by
  have e : V m c main_v0 = extractStridedSlice S1024x512 ![0, 0] (aW m c) slices_S1024x2432_S1024x512_0_0 := by
    show StableHlo.after hostOps0 _ (Proc.devRef .tc main_v0) = _
    after_results
  rw [e]
  refine congrArg (aW m c) (funext fun a => Fin.ext ?_)
  match a with
  | ⟨0, _⟩ => rfl
  | ⟨1, _⟩ => rfl

/-- The slice of the weights that window 4 reads. -/
theorem slice1 (c : Dev nD) (i : Fin 1024) (j : Fin 768) : (V m c main_v1 : Vec Ideal S1024x768 .bf16) (ix2 i j) = aW m c (ix2 ⟨0 + i.val, by omega⟩ ⟨512 + j.val, by omega⟩) := by
  have e : V m c main_v1 = extractStridedSlice S1024x768 ![0, 512] (aW m c) slices_S1024x2432_S1024x768_0_512 := by
    show StableHlo.after hostOps0 _ (Proc.devRef .tc main_v1) = _
    after_results
  rw [e]
  refine congrArg (aW m c) (funext fun a => Fin.ext ?_)
  match a with
  | ⟨0, _⟩ => rfl
  | ⟨1, _⟩ => rfl

/-- The slice of the weights that window 5 reads. -/
theorem slice2 (c : Dev nD) (i : Fin 1024) (j : Fin 1152) : (V m c main_v2 : Vec Ideal S1024x1152 .bf16) (ix2 i j) = aW m c (ix2 ⟨0 + i.val, by omega⟩ ⟨1280 + j.val, by omega⟩) := by
  have e : V m c main_v2 = extractStridedSlice S1024x1152 ![0, 1280] (aW m c) slices_S1024x2432_S1024x1152_0_1280 := by
    show StableHlo.after hostOps0 _ (Proc.devRef .tc main_v2) = _
    after_results
  rw [e]
  refine congrArg (aW m c) (funext fun a => Fin.ext ?_)
  match a with
  | ⟨0, _⟩ => rfl
  | ⟨1, _⟩ => rfl

/-- Window 0's block at a point, in the operand's own indices. -/
theorem blk0 (c : Dev nD) (t : Fin cfg0.N) (y : S1024x1024.Idx) (z : S4096x1024.Idx) (h0 : (z 0).val = 1024 * t.val + (y 0).val) (h1 : (z 1).val = (y 1).val) (k : Fin 512) :
    (iblk m c 0 t : Vec Ideal _ .bf16) (ix2 (y 0) k) = aA m c (ix2 (z 0) k) := by
  unfold iblk
  rw [View.read_apply]
  show V m c main_arg0 _ = aA m c _
  rw [V_main_arg0]
  refine congrArg _ (funext fun a => Fin.ext ?_)
  · match a with
    | ⟨0, _⟩ => show win0_0.index t 0 * 1024 + 1 * (y 0).val = (z 0).val; rw [(index0 t).1]; omega
    | ⟨1, _⟩ => show win0_0.index t 1 * 512 + 1 * k.val = k.val; rw [(index0 t).2]; omega

/-- Window 1's block at a point, in the operand's own indices. -/
theorem blk1 (c : Dev nD) (t : Fin cfg0.N) (y : S1024x1024.Idx) (z : S4096x1024.Idx) (h0 : (z 0).val = 1024 * t.val + (y 0).val) (h1 : (z 1).val = (y 1).val) (k : Fin 768) :
    (iblk m c 1 t : Vec Ideal _ .bf16) (ix2 (y 0) k) = aB m c (ix2 (z 0) k) := by
  unfold iblk
  rw [View.read_apply]
  show V m c main_arg1 _ = aB m c _
  rw [V_main_arg1]
  refine congrArg _ (funext fun a => Fin.ext ?_)
  · match a with
    | ⟨0, _⟩ => show win0_1.index t 0 * 1024 + 1 * (y 0).val = (z 0).val; rw [(index1 t).1]; omega
    | ⟨1, _⟩ => show win0_1.index t 1 * 768 + 1 * k.val = k.val; rw [(index1 t).2]; omega

/-- Window 2's block at a point, in the operand's own indices. -/
theorem blk2 (c : Dev nD) (t : Fin cfg0.N) (y : S1024x1024.Idx) (z : S4096x1024.Idx) (h0 : (z 0).val = 1024 * t.val + (y 0).val) (h1 : (z 1).val = (y 1).val) (k : Fin 1152) :
    (iblk m c 2 t : Vec Ideal _ .bf16) (ix2 (y 0) k) = aC m c (ix2 (z 0) k) := by
  unfold iblk
  rw [View.read_apply]
  show V m c main_arg2 _ = aC m c _
  rw [V_main_arg2]
  refine congrArg _ (funext fun a => Fin.ext ?_)
  · match a with
    | ⟨0, _⟩ => show win0_2.index t 0 * 1024 + 1 * (y 0).val = (z 0).val; rw [(index2 t).1]; omega
    | ⟨1, _⟩ => show win0_2.index t 1 * 1152 + 1 * k.val = k.val; rw [(index2 t).2]; omega

/-- Window 3's block at a point, in the operand's own indices. -/
theorem blk3 (c : Dev nD) (t : Fin cfg0.N) (y : S1024x1024.Idx) (z : S4096x1024.Idx) (h0 : (z 0).val = 1024 * t.val + (y 0).val) (h1 : (z 1).val = (y 1).val) (k : Fin 512) :
    (iblk m c 3 t : Vec Ideal _ .bf16) (ix2 (y 1) k) = aW m c (ix2 (z 1) ⟨k.val, by omega⟩) := by
  unfold iblk
  rw [View.read_apply]
  show (V m c main_v0 : Vec Ideal S1024x512 .bf16) _ = _
  refine (congrArg _ (?_ : _ = ix2 (z 1) k)).trans ((slice0 m c (z 1) k).trans ?_)
  · refine funext fun a => Fin.ext ?_
    match a with
    | ⟨0, _⟩ => show win0_3.index t 0 * 1024 + 1 * (y 1).val = (z 1).val; rw [(index3 t).1]; omega
    | ⟨1, _⟩ => show win0_3.index t 1 * 512 + 1 * k.val = k.val; rw [(index3 t).2]; omega
  · refine congrArg (aW m c) (funext fun a => Fin.ext ?_)
    match a with
    | ⟨0, _⟩ => exact Nat.zero_add _
    | ⟨1, _⟩ => exact Nat.zero_add _

/-- Window 4's block at a point, in the operand's own indices. -/
theorem blk4 (c : Dev nD) (t : Fin cfg0.N) (y : S1024x1024.Idx) (z : S4096x1024.Idx) (h0 : (z 0).val = 1024 * t.val + (y 0).val) (h1 : (z 1).val = (y 1).val) (k : Fin 768) :
    (iblk m c 4 t : Vec Ideal _ .bf16) (ix2 (y 1) k) = aW m c (ix2 (z 1) ⟨512 + k.val, by omega⟩) := by
  unfold iblk
  rw [View.read_apply]
  show (V m c main_v1 : Vec Ideal S1024x768 .bf16) _ = _
  refine (congrArg _ (?_ : _ = ix2 (z 1) k)).trans ((slice1 m c (z 1) k).trans ?_)
  · refine funext fun a => Fin.ext ?_
    match a with
    | ⟨0, _⟩ => show win0_4.index t 0 * 1024 + 1 * (y 1).val = (z 1).val; rw [(index4 t).1]; omega
    | ⟨1, _⟩ => show win0_4.index t 1 * 768 + 1 * k.val = k.val; rw [(index4 t).2]; omega
  · refine congrArg (aW m c) (funext fun a => Fin.ext ?_)
    match a with
    | ⟨0, _⟩ => exact Nat.zero_add _
    | ⟨1, _⟩ => rfl

/-- Window 5's block at a point, in the operand's own indices. -/
theorem blk5 (c : Dev nD) (t : Fin cfg0.N) (y : S1024x1024.Idx) (z : S4096x1024.Idx) (h0 : (z 0).val = 1024 * t.val + (y 0).val) (h1 : (z 1).val = (y 1).val) (k : Fin 1152) :
    (iblk m c 5 t : Vec Ideal _ .bf16) (ix2 (y 1) k) = aW m c (ix2 (z 1) ⟨1280 + k.val, by omega⟩) := by
  unfold iblk
  rw [View.read_apply]
  show (V m c main_v2 : Vec Ideal S1024x1152 .bf16) _ = _
  refine (congrArg _ (?_ : _ = ix2 (z 1) k)).trans ((slice2 m c (z 1) k).trans ?_)
  · refine funext fun a => Fin.ext ?_
    match a with
    | ⟨0, _⟩ => show win0_5.index t 0 * 1024 + 1 * (y 1).val = (z 1).val; rw [(index5 t).1]; omega
    | ⟨1, _⟩ => show win0_5.index t 1 * 1152 + 1 * k.val = k.val; rw [(index5 t).2]; omega
  · refine congrArg (aW m c) (funext fun a => Fin.ext ?_)
    match a with
    | ⟨0, _⟩ => exact Nat.zero_add _
    | ⟨1, _⟩ => rfl

/-- A point's product of blocks is the whole product there. -/
theorem part_eq (c : Dev nD) (t : Fin cfg0.N) (y : S1024x1024.Idx) (z : S4096x1024.Idx) (h0 : (z 0).val = 1024 * t.val + (y 0).val) (h1 : (z 1).val = (y 1).val) :
    dot (iblk m c 0 t) (iblk m c 1 t) (iblk m c 2 t) (iblk m c 3 t) (iblk m c 4 t) (iblk m c 5 t) y = prod (aA m c) (aB m c) (aC m c) (aW m c) z := by
  unfold dot prod
  exact (congrArg₂ (· + ·) (congrArg₂ (· + ·) (Finset.sum_congr rfl fun k _ => congrArg₂ (· * ·) (blk0 m c t y z h0 h1 k) (blk3 m c t y z h0 h1 k)) (Finset.sum_congr rfl fun k _ => congrArg₂ (· * ·) (blk1 m c t y z h0 h1 k) (blk4 m c t y z h0 h1 k))) (Finset.sum_congr rfl fun k _ => congrArg₂ (· * ·) (blk2 m c t y z h0 h1 k) (blk5 m c t y z h0 h1 k)))

/-- What a point writes back is its block of the product. -/
theorem flushed (c : Dev nD) (t : Fin cfg0.N) (hf : (cfg0.win 6).flush t = true) :
    (dats m 0 c).flushed 6 t = ((cfg0.win 6).blk t).view.read (Elt Ideal) (prod (aA m c) (aB m c) (aC m c) (aW m c)) := by
  have hN : t.val < 4 := t.isLt
  rw [Cert.DhIdeal.Value.flushed6, out_eq]
  funext x
  rw [View.read_apply]
  have x0 : (x 0).val < 1024 := (x 0).isLt
  have x1 : (x 1).val < 1024 := (x 1).isLt
  refine Eq.trans (congrArg (dot (iblk m c 0 t) (iblk m c 1 t) (iblk m c 2 t) (iblk m c 3 t) (iblk m c 4 t) (iblk m c 5 t)) (?_ : _ = (ix2 ⟨(x 0).val, x0⟩ ⟨(x 1).val, x1⟩ : S1024x1024.Idx))) ?_
  · exact eq_ix2 _
  refine (part_eq m c t _ (ix2 ⟨1024 * t.val + (x 0).val, by omega⟩ ⟨(x 1).val, by omega⟩) rfl rfl).trans (congrArg (prod (aA m c) (aB m c) (aC m c) (aW m c)) (funext fun a => Fin.ext ?_))
  match a with
  | ⟨0, _⟩ => show 1024 * t.val + (x 0).val = win0_6.index t 0 * 1024 + 1 * (x 0).val; rw [(index6 t).1]; omega
  | ⟨1, _⟩ => show (x 1).val = win0_6.index t 1 * 1024 + 1 * (x 1).val; rw [(index6 t).2]; omega

/-- The result array after the run: every index lies in the block of one point. -/
theorem final (c : Dev nD) : (dats m 0 c).arrAt 6 cfg0.N = prod (aA m c) (aB m c) (aC m c) (aW m c) :=
  (dats m 0 c).arrAt_eq_of_cover 6 (prod (aA m c) (aB m c) (aC m c) (aW m c)) (flushed m c) fun i => by
    have h0 : (i 0 : Nat) < 4096 := (i 0).isLt
    have h1 : (i 1 : Nat) < 1024 := (i 1).isLt
    have hN : cfg0.N = 4 := N_0
    let t : Fin cfg0.N := ⟨(i 0).val / 1024, by omega⟩
    have ht : t.val = (i 0).val / 1024 := rfl
    have hi : ∀ t : Fin cfg0.N, win0_6.index t 0 * win0_6.size 0 = 1024 * (t.val) ∧ win0_6.index t 1 * win0_6.size 1 = 0 ∧ win0_6.xsize (grid0.coords t) 0 = 1024 ∧ win0_6.xsize (grid0.coords t) 1 = 1024 :=
      (by decide +kernel : ∀ t : Fin grid0.N, win0_6.index t 0 * win0_6.size 0 = 1024 * (t.val) ∧ win0_6.index t 1 * win0_6.size 1 = 0 ∧ win0_6.xsize (grid0.coords t) 0 = 1024 ∧ win0_6.xsize (grid0.coords t) 1 = 1024)
    refine ⟨t, flush0_6 t, ?_⟩
    show i ∈ ((View.whole main_v3).slice (win0_6.rect t)).set
    rw [View.set_slice_whole, Rect.mem_set_unit]
    intro a
    match a with
    | ⟨0, _⟩ => show win0_6.index t 0 * win0_6.size 0 ≤ (i 0 : Nat) ∧ (i 0 : Nat) < win0_6.index t 0 * win0_6.size 0 + win0_6.xsize (grid0.coords t) 0
                rw [(hi t).1, (hi t).2.2.1]; omega
    | ⟨1, _⟩ => show win0_6.index t 1 * win0_6.size 1 ≤ (i 1 : Nat) ∧ (i 1 : Nat) < win0_6.index t 1 * win0_6.size 1 + win0_6.xsize (grid0.coords t) 1
                rw [(hi t).2.1, (hi t).2.2.2]; omega

/-- The run, read: the result at the product, the arguments unchanged. -/
theorem run : θ_run defs (onTc (τ := τ) (main (F := Ideal))) ⟨m, fun _ => 0, ρ⟩ fun r => ∀ c : Dev nD,
      r.2.mem ((c : Thread nD τ).loc main_v3) = prod (aA m c) (aB m c) (aC m c) (aW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.DhIdeal.Value.run_blocks m ρ)

end Cert.DhIdeal.Arr

end
-- ==== Proof.DhRef.lean ====
/-
  The reference's result is the same product.
-/
module

public import proofs.«01_k».proof.Proof.Sums
public import proofs.«01_k».proof.Proof.DhArray
public import proofs.«01_k».proof.Proof.Gen.DhRefIdeal.Run
public import proofs.«01_k».proof.Proof.Gen.DhRefIdeal.Read

@[expose] public section

set_option maxRecDepth 16384

noncomputable section

namespace Cert.DhRefIdeal.Eq

open Cert.DhRefIdeal Cert.DhRefIdeal.Gen Cert.DhRefIdeal.Read Idealize.ShloMosaic Idealize.ShloMosaic.TcCoe Idealize.SL.Sem
open Idealize.ShloMosaic.Pipeline (Dat)

/-- The reference's product is the kernel's. -/
theorem result (A : Vec Ideal S4096x512 .bf16) (B : Vec Ideal S4096x768 .bf16) (C : Vec Ideal S4096x1152 .bf16) (W : Vec Ideal S1024x2432 .bf16) : val_main_v8 (F := Ideal) A B C W = Cert.DhIdeal.Arr.prod A B C W := by
  funext z
  idx_vars z
  pointwise [val_main_v0, val_main_v1, val_main_v2, val_main_v3, val_main_v4, val_main_cst, val_main_v5, val_main_v6, val_main_v7, val_main_v8]
  unfold Cert.DhIdeal.Arr.prod
  rw [Sums.three 512 768 1152 (by norm_num)]
  refine congrArg₂ (· + ·) (congrArg₂ (· + ·) ?_ ?_) ?_
  · refine Finset.sum_congr rfl fun k _ => ?_
    have hk : k.val < 512 := k.isLt
    dsimp only
    rw [dif_pos hk]
    rfl
  · refine Finset.sum_congr rfl fun k _ => ?_
    have hk : k.val < 768 := k.isLt
    dsimp only
    rw [dif_neg (by omega), dif_pos (by omega)]
    refine congrArg₂ (· * ·) (congrArg B (funext fun a => Fin.ext ?_)) rfl
    match a with
    | ⟨0, _⟩ => rfl
    | ⟨1, _⟩ => exact Nat.add_sub_cancel_left _ _
  · refine Finset.sum_congr rfl fun k _ => ?_
    have hk : k.val < 1152 := k.isLt
    dsimp only
    rw [dif_neg (by omega), dif_neg (by omega)]
    refine congrArg₂ (· * ·) (congrArg C (funext fun a => Fin.ext ?_)) rfl
    match a with
    | ⟨0, _⟩ => rfl
    | ⟨1, _⟩ => show 512 + 768 + k.val - 512 - 768 = k.val; omega

end Cert.DhRefIdeal.Eq

end
-- ==== Proof.DhClaims.lean ====
/-
  The claims about the gradient of the in-projection's input, assembled.
-/
module

public import proofs.«01_k».proof.Defs
public import proofs.«01_k».proof.Proof.DhArray
public import proofs.«01_k».proof.Proof.DhRef
public import proofs.«01_k».proof.Proof.Gen.Dh.Frame

@[expose] public section

noncomputable section

namespace Cert.DhClaims

open Idealize.ShloMosaic Idealize.SL.Sem

instance : Cert.Dh.Facts := Cert.Dh.Gen.facts
instance : Cert.DhIdeal.Facts := Cert.DhIdeal.Gen.facts
instance : Cert.DhRefIdeal.Facts := Cert.DhRefIdeal.Gen.facts

/-- The kernel's program ends, faultless, its arguments unchanged, every semaphore at zero. -/
theorem frame_kernel : Cert.quiescent_Dh := fun m ρ _ => Cert.Dh.Gen.frame m ρ

/-- The same of the kernel over the extended reals. -/
theorem frame_ideal : Cert.quiescent_DhIdeal := fun m ρ _ => Cert.DhIdeal.Gen.frame m ρ

/-- The reference ends, faultless, its arguments unchanged, every semaphore at zero. -/
theorem frame_ref : Cert.quiescent_DhRefIdeal := fun m ρ _ =>
  (θ_run Cert.DhRefIdeal.defs _ _).mono (fun r h => ⟨fun c => (h c).2, sem_eq_zero_of_no_sems (by decide) r.2⟩)
    (Cert.DhRefIdeal.Value.run m ρ)

/-- Kernel and reference end with the same result. -/
theorem algebraic : Cert.algebraic_DhIdeal_DhRefIdeal := fun m ρ m' ρ' _ hag =>
  ⟨fun c => Cert.DhIdeal.Arr.prod (Cert.DhIdeal.Arr.aA m c) (Cert.DhIdeal.Arr.aB m c) (Cert.DhIdeal.Arr.aC m c) (Cert.DhIdeal.Arr.aW m c),
    Cert.DhIdeal.Arr.run m ρ,
    (θ_run _ _ _).mono (fun r h c => by
      obtain ⟨h0, hk⟩ := h c
      obtain ⟨e0, e1, e2, e3⟩ := hag c
      refine ⟨h0.trans ((Cert.DhRefIdeal.Read.val_main_v8_eq _ _ _ _).trans ?_), hk⟩
      · rw [e0, e1, e2, e3]; exact Cert.DhRefIdeal.Eq.result _ _ _ _) (Cert.DhRefIdeal.Value.run m' ρ')⟩

end Cert.DhClaims

end
-- ==== Proof.DwinProd.lean ====
/-
  The gradient of the in-projection's weights, column group by column group:
  what one grid point leaves in the three accumulators and in the output blocks.
-/
module

public import proofs.«01_k».proof.Proof.Sums
public import proofs.«01_k».proof.Proof.Gen.DwinIdeal.Value
public import Idealize.ShloMosaic.Lib.Pipeline.ValueKit.Tiles
public import Idealize.ShloMosaic.Lib.Pipeline.ValueKit.Acc
public import Idealize.ShloMosaic.Lib.Tactic

@[expose] public section

set_option maxRecDepth 16384

noncomputable section

namespace Cert.DwinIdeal.Prod

open Cert.DwinIdeal Cert.DwinIdeal.Gen Idealize.ShloMosaic Idealize.ShloMosaic.TcCoe Idealize.SL.Sem
open Idealize.ShloMosaic.Pipeline (Dat)

/-- The zero offsets of a load or store through a whole block. -/
theorem hz2 : (![0, 0] : Fin 2 → ℕ) = fun _ => 0 := by
  funext a; match a with | ⟨0, _⟩ => rfl | ⟨1, _⟩ => rfl

/-- Product 0 of a point's blocks at an index of its accumulator. -/
def dot0 (xl : Vec Ideal S1024x1024 .bf16) (xr : Vec Ideal S1024x512 .bf16) (y : S1024x512.Idx) : EReal :=
  ∑ k : Fin 1024, xl (ix2 k (y 0)) * xr (ix2 k (y 1))

/-- Accumulator 0 is cleared with zeros. -/
theorem cleared0 : k0_pay4 (F := Ideal) = fun _ => (0 : EReal) := by
  funext y
  pointwise [k0_pay4]

/-- It gains the product of the blocks. -/
theorem gained0 (v : Vec Ideal S1024x512 .f32) (xl : Vec Ideal S1024x1024 .bf16) (xr : Vec Ideal S1024x512 .bf16) :
    k0_pay7 (F := Ideal) xl v xr = fun y => v y + dot0 xl xr y := by
  funext y
  idx_vars y
  pointwise [k0_pay7, dot0]

/-- The output block is the accumulator. -/
theorem copied0 (v : Vec Ideal S1024x512 .f32) : k0_pay1 (F := Ideal) v = v := by
  funext y
  idx_vars y
  pointwise [k0_pay1]

/-- Product 1 of a point's blocks at an index of its accumulator. -/
def dot1 (xl : Vec Ideal S1024x1024 .bf16) (xr : Vec Ideal S1024x768 .bf16) (y : S1024x768.Idx) : EReal :=
  ∑ k : Fin 1024, xl (ix2 k (y 0)) * xr (ix2 k (y 1))

/-- Accumulator 1 is cleared with zeros. -/
theorem cleared1 : k0_pay5 (F := Ideal) = fun _ => (0 : EReal) := by
  funext y
  pointwise [k0_pay5]

/-- It gains the product of the blocks. -/
theorem gained1 (v : Vec Ideal S1024x768 .f32) (xl : Vec Ideal S1024x1024 .bf16) (xr : Vec Ideal S1024x768 .bf16) :
    k0_pay8 (F := Ideal) xl v xr = fun y => v y + dot1 xl xr y := by
  funext y
  idx_vars y
  pointwise [k0_pay8, dot1]

/-- The output block is the accumulator. -/
theorem copied1 (v : Vec Ideal S1024x768 .f32) : k0_pay2 (F := Ideal) v = v := by
  funext y
  idx_vars y
  pointwise [k0_pay2]

/-- Product 2 of a point's blocks at an index of its accumulator. -/
def dot2 (xl : Vec Ideal S1024x1024 .bf16) (xr : Vec Ideal S1024x1152 .bf16) (y : S1024x1152.Idx) : EReal :=
  ∑ k : Fin 1024, xl (ix2 k (y 0)) * xr (ix2 k (y 1))

/-- Accumulator 2 is cleared with zeros. -/
theorem cleared2 : k0_pay6 (F := Ideal) = fun _ => (0 : EReal) := by
  funext y
  pointwise [k0_pay6]

/-- It gains the product of the blocks. -/
theorem gained2 (v : Vec Ideal S1024x1152 .f32) (xl : Vec Ideal S1024x1024 .bf16) (xr : Vec Ideal S1024x1152 .bf16) :
    k0_pay9 (F := Ideal) xl v xr = fun y => v y + dot2 xl xr y := by
  funext y
  idx_vars y
  pointwise [k0_pay9, dot2]

/-- The output block is the accumulator. -/
theorem copied2 (v : Vec Ideal S1024x1152 .f32) : k0_pay3 (F := Ideal) v = v := by
  funext y
  idx_vars y
  pointwise [k0_pay3]

/-- Accumulator 0 after the first point. -/
theorem acc0_A (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : cond0_0 i) (hc1 : ¬cond0_1 i) (x0 : Vec Ideal S1024x1024 .bf16) (x1 : Vec Ideal S1024x512 .bf16) (x2 : Vec Ideal S1024x768 .bf16) (x3 : Vec Ideal S1024x1152 .bf16) :
    sout0_A_0 (F := Ideal) c i arg1 harg1 arg2 harg2 arg3 harg3 arg4 harg4 arg5 harg5 arg6 harg6 arg7 harg7 arg8 harg8 arg9 harg9 arg10 harg10 hc0 hc1 x0 x1 x2 x3 = fun y => 0 + dot0 x0 x1 y := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [gained0, cleared0]

/-- Accumulator 0 after a point in the middle. -/
theorem acc0_B (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : ¬cond0_0 i) (hc1 : ¬cond0_1 i) (x0 : Vec Ideal S1024x1024 .bf16) (x1 : Vec Ideal S1024x512 .bf16) (x2 : Vec Ideal S1024x768 .bf16) (x3 : Vec Ideal S1024x1152 .bf16) (xs0 : Vec Ideal S1024x512 .f32) (xs1 : Vec Ideal S1024x768 .f32) (xs2 : Vec Ideal S1024x1152 .f32) :
    sout0_B_0 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs0 y + dot0 x0 x1 y := by
  unfold sout0_B_0
  rw [View.read_writes_eq_canon _ _ _ (scover0_B_0 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [gained0]

/-- Accumulator 0 after the last point. -/
theorem acc0_C (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : ¬cond0_0 i) (hc1 : cond0_1 i) (x0 : Vec Ideal S1024x1024 .bf16) (x1 : Vec Ideal S1024x512 .bf16) (x2 : Vec Ideal S1024x768 .bf16) (x3 : Vec Ideal S1024x1152 .bf16) (xs0 : Vec Ideal S1024x512 .f32) (xs1 : Vec Ideal S1024x768 .f32) (xs2 : Vec Ideal S1024x1152 .f32) :
    sout0_C_0 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs0 y + dot0 x0 x1 y := by
  unfold sout0_C_0
  rw [View.read_writes_eq_canon _ _ _ (scover0_C_0 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [gained0]

/-- Output block 0 after the last point. -/
theorem out0_C (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : ¬cond0_0 i) (hc1 : cond0_1 i) (x0 : Vec Ideal S1024x1024 .bf16) (x1 : Vec Ideal S1024x512 .bf16) (x2 : Vec Ideal S1024x768 .bf16) (x3 : Vec Ideal S1024x1152 .bf16) (xs0 : Vec Ideal S1024x512 .f32) (xs1 : Vec Ideal S1024x768 .f32) (xs2 : Vec Ideal S1024x1152 .f32) :
    out0_C_4 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs0 y + dot0 x0 x1 y := by
  unfold out0_C_4
  rw [View.read_writes_eq_canon _ _ _ (cover0_C_4 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [copied0, gained0]

/-- Accumulator 1 after the first point. -/
theorem acc1_A (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : cond0_0 i) (hc1 : ¬cond0_1 i) (x0 : Vec Ideal S1024x1024 .bf16) (x1 : Vec Ideal S1024x512 .bf16) (x2 : Vec Ideal S1024x768 .bf16) (x3 : Vec Ideal S1024x1152 .bf16) :
    sout0_A_1 (F := Ideal) c i arg1 harg1 arg2 harg2 arg3 harg3 arg4 harg4 arg5 harg5 arg6 harg6 arg7 harg7 arg8 harg8 arg9 harg9 arg10 harg10 hc0 hc1 x0 x1 x2 x3 = fun y => 0 + dot1 x0 x2 y := by
  unfold sout0_A_1
  rw [View.read_writes_eq_canon _ _ _ (scover0_A_1 (F := Ideal) c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [gained1, cleared1]

/-- Accumulator 1 after a point in the middle. -/
theorem acc1_B (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : ¬cond0_0 i) (hc1 : ¬cond0_1 i) (x0 : Vec Ideal S1024x1024 .bf16) (x1 : Vec Ideal S1024x512 .bf16) (x2 : Vec Ideal S1024x768 .bf16) (x3 : Vec Ideal S1024x1152 .bf16) (xs0 : Vec Ideal S1024x512 .f32) (xs1 : Vec Ideal S1024x768 .f32) (xs2 : Vec Ideal S1024x1152 .f32) :
    sout0_B_1 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs1 y + dot1 x0 x2 y := by
  unfold sout0_B_1
  rw [View.read_writes_eq_canon _ _ _ (scover0_B_1 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [gained1]

/-- Accumulator 1 after the last point. -/
theorem acc1_C (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : ¬cond0_0 i) (hc1 : cond0_1 i) (x0 : Vec Ideal S1024x1024 .bf16) (x1 : Vec Ideal S1024x512 .bf16) (x2 : Vec Ideal S1024x768 .bf16) (x3 : Vec Ideal S1024x1152 .bf16) (xs0 : Vec Ideal S1024x512 .f32) (xs1 : Vec Ideal S1024x768 .f32) (xs2 : Vec Ideal S1024x1152 .f32) :
    sout0_C_1 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs1 y + dot1 x0 x2 y := by
  unfold sout0_C_1
  rw [View.read_writes_eq_canon _ _ _ (scover0_C_1 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [gained1]

/-- Output block 1 after the last point. -/
theorem out1_C (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : ¬cond0_0 i) (hc1 : cond0_1 i) (x0 : Vec Ideal S1024x1024 .bf16) (x1 : Vec Ideal S1024x512 .bf16) (x2 : Vec Ideal S1024x768 .bf16) (x3 : Vec Ideal S1024x1152 .bf16) (xs0 : Vec Ideal S1024x512 .f32) (xs1 : Vec Ideal S1024x768 .f32) (xs2 : Vec Ideal S1024x1152 .f32) :
    out0_C_5 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs1 y + dot1 x0 x2 y := by
  unfold out0_C_5
  rw [View.read_writes_eq_canon _ _ _ (cover0_C_5 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [copied1, gained1]

/-- Accumulator 2 after the first point. -/
theorem acc2_A (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : cond0_0 i) (hc1 : ¬cond0_1 i) (x0 : Vec Ideal S1024x1024 .bf16) (x1 : Vec Ideal S1024x512 .bf16) (x2 : Vec Ideal S1024x768 .bf16) (x3 : Vec Ideal S1024x1152 .bf16) :
    sout0_A_2 (F := Ideal) c i arg1 harg1 arg2 harg2 arg3 harg3 arg4 harg4 arg5 harg5 arg6 harg6 arg7 harg7 arg8 harg8 arg9 harg9 arg10 harg10 hc0 hc1 x0 x1 x2 x3 = fun y => 0 + dot2 x0 x3 y := by
  unfold sout0_A_2
  rw [View.read_writes_eq_canon _ _ _ (scover0_A_2 (F := Ideal) c i arg1 harg1 arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [gained2, cleared2]

/-- Accumulator 2 after a point in the middle. -/
theorem acc2_B (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : ¬cond0_0 i) (hc1 : ¬cond0_1 i) (x0 : Vec Ideal S1024x1024 .bf16) (x1 : Vec Ideal S1024x512 .bf16) (x2 : Vec Ideal S1024x768 .bf16) (x3 : Vec Ideal S1024x1152 .bf16) (xs0 : Vec Ideal S1024x512 .f32) (xs1 : Vec Ideal S1024x768 .f32) (xs2 : Vec Ideal S1024x1152 .f32) :
    sout0_B_2 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs2 y + dot2 x0 x3 y := by
  unfold sout0_B_2
  rw [View.read_writes_eq_canon _ _ _ (scover0_B_2 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [gained2]

/-- Accumulator 2 after the last point. -/
theorem acc2_C (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : ¬cond0_0 i) (hc1 : cond0_1 i) (x0 : Vec Ideal S1024x1024 .bf16) (x1 : Vec Ideal S1024x512 .bf16) (x2 : Vec Ideal S1024x768 .bf16) (x3 : Vec Ideal S1024x1152 .bf16) (xs0 : Vec Ideal S1024x512 .f32) (xs1 : Vec Ideal S1024x768 .f32) (xs2 : Vec Ideal S1024x1152 .f32) :
    sout0_C_2 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs2 y + dot2 x0 x3 y := by
  unfold sout0_C_2
  rw [View.read_writes_eq_canon _ _ _ (scover0_C_2 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [gained2]

/-- Output block 2 after the last point. -/
theorem out2_C (c : Dev nD) (i : grid0.Coords) (arg1 : Memref sig .tc .vmem S1024x1024 .bf16) (harg1 : arg1.IsWhole) (arg2 : Memref sig .tc .vmem S1024x512 .bf16) (harg2 : arg2.IsWhole) (arg3 : Memref sig .tc .vmem S1024x768 .bf16) (harg3 : arg3.IsWhole) (arg4 : Memref sig .tc .vmem S1024x1152 .bf16) (harg4 : arg4.IsWhole) (arg5 : Memref sig .tc .vmem S1024x512 .bf16) (harg5 : arg5.IsWhole) (arg6 : Memref sig .tc .vmem S1024x768 .bf16) (harg6 : arg6.IsWhole) (arg7 : Memref sig .tc .vmem S1024x1152 .bf16) (harg7 : arg7.IsWhole) (arg8 : Memref sig .tc .vmem S1024x512 .f32) (harg8 : arg8.IsWhole) (arg9 : Memref sig .tc .vmem S1024x768 .f32) (harg9 : arg9.IsWhole) (arg10 : Memref sig .tc .vmem S1024x1152 .f32) (harg10 : arg10.IsWhole) (hc0 : ¬cond0_0 i) (hc1 : cond0_1 i) (x0 : Vec Ideal S1024x1024 .bf16) (x1 : Vec Ideal S1024x512 .bf16) (x2 : Vec Ideal S1024x768 .bf16) (x3 : Vec Ideal S1024x1152 .bf16) (xs0 : Vec Ideal S1024x512 .f32) (xs1 : Vec Ideal S1024x768 .f32) (xs2 : Vec Ideal S1024x1152 .f32) :
    out0_C_6 (F := Ideal) c i arg1 harg1 arg2 harg2 arg3 harg3 arg4 harg4 arg5 harg5 arg6 harg6 arg7 harg7 arg8 harg8 arg9 harg9 arg10 harg10 hc0 hc1 x0 x1 x2 x3 xs0 xs1 xs2 = fun y => xs2 y + dot2 x0 x3 y := by
  unfold out0_C_6
  rw [View.read_writes_eq_canon _ _ _ (cover0_C_6 (F := Ideal) c i arg1 harg1 arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1024x1024) hz2, View.ld_unit_zero (S := S1024x512) hz2, View.ld_unit_zero (S := S1024x768) hz2, View.ld_unit_zero (S := S1024x1152) hz2, View.readCov_unit_zero (S := S1024x512) _ hz2, View.readCov_unit_zero (S := S1024x768) _ hz2, View.readCov_unit_zero (S := S1024x1152) _ hz2]
  rw [View.canon_cons_unit_zero hz2]
  rw [copied2, gained2]

end Cert.DwinIdeal.Prod

end
-- ==== Proof.DwinArray.lean ====
/-
  The products summed over the tiles, and what the result arrays hold after the run.
-/
module

public import proofs.«01_k».proof.Proof.Sums
public import proofs.«01_k».proof.Proof.DwinProd

@[expose] public section

set_option maxRecDepth 16384

noncomputable section

namespace Cert.DwinIdeal.Arr

open Cert.DwinIdeal Cert.DwinIdeal.Gen Cert.DwinIdeal.Prod Idealize.ShloMosaic Idealize.ShloMosaic.TcCoe Idealize.SL.Sem
open Idealize.ShloMosaic.Pipeline (Dat)

/-- One tile's share of product 0, at an index of the result. -/
def term0 (A : Vec Ideal S4096x1024 .bf16) (B : Vec Ideal S4096x512 .bf16) (z : S1024x512.Idx) (i : Fin 4) : EReal :=
  ∑ k : Fin 1024, A (ix2 ⟨i.val * 1024 + k.val, by omega⟩ (z 0)) * B (ix2 ⟨i.val * 1024 + k.val, by omega⟩ (z 1))

/-- Product 0, its sum taken tile by tile. -/
def prod0 (A : Vec Ideal S4096x1024 .bf16) (B : Vec Ideal S4096x512 .bf16) : Vec Ideal S1024x512 .bf16 :=
  fun z => ∑ i : Fin 4, term0 A B z i

/-- One tile's share of product 1, at an index of the result. -/
def term1 (A : Vec Ideal S4096x1024 .bf16) (B : Vec Ideal S4096x768 .bf16) (z : S1024x768.Idx) (i : Fin 4) : EReal :=
  ∑ k : Fin 1024, A (ix2 ⟨i.val * 1024 + k.val, by omega⟩ (z 0)) * B (ix2 ⟨i.val * 1024 + k.val, by omega⟩ (z 1))

/-- Product 1, its sum taken tile by tile. -/
def prod1 (A : Vec Ideal S4096x1024 .bf16) (B : Vec Ideal S4096x768 .bf16) : Vec Ideal S1024x768 .bf16 :=
  fun z => ∑ i : Fin 4, term1 A B z i

/-- One tile's share of product 2, at an index of the result. -/
def term2 (A : Vec Ideal S4096x1024 .bf16) (B : Vec Ideal S4096x1152 .bf16) (z : S1024x1152.Idx) (i : Fin 4) : EReal :=
  ∑ k : Fin 1024, A (ix2 ⟨i.val * 1024 + k.val, by omega⟩ (z 0)) * B (ix2 ⟨i.val * 1024 + k.val, by omega⟩ (z 1))

/-- Product 2, its sum taken tile by tile. -/
def prod2 (A : Vec Ideal S4096x1024 .bf16) (B : Vec Ideal S4096x1152 .bf16) : Vec Ideal S1024x1152 .bf16 :=
  fun z => ∑ i : Fin 4, term2 A B z i

variable (m : (ℓ : Loc nD τ sig) → Buf (Elt Ideal) ℓ) (ρ : Dev nD → PrngReg)

/-- Operand 0. -/
abbrev a0 (c : Dev nD) : Vec Ideal S4096x1024 .bf16 := m ((c : Thread nD τ).loc main_arg0)

/-- Operand 1. -/
abbrev a1 (c : Dev nD) : Vec Ideal S4096x512 .bf16 := m ((c : Thread nD τ).loc main_arg1)

/-- Operand 2. -/
abbrev a2 (c : Dev nD) : Vec Ideal S4096x768 .bf16 := m ((c : Thread nD τ).loc main_arg2)

/-- Operand 3. -/
abbrev a3 (c : Dev nD) : Vec Ideal S4096x1152 .bf16 := m ((c : Thread nD τ).loc main_arg3)

/-- Where window 0's block lies at a point. -/
theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, in the operand's own indices. -/
theorem blk0 (c : Dev nD) (t : Fin cfg0.N) (i : Fin 4) (hi : t.val = i.val) (k : Fin 1024) (l : Fin 1024) :
    (iblk m c 0 t : Vec Ideal _ .bf16) (ix2 k l) = a0 m c (ix2 ⟨i.val * 1024 + k.val, by omega⟩ l) := by
  unfold iblk
  rw [View.read_apply]
  show V m c main_arg0 _ = a0 m c _
  rw [V_main_arg0]
  refine congrArg _ (funext fun a => Fin.ext ?_)
  match a with
  | ⟨0, _⟩ => show win0_0.index t 0 * 1024 + 1 * k.val = i.val * 1024 + k.val; rw [(index0 t).1]; omega
  | ⟨1, _⟩ => show win0_0.index t 1 * 1024 + 1 * l.val = l.val; rw [(index0 t).2]; omega

/-- Where window 1's block lies at a point. -/
theorem index1 : ∀ t : Fin cfg0.N, win0_1.index t 0 = t.val ∧ win0_1.index t 1 = 0 :=
  (by decide +kernel : ∀ t : Fin grid0.N, win0_1.index t 0 = t.val ∧ win0_1.index t 1 = 0)

/-- Window 1's block at a point, in the operand's own indices. -/
theorem blk1 (c : Dev nD) (t : Fin cfg0.N) (i : Fin 4) (hi : t.val = i.val) (k : Fin 1024) (l : Fin 512) :
    (iblk m c 1 t : Vec Ideal _ .bf16) (ix2 k l) = a1 m c (ix2 ⟨i.val * 1024 + k.val, by omega⟩ l) := by
  unfold iblk
  rw [View.read_apply]
  show V m c main_arg1 _ = a1 m c _
  rw [V_main_arg1]
  refine congrArg _ (funext fun a => Fin.ext ?_)
  match a with
  | ⟨0, _⟩ => show win0_1.index t 0 * 1024 + 1 * k.val = i.val * 1024 + k.val; rw [(index1 t).1]; omega
  | ⟨1, _⟩ => show win0_1.index t 1 * 512 + 1 * l.val = l.val; rw [(index1 t).2]; omega

/-- Where window 2's block lies at a point. -/
theorem index2 : ∀ t : Fin cfg0.N, win0_2.index t 0 = t.val ∧ win0_2.index t 1 = 0 :=
  (by decide +kernel : ∀ t : Fin grid0.N, win0_2.index t 0 = t.val ∧ win0_2.index t 1 = 0)

/-- Window 2's block at a point, in the operand's own indices. -/
theorem blk2 (c : Dev nD) (t : Fin cfg0.N) (i : Fin 4) (hi : t.val = i.val) (k : Fin 1024) (l : Fin 768) :
    (iblk m c 2 t : Vec Ideal _ .bf16) (ix2 k l) = a2 m c (ix2 ⟨i.val * 1024 + k.val, by omega⟩ l) := by
  unfold iblk
  rw [View.read_apply]
  show V m c main_arg2 _ = a2 m c _
  rw [V_main_arg2]
  refine congrArg _ (funext fun a => Fin.ext ?_)
  match a with
  | ⟨0, _⟩ => show win0_2.index t 0 * 1024 + 1 * k.val = i.val * 1024 + k.val; rw [(index2 t).1]; omega
  | ⟨1, _⟩ => show win0_2.index t 1 * 768 + 1 * l.val = l.val; rw [(index2 t).2]; omega

/-- Where window 3's block lies at a point. -/
theorem index3 : ∀ t : Fin cfg0.N, win0_3.index t 0 = t.val ∧ win0_3.index t 1 = 0 :=
  (by decide +kernel : ∀ t : Fin grid0.N, win0_3.index t 0 = t.val ∧ win0_3.index t 1 = 0)

/-- Window 3's block at a point, in the operand's own indices. -/
theorem blk3 (c : Dev nD) (t : Fin cfg0.N) (i : Fin 4) (hi : t.val = i.val) (k : Fin 1024) (l : Fin 1152) :
    (iblk m c 3 t : Vec Ideal _ .bf16) (ix2 k l) = a3 m c (ix2 ⟨i.val * 1024 + k.val, by omega⟩ l) := by
  unfold iblk
  rw [View.read_apply]
  show V m c main_arg3 _ = a3 m c _
  rw [V_main_arg3]
  refine congrArg _ (funext fun a => Fin.ext ?_)
  match a with
  | ⟨0, _⟩ => show win0_3.index t 0 * 1024 + 1 * k.val = i.val * 1024 + k.val; rw [(index3 t).1]; omega
  | ⟨1, _⟩ => show win0_3.index t 1 * 1152 + 1 * l.val = l.val; rw [(index3 t).2]; omega

/-- A point's product 0 of blocks is its tile's share. -/
theorem part_eq0 (c : Dev nD) (t : Fin cfg0.N) (i : Fin 4) (hi : t.val = i.val) (y : S1024x512.Idx) :
    dot0 (iblk m c 0 t) (iblk m c 1 t) y = term0 (a0 m c) (a1 m c) y i := by
  unfold dot0 term0
  exact Finset.sum_congr rfl fun k _ => congrArg₂ (· * ·) (blk0 m c t i hi k (y 0)) (blk1 m c t i hi k (y 1))

/-- A point's product 0 of blocks, as a function of the point's number. -/
def part0 (c : Dev nD) (y : S1024x512.Idx) (n : ℕ) : EReal :=
  if h : n < cfg0.N then dot0 (iblk m c 0 ⟨n, h⟩) (iblk m c 1 ⟨n, h⟩) y else 0

/-- Accumulator 0 at the end of the run: the sum of the points' products. -/
theorem acc_last0 (c : Dev nD) (y : S1024x512.Idx) (n : ℕ) (h : n < cfg0.N) (hl : n % 4 + 1 = 4) :
    (outsAt0 m c n h).2.2.2.1 y = ∑ i : Fin 4, part0 m c y (4 * (n / 4) + i.val) := by
  refine Sums.acc_full (by decide) (fun n h => (outsAt0 m c n h).2.2.2.1 y) (part0 m c y) ?_ ?_ n h hl
  · intro n h hn
    have e := congrArg (fun o => o.2.2.2.1) (outsAt0_A m c ⟨n, h⟩ hn (by show ¬ n % 4 = 3; omega))
    dsimp only at e
    rw [acc0_A] at e
    show (outsAt0 m c n h).2.2.2.1 y = _
    rw [e]
    unfold part0
    rw [dif_pos h]
    exact zero_add _
  · intro n h h' hn
    show (outsAt0 m c (n + 1) h).2.2.2.1 y = (outsAt0 m c n h').2.2.2.1 y + part0 m c y (n + 1)
    unfold part0
    rw [dif_pos h]
    by_cases hl : (n + 1) % 4 = 3
    · have e := congrArg (fun o => o.2.2.2.1) (outsAt0_C m c ⟨n + 1, h⟩ hn hl)
      dsimp only at e
      rw [acc0_C] at e
      exact congrFun e y
    · have e := congrArg (fun o => o.2.2.2.1) (outsAt0_B m c ⟨n + 1, h⟩ hn hl)
      dsimp only at e
      rw [acc0_B] at e
      exact congrFun e y

/-- Output block 0 at the end of the run is the accumulator. -/
theorem out_last0 (c : Dev nD) (t : Fin cfg0.N) (h1 : t.val % 4 = 3) :
    (outsAt0 m c t.val t.isLt).1 = (outsAt0 m c t.val t.isLt).2.2.2.1 := by
  have e := outsAt0_C m c t (by omega) h1
  have e1 := congrArg (fun o => o.1) e
  have e2 := congrArg (fun o => o.2.2.2.1) e
  dsimp only at e1 e2
  rw [out0_C] at e1
  rw [acc0_C] at e2
  rw [e1, e2]

/-- Where window 4's block lies: it is the whole result. -/
theorem index4 : ∀ t : Fin cfg0.N, win0_4.index t 0 = 0 ∧ win0_4.index t 1 = 0 :=
  (by decide +kernel : ∀ t : Fin grid0.N, win0_4.index t 0 = 0 ∧ win0_4.index t 1 = 0)

/-- What the last point writes back is the product. -/
theorem flushed0 (c : Dev nD) (t : Fin cfg0.N) (hf : (cfg0.win 4).flush t = true) :
    (dats m 0 c).flushed 4 t = ((cfg0.win 4).blk t).view.read (Elt Ideal) (prod0 (a0 m c) (a1 m c)) := by
  have h1 : t.val % 4 = 3 := (flush0_4 t).mp hf
  have hN : t.val < 4 := t.isLt
  rw [Cert.DwinIdeal.Value.flushed4]
  funext x
  rw [View.read_apply]
  rw [out_last0 m c t h1]
  have x0 : (x 0).val < 1024 := (x 0).isLt
  have x1 : (x 1).val < 512 := (x 1).isLt
  refine Eq.trans (congrArg (outsAt0 m c t.val t.isLt).2.2.2.1 (?_ : _ = (ix2 ⟨(x 0).val, x0⟩ ⟨(x 1).val, x1⟩ : S1024x512.Idx))) ?_
  · exact eq_ix2 _
  rw [acc_last0 m c _ t.val t.isLt (by omega)]
  refine Eq.trans (b := prod0 (a0 m c) (a1 m c) (ix2 ⟨(x 0).val, x0⟩ ⟨(x 1).val, x1⟩)) ?_ (congrArg (prod0 (a0 m c) (a1 m c)) (funext fun a => Fin.ext ?_))
  · refine Finset.sum_congr rfl fun i _ => ?_
    have hi : i.val < 4 := i.isLt
    have hn : 4 * (t.val / 4) + i.val < cfg0.N := by show _ < 4; omega
    unfold part0
    rw [dif_pos hn]
    exact part_eq0 m c ⟨_, hn⟩ i (by show 4 * (t.val / 4) + i.val = i.val; omega) _
  · match a with
    | ⟨0, _⟩ => show (x 0).val = win0_4.index t 0 * 1024 + 1 * (x 0).val; rw [(index4 t).1]; omega
    | ⟨1, _⟩ => show (x 1).val = win0_4.index t 1 * 512 + 1 * (x 1).val; rw [(index4 t).2]; omega

/-- Result array 0 after the run. -/
theorem final0 (c : Dev nD) : (dats m 0 c).arrAt 4 cfg0.N = prod0 (a0 m c) (a1 m c) :=
  (dats m 0 c).arrAt_eq_of_cover 4 (prod0 (a0 m c) (a1 m c)) (flushed0 m c) fun i =>
    (Cert.DwinIdeal.Value.covered_iff4 i).2 ⟨Nat.zero_le _, (i 0).isLt, Nat.zero_le _, (i 1).isLt⟩

/-- A point's product 1 of blocks is its tile's share. -/
theorem part_eq1 (c : Dev nD) (t : Fin cfg0.N) (i : Fin 4) (hi : t.val = i.val) (y : S1024x768.Idx) :
    dot1 (iblk m c 0 t) (iblk m c 2 t) y = term1 (a0 m c) (a2 m c) y i := by
  unfold dot1 term1
  exact Finset.sum_congr rfl fun k _ => congrArg₂ (· * ·) (blk0 m c t i hi k (y 0)) (blk2 m c t i hi k (y 1))

/-- A point's product 1 of blocks, as a function of the point's number. -/
def part1 (c : Dev nD) (y : S1024x768.Idx) (n : ℕ) : EReal :=
  if h : n < cfg0.N then dot1 (iblk m c 0 ⟨n, h⟩) (iblk m c 2 ⟨n, h⟩) y else 0

/-- Accumulator 1 at the end of the run: the sum of the points' products. -/
theorem acc_last1 (c : Dev nD) (y : S1024x768.Idx) (n : ℕ) (h : n < cfg0.N) (hl : n % 4 + 1 = 4) :
    (outsAt0 m c n h).2.2.2.2.1 y = ∑ i : Fin 4, part1 m c y (4 * (n / 4) + i.val) := by
  refine Sums.acc_full (by decide) (fun n h => (outsAt0 m c n h).2.2.2.2.1 y) (part1 m c y) ?_ ?_ n h hl
  · intro n h hn
    have e := congrArg (fun o => o.2.2.2.2.1) (outsAt0_A m c ⟨n, h⟩ hn (by show ¬ n % 4 = 3; omega))
    dsimp only at e
    rw [acc1_A] at e
    show (outsAt0 m c n h).2.2.2.2.1 y = _
    rw [e]
    unfold part1
    rw [dif_pos h]
    exact zero_add _
  · intro n h h' hn
    show (outsAt0 m c (n + 1) h).2.2.2.2.1 y = (outsAt0 m c n h').2.2.2.2.1 y + part1 m c y (n + 1)
    unfold part1
    rw [dif_pos h]
    by_cases hl : (n + 1) % 4 = 3
    · have e := congrArg (fun o => o.2.2.2.2.1) (outsAt0_C m c ⟨n + 1, h⟩ hn hl)
      dsimp only at e
      rw [acc1_C] at e
      exact congrFun e y
    · have e := congrArg (fun o => o.2.2.2.2.1) (outsAt0_B m c ⟨n + 1, h⟩ hn hl)
      dsimp only at e
      rw [acc1_B] at e
      exact congrFun e y

/-- Output block 1 at the end of the run is the accumulator. -/
theorem out_last1 (c : Dev nD) (t : Fin cfg0.N) (h1 : t.val % 4 = 3) :
    (outsAt0 m c t.val t.isLt).2.1 = (outsAt0 m c t.val t.isLt).2.2.2.2.1 := by
  have e := outsAt0_C m c t (by omega) h1
  have e1 := congrArg (fun o => o.2.1) e
  have e2 := congrArg (fun o => o.2.2.2.2.1) e
  dsimp only at e1 e2
  rw [out1_C] at e1
  rw [acc1_C] at e2
  rw [e1, e2]

/-- Where window 5's block lies: it is the whole result. -/
theorem index5 : ∀ t : Fin cfg0.N, win0_5.index t 0 = 0 ∧ win0_5.index t 1 = 0 :=
  (by decide +kernel : ∀ t : Fin grid0.N, win0_5.index t 0 = 0 ∧ win0_5.index t 1 = 0)

/-- What the last point writes back is the product. -/
theorem flushed1 (c : Dev nD) (t : Fin cfg0.N) (hf : (cfg0.win 5).flush t = true) :
    (dats m 0 c).flushed 5 t = ((cfg0.win 5).blk t).view.read (Elt Ideal) (prod1 (a0 m c) (a2 m c)) := by
  have h1 : t.val % 4 = 3 := (flush0_5 t).mp hf
  have hN : t.val < 4 := t.isLt
  rw [Cert.DwinIdeal.Value.flushed5]
  funext x
  rw [View.read_apply]
  rw [out_last1 m c t h1]
  have x0 : (x 0).val < 1024 := (x 0).isLt
  have x1 : (x 1).val < 768 := (x 1).isLt
  refine Eq.trans (congrArg (outsAt0 m c t.val t.isLt).2.2.2.2.1 (?_ : _ = (ix2 ⟨(x 0).val, x0⟩ ⟨(x 1).val, x1⟩ : S1024x768.Idx))) ?_
  · exact eq_ix2 _
  rw [acc_last1 m c _ t.val t.isLt (by omega)]
  refine Eq.trans (b := prod1 (a0 m c) (a2 m c) (ix2 ⟨(x 0).val, x0⟩ ⟨(x 1).val, x1⟩)) ?_ (congrArg (prod1 (a0 m c) (a2 m c)) (funext fun a => Fin.ext ?_))
  · refine Finset.sum_congr rfl fun i _ => ?_
    have hi : i.val < 4 := i.isLt
    have hn : 4 * (t.val / 4) + i.val < cfg0.N := by show _ < 4; omega
    unfold part1
    rw [dif_pos hn]
    exact part_eq1 m c ⟨_, hn⟩ i (by show 4 * (t.val / 4) + i.val = i.val; omega) _
  · match a with
    | ⟨0, _⟩ => show (x 0).val = win0_5.index t 0 * 1024 + 1 * (x 0).val; rw [(index5 t).1]; omega
    | ⟨1, _⟩ => show (x 1).val = win0_5.index t 1 * 768 + 1 * (x 1).val; rw [(index5 t).2]; omega

/-- Result array 1 after the run. -/
theorem final1 (c : Dev nD) : (dats m 0 c).arrAt 5 cfg0.N = prod1 (a0 m c) (a2 m c) :=
  (dats m 0 c).arrAt_eq_of_cover 5 (prod1 (a0 m c) (a2 m c)) (flushed1 m c) fun i =>
    (Cert.DwinIdeal.Value.covered_iff5 i).2 ⟨Nat.zero_le _, (i 0).isLt, Nat.zero_le _, (i 1).isLt⟩

/-- A point's product 2 of blocks is its tile's share. -/
theorem part_eq2 (c : Dev nD) (t : Fin cfg0.N) (i : Fin 4) (hi : t.val = i.val) (y : S1024x1152.Idx) :
    dot2 (iblk m c 0 t) (iblk m c 3 t) y = term2 (a0 m c) (a3 m c) y i := by
  unfold dot2 term2
  exact Finset.sum_congr rfl fun k _ => congrArg₂ (· * ·) (blk0 m c t i hi k (y 0)) (blk3 m c t i hi k (y 1))

/-- A point's product 2 of blocks, as a function of the point's number. -/
def part2 (c : Dev nD) (y : S1024x1152.Idx) (n : ℕ) : EReal :=
  if h : n < cfg0.N then dot2 (iblk m c 0 ⟨n, h⟩) (iblk m c 3 ⟨n, h⟩) y else 0

/-- Accumulator 2 at the end of the run: the sum of the points' products. -/
theorem acc_last2 (c : Dev nD) (y : S1024x1152.Idx) (n : ℕ) (h : n < cfg0.N) (hl : n % 4 + 1 = 4) :
    (outsAt0 m c n h).2.2.2.2.2 y = ∑ i : Fin 4, part2 m c y (4 * (n / 4) + i.val) := by
  refine Sums.acc_full (by decide) (fun n h => (outsAt0 m c n h).2.2.2.2.2 y) (part2 m c y) ?_ ?_ n h hl
  · intro n h hn
    have e := congrArg (fun o => o.2.2.2.2.2) (outsAt0_A m c ⟨n, h⟩ hn (by show ¬ n % 4 = 3; omega))
    dsimp only at e
    rw [acc2_A] at e
    show (outsAt0 m c n h).2.2.2.2.2 y = _
    rw [e]
    unfold part2
    rw [dif_pos h]
    exact zero_add _
  · intro n h h' hn
    show (outsAt0 m c (n + 1) h).2.2.2.2.2 y = (outsAt0 m c n h').2.2.2.2.2 y + part2 m c y (n + 1)
    unfold part2
    rw [dif_pos h]
    by_cases hl : (n + 1) % 4 = 3
    · have e := congrArg (fun o => o.2.2.2.2.2) (outsAt0_C m c ⟨n + 1, h⟩ hn hl)
      dsimp only at e
      rw [acc2_C] at e
      exact congrFun e y
    · have e := congrArg (fun o => o.2.2.2.2.2) (outsAt0_B m c ⟨n + 1, h⟩ hn hl)
      dsimp only at e
      rw [acc2_B] at e
      exact congrFun e y

/-- Output block 2 at the end of the run is the accumulator. -/
theorem out_last2 (c : Dev nD) (t : Fin cfg0.N) (h1 : t.val % 4 = 3) :
    (outsAt0 m c t.val t.isLt).2.2.1 = (outsAt0 m c t.val t.isLt).2.2.2.2.2 := by
  have e := outsAt0_C m c t (by omega) h1
  have e1 := congrArg (fun o => o.2.2.1) e
  have e2 := congrArg (fun o => o.2.2.2.2.2) e
  dsimp only at e1 e2
  rw [out2_C] at e1
  rw [acc2_C] at e2
  rw [e1, e2]

/-- Where window 6's block lies: it is the whole result. -/
theorem index6 : ∀ t : Fin cfg0.N, win0_6.index t 0 = 0 ∧ win0_6.index t 1 = 0 :=
  (by decide +kernel : ∀ t : Fin grid0.N, win0_6.index t 0 = 0 ∧ win0_6.index t 1 = 0)

/-- What the last point writes back is the product. -/
theorem flushed2 (c : Dev nD) (t : Fin cfg0.N) (hf : (cfg0.win 6).flush t = true) :
    (dats m 0 c).flushed 6 t = ((cfg0.win 6).blk t).view.read (Elt Ideal) (prod2 (a0 m c) (a3 m c)) := by
  have h1 : t.val % 4 = 3 := (flush0_6 t).mp hf
  have hN : t.val < 4 := t.isLt
  rw [Cert.DwinIdeal.Value.flushed6]
  funext x
  rw [View.read_apply]
  rw [out_last2 m c t h1]
  have x0 : (x 0).val < 1024 := (x 0).isLt
  have x1 : (x 1).val < 1152 := (x 1).isLt
  refine Eq.trans (congrArg (outsAt0 m c t.val t.isLt).2.2.2.2.2 (?_ : _ = (ix2 ⟨(x 0).val, x0⟩ ⟨(x 1).val, x1⟩ : S1024x1152.Idx))) ?_
  · exact eq_ix2 _
  rw [acc_last2 m c _ t.val t.isLt (by omega)]
  refine Eq.trans (b := prod2 (a0 m c) (a3 m c) (ix2 ⟨(x 0).val, x0⟩ ⟨(x 1).val, x1⟩)) ?_ (congrArg (prod2 (a0 m c) (a3 m c)) (funext fun a => Fin.ext ?_))
  · refine Finset.sum_congr rfl fun i _ => ?_
    have hi : i.val < 4 := i.isLt
    have hn : 4 * (t.val / 4) + i.val < cfg0.N := by show _ < 4; omega
    unfold part2
    rw [dif_pos hn]
    exact part_eq2 m c ⟨_, hn⟩ i (by show 4 * (t.val / 4) + i.val = i.val; omega) _
  · match a with
    | ⟨0, _⟩ => show (x 0).val = win0_6.index t 0 * 1024 + 1 * (x 0).val; rw [(index6 t).1]; omega
    | ⟨1, _⟩ => show (x 1).val = win0_6.index t 1 * 1152 + 1 * (x 1).val; rw [(index6 t).2]; omega

/-- Result array 2 after the run. -/
theorem final2 (c : Dev nD) : (dats m 0 c).arrAt 6 cfg0.N = prod2 (a0 m c) (a3 m c) :=
  (dats m 0 c).arrAt_eq_of_cover 6 (prod2 (a0 m c) (a3 m c)) (flushed2 m c) fun i =>
    (Cert.DwinIdeal.Value.covered_iff6 i).2 ⟨Nat.zero_le _, (i 0).isLt, Nat.zero_le _, (i 1).isLt⟩

/-- The run, read: the results at the products, the arguments unchanged. -/
theorem run : θ_run defs (onTc (τ := τ) (main (F := Ideal))) ⟨m, fun _ => 0, ρ⟩ fun r => ∀ c : Dev nD,
      r.2.mem ((c : Thread nD τ).loc main_v0_0) = prod0 (a0 m c) (a1 m c)
      ∧ r.2.mem ((c : Thread nD τ).loc main_v0_1) = prod1 (a0 m c) (a2 m c)
      ∧ r.2.mem ((c : Thread nD τ).loc main_v0_2) = prod2 (a0 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final0 m c), (h c).2.1.trans (final1 m c), (h c).2.2.1.trans (final2 m c), (h c).2.2.2⟩) (Cert.DwinIdeal.Value.run_blocks m ρ)

end Cert.DwinIdeal.Arr

end
-- ==== Proof.DwinRef.lean ====
/-
  The reference's three results are the same products, each sum in one piece.
-/
module

public import proofs.«01_k».proof.Proof.Sums
public import proofs.«01_k».proof.Proof.DwinArray
public import proofs.«01_k».proof.Proof.Gen.DwinRefIdeal.Run
public import proofs.«01_k».proof.Proof.Gen.DwinRefIdeal.Read

@[expose] public section

set_option maxRecDepth 16384

noncomputable section

namespace Cert.DwinRefIdeal.Eq

open Cert.DwinRefIdeal Cert.DwinRefIdeal.Gen Cert.DwinRefIdeal.Read Idealize.ShloMosaic Idealize.ShloMosaic.TcCoe Idealize.SL.Sem
open Idealize.ShloMosaic.Pipeline (Dat)

/-- The reference's result 0 is the kernel's product 0. -/
theorem result0 (A : Vec Ideal S4096x1024 .bf16) (B : Vec Ideal S4096x512 .bf16) (C : Vec Ideal S4096x768 .bf16) (D : Vec Ideal S4096x1152 .bf16) : val_main_v10 (F := Ideal) A B C D = Cert.DwinIdeal.Arr.prod0 A B := by
  funext z
  idx_vars z
  pointwise [val_main_v0, val_main_v1, val_main_v2, val_main_v3, val_main_v4, val_main_cst, val_main_v5, val_main_v6, val_main_v7, val_main_v8, val_main_v9, val_main_v10, val_main_v11, val_main_v12]
  unfold Cert.DwinIdeal.Arr.prod0 Cert.DwinIdeal.Arr.term0
  rw [Fin.sum_univ_tiles 4 1024 (by norm_num)]
  exact Finset.sum_congr rfl fun i _ => Finset.sum_congr rfl fun k _ => mul_comm _ _

/-- The reference's result 1 is the kernel's product 1. -/
theorem result1 (A : Vec Ideal S4096x1024 .bf16) (B : Vec Ideal S4096x512 .bf16) (C : Vec Ideal S4096x768 .bf16) (D : Vec Ideal S4096x1152 .bf16) : val_main_v11 (F := Ideal) A B C D = Cert.DwinIdeal.Arr.prod1 A C := by
  funext z
  idx_vars z
  pointwise [val_main_v0, val_main_v1, val_main_v2, val_main_v3, val_main_v4, val_main_cst, val_main_v5, val_main_v6, val_main_v7, val_main_v8, val_main_v9, val_main_v10, val_main_v11, val_main_v12]
  unfold Cert.DwinIdeal.Arr.prod1 Cert.DwinIdeal.Arr.term1
  rw [Fin.sum_univ_tiles 4 1024 (by norm_num)]
  exact Finset.sum_congr rfl fun i _ => Finset.sum_congr rfl fun k _ => mul_comm _ _

/-- The reference's result 2 is the kernel's product 2. -/
theorem result2 (A : Vec Ideal S4096x1024 .bf16) (B : Vec Ideal S4096x512 .bf16) (C : Vec Ideal S4096x768 .bf16) (D : Vec Ideal S4096x1152 .bf16) : val_main_v12 (F := Ideal) A B C D = Cert.DwinIdeal.Arr.prod2 A D := by
  funext z
  idx_vars z
  pointwise [val_main_v0, val_main_v1, val_main_v2, val_main_v3, val_main_v4, val_main_cst, val_main_v5, val_main_v6, val_main_v7, val_main_v8, val_main_v9, val_main_v10, val_main_v11, val_main_v12]
  unfold Cert.DwinIdeal.Arr.prod2 Cert.DwinIdeal.Arr.term2
  rw [Fin.sum_univ_tiles 4 1024 (by norm_num)]
  refine Finset.sum_congr rfl fun i _ => Finset.sum_congr rfl fun k _ => ?_
  rw [dif_neg (by omega), dif_neg (by omega), mul_comm]
  refine congrArg₂ (· * ·) rfl (congrArg D (funext fun a => Fin.ext ?_))
  match a with
  | ⟨0, _⟩ => rfl
  | ⟨1, _⟩ => show 1280 + z1.val - 512 - 768 = z1.val; omega

end Cert.DwinRefIdeal.Eq

end
-- ==== Proof.DwinClaims.lean ====
/-
  The claims about the gradient of the in-projection's weights, assembled.
-/
module

public import proofs.«01_k».proof.Defs
public import proofs.«01_k».proof.Proof.DwinArray
public import proofs.«01_k».proof.Proof.DwinRef
public import proofs.«01_k».proof.Proof.Gen.Dwin.Frame

@[expose] public section

noncomputable section

namespace Cert.DwinClaims

open Idealize.ShloMosaic Idealize.SL.Sem

instance : Cert.Dwin.Facts := Cert.Dwin.Gen.facts
instance : Cert.DwinIdeal.Facts := Cert.DwinIdeal.Gen.facts
instance : Cert.DwinRefIdeal.Facts := Cert.DwinRefIdeal.Gen.facts

/-- The kernel's program ends, faultless, its arguments unchanged, every semaphore at zero. -/
theorem frame_kernel : Cert.quiescent_Dwin := fun m ρ _ => Cert.Dwin.Gen.frame m ρ

/-- The same of the kernel over the extended reals. -/
theorem frame_ideal : Cert.quiescent_DwinIdeal := fun m ρ _ => Cert.DwinIdeal.Gen.frame m ρ

/-- The reference ends, faultless, its arguments unchanged, every semaphore at zero. -/
theorem frame_ref : Cert.quiescent_DwinRefIdeal := fun m ρ _ =>
  (θ_run Cert.DwinRefIdeal.defs _ _).mono (fun r h => ⟨fun c => (h c).2.2.2, sem_eq_zero_of_no_sems (by decide) r.2⟩)
    (Cert.DwinRefIdeal.Value.run m ρ)

/-- Kernel and reference end with the same three results. -/
theorem algebraic : Cert.algebraic_DwinIdeal_DwinRefIdeal := fun m ρ m' ρ' _ hag =>
  ⟨fun c => Cert.DwinIdeal.Arr.prod0 (Cert.DwinIdeal.Arr.a0 m c) (Cert.DwinIdeal.Arr.a1 m c), fun c => Cert.DwinIdeal.Arr.prod1 (Cert.DwinIdeal.Arr.a0 m c) (Cert.DwinIdeal.Arr.a2 m c), fun c => Cert.DwinIdeal.Arr.prod2 (Cert.DwinIdeal.Arr.a0 m c) (Cert.DwinIdeal.Arr.a3 m c),
    Cert.DwinIdeal.Arr.run m ρ,
    (θ_run _ _ _).mono (fun r h c => by
      obtain ⟨h0, h1, h2, hk⟩ := h c
      obtain ⟨e0, e1, e2, e3⟩ := hag c
      refine ⟨h0.trans ((Cert.DwinRefIdeal.Read.val_main_v10_eq _ _ _ _).trans ?_), h1.trans ((Cert.DwinRefIdeal.Read.val_main_v11_eq _ _ _ _).trans ?_), h2.trans ((Cert.DwinRefIdeal.Read.val_main_v12_eq _ _ _ _).trans ?_), hk⟩
      · try rw [e0, e1, e2, e3]
        exact Cert.DwinRefIdeal.Eq.result0 _ _ _ _
      · try rw [e0, e1, e2, e3]
        exact Cert.DwinRefIdeal.Eq.result1 _ _ _ _
      · try rw [e0, e1, e2, e3]
        exact Cert.DwinRefIdeal.Eq.result2 _ _ _ _) (Cert.DwinRefIdeal.Value.run m' ρ')⟩

end Cert.DwinClaims

end
-- ==== Proof.NormMath.lean ====
/-
  The gradient of the root-mean-square norm at one row of 1024 numbers, as the kernel writes it and as differentiation of
  the plain formula writes it. The two agree where the row, its weights and its cotangent are real numbers.
-/
module

public import Idealize.ShloMosaic.PureOps.Ideal

@[expose] public section

noncomputable section

namespace Cert.NormMath

open Idealize.ShloMosaic

/-- The number of lanes, as both programs write it. -/
abbrev lanes : EReal := Ideal.ofBits .f32 0x44800000#32

/-- The number added under the root, as both programs write it. -/
abbrev small : EReal := Ideal.ofBits .f32 0x358637BD#32

/-- Minus one half, as the reference writes it. -/
abbrev negHalf : EReal := Ideal.ofBits .f32 0xBF000000#32

theorem lanes_eq : lanes = ((1024 : ℝ) : EReal) := by
  simp [lanes, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem small_eq : ∃ e : ℝ, 0 < e ∧ small = (e : EReal) := by
  refine ⟨_, ?_, by simp [small, Ideal.ofBits, Ideal.ieee, -EReal.coe_mul]; rfl⟩
  norm_num

/-- The mean of the squares plus the small number. -/
def mean (x : Fin 1024 → EReal) : EReal := Ideal.div (∑ k, x k * x k) lanes + small

/-- The reciprocal root of it: what the norm multiplies a row with. -/
def inv (x : Fin 1024 → EReal) : EReal := Ideal.rsqrt (mean x)

/-- The gradient by the row, as the kernel writes it. -/
def gradX (x w dy : Fin 1024 → EReal) (l : Fin 1024) : EReal :=
  inv x * (dy l * w l - x l * inv x * Ideal.div (∑ k, dy k * w k * (x k * inv x)) lanes)

/-- One row's part of the gradient by the weights. -/
def gradW (x dy : Fin 1024 → EReal) (l : Fin 1024) : EReal := dy l * (x l * inv x)

/-- The part of the gradient that comes through the mean of the squares, as differentiation writes it. -/
def through (x w dy : Fin 1024 → EReal) : EReal :=
  Ideal.div ((∑ k, x k * (dy k * w k)) * (negHalf * Ideal.div (inv x) (mean x))) lanes

/-- The gradient by the row, as differentiation writes it. -/
def plainX (x w dy : Fin 1024 → EReal) (l : Fin 1024) : EReal :=
  dy l * w l * inv x + x l * through x w dy + through x w dy * x l

/-- A sum of real numbers is real. -/
theorem coe_sum (f : Fin 1024 → ℝ) : ∑ k, (f k : EReal) = ((∑ k, f k : ℝ) : EReal) := by
  induction (Finset.univ : Finset (Fin 1024)) using Finset.induction_on with
  | empty => simp
  | insert a s ha ih => rw [Finset.sum_insert ha, Finset.sum_insert ha, ih, EReal.coe_add]

/-- A quotient of real numbers is real. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The mean of a real row is a positive real number. -/
theorem mean_coe (X : Fin 1024 → ℝ) : ∃ m : ℝ, 0 < m ∧ mean (fun k => (X k : EReal)) = (m : EReal) := by
  obtain ⟨e, he, hs⟩ := small_eq
  refine ⟨(∑ k, X k * X k) / 1024 + e, ?_, ?_⟩
  · have : 0 ≤ ∑ k, X k * X k := Finset.sum_nonneg fun k _ => mul_self_nonneg _
    positivity
  · unfold mean
    rw [hs, lanes_eq]
    simp only [← EReal.coe_mul]
    rw [coe_sum, div_coe _ _ (by norm_num), ← EReal.coe_add]

/-- The reciprocal root of a real row's mean, as a real number. -/
theorem inv_coe (X : Fin 1024 → ℝ) : ∃ m : ℝ, 0 < m ∧ mean (fun k => (X k : EReal)) = (m : EReal)
    ∧ inv (fun k => (X k : EReal)) = (((Real.sqrt m)⁻¹ : ℝ) : EReal) := by
  obtain ⟨m, hm, e⟩ := mean_coe X
  refine ⟨m, hm, e, ?_⟩
  unfold inv
  rw [e, Ideal.rsqrt_coe, if_neg (not_lt.mpr hm.le), if_neg hm.ne']

/-- Kernel and reference agree on a row of real numbers, and the gradient is real. -/
theorem gradX_coe (X W Y : Fin 1024 → ℝ) (l : Fin 1024) :
    ∃ g : ℝ, gradX (fun k => X k) (fun k => W k) (fun k => Y k) l = (g : EReal)
      ∧ plainX (fun k => X k) (fun k => W k) (fun k => Y k) l = (g : EReal) := by
  obtain ⟨m, hm, em, ei⟩ := inv_coe X
  have hs : Real.sqrt m ≠ 0 := (Real.sqrt_pos.mpr hm).ne'
  have hsq : m = Real.sqrt m * Real.sqrt m := (Real.mul_self_sqrt hm.le).symm
  refine ⟨(Real.sqrt m)⁻¹ * (Y l * W l - X l * (Real.sqrt m)⁻¹ * ((∑ k, Y k * W k * (X k * (Real.sqrt m)⁻¹)) / 1024)), ?_, ?_⟩
  · unfold gradX
    rw [ei, lanes_eq]
    simp only [← EReal.coe_mul]
    rw [coe_sum, div_coe _ _ (by norm_num)]
    simp only [← EReal.coe_mul, ← EReal.coe_sub]
  · unfold plainX through
    rw [ei, em, lanes_eq, negHalf_eq, div_coe _ _ hm.ne']
    simp only [← EReal.coe_mul]
    rw [coe_sum]
    simp only [← EReal.coe_mul]
    rw [div_coe _ _ (by norm_num)]
    simp only [← EReal.coe_mul, ← EReal.coe_add]
    have e1 : ∑ k, Y k * W k * (X k * (Real.sqrt m)⁻¹) = (∑ k, X k * (Y k * W k)) * (Real.sqrt m)⁻¹ := by
      rw [Finset.sum_mul]
      exact Finset.sum_congr rfl fun k _ => by ring
    rw [e1]
    generalize ∑ k, X k * (Y k * W k) = s
    congr 1
    generalize Real.sqrt m = q at hs hsq
    rw [hsq]
    field_simp
    ring

/-- A number that is neither infinity is a real number. -/
theorem real_of (a : EReal) (ht : a ≠ ⊤) (hb : a ≠ ⊥) : a = ((a.toReal : ℝ) : EReal) := (EReal.coe_toReal ht hb).symm

/-- Kernel and reference agree on rows of real numbers. -/
theorem gradX_eq (x w dy : Fin 1024 → EReal) (hx : ∀ k, x k ≠ ⊤ ∧ x k ≠ ⊥) (hw : ∀ k, w k ≠ ⊤ ∧ w k ≠ ⊥)
    (hy : ∀ k, dy k ≠ ⊤ ∧ dy k ≠ ⊥) (l : Fin 1024) : gradX x w dy l = plainX x w dy l := by
  obtain ⟨g, e, e'⟩ := gradX_coe (fun k => (x k).toReal) (fun k => (w k).toReal) (fun k => (dy k).toReal) l
  have ex : (fun k => (((x k).toReal : ℝ) : EReal)) = x := funext fun k => (real_of _ (hx k).1 (hx k).2).symm
  have ew : (fun k => (((w k).toReal : ℝ) : EReal)) = w := funext fun k => (real_of _ (hw k).1 (hw k).2).symm
  have ey : (fun k => (((dy k).toReal : ℝ) : EReal)) = dy := funext fun k => (real_of _ (hy k).1 (hy k).2).symm
  rw [ex, ew, ey] at e e'
  rw [e, e']

/-- The gradient by a row of real numbers is real. -/
theorem gradX_real (x w dy : Fin 1024 → EReal) (hx : ∀ k, x k ≠ ⊤ ∧ x k ≠ ⊥) (hw : ∀ k, w k ≠ ⊤ ∧ w k ≠ ⊥)
    (hy : ∀ k, dy k ≠ ⊤ ∧ dy k ≠ ⊥) (l : Fin 1024) : gradX x w dy l ≠ ⊤ ∧ gradX x w dy l ≠ ⊥ := by
  obtain ⟨g, e, e'⟩ := gradX_coe (fun k => (x k).toReal) (fun k => (w k).toReal) (fun k => (dy k).toReal) l
  have ex : (fun k => (((x k).toReal : ℝ) : EReal)) = x := funext fun k => (real_of _ (hx k).1 (hx k).2).symm
  have ew : (fun k => (((w k).toReal : ℝ) : EReal)) = w := funext fun k => (real_of _ (hw k).1 (hw k).2).symm
  have ey : (fun k => (((dy k).toReal : ℝ) : EReal)) = dy := funext fun k => (real_of _ (hy k).1 (hy k).2).symm
  rw [ex, ew, ey] at e
  rw [e]
  exact ⟨EReal.coe_ne_top _, EReal.coe_ne_bot _⟩

end Cert.NormMath

end
-- ==== Proof.Rms2Sums.lean ====
/-
  The two running sums one grid point of the chained norms' gradient keeps in its scratch buffer: for every row number
  within a stretch of 32 rows and every lane, the sum over the block's sixteen stretches of the weights' gradient.
-/
module

public import proofs.«01_k».proof.Proof.NormMath
public import proofs.«01_k».proof.Proof.Gen.Rms2Ideal.Frame.RunA
public import Idealize.ShloMosaic.Lib.Pipeline.ReadBack
public import Idealize.ShloMosaic.Lib.Pipeline.ValueKit.Tiles
public import Idealize.ShloMosaic.Lib.Pointwise
public import Idealize.ShloMosaic.Lib.Tactic

@[expose] public section

set_option maxRecDepth 16384

noncomputable section

namespace Cert.Rms2Ideal.Block

open Cert.Rms2Ideal Cert.Rms2Ideal.Gen Idealize.ShloMosaic Idealize.ShloMosaic.TcCoe Idealize.SL.Sem
open Idealize.ShloMosaic.Pipeline (Dat)

attribute [local pointwise] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181 k0_pay182 k0_pay183 k0_pay184 k0_pay185 k0_pay186 k0_pay187 k0_pay188 k0_pay189 k0_pay190 k0_pay191 k0_pay192 k0_pay193 k0_pay194 k0_pay195 k0_pay196 k0_pay197 k0_pay198 kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64 kernelRun0_A.sl.r_65 kernelRun0_A.sl.r_66 kernelRun0_A.sl.r_67 kernelRun0_A.sl.r_68 kernelRun0_A.sl.r_69 kernelRun0_A.sl.r_70 kernelRun0_A.sl.r_71 kernelRun0_A.sl.r_72 kernelRun0_A.sl.r_73 kernelRun0_A.sl.r_74 kernelRun0_A.sl.r_75 kernelRun0_A.sl.r_76 kernelRun0_A.sl.r_77 kernelRun0_A.sl.r_78 kernelRun0_A.sl.r_79 kernelRun0_A.sl.r_80 kernelRun0_A.sl.r_81

/-- The first norm's gradient by a block's rows, plus the gradient that goes past the norm. -/
def dA (x0 : Vec Ideal S512x1024 .f32) (x1 : Vec Ideal S1x1024 .f32) (x2 : Vec Ideal S512x1024 .bf16) (x3 : Vec Ideal S512x1024 .f32)
    (r : Fin 512) (l : Fin 1024) : EReal :=
  NormMath.gradX (fun k => x0 (ix2 r k)) (fun k => x1 (ix2 0 k)) (fun k => x2 (ix2 r k)) l + x3 (ix2 r l)

/-- The second norm's gradient by a block's rows, from the first's. -/
def dB (x0 : Vec Ideal S512x1024 .f32) (x1 : Vec Ideal S1x1024 .f32) (x2 : Vec Ideal S512x1024 .bf16) (x3 : Vec Ideal S512x1024 .f32)
    (x4 : Vec Ideal S512x1024 .bf16) (x5 : Vec Ideal S1x1024 .f32) (r : Fin 512) (l : Fin 1024) : EReal :=
  NormMath.gradX (fun k => x4 (ix2 r k)) (fun k => x5 (ix2 0 k)) (fun k => dA x0 x1 x2 x3 r k) l

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2x32x1024 .f32) (harg11 : arg11.IsWhole)
    (x0 : Vec Ideal S512x1024 .f32) (x1 : Vec Ideal S1x1024 .f32) (x2 : Vec Ideal S512x1024 .bf16) (x3 : Vec Ideal S512x1024 .f32) (x4 : Vec Ideal S512x1024 .bf16) (x5 : Vec Ideal S1x1024 .f32)

/-- The running sums of part 0 start at zero. -/
theorem acc0_0 (r : Fin 32) (l : Fin 1024) : kernelRun0_A.sl.v34 (F := Ideal) c arg11 (ix3 (0 : Fin 1) r l) = 0 := by
  unfold kernelRun0_A.sl.v34 kernelRun0_A.sl.HS0_1
  refine (congrFun (View.readCov_fill arg11.view _ _ [] _ (by intro a; fin_cases a <;> rfl)) _).trans ?_
  pointwise [View.ld_apply, k0_pay2]

/-- The running sums of part 0 after 1 stretches of rows. -/
theorem acc0_1 (r : Fin 32) (l : Fin 1024) : kernelRun0_A.sl.v104 (F := Ideal) c arg1 harg1 arg2 harg2 arg3 harg3 arg4 harg4 arg5 harg5 arg11 x0 x1 x2 x3 x4 (ix3 (0 : Fin 1) r l)
    = kernelRun0_A.sl.v34 (F := Ideal) c arg11 (ix3 (0 : Fin 1) r l) + NormMath.gradW (fun k => x0 (ix2 (⟨0 + r.val, by omega⟩ : Fin 512) k)) (fun k => x2 (ix2 (⟨0 + r.val, by omega⟩ : Fin 512) k)) l := by
  unfold kernelRun0_A.sl.v104
  unfold kernelRun0_A.sl.HS0_3
  rw [View.readCov_skip _ _ _ _ _ (by decide)]
  unfold kernelRun0_A.sl.HS0_2
  rw [View.readCov_cons_toLoadRect]
  pointwise [View.readAt_eq_ld, harg1.read_unread, harg2.read_unread, harg3.read_unread, harg4.read_unread, harg5.read_unread]
  rfl

/-- The running sums of part 0 after 2 stretches of rows. -/
theorem acc0_2 (r : Fin 32) (l : Fin 1024) : kernelRun0_A.sl.v174 (F := Ideal) c arg1 harg1 arg2 harg2 arg3 harg3 arg4 harg4 arg5 harg5 arg11 x0 x1 x2 x3 x4 (ix3 (0 : Fin 1) r l)
    = kernelRun0_A.sl.v104 (F := Ideal) c arg1 harg1 arg2 harg2 arg3 harg3 arg4 harg4 arg5 harg5 arg11 x0 x1 x2 x3 x4 (ix3 (0 : Fin 1) r l) + NormMath.gradW (fun k => x0 (ix2 (⟨32 + r.val, by omega⟩ : Fin 512) k)) (fun k => x2 (ix2 (⟨32 + r.val, by omega⟩ : Fin 512) k)) l := by
  unfold kernelRun0_A.sl.v174
  unfold kernelRun0_A.sl.HS0_5
  rw [View.readCov_skip _ _ _ _ _ (by decide)]
  unfold kernelRun0_A.sl.HS0_4
  rw [View.readCov_cons_toLoadRect]
  pointwise [View.readAt_eq_ld, harg1.read_unread, harg2.read_unread, harg3.read_unread, harg4.read_unread, harg5.read_unread]
  rfl

/-- The running sums of part 0 after 3 stretches of rows. -/
theorem acc0_3 (r : Fin 32) (l : Fin 1024) : kernelRun0_A.sl.v244 (F := Ideal) c arg1 harg1 arg2 harg2 arg3 harg3 arg4 harg4 arg5 harg5 arg11 x0 x1 x2 x3 x4 (ix3 (0 : Fin 1) r l)
    = kernelRun0_A.sl.v174 (F := Ideal) c arg1 harg1 arg2 harg2 arg3 harg3 arg4 harg4 arg5 harg5 arg11 x0 x1 x2 x3 x4 (ix3 (0 : Fin 1) r l) + NormMath.gradW (fun k => x0 (ix2 (⟨64 + r.val, by omega⟩ : Fin 512) k)) (fun k => x2 (ix2 (⟨64 + r.val, by omega⟩ : Fin 512) k)) l := by
  unfold kernelRun0_A.sl.v244
  unfold kernelRun0_A.sl.HS0_7
  rw [View.readCov_skip _ _ _ _ _ (by decide)]
  unfold kernelRun0_A.sl.HS0_6
  rw [View.readCov_cons_toLoadRect]
  pointwise [View.readAt_eq_ld, harg1.read_unread, harg2.read_unread, harg3.read_unread, harg4.read_unread, harg5.read_unread]
  rfl

/-- The running sums of part 0 after 4 stretches of rows. -/
theorem acc0_4 (r : Fin 32) (l : Fin 1024) : kernelRun0_A.sl.v314 (F := Ideal) c arg1 harg1 arg2 harg2 arg3 harg3 arg4 harg4 arg5 harg5 arg11 x0 x1 x2 x3 x4 (ix3 (0 : Fin 1) r l)
    = kernelRun0_A.sl.v244 (F := Ideal) c arg1 harg1 arg2 harg2 arg3 harg3 arg4 harg4 arg5 harg5 arg11 x0 x1 x2 x3 x4 (ix3 (0 : Fin 1) r l) + NormMath.gradW (fun k => x0 (ix2 (⟨96 + r.val, by omega⟩ : Fin 512) k)) (fun k => x2 (ix2 (⟨96 + r.val, by omega⟩ : Fin 512) k)) l := by
  unfold kernelRun0_A.sl.v314
  unfold kernelRun0_A.sl.HS0_9
  rw [View.readCov_skip _ _ _ _ _ (by decide)]
  unfold kernelRun0_A.sl.HS0_8
  rw [View.readCov_cons_toLoadRect]
  pointwise [View.readAt_eq_ld, harg1.read_unread, harg2.read_unread, harg3.read_unread, harg4.read_unread, harg5.read_unread]
  rfl

/-- The running sums of part 0 after 5 stretches of rows. -/
theorem acc0_5 (r : Fin 32) (l : Fin 1024) : kernelRun0_A.sl.v384 (F := Ideal) c arg1 harg1 arg2 harg2 arg3 harg3 arg4 harg4 arg5 harg5 arg11 x0 x1 x2 x3 x4 (ix3 (0 : Fin 1) r l)
    = kernelRun0_A.sl.v314 (F := Ideal) c arg1 harg1 arg2 harg2 arg3 harg3 arg4 harg4 arg5 harg5 arg11 x0 x1 x2 x3 x4 (ix3 (0 : Fin 1) r l) + NormMath.gradW (fun k => x0 (ix2 (⟨128 + r.val, by omega⟩ : Fin 512) k)) (fun k => x2 (ix2 (⟨128 + r.val, by omega⟩ : Fin 512) k)) l := by
  unfold kernelRun0_A.sl.v384
  unfold kernelRun0_A.sl.HS0_11
  rw [View.readCov_skip _ _ _ _ _ (by decide)]
  unfold kernelRun0_A.sl.HS0_10
  rw [View.readCov_cons_toLoadRect]
  pointwise [View.readAt_eq_ld, harg1.read_unread, harg2.read_unread, harg3.read_unread, harg4.read_unread, harg5.read_unread]
  rfl

/-- The running sums of part 0 after 6 stretches of rows. -/
theorem acc0_6 (r : Fin 32) (l : Fin 1024) : kernelRun0_A.sl.v454 (F := Ideal) c arg1 harg1 arg2 harg2 arg3 harg3 arg4 harg4 arg5 harg5 arg11 x0 x1 x2 x3 x4 (ix3 (0 : Fin 1) r l)
    = kernelRun0_A.sl.v384 (F := Ideal) c arg1 harg1 arg2 harg2 arg3 harg3 arg4 harg4 arg5 harg5 arg11 x0 x1 x2 x3 x4 (ix3 (0 : Fin 1) r l) + NormMath.gradW (fun k => x0 (ix2 (⟨160 + r.val, by omega⟩ : Fin 512) k)) (fun k => x2 (ix2 (⟨160 + r.val, by omega⟩ : Fin 512) k)) l := by
  unfold kernelRun0_A.sl.v454
  unfold kernelRun0_A.sl.HS0_13
  rw [View.readCov_skip _ _ _ _ _ (by decide)]
  unfold kernelRun0_A.sl.HS0_12
  rw [View.readCov_cons_toLoadRect]
  pointwise [View.readAt_eq_ld, harg1.read_unread, harg2.read_unread, harg3.read_unread, harg4.read_unread, harg5.read_unread]
  rfl

/-- The running sums of part 0 after 7 stretches of rows. -/
theorem acc0_7 (r : Fin 32) (l : Fin 1024) : kernelRun0_A.sl.v524 (F := Ideal) c arg1 harg1 arg2 harg2 arg3 harg3 arg4 harg4 arg5 harg5 arg11 x0 x1 x2 x3 x4 (ix3 (0 : Fin 1) r l)
    = kernelRun0_A.sl.v454 (F := Ideal) c arg1 harg1 arg2 harg2 arg3 harg3 arg4 harg4 arg5 harg5 arg11 x0 x1 x2 x3 x4 (ix3 (0 : Fin 1) r l) + NormMath.gradW (fun k => x0 (ix2 (⟨192 + r.val, by omega⟩ : Fin 512) k)) (fun k => x2 (ix2 (⟨192 + r.val, by omega⟩ : Fin 512) k)) l := by
  unfold kernelRun0_A.sl.v524
  unfold kernelRun0_A.sl.HS0_15
  rw [View.readCov_skip _ _ _ _ _ (by decide)]
  unfold kernelRun0_A.sl.HS0_14
  rw [View.readCov_cons_toLoadRect]
  pointwise [View.readAt_eq_ld, harg1.read_unread, harg2.read_unread, harg3.read_unread, harg4.read_unread, harg5.read_unread]
  rfl

/-- The running sums of part 0 after 8 stretches of rows. -/
theorem acc0_8 (r : Fin 32) (l : Fin 1024) : kernelRun0_A.sl.v594 (F := Ideal) c arg1 harg1 arg2 harg2 arg3 harg3 arg4 harg4 arg5 harg5 arg11 x0 x1 x2 x3 x4 (ix3 (0 : Fin 1) r l)
    = kernelRun0_A.sl.v524 (F := Ideal) c arg1 harg1 arg2 harg2 arg3 harg3 arg4 harg4 arg5 harg5 arg11 x0 x1 x2 x3 x4 (ix3 (0 : Fin 1) r l) + NormMath.gradW (fun k => x0 (ix2 (⟨224 + r.val, by omega⟩ : Fin 512) k)) (fun k => x2 (ix2 (⟨224 + r.val, by omega⟩ : Fin 512) k)) l := by
  unfold kernelRun0_A.sl.v594
  unfold kernelRun0_A.sl.HS0_17
  rw [View.readCov_skip _ _ _ _ _ (by decide)]
  unfold kernelRun0_A.sl.HS0_16
  rw [View.readCov_cons_toLoadRect]
  pointwise [View.readAt_eq_ld, harg1.read_unread, harg2.read_unread, harg3.read_unread, harg4.read_unread, harg5.read_unread]
  rfl

/-- The running sums of part 0 after 9 stretches of rows. -/
theorem acc0_9 (r : Fin 32) (l : Fin 1024) : kernelRun0_A.sl.v664 (F := Ideal) c arg1 harg1 arg2 harg2 arg3 harg3 arg4 harg4 arg5 harg5 arg11 x0 x1 x2 x3 x4 (ix3 (0 : Fin 1) r l)
    = kernelRun0_A.sl.v594 (F := Ideal) c arg1 harg1 arg2 harg2 arg3 harg3 arg4 harg4 arg5 harg5 arg11 x0 x1 x2 x3 x4 (ix3 (0 : Fin 1) r l) + NormMath.gradW (fun k => x0 (ix2 (⟨256 + r.val, by omega⟩ : Fin 512) k)) (fun k => x2 (ix2 (⟨256 + r.val, by omega⟩ : Fin 512) k)) l := by
  unfold kernelRun0_A.sl.v664
  unfold kernelRun0_A.sl.HS0_19
  rw [View.readCov_skip _ _ _ _ _ (by decide)]
  unfold kernelRun0_A.sl.HS0_18
  rw [View.readCov_cons_toLoadRect]
  pointwise [View.readAt_eq_ld, harg1.read_unread, harg2.read_unread, harg3.read_unread, harg4.read_unread, harg5.read_unread]
  rfl

/-- The running sums of part 0 after 10 stretches of rows. -/
theorem acc0_10 (r : Fin 32) (l : Fin 1024) : kernelRun0_A.sl.v734 (F := Ideal) c arg1 harg1 arg2 harg2 arg3 harg3 arg4 harg4 arg5 harg5 arg11 x0 x1 x2 x3 x4 (ix3 (0 : Fin 1) r l)
    = kernelRun0_A.sl.v664 (F := Ideal) c arg1 harg1 arg2 harg2 arg3 harg3 arg4 harg4 arg5 harg5 arg11 x0 x1 x2 x3 x4 (ix3 (0 : Fin 1) r l) + NormMath.gradW (fun k => x0 (ix2 (⟨288 + r.val, by omega⟩ : Fin 512) k)) (fun k => x2 (ix2 (⟨288 + r.val, by omega⟩ : Fin 512) k)) l := by
  unfold kernelRun0_A.sl.v734
  unfold kernelRun0_A.sl.HS0_21
  rw [View.readCov_skip _ _ _ _ _ (by decide)]
  unfold kernelRun0_A.sl.HS0_20
  rw [View.readCov_cons_toLoadRect]
  pointwise [View.readAt_eq_ld, harg1.read_unread, harg2.read_unread, harg3.read_unread, harg4.read_unread, harg5.read_unread]
  rfl

/-- The running sums of part 0 after 11 stretches of rows. -/
theorem acc0_11 (r : Fin 32) (l : Fin 1024) : kernelRun0_A.sl.v804 (F := Ideal) c arg1 harg1 arg2 harg2 arg3 harg3 arg4 harg4 arg5 harg5 arg11 x0 x1 x2 x3 x4 (ix3 (0 : Fin 1) r l)
    = kernelRun0_A.sl.v734 (F := Ideal) c arg1 harg1 arg2 harg2 arg3 harg3 arg4 harg4 arg5 harg5 arg11 x0 x1 x2 x3 x4 (ix3 (0 : Fin 1) r l) + NormMath.gradW (fun k => x0 (ix2 (⟨320 + r.val, by omega⟩ : Fin 512) k)) (fun k => x2 (ix2 (⟨320 + r.val, by omega⟩ : Fin 512) k)) l := by
  unfold kernelRun0_A.sl.v804
  unfold kernelRun0_A.sl.HS0_23
  rw [View.readCov_skip _ _ _ _ _ (by decide)]
  unfold kernelRun0_A.sl.HS0_22
  rw [View.readCov_cons_toLoadRect]
  pointwise [View.readAt_eq_ld, harg1.read_unread, harg2.read_unread, harg3.read_unread, harg4.read_unread, harg5.read_unread]
  rfl

/-- The running sums of part 0 after 12 stretches of rows. -/
theorem acc0_12 (r : Fin 32) (l : Fin 1024) : kernelRun0_A.sl.v874 (F := Ideal) c arg1 harg1 arg2 harg2 arg3 harg3 arg4 harg4 arg5 harg5 arg11 x0 x1 x2 x3 x4 (ix3 (0 : Fin 1) r l)
    = kernelRun0_A.sl.v804 (F := Ideal) c arg1 harg1 arg2 harg2 arg3 harg3 arg4 harg4 arg5 harg5 arg11 x0 x1 x2 x3 x4 (ix3 (0 : Fin 1) r l) + NormMath.gradW (fun k => x0 (ix2 (⟨352 + r.val, by omega⟩ : Fin 512) k)) (fun k => x2 (ix2 (⟨352 + r.val, by omega⟩ : Fin 512) k)) l := by
  unfold kernelRun0_A.sl.v874
  unfold kernelRun0_A.sl.HS0_25
  rw [View.readCov_skip _ _ _ _ _ (by decide)]
  unfold kernelRun0_A.sl.HS0_24
  rw [View.readCov_cons_toLoadRect]
  pointwise [View.readAt_eq_ld, harg1.read_unread, harg2.read_unread, harg3.read_unread, harg4.read_unread, harg5.read_unread]
  rfl

/-- The running sums of part 0 after 13 stretches of rows. -/
theorem acc0_13 (r : Fin 32) (l : Fin 1024) : kernelRun0_A.sl.v944 (F := Ideal) c arg1 harg1 arg2 harg2 arg3 harg3 arg4 harg4 arg5 harg5 arg11 x0 x1 x2 x3 x4 (ix3 (0 : Fin 1) r l)
    = kernelRun0_A.sl.v874 (F := Ideal) c arg1 harg1 arg2 harg2 arg3 harg3 arg4 harg4 arg5 harg5 arg11 x0 x1 x2 x3 x4 (ix3 (0 : Fin 1) r l) + NormMath.gradW (fun k => x0 (ix2 (⟨384 + r.val, by omega⟩ : Fin 512) k)) (fun k => x2 (ix2 (⟨384 + r.val, by omega⟩ : Fin 512) k)) l := by
  unfold kernelRun0_A.sl.v944
  unfold kernelRun0_A.sl.HS0_27
  rw [View.readCov_skip _ _ _ _ _ (by decide)]
  unfold kernelRun0_A.sl.HS0_26
  rw [View.readCov_cons_toLoadRect]
  pointwise [View.readAt_eq_ld, harg1.read_unread, harg2.read_unread, harg3.read_unread, harg4.read_unread, harg5.read_unread]
  rfl

/-- The running sums of part 0 after 14 stretches of rows. -/
theorem acc0_14 (r : Fin 32) (l : Fin 1024) : kernelRun0_A.sl.v1014 (F := Ideal) c arg1 harg1 arg2 harg2 arg3 harg3 arg4 harg4 arg5 harg5 arg11 x0 x1 x2 x3 x4 (ix3 (0 : Fin 1) r l)
    = kernelRun0_A.sl.v944 (F := Ideal) c arg1 harg1 arg2 harg2 arg3 harg3 arg4 harg4 arg5 harg5 arg11 x0 x1 x2 x3 x4 (ix3 (0 : Fin 1) r l) + NormMath.gradW (fun k => x0 (ix2 (⟨416 + r.val, by omega⟩ : Fin 512) k)) (fun k => x2 (ix2 (⟨416 + r.val, by omega⟩ : Fin 512) k)) l := by
  unfold kernelRun0_A.sl.v1014
  unfold kernelRun0_A.sl.HS0_29
  rw [View.readCov_skip _ _ _ _ _ (by decide)]
  unfold kernelRun0_A.sl.HS0_28
  rw [View.readCov_cons_toLoadRect]
  pointwise [View.readAt_eq_ld, harg1.read_unread, harg2.read_unread, harg3.read_unread, harg4.read_unread, harg5.read_unread]
  rfl

/-- The running sums of part 0 after 15 stretches of rows. -/
theorem acc0_15 (r : Fin 32) (l : Fin 1024) : kernelRun0_A.sl.v1084 (F := Ideal) c arg1 harg1 arg2 harg2 arg3 harg3 arg4 harg4 arg5 harg5 arg11 x0 x1 x2 x3 x4 (ix3 (0 : Fin 1) r l)
    = kernelRun0_A.sl.v1014 (F := Ideal) c arg1 harg1 arg2 harg2 arg3 harg3 arg4 harg4 arg5 harg5 arg11 x0 x1 x2 x3 x4 (ix3 (0 : Fin 1) r l) + NormMath.gradW (fun k => x0 (ix2 (⟨448 + r.val, by omega⟩ : Fin 512) k)) (fun k => x2 (ix2 (⟨448 + r.val, by omega⟩ : Fin 512) k)) l := by
  unfold kernelRun0_A.sl.v1084
  unfold kernelRun0_A.sl.HS0_31
  rw [View.readCov_skip _ _ _ _ _ (by decide)]
  unfold kernelRun0_A.sl.HS0_30
  rw [View.readCov_cons_toLoadRect]
  pointwise [View.readAt_eq_ld, harg1.read_unread, harg2.read_unread, harg3.read_unread, harg4.read_unread, harg5.read_unread]
  rfl

/-- The running sums of part 0 after 16 stretches of rows. -/
theorem acc0_16 (r : Fin 32) (l : Fin 1024) : kernelRun0_A.sl.v1129 (F := Ideal) c arg1 harg1 arg2 harg2 arg3 harg3 arg4 harg4 arg5 harg5 arg11 x0 x1 x2 x3 x4 (ix3 (0 : Fin 1) r l)
    = kernelRun0_A.sl.v1084 (F := Ideal) c arg1 harg1 arg2 harg2 arg3 harg3 arg4 harg4 arg5 harg5 arg11 x0 x1 x2 x3 x4 (ix3 (0 : Fin 1) r l) + NormMath.gradW (fun k => x0 (ix2 (⟨480 + r.val, by omega⟩ : Fin 512) k)) (fun k => x2 (ix2 (⟨480 + r.val, by omega⟩ : Fin 512) k)) l := by
  unfold kernelRun0_A.sl.v1129
  unfold kernelRun0_A.sl.HS0_33
  rw [View.readCov_skip _ _ _ _ _ (by decide)]
  unfold kernelRun0_A.sl.HS0_32
  rw [View.readCov_cons_toLoadRect]
  pointwise [View.readAt_eq_ld, harg1.read_unread, harg2.read_unread, harg3.read_unread, harg4.read_unread, harg5.read_unread]
  rfl

/-- The running sums of part 1 start at zero. -/
theorem acc1_0 (r : Fin 32) (l : Fin 1024) : kernelRun0_A.sl.v68 (F := Ideal) c arg1 harg1 arg3 harg3 arg11 x0 x2 (ix3 (0 : Fin 1) r l) = 0 := by
  unfold kernelRun0_A.sl.v68 kernelRun0_A.sl.HS0_2
  rw [View.readCov_skip _ _ _ _ _ (by decide)]
  unfold kernelRun0_A.sl.HS0_1
  refine (congrFun (View.readCov_fill arg11.view _ _ [] _ (by intro a; fin_cases a <;> rfl)) _).trans ?_
  pointwise [View.ld_apply, k0_pay2]

/-- The running sums of part 1 after 1 stretches of rows. -/
theorem acc1_1 (r : Fin 32) (l : Fin 1024) : kernelRun0_A.sl.v138 (F := Ideal) c arg1 harg1 arg2 harg2 arg3 harg3 arg4 harg4 arg5 harg5 arg11 x0 x1 x2 x3 x4 (ix3 (0 : Fin 1) r l)
    = kernelRun0_A.sl.v68 (F := Ideal) c arg1 harg1 arg3 harg3 arg11 x0 x2 (ix3 (0 : Fin 1) r l) + NormMath.gradW (fun k => x4 (ix2 (⟨0 + r.val, by omega⟩ : Fin 512) k)) (fun k => dA x0 x1 x2 x3 (⟨0 + r.val, by omega⟩ : Fin 512) k) l := by
  unfold kernelRun0_A.sl.v138
  unfold kernelRun0_A.sl.HS0_4
  rw [View.readCov_skip _ _ _ _ _ (by decide)]
  unfold kernelRun0_A.sl.HS0_3
  rw [View.readCov_cons_toLoadRect]
  pointwise [View.readAt_eq_ld, harg1.read_unread, harg2.read_unread, harg3.read_unread, harg4.read_unread, harg5.read_unread]
  rfl

/-- The running sums of part 1 after 2 stretches of rows. -/
theorem acc1_2 (r : Fin 32) (l : Fin 1024) : kernelRun0_A.sl.v208 (F := Ideal) c arg1 harg1 arg2 harg2 arg3 harg3 arg4 harg4 arg5 harg5 arg11 x0 x1 x2 x3 x4 (ix3 (0 : Fin 1) r l)
    = kernelRun0_A.sl.v138 (F := Ideal) c arg1 harg1 arg2 harg2 arg3 harg3 arg4 harg4 arg5 harg5 arg11 x0 x1 x2 x3 x4 (ix3 (0 : Fin 1) r l) + NormMath.gradW (fun k => x4 (ix2 (⟨32 + r.val, by omega⟩ : Fin 512) k)) (fun k => dA x0 x1 x2 x3 (⟨32 + r.val, by omega⟩ : Fin 512) k) l := by
  unfold kernelRun0_A.sl.v208
  unfold kernelRun0_A.sl.HS0_6
  rw [View.readCov_skip _ _ _ _ _ (by decide)]
  unfold kernelRun0_A.sl.HS0_5
  rw [View.readCov_cons_toLoadRect]
  pointwise [View.readAt_eq_ld, harg1.read_unread, harg2.read_unread, harg3.read_unread, harg4.read_unread, harg5.read_unread]
  rfl

/-- The running sums of part 1 after 3 stretches of rows. -/
theorem acc1_3 (r : Fin 32) (l : Fin 1024) : kernelRun0_A.sl.v278 (F := Ideal) c arg1 harg1 arg2 harg2 arg3 harg3 arg4 harg4 arg5 harg5 arg11 x0 x1 x2 x3 x4 (ix3 (0 : Fin 1) r l)
    = kernelRun0_A.sl.v208 (F := Ideal) c arg1 harg1 arg2 harg2 arg3 harg3 arg4 harg4 arg5 harg5 arg11 x0 x1 x2 x3 x4 (ix3 (0 : Fin 1) r l) + NormMath.gradW (fun k => x4 (ix2 (⟨64 + r.val, by omega⟩ : Fin 512) k)) (fun k => dA x0 x1 x2 x3 (⟨64 + r.val, by omega⟩ : Fin 512) k) l := by
  unfold kernelRun0_A.sl.v278
  unfold kernelRun0_A.sl.HS0_8
  rw [View.readCov_skip _ _ _ _ _ (by decide)]
  unfold kernelRun0_A.sl.HS0_7
  rw [View.readCov_cons_toLoadRect]
  pointwise [View.readAt_eq_ld, harg1.read_unread, harg2.read_unread, harg3.read_unread, harg4.read_unread, harg5.read_unread]
  rfl

/-- The running sums of part 1 after 4 stretches of rows. -/
theorem acc1_4 (r : Fin 32) (l : Fin 1024) : kernelRun0_A.sl.v348 (F := Ideal) c arg1 harg1 arg2 harg2 arg3 harg3 arg4 harg4 arg5 harg5 arg11 x0 x1 x2 x3 x4 (ix3 (0 : Fin 1) r l)
    = kernelRun0_A.sl.v278 (F := Ideal) c arg1 harg1 arg2 harg2 arg3 harg3 arg4 harg4 arg5 harg5 arg11 x0 x1 x2 x3 x4 (ix3 (0 : Fin 1) r l) + NormMath.gradW (fun k => x4 (ix2 (⟨96 + r.val, by omega⟩ : Fin 512) k)) (fun k => dA x0 x1 x2 x3 (⟨96 + r.val, by omega⟩ : Fin 512) k) l := by
  unfold kernelRun0_A.sl.v348
  unfold kernelRun0_A.sl.HS0_10
  rw [View.readCov_skip _ _ _ _ _ (by decide)]
  unfold kernelRun0_A.sl.HS0_9
  rw [View.readCov_cons_toLoadRect]
  pointwise [View.readAt_eq_ld, harg1.read_unread, harg2.read_unread, harg3.read_unread, harg4.read_unread, harg5.read_unread]
  rfl

/-- The running sums of part 1 after 5 stretches of rows. -/
theorem acc1_5 (r : Fin 32) (l : Fin 1024) : kernelRun0_A.sl.v418 (F := Ideal) c arg1 harg1 arg2 harg2 arg3 harg3 arg4 harg4 arg5 harg5 arg11 x0 x1 x2 x3 x4 (ix3 (0 : Fin 1) r l)
    = kernelRun0_A.sl.v348 (F := Ideal) c arg1 harg1 arg2 harg2 arg3 harg3 arg4 harg4 arg5 harg5 arg11 x0 x1 x2 x3 x4 (ix3 (0 : Fin 1) r l) + NormMath.gradW (fun k => x4 (ix2 (⟨128 + r.val, by omega⟩ : Fin 512) k)) (fun k => dA x0 x1 x2 x3 (⟨128 + r.val, by omega⟩ : Fin 512) k) l := by
  unfold kernelRun0_A.sl.v418
  unfold kernelRun0_A.sl.HS0_12
  rw [View.readCov_skip _ _ _ _ _ (by decide)]
  unfold kernelRun0_A.sl.HS0_11
  rw [View.readCov_cons_toLoadRect]
  pointwise [View.readAt_eq_ld, harg1.read_unread, harg2.read_unread, harg3.read_unread, harg4.read_unread, harg5.read_unread]
  rfl

/-- The running sums of part 1 after 6 stretches of rows. -/
theorem acc1_6 (r : Fin 32) (l : Fin 1024) : kernelRun0_A.sl.v488 (F := Ideal) c arg1 harg1 arg2 harg2 arg3 harg3 arg4 harg4 arg5 harg5 arg11 x0 x1 x2 x3 x4 (ix3 (0 : Fin 1) r l)
    = kernelRun0_A.sl.v418 (F := Ideal) c arg1 harg1 arg2 harg2 arg3 harg3 arg4 harg4 arg5 harg5 arg11 x0 x1 x2 x3 x4 (ix3 (0 : Fin 1) r l) + NormMath.gradW (fun k => x4 (ix2 (⟨160 + r.val, by omega⟩ : Fin 512) k)) (fun k => dA x0 x1 x2 x3 (⟨160 + r.val, by omega⟩ : Fin 512) k) l := by
  unfold kernelRun0_A.sl.v488
  unfold kernelRun0_A.sl.HS0_14
  rw [View.readCov_skip _ _ _ _ _ (by decide)]
  unfold kernelRun0_A.sl.HS0_13
  rw [View.readCov_cons_toLoadRect]
  pointwise [View.readAt_eq_ld, harg1.read_unread, harg2.read_unread, harg3.read_unread, harg4.read_unread, harg5.read_unread]
  rfl

/-- The running sums of part 1 after 7 stretches of rows. -/
theorem acc1_7 (r : Fin 32) (l : Fin 1024) : kernelRun0_A.sl.v558 (F := Ideal) c arg1 harg1 arg2 harg2 arg3 harg3 arg4 harg4 arg5 harg5 arg11 x0 x1 x2 x3 x4 (ix3 (0 : Fin 1) r l)
    = kernelRun0_A.sl.v488 (F := Ideal) c arg1 harg1 arg2 harg2 arg3 harg3 arg4 harg4 arg5 harg5 arg11 x0 x1 x2 x3 x4 (ix3 (0 : Fin 1) r l) + NormMath.gradW (fun k => x4 (ix2 (⟨192 + r.val, by omega⟩ : Fin 512) k)) (fun k => dA x0 x1 x2 x3 (⟨192 + r.val, by omega⟩ : Fin 512) k) l := by
  unfold kernelRun0_A.sl.v558
  unfold kernelRun0_A.sl.HS0_16
  rw [View.readCov_skip _ _ _ _ _ (by decide)]
  unfold kernelRun0_A.sl.HS0_15
  rw [View.readCov_cons_toLoadRect]
  pointwise [View.readAt_eq_ld, harg1.read_unread, harg2.read_unread, harg3.read_unread, harg4.read_unread, harg5.read_unread]
  rfl

/-- The running sums of part 1 after 8 stretches of rows. -/
theorem acc1_8 (r : Fin 32) (l : Fin 1024) : kernelRun0_A.sl.v628 (F := Ideal) c arg1 harg1 arg2 harg2 arg3 harg3 arg4 harg4 arg5 harg5 arg11 x0 x1 x2 x3 x4 (ix3 (0 : Fin 1) r l)
    = kernelRun0_A.sl.v558 (F := Ideal) c arg1 harg1 arg2 harg2 arg3 harg3 arg4 harg4 arg5 harg5 arg11 x0 x1 x2 x3 x4 (ix3 (0 : Fin 1) r l) + NormMath.gradW (fun k => x4 (ix2 (⟨224 + r.val, by omega⟩ : Fin 512) k)) (fun k => dA x0 x1 x2 x3 (⟨224 + r.val, by omega⟩ : Fin 512) k) l := by
  unfold kernelRun0_A.sl.v628
  unfold kernelRun0_A.sl.HS0_18
  rw [View.readCov_skip _ _ _ _ _ (by decide)]
  unfold kernelRun0_A.sl.HS0_17
  rw [View.readCov_cons_toLoadRect]
  pointwise [View.readAt_eq_ld, harg1.read_unread, harg2.read_unread, harg3.read_unread, harg4.read_unread, harg5.read_unread]
  rfl

/-- The running sums of part 1 after 9 stretches of rows. -/
theorem acc1_9 (r : Fin 32) (l : Fin 1024) : kernelRun0_A.sl.v698 (F := Ideal) c arg1 harg1 arg2 harg2 arg3 harg3 arg4 harg4 arg5 harg5 arg11 x0 x1 x2 x3 x4 (ix3 (0 : Fin 1) r l)
    = kernelRun0_A.sl.v628 (F := Ideal) c arg1 harg1 arg2 harg2 arg3 harg3 arg4 harg4 arg5 harg5 arg11 x0 x1 x2 x3 x4 (ix3 (0 : Fin 1) r l) + NormMath.gradW (fun k => x4 (ix2 (⟨256 + r.val, by omega⟩ : Fin 512) k)) (fun k => dA x0 x1 x2 x3 (⟨256 + r.val, by omega⟩ : Fin 512) k) l := by
  unfold kernelRun0_A.sl.v698
  unfold kernelRun0_A.sl.HS0_20
  rw [View.readCov_skip _ _ _ _ _ (by decide)]
  unfold kernelRun0_A.sl.HS0_19
  rw [View.readCov_cons_toLoadRect]
  pointwise [View.readAt_eq_ld, harg1.read_unread, harg2.read_unread, harg3.read_unread, harg4.read_unread, harg5.read_unread]
  rfl

/-- The running sums of part 1 after 10 stretches of rows. -/
theorem acc1_10 (r : Fin 32) (l : Fin 1024) : kernelRun0_A.sl.v768 (F := Ideal) c arg1 harg1 arg2 harg2 arg3 harg3 arg4 harg4 arg5 harg5 arg11 x0 x1 x2 x3 x4 (ix3 (0 : Fin 1) r l)
    = kernelRun0_A.sl.v698 (F := Ideal) c arg1 harg1 arg2 harg2 arg3 harg3 arg4 harg4 arg5 harg5 arg11 x0 x1 x2 x3 x4 (ix3 (0 : Fin 1) r l) + NormMath.gradW (fun k => x4 (ix2 (⟨288 + r.val, by omega⟩ : Fin 512) k)) (fun k => dA x0 x1 x2 x3 (⟨288 + r.val, by omega⟩ : Fin 512) k) l := by
  unfold kernelRun0_A.sl.v768
  unfold kernelRun0_A.sl.HS0_22
  rw [View.readCov_skip _ _ _ _ _ (by decide)]
  unfold kernelRun0_A.sl.HS0_21
  rw [View.readCov_cons_toLoadRect]
  pointwise [View.readAt_eq_ld, harg1.read_unread, harg2.read_unread, harg3.read_unread, harg4.read_unread, harg5.read_unread]
  rfl

/-- The running sums of part 1 after 11 stretches of rows. -/
theorem acc1_11 (r : Fin 32) (l : Fin 1024) : kernelRun0_A.sl.v838 (F := Ideal) c arg1 harg1 arg2 harg2 arg3 harg3 arg4 harg4 arg5 harg5 arg11 x0 x1 x2 x3 x4 (ix3 (0 : Fin 1) r l)
    = kernelRun0_A.sl.v768 (F := Ideal) c arg1 harg1 arg2 harg2 arg3 harg3 arg4 harg4 arg5 harg5 arg11 x0 x1 x2 x3 x4 (ix3 (0 : Fin 1) r l) + NormMath.gradW (fun k => x4 (ix2 (⟨320 + r.val, by omega⟩ : Fin 512) k)) (fun k => dA x0 x1 x2 x3 (⟨320 + r.val, by omega⟩ : Fin 512) k) l := by
  unfold kernelRun0_A.sl.v838
  unfold kernelRun0_A.sl.HS0_24
  rw [View.readCov_skip _ _ _ _ _ (by decide)]
  unfold kernelRun0_A.sl.HS0_23
  rw [View.readCov_cons_toLoadRect]
  pointwise [View.readAt_eq_ld, harg1.read_unread, harg2.read_unread, harg3.read_unread, harg4.read_unread, harg5.read_unread]
  rfl

/-- The running sums of part 1 after 12 stretches of rows. -/
theorem acc1_12 (r : Fin 32) (l : Fin 1024) : kernelRun0_A.sl.v908 (F := Ideal) c arg1 harg1 arg2 harg2 arg3 harg3 arg4 harg4 arg5 harg5 arg11 x0 x1 x2 x3 x4 (ix3 (0 : Fin 1) r l)
    = kernelRun0_A.sl.v838 (F := Ideal) c arg1 harg1 arg2 harg2 arg3 harg3 arg4 harg4 arg5 harg5 arg11 x0 x1 x2 x3 x4 (ix3 (0 : Fin 1) r l) + NormMath.gradW (fun k => x4 (ix2 (⟨352 + r.val, by omega⟩ : Fin 512) k)) (fun k => dA x0 x1 x2 x3 (⟨352 + r.val, by omega⟩ : Fin 512) k) l := by
  unfold kernelRun0_A.sl.v908
  unfold kernelRun0_A.sl.HS0_26
  rw [View.readCov_skip _ _ _ _ _ (by decide)]
  unfold kernelRun0_A.sl.HS0_25
  rw [View.readCov_cons_toLoadRect]
  pointwise [View.readAt_eq_ld, harg1.read_unread, harg2.read_unread, harg3.read_unread, harg4.read_unread, harg5.read_unread]
  rfl

/-- The running sums of part 1 after 13 stretches of rows. -/
theorem acc1_13 (r : Fin 32) (l : Fin 1024) : kernelRun0_A.sl.v978 (F := Ideal) c arg1 harg1 arg2 harg2 arg3 harg3 arg4 harg4 arg5 harg5 arg11 x0 x1 x2 x3 x4 (ix3 (0 : Fin 1) r l)
    = kernelRun0_A.sl.v908 (F := Ideal) c arg1 harg1 arg2 harg2 arg3 harg3 arg4 harg4 arg5 harg5 arg11 x0 x1 x2 x3 x4 (ix3 (0 : Fin 1) r l) + NormMath.gradW (fun k => x4 (ix2 (⟨384 + r.val, by omega⟩ : Fin 512) k)) (fun k => dA x0 x1 x2 x3 (⟨384 + r.val, by omega⟩ : Fin 512) k) l := by
  unfold kernelRun0_A.sl.v978
  unfold kernelRun0_A.sl.HS0_28
  rw [View.readCov_skip _ _ _ _ _ (by decide)]
  unfold kernelRun0_A.sl.HS0_27
  rw [View.readCov_cons_toLoadRect]
  pointwise [View.readAt_eq_ld, harg1.read_unread, harg2.read_unread, harg3.read_unread, harg4.read_unread, harg5.read_unread]
  rfl

/-- The running sums of part 1 after 14 stretches of rows. -/
theorem acc1_14 (r : Fin 32) (l : Fin 1024) : kernelRun0_A.sl.v1048 (F := Ideal) c arg1 harg1 arg2 harg2 arg3 harg3 arg4 harg4 arg5 harg5 arg11 x0 x1 x2 x3 x4 (ix3 (0 : Fin 1) r l)
    = kernelRun0_A.sl.v978 (F := Ideal) c arg1 harg1 arg2 harg2 arg3 harg3 arg4 harg4 arg5 harg5 arg11 x0 x1 x2 x3 x4 (ix3 (0 : Fin 1) r l) + NormMath.gradW (fun k => x4 (ix2 (⟨416 + r.val, by omega⟩ : Fin 512) k)) (fun k => dA x0 x1 x2 x3 (⟨416 + r.val, by omega⟩ : Fin 512) k) l := by
  unfold kernelRun0_A.sl.v1048
  unfold kernelRun0_A.sl.HS0_30
  rw [View.readCov_skip _ _ _ _ _ (by decide)]
  unfold kernelRun0_A.sl.HS0_29
  rw [View.readCov_cons_toLoadRect]
  pointwise [View.readAt_eq_ld, harg1.read_unread, harg2.read_unread, harg3.read_unread, harg4.read_unread, harg5.read_unread]
  rfl

/-- The running sums of part 1 after 15 stretches of rows. -/
theorem acc1_15 (r : Fin 32) (l : Fin 1024) : kernelRun0_A.sl.v1118 (F := Ideal) c arg1 harg1 arg2 harg2 arg3 harg3 arg4 harg4 arg5 harg5 arg11 x0 x1 x2 x3 x4 (ix3 (0 : Fin 1) r l)
    = kernelRun0_A.sl.v1048 (F := Ideal) c arg1 harg1 arg2 harg2 arg3 harg3 arg4 harg4 arg5 harg5 arg11 x0 x1 x2 x3 x4 (ix3 (0 : Fin 1) r l) + NormMath.gradW (fun k => x4 (ix2 (⟨448 + r.val, by omega⟩ : Fin 512) k)) (fun k => dA x0 x1 x2 x3 (⟨448 + r.val, by omega⟩ : Fin 512) k) l := by
  unfold kernelRun0_A.sl.v1118
  unfold kernelRun0_A.sl.HS0_32
  rw [View.readCov_skip _ _ _ _ _ (by decide)]
  unfold kernelRun0_A.sl.HS0_31
  rw [View.readCov_cons_toLoadRect]
  pointwise [View.readAt_eq_ld, harg1.read_unread, harg2.read_unread, harg3.read_unread, harg4.read_unread, harg5.read_unread]
  rfl

/-- The running sums of part 1 after 16 stretches of rows. -/
theorem acc1_16 (r : Fin 32) (l : Fin 1024) : kernelRun0_A.sl.v1137 (F := Ideal) c arg1 harg1 arg2 harg2 arg3 harg3 arg4 harg4 arg5 harg5 arg11 x0 x1 x2 x3 x4 (ix3 (0 : Fin 1) r l)
    = kernelRun0_A.sl.v1118 (F := Ideal) c arg1 harg1 arg2 harg2 arg3 harg3 arg4 harg4 arg5 harg5 arg11 x0 x1 x2 x3 x4 (ix3 (0 : Fin 1) r l) + NormMath.gradW (fun k => x4 (ix2 (⟨480 + r.val, by omega⟩ : Fin 512) k)) (fun k => dA x0 x1 x2 x3 (⟨480 + r.val, by omega⟩ : Fin 512) k) l := by
  unfold kernelRun0_A.sl.v1137
  unfold kernelRun0_A.sl.HS0_33
  rw [View.readCov_cons_toLoadRect]
  pointwise [View.readAt_eq_ld, harg1.read_unread, harg2.read_unread, harg3.read_unread, harg4.read_unread, harg5.read_unread]
  rfl

/-- What running sum 0 holds at the end. -/
theorem total0 (r : Fin 32) (l : Fin 1024) : kernelRun0_A.sl.v1129 (F := Ideal) c arg1 harg1 arg2 harg2 arg3 harg3 arg4 harg4 arg5 harg5 arg11 x0 x1 x2 x3 x4 (ix3 (0 : Fin 1) r l) = ∑ s : Fin 16, NormMath.gradW (fun k => x0 (ix2 (⟨32 * s.val + r.val, by omega⟩ : Fin 512) k)) (fun k => x2 (ix2 (⟨32 * s.val + r.val, by omega⟩ : Fin 512) k)) l := by
  rw [acc0_16, acc0_15, acc0_14, acc0_13, acc0_12, acc0_11, acc0_10, acc0_9, acc0_8, acc0_7, acc0_6, acc0_5, acc0_4, acc0_3, acc0_2, acc0_1, acc0_0]
  simp only [Fin.sum_univ_castSucc, Fin.sum_univ_zero]
  rfl

/-- What running sum 1 holds at the end. -/
theorem total1 (r : Fin 32) (l : Fin 1024) : kernelRun0_A.sl.v1137 (F := Ideal) c arg1 harg1 arg2 harg2 arg3 harg3 arg4 harg4 arg5 harg5 arg11 x0 x1 x2 x3 x4 (ix3 (0 : Fin 1) r l) = ∑ s : Fin 16, NormMath.gradW (fun k => x4 (ix2 (⟨32 * s.val + r.val, by omega⟩ : Fin 512) k)) (fun k => dA x0 x1 x2 x3 (⟨32 * s.val + r.val, by omega⟩ : Fin 512) k) l := by
  rw [acc1_16, acc1_15, acc1_14, acc1_13, acc1_12, acc1_11, acc1_10, acc1_9, acc1_8, acc1_7, acc1_6, acc1_5, acc1_4, acc1_3, acc1_2, acc1_1, acc1_0]
  simp only [Fin.sum_univ_castSucc, Fin.sum_univ_zero]
  rfl

end Cert.Rms2Ideal.Block

end
-- ==== Proof.Rms2Rows.lean ====
/-
  What one grid point of the chained norms' gradient leaves in its first gradient block, row by row.
-/
module

public import proofs.«01_k».proof.Proof.Rms2Sums
public import proofs.«01_k».proof.Proof.Gen.Rms2Ideal.Value
public import Idealize.ShloMosaic.Lib.Pipeline.ReadBack
public import Idealize.ShloMosaic.Lib.Pipeline.ValueKit.Tiles
public import Idealize.ShloMosaic.Lib.Pointwise
public import Idealize.ShloMosaic.Lib.Tactic

@[expose] public section

set_option maxRecDepth 16384

noncomputable section

namespace Cert.Rms2Ideal.Block

open Cert.Rms2Ideal Cert.Rms2Ideal.Gen Idealize.ShloMosaic Idealize.ShloMosaic.TcCoe Idealize.SL.Sem
open Idealize.ShloMosaic.Pipeline (Dat)

attribute [local pointwise] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181 k0_pay182 k0_pay183 k0_pay184 k0_pay185 k0_pay186 k0_pay187 k0_pay188 k0_pay189 k0_pay190 k0_pay191 k0_pay192 k0_pay193 k0_pay194 k0_pay195 k0_pay196 k0_pay197 k0_pay198 kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64 kernelRun0_A.sl.r_65 kernelRun0_A.sl.r_66 kernelRun0_A.sl.r_67 kernelRun0_A.sl.r_68 kernelRun0_A.sl.r_69 kernelRun0_A.sl.r_70 kernelRun0_A.sl.r_71 kernelRun0_A.sl.r_72 kernelRun0_A.sl.r_73 kernelRun0_A.sl.r_74 kernelRun0_A.sl.r_75 kernelRun0_A.sl.r_76 kernelRun0_A.sl.r_77 kernelRun0_A.sl.r_78 kernelRun0_A.sl.r_79 kernelRun0_A.sl.r_80 kernelRun0_A.sl.r_81 kernelRun0_B.sl.r_81 kernelRun0_B.sl.r kernelRun0_B.sl.r_1 kernelRun0_B.sl.r_2 kernelRun0_B.sl.r_3 kernelRun0_B.sl.r_4 kernelRun0_B.sl.r_5 kernelRun0_B.sl.r_6 kernelRun0_B.sl.r_7 kernelRun0_B.sl.r_8 kernelRun0_B.sl.r_9 kernelRun0_B.sl.r_10 kernelRun0_B.sl.r_11 kernelRun0_B.sl.r_12 kernelRun0_B.sl.r_13 kernelRun0_B.sl.r_14 kernelRun0_B.sl.r_15 kernelRun0_B.sl.r_16 kernelRun0_B.sl.r_17 kernelRun0_B.sl.r_18 kernelRun0_B.sl.r_19 kernelRun0_B.sl.r_20 kernelRun0_B.sl.r_21 kernelRun0_B.sl.r_22 kernelRun0_B.sl.r_23 kernelRun0_B.sl.r_24 kernelRun0_B.sl.r_25 kernelRun0_B.sl.r_26 kernelRun0_B.sl.r_27 kernelRun0_B.sl.r_28 kernelRun0_B.sl.r_29 kernelRun0_B.sl.r_30 kernelRun0_B.sl.r_31 kernelRun0_B.sl.r_32 kernelRun0_B.sl.r_33 kernelRun0_B.sl.r_34 kernelRun0_B.sl.r_35 kernelRun0_B.sl.r_36 kernelRun0_B.sl.r_37 kernelRun0_B.sl.r_38 kernelRun0_B.sl.r_39 kernelRun0_B.sl.r_40 kernelRun0_B.sl.r_41 kernelRun0_B.sl.r_42 kernelRun0_B.sl.r_43 kernelRun0_B.sl.r_44 kernelRun0_B.sl.r_45 kernelRun0_B.sl.r_46 kernelRun0_B.sl.r_47 kernelRun0_B.sl.r_48 kernelRun0_B.sl.r_49 kernelRun0_B.sl.r_50 kernelRun0_B.sl.r_51 kernelRun0_B.sl.r_52 kernelRun0_B.sl.r_53 kernelRun0_B.sl.r_54 kernelRun0_B.sl.r_55 kernelRun0_B.sl.r_56 kernelRun0_B.sl.r_57 kernelRun0_B.sl.r_58 kernelRun0_B.sl.r_59 kernelRun0_B.sl.r_60 kernelRun0_B.sl.r_61 kernelRun0_B.sl.r_62 kernelRun0_B.sl.r_63 kernelRun0_B.sl.r_64 kernelRun0_B.sl.r_65 kernelRun0_B.sl.r_66 kernelRun0_B.sl.r_67 kernelRun0_B.sl.r_68 kernelRun0_B.sl.r_69 kernelRun0_B.sl.r_70 kernelRun0_B.sl.r_71 kernelRun0_B.sl.r_72 kernelRun0_B.sl.r_73 kernelRun0_B.sl.r_74 kernelRun0_B.sl.r_75 kernelRun0_B.sl.r_76 kernelRun0_B.sl.r_77 kernelRun0_B.sl.r_78 kernelRun0_B.sl.r_79 kernelRun0_B.sl.r_80

/-- A block from its rows. -/
def blockOf (G : Fin 512 → Fin 1024 → EReal) (y : S512x1024.Idx) : EReal := G (y 0) (y 1)

/-- A row of a stretch of 32 rows is a row of the block. -/
theorem blockOf_stretch (G : Fin 512 → Fin 1024 → EReal) (o : ℕ) (inb : ∀ a, (![o, 0] : Fin 2 → ℕ) a + (![32, 1024] : Fin 2 → ℕ) a ≤ S512x1024.size a)
    (z0 : Fin 32) (z1 : Fin 1024) (h : o + z0.val < 512) :
    blockOf G ((Rect.unit (s := S512x1024) ![o, 0] ![32, 1024] inb).emb (ix2 z0 z1)) = G ⟨o + z0.val, h⟩ z1 := by
  unfold blockOf
  congr 1
  · exact Fin.ext (by show o + 1 * z0.val = o + z0.val; omega)
  · exact Fin.ext (by show 0 + 1 * z1.val = z1.val; omega)

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2x32x1024 .f32) (harg11 : arg11.IsWhole)
    (x0 : Vec Ideal S512x1024 .f32) (x1 : Vec Ideal S1x1024 .f32) (x2 : Vec Ideal S512x1024 .bf16) (x3 : Vec Ideal S512x1024 .f32) (x4 : Vec Ideal S512x1024 .bf16) (x5 : Vec Ideal S1x1024 .f32)

/-- Every stretch of rows stored in output 6 at the first point is that stretch of the gradient. -/
theorem piecesA6 (hc0 : cond0_0 i) : View.PiecesOf (Val := Elt Ideal) (blockOf (dA x0 x1 x2 x3)) (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).1 := by
  unfold kernelRun0_A
  dsimp only
  refine ⟨?_, ?_, ?_, ?_, ?_, ?_, ?_, ?_, ?_, ?_, ?_, ?_, ?_, ?_, ?_, ?_, trivial⟩
  all_goals
    intro (z : S32x1024.Idx)
    idx_vars z
    refine Eq.trans ?_ (blockOf_stretch _ _ _ z0 z1 (by omega)).symm
    pointwise [View.readAt_eq_ld, harg1.read_unread, harg2.read_unread, harg3.read_unread, harg4.read_unread, harg5.read_unread, harg6.read_unread]
    rfl

/-- Output 6 at the first point. -/
theorem outA6 (hc0 : cond0_0 i) : out0_A_6 (F := Ideal) c i arg1 harg1 arg2 harg2 arg3 harg3 arg4 harg4 arg5 harg5 arg6 harg6 arg7 harg7 arg8 harg8 arg9 harg9 arg10 harg10 arg11 harg11 hc0 x0 x1 x2 x3 x4 x5 = blockOf (dA x0 x1 x2 x3) := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 arg11 harg11 hc0 x0 x1 x2 x3 x4 x5)]
  funext y
  have h := View.canon_append_of_piecesOf (Val := Elt Ideal) _ [] _ (piecesA6 c i arg1 harg1 arg2 harg2 arg3 harg3 arg4 harg4 arg5 harg5 arg6 harg6 arg7 harg7 arg8 harg8 arg9 harg9 arg10 harg10 arg11 harg11 x0 x1 x2 x3 x4 x5 hc0) y
    (cover0_A_6 (F := Ideal) c i arg1 harg1 arg2 harg2 arg3 harg3 arg4 harg4 arg5 harg5 arg6 harg6 arg7 harg7 arg8 harg8 arg9 harg9 arg10 harg10 arg11 harg11 hc0 x0 x1 x2 x3 x4 x5 y)
  rwa [List.append_nil] at h

/-- Every stretch of rows stored in output 6 at a later point is that stretch of the gradient. -/
theorem piecesB6 (hc0 : ¬cond0_0 i) (xo8 xo9 : Vec Ideal S1x1024 .f32) : View.PiecesOf (Val := Elt Ideal) (blockOf (dA x0 x1 x2 x3)) (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9).1 := by
  unfold kernelRun0_B
  dsimp only
  refine ⟨?_, ?_, ?_, ?_, ?_, ?_, ?_, ?_, ?_, ?_, ?_, ?_, ?_, ?_, ?_, ?_, trivial⟩
  all_goals
    intro (z : S32x1024.Idx)
    idx_vars z
    refine Eq.trans ?_ (blockOf_stretch _ _ _ z0 z1 (by omega)).symm
    pointwise [View.readAt_eq_ld, harg1.read_unread, harg2.read_unread, harg3.read_unread, harg4.read_unread, harg5.read_unread, harg6.read_unread]
    rfl

/-- Output 6 at a later point. -/
theorem outB6 (hc0 : ¬cond0_0 i) (xo8 xo9 : Vec Ideal S1x1024 .f32) : out0_B_6 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 = blockOf (dA x0 x1 x2 x3) := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9)]
  funext y
  have h := View.canon_append_of_piecesOf (Val := Elt Ideal) _ [] _ (piecesB6 c i arg1 harg1 arg2 harg2 arg3 harg3 arg4 harg4 arg5 harg5 arg6 harg6 arg7 harg7 arg8 harg8 arg9 harg9 arg10 harg10 arg11 harg11 x0 x1 x2 x3 x4 x5 hc0 xo8 xo9) y
    (cover0_B_6 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 y)
  rwa [List.append_nil] at h

end Cert.Rms2Ideal.Block

end
-- ==== Proof.Rms2Rows2.lean ====
/-
  What one grid point of the chained norms' gradient leaves in its second gradient block, row by row.
-/
module

public import proofs.«01_k».proof.Proof.Rms2Rows
public import proofs.«01_k».proof.Proof.Gen.Rms2Ideal.Value
public import Idealize.ShloMosaic.Lib.Pipeline.ReadBack
public import Idealize.ShloMosaic.Lib.Pipeline.ValueKit.Tiles
public import Idealize.ShloMosaic.Lib.Pointwise
public import Idealize.ShloMosaic.Lib.Tactic

@[expose] public section

set_option maxRecDepth 16384

noncomputable section

namespace Cert.Rms2Ideal.Block

open Cert.Rms2Ideal Cert.Rms2Ideal.Gen Idealize.ShloMosaic Idealize.ShloMosaic.TcCoe Idealize.SL.Sem
open Idealize.ShloMosaic.Pipeline (Dat)

attribute [local pointwise] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181 k0_pay182 k0_pay183 k0_pay184 k0_pay185 k0_pay186 k0_pay187 k0_pay188 k0_pay189 k0_pay190 k0_pay191 k0_pay192 k0_pay193 k0_pay194 k0_pay195 k0_pay196 k0_pay197 k0_pay198 kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64 kernelRun0_A.sl.r_65 kernelRun0_A.sl.r_66 kernelRun0_A.sl.r_67 kernelRun0_A.sl.r_68 kernelRun0_A.sl.r_69 kernelRun0_A.sl.r_70 kernelRun0_A.sl.r_71 kernelRun0_A.sl.r_72 kernelRun0_A.sl.r_73 kernelRun0_A.sl.r_74 kernelRun0_A.sl.r_75 kernelRun0_A.sl.r_76 kernelRun0_A.sl.r_77 kernelRun0_A.sl.r_78 kernelRun0_A.sl.r_79 kernelRun0_A.sl.r_80 kernelRun0_A.sl.r_81 kernelRun0_B.sl.r_81 kernelRun0_B.sl.r kernelRun0_B.sl.r_1 kernelRun0_B.sl.r_2 kernelRun0_B.sl.r_3 kernelRun0_B.sl.r_4 kernelRun0_B.sl.r_5 kernelRun0_B.sl.r_6 kernelRun0_B.sl.r_7 kernelRun0_B.sl.r_8 kernelRun0_B.sl.r_9 kernelRun0_B.sl.r_10 kernelRun0_B.sl.r_11 kernelRun0_B.sl.r_12 kernelRun0_B.sl.r_13 kernelRun0_B.sl.r_14 kernelRun0_B.sl.r_15 kernelRun0_B.sl.r_16 kernelRun0_B.sl.r_17 kernelRun0_B.sl.r_18 kernelRun0_B.sl.r_19 kernelRun0_B.sl.r_20 kernelRun0_B.sl.r_21 kernelRun0_B.sl.r_22 kernelRun0_B.sl.r_23 kernelRun0_B.sl.r_24 kernelRun0_B.sl.r_25 kernelRun0_B.sl.r_26 kernelRun0_B.sl.r_27 kernelRun0_B.sl.r_28 kernelRun0_B.sl.r_29 kernelRun0_B.sl.r_30 kernelRun0_B.sl.r_31 kernelRun0_B.sl.r_32 kernelRun0_B.sl.r_33 kernelRun0_B.sl.r_34 kernelRun0_B.sl.r_35 kernelRun0_B.sl.r_36 kernelRun0_B.sl.r_37 kernelRun0_B.sl.r_38 kernelRun0_B.sl.r_39 kernelRun0_B.sl.r_40 kernelRun0_B.sl.r_41 kernelRun0_B.sl.r_42 kernelRun0_B.sl.r_43 kernelRun0_B.sl.r_44 kernelRun0_B.sl.r_45 kernelRun0_B.sl.r_46 kernelRun0_B.sl.r_47 kernelRun0_B.sl.r_48 kernelRun0_B.sl.r_49 kernelRun0_B.sl.r_50 kernelRun0_B.sl.r_51 kernelRun0_B.sl.r_52 kernelRun0_B.sl.r_53 kernelRun0_B.sl.r_54 kernelRun0_B.sl.r_55 kernelRun0_B.sl.r_56 kernelRun0_B.sl.r_57 kernelRun0_B.sl.r_58 kernelRun0_B.sl.r_59 kernelRun0_B.sl.r_60 kernelRun0_B.sl.r_61 kernelRun0_B.sl.r_62 kernelRun0_B.sl.r_63 kernelRun0_B.sl.r_64 kernelRun0_B.sl.r_65 kernelRun0_B.sl.r_66 kernelRun0_B.sl.r_67 kernelRun0_B.sl.r_68 kernelRun0_B.sl.r_69 kernelRun0_B.sl.r_70 kernelRun0_B.sl.r_71 kernelRun0_B.sl.r_72 kernelRun0_B.sl.r_73 kernelRun0_B.sl.r_74 kernelRun0_B.sl.r_75 kernelRun0_B.sl.r_76 kernelRun0_B.sl.r_77 kernelRun0_B.sl.r_78 kernelRun0_B.sl.r_79 kernelRun0_B.sl.r_80

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2x32x1024 .f32) (harg11 : arg11.IsWhole)
    (x0 : Vec Ideal S512x1024 .f32) (x1 : Vec Ideal S1x1024 .f32) (x2 : Vec Ideal S512x1024 .bf16) (x3 : Vec Ideal S512x1024 .f32) (x4 : Vec Ideal S512x1024 .bf16) (x5 : Vec Ideal S1x1024 .f32)

/-- Every stretch of rows stored in output 7 at the first point is that stretch of the gradient. -/
theorem piecesA7 (hc0 : cond0_0 i) : View.PiecesOf (Val := Elt Ideal) (blockOf (dB x0 x1 x2 x3 x4 x5)) (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.1 := by
  unfold kernelRun0_A
  dsimp only
  refine ⟨?_, ?_, ?_, ?_, ?_, ?_, ?_, ?_, ?_, ?_, ?_, ?_, ?_, ?_, ?_, ?_, trivial⟩
  all_goals
    intro (z : S32x1024.Idx)
    idx_vars z
    refine Eq.trans ?_ (blockOf_stretch _ _ _ z0 z1 (by omega)).symm
    pointwise [View.readAt_eq_ld, harg1.read_unread, harg2.read_unread, harg3.read_unread, harg4.read_unread, harg5.read_unread, harg6.read_unread]
    rfl

/-- Output 7 at the first point. -/
theorem outA7 (hc0 : cond0_0 i) : out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 = blockOf (dB x0 x1 x2 x3 x4 x5) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5)]
  funext y
  have h := View.canon_append_of_piecesOf (Val := Elt Ideal) _ [] _ (piecesA7 c i arg1 harg1 arg2 harg2 arg3 harg3 arg4 harg4 arg5 harg5 arg6 harg6 arg7 harg7 arg8 harg8 arg9 harg9 arg10 harg10 arg11 harg11 x0 x1 x2 x3 x4 x5 hc0) y
    (cover0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 y)
  rwa [List.append_nil] at h

/-- Every stretch of rows stored in output 7 at a later point is that stretch of the gradient. -/
theorem piecesB7 (hc0 : ¬cond0_0 i) (xo8 xo9 : Vec Ideal S1x1024 .f32) : View.PiecesOf (Val := Elt Ideal) (blockOf (dB x0 x1 x2 x3 x4 x5)) (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9).2.1 := by
  unfold kernelRun0_B
  dsimp only
  refine ⟨?_, ?_, ?_, ?_, ?_, ?_, ?_, ?_, ?_, ?_, ?_, ?_, ?_, ?_, ?_, ?_, trivial⟩
  all_goals
    intro (z : S32x1024.Idx)
    idx_vars z
    refine Eq.trans ?_ (blockOf_stretch _ _ _ z0 z1 (by omega)).symm
    pointwise [View.readAt_eq_ld, harg1.read_unread, harg2.read_unread, harg3.read_unread, harg4.read_unread, harg5.read_unread, harg6.read_unread]
    rfl

/-- Output 7 at a later point. -/
theorem outB7 (hc0 : ¬cond0_0 i) (xo8 xo9 : Vec Ideal S1x1024 .f32) : out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 = blockOf (dB x0 x1 x2 x3 x4 x5) := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9)]
  funext y
  have h := View.canon_append_of_piecesOf (Val := Elt Ideal) _ [] _ (piecesB7 c i arg1 harg1 arg2 harg2 arg3 harg3 arg4 harg4 arg5 harg5 arg6 harg6 arg7 harg7 arg8 harg8 arg9 harg9 arg10 harg10 arg11 harg11 x0 x1 x2 x3 x4 x5 hc0 xo8 xo9) y
    (cover0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 y)
  rwa [List.append_nil] at h

end Cert.Rms2Ideal.Block

end
-- ==== Proof.Rms2Weights.lean ====
/-
  What one grid point of the chained norms' gradient leaves in the two gradients by the weights: each point adds its
  rows' parts.
-/
module

public import proofs.«01_k».proof.Proof.Rms2Sums
public import proofs.«01_k».proof.Proof.Gen.Rms2Ideal.Value
public import Idealize.ShloMosaic.Lib.Pipeline.ReadBack
public import Idealize.ShloMosaic.Lib.Pipeline.ValueKit.Tiles
public import Idealize.ShloMosaic.Lib.Pointwise
public import Idealize.ShloMosaic.Lib.Tactic

@[expose] public section

set_option maxRecDepth 16384

noncomputable section

namespace Cert.Rms2Ideal.Block

open Cert.Rms2Ideal Cert.Rms2Ideal.Gen Idealize.ShloMosaic Idealize.ShloMosaic.TcCoe Idealize.SL.Sem
open Idealize.ShloMosaic.Pipeline (Dat)

attribute [local pointwise] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181 k0_pay182 k0_pay183 k0_pay184 k0_pay185 k0_pay186 k0_pay187 k0_pay188 k0_pay189 k0_pay190 k0_pay191 k0_pay192 k0_pay193 k0_pay194 k0_pay195 k0_pay196 k0_pay197 k0_pay198 kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64 kernelRun0_A.sl.r_65 kernelRun0_A.sl.r_66 kernelRun0_A.sl.r_67 kernelRun0_A.sl.r_68 kernelRun0_A.sl.r_69 kernelRun0_A.sl.r_70 kernelRun0_A.sl.r_71 kernelRun0_A.sl.r_72 kernelRun0_A.sl.r_73 kernelRun0_A.sl.r_74 kernelRun0_A.sl.r_75 kernelRun0_A.sl.r_76 kernelRun0_A.sl.r_77 kernelRun0_A.sl.r_78 kernelRun0_A.sl.r_79 kernelRun0_A.sl.r_80 kernelRun0_A.sl.r_81 kernelRun0_B.sl.r_81

/-- A sum over the sixteen stretches and the 32 rows of each is the sum over the block's rows. -/
theorem sum_stretches (f : Fin 512 → EReal) :
    ∑ r : Fin 32, ∑ s : Fin 16, f ⟨32 * s.val + r.val, by omega⟩ = ∑ r : Fin 512, f r := by
  rw [Finset.sum_comm, Fin.sum_univ_tiles 16 32 (by norm_num) f]
  exact Finset.sum_congr rfl fun s _ => Finset.sum_congr rfl fun r _ => congrArg f (Fin.ext (by show 32 * s.val + r.val = s.val * 32 + r.val; omega))

/-- The first norm's gradient by its weights, over a block's rows. -/
def wA (x0 : Vec Ideal S512x1024 .f32) (x2 : Vec Ideal S512x1024 .bf16) (l : Fin 1024) : EReal :=
  ∑ r : Fin 512, NormMath.gradW (fun k => x0 (ix2 r k)) (fun k => x2 (ix2 r k)) l

/-- The second norm's gradient by its weights, over a block's rows. -/
def wB (x0 : Vec Ideal S512x1024 .f32) (x1 : Vec Ideal S1x1024 .f32) (x2 : Vec Ideal S512x1024 .bf16) (x3 : Vec Ideal S512x1024 .f32)
    (x4 : Vec Ideal S512x1024 .bf16) (l : Fin 1024) : EReal :=
  ∑ r : Fin 512, NormMath.gradW (fun k => x4 (ix2 r k)) (fun k => dA x0 x1 x2 x3 r k) l

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2x32x1024 .f32) (harg11 : arg11.IsWhole)
    (x0 : Vec Ideal S512x1024 .f32) (x1 : Vec Ideal S1x1024 .f32) (x2 : Vec Ideal S512x1024 .bf16) (x3 : Vec Ideal S512x1024 .f32) (x4 : Vec Ideal S512x1024 .bf16) (x5 : Vec Ideal S1x1024 .f32)

/-- The store that adds a point's rows to output 8. -/
theorem add8 (old : Vec Ideal S1x1024 .f32) (l : Fin 1024) :
    k0_pay197 (F := Ideal) old (kernelRun0_A.sl.v1129 (F := Ideal) c arg1 harg1 arg2 harg2 arg3 harg3 arg4 harg4 arg5 harg5 arg11 x0 x1 x2 x3 x4) (ix2 0 l) = old (ix2 0 l) + wA x0 x2 l := by
  have h : k0_pay197 (F := Ideal) old (kernelRun0_A.sl.v1129 (F := Ideal) c arg1 harg1 arg2 harg2 arg3 harg3 arg4 harg4 arg5 harg5 arg11 x0 x1 x2 x3 x4) (ix2 0 l)
      = old (ix2 0 l) + ∑ r : Fin 32, kernelRun0_A.sl.v1129 (F := Ideal) c arg1 harg1 arg2 harg2 arg3 harg3 arg4 harg4 arg5 harg5 arg11 x0 x1 x2 x3 x4 (ix3 (0 : Fin 1) r l) := by
    pointwise [k0_pay197]
  rw [h, Finset.sum_congr rfl fun r _ => total0 c arg1 harg1 arg2 harg2 arg3 harg3 arg4 harg4 arg5 harg5 arg11 x0 x1 x2 x3 x4 r l]
  unfold wA
  rw [← sum_stretches]

/-- Output 8 at the first point. -/
theorem outA8 (hc0 : cond0_0 i) (l : Fin 1024) : out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 (ix2 0 l) = wA x0 x2 l := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  refine (congrFun (View.canon_cons_unit_lit _ _ _ (by intro a; fin_cases a <;> rfl)) _).trans ?_
  refine (add8 c arg1 harg1 arg2 harg2 arg3 harg3 arg4 harg4 arg5 harg5 arg11 x0 x1 x2 x3 x4 _ l).trans ?_
  refine (congrArg (· + wA x0 x2 l) ?_).trans (zero_add _)
  unfold kernelRun0_A.sl.v1127 kernelRun0_A.sl.H8_1
  refine (congrFun (View.readCov_fill _ _ _ [] _ (by intro a; fin_cases a <;> rfl)) _).trans ?_
  pointwise [View.ld_apply]

/-- Output 8 at a later point. -/
theorem outB8 (hc0 : ¬cond0_0 i) (xo8 xo9 : Vec Ideal S1x1024 .f32) (l : Fin 1024) :
    out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 (ix2 0 l) = xo8 (ix2 0 l) + wA x0 x2 l := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9)]
  unfold kernelRun0_B
  dsimp only
  refine (congrFun (View.canon_cons_unit_lit _ _ _ (by intro a; fin_cases a <;> rfl)) _).trans ?_
  refine (add8 c arg1 harg1 arg2 harg2 arg3 harg3 arg4 harg4 arg5 harg5 arg11 x0 x1 x2 x3 x4 _ l).trans ?_
  refine congrArg (· + wA x0 x2 l) ?_
  pointwise [View.readAt_eq_ld, harg9.read_unread, harg10.read_unread]

/-- The store that adds a point's rows to output 9. -/
theorem add9 (old : Vec Ideal S1x1024 .f32) (l : Fin 1024) :
    k0_pay1 (F := Ideal) old (kernelRun0_A.sl.v1137 (F := Ideal) c arg1 harg1 arg2 harg2 arg3 harg3 arg4 harg4 arg5 harg5 arg11 x0 x1 x2 x3 x4) (ix2 0 l) = old (ix2 0 l) + wB x0 x1 x2 x3 x4 l := by
  have h : k0_pay1 (F := Ideal) old (kernelRun0_A.sl.v1137 (F := Ideal) c arg1 harg1 arg2 harg2 arg3 harg3 arg4 harg4 arg5 harg5 arg11 x0 x1 x2 x3 x4) (ix2 0 l)
      = old (ix2 0 l) + ∑ r : Fin 32, kernelRun0_A.sl.v1137 (F := Ideal) c arg1 harg1 arg2 harg2 arg3 harg3 arg4 harg4 arg5 harg5 arg11 x0 x1 x2 x3 x4 (ix3 (0 : Fin 1) r l) := by
    pointwise [k0_pay1]
  rw [h, Finset.sum_congr rfl fun r _ => total1 c arg1 harg1 arg2 harg2 arg3 harg3 arg4 harg4 arg5 harg5 arg11 x0 x1 x2 x3 x4 r l]
  unfold wB
  rw [← sum_stretches]

/-- Output 9 at the first point. -/
theorem outA9 (hc0 : cond0_0 i) (l : Fin 1024) : out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 (ix2 0 l) = wB x0 x1 x2 x3 x4 l := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  refine (congrFun (View.canon_cons_unit_lit _ _ _ (by intro a; fin_cases a <;> rfl)) _).trans ?_
  refine (add9 c arg1 harg1 arg2 harg2 arg3 harg3 arg4 harg4 arg5 harg5 arg11 x0 x1 x2 x3 x4 _ l).trans ?_
  refine (congrArg (· + wB x0 x1 x2 x3 x4 l) ?_).trans (zero_add _)
  unfold kernelRun0_A.sl.r_81 kernelRun0_A.sl.v1135 kernelRun0_A.sl.H9_1
  refine (congrFun (View.readCov_fill _ _ _ [] _ (by intro a; fin_cases a <;> rfl)) _).trans ?_
  pointwise [View.ld_apply]

/-- Output 9 at a later point. -/
theorem outB9 (hc0 : ¬cond0_0 i) (xo8 xo9 : Vec Ideal S1x1024 .f32) (l : Fin 1024) :
    out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 (ix2 0 l) = xo9 (ix2 0 l) + wB x0 x1 x2 x3 x4 l := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9)]
  unfold kernelRun0_B
  dsimp only
  refine (congrFun (View.canon_cons_unit_lit _ _ _ (by intro a; fin_cases a <;> rfl)) _).trans ?_
  refine (add9 c arg1 harg1 arg2 harg2 arg3 harg3 arg4 harg4 arg5 harg5 arg11 x0 x1 x2 x3 x4 _ l).trans ?_
  refine congrArg (· + wB x0 x1 x2 x3 x4 l) ?_
  pointwise [View.readAt_eq_ld, harg9.read_unread, harg10.read_unread]

end Cert.Rms2Ideal.Block

end
-- ==== Proof.Rms2Array.lean ====
/-
  The four result arrays of the chained norms' gradient after the run, as functions of the argument arrays. The grid is
  one axis of eight blocks of 512 rows.
-/
module

public import proofs.«01_k».proof.Proof.Sums
public import proofs.«01_k».proof.Proof.Rms2Rows
public import proofs.«01_k».proof.Proof.Rms2Rows2
public import proofs.«01_k».proof.Proof.Rms2Weights

@[expose] public section

set_option maxRecDepth 16384

noncomputable section

namespace Cert.Rms2Ideal.Arr

open Cert.Rms2Ideal Cert.Rms2Ideal.Gen Cert.Rms2Ideal.Block Cert.NormMath Idealize.ShloMosaic Idealize.ShloMosaic.TcCoe Idealize.SL.Sem
open Idealize.ShloMosaic.Pipeline (Dat)

/-- The first norm's gradient by its argument, plus the gradient that goes past the norm. -/
def gA (X0 : Vec Ideal S4096x1024 .f32) (X1 : Vec Ideal S1x1024 .f32) (X2 : Vec Ideal S4096x1024 .bf16) (X3 : Vec Ideal S4096x1024 .f32)
    (r : Fin 4096) (l : Fin 1024) : EReal :=
  gradX (fun k => X0 (ix2 r k)) (fun k => X1 (ix2 0 k)) (fun k => X2 (ix2 r k)) l + X3 (ix2 r l)

/-- The second norm's gradient by its argument, from the first's. -/
def gB (X0 : Vec Ideal S4096x1024 .f32) (X1 : Vec Ideal S1x1024 .f32) (X2 : Vec Ideal S4096x1024 .bf16) (X3 : Vec Ideal S4096x1024 .f32)
    (X4 : Vec Ideal S4096x1024 .bf16) (X5 : Vec Ideal S1x1024 .f32) (r : Fin 4096) (l : Fin 1024) : EReal :=
  gradX (fun k => X4 (ix2 r k)) (fun k => X5 (ix2 0 k)) (fun k => gA X0 X1 X2 X3 r k) l

/-- One row's part of the first norm's gradient by its weights. -/
def hA (X0 : Vec Ideal S4096x1024 .f32) (X2 : Vec Ideal S4096x1024 .bf16) (l : Fin 1024) (r : Fin 4096) : EReal :=
  gradW (fun k => X0 (ix2 r k)) (fun k => X2 (ix2 r k)) l

/-- One row's part of the second norm's gradient by its weights. -/
def hB (X0 : Vec Ideal S4096x1024 .f32) (X1 : Vec Ideal S1x1024 .f32) (X2 : Vec Ideal S4096x1024 .bf16) (X3 : Vec Ideal S4096x1024 .f32)
    (X4 : Vec Ideal S4096x1024 .bf16) (l : Fin 1024) (r : Fin 4096) : EReal :=
  gradW (fun k => X4 (ix2 r k)) (fun k => gA X0 X1 X2 X3 r k) l

/-- An array from its rows. -/
def arrayOf (G : Fin 4096 → Fin 1024 → EReal) : S4096x1024.Idx → EReal := fun y => G (y 0) (y 1)

/-- A row of sums over all rows. -/
def sumsOf (H : Fin 1024 → Fin 4096 → EReal) : Vec Ideal S1x1024 .f32 := fun y => ∑ r : Fin 4096, H (y 1) r

variable (m : (ℓ : Loc nD τ sig) → Buf (Elt Ideal) ℓ) (ρ : Dev nD → PrngReg)

/-- Argument 0 as the launch finds it. -/
abbrev a0 (c : Dev nD) : Vec Ideal S4096x1024 .f32 := m ((c : Thread nD τ).loc main_arg0)
/-- Argument 1 as the launch finds it. -/
abbrev a1 (c : Dev nD) : Vec Ideal S1x1024 .f32 := m ((c : Thread nD τ).loc main_arg1)
/-- Argument 2 as the launch finds it. -/
abbrev a2 (c : Dev nD) : Vec Ideal S4096x1024 .bf16 := m ((c : Thread nD τ).loc main_arg2)
/-- Argument 3 as the launch finds it. -/
abbrev a3 (c : Dev nD) : Vec Ideal S4096x1024 .f32 := m ((c : Thread nD τ).loc main_arg3)
/-- Argument 4 as the launch finds it. -/
abbrev a4 (c : Dev nD) : Vec Ideal S4096x1024 .bf16 := m ((c : Thread nD τ).loc main_arg4)
/-- Argument 5 as the launch finds it. -/
abbrev a5 (c : Dev nD) : Vec Ideal S1x1024 .f32 := m ((c : Thread nD τ).loc main_arg5)

/-- A grid point as a number below eight. -/
def pt (t : Fin cfg0.N) : Fin 8 := t.cast N_0

/-- A row of a point's block as a row of the array. -/
def rowAt (t : Fin cfg0.N) (r : Fin 512) : Fin 4096 := ⟨512 * (pt t).val + r.val, by omega⟩

/-- The block of argument 0 at a point. -/
theorem blk0 (c : Dev nD) (t : Fin cfg0.N) (r : Fin 512) (l : Fin 1024) :
    (iblk m c 0 t : Vec Ideal S512x1024 .f32) (ix2 r l) = a0 m c (ix2 (rowAt t r) l) := by
  have h : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_arg0 _ = (m ((c : Thread nD τ).loc main_arg0) : Vec Ideal S4096x1024 .f32) _
  rw [V_main_arg0]
  refine congrArg _ (funext fun a => Fin.ext ?_)
  match a with
  | ⟨0, _⟩ => show win0_0.index t 0 * 512 + 1 * r.val = 512 * t.val + r.val; rw [(h t).1]; omega
  | ⟨1, _⟩ => show win0_0.index t 1 * 1024 + 1 * l.val = l.val; rw [(h t).2]; omega

/-- The whole of argument 1 at every point. -/
theorem blk1 (c : Dev nD) (t : Fin cfg0.N) : (iblk m c 1 t : Vec Ideal S1x1024 .f32) = a1 m c := by
  have h : ∀ t : Fin cfg0.N, win0_1.index t 0 = 0 ∧ win0_1.index t 1 = 0 :=
    (by decide +kernel : ∀ t : Fin grid0.N, win0_1.index t 0 = 0 ∧ win0_1.index t 1 = 0)
  unfold iblk
  funext j
  rw [View.read_apply]
  show V m c main_arg1 _ = (m ((c : Thread nD τ).loc main_arg1) : Vec Ideal S1x1024 .f32) _
  rw [V_main_arg1]
  refine congrArg _ (funext fun a => Fin.ext ?_)
  match a with
  | ⟨0, _⟩ => show win0_1.index t 0 * 1 + 1 * (j 0).val = (j 0).val; rw [(h t).1]; omega
  | ⟨1, _⟩ => show win0_1.index t 1 * 1024 + 1 * (j 1).val = (j 1).val; rw [(h t).2]; omega

/-- The block of argument 2 at a point. -/
theorem blk2 (c : Dev nD) (t : Fin cfg0.N) (r : Fin 512) (l : Fin 1024) :
    (iblk m c 2 t : Vec Ideal S512x1024 .bf16) (ix2 r l) = a2 m c (ix2 (rowAt t r) l) := by
  have h : ∀ t : Fin cfg0.N, win0_2.index t 0 = t.val ∧ win0_2.index t 1 = 0 :=
    (by decide +kernel : ∀ t : Fin grid0.N, win0_2.index t 0 = t.val ∧ win0_2.index t 1 = 0)
  unfold iblk
  rw [View.read_apply]
  show V m c main_arg2 _ = (m ((c : Thread nD τ).loc main_arg2) : Vec Ideal S4096x1024 .bf16) _
  rw [V_main_arg2]
  refine congrArg _ (funext fun a => Fin.ext ?_)
  match a with
  | ⟨0, _⟩ => show win0_2.index t 0 * 512 + 1 * r.val = 512 * t.val + r.val; rw [(h t).1]; omega
  | ⟨1, _⟩ => show win0_2.index t 1 * 1024 + 1 * l.val = l.val; rw [(h t).2]; omega

/-- The block of argument 3 at a point. -/
theorem blk3 (c : Dev nD) (t : Fin cfg0.N) (r : Fin 512) (l : Fin 1024) :
    (iblk m c 3 t : Vec Ideal S512x1024 .f32) (ix2 r l) = a3 m c (ix2 (rowAt t r) l) := by
  have h : ∀ t : Fin cfg0.N, win0_3.index t 0 = t.val ∧ win0_3.index t 1 = 0 :=
    (by decide +kernel : ∀ t : Fin grid0.N, win0_3.index t 0 = t.val ∧ win0_3.index t 1 = 0)
  unfold iblk
  rw [View.read_apply]
  show V m c main_arg3 _ = (m ((c : Thread nD τ).loc main_arg3) : Vec Ideal S4096x1024 .f32) _
  rw [V_main_arg3]
  refine congrArg _ (funext fun a => Fin.ext ?_)
  match a with
  | ⟨0, _⟩ => show win0_3.index t 0 * 512 + 1 * r.val = 512 * t.val + r.val; rw [(h t).1]; omega
  | ⟨1, _⟩ => show win0_3.index t 1 * 1024 + 1 * l.val = l.val; rw [(h t).2]; omega

/-- The block of argument 4 at a point. -/
theorem blk4 (c : Dev nD) (t : Fin cfg0.N) (r : Fin 512) (l : Fin 1024) :
    (iblk m c 4 t : Vec Ideal S512x1024 .bf16) (ix2 r l) = a4 m c (ix2 (rowAt t r) l) := by
  have h : ∀ t : Fin cfg0.N, win0_4.index t 0 = t.val ∧ win0_4.index t 1 = 0 :=
    (by decide +kernel : ∀ t : Fin grid0.N, win0_4.index t 0 = t.val ∧ win0_4.index t 1 = 0)
  unfold iblk
  rw [View.read_apply]
  show V m c main_arg4 _ = (m ((c : Thread nD τ).loc main_arg4) : Vec Ideal S4096x1024 .bf16) _
  rw [V_main_arg4]
  refine congrArg _ (funext fun a => Fin.ext ?_)
  match a with
  | ⟨0, _⟩ => show win0_4.index t 0 * 512 + 1 * r.val = 512 * t.val + r.val; rw [(h t).1]; omega
  | ⟨1, _⟩ => show win0_4.index t 1 * 1024 + 1 * l.val = l.val; rw [(h t).2]; omega

/-- The whole of argument 5 at every point. -/
theorem blk5 (c : Dev nD) (t : Fin cfg0.N) : (iblk m c 5 t : Vec Ideal S1x1024 .f32) = a5 m c := by
  have h : ∀ t : Fin cfg0.N, win0_5.index t 0 = 0 ∧ win0_5.index t 1 = 0 :=
    (by decide +kernel : ∀ t : Fin grid0.N, win0_5.index t 0 = 0 ∧ win0_5.index t 1 = 0)
  unfold iblk
  funext j
  rw [View.read_apply]
  show V m c main_arg5 _ = (m ((c : Thread nD τ).loc main_arg5) : Vec Ideal S1x1024 .f32) _
  rw [V_main_arg5]
  refine congrArg _ (funext fun a => Fin.ext ?_)
  match a with
  | ⟨0, _⟩ => show win0_5.index t 0 * 1 + 1 * (j 0).val = (j 0).val; rw [(h t).1]; omega
  | ⟨1, _⟩ => show win0_5.index t 1 * 1024 + 1 * (j 1).val = (j 1).val; rw [(h t).2]; omega

/-- A block's first gradient is the array's. -/
theorem dA_eq (c : Dev nD) (t : Fin cfg0.N) (r : Fin 512) (l : Fin 1024) :
    dA (iblk m c 0 t) (iblk m c 1 t) (iblk m c 2 t) (iblk m c 3 t) r l = gA (a0 m c) (a1 m c) (a2 m c) (a3 m c) (rowAt t r) l := by
  unfold dA gA
  simp only [blk0, blk1, blk2, blk3]

/-- A block's second gradient is the array's. -/
theorem dB_eq (c : Dev nD) (t : Fin cfg0.N) (r : Fin 512) (l : Fin 1024) :
    dB (iblk m c 0 t) (iblk m c 1 t) (iblk m c 2 t) (iblk m c 3 t) (iblk m c 4 t) (iblk m c 5 t) r l = gB (a0 m c) (a1 m c) (a2 m c) (a3 m c) (a4 m c) (a5 m c) (rowAt t r) l := by
  unfold dB gB
  simp only [dA_eq, blk4, blk5]

/-- A block's rows in the first norm's gradient by its weights. -/
theorem wA_eq (c : Dev nD) (t : Fin cfg0.N) (l : Fin 1024) :
    wA (iblk m c 0 t) (iblk m c 2 t) l = ∑ r : Fin 512, hA (a0 m c) (a2 m c) l (rowAt t r) := by
  unfold wA hA
  simp only [blk0, blk2]

/-- A block's rows in the second norm's gradient by its weights. -/
theorem wB_eq (c : Dev nD) (t : Fin cfg0.N) (l : Fin 1024) :
    wB (iblk m c 0 t) (iblk m c 1 t) (iblk m c 2 t) (iblk m c 3 t) (iblk m c 4 t) l = ∑ r : Fin 512, hB (a0 m c) (a1 m c) (a2 m c) (a3 m c) (a4 m c) l (rowAt t r) := by
  unfold wB hB
  simp only [dA_eq, blk4]

/-- Output 6's block after a point. -/
theorem outs6 (c : Dev nD) (t : Fin cfg0.N) (r : Fin 512) (l : Fin 1024) :
    (outsAt0 m c t.val t.isLt).1 (ix2 r l) = gA (a0 m c) (a1 m c) (a2 m c) (a3 m c) (rowAt t r) l := by
  by_cases h0 : t.val % 8 = 0
  · have e := congrArg (fun o => o.1) (outsAt0_A m c t h0)
    dsimp only at e
    rw [e, outA6]
    exact dA_eq m c t r l
  · have e := congrArg (fun o => o.1) (outsAt0_B m c t h0)
    dsimp only at e
    rw [e, outB6]
    exact dA_eq m c t r l

/-- What each point writes back to result 0 is its block of the gradient. -/
theorem flushed6 (c : Dev nD) (t : Fin cfg0.N) (hf : (cfg0.win 6).flush t = true) :
    (dats m 0 c).flushed 6 t = ((cfg0.win 6).blk t).view.read (Elt Ideal) (arrayOf (gA (a0 m c) (a1 m c) (a2 m c) (a3 m c)) : Vec Ideal S4096x1024 .f32) := by
  have hi : ∀ t : Fin cfg0.N, win0_6.index t 0 = t.val ∧ win0_6.index t 1 = 0 :=
    (by decide +kernel : ∀ t : Fin grid0.N, win0_6.index t 0 = t.val ∧ win0_6.index t 1 = 0)
  rw [Cert.Rms2Ideal.Value.flushed6]
  funext x
  rw [View.read_apply]
  have h0 : (x 0).val < 512 := (x 0).isLt
  have h1 : (x 1).val < 1024 := (x 1).isLt
  have e := outs6 m c t ⟨(x 0).val, h0⟩ ⟨(x 1).val, h1⟩
  refine Eq.trans (congrArg (outsAt0 m c t.val t.isLt).1 ?_) (e.trans (congrArg (arrayOf (gA (a0 m c) (a1 m c) (a2 m c) (a3 m c))) (a₁ := ix2 (rowAt t ⟨(x 0).val, h0⟩) ⟨(x 1).val, h1⟩) ?_))
  · exact eq_ix2 _
  · refine funext fun a => Fin.ext ?_
    match a with
    | ⟨0, _⟩ => show 512 * t.val + (x 0).val = win0_6.index t 0 * 512 + 1 * (x 0).val; rw [(hi t).1]; omega
    | ⟨1, _⟩ => show (x 1).val = win0_6.index t 1 * 1024 + 1 * (x 1).val; rw [(hi t).2]; omega

/-- Result 0 after the run. -/
theorem final6 (c : Dev nD) : (dats m 0 c).arrAt 6 cfg0.N = (arrayOf (gA (a0 m c) (a1 m c) (a2 m c) (a3 m c)) : Vec Ideal S4096x1024 .f32) :=
  (dats m 0 c).arrAt_eq_of_cover 6 (arrayOf (gA (a0 m c) (a1 m c) (a2 m c) (a3 m c)) : Vec Ideal S4096x1024 .f32) (flushed6 m c) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    have hi : ∀ t : Fin cfg0.N, win0_6.index t 0 * win0_6.size 0 = 512 * t.val ∧ win0_6.index t 1 * win0_6.size 1 = 0 ∧ win0_6.xsize (grid0.coords t) 0 = 512 ∧ win0_6.xsize (grid0.coords t) 1 = 1024 :=
      (by decide +kernel : ∀ t : Fin grid0.N, win0_6.index t 0 * win0_6.size 0 = 512 * t.val ∧ win0_6.index t 1 * win0_6.size 1 = 0 ∧ win0_6.xsize (grid0.coords t) 0 = 512 ∧ win0_6.xsize (grid0.coords t) 1 = 1024)
    refine ⟨t, flush0_6 t, ?_⟩
    show i ∈ ((View.whole main_v0_0).slice (win0_6.rect t)).set
    rw [View.set_slice_whole, Rect.mem_set_unit]
    intro a
    have ht : t.val = (i 0 : Nat) / 512 := rfl
    match a with
    | ⟨0, _⟩ => show win0_6.index t 0 * win0_6.size 0 ≤ (i 0 : Nat) ∧ (i 0 : Nat) < win0_6.index t 0 * win0_6.size 0 + win0_6.xsize (grid0.coords t) 0
                rw [(hi t).1, (hi t).2.2.1]; omega
    | ⟨1, _⟩ => show win0_6.index t 1 * win0_6.size 1 ≤ (i 1 : Nat) ∧ (i 1 : Nat) < win0_6.index t 1 * win0_6.size 1 + win0_6.xsize (grid0.coords t) 1
                rw [(hi t).2.1, (hi t).2.2.2]; omega

/-- Output 7's block after a point. -/
theorem outs7 (c : Dev nD) (t : Fin cfg0.N) (r : Fin 512) (l : Fin 1024) :
    (outsAt0 m c t.val t.isLt).2.1 (ix2 r l) = gB (a0 m c) (a1 m c) (a2 m c) (a3 m c) (a4 m c) (a5 m c) (rowAt t r) l := by
  by_cases h0 : t.val % 8 = 0
  · have e := congrArg (fun o => o.2.1) (outsAt0_A m c t h0)
    dsimp only at e
    rw [e, outA7]
    exact dB_eq m c t r l
  · have e := congrArg (fun o => o.2.1) (outsAt0_B m c t h0)
    dsimp only at e
    rw [e, outB7]
    exact dB_eq m c t r l

/-- What each point writes back to result 1 is its block of the gradient. -/
theorem flushed7 (c : Dev nD) (t : Fin cfg0.N) (hf : (cfg0.win 7).flush t = true) :
    (dats m 0 c).flushed 7 t = ((cfg0.win 7).blk t).view.read (Elt Ideal) (arrayOf (gB (a0 m c) (a1 m c) (a2 m c) (a3 m c) (a4 m c) (a5 m c)) : Vec Ideal S4096x1024 .bf16) := by
  have hi : ∀ t : Fin cfg0.N, win0_7.index t 0 = t.val ∧ win0_7.index t 1 = 0 :=
    (by decide +kernel : ∀ t : Fin grid0.N, win0_7.index t 0 = t.val ∧ win0_7.index t 1 = 0)
  rw [Cert.Rms2Ideal.Value.flushed7]
  funext x
  rw [View.read_apply]
  have h0 : (x 0).val < 512 := (x 0).isLt
  have h1 : (x 1).val < 1024 := (x 1).isLt
  have e := outs7 m c t ⟨(x 0).val, h0⟩ ⟨(x 1).val, h1⟩
  refine Eq.trans (congrArg (outsAt0 m c t.val t.isLt).2.1 ?_) (e.trans (congrArg (arrayOf (gB (a0 m c) (a1 m c) (a2 m c) (a3 m c) (a4 m c) (a5 m c))) (a₁ := ix2 (rowAt t ⟨(x 0).val, h0⟩) ⟨(x 1).val, h1⟩) ?_))
  · exact eq_ix2 _
  · refine funext fun a => Fin.ext ?_
    match a with
    | ⟨0, _⟩ => show 512 * t.val + (x 0).val = win0_7.index t 0 * 512 + 1 * (x 0).val; rw [(hi t).1]; omega
    | ⟨1, _⟩ => show (x 1).val = win0_7.index t 1 * 1024 + 1 * (x 1).val; rw [(hi t).2]; omega

/-- Result 1 after the run. -/
theorem final7 (c : Dev nD) : (dats m 0 c).arrAt 7 cfg0.N = (arrayOf (gB (a0 m c) (a1 m c) (a2 m c) (a3 m c) (a4 m c) (a5 m c)) : Vec Ideal S4096x1024 .bf16) :=
  (dats m 0 c).arrAt_eq_of_cover 7 (arrayOf (gB (a0 m c) (a1 m c) (a2 m c) (a3 m c) (a4 m c) (a5 m c)) : Vec Ideal S4096x1024 .bf16) (flushed7 m c) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    have hi : ∀ t : Fin cfg0.N, win0_7.index t 0 * win0_7.size 0 = 512 * t.val ∧ win0_7.index t 1 * win0_7.size 1 = 0 ∧ win0_7.xsize (grid0.coords t) 0 = 512 ∧ win0_7.xsize (grid0.coords t) 1 = 1024 :=
      (by decide +kernel : ∀ t : Fin grid0.N, win0_7.index t 0 * win0_7.size 0 = 512 * t.val ∧ win0_7.index t 1 * win0_7.size 1 = 0 ∧ win0_7.xsize (grid0.coords t) 0 = 512 ∧ win0_7.xsize (grid0.coords t) 1 = 1024)
    refine ⟨t, flush0_7 t, ?_⟩
    show i ∈ ((View.whole main_v0_1).slice (win0_7.rect t)).set
    rw [View.set_slice_whole, Rect.mem_set_unit]
    intro a
    have ht : t.val = (i 0 : Nat) / 512 := rfl
    match a with
    | ⟨0, _⟩ => show win0_7.index t 0 * win0_7.size 0 ≤ (i 0 : Nat) ∧ (i 0 : Nat) < win0_7.index t 0 * win0_7.size 0 + win0_7.xsize (grid0.coords t) 0
                rw [(hi t).1, (hi t).2.2.1]; omega
    | ⟨1, _⟩ => show win0_7.index t 1 * win0_7.size 1 ≤ (i 1 : Nat) ∧ (i 1 : Nat) < win0_7.index t 1 * win0_7.size 1 + win0_7.xsize (grid0.coords t) 1
                rw [(hi t).2.1, (hi t).2.2.2]; omega

/-- A point's part of a sum over all rows. -/
def part (H : Fin 4096 → EReal) (n : ℕ) : EReal := if h : n < cfg0.N then ∑ r : Fin 512, H (rowAt ⟨n, h⟩ r) else 0

/-- The sum of the eight points' parts is the sum over all rows. -/
theorem sum_points (q : ℕ) (hq : q < 8) (H : Fin 4096 → EReal) : ∑ i : Fin 8, part H (8 * (q / 8) + i.val) = ∑ r : Fin 4096, H r := by
  rw [Fin.sum_univ_tiles 8 512 (by norm_num) H]
  refine Finset.sum_congr rfl fun i _ => ?_
  have hN : cfg0.N = 8 := N_0
  unfold part
  rw [dif_pos (by omega)]
  refine Finset.sum_congr rfl fun r _ => congrArg H (Fin.ext ?_)
  show 512 * (8 * (q / 8) + i.val) + r.val = i.val * 512 + r.val
  omega

/-- Output 8's block after the last point. -/
theorem outs8 (c : Dev nD) (q : ℕ) (h : q < cfg0.N) (h7 : q % 8 = 7) (l : Fin 1024) :
    (outsAt0 m c q h).2.2.1 (ix2 0 l) = ∑ r : Fin 4096, hA (a0 m c) (a2 m c) l r := by
  have hN : cfg0.N = 8 := N_0
  have key := Sums.acc_full (N := cfg0.N) (J := 8) (by norm_num) (fun n h => (outsAt0 m c n h).2.2.1 (ix2 0 l))
    (part (hA (a0 m c) (a2 m c) l))
    (fun n h h0 => by
      have e := congrArg (fun o => o.2.2.1) (outsAt0_A m c ⟨n, h⟩ h0)
      dsimp only at e
      unfold part
      rw [dif_pos h]
      show (outsAt0 m c n h).2.2.1 (ix2 0 l) = _
      rw [e, outA8, wA_eq])
    (fun n h h' h0 => by
      have e := congrArg (fun o => o.2.2.1) (outsAt0_B m c ⟨n + 1, h⟩ h0)
      dsimp only at e
      unfold part
      rw [dif_pos h]
      show (outsAt0 m c (n + 1) h).2.2.1 (ix2 0 l) = _
      rw [e, outB8, wA_eq]
      rfl) q h (by omega)
  refine key.trans (sum_points q (by omega) (hA (a0 m c) (a2 m c) l))

/-- The last point writes output 8 back. -/
theorem flushed8 (c : Dev nD) (t : Fin cfg0.N) (hf : (cfg0.win 8).flush t = true) :
    (dats m 0 c).flushed 8 t = ((cfg0.win 8).blk t).view.read (Elt Ideal) (sumsOf (hA (a0 m c) (a2 m c))) := by
  have h7 : t.val % 8 = 7 := (flush0_8 t).mp hf
  have ht : t.val < 8 := (pt t).isLt
  have hi : ∀ t : Fin cfg0.N, win0_8.index t 0 = 0 ∧ win0_8.index t 1 = 0 :=
    (by decide +kernel : ∀ t : Fin grid0.N, win0_8.index t 0 = 0 ∧ win0_8.index t 1 = 0)
  rw [Cert.Rms2Ideal.Value.flushed8]
  funext x
  rw [View.read_apply]
  have h0 : (x 0).val < 1 := (x 0).isLt
  have h1 : (x 1).val < 1024 := (x 1).isLt
  have e := outs8 m c t.val t.isLt h7 ⟨(x 1).val, h1⟩
  refine Eq.trans (congrArg (outsAt0 m c t.val t.isLt).2.2.1 (a₂ := ix2 0 ⟨(x 1).val, h1⟩) ?_) (e.trans (congrArg (sumsOf (hA (a0 m c) (a2 m c))) (a₁ := ix2 0 ⟨(x 1).val, h1⟩) ?_))
  · refine funext fun a => Fin.ext ?_
    match a with
    | ⟨0, _⟩ => show (x 0).val = 0; omega
    | ⟨1, _⟩ => rfl
  · refine funext fun a => Fin.ext ?_
    match a with
    | ⟨0, _⟩ => show 0 = win0_8.index t 0 * 1 + 1 * (x 0).val; rw [(hi t).1]; omega
    | ⟨1, _⟩ => show (x 1).val = win0_8.index t 1 * 1024 + 1 * (x 1).val; rw [(hi t).2]; omega

/-- Result 2 after the run. -/
theorem final8 (c : Dev nD) : (dats m 0 c).arrAt 8 cfg0.N = sumsOf (hA (a0 m c) (a2 m c)) :=
  (dats m 0 c).arrAt_eq_of_cover 8 (sumsOf (hA (a0 m c) (a2 m c))) (flushed8 m c) fun i => by
    have h0 : (i 0 : Nat) < 1 := (i 0).isLt
    have h1 : (i 1 : Nat) < 1024 := (i 1).isLt
    have hN : cfg0.N = 8 := N_0
    let t : Fin cfg0.N := ⟨7, by omega⟩
    have hi : ∀ t : Fin cfg0.N, win0_8.index t 0 * win0_8.size 0 = 0 ∧ win0_8.index t 1 * win0_8.size 1 = 0 ∧ win0_8.xsize (grid0.coords t) 0 = 1 ∧ win0_8.xsize (grid0.coords t) 1 = 1024 :=
      (by decide +kernel : ∀ t : Fin grid0.N, win0_8.index t 0 * win0_8.size 0 = 0 ∧ win0_8.index t 1 * win0_8.size 1 = 0 ∧ win0_8.xsize (grid0.coords t) 0 = 1 ∧ win0_8.xsize (grid0.coords t) 1 = 1024)
    refine ⟨t, (flush0_8 t).mpr rfl, ?_⟩
    show i ∈ ((View.whole main_v0_2).slice (win0_8.rect t)).set
    rw [View.set_slice_whole, Rect.mem_set_unit]
    intro a
    match a with
    | ⟨0, _⟩ => show win0_8.index t 0 * win0_8.size 0 ≤ (i 0 : Nat) ∧ (i 0 : Nat) < win0_8.index t 0 * win0_8.size 0 + win0_8.xsize (grid0.coords t) 0
                rw [(hi t).1, (hi t).2.2.1]; omega
    | ⟨1, _⟩ => show win0_8.index t 1 * win0_8.size 1 ≤ (i 1 : Nat) ∧ (i 1 : Nat) < win0_8.index t 1 * win0_8.size 1 + win0_8.xsize (grid0.coords t) 1
                rw [(hi t).2.1, (hi t).2.2.2]; omega

/-- Output 9's block after the last point. -/
theorem outs9 (c : Dev nD) (q : ℕ) (h : q < cfg0.N) (h7 : q % 8 = 7) (l : Fin 1024) :
    (outsAt0 m c q h).2.2.2 (ix2 0 l) = ∑ r : Fin 4096, hB (a0 m c) (a1 m c) (a2 m c) (a3 m c) (a4 m c) l r := by
  have hN : cfg0.N = 8 := N_0
  have key := Sums.acc_full (N := cfg0.N) (J := 8) (by norm_num) (fun n h => (outsAt0 m c n h).2.2.2 (ix2 0 l))
    (part (hB (a0 m c) (a1 m c) (a2 m c) (a3 m c) (a4 m c) l))
    (fun n h h0 => by
      have e := congrArg (fun o => o.2.2.2) (outsAt0_A m c ⟨n, h⟩ h0)
      dsimp only at e
      unfold part
      rw [dif_pos h]
      show (outsAt0 m c n h).2.2.2 (ix2 0 l) = _
      rw [e, outA9, wB_eq])
    (fun n h h' h0 => by
      have e := congrArg (fun o => o.2.2.2) (outsAt0_B m c ⟨n + 1, h⟩ h0)
      dsimp only at e
      unfold part
      rw [dif_pos h]
      show (outsAt0 m c (n + 1) h).2.2.2 (ix2 0 l) = _
      rw [e, outB9, wB_eq]
      rfl) q h (by omega)
  refine key.trans (sum_points q (by omega) (hB (a0 m c) (a1 m c) (a2 m c) (a3 m c) (a4 m c) l))

/-- The last point writes output 9 back. -/
theorem flushed9 (c : Dev nD) (t : Fin cfg0.N) (hf : (cfg0.win 9).flush t = true) :
    (dats m 0 c).flushed 9 t = ((cfg0.win 9).blk t).view.read (Elt Ideal) (sumsOf (hB (a0 m c) (a1 m c) (a2 m c) (a3 m c) (a4 m c))) := by
  have h7 : t.val % 8 = 7 := (flush0_9 t).mp hf
  have ht : t.val < 8 := (pt t).isLt
  have hi : ∀ t : Fin cfg0.N, win0_9.index t 0 = 0 ∧ win0_9.index t 1 = 0 :=
    (by decide +kernel : ∀ t : Fin grid0.N, win0_9.index t 0 = 0 ∧ win0_9.index t 1 = 0)
  rw [Cert.Rms2Ideal.Value.flushed9]
  funext x
  rw [View.read_apply]
  have h0 : (x 0).val < 1 := (x 0).isLt
  have h1 : (x 1).val < 1024 := (x 1).isLt
  have e := outs9 m c t.val t.isLt h7 ⟨(x 1).val, h1⟩
  refine Eq.trans (congrArg (outsAt0 m c t.val t.isLt).2.2.2 (a₂ := ix2 0 ⟨(x 1).val, h1⟩) ?_) (e.trans (congrArg (sumsOf (hB (a0 m c) (a1 m c) (a2 m c) (a3 m c) (a4 m c))) (a₁ := ix2 0 ⟨(x 1).val, h1⟩) ?_))
  · refine funext fun a => Fin.ext ?_
    match a with
    | ⟨0, _⟩ => show (x 0).val = 0; omega
    | ⟨1, _⟩ => rfl
  · refine funext fun a => Fin.ext ?_
    match a with
    | ⟨0, _⟩ => show 0 = win0_9.index t 0 * 1 + 1 * (x 0).val; rw [(hi t).1]; omega
    | ⟨1, _⟩ => show (x 1).val = win0_9.index t 1 * 1024 + 1 * (x 1).val; rw [(hi t).2]; omega

/-- Result 3 after the run. -/
theorem final9 (c : Dev nD) : (dats m 0 c).arrAt 9 cfg0.N = sumsOf (hB (a0 m c) (a1 m c) (a2 m c) (a3 m c) (a4 m c)) :=
  (dats m 0 c).arrAt_eq_of_cover 9 (sumsOf (hB (a0 m c) (a1 m c) (a2 m c) (a3 m c) (a4 m c))) (flushed9 m c) fun i => by
    have h0 : (i 0 : Nat) < 1 := (i 0).isLt
    have h1 : (i 1 : Nat) < 1024 := (i 1).isLt
    have hN : cfg0.N = 8 := N_0
    let t : Fin cfg0.N := ⟨7, by omega⟩
    have hi : ∀ t : Fin cfg0.N, win0_9.index t 0 * win0_9.size 0 = 0 ∧ win0_9.index t 1 * win0_9.size 1 = 0 ∧ win0_9.xsize (grid0.coords t) 0 = 1 ∧ win0_9.xsize (grid0.coords t) 1 = 1024 :=
      (by decide +kernel : ∀ t : Fin grid0.N, win0_9.index t 0 * win0_9.size 0 = 0 ∧ win0_9.index t 1 * win0_9.size 1 = 0 ∧ win0_9.xsize (grid0.coords t) 0 = 1 ∧ win0_9.xsize (grid0.coords t) 1 = 1024)
    refine ⟨t, (flush0_9 t).mpr rfl, ?_⟩
    show i ∈ ((View.whole main_v0_3).slice (win0_9.rect t)).set
    rw [View.set_slice_whole, Rect.mem_set_unit]
    intro a
    match a with
    | ⟨0, _⟩ => show win0_9.index t 0 * win0_9.size 0 ≤ (i 0 : Nat) ∧ (i 0 : Nat) < win0_9.index t 0 * win0_9.size 0 + win0_9.xsize (grid0.coords t) 0
                rw [(hi t).1, (hi t).2.2.1]; omega
    | ⟨1, _⟩ => show win0_9.index t 1 * win0_9.size 1 ≤ (i 1 : Nat) ∧ (i 1 : Nat) < win0_9.index t 1 * win0_9.size 1 + win0_9.xsize (grid0.coords t) 1
                rw [(hi t).2.1, (hi t).2.2.2]; omega

/-- The run, read: the four results at the gradients, the arguments unchanged. -/
theorem run : θ_run defs (onTc (τ := τ) (main (F := Ideal))) ⟨m, fun _ => 0, ρ⟩ fun r => ∀ c : Dev nD,
      r.2.mem ((c : Thread nD τ).loc main_v0_0) = (arrayOf (gA (a0 m c) (a1 m c) (a2 m c) (a3 m c)) : Vec Ideal S4096x1024 .f32)
      ∧ r.2.mem ((c : Thread nD τ).loc main_v0_1) = (arrayOf (gB (a0 m c) (a1 m c) (a2 m c) (a3 m c) (a4 m c) (a5 m c)) : Vec Ideal S4096x1024 .bf16)
      ∧ r.2.mem ((c : Thread nD τ).loc main_v0_2) = sumsOf (hA (a0 m c) (a2 m c))
      ∧ r.2.mem ((c : Thread nD τ).loc main_v0_3) = sumsOf (hB (a0 m c) (a1 m c) (a2 m c) (a3 m c) (a4 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2⟩)
    (Cert.Rms2Ideal.Value.run_blocks m ρ)

end Cert.Rms2Ideal.Arr

end
-- ==== Proof.Rms2Ref.lean ====
/-
  The reference's four results at a row and a lane: the gradients as differentiation writes them.
-/
module

public import proofs.«01_k».proof.Proof.NormMath
public import proofs.«01_k».proof.Proof.Gen.Rms2RefIdeal.Run
public import proofs.«01_k».proof.Proof.Gen.Rms2RefIdeal.Read
public import Idealize.ShloMosaic.Lib.Pointwise
public import Idealize.ShloMosaic.Lib.Tactic

@[expose] public section

set_option maxRecDepth 16384

noncomputable section

namespace Cert.Rms2RefIdeal.Eq

open Cert.Rms2RefIdeal Cert.Rms2RefIdeal.Gen Cert.Rms2RefIdeal.Read Idealize.ShloMosaic Idealize.ShloMosaic.TcCoe Idealize.SL.Sem
open Cert.NormMath

variable (x0 : Vec Ideal S4096x1024 .f32) (x1 : Vec Ideal S1x1024 .f32) (x2 : Vec Ideal S4096x1024 .bf16)
  (x3 : Vec Ideal S4096x1024 .f32) (x4 : Vec Ideal S4096x1024 .bf16) (x5 : Vec Ideal S1x1024 .f32)

/-- The first norm's gradient by its argument, plus the gradient that goes past the norm. -/
theorem first (r : Fin 4096) (l : Fin 1024) : val_main_v35 (F := Ideal) x0 x1 x2 x3 (ix2 r l)
    = plainX (fun k => x0 (ix2 r k)) (fun k => x1 (ix2 0 k)) (fun k => x2 (ix2 r k)) l + x3 (ix2 r l) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  simp only [Fin.sum_univ_one]
  rfl

/-- The second norm's gradient by its argument, from the first's. -/
theorem second (r : Fin 4096) (l : Fin 1024) : val_main_v71 (F := Ideal) x0 x1 x2 x3 x4 x5 (ix2 r l)
    = plainX (fun k => x4 (ix2 r k)) (fun k => x5 (ix2 0 k)) (fun k => val_main_v35 (F := Ideal) x0 x1 x2 x3 (ix2 r k)) l := by
  pointwise [val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  simp only [Fin.sum_univ_one]
  rfl

/-- The first norm's gradient by its weights. -/
theorem weight1 (l : Fin 1024) : val_main_v18 (F := Ideal) x0 x2 (ix2 0 l)
    = ∑ r : Fin 4096, gradW (fun k => x0 (ix2 r k)) (fun k => x2 (ix2 r k)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  exact Finset.sum_congr rfl fun r _ => mul_comm _ _

/-- The second norm's gradient by its weights. -/
theorem weight2 (l : Fin 1024) : val_main_v54 (F := Ideal) x0 x1 x2 x3 x4 (ix2 0 l)
    = ∑ r : Fin 4096, gradW (fun k => x4 (ix2 r k)) (fun k => val_main_v35 (F := Ideal) x0 x1 x2 x3 (ix2 r k)) l := by
  pointwise [val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  exact Finset.sum_congr rfl fun r _ => mul_comm _ _

end Cert.Rms2RefIdeal.Eq

end
-- ==== Proof.Rms2Eq.lean ====
/-
  The two norms' gradients: what the kernel ends with is what differentiation gives, where every entry is a real number.
-/
module

public import proofs.«01_k».proof.Proof.Rms2Array
public import proofs.«01_k».proof.Proof.Rms2Ref

@[expose] public section

noncomputable section

namespace Cert.Rms2Eq

open Idealize.ShloMosaic Idealize.ShloMosaic.TcCoe
open Cert.NormMath Cert.Rms2Ideal.Arr Cert.Rms2RefIdeal.Read

/-- An entry that is a real number. -/
abbrev Real (a : EReal) : Prop := a ≠ ⊤ ∧ a ≠ ⊥

/-- The sum of two real numbers is one. -/
theorem real_add (a b : EReal) (ha : Real a) (hb : Real b) : Real (a + b) :=
  ⟨EReal.add_ne_top ha.1 hb.1, EReal.add_ne_bot_iff.mpr ⟨ha.2, hb.2⟩⟩

variable (x0 : Vec Ideal Cert.Rms2Ideal.S4096x1024 .f32) (x1 : Vec Ideal Cert.Rms2Ideal.S1x1024 .f32)
  (x2 : Vec Ideal Cert.Rms2Ideal.S4096x1024 .bf16) (x3 : Vec Ideal Cert.Rms2Ideal.S4096x1024 .f32)
  (x4 : Vec Ideal Cert.Rms2Ideal.S4096x1024 .bf16) (x5 : Vec Ideal Cert.Rms2Ideal.S1x1024 .f32)
  (h0 : ∀ (r : Fin 4096) (l : Fin 1024), Real (x0 (ix2 r l))) (h1 : ∀ l : Fin 1024, Real (x1 (ix2 0 l)))
  (h2 : ∀ (r : Fin 4096) (l : Fin 1024), Real (x2 (ix2 r l))) (h3 : ∀ (r : Fin 4096) (l : Fin 1024), Real (x3 (ix2 r l)))
  (h4 : ∀ (r : Fin 4096) (l : Fin 1024), Real (x4 (ix2 r l))) (h5 : ∀ l : Fin 1024, Real (x5 (ix2 0 l)))

include h0 h1 h2 in
/-- The first gradient, entry by entry. -/
theorem first_entry (r : Fin 4096) (l : Fin 1024) :
    val_main_v35 (F := Ideal) x0 x1 x2 x3 (ix2 r l) = gA x0 x1 x2 x3 r l := by
  rw [Cert.Rms2RefIdeal.Eq.first]
  exact congrArg (· + x3 (ix2 r l)) (gradX_eq _ _ _ (fun k => h0 r k) h1 (fun k => h2 r k) l).symm

include h0 h1 h2 h3 in
/-- Its entries are real numbers. -/
theorem first_real (r : Fin 4096) (l : Fin 1024) : Real (gA x0 x1 x2 x3 r l) :=
  real_add _ _ (gradX_real _ _ _ (fun k => h0 r k) h1 (fun k => h2 r k) l) (h3 r l)

include h0 h1 h2 in
/-- The first gradient by the argument. -/
theorem first_eq : val_main_v35 (F := Ideal) x0 x1 x2 x3 = arrayOf (gA x0 x1 x2 x3) := funext fun y => by
  rw [eq_ix2 y]
  exact first_entry x0 x1 x2 x3 h0 h1 h2 _ _

include h0 h1 h2 h3 h4 h5 in
/-- The second gradient by the argument. -/
theorem second_eq : val_main_v71 (F := Ideal) x0 x1 x2 x3 x4 x5 = arrayOf (gB x0 x1 x2 x3 x4 x5) := funext fun y => by
  rw [eq_ix2 y]
  refine (Cert.Rms2RefIdeal.Eq.second x0 x1 x2 x3 x4 x5 (y 0) (y 1)).trans ?_
  have e : (fun k => val_main_v35 (F := Ideal) x0 x1 x2 x3 (ix2 (y 0) k)) = fun k => gA x0 x1 x2 x3 (y 0) k :=
    funext fun k => first_entry x0 x1 x2 x3 h0 h1 h2 _ k
  refine (congrArg (fun d => plainX _ _ d (y 1)) e).trans ?_
  exact (gradX_eq _ _ _ (fun k => h4 (y 0) k) h5 (fun k => first_real x0 x1 x2 x3 h0 h1 h2 h3 (y 0) k) (y 1)).symm

/-- The first gradient by the weights. -/
theorem weight1_eq : val_main_v18 (F := Ideal) x0 x2 = sumsOf (hA x0 x2) := funext fun y => by
  have h : y 0 = (0 : Fin 1) := Fin.eq_zero _
  rw [eq_ix2 y, h]
  exact Cert.Rms2RefIdeal.Eq.weight1 _ _ _

include h0 h1 h2 in
/-- The second gradient by the weights. -/
theorem weight2_eq : val_main_v54 (F := Ideal) x0 x1 x2 x3 x4 = sumsOf (hB x0 x1 x2 x3 x4) := funext fun y => by
  have h : y 0 = (0 : Fin 1) := Fin.eq_zero _
  rw [eq_ix2 y, h]
  refine (Cert.Rms2RefIdeal.Eq.weight2 x0 x1 x2 x3 x4 (y 1)).trans ?_
  refine Finset.sum_congr rfl fun r _ => ?_
  have e : (fun k => val_main_v35 (F := Ideal) x0 x1 x2 x3 (ix2 r k)) = fun k => gA x0 x1 x2 x3 r k :=
    funext fun k => first_entry x0 x1 x2 x3 h0 h1 h2 _ k
  exact congrArg (fun d => gradW _ d (y 1)) e

end Cert.Rms2Eq

end
-- ==== Proof.Rms2Finite.lean ====
/-
  What the precondition says: every entry of the six arguments is a real number.
-/
module

public import proofs.«01_k».proof.Pre_rms2_finite
public import Idealize.ShloMosaic.PureOps.Ideal
public import Idealize.ShloMosaic.Lib.Pointwise
public import Idealize.ShloMosaic.Lib.Tactic

@[expose] public section

noncomputable section

namespace Cert.Pre_rms2_finite

open Idealize.ShloMosaic

/-- The pattern the comparison is against is infinity. -/
theorem inf_eq : Ideal.ofBits .f32 0x7F800000#32 = ⊤ := by simp [Ideal.ofBits, Ideal.ieee]

/-- A number whose absolute value lies below infinity is neither infinity. -/
theorem real_of_cmp (a : EReal) (h : BitVec.ofBool (decide (max a (-a) < Ideal.ofBits .f32 0x7F800000#32)) = 1#1) : a ≠ ⊤ ∧ a ≠ ⊥ := by
  rw [inf_eq] at h
  constructor
  · rintro rfl
    simp at h
  · rintro rfl
    simp at h

/-- Both of two bits are one where their conjunction is. -/
theorem both (a b : BitVec 1) (h : a &&& b = 1#1) : a = 1#1 ∧ b = 1#1 := by
  revert a b; decide

/-- Every entry of the arguments is a real number. -/
theorem real_of_all [Facts] (x0 : FVec Ideal S4096x1024 .f32) (x1 : FVec Ideal S1x1024 .f32) (x2 : FVec Ideal S4096x1024 .bf16)
    (x3 : FVec Ideal S4096x1024 .f32) (x4 : FVec Ideal S4096x1024 .bf16) (x5 : FVec Ideal S1x1024 .f32)
    (h : fn (F := Ideal) x0 x1 x2 x3 x4 x5 = fun _ => 1#1) (r : Fin 4096) (l : Fin 1024) :
    (x0 (ix2 r l) ≠ ⊤ ∧ x0 (ix2 r l) ≠ ⊥) ∧ (x1 (ix2 0 l) ≠ ⊤ ∧ x1 (ix2 0 l) ≠ ⊥) ∧ (x2 (ix2 r l) ≠ ⊤ ∧ x2 (ix2 r l) ≠ ⊥)
      ∧ (x3 (ix2 r l) ≠ ⊤ ∧ x3 (ix2 r l) ≠ ⊥) ∧ (x4 (ix2 r l) ≠ ⊤ ∧ x4 (ix2 r l) ≠ ⊥) ∧ (x5 (ix2 0 l) ≠ ⊤ ∧ x5 (ix2 0 l) ≠ ⊥) := by
  have e := congrFun h (ix2 r l)
  unfold fn fn_part1 at e
  dsimp only at e
  pointwise at e
  obtain ⟨e, e5⟩ := both _ _ e
  obtain ⟨e, e4⟩ := both _ _ e
  obtain ⟨e, e3⟩ := both _ _ e
  obtain ⟨e, e2⟩ := both _ _ e
  obtain ⟨e0, e1⟩ := both _ _ e
  exact ⟨real_of_cmp _ e0, real_of_cmp _ e1, real_of_cmp _ e2, real_of_cmp _ e3, real_of_cmp _ e4, real_of_cmp _ e5⟩

end Cert.Pre_rms2_finite

end
-- ==== Proof.Rms2Claims.lean ====
/-
  The claims about the two norms' gradients, assembled.
-/
module

public import proofs.«01_k».proof.Defs
public import proofs.«01_k».proof.Proof.Rms2Eq
public import proofs.«01_k».proof.Proof.Rms2Finite
public import proofs.«01_k».proof.Proof.Gen.Rms2.Frame
public import proofs.«01_k».proof.Proof.Gen.Pre_rms2_finite

@[expose] public section

noncomputable section

namespace Cert.Rms2Claims

open Idealize.ShloMosaic Idealize.ShloMosaic.TcCoe Idealize.SL.Sem

instance : Cert.Rms2.Facts := Cert.Rms2.Gen.facts
instance : Cert.Rms2Ideal.Facts := Cert.Rms2Ideal.Gen.facts
instance : Cert.Rms2RefIdeal.Facts := Cert.Rms2RefIdeal.Gen.facts
instance : Cert.Pre_rms2_finite.Facts := Cert.Pre_rms2_finite.Gen.facts

/-- The kernel's program ends, faultless, its arguments unchanged, every semaphore at zero. -/
theorem frame_kernel : Cert.quiescent_Rms2 := fun m ρ _ => Cert.Rms2.Gen.frame m ρ

/-- The same of the kernel over the extended reals. -/
theorem frame_ideal : Cert.quiescent_Rms2Ideal := fun m ρ _ => Cert.Rms2Ideal.Gen.frame m ρ

/-- The same under the precondition. -/
theorem frame_ideal_pre : Cert.quiescent_Rms2Ideal_pre_rms2_finite := fun m ρ _ => Cert.Rms2Ideal.Gen.frame m ρ

/-- The reference ends, faultless, its arguments unchanged, every semaphore at zero. -/
theorem frame_ref : Cert.quiescent_Rms2RefIdeal := fun m ρ _ =>
  (θ_run Cert.Rms2RefIdeal.defs _ _).mono (fun r h => ⟨fun c => (h c).2.2.2.2, sem_eq_zero_of_no_sems (by decide) r.2⟩)
    (Cert.Rms2RefIdeal.Value.run m ρ)

/-- The same under the precondition. -/
theorem frame_ref_pre : Cert.quiescent_Rms2RefIdeal_pre_rms2_finite := fun m ρ _ => frame_ref m ρ trivial

/-- Kernel and reference end with the same four gradients where every argument entry is a real number. -/
theorem algebraic : Cert.algebraic_Rms2Ideal_Rms2RefIdeal_pre_rms2_finite := fun m ρ m' ρ' hpre hag =>
  ⟨fun c => (Cert.Rms2Ideal.Arr.arrayOf (Cert.Rms2Ideal.Arr.gA (Cert.Rms2Ideal.Arr.a0 m c) (Cert.Rms2Ideal.Arr.a1 m c) (Cert.Rms2Ideal.Arr.a2 m c)
      (Cert.Rms2Ideal.Arr.a3 m c)) : Vec Ideal Cert.Rms2Ideal.S4096x1024 .f32),
    fun c => (Cert.Rms2Ideal.Arr.arrayOf (Cert.Rms2Ideal.Arr.gB (Cert.Rms2Ideal.Arr.a0 m c) (Cert.Rms2Ideal.Arr.a1 m c) (Cert.Rms2Ideal.Arr.a2 m c)
      (Cert.Rms2Ideal.Arr.a3 m c) (Cert.Rms2Ideal.Arr.a4 m c) (Cert.Rms2Ideal.Arr.a5 m c)) : Vec Ideal Cert.Rms2Ideal.S4096x1024 .bf16),
    fun c => Cert.Rms2Ideal.Arr.sumsOf (Cert.Rms2Ideal.Arr.hA (Cert.Rms2Ideal.Arr.a0 m c) (Cert.Rms2Ideal.Arr.a2 m c)),
    fun c => Cert.Rms2Ideal.Arr.sumsOf (Cert.Rms2Ideal.Arr.hB (Cert.Rms2Ideal.Arr.a0 m c) (Cert.Rms2Ideal.Arr.a1 m c) (Cert.Rms2Ideal.Arr.a2 m c)
      (Cert.Rms2Ideal.Arr.a3 m c) (Cert.Rms2Ideal.Arr.a4 m c)),
    Cert.Rms2Ideal.Arr.run m ρ,
    (θ_run _ _ _).mono (fun r h c => by
      obtain ⟨r0, r1, r2, r3, hk⟩ := h c
      obtain ⟨e0, e1, e2, e3, e4, e5⟩ := hag c
      have hr := Cert.Pre_rms2_finite.real_of_all _ _ _ _ _ _ (hpre c)
      have h0 := fun r l => (hr r l).1
      have h1 := fun l => (hr 0 l).2.1
      have h2 := fun r l => (hr r l).2.2.1
      have h3 := fun r l => (hr r l).2.2.2.1
      have h4 := fun r l => (hr r l).2.2.2.2.1
      have h5 := fun l => (hr 0 l).2.2.2.2.2
      refine ⟨r0.trans ((Cert.Rms2RefIdeal.Read.val_main_v35_eq _ _ _ _).trans ?_),
        r1.trans ((Cert.Rms2RefIdeal.Read.val_main_v71_eq m' c).trans ?_),
        r2.trans ((Cert.Rms2RefIdeal.Read.val_main_v18_eq _ _).trans ?_),
        r3.trans ((Cert.Rms2RefIdeal.Read.val_main_v54_eq m' c).trans ?_), hk⟩
      · rw [e0, e1, e2, e3]; exact Cert.Rms2Eq.first_eq _ _ _ _ h0 h1 h2
      · rw [e0, e1, e2, e3, e4, e5]; exact Cert.Rms2Eq.second_eq _ _ _ _ _ _ h0 h1 h2 h3 h4 h5
      · rw [e0, e2]; exact Cert.Rms2Eq.weight1_eq _ _
      · rw [e0, e1, e2, e3, e4]; exact Cert.Rms2Eq.weight2_eq _ _ _ _ _ h0 h1 h2) (Cert.Rms2RefIdeal.Value.run m' ρ')⟩

end Cert.Rms2Claims

end
-- ==== Proof.RmsbSums.lean ====
/-
  The running sum one grid point of one norm's gradient keeps in its scratch buffer: for every row number within a
  stretch of 32 rows and every lane, the sum over the block's sixteen stretches of the weights' gradient.
-/
module

public import proofs.«01_k».proof.Proof.NormMath
public import proofs.«01_k».proof.Proof.Gen.RmsbIdeal.Frame.RunA
public import Idealize.ShloMosaic.Lib.Pipeline.ReadBack
public import Idealize.ShloMosaic.Lib.Pipeline.ValueKit.Tiles
public import Idealize.ShloMosaic.Lib.Pipeline.CanonAppend
public import Idealize.ShloMosaic.Lib.Pointwise
public import Idealize.ShloMosaic.Lib.Tactic

@[expose] public section

set_option maxRecDepth 16384

noncomputable section

namespace Cert.RmsbIdeal.Block

open Cert.RmsbIdeal Cert.RmsbIdeal.Gen Idealize.ShloMosaic Idealize.ShloMosaic.TcCoe Idealize.SL.Sem
open Idealize.ShloMosaic.Pipeline (Dat)

attribute [local pointwise] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38

/-- The norm's gradient by a block's rows. -/
def dA (x0 : Vec Ideal S512x1024 .bf16) (x1 : Vec Ideal S1x1024 .f32) (x2 : Vec Ideal S512x1024 .f32) (r : Fin 512) (l : Fin 1024) : EReal :=
  NormMath.gradX (fun k => x0 (ix2 r k)) (fun k => x1 (ix2 0 k)) (fun k => x2 (ix2 r k)) l

variable (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S32x1024 .f32) (harg6 : arg6.IsWhole)
    (x0 : Vec Ideal S512x1024 .bf16) (x1 : Vec Ideal S1x1024 .f32) (x2 : Vec Ideal S512x1024 .f32)

/-- The running sums start at zero. -/
theorem acc_0 (r : Fin 32) (l : Fin 1024) : kernelRun0_A.sl.v33 (F := Ideal) c arg6 (ix2 r l) = 0 := by
  unfold kernelRun0_A.sl.v33 kernelRun0_A.sl.HS0_1
  refine (congrFun (View.readCov_fill arg6.view _ _ [] _ (by intro a; fin_cases a <;> rfl)) _).trans ?_
  pointwise [View.ld_apply]

/-- The running sums after 1 stretches of rows. -/
theorem acc_1 (r : Fin 32) (l : Fin 1024) : kernelRun0_A.sl.v67 (F := Ideal) c arg1 harg1 arg3 harg3 arg6 x0 x2 (ix2 r l)
    = kernelRun0_A.sl.v33 (F := Ideal) c arg6 (ix2 r l) + NormMath.gradW (fun k => x0 (ix2 (⟨0 + r.val, by omega⟩ : Fin 512) k)) (fun k => x2 (ix2 (⟨0 + r.val, by omega⟩ : Fin 512) k)) l := by
  unfold kernelRun0_A.sl.v67 kernelRun0_A.sl.HS0_2
  rw [View.readCov_cons_toLoadRect]
  pointwise [View.readAt_eq_ld, harg1.read_unread, harg3.read_unread]
  rfl

/-- The running sums after 2 stretches of rows. -/
theorem acc_2 (r : Fin 32) (l : Fin 1024) : kernelRun0_A.sl.v101 (F := Ideal) c arg1 harg1 arg3 harg3 arg6 x0 x2 (ix2 r l)
    = kernelRun0_A.sl.v67 (F := Ideal) c arg1 harg1 arg3 harg3 arg6 x0 x2 (ix2 r l) + NormMath.gradW (fun k => x0 (ix2 (⟨32 + r.val, by omega⟩ : Fin 512) k)) (fun k => x2 (ix2 (⟨32 + r.val, by omega⟩ : Fin 512) k)) l := by
  unfold kernelRun0_A.sl.v101 kernelRun0_A.sl.HS0_3
  rw [View.readCov_cons_toLoadRect]
  pointwise [View.readAt_eq_ld, harg1.read_unread, harg3.read_unread]
  rfl

/-- The running sums after 3 stretches of rows. -/
theorem acc_3 (r : Fin 32) (l : Fin 1024) : kernelRun0_A.sl.v135 (F := Ideal) c arg1 harg1 arg3 harg3 arg6 x0 x2 (ix2 r l)
    = kernelRun0_A.sl.v101 (F := Ideal) c arg1 harg1 arg3 harg3 arg6 x0 x2 (ix2 r l) + NormMath.gradW (fun k => x0 (ix2 (⟨64 + r.val, by omega⟩ : Fin 512) k)) (fun k => x2 (ix2 (⟨64 + r.val, by omega⟩ : Fin 512) k)) l := by
  unfold kernelRun0_A.sl.v135 kernelRun0_A.sl.HS0_4
  rw [View.readCov_cons_toLoadRect]
  pointwise [View.readAt_eq_ld, harg1.read_unread, harg3.read_unread]
  rfl

/-- The running sums after 4 stretches of rows. -/
theorem acc_4 (r : Fin 32) (l : Fin 1024) : kernelRun0_A.sl.v169 (F := Ideal) c arg1 harg1 arg3 harg3 arg6 x0 x2 (ix2 r l)
    = kernelRun0_A.sl.v135 (F := Ideal) c arg1 harg1 arg3 harg3 arg6 x0 x2 (ix2 r l) + NormMath.gradW (fun k => x0 (ix2 (⟨96 + r.val, by omega⟩ : Fin 512) k)) (fun k => x2 (ix2 (⟨96 + r.val, by omega⟩ : Fin 512) k)) l := by
  unfold kernelRun0_A.sl.v169 kernelRun0_A.sl.HS0_5
  rw [View.readCov_cons_toLoadRect]
  pointwise [View.readAt_eq_ld, harg1.read_unread, harg3.read_unread]
  rfl

/-- The running sums after 5 stretches of rows. -/
theorem acc_5 (r : Fin 32) (l : Fin 1024) : kernelRun0_A.sl.v203 (F := Ideal) c arg1 harg1 arg3 harg3 arg6 x0 x2 (ix2 r l)
    = kernelRun0_A.sl.v169 (F := Ideal) c arg1 harg1 arg3 harg3 arg6 x0 x2 (ix2 r l) + NormMath.gradW (fun k => x0 (ix2 (⟨128 + r.val, by omega⟩ : Fin 512) k)) (fun k => x2 (ix2 (⟨128 + r.val, by omega⟩ : Fin 512) k)) l := by
  unfold kernelRun0_A.sl.v203 kernelRun0_A.sl.HS0_6
  rw [View.readCov_cons_toLoadRect]
  pointwise [View.readAt_eq_ld, harg1.read_unread, harg3.read_unread]
  rfl

/-- The running sums after 6 stretches of rows. -/
theorem acc_6 (r : Fin 32) (l : Fin 1024) : kernelRun0_A.sl.v237 (F := Ideal) c arg1 harg1 arg3 harg3 arg6 x0 x2 (ix2 r l)
    = kernelRun0_A.sl.v203 (F := Ideal) c arg1 harg1 arg3 harg3 arg6 x0 x2 (ix2 r l) + NormMath.gradW (fun k => x0 (ix2 (⟨160 + r.val, by omega⟩ : Fin 512) k)) (fun k => x2 (ix2 (⟨160 + r.val, by omega⟩ : Fin 512) k)) l := by
  unfold kernelRun0_A.sl.v237 kernelRun0_A.sl.HS0_7
  rw [View.readCov_cons_toLoadRect]
  pointwise [View.readAt_eq_ld, harg1.read_unread, harg3.read_unread]
  rfl

/-- The running sums after 7 stretches of rows. -/
theorem acc_7 (r : Fin 32) (l : Fin 1024) : kernelRun0_A.sl.v271 (F := Ideal) c arg1 harg1 arg3 harg3 arg6 x0 x2 (ix2 r l)
    = kernelRun0_A.sl.v237 (F := Ideal) c arg1 harg1 arg3 harg3 arg6 x0 x2 (ix2 r l) + NormMath.gradW (fun k => x0 (ix2 (⟨192 + r.val, by omega⟩ : Fin 512) k)) (fun k => x2 (ix2 (⟨192 + r.val, by omega⟩ : Fin 512) k)) l := by
  unfold kernelRun0_A.sl.v271 kernelRun0_A.sl.HS0_8
  rw [View.readCov_cons_toLoadRect]
  pointwise [View.readAt_eq_ld, harg1.read_unread, harg3.read_unread]
  rfl

/-- The running sums after 8 stretches of rows. -/
theorem acc_8 (r : Fin 32) (l : Fin 1024) : kernelRun0_A.sl.v305 (F := Ideal) c arg1 harg1 arg3 harg3 arg6 x0 x2 (ix2 r l)
    = kernelRun0_A.sl.v271 (F := Ideal) c arg1 harg1 arg3 harg3 arg6 x0 x2 (ix2 r l) + NormMath.gradW (fun k => x0 (ix2 (⟨224 + r.val, by omega⟩ : Fin 512) k)) (fun k => x2 (ix2 (⟨224 + r.val, by omega⟩ : Fin 512) k)) l := by
  unfold kernelRun0_A.sl.v305 kernelRun0_A.sl.HS0_9
  rw [View.readCov_cons_toLoadRect]
  pointwise [View.readAt_eq_ld, harg1.read_unread, harg3.read_unread]
  rfl

/-- The running sums after 9 stretches of rows. -/
theorem acc_9 (r : Fin 32) (l : Fin 1024) : kernelRun0_A.sl.v339 (F := Ideal) c arg1 harg1 arg3 harg3 arg6 x0 x2 (ix2 r l)
    = kernelRun0_A.sl.v305 (F := Ideal) c arg1 harg1 arg3 harg3 arg6 x0 x2 (ix2 r l) + NormMath.gradW (fun k => x0 (ix2 (⟨256 + r.val, by omega⟩ : Fin 512) k)) (fun k => x2 (ix2 (⟨256 + r.val, by omega⟩ : Fin 512) k)) l := by
  unfold kernelRun0_A.sl.v339 kernelRun0_A.sl.HS0_10
  rw [View.readCov_cons_toLoadRect]
  pointwise [View.readAt_eq_ld, harg1.read_unread, harg3.read_unread]
  rfl

/-- The running sums after 10 stretches of rows. -/
theorem acc_10 (r : Fin 32) (l : Fin 1024) : kernelRun0_A.sl.v373 (F := Ideal) c arg1 harg1 arg3 harg3 arg6 x0 x2 (ix2 r l)
    = kernelRun0_A.sl.v339 (F := Ideal) c arg1 harg1 arg3 harg3 arg6 x0 x2 (ix2 r l) + NormMath.gradW (fun k => x0 (ix2 (⟨288 + r.val, by omega⟩ : Fin 512) k)) (fun k => x2 (ix2 (⟨288 + r.val, by omega⟩ : Fin 512) k)) l := by
  unfold kernelRun0_A.sl.v373 kernelRun0_A.sl.HS0_11
  rw [View.readCov_cons_toLoadRect]
  pointwise [View.readAt_eq_ld, harg1.read_unread, harg3.read_unread]
  rfl

/-- The running sums after 11 stretches of rows. -/
theorem acc_11 (r : Fin 32) (l : Fin 1024) : kernelRun0_A.sl.v407 (F := Ideal) c arg1 harg1 arg3 harg3 arg6 x0 x2 (ix2 r l)
    = kernelRun0_A.sl.v373 (F := Ideal) c arg1 harg1 arg3 harg3 arg6 x0 x2 (ix2 r l) + NormMath.gradW (fun k => x0 (ix2 (⟨320 + r.val, by omega⟩ : Fin 512) k)) (fun k => x2 (ix2 (⟨320 + r.val, by omega⟩ : Fin 512) k)) l := by
  unfold kernelRun0_A.sl.v407 kernelRun0_A.sl.HS0_12
  rw [View.readCov_cons_toLoadRect]
  pointwise [View.readAt_eq_ld, harg1.read_unread, harg3.read_unread]
  rfl

/-- The running sums after 12 stretches of rows. -/
theorem acc_12 (r : Fin 32) (l : Fin 1024) : kernelRun0_A.sl.v441 (F := Ideal) c arg1 harg1 arg3 harg3 arg6 x0 x2 (ix2 r l)
    = kernelRun0_A.sl.v407 (F := Ideal) c arg1 harg1 arg3 harg3 arg6 x0 x2 (ix2 r l) + NormMath.gradW (fun k => x0 (ix2 (⟨352 + r.val, by omega⟩ : Fin 512) k)) (fun k => x2 (ix2 (⟨352 + r.val, by omega⟩ : Fin 512) k)) l := by
  unfold kernelRun0_A.sl.v441 kernelRun0_A.sl.HS0_13
  rw [View.readCov_cons_toLoadRect]
  pointwise [View.readAt_eq_ld, harg1.read_unread, harg3.read_unread]
  rfl

/-- The running sums after 13 stretches of rows. -/
theorem acc_13 (r : Fin 32) (l : Fin 1024) : kernelRun0_A.sl.v475 (F := Ideal) c arg1 harg1 arg3 harg3 arg6 x0 x2 (ix2 r l)
    = kernelRun0_A.sl.v441 (F := Ideal) c arg1 harg1 arg3 harg3 arg6 x0 x2 (ix2 r l) + NormMath.gradW (fun k => x0 (ix2 (⟨384 + r.val, by omega⟩ : Fin 512) k)) (fun k => x2 (ix2 (⟨384 + r.val, by omega⟩ : Fin 512) k)) l := by
  unfold kernelRun0_A.sl.v475 kernelRun0_A.sl.HS0_14
  rw [View.readCov_cons_toLoadRect]
  pointwise [View.readAt_eq_ld, harg1.read_unread, harg3.read_unread]
  rfl

/-- The running sums after 14 stretches of rows. -/
theorem acc_14 (r : Fin 32) (l : Fin 1024) : kernelRun0_A.sl.v509 (F := Ideal) c arg1 harg1 arg3 harg3 arg6 x0 x2 (ix2 r l)
    = kernelRun0_A.sl.v475 (F := Ideal) c arg1 harg1 arg3 harg3 arg6 x0 x2 (ix2 r l) + NormMath.gradW (fun k => x0 (ix2 (⟨416 + r.val, by omega⟩ : Fin 512) k)) (fun k => x2 (ix2 (⟨416 + r.val, by omega⟩ : Fin 512) k)) l := by
  unfold kernelRun0_A.sl.v509 kernelRun0_A.sl.HS0_15
  rw [View.readCov_cons_toLoadRect]
  pointwise [View.readAt_eq_ld, harg1.read_unread, harg3.read_unread]
  rfl

/-- The running sums after 15 stretches of rows. -/
theorem acc_15 (r : Fin 32) (l : Fin 1024) : kernelRun0_A.sl.v543 (F := Ideal) c arg1 harg1 arg3 harg3 arg6 x0 x2 (ix2 r l)
    = kernelRun0_A.sl.v509 (F := Ideal) c arg1 harg1 arg3 harg3 arg6 x0 x2 (ix2 r l) + NormMath.gradW (fun k => x0 (ix2 (⟨448 + r.val, by omega⟩ : Fin 512) k)) (fun k => x2 (ix2 (⟨448 + r.val, by omega⟩ : Fin 512) k)) l := by
  unfold kernelRun0_A.sl.v543 kernelRun0_A.sl.HS0_16
  rw [View.readCov_cons_toLoadRect]
  pointwise [View.readAt_eq_ld, harg1.read_unread, harg3.read_unread]
  rfl

/-- The running sums after 16 stretches of rows. -/
theorem acc_16 (r : Fin 32) (l : Fin 1024) : kernelRun0_A.sl.v553 (F := Ideal) c arg1 harg1 arg3 harg3 arg6 x0 x2 (ix2 r l)
    = kernelRun0_A.sl.v543 (F := Ideal) c arg1 harg1 arg3 harg3 arg6 x0 x2 (ix2 r l) + NormMath.gradW (fun k => x0 (ix2 (⟨480 + r.val, by omega⟩ : Fin 512) k)) (fun k => x2 (ix2 (⟨480 + r.val, by omega⟩ : Fin 512) k)) l := by
  unfold kernelRun0_A.sl.v553 kernelRun0_A.sl.HS0_17
  rw [View.readCov_cons_toLoadRect]
  pointwise [View.readAt_eq_ld, harg1.read_unread, harg3.read_unread]
  rfl

/-- What the running sums hold at the end. -/
theorem total (r : Fin 32) (l : Fin 1024) : kernelRun0_A.sl.v553 (F := Ideal) c arg1 harg1 arg3 harg3 arg6 x0 x2 (ix2 r l)
    = ∑ s : Fin 16, NormMath.gradW (fun k => x0 (ix2 (⟨32 * s.val + r.val, by omega⟩ : Fin 512) k)) (fun k => x2 (ix2 (⟨32 * s.val + r.val, by omega⟩ : Fin 512) k)) l := by
  rw [acc_16, acc_15, acc_14, acc_13, acc_12, acc_11, acc_10, acc_9, acc_8, acc_7, acc_6, acc_5, acc_4, acc_3, acc_2, acc_1, acc_0]
  simp only [Fin.sum_univ_castSucc, Fin.sum_univ_zero]
  rfl

end Cert.RmsbIdeal.Block

end
-- ==== Proof.RmsbRows.lean ====
/-
  What one grid point of one norm's gradient leaves in its gradient block, row by row.
-/
module

public import proofs.«01_k».proof.Proof.RmsbSums
public import proofs.«01_k».proof.Proof.Gen.RmsbIdeal.Value
public import Idealize.ShloMosaic.Lib.Pipeline.ReadBack
public import Idealize.ShloMosaic.Lib.Pipeline.ValueKit.Tiles
public import Idealize.ShloMosaic.Lib.Pipeline.CanonAppend
public import Idealize.ShloMosaic.Lib.Pointwise
public import Idealize.ShloMosaic.Lib.Tactic

@[expose] public section

set_option maxRecDepth 16384

noncomputable section

namespace Cert.RmsbIdeal.Block

open Cert.RmsbIdeal Cert.RmsbIdeal.Gen Idealize.ShloMosaic Idealize.ShloMosaic.TcCoe Idealize.SL.Sem
open Idealize.ShloMosaic.Pipeline (Dat)

attribute [local pointwise] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_B.sl.r kernelRun0_B.sl.r_1 kernelRun0_B.sl.r_2 kernelRun0_B.sl.r_3 kernelRun0_B.sl.r_4 kernelRun0_B.sl.r_5 kernelRun0_B.sl.r_6 kernelRun0_B.sl.r_7 kernelRun0_B.sl.r_8 kernelRun0_B.sl.r_9 kernelRun0_B.sl.r_10 kernelRun0_B.sl.r_11 kernelRun0_B.sl.r_12 kernelRun0_B.sl.r_13 kernelRun0_B.sl.r_14 kernelRun0_B.sl.r_15 kernelRun0_B.sl.r_16 kernelRun0_B.sl.r_17 kernelRun0_B.sl.r_18 kernelRun0_B.sl.r_19 kernelRun0_B.sl.r_20 kernelRun0_B.sl.r_21 kernelRun0_B.sl.r_22 kernelRun0_B.sl.r_23 kernelRun0_B.sl.r_24 kernelRun0_B.sl.r_25 kernelRun0_B.sl.r_26 kernelRun0_B.sl.r_27 kernelRun0_B.sl.r_28 kernelRun0_B.sl.r_29 kernelRun0_B.sl.r_30 kernelRun0_B.sl.r_31 kernelRun0_B.sl.r_32 kernelRun0_B.sl.r_33 kernelRun0_B.sl.r_34 kernelRun0_B.sl.r_35 kernelRun0_B.sl.r_36 kernelRun0_B.sl.r_37 kernelRun0_B.sl.r_38

/-- A block from its rows. -/
def blockOf (G : Fin 512 → Fin 1024 → EReal) (y : S512x1024.Idx) : EReal := G (y 0) (y 1)

/-- A row of a stretch of 32 rows is a row of the block. -/
theorem blockOf_stretch (G : Fin 512 → Fin 1024 → EReal) (o : ℕ) (inb : ∀ a, (![o, 0] : Fin 2 → ℕ) a + (![32, 1024] : Fin 2 → ℕ) a ≤ S512x1024.size a)
    (z0 : Fin 32) (z1 : Fin 1024) (h : o + z0.val < 512) :
    blockOf G ((Rect.unit (s := S512x1024) ![o, 0] ![32, 1024] inb).emb (ix2 z0 z1)) = G ⟨o + z0.val, h⟩ z1 := by
  unfold blockOf
  congr 1
  · exact Fin.ext (by show o + 1 * z0.val = o + z0.val; omega)
  · exact Fin.ext (by show 0 + 1 * z1.val = z1.val; omega)

variable (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S32x1024 .f32) (harg6 : arg6.IsWhole)
    (x0 : Vec Ideal S512x1024 .bf16) (x1 : Vec Ideal S1x1024 .f32) (x2 : Vec Ideal S512x1024 .f32)

/-- Every stretch of rows stored at the first point is that stretch of the gradient. -/
theorem piecesA3 (hc0 : cond0_0 i) : View.PiecesOf (Val := Elt Ideal) (blockOf (dA x0 x1 x2)) (kernelRun0_A (F := Ideal) c i arg1 harg1 arg2 harg2 arg3 harg3 arg4 harg4 arg5 harg5 arg6 harg6 hc0 x0 x1 x2).1 := by
  unfold kernelRun0_A
  dsimp only
  refine ⟨?_, ?_, ?_, ?_, ?_, ?_, ?_, ?_, ?_, ?_, ?_, ?_, ?_, ?_, ?_, ?_, trivial⟩
  all_goals
    intro (z : S32x1024.Idx)
    idx_vars z
    refine Eq.trans ?_ (blockOf_stretch _ _ _ z0 z1 (by omega)).symm
    pointwise [View.readAt_eq_ld, harg1.read_unread, harg2.read_unread, harg3.read_unread]
    rfl

/-- The gradient's block at the first point. -/
theorem outA3 (hc0 : cond0_0 i) : out0_A_3 (F := Ideal) c i arg1 harg1 arg2 harg2 arg3 harg3 arg4 harg4 arg5 harg5 arg6 harg6 hc0 x0 x1 x2 = blockOf (dA x0 x1 x2) := by
  unfold out0_A_3
  rw [View.read_writes_eq_canon _ _ _ (cover0_A_3 (F := Ideal) c i arg1 harg1 arg2 harg2 arg3 harg3 arg4 harg4 arg5 harg5 arg6 harg6 hc0 x0 x1 x2)]
  funext y
  have h := View.canon_append_of_piecesOf (Val := Elt Ideal) _ [] _ (piecesA3 c i arg1 harg1 arg2 harg2 arg3 harg3 arg4 harg4 arg5 harg5 arg6 harg6 x0 x1 x2 hc0) y
    (cover0_A_3 (F := Ideal) c i arg1 harg1 arg2 harg2 arg3 harg3 arg4 harg4 arg5 harg5 arg6 harg6 hc0 x0 x1 x2 y)
  rwa [List.append_nil] at h

/-- Every stretch of rows stored at a later point is that stretch of the gradient. -/
theorem piecesB3 (hc0 : ¬cond0_0 i) (xo4 : Vec Ideal S1x1024 .f32) : View.PiecesOf (Val := Elt Ideal) (blockOf (dA x0 x1 x2)) (kernelRun0_B (F := Ideal) c i arg1 harg1 arg2 harg2 arg3 harg3 arg4 harg4 arg5 harg5 arg6 harg6 hc0 x0 x1 x2 xo4).1 := by
  unfold kernelRun0_B
  dsimp only
  refine ⟨?_, ?_, ?_, ?_, ?_, ?_, ?_, ?_, ?_, ?_, ?_, ?_, ?_, ?_, ?_, ?_, trivial⟩
  all_goals
    intro (z : S32x1024.Idx)
    idx_vars z
    refine Eq.trans ?_ (blockOf_stretch _ _ _ z0 z1 (by omega)).symm
    pointwise [View.readAt_eq_ld, harg1.read_unread, harg2.read_unread, harg3.read_unread]
    rfl

/-- The gradient's block at a later point. -/
theorem outB3 (hc0 : ¬cond0_0 i) (xo4 : Vec Ideal S1x1024 .f32) : out0_B_3 (F := Ideal) c i arg1 harg1 arg2 harg2 arg3 harg3 arg4 harg4 arg5 harg5 arg6 harg6 hc0 x0 x1 x2 xo4 = blockOf (dA x0 x1 x2) := by
  unfold out0_B_3
  rw [View.read_writes_eq_canon _ _ _ (cover0_B_3 (F := Ideal) c i arg1 harg1 arg2 harg2 arg3 harg3 arg4 harg4 arg5 harg5 arg6 harg6 hc0 x0 x1 x2 xo4)]
  funext y
  have h := View.canon_append_of_piecesOf (Val := Elt Ideal) _ [] _ (piecesB3 c i arg1 harg1 arg2 harg2 arg3 harg3 arg4 harg4 arg5 harg5 arg6 harg6 x0 x1 x2 hc0 xo4) y
    (cover0_B_3 (F := Ideal) c i arg1 harg1 arg2 harg2 arg3 harg3 arg4 harg4 arg5 harg5 arg6 harg6 hc0 x0 x1 x2 xo4 y)
  rwa [List.append_nil] at h

end Cert.RmsbIdeal.Block

end
-- ==== Proof.RmsbWeights.lean ====
/-
  What one grid point of one norm's gradient leaves in the gradient by the weights: each point adds its rows' parts.
-/
module

public import proofs.«01_k».proof.Proof.RmsbSums
public import proofs.«01_k».proof.Proof.Gen.RmsbIdeal.Value
public import Idealize.ShloMosaic.Lib.Pipeline.ReadBack
public import Idealize.ShloMosaic.Lib.Pipeline.ValueKit.Tiles
public import Idealize.ShloMosaic.Lib.Pipeline.CanonAppend
public import Idealize.ShloMosaic.Lib.Pointwise
public import Idealize.ShloMosaic.Lib.Tactic

@[expose] public section

set_option maxRecDepth 16384

noncomputable section

namespace Cert.RmsbIdeal.Block

open Cert.RmsbIdeal Cert.RmsbIdeal.Gen Idealize.ShloMosaic Idealize.ShloMosaic.TcCoe Idealize.SL.Sem
open Idealize.ShloMosaic.Pipeline (Dat)

attribute [local pointwise] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38

/-- A sum over the sixteen stretches and the 32 rows of each is the sum over the block's rows. -/
theorem sum_stretches (f : Fin 512 → EReal) :
    ∑ r : Fin 32, ∑ s : Fin 16, f ⟨32 * s.val + r.val, by omega⟩ = ∑ r : Fin 512, f r := by
  rw [Finset.sum_comm, Fin.sum_univ_tiles 16 32 (by norm_num) f]
  exact Finset.sum_congr rfl fun s _ => Finset.sum_congr rfl fun r _ => congrArg f (Fin.ext (by show 32 * s.val + r.val = s.val * 32 + r.val; omega))

/-- The norm's gradient by its weights, over a block's rows. -/
def wA (x0 : Vec Ideal S512x1024 .bf16) (x2 : Vec Ideal S512x1024 .f32) (l : Fin 1024) : EReal :=
  ∑ r : Fin 512, NormMath.gradW (fun k => x0 (ix2 r k)) (fun k => x2 (ix2 r k)) l

variable (c : Dev nD) (i : grid0.Coords) (arg1 : Memref sig .tc .vmem S512x1024 .bf16) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S32x1024 .f32) (harg6 : arg6.IsWhole)
    (x0 : Vec Ideal S512x1024 .bf16) (x1 : Vec Ideal S1x1024 .f32) (x2 : Vec Ideal S512x1024 .f32)

/-- The store that adds a point's rows to the sums. -/
theorem add4 (old : Vec Ideal S1x1024 .f32) (l : Fin 1024) :
    k0_pay4 (F := Ideal) old (kernelRun0_A.sl.v553 (F := Ideal) c arg1 harg1 arg3 harg3 arg6 x0 x2) (ix2 0 l) = old (ix2 0 l) + wA x0 x2 l := by
  have h : k0_pay4 (F := Ideal) old (kernelRun0_A.sl.v553 (F := Ideal) c arg1 harg1 arg3 harg3 arg6 x0 x2) (ix2 0 l)
      = old (ix2 0 l) + ∑ r : Fin 32, kernelRun0_A.sl.v553 (F := Ideal) c arg1 harg1 arg3 harg3 arg6 x0 x2 (ix2 r l) := by
    pointwise [k0_pay4]
  rw [h, Finset.sum_congr rfl fun r _ => total c arg1 harg1 arg3 harg3 arg6 x0 x2 r l]
  unfold wA
  rw [← sum_stretches]

/-- The sums' block at the first point. -/
theorem outA4 (hc0 : cond0_0 i) (l : Fin 1024) : out0_A_4 (F := Ideal) c i arg1 harg1 arg2 harg2 arg3 harg3 arg4 harg4 arg5 harg5 arg6 harg6 hc0 x0 x1 x2 (ix2 0 l) = wA x0 x2 l := by
  unfold out0_A_4
  rw [View.read_writes_eq_canon _ _ _ (cover0_A_4 (F := Ideal) c i arg1 harg1 arg2 harg2 arg3 harg3 arg4 harg4 arg5 harg5 arg6 harg6 hc0 x0 x1 x2)]
  unfold kernelRun0_A
  dsimp only
  refine (congrFun (View.canon_cons_unit_lit _ _ _ (by intro a; fin_cases a <;> rfl)) _).trans ?_
  refine (add4 c arg1 harg1 arg3 harg3 arg6 x0 x2 _ l).trans ?_
  refine (congrArg (· + wA x0 x2 l) ?_).trans (zero_add _)
  unfold kernelRun0_A.sl.v551 kernelRun0_A.sl.H4_1
  refine (congrFun (View.readCov_fill _ _ _ [] _ (by intro a; fin_cases a <;> rfl)) _).trans ?_
  pointwise [View.ld_apply]

/-- The sums' block at a later point. -/
theorem outB4 (hc0 : ¬cond0_0 i) (xo4 : Vec Ideal S1x1024 .f32) (l : Fin 1024) :
    out0_B_4 (F := Ideal) c i arg1 harg1 arg2 harg2 arg3 harg3 arg4 harg4 arg5 harg5 arg6 harg6 hc0 x0 x1 x2 xo4 (ix2 0 l) = xo4 (ix2 0 l) + wA x0 x2 l := by
  unfold out0_B_4
  rw [View.read_writes_eq_canon _ _ _ (cover0_B_4 (F := Ideal) c i arg1 harg1 arg2 harg2 arg3 harg3 arg4 harg4 arg5 harg5 arg6 harg6 hc0 x0 x1 x2 xo4)]
  unfold kernelRun0_B
  dsimp only
  refine (congrFun (View.canon_cons_unit_lit _ _ _ (by intro a; fin_cases a <;> rfl)) _).trans ?_
  refine (add4 c arg1 harg1 arg3 harg3 arg6 x0 x2 _ l).trans ?_
  refine congrArg (· + wA x0 x2 l) ?_
  pointwise [View.readAt_eq_ld, harg5.read_unread]

end Cert.RmsbIdeal.Block

end
-- ==== Proof.RmsbArray.lean ====
/-
  The two result arrays of one norm's gradient after the run, as functions of the argument arrays. The grid is
  one axis of eight blocks of 512 rows.
-/
module

public import proofs.«01_k».proof.Proof.Sums
public import proofs.«01_k».proof.Proof.RmsbRows
public import proofs.«01_k».proof.Proof.RmsbWeights

@[expose] public section

set_option maxRecDepth 16384

noncomputable section

namespace Cert.RmsbIdeal.Arr

open Cert.RmsbIdeal Cert.RmsbIdeal.Gen Cert.RmsbIdeal.Block Cert.NormMath Idealize.ShloMosaic Idealize.ShloMosaic.TcCoe Idealize.SL.Sem
open Idealize.ShloMosaic.Pipeline (Dat)

/-- The norm's gradient by its argument. -/
def gA (X0 : Vec Ideal S4096x1024 .bf16) (X1 : Vec Ideal S1x1024 .f32) (X2 : Vec Ideal S4096x1024 .f32)
    (r : Fin 4096) (l : Fin 1024) : EReal :=
  gradX (fun k => X0 (ix2 r k)) (fun k => X1 (ix2 0 k)) (fun k => X2 (ix2 r k)) l

/-- One row's part of the norm's gradient by its weights. -/
def hA (X0 : Vec Ideal S4096x1024 .bf16) (X2 : Vec Ideal S4096x1024 .f32) (l : Fin 1024) (r : Fin 4096) : EReal :=
  gradW (fun k => X0 (ix2 r k)) (fun k => X2 (ix2 r k)) l

/-- An array from its rows. -/
def arrayOf (G : Fin 4096 → Fin 1024 → EReal) : S4096x1024.Idx → EReal := fun y => G (y 0) (y 1)

/-- A row of sums over all rows. -/
def sumsOf (H : Fin 1024 → Fin 4096 → EReal) : Vec Ideal S1x1024 .f32 := fun y => ∑ r : Fin 4096, H (y 1) r

variable (m : (ℓ : Loc nD τ sig) → Buf (Elt Ideal) ℓ) (ρ : Dev nD → PrngReg)

/-- Argument 0 as the launch finds it. -/
abbrev a0 (c : Dev nD) : Vec Ideal S4096x1024 .bf16 := m ((c : Thread nD τ).loc main_arg0)
/-- Argument 1 as the launch finds it. -/
abbrev a1 (c : Dev nD) : Vec Ideal S1x1024 .f32 := m ((c : Thread nD τ).loc main_arg1)
/-- Argument 2 as the launch finds it. -/
abbrev a2 (c : Dev nD) : Vec Ideal S4096x1024 .f32 := m ((c : Thread nD τ).loc main_arg2)

/-- A grid point as a number below eight. -/
def pt (t : Fin cfg0.N) : Fin 8 := t.cast N_0

/-- A row of a point's block as a row of the array. -/
def rowAt (t : Fin cfg0.N) (r : Fin 512) : Fin 4096 := ⟨512 * (pt t).val + r.val, by omega⟩

/-- The block of argument 0 at a point. -/
theorem blk0 (c : Dev nD) (t : Fin cfg0.N) (r : Fin 512) (l : Fin 1024) :
    (iblk m c 0 t : Vec Ideal S512x1024 .bf16) (ix2 r l) = a0 m c (ix2 (rowAt t r) l) := by
  have h : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_arg0 _ = (m ((c : Thread nD τ).loc main_arg0) : Vec Ideal S4096x1024 .bf16) _
  rw [V_main_arg0]
  refine congrArg _ (funext fun a => Fin.ext ?_)
  match a with
  | ⟨0, _⟩ => show win0_0.index t 0 * 512 + 1 * r.val = 512 * t.val + r.val; rw [(h t).1]; omega
  | ⟨1, _⟩ => show win0_0.index t 1 * 1024 + 1 * l.val = l.val; rw [(h t).2]; omega

/-- The whole of argument 1 at every point. -/
theorem blk1 (c : Dev nD) (t : Fin cfg0.N) : (iblk m c 1 t : Vec Ideal S1x1024 .f32) = a1 m c := by
  have h : ∀ t : Fin cfg0.N, win0_1.index t 0 = 0 ∧ win0_1.index t 1 = 0 :=
    (by decide +kernel : ∀ t : Fin grid0.N, win0_1.index t 0 = 0 ∧ win0_1.index t 1 = 0)
  unfold iblk
  funext j
  rw [View.read_apply]
  show V m c main_arg1 _ = (m ((c : Thread nD τ).loc main_arg1) : Vec Ideal S1x1024 .f32) _
  rw [V_main_arg1]
  refine congrArg _ (funext fun a => Fin.ext ?_)
  match a with
  | ⟨0, _⟩ => show win0_1.index t 0 * 1 + 1 * (j 0).val = (j 0).val; rw [(h t).1]; omega
  | ⟨1, _⟩ => show win0_1.index t 1 * 1024 + 1 * (j 1).val = (j 1).val; rw [(h t).2]; omega

/-- The block of argument 2 at a point. -/
theorem blk2 (c : Dev nD) (t : Fin cfg0.N) (r : Fin 512) (l : Fin 1024) :
    (iblk m c 2 t : Vec Ideal S512x1024 .f32) (ix2 r l) = a2 m c (ix2 (rowAt t r) l) := by
  have h : ∀ t : Fin cfg0.N, win0_2.index t 0 = t.val ∧ win0_2.index t 1 = 0 :=
    (by decide +kernel : ∀ t : Fin grid0.N, win0_2.index t 0 = t.val ∧ win0_2.index t 1 = 0)
  unfold iblk
  rw [View.read_apply]
  show V m c main_arg2 _ = (m ((c : Thread nD τ).loc main_arg2) : Vec Ideal S4096x1024 .f32) _
  rw [V_main_arg2]
  refine congrArg _ (funext fun a => Fin.ext ?_)
  match a with
  | ⟨0, _⟩ => show win0_2.index t 0 * 512 + 1 * r.val = 512 * t.val + r.val; rw [(h t).1]; omega
  | ⟨1, _⟩ => show win0_2.index t 1 * 1024 + 1 * l.val = l.val; rw [(h t).2]; omega

/-- A block's gradient is the array's. -/
theorem dA_eq (c : Dev nD) (t : Fin cfg0.N) (r : Fin 512) (l : Fin 1024) :
    dA (iblk m c 0 t) (iblk m c 1 t) (iblk m c 2 t) r l = gA (a0 m c) (a1 m c) (a2 m c) (rowAt t r) l := by
  unfold dA gA
  simp only [blk0, blk1, blk2]

/-- A block's rows in the gradient by its weights. -/
theorem wA_eq (c : Dev nD) (t : Fin cfg0.N) (l : Fin 1024) :
    wA (iblk m c 0 t) (iblk m c 2 t) l = ∑ r : Fin 512, hA (a0 m c) (a2 m c) l (rowAt t r) := by
  unfold wA hA
  simp only [blk0, blk2]

/-- Output 3's block after a point. -/
theorem outs3 (c : Dev nD) (t : Fin cfg0.N) (r : Fin 512) (l : Fin 1024) :
    (outsAt0 m c t.val t.isLt).1 (ix2 r l) = gA (a0 m c) (a1 m c) (a2 m c) (rowAt t r) l := by
  by_cases h0 : t.val % 8 = 0
  · have e := congrArg (fun o => o.1) (outsAt0_A m c t h0)
    dsimp only at e
    rw [e, outA3]
    exact dA_eq m c t r l
  · have e := congrArg (fun o => o.1) (outsAt0_B m c t h0)
    dsimp only at e
    rw [e, outB3]
    exact dA_eq m c t r l

/-- What each point writes back to result 0 is its block of the gradient. -/
theorem flushed3 (c : Dev nD) (t : Fin cfg0.N) (hf : (cfg0.win 3).flush t = true) :
    (dats m 0 c).flushed 3 t = ((cfg0.win 3).blk t).view.read (Elt Ideal) (arrayOf (gA (a0 m c) (a1 m c) (a2 m c)) : Vec Ideal S4096x1024 .bf16) := by
  have hi : ∀ t : Fin cfg0.N, win0_3.index t 0 = t.val ∧ win0_3.index t 1 = 0 :=
    (by decide +kernel : ∀ t : Fin grid0.N, win0_3.index t 0 = t.val ∧ win0_3.index t 1 = 0)
  rw [Cert.RmsbIdeal.Value.flushed3]
  funext x
  rw [View.read_apply]
  have h0 : (x 0).val < 512 := (x 0).isLt
  have h1 : (x 1).val < 1024 := (x 1).isLt
  have e := outs3 m c t ⟨(x 0).val, h0⟩ ⟨(x 1).val, h1⟩
  refine Eq.trans (congrArg (outsAt0 m c t.val t.isLt).1 ?_) (e.trans (congrArg (arrayOf (gA (a0 m c) (a1 m c) (a2 m c))) (a₁ := ix2 (rowAt t ⟨(x 0).val, h0⟩) ⟨(x 1).val, h1⟩) ?_))
  · exact eq_ix2 _
  · refine funext fun a => Fin.ext ?_
    match a with
    | ⟨0, _⟩ => show 512 * t.val + (x 0).val = win0_3.index t 0 * 512 + 1 * (x 0).val; rw [(hi t).1]; omega
    | ⟨1, _⟩ => show (x 1).val = win0_3.index t 1 * 1024 + 1 * (x 1).val; rw [(hi t).2]; omega

/-- Result 0 after the run. -/
theorem final3 (c : Dev nD) : (dats m 0 c).arrAt 3 cfg0.N = (arrayOf (gA (a0 m c) (a1 m c) (a2 m c)) : Vec Ideal S4096x1024 .bf16) :=
  (dats m 0 c).arrAt_eq_of_cover 3 (arrayOf (gA (a0 m c) (a1 m c) (a2 m c)) : Vec Ideal S4096x1024 .bf16) (flushed3 m c) fun i => by
    have h0 : (i 0 : Nat) < 4096 := (i 0).isLt
    have h1 : (i 1 : Nat) < 1024 := (i 1).isLt
    have hN : cfg0.N = 8 := N_0
    let t : Fin cfg0.N := ⟨(i 0 : Nat) / 512, by omega⟩
    have hi : ∀ t : Fin cfg0.N, win0_3.index t 0 * win0_3.size 0 = 512 * t.val ∧ win0_3.index t 1 * win0_3.size 1 = 0 ∧ win0_3.xsize (grid0.coords t) 0 = 512 ∧ win0_3.xsize (grid0.coords t) 1 = 1024 :=
      (by decide +kernel : ∀ t : Fin grid0.N, win0_3.index t 0 * win0_3.size 0 = 512 * t.val ∧ win0_3.index t 1 * win0_3.size 1 = 0 ∧ win0_3.xsize (grid0.coords t) 0 = 512 ∧ win0_3.xsize (grid0.coords t) 1 = 1024)
    refine ⟨t, flush0_3 t, ?_⟩
    show i ∈ ((View.whole main_v0_0).slice (win0_3.rect t)).set
    rw [View.set_slice_whole, Rect.mem_set_unit]
    intro a
    have ht : t.val = (i 0 : Nat) / 512 := rfl
    match a with
    | ⟨0, _⟩ => show win0_3.index t 0 * win0_3.size 0 ≤ (i 0 : Nat) ∧ (i 0 : Nat) < win0_3.index t 0 * win0_3.size 0 + win0_3.xsize (grid0.coords t) 0
                rw [(hi t).1, (hi t).2.2.1]; omega
    | ⟨1, _⟩ => show win0_3.index t 1 * win0_3.size 1 ≤ (i 1 : Nat) ∧ (i 1 : Nat) < win0_3.index t 1 * win0_3.size 1 + win0_3.xsize (grid0.coords t) 1
                rw [(hi t).2.1, (hi t).2.2.2]; omega

/-- A point's part of a sum over all rows. -/
def part (H : Fin 4096 → EReal) (n : ℕ) : EReal := if h : n < cfg0.N then ∑ r : Fin 512, H (rowAt ⟨n, h⟩ r) else 0

/-- The sum of the eight points' parts is the sum over all rows. -/
theorem sum_points (q : ℕ) (hq : q < 8) (H : Fin 4096 → EReal) : ∑ i : Fin 8, part H (8 * (q / 8) + i.val) = ∑ r : Fin 4096, H r := by
  rw [Fin.sum_univ_tiles 8 512 (by norm_num) H]
  refine Finset.sum_congr rfl fun i _ => ?_
  have hN : cfg0.N = 8 := N_0
  unfold part
  rw [dif_pos (by omega)]
  refine Finset.sum_congr rfl fun r _ => congrArg H (Fin.ext ?_)
  show 512 * (8 * (q / 8) + i.val) + r.val = i.val * 512 + r.val
  omega

/-- Output 4's block after the last point. -/
theorem outs4 (c : Dev nD) (q : ℕ) (h : q < cfg0.N) (h7 : q % 8 = 7) (l : Fin 1024) :
    (outsAt0 m c q h).2 (ix2 0 l) = ∑ r : Fin 4096, hA (a0 m c) (a2 m c) l r := by
  have hN : cfg0.N = 8 := N_0
  have key := Sums.acc_full (N := cfg0.N) (J := 8) (by norm_num) (fun n h => (outsAt0 m c n h).2 (ix2 0 l))
    (part (hA (a0 m c) (a2 m c) l))
    (fun n h h0 => by
      have e := congrArg (fun o => o.2) (outsAt0_A m c ⟨n, h⟩ h0)
      dsimp only at e
      unfold part
      rw [dif_pos h]
      show (outsAt0 m c n h).2 (ix2 0 l) = _
      rw [e, outA4, wA_eq])
    (fun n h h' h0 => by
      have e := congrArg (fun o => o.2) (outsAt0_B m c ⟨n + 1, h⟩ h0)
      dsimp only at e
      unfold part
      rw [dif_pos h]
      show (outsAt0 m c (n + 1) h).2 (ix2 0 l) = _
      rw [e, outB4, wA_eq]
      rfl) q h (by omega)
  refine key.trans (sum_points q (by omega) (hA (a0 m c) (a2 m c) l))

/-- The last point writes output 4 back. -/
theorem flushed4 (c : Dev nD) (t : Fin cfg0.N) (hf : (cfg0.win 4).flush t = true) :
    (dats m 0 c).flushed 4 t = ((cfg0.win 4).blk t).view.read (Elt Ideal) (sumsOf (hA (a0 m c) (a2 m c))) := by
  have h7 : t.val % 8 = 7 := (flush0_4 t).mp hf
  have ht : t.val < 8 := (pt t).isLt
  have hi : ∀ t : Fin cfg0.N, win0_4.index t 0 = 0 ∧ win0_4.index t 1 = 0 :=
    (by decide +kernel : ∀ t : Fin grid0.N, win0_4.index t 0 = 0 ∧ win0_4.index t 1 = 0)
  rw [Cert.RmsbIdeal.Value.flushed4]
  funext x
  rw [View.read_apply]
  have h0 : (x 0).val < 1 := (x 0).isLt
  have h1 : (x 1).val < 1024 := (x 1).isLt
  have e := outs4 m c t.val t.isLt h7 ⟨(x 1).val, h1⟩
  refine Eq.trans (congrArg (outsAt0 m c t.val t.isLt).2 (a₂ := ix2 0 ⟨(x 1).val, h1⟩) ?_) (e.trans (congrArg (sumsOf (hA (a0 m c) (a2 m c))) (a₁ := ix2 0 ⟨(x 1).val, h1⟩) ?_))
  · refine funext fun a => Fin.ext ?_
    match a with
    | ⟨0, _⟩ => show (x 0).val = 0; omega
    | ⟨1, _⟩ => rfl
  · refine funext fun a => Fin.ext ?_
    match a with
    | ⟨0, _⟩ => show 0 = win0_4.index t 0 * 1 + 1 * (x 0).val; rw [(hi t).1]; omega
    | ⟨1, _⟩ => show (x 1).val = win0_4.index t 1 * 1024 + 1 * (x 1).val; rw [(hi t).2]; omega

/-- Result 1 after the run. -/
theorem final4 (c : Dev nD) : (dats m 0 c).arrAt 4 cfg0.N = sumsOf (hA (a0 m c) (a2 m c)) :=
  (dats m 0 c).arrAt_eq_of_cover 4 (sumsOf (hA (a0 m c) (a2 m c))) (flushed4 m c) fun i => by
    have h0 : (i 0 : Nat) < 1 := (i 0).isLt
    have h1 : (i 1 : Nat) < 1024 := (i 1).isLt
    have hN : cfg0.N = 8 := N_0
    let t : Fin cfg0.N := ⟨7, by omega⟩
    have hi : ∀ t : Fin cfg0.N, win0_4.index t 0 * win0_4.size 0 = 0 ∧ win0_4.index t 1 * win0_4.size 1 = 0 ∧ win0_4.xsize (grid0.coords t) 0 = 1 ∧ win0_4.xsize (grid0.coords t) 1 = 1024 :=
      (by decide +kernel : ∀ t : Fin grid0.N, win0_4.index t 0 * win0_4.size 0 = 0 ∧ win0_4.index t 1 * win0_4.size 1 = 0 ∧ win0_4.xsize (grid0.coords t) 0 = 1 ∧ win0_4.xsize (grid0.coords t) 1 = 1024)
    refine ⟨t, (flush0_4 t).mpr rfl, ?_⟩
    show i ∈ ((View.whole main_v0_1).slice (win0_4.rect t)).set
    rw [View.set_slice_whole, Rect.mem_set_unit]
    intro a
    match a with
    | ⟨0, _⟩ => show win0_4.index t 0 * win0_4.size 0 ≤ (i 0 : Nat) ∧ (i 0 : Nat) < win0_4.index t 0 * win0_4.size 0 + win0_4.xsize (grid0.coords t) 0
                rw [(hi t).1, (hi t).2.2.1]; omega
    | ⟨1, _⟩ => show win0_4.index t 1 * win0_4.size 1 ≤ (i 1 : Nat) ∧ (i 1 : Nat) < win0_4.index t 1 * win0_4.size 1 + win0_4.xsize (grid0.coords t) 1
                rw [(hi t).2.1, (hi t).2.2.2]; omega

/-- The run, read: the two results at the gradients, the arguments unchanged. -/
theorem run : θ_run defs (onTc (τ := τ) (main (F := Ideal))) ⟨m, fun _ => 0, ρ⟩ fun r => ∀ c : Dev nD,
      r.2.mem ((c : Thread nD τ).loc main_v0_0) = (arrayOf (gA (a0 m c) (a1 m c) (a2 m c)) : Vec Ideal S4096x1024 .bf16)
      ∧ r.2.mem ((c : Thread nD τ).loc main_v0_1) = sumsOf (hA (a0 m c) (a2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩)
    (Cert.RmsbIdeal.Value.run_blocks m ρ)

end Cert.RmsbIdeal.Arr

end
-- ==== Proof.RmsbRef.lean ====
/-
  The reference's two results at a row and a lane: the gradients as differentiation writes them.
-/
module

public import proofs.«01_k».proof.Proof.NormMath
public import proofs.«01_k».proof.Proof.Gen.RmsbRefIdeal.Run
public import proofs.«01_k».proof.Proof.Gen.RmsbRefIdeal.Read
public import Idealize.ShloMosaic.Lib.Pointwise
public import Idealize.ShloMosaic.Lib.Tactic

@[expose] public section

set_option maxRecDepth 16384

noncomputable section

namespace Cert.RmsbRefIdeal.Eq

open Cert.RmsbRefIdeal Cert.RmsbRefIdeal.Gen Cert.RmsbRefIdeal.Read Idealize.ShloMosaic Idealize.ShloMosaic.TcCoe Idealize.SL.Sem
open Cert.NormMath

variable (x0 : Vec Ideal S4096x1024 .bf16) (x1 : Vec Ideal S1x1024 .f32) (x2 : Vec Ideal S4096x1024 .f32)

/-- The norm's gradient by its argument. -/
theorem first (r : Fin 4096) (l : Fin 1024) : val_main_v35 (F := Ideal) x0 x1 x2 (ix2 r l)
    = plainX (fun k => x0 (ix2 r k)) (fun k => x1 (ix2 0 k)) (fun k => x2 (ix2 r k)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4, val_main_cst_5, val_main_cst_6]
  simp only [Fin.sum_univ_one]
  rfl

/-- The norm's gradient by its weights. -/
theorem weight1 (l : Fin 1024) : val_main_v18 (F := Ideal) x0 x2 (ix2 0 l)
    = ∑ r : Fin 4096, gradW (fun k => x0 (ix2 r k)) (fun k => x2 (ix2 r k)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1, val_main_cst_2, val_main_cst_3, val_main_cst_4, val_main_cst_5, val_main_cst_6]
  exact Finset.sum_congr rfl fun r _ => mul_comm _ _

end Cert.RmsbRefIdeal.Eq

end
-- ==== Proof.RmsbEq.lean ====
/-
  The norm's gradient: what the kernel ends with is what differentiation gives, where every entry is a real number.
-/
module

public import proofs.«01_k».proof.Proof.RmsbArray
public import proofs.«01_k».proof.Proof.RmsbRef

@[expose] public section

noncomputable section

namespace Cert.RmsbEq

open Idealize.ShloMosaic Idealize.ShloMosaic.TcCoe
open Cert.NormMath Cert.RmsbIdeal.Arr Cert.RmsbRefIdeal.Read

variable (x0 : Vec Ideal Cert.RmsbIdeal.S4096x1024 .bf16) (x1 : Vec Ideal Cert.RmsbIdeal.S1x1024 .f32)
  (x2 : Vec Ideal Cert.RmsbIdeal.S4096x1024 .f32)

/-- The gradient by the argument, where every entry is a real number. -/
theorem first_eq (h0 : ∀ (r : Fin 4096) (l : Fin 1024), x0 (ix2 r l) ≠ ⊤ ∧ x0 (ix2 r l) ≠ ⊥)
    (h1 : ∀ l : Fin 1024, x1 (ix2 0 l) ≠ ⊤ ∧ x1 (ix2 0 l) ≠ ⊥)
    (h2 : ∀ (r : Fin 4096) (l : Fin 1024), x2 (ix2 r l) ≠ ⊤ ∧ x2 (ix2 r l) ≠ ⊥) :
    val_main_v35 (F := Ideal) x0 x1 x2 = arrayOf (gA x0 x1 x2) := funext fun y => by
  rw [eq_ix2 y]
  refine (Cert.RmsbRefIdeal.Eq.first x0 x1 x2 (y 0) (y 1)).trans ?_
  exact (gradX_eq _ _ _ (fun k => h0 (y 0) k) h1 (fun k => h2 (y 0) k) (y 1)).symm

/-- The gradient by the weights. -/
theorem weight1_eq : val_main_v18 (F := Ideal) x0 x2 = sumsOf (hA x0 x2) := funext fun y => by
  have h : y 0 = (0 : Fin 1) := Fin.eq_zero _
  rw [eq_ix2 y, h]
  exact Cert.RmsbRefIdeal.Eq.weight1 _ _ _

end Cert.RmsbEq

end
-- ==== Proof.RmsbFinite.lean ====
/-
  What the precondition says: every entry of the three arguments is a real number.
-/
module

public import proofs.«01_k».proof.Pre_rmsb_finite
public import Idealize.ShloMosaic.PureOps.Ideal
public import Idealize.ShloMosaic.Lib.Pointwise
public import Idealize.ShloMosaic.Lib.Tactic

@[expose] public section

noncomputable section

namespace Cert.Pre_rmsb_finite

open Idealize.ShloMosaic

/-- The pattern the comparison is against is infinity. -/
theorem inf_eq : Ideal.ofBits .f32 0x7F800000#32 = ⊤ := by simp [Ideal.ofBits, Ideal.ieee]

/-- A number whose absolute value lies below infinity is neither infinity. -/
theorem real_of_cmp (a : EReal) (h : BitVec.ofBool (decide (max a (-a) < Ideal.ofBits .f32 0x7F800000#32)) = 1#1) : a ≠ ⊤ ∧ a ≠ ⊥ := by
  rw [inf_eq] at h
  constructor
  · rintro rfl
    simp at h
  · rintro rfl
    simp at h

/-- Both of two bits are one where their conjunction is. -/
theorem both (a b : BitVec 1) (h : a &&& b = 1#1) : a = 1#1 ∧ b = 1#1 := by
  revert a b; decide

/-- Every entry of the arguments is a real number. -/
theorem real_of_all [Facts] (x0 : FVec Ideal S4096x1024 .bf16) (x1 : FVec Ideal S1x1024 .f32) (x2 : FVec Ideal S4096x1024 .f32)
    (h : fn (F := Ideal) x0 x1 x2 = fun _ => 1#1) (r : Fin 4096) (l : Fin 1024) :
    (x0 (ix2 r l) ≠ ⊤ ∧ x0 (ix2 r l) ≠ ⊥) ∧ (x1 (ix2 0 l) ≠ ⊤ ∧ x1 (ix2 0 l) ≠ ⊥) ∧ (x2 (ix2 r l) ≠ ⊤ ∧ x2 (ix2 r l) ≠ ⊥) := by
  have e := congrFun h (ix2 r l)
  unfold fn at e
  dsimp only at e
  pointwise at e
  obtain ⟨e, e2⟩ := both _ _ e
  obtain ⟨e0, e1⟩ := both _ _ e
  exact ⟨real_of_cmp _ e0, real_of_cmp _ e1, real_of_cmp _ e2⟩

end Cert.Pre_rmsb_finite

end
-- ==== Proof.RmsbClaims.lean ====
/-
  The claims about the one norm's gradient, assembled.
-/
module

public import proofs.«01_k».proof.Defs
public import proofs.«01_k».proof.Proof.RmsbEq
public import proofs.«01_k».proof.Proof.RmsbFinite
public import proofs.«01_k».proof.Proof.Gen.Rmsb.Frame
public import proofs.«01_k».proof.Proof.Gen.Pre_rmsb_finite

@[expose] public section

noncomputable section

namespace Cert.RmsbClaims

open Idealize.ShloMosaic Idealize.ShloMosaic.TcCoe Idealize.SL.Sem

instance : Cert.Rmsb.Facts := Cert.Rmsb.Gen.facts
instance : Cert.RmsbIdeal.Facts := Cert.RmsbIdeal.Gen.facts
instance : Cert.RmsbRefIdeal.Facts := Cert.RmsbRefIdeal.Gen.facts
instance : Cert.Pre_rmsb_finite.Facts := Cert.Pre_rmsb_finite.Gen.facts

/-- The kernel's program ends, faultless, its arguments unchanged, every semaphore at zero. -/
theorem frame_kernel : Cert.quiescent_Rmsb := fun m ρ _ => Cert.Rmsb.Gen.frame m ρ

/-- The same of the kernel over the extended reals. -/
theorem frame_ideal : Cert.quiescent_RmsbIdeal := fun m ρ _ => Cert.RmsbIdeal.Gen.frame m ρ

/-- The same under the precondition. -/
theorem frame_ideal_pre : Cert.quiescent_RmsbIdeal_pre_rmsb_finite := fun m ρ _ => Cert.RmsbIdeal.Gen.frame m ρ

/-- The reference ends, faultless, its arguments unchanged, every semaphore at zero. -/
theorem frame_ref : Cert.quiescent_RmsbRefIdeal := fun m ρ _ =>
  (θ_run Cert.RmsbRefIdeal.defs _ _).mono (fun r h => ⟨fun c => (h c).2.2, sem_eq_zero_of_no_sems (by decide) r.2⟩)
    (Cert.RmsbRefIdeal.Value.run m ρ)

/-- The same under the precondition. -/
theorem frame_ref_pre : Cert.quiescent_RmsbRefIdeal_pre_rmsb_finite := fun m ρ _ => frame_ref m ρ trivial

/-- Kernel and reference end with the same two gradients where every argument entry is a real number. -/
theorem algebraic : Cert.algebraic_RmsbIdeal_RmsbRefIdeal_pre_rmsb_finite := fun m ρ m' ρ' hpre hag =>
  ⟨fun c => (Cert.RmsbIdeal.Arr.arrayOf (Cert.RmsbIdeal.Arr.gA (Cert.RmsbIdeal.Arr.a0 m c) (Cert.RmsbIdeal.Arr.a1 m c) (Cert.RmsbIdeal.Arr.a2 m c))
      : Vec Ideal Cert.RmsbIdeal.S4096x1024 .bf16),
    fun c => Cert.RmsbIdeal.Arr.sumsOf (Cert.RmsbIdeal.Arr.hA (Cert.RmsbIdeal.Arr.a0 m c) (Cert.RmsbIdeal.Arr.a2 m c)),
    Cert.RmsbIdeal.Arr.run m ρ,
    (θ_run _ _ _).mono (fun r h c => by
      obtain ⟨r0, r1, hk⟩ := h c
      obtain ⟨e0, e1, e2⟩ := hag c
      have hr := Cert.Pre_rmsb_finite.real_of_all _ _ _ (hpre c)
      refine ⟨r0.trans ((Cert.RmsbRefIdeal.Read.val_main_v35_eq m' c).trans ?_),
        r1.trans ((Cert.RmsbRefIdeal.Read.val_main_v18_eq _ _).trans ?_), hk⟩
      · rw [e0, e1, e2]; exact Cert.RmsbEq.first_eq _ _ _ (fun r l => (hr r l).1) (fun l => (hr 0 l).2.1) (fun r l => (hr r l).2.2)
      · rw [e0, e2]; exact Cert.RmsbEq.weight1_eq _ _) (Cert.RmsbRefIdeal.Value.run m' ρ')⟩

end Cert.RmsbClaims

end
-- ==== Proof.ConvfBlock.lean ====
/-
  What one grid point of the short convolution's kernel leaves in its output block, at the extended reals: the gate `B`
  times the three taps over the gated product `C * h`, which a scratch buffer holds under the sixteen rows before the block.
-/
module

public import proofs.«01_k».proof.Proof.SconvSpec
public import proofs.«01_k».proof.Proof.Gen.ConvfIdeal.Value
public import Idealize.ShloMosaic.Lib.Pipeline.ValueKit.Tiles
public import Idealize.ShloMosaic.Lib.Pipeline.CanonAppend
public import Idealize.ShloMosaic.Lib.Pointwise
public import Idealize.ShloMosaic.Lib.Tactic

@[expose] public section

set_option maxRecDepth 16384

noncomputable section

namespace Cert.ConvfIdeal.Block

open Cert.ConvfIdeal Cert.ConvfIdeal.Gen Idealize.ShloMosaic Idealize.ShloMosaic.TcCoe Idealize.SL.Sem
open Cert.SconvIdeal.Block (conv prod)

/-- The zero-or-one factor that switches the rows before the first block off. -/
def flagPrev (i : grid0.Coords) : EReal :=
  Scalar.sitofp (F := Ideal) .f32 (Scalar.extui (Scalar.cmpi .sgt (BitVec.ofNat 32 (i 0).val) 0#32) : BitVec 32)

/-- A load of 512 rows from row `k` of the first scratch buffer, after its two stores. -/
theorem load_prod (v : View sig .tc .vmem S528x256 .f32) (i : grid0.Coords) (x1 x2 : Vec Ideal S512x256 .bf16)
    (x3 x4 : Vec Ideal S16x256 .bf16) (k : ℕ) (hk : k ≤ 16)
    (inb : ∀ a, (![k, 0] : Fin 2 → ℕ) a + (![512, 256] : Fin 2 → ℕ) a ≤ S528x256.size a) :
    v.readCov (Val := Elt Ideal) [(⟨Rect.unit (s := S528x256) ![16, 0] ![512, 256] inb_S528x256_S512x256_16_0, k0_pay3 x1 x2⟩ : View.Piece (Elt Ideal) S528x256 .f32),
        ⟨Rect.unit (s := S528x256) ![0, 0] ![16, 256] inb_S528x256_S16x256_0_0, k0_pay2 i x3 x4⟩]
      (Rect.unit (s := S528x256) ![k, 0] ![512, 256] inb).toLoadRect
    = fun x => prod (flagPrev i) x1 x2 x3 x4 (k + (x 0).val) (x 1) := by
  have hcov := View.cover_of_tiledBy (Val := Elt Ideal) [(⟨Rect.unit (s := S528x256) ![16, 0] ![512, 256] inb_S528x256_S512x256_16_0, k0_pay3 x1 x2⟩ : View.Piece (Elt Ideal) S528x256 .f32),
        ⟨Rect.unit (s := S528x256) ![0, 0] ![16, 256] inb_S528x256_S16x256_0_0, k0_pay2 i x3 x4⟩] ![16, 256] (by sl_kernel_rfl)
  rw [View.readCov_eq_canon_ld _ _ _ hcov]
  funext x
  rw [View.ld_apply]
  have e : ∀ y : S528x256.Idx, (y 0).val = k + (x 0).val → y 1 = x 1 → View.canon (Val := Elt Ideal) [(⟨Rect.unit (s := S528x256) ![16, 0] ![512, 256] inb_S528x256_S512x256_16_0, k0_pay3 x1 x2⟩ : View.Piece (Elt Ideal) S528x256 .f32),
        ⟨Rect.unit (s := S528x256) ![0, 0] ![16, 256] inb_S528x256_S16x256_0_0, k0_pay2 i x3 x4⟩] y = prod (flagPrev i) x1 x2 x3 x4 (k + (x 0).val) (x 1) := by
    intro y e0 e1
    rw [← e0, ← e1]
    idx_vars y
    canon_tiles z q using hcov (ix2 y0 y1)
    · idx_vars z
      replace q0 : (y0 : ℕ) = 16 + (z0 : ℕ) := q0
      obtain rfl : y1 = z1 := Fin.ext q1
      have e2 : (⟨y0.val - 16, by omega⟩ : Fin 512) = z0 := Fin.ext (by show y0.val - 16 = _; omega)
      show _ = prod (flagPrev i) x1 x2 x3 x4 y0.val y1
      unfold prod
      rw [dif_neg (by omega), dif_pos (show y0.val - 16 < 512 by omega), e2]
      pointwise [k0_pay3]
    · idx_vars z
      replace q0 : (y0 : ℕ) = (z0 : ℕ) := q0
      obtain rfl : y1 = z1 := Fin.ext q1
      have e2 : (⟨y0.val, by omega⟩ : Fin 16) = z0 := Fin.ext q0
      show _ = prod (flagPrev i) x1 x2 x3 x4 y0.val y1
      unfold prod
      rw [dif_pos (show y0.val < 16 by omega), e2]
      pointwise [k0_pay2, flagPrev]
  exact e _ (by show k + 1 * (x 0).val = _; omega) (Fin.ext (by show 0 + 1 * (x 1).val = _; omega))

/-- Row `k` of the three taps. -/
def tap (w : Vec Ideal S3x256 .f32) (k : Fin 3) : Vec Ideal S1x256 .f32 := fun x => w (ix2 k (x 1))

/-- A load of one row of the taps. -/
theorem ld_tap (w : Vec Ideal S3x256 .f32) (k : Fin 3)
    (inb : ∀ a, (![k.val, 0] : Fin 2 → ℕ) a + (![1, 256] : Fin 2 → ℕ) a ≤ S3x256.size a) :
    View.ld (Val := Elt Ideal) (e' := .f32) w (Rect.unit (s := S3x256) ![k.val, 0] ![1, 256] inb) = tap w k := by
  funext x
  rw [View.ld_apply]
  have hx : (x 0).val < 1 := (x 0).isLt
  exact congrArg w (funext fun a => by
    fin_cases a
    · exact Fin.ext (by show k.val + 1 * (x 0).val = k.val; omega)
    · exact Fin.ext (by show 0 + 1 * (x 1).val = (x 1).val; omega))

/-- The first row of the taps, loaded. -/
theorem ld_tap0 (w : Vec Ideal S3x256 .f32) (inb : ∀ a, (![0, 0] : Fin 2 → ℕ) a + (![1, 256] : Fin 2 → ℕ) a ≤ S3x256.size a) :
    View.ld (Val := Elt Ideal) (e' := .f32) w (Rect.unit (s := S3x256) ![0, 0] ![1, 256] inb) = tap w 0 := ld_tap w 0 inb

/-- The second row of the taps, loaded. -/
theorem ld_tap1 (w : Vec Ideal S3x256 .f32) (inb : ∀ a, (![1, 0] : Fin 2 → ℕ) a + (![1, 256] : Fin 2 → ℕ) a ≤ S3x256.size a) :
    View.ld (Val := Elt Ideal) (e' := .f32) w (Rect.unit (s := S3x256) ![1, 0] ![1, 256] inb) = tap w 1 := ld_tap w 1 inb

/-- The third row of the taps, loaded. -/
theorem ld_tap2 (w : Vec Ideal S3x256 .f32) (inb : ∀ a, (![2, 0] : Fin 2 → ℕ) a + (![1, 256] : Fin 2 → ℕ) a ≤ S3x256.size a) :
    View.ld (Val := Elt Ideal) (e' := .f32) w (Rect.unit (s := S3x256) ![2, 0] ![1, 256] inb) = tap w 2 := ld_tap w 2 inb

private theorem hz : (![0, 0] : Fin 2 → Nat) = fun _ => 0 := funext fun a => by fin_cases a <;> rfl

/-- The block's result from its blocks of `B`, of the taps and of the product: the gate times the convolution. -/
def res (x0 : Vec Ideal S512x256 .bf16) (w : Vec Ideal S3x256 .f32) (p : ℕ → Fin 256 → EReal) : Vec Ideal S512x256 .bf16 :=
  fun y => x0 (ix2 (y 0) (y 1)) * conv w p (14 + (y 0).val) (y 1)

/-- The one store of the output block. -/
theorem store_res (x0 : Vec Ideal S512x256 .bf16) (w : Vec Ideal S3x256 .f32) (p : ℕ → Fin 256 → EReal) :
    k0_pay1 (k0_pay4 x0) (k0_pay5 (tap w 0) (fun x => p (14 + (x 0).val) (x 1)) (tap w 1) (fun x => p (15 + (x 0).val) (x 1)))
      (tap w 2) (fun x => p (16 + (x 0).val) (x 1)) = res x0 w p := by
  funext y
  idx_vars y
  pointwise [k0_pay1, k0_pay4, k0_pay5, res, conv, tap, Nat.add_comm, Nat.add_left_comm]

/-- What a point leaves in the output block, from its blocks. -/
theorem outA6 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S16x256 .bf16) (harg4 : arg4.IsWhole) (arg5 : Memref sig .tc .vmem S16x256 .bf16) (harg5 : arg5.IsWhole) (arg6 : Memref sig .tc .vmem S3x256 .f32) (harg6 : arg6.IsWhole) (arg7 : Memref sig .tc .vmem S512x256 .bf16) (harg7 : arg7.IsWhole) (arg8 : Memref sig .tc .vmem S528x256 .f32) (harg8 : arg8.IsWhole) (x0 x1 x2 : Vec Ideal S512x256 .bf16) (x3 x4 : Vec Ideal S16x256 .bf16) (x5 : Vec Ideal S3x256 .f32) :
    out0_A_6 (F := Ideal) c i arg1 harg1 arg2 harg2 arg3 harg3 arg4 harg4 arg5 harg5 arg6 harg6 arg7 harg7 arg8 harg8 x0 x1 x2 x3 x4 x5 = res x0 x5 (prod (flagPrev i) x1 x2 x3 x4) := by
  unfold out0_A_6
  rw [View.read_writes_eq_canon _ _ _ (cover0_A_6 (F := Ideal) c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S512x256) hz, View.ld_unit_zero (S := S16x256) hz]
  simp only [ld_tap0, ld_tap1, ld_tap2, load_prod _ _ _ _ _ _ _ (show 14 ≤ 16 by decide), load_prod _ _ _ _ _ _ _ (show 15 ≤ 16 by decide), load_prod _ _ _ _ _ _ _ (show 16 ≤ 16 by decide)]
  exact store_res x0 x5 _

end Cert.ConvfIdeal.Block

end
-- ==== Proof.ConvfArray.lean ====
/-
  What the result array of the short convolution's kernel holds after the run, as a function of the argument arrays. The
  grid is one axis of eight row blocks.
-/
module

public import proofs.«01_k».proof.Proof.ConvfBlock

@[expose] public section

set_option maxRecDepth 16384

noncomputable section

namespace Cert.ConvfIdeal.Arr

open Cert.ConvfIdeal Cert.ConvfIdeal.Gen Cert.ConvfIdeal.Block Idealize.ShloMosaic Idealize.ShloMosaic.TcCoe Idealize.SL.Sem
open Idealize.ShloMosaic.Pipeline (Dat)
open Cert.SconvIdeal.Block (conv prod)
open Cert.SconvIdeal.Spec (pcol up conv_congr)

variable (m : (ℓ : Loc nD τ sig) → Buf (Elt Ideal) ℓ) (ρ : Dev nD → PrngReg)

/-- The projection as the launch finds it. -/
abbrev aP (c : Dev nD) : Vec Ideal S4096x2432 .bf16 := m ((c : Thread nD τ).loc main_arg0)
/-- The taps. -/
abbrev aW (c : Dev nD) : Vec Ideal S3x256 .f32 := m ((c : Thread nD τ).loc main_arg1)

/-- The gated short convolution of the whole arrays. -/
def full (P : Vec Ideal S4096x2432 .bf16) (w : Vec Ideal S3x256 .f32) : Vec Ideal S4096x256 .bf16 :=
  fun y => pcol P 0 (y 0) (y 1) * conv w (up P) (y 0).val (y 1)

/-- A grid point as a number below eight. -/
def pt (t : Fin cfg0.N) : Fin 8 := t.cast N_0

/-- Which block each of the full-size windows holds at each point of the grid. -/
theorem index_big : ∀ t : Fin cfg0.N, (win0_0.index t 0 = t.val ∧ win0_0.index t 1 = 2) ∧ (win0_1.index t 0 = t.val ∧ win0_1.index t 1 = 3) ∧ (win0_2.index t 0 = t.val ∧ win0_2.index t 1 = 4) :=
  (by decide +kernel : ∀ t : Fin grid0.N, (win0_0.index t 0 = t.val ∧ win0_0.index t 1 = 2) ∧ (win0_1.index t 0 = t.val ∧ win0_1.index t 1 = 3) ∧ (win0_2.index t 0 = t.val ∧ win0_2.index t 1 = 4))

/-- Which block each of the sixteen-row windows holds at each point of the grid. -/
theorem index_halo : ∀ t : Fin cfg0.N, (win0_3.index t 0 = 32 * t.val - 1 ∧ win0_3.index t 1 = 3) ∧ (win0_4.index t 0 = 32 * t.val - 1 ∧ win0_4.index t 1 = 4) :=
  (by decide +kernel : ∀ t : Fin grid0.N, (win0_3.index t 0 = 32 * t.val - 1 ∧ win0_3.index t 1 = 3) ∧ (win0_4.index t 0 = 32 * t.val - 1 ∧ win0_4.index t 1 = 4))

/-- The block of the gate `B` at a point, read off the projection. -/
theorem blk0 (c : Dev nD) (t : Fin cfg0.N) (r : Fin 512) (l : Fin 256) :
    X0_0 m c t (ix2 r l) = pcol (aP m c) 0 ⟨512 * (pt t).val + r.val, by omega⟩ l := by
  unfold X0_0 Pipeline.Window.fill
  rw [dif_pos (moved0_0 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_big t).1
  match a with
  | ⟨0, _⟩ => show win0_0.index t 0 * 512 + 1 * r.val = 512 * t.val + r.val; rw [h.1]; omega
  | ⟨1, _⟩ => show win0_0.index t 1 * 256 + 1 * l.val = 512 + 256 * 0 + l.val; rw [h.2]; omega

/-- The block of the gate `C` at a point, read off the projection. -/
theorem blk1 (c : Dev nD) (t : Fin cfg0.N) (r : Fin 512) (l : Fin 256) :
    X0_1 m c t (ix2 r l) = pcol (aP m c) 1 ⟨512 * (pt t).val + r.val, by omega⟩ l := by
  unfold X0_1 Pipeline.Window.fill
  rw [dif_pos (moved0_1 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_big t).2.1
  match a with
  | ⟨0, _⟩ => show win0_1.index t 0 * 512 + 1 * r.val = 512 * t.val + r.val; rw [h.1]; omega
  | ⟨1, _⟩ => show win0_1.index t 1 * 256 + 1 * l.val = 512 + 256 * 1 + l.val; rw [h.2]; omega

/-- The block of the value `h` at a point, read off the projection. -/
theorem blk2 (c : Dev nD) (t : Fin cfg0.N) (r : Fin 512) (l : Fin 256) :
    X0_2 m c t (ix2 r l) = pcol (aP m c) 2 ⟨512 * (pt t).val + r.val, by omega⟩ l := by
  unfold X0_2 Pipeline.Window.fill
  rw [dif_pos (moved0_2 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_big t).2.2
  match a with
  | ⟨0, _⟩ => show win0_2.index t 0 * 512 + 1 * r.val = 512 * t.val + r.val; rw [h.1]; omega
  | ⟨1, _⟩ => show win0_2.index t 1 * 256 + 1 * l.val = 512 + 256 * 2 + l.val; rw [h.2]; omega

/-- The whole taps at every point. -/
theorem blk5 (c : Dev nD) (t : Fin cfg0.N) : (iblk m c 5 t : Vec Ideal S3x256 .f32) = aW m c := by
  unfold iblk
  have h : ∀ t : Fin cfg0.N, win0_5.index t 0 = 0 ∧ win0_5.index t 1 = 0 :=
    (by decide +kernel : ∀ t : Fin grid0.N, win0_5.index t 0 = 0 ∧ win0_5.index t 1 = 0)
  funext j
  rw [View.read_apply]
  show V m c main_arg1 _ = (m ((c : Thread nD τ).loc main_arg1) : Vec Ideal S3x256 .f32) _
  rw [V_main_arg1]
  refine congrArg _ (funext fun a => Fin.ext ?_)
  match a with
  | ⟨0, _⟩ => show win0_5.index t 0 * 3 + 1 * (j 0).val = (j 0).val; rw [(h t).1]; omega
  | ⟨1, _⟩ => show win0_5.index t 1 * 256 + 1 * (j 1).val = (j 1).val; rw [(h t).2]; omega

/-- The sixteen rows of the gate `C` before a point's block. -/
theorem blk3 (c : Dev nD) (t : Fin cfg0.N) (r : Fin 16) (l : Fin 256) (j : Fin 4096) (hj : j.val = 16 * (32 * t.val - 1) + r.val) :
    X0_3 m c t (ix2 r l) = pcol (aP m c) 1 j l := by
  unfold X0_3 Pipeline.Window.fill
  rw [dif_pos (moved0_3 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_halo t).1
  match a with
  | ⟨0, _⟩ => show win0_3.index t 0 * 16 + 1 * r.val = j.val; rw [h.1, hj]; omega
  | ⟨1, _⟩ => show win0_3.index t 1 * 256 + 1 * l.val = 512 + 256 * 1 + l.val; rw [h.2]; omega

/-- The sixteen rows of the value `h` before a point's block. -/
theorem blk4 (c : Dev nD) (t : Fin cfg0.N) (r : Fin 16) (l : Fin 256) (j : Fin 4096) (hj : j.val = 16 * (32 * t.val - 1) + r.val) :
    X0_4 m c t (ix2 r l) = pcol (aP m c) 2 j l := by
  unfold X0_4 Pipeline.Window.fill
  rw [dif_pos (moved0_4 t _)]
  unfold iblk
  rw [View.read_apply]
  show V m c main_arg0 _ = (m ((c : Thread nD τ).loc main_arg0) : Vec Ideal S4096x2432 .bf16) _
  rw [V_main_arg0]
  refine congrArg _ (funext fun a => Fin.ext ?_)
  have h := (index_halo t).2
  match a with
  | ⟨0, _⟩ => show win0_4.index t 0 * 16 + 1 * r.val = j.val; rw [h.1, hj]; omega
  | ⟨1, _⟩ => show win0_4.index t 1 * 256 + 1 * l.val = 512 + 256 * 2 + l.val; rw [h.2]; omega

/-- The factor of the rows before a block: zero at the first block, one after it. -/
theorem flagPrev_eq (t : Fin cfg0.N) : flagPrev (grid0.coords t) = if t.val = 0 then 0 else 1 := by
  have h : ∀ t : Fin grid0.N, (Scalar.extui (Scalar.cmpi .sgt (BitVec.ofNat 32 (grid0.coords t 0).val) 0#32) : BitVec 32) = if t.val = 0 then 0#32 else 1#32 := by
    decide +kernel
  unfold flagPrev
  rw [h t]
  split
  · pointwise
    rw [show (0#32 : BitVec 32).toInt = 0 from rfl]; simp
  · pointwise
    rw [show (1#32 : BitVec 32).toInt = 1 from rfl]; simp

/-- The scratch buffer's rows from the fourteenth are the product's rows, two zeros first. -/
theorem prod_eq (c : Dev nD) (t : Fin cfg0.N) (n : ℕ) (l : Fin 256) (hn : n < 514) :
    prod (flagPrev (grid0.coords t)) (X0_1 m c t) (X0_2 m c t) (X0_3 m c t) (X0_4 m c t) (14 + n) l = up (aP m c) (512 * (pt t).val + n) l := by
  have ht : t.val < 8 := (pt t).isLt
  have hp : (pt t).val = t.val := rfl
  rw [flagPrev_eq]
  unfold prod up
  by_cases h : 14 + n < 16
  · rw [dif_pos h]
    by_cases h0 : t.val = 0
    · rw [if_pos h0, if_pos (by omega), mul_zero]
    · rw [if_neg h0, if_neg (by omega), dif_pos (by omega), mul_one,
        blk3 m c t _ l ⟨512 * (pt t).val + n - 2, by omega⟩ (by show 512 * (pt t).val + n - 2 = 16 * (32 * t.val - 1) + (14 + n); omega),
        blk4 m c t _ l ⟨512 * (pt t).val + n - 2, by omega⟩ (by show 512 * (pt t).val + n - 2 = 16 * (32 * t.val - 1) + (14 + n); omega)]
  · rw [dif_neg h, dif_pos (by omega), if_neg (by omega), dif_pos (by omega), blk1, blk2]
    have e : (⟨512 * (pt t).val + (14 + n - 16), by omega⟩ : Fin 4096) = ⟨512 * (pt t).val + n - 2, by omega⟩ := Fin.ext (by show 512 * (pt t).val + (14 + n - 16) = 512 * (pt t).val + n - 2; omega)
    rw [e]

/-- The output block after a point, by row and column. -/
theorem outs_eq (c : Dev nD) (t : Fin cfg0.N) (r : Fin 512) (l : Fin 256) (j : Fin 4096) (hj : j.val = 512 * (pt t).val + r.val) :
    outsAt0 m c t (ix2 r l) = full (aP m c) (aW m c) (ix2 j l) := by
  unfold outsAt0
  rw [outA6, blk5]
  have ej : (⟨512 * (pt t).val + r.val, by omega⟩ : Fin 4096) = j := Fin.ext hj.symm
  refine congrArg₂ (fun a b : EReal => a * b) ((blk0 m c t r l).trans (congrArg (fun n => pcol (aP m c) 0 n l) ej)) (conv_congr _ _ _ _ _ _ fun k hk => ?_)
  show prod _ _ _ _ _ (14 + r.val + k) l = up (aP m c) (j.val + k) l
  rw [show 14 + r.val + k = 14 + (r.val + k) by omega, prod_eq m c t _ l (by omega)]
  exact congrArg (fun n => up (aP m c) n l) (by omega)

/-- What each point writes back is its block of the result. -/
theorem flushed_out (c : Dev nD) (t : Fin cfg0.N) (hf : (cfg0.win 6).flush t = true) :
    (dats m 0 c).flushed 6 t = ((cfg0.win 6).blk t).view.read (Elt Ideal) (full (aP m c) (aW m c)) := by
  have hi : ∀ t : Fin cfg0.N, win0_6.index t 0 = t.val ∧ win0_6.index t 1 = 0 :=
    (by decide +kernel : ∀ t : Fin grid0.N, win0_6.index t 0 = t.val ∧ win0_6.index t 1 = 0)
  rw [Cert.ConvfIdeal.Value.flushed6]
  funext x
  rw [View.read_apply]
  have ht : t.val < 8 := (pt t).isLt
  have h0 : (x 0).val < 512 := (x 0).isLt
  have h1 : (x 1).val < 256 := (x 1).isLt
  have e := outs_eq m c t ⟨(x 0).val, h0⟩ ⟨(x 1).val, h1⟩ ⟨512 * (pt t).val + (x 0).val, by have : (pt t).val = t.val := rfl; omega⟩ rfl
  refine Eq.trans (congrArg (outsAt0 m c t) ?_) (e.trans (congrArg (full (aP m c) (aW m c)) ?_))
  · exact eq_ix2 _
  · refine funext fun a => Fin.ext ?_
    match a with
    | ⟨0, _⟩ => show 512 * t.val + (x 0).val = win0_6.index t 0 * 512 + 1 * (x 0).val; rw [(hi t).1]; omega
    | ⟨1, _⟩ => show (x 1).val = win0_6.index t 1 * 256 + 1 * (x 1).val; rw [(hi t).2]; omega

/-- The result after the run. -/
theorem final_out (c : Dev nD) : (dats m 0 c).arrAt 6 cfg0.N = full (aP m c) (aW m c) :=
  (dats m 0 c).arrAt_eq_of_cover 6 (full (aP m c) (aW m c)) (flushed_out m c) fun i => by
    have h0 : (i 0 : Nat) < 4096 := (i 0).isLt
    have h1 : (i 1 : Nat) < 256 := (i 1).isLt
    have hN : cfg0.N = 8 := N_0
    let t : Fin cfg0.N := ⟨(i 0 : Nat) / 512, by omega⟩
    have hi : ∀ t : Fin cfg0.N, win0_6.index t 0 * win0_6.size 0 = 512 * t.val ∧ win0_6.index t 1 * win0_6.size 1 = 0 ∧ win0_6.xsize (grid0.coords t) 0 = 512 ∧ win0_6.xsize (grid0.coords t) 1 = 256 :=
      (by decide +kernel : ∀ t : Fin grid0.N, win0_6.index t 0 * win0_6.size 0 = 512 * t.val ∧ win0_6.index t 1 * win0_6.size 1 = 0 ∧ win0_6.xsize (grid0.coords t) 0 = 512 ∧ win0_6.xsize (grid0.coords t) 1 = 256)
    refine ⟨t, flush0_6 t, ?_⟩
    show i ∈ ((View.whole main_v0).slice (win0_6.rect t)).set
    rw [View.set_slice_whole, Rect.mem_set_unit]
    intro a
    have ht : t.val = (i 0 : Nat) / 512 := rfl
    match a with
    | ⟨0, _⟩ => show win0_6.index t 0 * win0_6.size 0 ≤ (i 0 : Nat) ∧ (i 0 : Nat) < win0_6.index t 0 * win0_6.size 0 + win0_6.xsize (grid0.coords t) 0
                rw [(hi t).1, (hi t).2.2.1]; omega
    | ⟨1, _⟩ => show win0_6.index t 1 * win0_6.size 1 ≤ (i 1 : Nat) ∧ (i 1 : Nat) < win0_6.index t 1 * win0_6.size 1 + win0_6.xsize (grid0.coords t) 1
                rw [(hi t).2.1, (hi t).2.2.2]; omega

/-- The run, read: the result, the arguments unchanged. -/
theorem run : θ_run defs (onTc (τ := τ) (main (F := Ideal))) ⟨m, fun _ => 0, ρ⟩ fun r => ∀ c : Dev nD,
      r.2.mem ((c : Thread nD τ).loc main_v0) = full (aP m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_out m c), (h c).2⟩)
    (Cert.ConvfIdeal.Value.run_blocks m ρ)

end Cert.ConvfIdeal.Arr

end
-- ==== Proof.ConvfRef.lean ====
/-
  What the reference's result holds, element by element: the gated short convolution.
-/
module

public import proofs.«01_k».proof.Proof.ConvfArray
public import proofs.«01_k».proof.Proof.Gen.ConvfRefIdeal.Run
public import proofs.«01_k».proof.Proof.Gen.ConvfRefIdeal.Read

@[expose] public section

set_option maxRecDepth 16384

noncomputable section

namespace Cert.ConvfRefIdeal.Eq

open Cert.ConvfRefIdeal Cert.ConvfRefIdeal.Gen Cert.ConvfRefIdeal.Read Idealize.ShloMosaic Idealize.ShloMosaic.TcCoe Idealize.SL.Sem
open Cert.SconvIdeal.Spec (pcol up)
open Cert.SconvIdeal.Block (conv)
open Cert.ConvfIdeal.Arr (full)

variable (P : Vec Ideal S4096x2432 .bf16) (w : Vec Ideal S3x256 .f32)

/-- The reference's output gate is the first column group. -/
theorem gate_b (r : Fin 4096) (l : Fin 256) : val_main_v1 (F := Ideal) P (ix2 r l) = pcol P 0 r l := by
  pointwise [val_main_v1, val_main_v0, pcol]

/-- Its input gate is the second. -/
theorem gate_c (r : Fin 4096) (l : Fin 256) : val_main_v3 (F := Ideal) P (ix2 r l) = pcol P 1 r l := by
  pointwise [val_main_v3, val_main_v2, pcol]

/-- Its value is the third. -/
theorem value_h (r : Fin 4096) (l : Fin 256) : val_main_v5 (F := Ideal) P (ix2 r l) = pcol P 2 r l := by
  pointwise [val_main_v5, val_main_v4, pcol]

/-- The product under two rows of zeros. -/
theorem padded (n : Fin 4098) (l : Fin 256) : val_main_v8 (F := Ideal) P (ix2 n l) = up P n.val l := by
  pointwise [val_main_v8, val_main_v7, val_main_v6, val_main_cst]
  unfold up
  by_cases h : n.val < 2
  · rw [dif_pos h, if_pos h]
  · rw [dif_neg h, if_neg h, dif_pos (show n.val - 2 < 4096 by omega), gate_c, value_h]

/-- The product's rows, shifted by none, one and two. -/
theorem shift0 (r : Fin 4096) (l : Fin 256) : val_main_v9 (F := Ideal) P (ix2 r l) = up P r.val l := by
  pointwise [val_main_v9]
  rw [padded]

/-- The padded product from its second row on. -/
theorem shift1 (r : Fin 4096) (l : Fin 256) : val_main_v15 (F := Ideal) P (ix2 r l) = up P (r.val + 1) l := by
  pointwise [val_main_v15]
  rw [padded]
  exact congrArg (fun n => up P n l) (Nat.add_comm _ _)

/-- The padded product from its third row on. -/
theorem shift2 (r : Fin 4096) (l : Fin 256) : val_main_v22 (F := Ideal) P (ix2 r l) = up P (r.val + 2) l := by
  pointwise [val_main_v22]
  rw [padded]
  exact congrArg (fun n => up P n l) (Nat.add_comm _ _)

/-- The convolution. -/
theorem convolved (r : Fin 4096) (l : Fin 256) : val_main_v28 (F := Ideal) P w (ix2 r l) = conv w (up P) r.val l := by
  pointwise [val_main_v28, val_main_v27, val_main_v26, val_main_v25, val_main_v24, val_main_v23, val_main_v21, val_main_v20, val_main_v19, val_main_v18, val_main_v17, val_main_v16, val_main_v14, val_main_v13, val_main_v12, val_main_v11, val_main_v10]
  rw [shift0, shift1, shift2]
  unfold conv
  rw [mul_comm (up P r.val l), mul_comm (up P (r.val + 1) l), mul_comm (up P (r.val + 2) l)]

/-- The reference's result is the gated short convolution. -/
theorem full_eq : val_main_v30 (F := Ideal) P w = full P w := by
  funext y
  idx_vars y
  pointwise [val_main_v30, val_main_v29]
  rw [gate_b, convolved]
  rfl

end Cert.ConvfRefIdeal.Eq

end
-- ==== Proof.ConvfClaims.lean ====
/-
  The claims about the short convolution's forward call, assembled.
-/
module

public import proofs.«01_k».proof.Defs
public import proofs.«01_k».proof.Proof.ConvfArray
public import proofs.«01_k».proof.Proof.ConvfRef
public import proofs.«01_k».proof.Proof.Gen.Convf.Frame

@[expose] public section

noncomputable section

namespace Cert.ConvfClaims

open Idealize.ShloMosaic Idealize.SL.Sem

instance : Cert.Convf.Facts := Cert.Convf.Gen.facts
instance : Cert.ConvfIdeal.Facts := Cert.ConvfIdeal.Gen.facts
instance : Cert.ConvfRefIdeal.Facts := Cert.ConvfRefIdeal.Gen.facts

/-- The kernel's program ends, faultless, its arguments unchanged, every semaphore at zero. -/
theorem frame_kernel : Cert.quiescent_Convf := fun m ρ _ => Cert.Convf.Gen.frame m ρ

/-- The same of the kernel over the extended reals. -/
theorem frame_ideal : Cert.quiescent_ConvfIdeal := fun m ρ _ => Cert.ConvfIdeal.Gen.frame m ρ

/-- The reference ends, faultless, its arguments unchanged, every semaphore at zero. -/
theorem frame_ref : Cert.quiescent_ConvfRefIdeal := fun m ρ _ =>
  (θ_run Cert.ConvfRefIdeal.defs _ _).mono (fun r h => ⟨fun c => (h c).2, sem_eq_zero_of_no_sems (by decide) r.2⟩)
    (Cert.ConvfRefIdeal.Value.run m ρ)

/-- Kernel and reference end with the same result. -/
theorem algebraic : Cert.algebraic_ConvfIdeal_ConvfRefIdeal := fun m ρ m' ρ' _ hag =>
  ⟨fun c => Cert.ConvfIdeal.Arr.full (Cert.ConvfIdeal.Arr.aP m c) (Cert.ConvfIdeal.Arr.aW m c),
    Cert.ConvfIdeal.Arr.run m ρ,
    (θ_run _ _ _).mono (fun r h c => by
      obtain ⟨h0, h2⟩ := h c
      obtain ⟨e0, e1⟩ := hag c
      refine ⟨h0.trans ((Cert.ConvfRefIdeal.Read.val_main_v30_eq _ _).trans ?_), h2⟩
      rw [e0, e1]; exact Cert.ConvfRefIdeal.Eq.full_eq _ _) (Cert.ConvfRefIdeal.Value.run m' ρ')⟩

end Cert.ConvfClaims

end
-- ==== Proof.ActLoads.lean ====
/-
  The loads of one grid point of the feed-forward block's activation: the two scratch buffers, which hold the sixteen rows
  before the block and then the block's own 512 rows (one buffer for the gate, one for the other half), the taps and the bias.
-/
module

public import proofs.«01_k».proof.Proof.Gen.ActIdeal.Value
public import Idealize.ShloMosaic.Lib.Pipeline.ReadBack
public import Idealize.ShloMosaic.Lib.Pipeline.ValueKit.Tiles
public import Idealize.ShloMosaic.Lib.Pipeline.CanonAppend
public import Idealize.ShloMosaic.Lib.Pointwise
public import Idealize.ShloMosaic.Lib.Tactic

@[expose] public section

set_option maxRecDepth 16384

noncomputable section

namespace Cert.ActIdeal.Block

open Cert.ActIdeal Cert.ActIdeal.Gen Idealize.ShloMosaic Idealize.ShloMosaic.TcCoe Idealize.SL.Sem

/-- The zero-or-one factor that switches the rows before the first block off. -/
def flag (i : grid0.Coords) : EReal :=
  Scalar.sitofp (F := Ideal) .f32 (Scalar.extui (Scalar.cmpi .sgt (BitVec.ofNat 32 (i 1).val) 0#32) : BitVec 32)

/-- Row `n`, column `l` of half `k` of a point's rows: sixteen rows before the block, times the factor, then the block. -/
def ext (f : EReal) (x0 : Vec Ideal S2x1x512x704 .bf16) (x1 : Vec Ideal S2x1x16x704 .bf16) (k : Fin 2) (n : ℕ) (l : Fin 704) : EReal :=
  if h : n < 16 then x1 (ix4 k 0 ⟨n, h⟩ l) * f
  else if h' : n - 16 < 512 then x0 (ix4 k 0 ⟨n - 16, h'⟩ l) else 0

/-- A load of one half of the block. -/
theorem ld_cur (arg2 : Memref sig .tc .vmem S2x1x512x704 .bf16) (harg2 : arg2.IsWhole) (x0 : Vec Ideal S2x1x512x704 .bf16) (k : ℕ) (hk : k < 2)
    (inb : ∀ a, (![k, 0, 0, 0] : Fin 4 → ℕ) a + S1x1x512x704.size a ≤ S2x1x512x704.size a) (u0 u1 : Fin 1) (r : Fin 512) (l : Fin 704) :
    View.readAt (Elt Ideal) arg2.view (Rect.unit (s := S2x1x512x704) ![k, 0, 0, 0] S1x1x512x704.size inb).toLoadRect (harg2.unread x0) (ix4 u0 u1 r l) = x0 (ix4 ⟨k, hk⟩ 0 r l) := by
  rw [View.readAt_eq_ld, Memref.IsWhole.read_unread, View.ld_apply]
  refine congrArg x0 (funext fun a => Fin.ext ?_)
  match a with
  | ⟨0, _⟩ => show k + 1 * u0.val = k; omega
  | ⟨1, _⟩ => show 0 + 1 * u1.val = 0; omega
  | ⟨2, _⟩ => show 0 + 1 * r.val = r.val; omega
  | ⟨3, _⟩ => show 0 + 1 * l.val = l.val; omega

/-- A load of one half of the rows before the block. -/
theorem ld_halo (arg3 : Memref sig .tc .vmem S2x1x16x704 .bf16) (harg3 : arg3.IsWhole) (x1 : Vec Ideal S2x1x16x704 .bf16) (k : ℕ) (hk : k < 2)
    (inb : ∀ a, (![k, 0, 0, 0] : Fin 4 → ℕ) a + S1x1x16x704.size a ≤ S2x1x16x704.size a) (u0 u1 : Fin 1) (r : Fin 16) (l : Fin 704) :
    View.readAt (Elt Ideal) arg3.view (Rect.unit (s := S2x1x16x704) ![k, 0, 0, 0] S1x1x16x704.size inb).toLoadRect (harg3.unread x1) (ix4 u0 u1 r l) = x1 (ix4 ⟨k, hk⟩ 0 r l) := by
  rw [View.readAt_eq_ld, Memref.IsWhole.read_unread, View.ld_apply]
  refine congrArg x1 (funext fun a => Fin.ext ?_)
  match a with
  | ⟨0, _⟩ => show k + 1 * u0.val = k; omega
  | ⟨1, _⟩ => show 0 + 1 * u1.val = 0; omega
  | ⟨2, _⟩ => show 0 + 1 * r.val = r.val; omega
  | ⟨3, _⟩ => show 0 + 1 * l.val = l.val; omega

/-- A load of one half of the bias. -/
theorem ld_bias (arg5 : Memref sig .tc .vmem S2x1x1x704 .f32) (harg5 : arg5.IsWhole) (x3 : Vec Ideal S2x1x1x704 .f32) (k : ℕ) (hk : k < 2)
    (inb : ∀ a, (![k, 0, 0, 0] : Fin 4 → ℕ) a + S1x1x1x704.size a ≤ S2x1x1x704.size a) :
    View.readAt (Elt Ideal) arg5.view (Rect.unit (s := S2x1x1x704) ![k, 0, 0, 0] S1x1x1x704.size inb).toLoadRect (harg5.unread x3) = fun x => x3 (ix4 ⟨k, hk⟩ 0 0 (x 3)) := by
  funext x
  rw [View.readAt_eq_ld, Memref.IsWhole.read_unread, View.ld_apply]
  have h0 : (x 0).val < 1 := (x 0).isLt
  have h1 : (x 1).val < 1 := (x 1).isLt
  have h2 : (x 2).val < 1 := (x 2).isLt
  refine congrArg x3 (funext fun a => Fin.ext ?_)
  match a with
  | ⟨0, _⟩ => show k + 1 * (x 0).val = k; omega
  | ⟨1, _⟩ => show 0 + 1 * (x 1).val = 0; omega
  | ⟨2, _⟩ => show 0 + 1 * (x 2).val = 0; omega
  | ⟨3, _⟩ => show 0 + 1 * (x 3).val = (x 3).val; omega

/-- Dropping the two leading axes of size one. -/
theorem drop_axes (X : Vec Ideal S1x1x3x704 .f32) (hc : S1x1x3x704.ShapeCasts S3x704) (a : Fin 3) (l : Fin 704) :
    shapeCast S3x704 X hc (ix2 a l) = X (ix4 0 0 a l) := by
  pointwise

/-- A load of one tap of one half. -/
theorem ld_tap (arg4 : Memref sig .tc .vmem S2x1x3x704 .f32) (harg4 : arg4.IsWhole) (x2 : Vec Ideal S2x1x3x704 .f32) (k : ℕ) (hk : k < 2) (j : ℕ) (hj : j < 3)
    (inb : ∀ a, (![k, 0, 0, 0] : Fin 4 → ℕ) a + S1x1x3x704.size a ≤ S2x1x3x704.size a) (hr : ∀ a, (Rect.unit (s := S2x1x3x704) ![k, 0, 0, 0] S1x1x3x704.size inb).stride a = 1)
    (hq : (Rect.unit (s := S2x1x3x704) ![k, 0, 0, 0] S1x1x3x704.size inb).shape.Squeezes S3x704)
    (inb' : ∀ a, (![j, 0] : Fin 2 → ℕ) a + S1x704.size a ≤ S3x704.size a) :
    View.readAt (Elt Ideal) ((arg4.slice (Rect.unit (s := S2x1x3x704) ![k, 0, 0, 0] S1x1x3x704.size inb) hr).squeeze S3x704 hq).view
      (Rect.unit (s := S3x704) ![j, 0] S1x704.size inb').toLoadRect (harg4.unread x2) = fun x => x2 (ix4 ⟨k, hk⟩ 0 ⟨j, hj⟩ (x 1)) := by
  have hc : S1x1x3x704.ShapeCasts S3x704 := by decide
  have e : ∀ (a : Fin 3) (l : Fin 704), shapeCast S3x704 (View.readAt (Elt Ideal) arg4.view (Rect.unit (s := S2x1x3x704) ![k, 0, 0, 0] S1x1x3x704.size inb).toLoadRect (harg4.unread x2)) hc (ix2 a l) = x2 (ix4 ⟨k, hk⟩ 0 a l) := by
    intro a l
    refine (drop_axes _ hc a l).trans ?_
    rw [View.readAt_eq_ld, Memref.IsWhole.read_unread, View.ld_apply]
    refine congrArg x2 (funext fun b => Fin.ext ?_)
    match b with
    | ⟨0, _⟩ => show k + 1 * 0 = k; omega
    | ⟨1, _⟩ => rfl
    | ⟨2, _⟩ => show 0 + 1 * a.val = a.val; omega
    | ⟨3, _⟩ => show 0 + 1 * l.val = l.val; omega
  funext x
  rw [View.readAt_eq_ld, View.ld_apply]
  have h0 : (x 0).val < 1 := (x 0).isLt
  rw [Memref.read_squeeze_slice arg4 _ hr hq hc (harg4.unread x2)]
  refine Eq.trans (congrArg _ (funext fun b => Fin.ext ?_)) (e ⟨j, hj⟩ (x 1))
  match b with
  | ⟨0, _⟩ => show j + 1 * (x 0).val = j; omega
  | ⟨1, _⟩ => show 0 + 1 * (x 1).val = (x 1).val; omega

/-- A load of sixteen rows from row `k` of the gate's scratch buffer, after its two stores. -/
theorem load_gate (v : View sig .tc .vmem S528x704 .f32) (c : Dev nD) (i : grid0.Coords) (arg2 : Memref sig .tc .vmem S2x1x512x704 .bf16) (harg2 : arg2.IsWhole) (arg3 : Memref sig .tc .vmem S2x1x16x704 .bf16) (harg3 : arg3.IsWhole)
    (x0 : Vec Ideal S2x1x512x704 .bf16) (x1 : Vec Ideal S2x1x16x704 .bf16) (k : ℕ)
    (inb : ∀ a, (![k, 0] : Fin 2 → ℕ) a + S16x704.size a ≤ S528x704.size a) :
    v.readCov (Val := Elt Ideal) (kernelRun0_A.sl.HS0_2 (F := Ideal) c i arg2 harg2 arg3 harg3 x0 x1)
      (Rect.unit (s := S528x704) ![k, 0] S16x704.size inb).toLoadRect
    = fun x => ext (flag i) x0 x1 0 (k + (x 0).val) (x 1) := by
  have hcov := View.cover_of_tiledBy (Val := Elt Ideal) (kernelRun0_A.sl.HS0_2 (F := Ideal) c i arg2 harg2 arg3 harg3 x0 x1) ![16, 704] (by sl_kernel_rfl)
  rw [View.readCov_eq_canon_ld _ _ _ hcov]
  funext x
  rw [View.ld_apply]
  have e : ∀ y : S528x704.Idx, (y 0).val = k + (x 0).val → y 1 = x 1 → View.canon (Val := Elt Ideal) (kernelRun0_A.sl.HS0_2 (F := Ideal) c i arg2 harg2 arg3 harg3 x0 x1) y = ext (flag i) x0 x1 0 (k + (x 0).val) (x 1) := by
    intro y e0 e1
    rw [← e0, ← e1]
    idx_vars y
    unfold kernelRun0_A.sl.HS0_2 at hcov ⊢
    canon_tiles z q using hcov (ix2 y0 y1)
    · idx_vars z
      replace q0 : (y0 : ℕ) = 16 + (z0 : ℕ) := q0
      obtain rfl : y1 = z1 := Fin.ext q1
      have e2 : (⟨y0.val - 16, by omega⟩ : Fin 512) = z0 := Fin.ext (by show y0.val - 16 = _; omega)
      show _ = ext (flag i) x0 x1 0 y0.val y1
      unfold ext
      rw [dif_neg (by omega), dif_pos (show y0.val - 16 < 512 by omega), e2]
      pointwise [k0_pay2, k0_pay3]
      exact ld_cur arg2 harg2 x0 0 (by decide) _ _ _ _ _
    · idx_vars z
      replace q0 : (y0 : ℕ) = (z0 : ℕ) := q0
      obtain rfl : y1 = z1 := Fin.ext q1
      have e2 : (⟨y0.val, by omega⟩ : Fin 16) = z0 := Fin.ext q0
      show _ = ext (flag i) x0 x1 0 y0.val y1
      unfold ext
      rw [dif_pos (show y0.val < 16 by omega), e2]
      pointwise [k0_pay2, k0_pay3, flag]
      rw [ld_halo arg3 harg3 x1 0 (by decide)]
      rfl
  exact e _ (by show k + 1 * (x 0).val = _; omega) (Fin.ext (by show 0 + 1 * (x 1).val = _; omega))

/-- A load of sixteen rows from row `k` of the other half's scratch buffer, after its two stores. -/
theorem load_up (v : View sig .tc .vmem S528x704 .f32) (c : Dev nD) (i : grid0.Coords) (arg2 : Memref sig .tc .vmem S2x1x512x704 .bf16) (harg2 : arg2.IsWhole) (arg3 : Memref sig .tc .vmem S2x1x16x704 .bf16) (harg3 : arg3.IsWhole)
    (x0 : Vec Ideal S2x1x512x704 .bf16) (x1 : Vec Ideal S2x1x16x704 .bf16) (k : ℕ)
    (inb : ∀ a, (![k, 0] : Fin 2 → ℕ) a + S16x704.size a ≤ S528x704.size a) :
    v.readCov (Val := Elt Ideal) (kernelRun0_A.sl.HS1_2 (F := Ideal) c i arg2 harg2 arg3 harg3 x0 x1)
      (Rect.unit (s := S528x704) ![k, 0] S16x704.size inb).toLoadRect
    = fun x => ext (flag i) x0 x1 1 (k + (x 0).val) (x 1) := by
  have hcov := View.cover_of_tiledBy (Val := Elt Ideal) (kernelRun0_A.sl.HS1_2 (F := Ideal) c i arg2 harg2 arg3 harg3 x0 x1) ![16, 704] (by sl_kernel_rfl)
  rw [View.readCov_eq_canon_ld _ _ _ hcov]
  funext x
  rw [View.ld_apply]
  have e : ∀ y : S528x704.Idx, (y 0).val = k + (x 0).val → y 1 = x 1 → View.canon (Val := Elt Ideal) (kernelRun0_A.sl.HS1_2 (F := Ideal) c i arg2 harg2 arg3 harg3 x0 x1) y = ext (flag i) x0 x1 1 (k + (x 0).val) (x 1) := by
    intro y e0 e1
    rw [← e0, ← e1]
    idx_vars y
    unfold kernelRun0_A.sl.HS1_2 at hcov ⊢
    canon_tiles z q using hcov (ix2 y0 y1)
    · idx_vars z
      replace q0 : (y0 : ℕ) = 16 + (z0 : ℕ) := q0
      obtain rfl : y1 = z1 := Fin.ext q1
      have e2 : (⟨y0.val - 16, by omega⟩ : Fin 512) = z0 := Fin.ext (by show y0.val - 16 = _; omega)
      show _ = ext (flag i) x0 x1 1 y0.val y1
      unfold ext
      rw [dif_neg (by omega), dif_pos (show y0.val - 16 < 512 by omega), e2]
      pointwise [k0_pay4, k0_pay5, k0_pay6, kernelRun0_A.sl.r]
      exact ld_cur arg2 harg2 x0 1 (by decide) _ _ _ _ _
    · idx_vars z
      replace q0 : (y0 : ℕ) = (z0 : ℕ) := q0
      obtain rfl : y1 = z1 := Fin.ext q1
      have e2 : (⟨y0.val, by omega⟩ : Fin 16) = z0 := Fin.ext q0
      show _ = ext (flag i) x0 x1 1 y0.val y1
      unfold ext
      rw [dif_pos (show y0.val < 16 by omega), e2]
      pointwise [k0_pay4, k0_pay5, k0_pay6, kernelRun0_A.sl.r, flag]
      rw [ld_halo arg3 harg3 x1 1 (by decide)]
      rfl
  exact e _ (by show k + 1 * (x 0).val = _; omega) (Fin.ext (by show 0 + 1 * (x 1).val = _; omega))

/-- An entry of such a load from the gate's buffer. -/
theorem gate_at (v : View sig .tc .vmem S528x704 .f32) (c : Dev nD) (i : grid0.Coords) (arg2 : Memref sig .tc .vmem S2x1x512x704 .bf16) (harg2 : arg2.IsWhole) (arg3 : Memref sig .tc .vmem S2x1x16x704 .bf16) (harg3 : arg3.IsWhole)
    (x0 : Vec Ideal S2x1x512x704 .bf16) (x1 : Vec Ideal S2x1x16x704 .bf16) (k : ℕ)
    (inb : ∀ a, (![k, 0] : Fin 2 → ℕ) a + (![16, 704] : Fin 2 → ℕ) a ≤ S528x704.size a) (r : Fin 16) (l : Fin 704) :
    v.readCov (Val := Elt Ideal) (kernelRun0_A.sl.HS0_2 (F := Ideal) c i arg2 harg2 arg3 harg3 x0 x1)
      (Rect.unit (s := S528x704) ![k, 0] ![16, 704] inb).toLoadRect (ix2 r l) = ext (flag i) x0 x1 0 (k + r.val) l :=
  congrFun (load_gate v c i arg2 harg2 arg3 harg3 x0 x1 k inb) (ix2 r l)

/-- An entry of such a load from the other half's buffer. -/
theorem up_at (v : View sig .tc .vmem S528x704 .f32) (c : Dev nD) (i : grid0.Coords) (arg2 : Memref sig .tc .vmem S2x1x512x704 .bf16) (harg2 : arg2.IsWhole) (arg3 : Memref sig .tc .vmem S2x1x16x704 .bf16) (harg3 : arg3.IsWhole)
    (x0 : Vec Ideal S2x1x512x704 .bf16) (x1 : Vec Ideal S2x1x16x704 .bf16) (k : ℕ)
    (inb : ∀ a, (![k, 0] : Fin 2 → ℕ) a + (![16, 704] : Fin 2 → ℕ) a ≤ S528x704.size a) (r : Fin 16) (l : Fin 704) :
    v.readCov (Val := Elt Ideal) (kernelRun0_A.sl.HS1_2 (F := Ideal) c i arg2 harg2 arg3 harg3 x0 x1)
      (Rect.unit (s := S528x704) ![k, 0] ![16, 704] inb).toLoadRect (ix2 r l) = ext (flag i) x0 x1 1 (k + r.val) l :=
  congrFun (load_up v c i arg2 harg2 arg3 harg3 x0 x1 k inb) (ix2 r l)

/-- Tap 0 of half 0, as loaded. -/
theorem tap_v38 (c : Dev nD) (arg4 : Memref sig .tc .vmem S2x1x3x704 .f32) (harg4 : arg4.IsWhole) (x2 : Vec Ideal S2x1x3x704 .f32) (u : Fin 1) (l : Fin 704) :
    kernelRun0_A.sl.v38 (F := Ideal) c arg4 harg4 x2 (ix2 u l) = x2 (ix4 0 0 0 l) := by
  unfold kernelRun0_A.sl.v38
  exact congrFun (ld_tap arg4 harg4 x2 0 (by decide) 0 (by decide) _ _ _ _) (ix2 u l)

/-- Tap 1 of half 0, as loaded. -/
theorem tap_v45 (c : Dev nD) (arg4 : Memref sig .tc .vmem S2x1x3x704 .f32) (harg4 : arg4.IsWhole) (x2 : Vec Ideal S2x1x3x704 .f32) (u : Fin 1) (l : Fin 704) :
    kernelRun0_A.sl.v45 (F := Ideal) c arg4 harg4 x2 (ix2 u l) = x2 (ix4 0 0 1 l) := by
  unfold kernelRun0_A.sl.v45
  exact congrFun (ld_tap arg4 harg4 x2 0 (by decide) 1 (by decide) _ _ _ _) (ix2 u l)

/-- Tap 2 of half 0, as loaded. -/
theorem tap_v53 (c : Dev nD) (arg4 : Memref sig .tc .vmem S2x1x3x704 .f32) (harg4 : arg4.IsWhole) (x2 : Vec Ideal S2x1x3x704 .f32) (u : Fin 1) (l : Fin 704) :
    kernelRun0_A.sl.v53 (F := Ideal) c arg4 harg4 x2 (ix2 u l) = x2 (ix4 0 0 2 l) := by
  unfold kernelRun0_A.sl.v53
  exact congrFun (ld_tap arg4 harg4 x2 0 (by decide) 2 (by decide) _ _ _ _) (ix2 u l)

/-- Tap 0 of half 1, as loaded. -/
theorem tap_v65 (c : Dev nD) (arg4 : Memref sig .tc .vmem S2x1x3x704 .f32) (harg4 : arg4.IsWhole) (x2 : Vec Ideal S2x1x3x704 .f32) (u : Fin 1) (l : Fin 704) :
    kernelRun0_A.sl.v65 (F := Ideal) c arg4 harg4 x2 (ix2 u l) = x2 (ix4 1 0 0 l) := by
  unfold kernelRun0_A.sl.v65
  exact congrFun (ld_tap arg4 harg4 x2 1 (by decide) 0 (by decide) _ _ _ _) (ix2 u l)

/-- Tap 1 of half 1, as loaded. -/
theorem tap_v72 (c : Dev nD) (arg4 : Memref sig .tc .vmem S2x1x3x704 .f32) (harg4 : arg4.IsWhole) (x2 : Vec Ideal S2x1x3x704 .f32) (u : Fin 1) (l : Fin 704) :
    kernelRun0_A.sl.v72 (F := Ideal) c arg4 harg4 x2 (ix2 u l) = x2 (ix4 1 0 1 l) := by
  unfold kernelRun0_A.sl.v72
  exact congrFun (ld_tap arg4 harg4 x2 1 (by decide) 1 (by decide) _ _ _ _) (ix2 u l)

/-- Tap 2 of half 1, as loaded. -/
theorem tap_v80 (c : Dev nD) (arg4 : Memref sig .tc .vmem S2x1x3x704 .f32) (harg4 : arg4.IsWhole) (x2 : Vec Ideal S2x1x3x704 .f32) (u : Fin 1) (l : Fin 704) :
    kernelRun0_A.sl.v80 (F := Ideal) c arg4 harg4 x2 (ix2 u l) = x2 (ix4 1 0 2 l) := by
  unfold kernelRun0_A.sl.v80
  exact congrFun (ld_tap arg4 harg4 x2 1 (by decide) 2 (by decide) _ _ _ _) (ix2 u l)

end Cert.ActIdeal.Block

end
-- ==== Proof.ActBlock.lean ====
/-
  What one grid point of the feed-forward block's activation leaves in its output block: the gate, times its logistic value,
  times the other half, each half being the bias plus the three taps over the rows.
-/
module

public import proofs.«01_k».proof.Proof.ActLoads
public import Idealize.ShloMosaic.Lib.Pipeline.ReadBack
public import Idealize.ShloMosaic.Lib.Pipeline.ValueKit.Tiles
public import Idealize.ShloMosaic.Lib.Pipeline.CanonAppend
public import Idealize.ShloMosaic.Lib.Pointwise
public import Idealize.ShloMosaic.Lib.Tactic

@[expose] public section

set_option maxRecDepth 16384

noncomputable section

namespace Cert.ActIdeal.Block

open Cert.ActIdeal Cert.ActIdeal.Gen Idealize.ShloMosaic Idealize.ShloMosaic.TcCoe Idealize.SL.Sem

attribute [local pointwise] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181 k0_pay182 k0_pay183 k0_pay184 k0_pay185 k0_pay186 k0_pay187 k0_pay188 k0_pay189 k0_pay190 k0_pay191 k0_pay192 k0_pay193

attribute [local pointwise] kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.v40 kernelRun0_A.sl.v47 kernelRun0_A.sl.v55 kernelRun0_A.sl.v67 kernelRun0_A.sl.v74 kernelRun0_A.sl.v82 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64 kernelRun0_A.sl.r_65 kernelRun0_A.sl.r_66 kernelRun0_A.sl.r_67 kernelRun0_A.sl.r_68 kernelRun0_A.sl.r_69 kernelRun0_A.sl.r_70 kernelRun0_A.sl.r_71 kernelRun0_A.sl.r_72 kernelRun0_A.sl.r_73 kernelRun0_A.sl.r_74 kernelRun0_A.sl.r_75 kernelRun0_A.sl.r_76 kernelRun0_A.sl.r_77 kernelRun0_A.sl.r_78 kernelRun0_A.sl.r_79 kernelRun0_A.sl.r_80 kernelRun0_A.sl.r_81 kernelRun0_A.sl.r_82 kernelRun0_A.sl.r_83 kernelRun0_A.sl.r_84 kernelRun0_A.sl.r_85 kernelRun0_A.sl.r_86 kernelRun0_A.sl.r_87 kernelRun0_A.sl.r_88 kernelRun0_A.sl.r_89 kernelRun0_A.sl.r_90 kernelRun0_A.sl.r_91 kernelRun0_A.sl.r_92 kernelRun0_A.sl.r_93 kernelRun0_A.sl.r_94 kernelRun0_A.sl.r_95 kernelRun0_A.sl.r_96 kernelRun0_A.sl.r_97 kernelRun0_A.sl.r_98 kernelRun0_A.sl.r_99 kernelRun0_A.sl.r_100 kernelRun0_A.sl.r_101 kernelRun0_A.sl.r_102 kernelRun0_A.sl.r_103 kernelRun0_A.sl.r_104 kernelRun0_A.sl.r_105 kernelRun0_A.sl.r_106 kernelRun0_A.sl.r_107 kernelRun0_A.sl.r_108 kernelRun0_A.sl.r_109 kernelRun0_A.sl.r_110 kernelRun0_A.sl.r_111 kernelRun0_A.sl.r_112 kernelRun0_A.sl.r_113 kernelRun0_A.sl.r_114 kernelRun0_A.sl.r_115 kernelRun0_A.sl.r_116 kernelRun0_A.sl.r_117 kernelRun0_A.sl.r_118 kernelRun0_A.sl.r_119 kernelRun0_A.sl.r_120 kernelRun0_A.sl.r_121 kernelRun0_A.sl.r_122 kernelRun0_A.sl.r_123 kernelRun0_A.sl.r_124 kernelRun0_A.sl.r_125 kernelRun0_A.sl.r_126 kernelRun0_A.sl.r_127 kernelRun0_A.sl.r_128 kernelRun0_A.sl.r_129 kernelRun0_A.sl.r_130 kernelRun0_A.sl.r_131 kernelRun0_A.sl.r_132 kernelRun0_A.sl.r_133 kernelRun0_A.sl.r_134 kernelRun0_A.sl.r_135 kernelRun0_A.sl.r_136 kernelRun0_A.sl.r_137 kernelRun0_A.sl.r_138 kernelRun0_A.sl.r_139 kernelRun0_A.sl.r_140 kernelRun0_A.sl.r_141 kernelRun0_A.sl.r_142 kernelRun0_A.sl.r_143 kernelRun0_A.sl.r_144 kernelRun0_A.sl.r_145 kernelRun0_A.sl.r_146 kernelRun0_A.sl.r_147 kernelRun0_A.sl.r_148 kernelRun0_A.sl.r_149 kernelRun0_A.sl.r_150 kernelRun0_A.sl.r_151 kernelRun0_A.sl.r_152 kernelRun0_A.sl.r_153 kernelRun0_A.sl.r_154 kernelRun0_A.sl.r_155 kernelRun0_A.sl.r_156 kernelRun0_A.sl.v107 kernelRun0_A.sl.v114 kernelRun0_A.sl.v122 kernelRun0_A.sl.v134 kernelRun0_A.sl.v141 kernelRun0_A.sl.v149 kernelRun0_A.sl.v174 kernelRun0_A.sl.v181 kernelRun0_A.sl.v189 kernelRun0_A.sl.v201 kernelRun0_A.sl.v208 kernelRun0_A.sl.v216 kernelRun0_A.sl.v241 kernelRun0_A.sl.v248 kernelRun0_A.sl.v256 kernelRun0_A.sl.v268 kernelRun0_A.sl.v275 kernelRun0_A.sl.v283 kernelRun0_A.sl.v308 kernelRun0_A.sl.v315 kernelRun0_A.sl.v323 kernelRun0_A.sl.v335 kernelRun0_A.sl.v342 kernelRun0_A.sl.v350 kernelRun0_A.sl.v375 kernelRun0_A.sl.v382 kernelRun0_A.sl.v390 kernelRun0_A.sl.v402 kernelRun0_A.sl.v409 kernelRun0_A.sl.v417 kernelRun0_A.sl.v442 kernelRun0_A.sl.v449 kernelRun0_A.sl.v457 kernelRun0_A.sl.v469 kernelRun0_A.sl.v476 kernelRun0_A.sl.v484 kernelRun0_A.sl.v509 kernelRun0_A.sl.v516 kernelRun0_A.sl.v524 kernelRun0_A.sl.v536 kernelRun0_A.sl.v543 kernelRun0_A.sl.v551 kernelRun0_A.sl.v576 kernelRun0_A.sl.v583 kernelRun0_A.sl.v591 kernelRun0_A.sl.v603 kernelRun0_A.sl.v610 kernelRun0_A.sl.v618 kernelRun0_A.sl.v643 kernelRun0_A.sl.v650 kernelRun0_A.sl.v658 kernelRun0_A.sl.v670 kernelRun0_A.sl.v677 kernelRun0_A.sl.v685 kernelRun0_A.sl.v710 kernelRun0_A.sl.v717 kernelRun0_A.sl.v725 kernelRun0_A.sl.v737 kernelRun0_A.sl.v744 kernelRun0_A.sl.v752 kernelRun0_A.sl.v777 kernelRun0_A.sl.v784 kernelRun0_A.sl.v792 kernelRun0_A.sl.v804 kernelRun0_A.sl.v811 kernelRun0_A.sl.v819 kernelRun0_A.sl.v844 kernelRun0_A.sl.v851 kernelRun0_A.sl.v859 kernelRun0_A.sl.v871 kernelRun0_A.sl.v878 kernelRun0_A.sl.v886 kernelRun0_A.sl.v911 kernelRun0_A.sl.v918 kernelRun0_A.sl.v926 kernelRun0_A.sl.v938 kernelRun0_A.sl.v945 kernelRun0_A.sl.v953 kernelRun0_A.sl.v978 kernelRun0_A.sl.v985 kernelRun0_A.sl.v993 kernelRun0_A.sl.v1005 kernelRun0_A.sl.v1012 kernelRun0_A.sl.v1020 kernelRun0_A.sl.v1045 kernelRun0_A.sl.v1052 kernelRun0_A.sl.v1060 kernelRun0_A.sl.v1072 kernelRun0_A.sl.v1079 kernelRun0_A.sl.v1087 kernelRun0_A.sl.v1112 kernelRun0_A.sl.v1119 kernelRun0_A.sl.v1127 kernelRun0_A.sl.v1139 kernelRun0_A.sl.v1146 kernelRun0_A.sl.v1154 kernelRun0_A.sl.v1179 kernelRun0_A.sl.v1186 kernelRun0_A.sl.v1194 kernelRun0_A.sl.v1206 kernelRun0_A.sl.v1213 kernelRun0_A.sl.v1221 kernelRun0_A.sl.v1246 kernelRun0_A.sl.v1253 kernelRun0_A.sl.v1261 kernelRun0_A.sl.v1273 kernelRun0_A.sl.v1280 kernelRun0_A.sl.v1288 kernelRun0_A.sl.v1313 kernelRun0_A.sl.v1320 kernelRun0_A.sl.v1328 kernelRun0_A.sl.v1340 kernelRun0_A.sl.v1347 kernelRun0_A.sl.v1355 kernelRun0_A.sl.v1380 kernelRun0_A.sl.v1387 kernelRun0_A.sl.v1395 kernelRun0_A.sl.v1407 kernelRun0_A.sl.v1414 kernelRun0_A.sl.v1422 kernelRun0_A.sl.v1447 kernelRun0_A.sl.v1454 kernelRun0_A.sl.v1462 kernelRun0_A.sl.v1474 kernelRun0_A.sl.v1481 kernelRun0_A.sl.v1489 kernelRun0_A.sl.v1514 kernelRun0_A.sl.v1521 kernelRun0_A.sl.v1529 kernelRun0_A.sl.v1541 kernelRun0_A.sl.v1548 kernelRun0_A.sl.v1556 kernelRun0_A.sl.v1581 kernelRun0_A.sl.v1588 kernelRun0_A.sl.v1596 kernelRun0_A.sl.v1608 kernelRun0_A.sl.v1615 kernelRun0_A.sl.v1623 kernelRun0_A.sl.v1648 kernelRun0_A.sl.v1655 kernelRun0_A.sl.v1663 kernelRun0_A.sl.v1675 kernelRun0_A.sl.v1682 kernelRun0_A.sl.v1690 kernelRun0_A.sl.v1715 kernelRun0_A.sl.v1722 kernelRun0_A.sl.v1730 kernelRun0_A.sl.v1742 kernelRun0_A.sl.v1749 kernelRun0_A.sl.v1757 kernelRun0_A.sl.v1782 kernelRun0_A.sl.v1789 kernelRun0_A.sl.v1797 kernelRun0_A.sl.v1809 kernelRun0_A.sl.v1816 kernelRun0_A.sl.v1824 kernelRun0_A.sl.v1849 kernelRun0_A.sl.v1856 kernelRun0_A.sl.v1864 kernelRun0_A.sl.v1876 kernelRun0_A.sl.v1883 kernelRun0_A.sl.v1891 kernelRun0_A.sl.v1916 kernelRun0_A.sl.v1923 kernelRun0_A.sl.v1931 kernelRun0_A.sl.v1943 kernelRun0_A.sl.v1950 kernelRun0_A.sl.v1958 kernelRun0_A.sl.v1983 kernelRun0_A.sl.v1990 kernelRun0_A.sl.v1998 kernelRun0_A.sl.v2010 kernelRun0_A.sl.v2017 kernelRun0_A.sl.v2025 kernelRun0_A.sl.v2050 kernelRun0_A.sl.v2057 kernelRun0_A.sl.v2065 kernelRun0_A.sl.v2077 kernelRun0_A.sl.v2084 kernelRun0_A.sl.v2092 kernelRun0_A.sl.v2117 kernelRun0_A.sl.v2124 kernelRun0_A.sl.v2132 kernelRun0_A.sl.v2144 kernelRun0_A.sl.v2151 kernelRun0_A.sl.v2159

/-- The bias plus the three taps over rows `n`, `n + 1`, `n + 2` of a column of rows. -/
def lin (b w0 w1 w2 : EReal) (p : ℕ → EReal) (n : ℕ) : EReal := b + (w0 * p n + w1 * p (n + 1) + w2 * p (n + 2))

/-- A number times its logistic value, the latter through the hyperbolic tangent. -/
def swish (v : EReal) : EReal := v * (Ideal.ofBits .f32 0x3F000000#32 * Ideal.tanh (Ideal.ofBits .f32 0x3F000000#32 * v) + Ideal.ofBits .f32 0x3F000000#32)

/-- Row `r`, column `l` of one half of a point's rows, after the taps and the bias. -/
def half (f : EReal) (x0 : Vec Ideal S2x1x512x704 .bf16) (x1 : Vec Ideal S2x1x16x704 .bf16) (x2 : Vec Ideal S2x1x3x704 .f32) (x3 : Vec Ideal S2x1x1x704 .f32)
    (k : Fin 2) (r : ℕ) (l : Fin 704) : EReal :=
  lin (x3 (ix4 k 0 0 l)) (x2 (ix4 k 0 0 l)) (x2 (ix4 k 0 1 l)) (x2 (ix4 k 0 2 l)) (fun n => ext f x0 x1 k n l) (14 + r)

/-- Row `r`, column `l` of a point's result. -/
def act (f : EReal) (x0 : Vec Ideal S2x1x512x704 .bf16) (x1 : Vec Ideal S2x1x16x704 .bf16) (x2 : Vec Ideal S2x1x3x704 .f32) (x3 : Vec Ideal S2x1x1x704 .f32)
    (r : Fin 512) (l : Fin 704) : EReal :=
  swish (half f x0 x1 x2 x3 0 r.val l) * half f x0 x1 x2 x3 1 r.val l

/-- A row of a stretch that begins at row `o`, written out. -/
theorem act_at (f : EReal) (x0 : Vec Ideal S2x1x512x704 .bf16) (x1 : Vec Ideal S2x1x16x704 .bf16) (x2 : Vec Ideal S2x1x3x704 .f32) (x3 : Vec Ideal S2x1x1x704 .f32)
    (o z : ℕ) (h : o + z < 512) (l : Fin 704) :
    act f x0 x1 x2 x3 ⟨o + z, h⟩ l
    = swish (x3 (ix4 0 0 0 l) + (x2 (ix4 0 0 0 l) * ext f x0 x1 0 (14 + o + z) l + x2 (ix4 0 0 1 l) * ext f x0 x1 0 (15 + o + z) l + x2 (ix4 0 0 2 l) * ext f x0 x1 0 (16 + o + z) l))
      * (x3 (ix4 1 0 0 l) + (x2 (ix4 1 0 0 l) * ext f x0 x1 1 (14 + o + z) l + x2 (ix4 1 0 1 l) * ext f x0 x1 1 (15 + o + z) l + x2 (ix4 1 0 2 l) * ext f x0 x1 1 (16 + o + z) l)) := by
  unfold act half lin
  rw [show 14 + (o + z) + 1 = 15 + o + z by omega, show 14 + (o + z) + 2 = 16 + o + z by omega, show 14 + (o + z) = 14 + o + z by omega]

/-- The same for the first stretch. -/
theorem act_at0 (f : EReal) (x0 : Vec Ideal S2x1x512x704 .bf16) (x1 : Vec Ideal S2x1x16x704 .bf16) (x2 : Vec Ideal S2x1x3x704 .f32) (x3 : Vec Ideal S2x1x1x704 .f32)
    (z : ℕ) (h : z < 512) (l : Fin 704) :
    act f x0 x1 x2 x3 ⟨z, h⟩ l
    = swish (x3 (ix4 0 0 0 l) + (x2 (ix4 0 0 0 l) * ext f x0 x1 0 (14 + z) l + x2 (ix4 0 0 1 l) * ext f x0 x1 0 (15 + z) l + x2 (ix4 0 0 2 l) * ext f x0 x1 0 (16 + z) l))
      * (x3 (ix4 1 0 0 l) + (x2 (ix4 1 0 0 l) * ext f x0 x1 1 (14 + z) l + x2 (ix4 1 0 1 l) * ext f x0 x1 1 (15 + z) l + x2 (ix4 1 0 2 l) * ext f x0 x1 1 (16 + z) l)) := by
  unfold act half lin
  rw [show 14 + z + 1 = 15 + z by omega, show 14 + z + 2 = 16 + z by omega]

/-- A block from its rows. -/
def blockOf (G : Fin 512 → Fin 704 → EReal) (y : S1x512x704.Idx) : EReal := G (y 1) (y 2)

/-- A row of a stretch of sixteen rows is a row of the block. -/
theorem blockOf_stretch (G : Fin 512 → Fin 704 → EReal) (o : ℕ) (inb : ∀ a, (![0, o, 0] : Fin 3 → ℕ) a + S1x16x704.size a ≤ S1x512x704.size a)
    (z0 : Fin 1) (z1 : Fin 16) (z2 : Fin 704) (h : o + z1.val < 512) :
    blockOf G ((Rect.unit (s := S1x512x704) ![0, o, 0] S1x16x704.size inb).emb (ix3 z0 z1 z2)) = G ⟨o + z1.val, h⟩ z2 := by
  unfold blockOf
  congr 1
  · exact Fin.ext (by show o + 1 * z1.val = o + z1.val; omega)
  · exact Fin.ext (by show 0 + 1 * z2.val = z2.val; omega)

variable (c : Dev nD) (i : grid0.Coords) (arg2 : Memref sig .tc .vmem S2x1x512x704 .bf16) (harg2 : arg2.IsWhole) (arg3 : Memref sig .tc .vmem S2x1x16x704 .bf16) (harg3 : arg3.IsWhole) (arg4 : Memref sig .tc .vmem S2x1x3x704 .f32) (harg4 : arg4.IsWhole) (arg5 : Memref sig .tc .vmem S2x1x1x704 .f32) (harg5 : arg5.IsWhole) (arg6 : Memref sig .tc .vmem S1x512x704 .bf16) (harg6 : arg6.IsWhole) (arg7 : Memref sig .tc .vmem S528x704 .f32) (harg7 : arg7.IsWhole) (arg8 : Memref sig .tc .vmem S528x704 .f32) (harg8 : arg8.IsWhole)
    (x0 : Vec Ideal S2x1x512x704 .bf16) (x1 : Vec Ideal S2x1x16x704 .bf16) (x2 : Vec Ideal S2x1x3x704 .f32) (x3 : Vec Ideal S2x1x1x704 .f32)

set_option maxHeartbeats 8000000 in
/-- Every stretch of rows stored at a point is that stretch of the result. -/
theorem pieces : View.PiecesOf (Val := Elt Ideal) (blockOf (act (flag i) x0 x1 x2 x3)) (kernelRun0_A (F := Ideal) c i arg2 harg2 arg3 harg3 arg4 harg4 arg5 harg5 arg6 harg6 arg7 harg7 arg8 harg8 x0 x1 x2 x3).1 := by
  unfold kernelRun0_A
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro (z : S1x16x704.Idx)
    idx_vars z
    refine Eq.trans ?_ (blockOf_stretch _ _ _ z0 z1 z2 (by omega)).symm
    pointwise [load_gate, load_up, ld_tap arg4 harg4 x2 0 (by decide) 0 (by decide), ld_tap arg4 harg4 x2 0 (by decide) 1 (by decide), ld_tap arg4 harg4 x2 0 (by decide) 2 (by decide), ld_tap arg4 harg4 x2 1 (by decide) 0 (by decide), ld_tap arg4 harg4 x2 1 (by decide) 1 (by decide), ld_tap arg4 harg4 x2 1 (by decide) 2 (by decide), ld_bias arg5 harg5 x3 0 (by decide), ld_bias arg5 harg5 x3 1 (by decide)]
    simp only [gate_at, up_at, tap_v38, tap_v45, tap_v53, tap_v65, tap_v72, tap_v80]
    first | simp only [act_at, swish, Nat.reduceAdd] | simp only [act_at0, swish]

/-- The output block after a point. -/
theorem out_eq : out0_A_4 (F := Ideal) c i arg2 harg2 arg3 harg3 arg4 harg4 arg5 harg5 arg6 harg6 arg7 harg7 arg8 harg8 x0 x1 x2 x3 = blockOf (act (flag i) x0 x1 x2 x3) := by
  unfold out0_A_4
  rw [View.read_writes_eq_canon _ _ _ (cover0_A_4 (F := Ideal) c i arg2 harg2 arg3 harg3 arg4 harg4 arg5 harg5 arg6 harg6 arg7 harg7 arg8 harg8 x0 x1 x2 x3)]
  funext y
  have h := View.canon_append_of_piecesOf (Val := Elt Ideal) _ [] _ (pieces c i arg2 harg2 arg3 harg3 arg4 harg4 arg5 harg5 arg6 harg6 arg7 harg7 arg8 harg8 x0 x1 x2 x3) y
    (cover0_A_4 (F := Ideal) c i arg2 harg2 arg3 harg3 arg4 harg4 arg5 harg5 arg6 harg6 arg7 harg7 arg8 harg8 x0 x1 x2 x3 y)
  rwa [List.append_nil] at h

end Cert.ActIdeal.Block

end
-- ==== Proof.ActArray.lean ====
/-
  What the result array of the feed-forward block's activation holds after the run, as a function of the argument arrays.
  The grid is four column blocks by eight row blocks; a gate block and the block four further make one result block.
-/
module

public import proofs.«01_k».proof.Proof.ActBlock

@[expose] public section

set_option maxRecDepth 16384

noncomputable section

namespace Cert.ActIdeal.Arr

open Cert.ActIdeal Cert.ActIdeal.Gen Cert.ActIdeal.Block Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The up-projection's result, in eight blocks of columns. -/
abbrev aU (c : Dev nD) : Vec Ideal S8x4096x704 .bf16 := m ((c : Thread nD τ).loc main_arg0)
/-- The taps. -/
abbrev aW (c : Dev nD) : Vec Ideal S8x3x704 .f32 := m ((c : Thread nD τ).loc main_arg1)
/-- The bias. -/
abbrev aB (c : Dev nD) : Vec Ideal S8x1x704 .f32 := m ((c : Thread nD τ).loc main_arg2)

/-- The rows of a block of columns under two rows of zeros. -/
def urow (U : Vec Ideal S8x4096x704 .bf16) (b : Fin 8) (n : ℕ) (l : Fin 704) : EReal :=
  if n < 2 then 0 else if h : n - 2 < 4096 then U (ix3 b ⟨n - 2, h⟩ l) else 0

/-- A row of a block of columns after the taps and the bias. -/
def lrow (U : Vec Ideal S8x4096x704 .bf16) (W : Vec Ideal S8x3x704 .f32) (B : Vec Ideal S8x1x704 .f32) (b : Fin 8) (r : ℕ) (l : Fin 704) : EReal :=
  lin (B (ix3 b 0 l)) (W (ix3 b 0 l)) (W (ix3 b 1 l)) (W (ix3 b 2 l)) (fun n => urow U b n l) r

/-- The activation of the whole arrays. -/
def full (U : Vec Ideal S8x4096x704 .bf16) (W : Vec Ideal S8x3x704 .f32) (B : Vec Ideal S8x1x704 .f32) : Vec Ideal S4x4096x704 .bf16 := fun y =>
  swish (lrow U W B ⟨(y 0).val, by have := (y 0).isLt; have : (y 0).val < 4 := this; omega⟩ (y 1).val (y 2))
    * lrow U W B ⟨4 + (y 0).val, by have := (y 0).isLt; have : (y 0).val < 4 := this; omega⟩ (y 1).val (y 2)

/-- A grid point's number is below thirty-two. -/
theorem pt_lt (t : Fin cfg0.N) : t.val < 32 := (t.cast N_0 : Fin 32).isLt

/-- Where the big window's block lies at a point. -/
theorem index0 : ∀ t : Fin cfg0.N, win0_0.index t 0 = 0 ∧ win0_0.index t 1 = t.val / 8 ∧ win0_0.index t 2 = t.val % 8 ∧ win0_0.index t 3 = 0 :=
  (by decide +kernel : ∀ t : Fin grid0.N, win0_0.index t 0 = 0 ∧ win0_0.index t 1 = t.val / 8 ∧ win0_0.index t 2 = t.val % 8 ∧ win0_0.index t 3 = 0)

/-- Where the window of the sixteen rows before the block lies at a point. -/
theorem index1 : ∀ t : Fin cfg0.N, win0_1.index t 0 = 0 ∧ win0_1.index t 1 = t.val / 8 ∧ win0_1.index t 2 = 32 * (t.val % 8) - 1 ∧ win0_1.index t 3 = 0 :=
  (by decide +kernel : ∀ t : Fin grid0.N, win0_1.index t 0 = 0 ∧ win0_1.index t 1 = t.val / 8 ∧ win0_1.index t 2 = 32 * (t.val % 8) - 1 ∧ win0_1.index t 3 = 0)

/-- Where the taps' window lies at a point. -/
theorem index2 : ∀ t : Fin cfg0.N, win0_2.index t 0 = 0 ∧ win0_2.index t 1 = t.val / 8 ∧ win0_2.index t 2 = 0 ∧ win0_2.index t 3 = 0 :=
  (by decide +kernel : ∀ t : Fin grid0.N, win0_2.index t 0 = 0 ∧ win0_2.index t 1 = t.val / 8 ∧ win0_2.index t 2 = 0 ∧ win0_2.index t 3 = 0)

/-- Where the bias's window lies at a point. -/
theorem index3 : ∀ t : Fin cfg0.N, win0_3.index t 0 = 0 ∧ win0_3.index t 1 = t.val / 8 ∧ win0_3.index t 2 = 0 ∧ win0_3.index t 3 = 0 :=
  (by decide +kernel : ∀ t : Fin grid0.N, win0_3.index t 0 = 0 ∧ win0_3.index t 1 = t.val / 8 ∧ win0_3.index t 2 = 0 ∧ win0_3.index t 3 = 0)

/-- Splitting the eight blocks into two halves of four (up-projection's result). -/
theorem split_v0 (X : Vec Ideal S8x4096x704 .bf16) (h : S8x4096x704.ShapeCasts S2x4x4096x704) (k : Fin 2) (j : Fin 4) (a : Fin 4096) (l : Fin 704) :
    shapeCast S2x4x4096x704 X h (ix4 k j a l) = X (ix3 ⟨4 * k.val + j.val, by omega⟩ a l) := by
  pointwise
  exact congrArg (fun q => X (ix3 q a l)) (Fin.ext (by show k.val * 4 + j.val = 4 * k.val + j.val; omega))

/-- The up-projection's result, as the region finds it. -/
theorem found_v0 (c : Dev nD) (k : Fin 2) (j : Fin 4) (a : Fin 4096) (l : Fin 704) :
    (V m c main_v0 : Vec Ideal S2x4x4096x704 .bf16) (ix4 k j a l) = aU m c (ix3 ⟨4 * k.val + j.val, by omega⟩ a l) := by
  have e : V m c main_v0 = shapeCast S2x4x4096x704 (aU m c) shapeCasts_S8x4096x704_S2x4x4096x704 := by
    show StableHlo.after hostOps0 _ (Proc.devRef .tc main_v0) = _
    after_results
    rfl
  rw [e]
  exact split_v0 _ _ k j a l

/-- Splitting the eight blocks into two halves of four (taps). -/
theorem split_v1 (X : Vec Ideal S8x3x704 .f32) (h : S8x3x704.ShapeCasts S2x4x3x704) (k : Fin 2) (j : Fin 4) (a : Fin 3) (l : Fin 704) :
    shapeCast S2x4x3x704 X h (ix4 k j a l) = X (ix3 ⟨4 * k.val + j.val, by omega⟩ a l) := by
  pointwise
  exact congrArg (fun q => X (ix3 q a l)) (Fin.ext (by show k.val * 4 + j.val = 4 * k.val + j.val; omega))

/-- The taps, as the region finds it. -/
theorem found_v1 (c : Dev nD) (k : Fin 2) (j : Fin 4) (a : Fin 3) (l : Fin 704) :
    (V m c main_v1 : Vec Ideal S2x4x3x704 .f32) (ix4 k j a l) = aW m c (ix3 ⟨4 * k.val + j.val, by omega⟩ a l) := by
  have e : V m c main_v1 = shapeCast S2x4x3x704 (aW m c) shapeCasts_S8x3x704_S2x4x3x704 := by
    show StableHlo.after hostOps0 _ (Proc.devRef .tc main_v1) = _
    after_results
    rfl
  rw [e]
  exact split_v1 _ _ k j a l

/-- Splitting the eight blocks into two halves of four (bias). -/
theorem split_v2 (X : Vec Ideal S8x1x704 .f32) (h : S8x1x704.ShapeCasts S2x4x1x704) (k : Fin 2) (j : Fin 4) (a : Fin 1) (l : Fin 704) :
    shapeCast S2x4x1x704 X h (ix4 k j a l) = X (ix3 ⟨4 * k.val + j.val, by omega⟩ a l) := by
  have ha : a = 0 := Subsingleton.elim a 0
  subst ha
  pointwise
  exact congrArg (fun q => X (ix3 q 0 l)) (Fin.ext (by show k.val * 4 + j.val = 4 * k.val + j.val; omega))

/-- The bias, as the region finds it. -/
theorem found_v2 (c : Dev nD) (k : Fin 2) (j : Fin 4) (a : Fin 1) (l : Fin 704) :
    (V m c main_v2 : Vec Ideal S2x4x1x704 .f32) (ix4 k j a l) = aB m c (ix3 ⟨4 * k.val + j.val, by omega⟩ a l) := by
  have e : V m c main_v2 = shapeCast S2x4x1x704 (aB m c) shapeCasts_S8x1x704_S2x4x1x704 := by
    show StableHlo.after hostOps0 _ (Proc.devRef .tc main_v2) = _
    after_results
    rfl
  rw [e]
  exact split_v2 _ _ k j a l

/-- Window 0's block at a point, in the argument's own indices. -/
theorem blk0 (c : Dev nD) (t : Fin cfg0.N) (k : Fin 2) (r : Fin 512) (l : Fin 704) (b : Fin 8) (hb : b.val = 4 * k.val + t.val / 8) (n : Fin 4096) (hn : n.val = 512 * (t.val % 8) + r.val) :
    (iblk m c 0 t : Vec Ideal S2x1x512x704 .bf16) (ix4 k 0 r l) = aU m c (ix3 b n l) := by
  have ht := pt_lt t
  unfold iblk
  rw [View.read_apply]
  show (V m c main_v0 : Vec Ideal S2x4x4096x704 .bf16) _ = _
  refine (congrArg _ (?_ : _ = ix4 k (⟨t.val / 8, by omega⟩ : Fin 4) n l)).trans ((found_v0 m c k _ n l).trans (congrArg (fun q => aU m c (ix3 q n l)) (Fin.ext hb.symm)))
  refine funext fun a => Fin.ext ?_
  match a with
  | ⟨0, _⟩ => show win0_0.index t 0 * 2 + 1 * k.val = k.val; rw [(index0 t).1]; omega
  | ⟨1, _⟩ => show win0_0.index t 1 * 1 + 1 * 0 = t.val / 8; rw [(index0 t).2.1]; omega
  | ⟨2, _⟩ => show win0_0.index t 2 * 512 + 1 * r.val = n.val; rw [(index0 t).2.2.1, hn]; omega
  | ⟨3, _⟩ => show win0_0.index t 3 * 704 + 1 * l.val = l.val; rw [(index0 t).2.2.2]; omega

/-- Window 1's block at a point, in the argument's own indices. -/
theorem blk1 (c : Dev nD) (t : Fin cfg0.N) (k : Fin 2) (r : Fin 16) (l : Fin 704) (b : Fin 8) (hb : b.val = 4 * k.val + t.val / 8) (n : Fin 4096) (hn : n.val = 16 * (32 * (t.val % 8) - 1) + r.val) :
    (iblk m c 1 t : Vec Ideal S2x1x16x704 .bf16) (ix4 k 0 r l) = aU m c (ix3 b n l) := by
  have ht := pt_lt t
  unfold iblk
  rw [View.read_apply]
  show (V m c main_v0 : Vec Ideal S2x4x4096x704 .bf16) _ = _
  refine (congrArg _ (?_ : _ = ix4 k (⟨t.val / 8, by omega⟩ : Fin 4) n l)).trans ((found_v0 m c k _ n l).trans (congrArg (fun q => aU m c (ix3 q n l)) (Fin.ext hb.symm)))
  refine funext fun a => Fin.ext ?_
  match a with
  | ⟨0, _⟩ => show win0_1.index t 0 * 2 + 1 * k.val = k.val; rw [(index1 t).1]; omega
  | ⟨1, _⟩ => show win0_1.index t 1 * 1 + 1 * 0 = t.val / 8; rw [(index1 t).2.1]; omega
  | ⟨2, _⟩ => show win0_1.index t 2 * 16 + 1 * r.val = n.val; rw [(index1 t).2.2.1, hn]; omega
  | ⟨3, _⟩ => show win0_1.index t 3 * 704 + 1 * l.val = l.val; rw [(index1 t).2.2.2]; omega

/-- Window 2's block at a point, in the argument's own indices. -/
theorem blk2 (c : Dev nD) (t : Fin cfg0.N) (k : Fin 2) (r : Fin 3) (l : Fin 704) (b : Fin 8) (hb : b.val = 4 * k.val + t.val / 8) :
    (iblk m c 2 t : Vec Ideal S2x1x3x704 .f32) (ix4 k 0 r l) = aW m c (ix3 b r l) := by
  have ht := pt_lt t
  unfold iblk
  rw [View.read_apply]
  show (V m c main_v1 : Vec Ideal S2x4x3x704 .f32) _ = _
  refine (congrArg _ (?_ : _ = ix4 k (⟨t.val / 8, by omega⟩ : Fin 4) r l)).trans ((found_v1 m c k _ r l).trans (congrArg (fun q => aW m c (ix3 q r l)) (Fin.ext hb.symm)))
  refine funext fun a => Fin.ext ?_
  match a with
  | ⟨0, _⟩ => show win0_2.index t 0 * 2 + 1 * k.val = k.val; rw [(index2 t).1]; omega
  | ⟨1, _⟩ => show win0_2.index t 1 * 1 + 1 * 0 = t.val / 8; rw [(index2 t).2.1]; omega
  | ⟨2, _⟩ => show win0_2.index t 2 * 3 + 1 * r.val = r.val; rw [(index2 t).2.2.1]; omega
  | ⟨3, _⟩ => show win0_2.index t 3 * 704 + 1 * l.val = l.val; rw [(index2 t).2.2.2]; omega

/-- Window 3's block at a point, in the argument's own indices. -/
theorem blk3 (c : Dev nD) (t : Fin cfg0.N) (k : Fin 2) (r : Fin 1) (l : Fin 704) (b : Fin 8) (hb : b.val = 4 * k.val + t.val / 8) :
    (iblk m c 3 t : Vec Ideal S2x1x1x704 .f32) (ix4 k 0 r l) = aB m c (ix3 b r l) := by
  have ht := pt_lt t
  unfold iblk
  rw [View.read_apply]
  show (V m c main_v2 : Vec Ideal S2x4x1x704 .f32) _ = _
  refine (congrArg _ (?_ : _ = ix4 k (⟨t.val / 8, by omega⟩ : Fin 4) r l)).trans ((found_v2 m c k _ r l).trans (congrArg (fun q => aB m c (ix3 q r l)) (Fin.ext hb.symm)))
  refine funext fun a => Fin.ext ?_
  match a with
  | ⟨0, _⟩ => show win0_3.index t 0 * 2 + 1 * k.val = k.val; rw [(index3 t).1]; omega
  | ⟨1, _⟩ => show win0_3.index t 1 * 1 + 1 * 0 = t.val / 8; rw [(index3 t).2.1]; omega
  | ⟨2, _⟩ => show win0_3.index t 2 * 1 + 1 * r.val = r.val; rw [(index3 t).2.2.1]; omega
  | ⟨3, _⟩ => show win0_3.index t 3 * 704 + 1 * l.val = l.val; rw [(index3 t).2.2.2]; omega

/-- The factor of the rows before a block: zero at the first row block, one after it. -/
theorem flag_eq (t : Fin cfg0.N) : flag (grid0.coords t) = if t.val % 8 = 0 then 0 else 1 := by
  have h : ∀ t : Fin grid0.N, (Scalar.extui (Scalar.cmpi .sgt (BitVec.ofNat 32 (grid0.coords t 1).val) 0#32) : BitVec 32) = if t.val % 8 = 0 then 0#32 else 1#32 := by
    decide +kernel
  unfold flag
  rw [h t]
  split
  · pointwise
    rw [show (0#32 : BitVec 32).toInt = 0 from rfl]; simp
  · pointwise
    rw [show (1#32 : BitVec 32).toInt = 1 from rfl]; simp

/-- A scratch buffer's rows from the fourteenth are the block column's rows, two zeros first. -/
theorem ext_eq (c : Dev nD) (t : Fin cfg0.N) (k : Fin 2) (n : ℕ) (l : Fin 704) (hn : n < 514) (b : Fin 8) (hb : b.val = 4 * k.val + t.val / 8) :
    ext (flag (grid0.coords t)) (iblk m c 0 t) (iblk m c 1 t) k (14 + n) l = urow (aU m c) b (512 * (t.val % 8) + n) l := by
  have ht := pt_lt t
  rw [flag_eq]
  unfold ext urow
  by_cases h : 14 + n < 16
  · rw [dif_pos h]
    by_cases h0 : t.val % 8 = 0
    · rw [if_pos h0, if_pos (by omega), mul_zero]
    · rw [if_neg h0, if_neg (by omega), dif_pos (by omega), mul_one]
      exact blk1 m c t k _ l b hb _ (by show 512 * (t.val % 8) + n - 2 = 16 * (32 * (t.val % 8) - 1) + (14 + n); omega)
  · rw [dif_neg h, dif_pos (show 14 + n - 16 < 512 by omega), if_neg (by omega), dif_pos (by omega)]
    exact blk0 m c t k _ l b hb _ (by show 512 * (t.val % 8) + n - 2 = 512 * (t.val % 8) + (14 + n - 16); omega)

/-- One half of a point's rows after the taps and the bias. -/
theorem half_at (c : Dev nD) (t : Fin cfg0.N) (k : Fin 2) (r : Fin 512) (l : Fin 704) (b : Fin 8) (hb : b.val = 4 * k.val + t.val / 8) (n : ℕ) (hn : n = 512 * (t.val % 8) + r.val) :
    half (flag (grid0.coords t)) (iblk m c 0 t) (iblk m c 1 t) (iblk m c 2 t) (iblk m c 3 t) k r.val l = lrow (aU m c) (aW m c) (aB m c) b n l := by
  unfold half lrow lin
  rw [blk3 m c t k 0 l b hb, blk2 m c t k 0 l b hb, blk2 m c t k 1 l b hb, blk2 m c t k 2 l b hb]
  simp only [Nat.add_assoc]
  rw [ext_eq m c t k r.val l (by omega) b hb, ext_eq m c t k (r.val + 1) l (by omega) b hb, ext_eq m c t k (r.val + 2) l (by omega) b hb, hn]
  simp only [Nat.add_assoc]

/-- The output block after a point, by row and column. -/
theorem outs_eq (c : Dev nD) (t : Fin cfg0.N) (y : S1x512x704.Idx) (z : S4x4096x704.Idx) (h0 : (z 0).val = t.val / 8) (h1 : (z 1).val = 512 * (t.val % 8) + (y 1).val) (h2 : (z 2).val = (y 2).val) :
    outsAt0 m c t y = full (aU m c) (aW m c) (aB m c) z := by
  have ht := pt_lt t
  unfold outsAt0
  rw [out_eq]
  unfold blockOf act full
  have e2 : z 2 = y 2 := Fin.ext h2
  rw [e2]
  rw [half_at m c t 0 (y 1) (y 2) ⟨(z 0).val, by omega⟩ (by show (z 0).val = 4 * 0 + t.val / 8; omega) (z 1).val h1,
    half_at m c t 1 (y 1) (y 2) ⟨4 + (z 0).val, by omega⟩ (by show 4 + (z 0).val = 4 * 1 + t.val / 8; omega) (z 1).val h1]

/-- What each point writes back is its block of the result. -/
theorem flushed_out (c : Dev nD) (t : Fin cfg0.N) (hf : (cfg0.win 4).flush t = true) :
    (dats m 0 c).flushed 4 t = ((cfg0.win 4).blk t).view.read (Elt Ideal) (full (aU m c) (aW m c) (aB m c)) := by
  have hi : ∀ t : Fin cfg0.N, win0_4.index t 0 = t.val / 8 ∧ win0_4.index t 1 = t.val % 8 ∧ win0_4.index t 2 = 0 :=
    (by decide +kernel : ∀ t : Fin grid0.N, win0_4.index t 0 = t.val / 8 ∧ win0_4.index t 1 = t.val % 8 ∧ win0_4.index t 2 = 0)
  rw [Cert.ActIdeal.Value.flushed4]
  funext x
  rw [View.read_apply]
  have ht := pt_lt t
  have x0 : (x 0).val < 1 := (x 0).isLt
  refine outs_eq m c t x _ ?_ ?_ ?_
  · show win0_4.index t 0 * 1 + 1 * (x 0).val = t.val / 8; rw [(hi t).1]; omega
  · show win0_4.index t 1 * 512 + 1 * (x 1).val = 512 * (t.val % 8) + (x 1).val; rw [(hi t).2.1]; omega
  · show win0_4.index t 2 * 704 + 1 * (x 2).val = (x 2).val; rw [(hi t).2.2]; omega

/-- The result after the run. -/
theorem final_out (c : Dev nD) : (dats m 0 c).arrAt 4 cfg0.N = full (aU m c) (aW m c) (aB m c) :=
  (dats m 0 c).arrAt_eq_of_cover 4 (full (aU m c) (aW m c) (aB m c)) (flushed_out m c) fun i => by
    have h0 : (i 0 : Nat) < 4 := (i 0).isLt
    have h1 : (i 1 : Nat) < 4096 := (i 1).isLt
    have h2 : (i 2 : Nat) < 704 := (i 2).isLt
    have hN : cfg0.N = 32 := N_0
    let t : Fin cfg0.N := ⟨8 * (i 0 : Nat) + (i 1 : Nat) / 512, by omega⟩
    have hi : ∀ t : Fin cfg0.N, (win0_4.index t 0 * win0_4.size 0 = t.val / 8 ∧ win0_4.index t 1 * win0_4.size 1 = 512 * (t.val % 8) ∧ win0_4.index t 2 * win0_4.size 2 = 0) ∧ win0_4.xsize (grid0.coords t) 0 = 1 ∧ win0_4.xsize (grid0.coords t) 1 = 512 ∧ win0_4.xsize (grid0.coords t) 2 = 704 :=
      (by decide +kernel : ∀ t : Fin grid0.N, (win0_4.index t 0 * win0_4.size 0 = t.val / 8 ∧ win0_4.index t 1 * win0_4.size 1 = 512 * (t.val % 8) ∧ win0_4.index t 2 * win0_4.size 2 = 0) ∧ win0_4.xsize (grid0.coords t) 0 = 1 ∧ win0_4.xsize (grid0.coords t) 1 = 512 ∧ win0_4.xsize (grid0.coords t) 2 = 704)
    refine ⟨t, flush0_4 t, ?_⟩
    show i ∈ ((View.whole main_v3).slice (win0_4.rect t)).set
    rw [View.set_slice_whole, Rect.mem_set_unit]
    intro a
    have ht : t.val = 8 * (i 0 : Nat) + (i 1 : Nat) / 512 := rfl
    match a with
    | ⟨0, _⟩ => show win0_4.index t 0 * win0_4.size 0 ≤ (i 0 : Nat) ∧ (i 0 : Nat) < win0_4.index t 0 * win0_4.size 0 + win0_4.xsize (grid0.coords t) 0
                rw [(hi t).1.1, (hi t).2.1]; omega
    | ⟨1, _⟩ => show win0_4.index t 1 * win0_4.size 1 ≤ (i 1 : Nat) ∧ (i 1 : Nat) < win0_4.index t 1 * win0_4.size 1 + win0_4.xsize (grid0.coords t) 1
                rw [(hi t).1.2.1, (hi t).2.2.1]; omega
    | ⟨2, _⟩ => show win0_4.index t 2 * win0_4.size 2 ≤ (i 2 : Nat) ∧ (i 2 : Nat) < win0_4.index t 2 * win0_4.size 2 + win0_4.xsize (grid0.coords t) 2
                rw [(hi t).1.2.2, (hi t).2.2.2]; omega

/-- The run, read: the result, the arguments unchanged. -/
theorem run : θ_run defs (onTc (τ := τ) (main (F := Ideal))) ⟨m, fun _ => 0, ρ⟩ fun r => ∀ c : Dev nD,
      r.2.mem ((c : Thread nD τ).loc main_v3) = full (aU m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_out m c), (h c).2⟩)
    (Cert.ActIdeal.Value.run_blocks m ρ)

end Cert.ActIdeal.Arr

end
-- ==== Proof.ActMath.lean ====
/-
  The logistic function through the hyperbolic tangent, over the extended reals.
-/
module

public import proofs.«01_k».proof.Proof.ActBlock

@[expose] public section

set_option maxRecDepth 16384

noncomputable section

namespace Cert.ActIdeal.Block

open Idealize.ShloMosaic

/-- The constant one half. -/
theorem half_eq : Ideal.ofBits .f32 0x3F000000#32 = ((1 / 2 : ℝ) : EReal) := by
  simp [Ideal.ofBits, Ideal.ieee, -EReal.coe_mul]; norm_num

/-- The same over the reals. -/
theorem tanh_logistic (r : ℝ) : 1 / 2 * Real.tanh (1 / 2 * r) + 1 / 2 = 1 / (1 + Real.exp (-r)) := by
  have h1 : Real.exp (1 / 2 * r) ≠ 0 := (Real.exp_pos _).ne'
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, e1, e2]
  have h2 : 0 < Real.exp (1 / 2 * r) := Real.exp_pos _
  field_simp
  ring

/-- One half of the hyperbolic tangent of half a number, plus one half, is the number's logistic value. -/
theorem swish_eq (v : EReal) : swish v = v * Ideal.logistic v := by
  unfold swish
  congr 1
  rw [half_eq]
  induction v using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | coe r =>
    rw [← EReal.coe_mul, Ideal.tanh_coe, ← EReal.coe_mul, ← EReal.coe_add, tanh_logistic, Ideal.logistic]
    rw [← EReal.coe_neg, Ideal.exp_coe, show (1 : EReal) = ((1 : ℝ) : EReal) from rfl, ← EReal.coe_add,
      Ideal.div_coe (by positivity), ← EReal.coe_mul, one_mul]
  | top =>
    rw [EReal.coe_mul_top_of_pos (by norm_num), Ideal.tanh_top, Ideal.logistic_top]
    rw [show (1 : EReal) = ((1 : ℝ) : EReal) from rfl, ← EReal.coe_mul, ← EReal.coe_add]
    norm_num

end Cert.ActIdeal.Block

end
-- ==== Proof.ActRef.lean ====
/-
  What the reference's result holds, element by element: the activation of the feed-forward block.
-/
module

public import proofs.«01_k».proof.Proof.ActArray
public import proofs.«01_k».proof.Proof.ActMath
public import proofs.«01_k».proof.Proof.Gen.ActRefIdeal.Run
public import proofs.«01_k».proof.Proof.Gen.ActRefIdeal.Read

@[expose] public section

set_option maxRecDepth 16384

noncomputable section

namespace Cert.ActRefIdeal.Eq

open Cert.ActRefIdeal Cert.ActRefIdeal.Gen Cert.ActRefIdeal.Read Idealize.ShloMosaic Idealize.ShloMosaic.TcCoe Idealize.SL.Sem
open Cert.ActIdeal.Arr (urow lrow full)
open Cert.ActIdeal.Block (lin swish swish_eq)

variable (U : Vec Ideal S8x4096x704 .bf16) (W : Vec Ideal S8x3x704 .f32) (B : Vec Ideal S8x1x704 .f32)

/-- The block a column of the wide array lies in. -/
def cb (c : Fin 5632) : Fin 8 := ⟨c.val / 704, by omega⟩

/-- Its column inside that block. -/
def cl (c : Fin 5632) : Fin 704 := ⟨c.val % 704, by omega⟩

/-- The wide array. -/
theorem wide (r : Fin 4096) (c : Fin 5632) : val_main_v2 (F := Ideal) U (ix2 r c) = U (ix3 (cb c) r (cl c)) := by
  pointwise [val_main_v2, val_main_v1, val_main_v0]
  rfl

/-- The wide taps. -/
theorem taps (a : Fin 3) (c : Fin 5632) : val_main_v4 (F := Ideal) W (ix2 a c) = W (ix3 (cb c) a (cl c)) := by
  pointwise [val_main_v4, val_main_v3]
  rfl

/-- The wide bias. -/
theorem bias (a : Fin 1) (c : Fin 5632) : val_main_v28 (F := Ideal) B (ix2 a c) = B (ix3 (cb c) 0 (cl c)) := by
  pointwise [val_main_v28, val_main_v27]
  rfl

/-- The wide array under two rows of zeros. -/
theorem padded (n : Fin 4098) (c : Fin 5632) : val_main_v6 (F := Ideal) U (ix2 n c) = urow U (cb c) n.val (cl c) := by
  pointwise [val_main_v6, val_main_v5, val_main_cst]
  unfold urow
  by_cases h : n.val < 2
  · rw [dif_pos h, if_pos h]
  · rw [dif_neg h, if_neg h, dif_pos (show n.val - 2 < 4096 by omega), wide]

/-- The padded rows from the first on. -/
theorem shift0 (r : Fin 4096) (c : Fin 5632) : val_main_v7 (F := Ideal) U (ix2 r c) = urow U (cb c) r.val (cl c) := by
  pointwise [val_main_v7]
  rw [padded]

/-- The padded rows from the second on. -/
theorem shift1 (r : Fin 4096) (c : Fin 5632) : val_main_v13 (F := Ideal) U (ix2 r c) = urow U (cb c) (r.val + 1) (cl c) := by
  pointwise [val_main_v13]
  rw [padded]
  exact congrArg (fun n => urow U (cb c) n (cl c)) (Nat.add_comm _ _)

/-- The padded rows from the third on. -/
theorem shift2 (r : Fin 4096) (c : Fin 5632) : val_main_v20 (F := Ideal) U (ix2 r c) = urow U (cb c) (r.val + 2) (cl c) := by
  pointwise [val_main_v20]
  rw [padded]
  exact congrArg (fun n => urow U (cb c) n (cl c)) (Nat.add_comm _ _)

/-- The taps and the bias. -/
theorem convolved (r : Fin 4096) (c : Fin 5632) : val_main_v30 (F := Ideal) U W B (ix2 r c) = lrow U W B (cb c) r.val (cl c) := by
  pointwise [val_main_v30, val_main_v29, val_main_v26, val_main_v25, val_main_v24, val_main_v23, val_main_v22, val_main_v21, val_main_v19, val_main_v18, val_main_v17, val_main_v16, val_main_v15, val_main_v14, val_main_v12, val_main_v11, val_main_v10, val_main_v9, val_main_v8]
  rw [shift0, shift1, shift2, taps, taps, taps, bias]
  unfold lrow lin
  rw [mul_comm (urow U (cb c) r.val (cl c)), mul_comm (urow U (cb c) (r.val + 1) (cl c)), mul_comm (urow U (cb c) (r.val + 2) (cl c)), add_comm]

/-- The same for a column named by its block and its place in the block. -/
theorem convolved_at (r : Fin 4096) (c : Fin 5632) (b : Fin 8) (l : Fin 704) (hc : c.val = 704 * b.val + l.val) :
    val_main_v30 (F := Ideal) U W B (ix2 r c) = lrow U W B b r.val l := by
  rw [convolved, show cb c = b from Fin.ext (by show c.val / 704 = b.val; omega), show cl c = l from Fin.ext (by show c.val % 704 = l.val; omega)]

/-- The reference's result is the activation. -/
theorem full_eq : val_main_v37 (F := Ideal) U W B = full U W B := by
  funext y
  idx_vars y
  pointwise [val_main_v37, val_main_v36, val_main_v35, val_main_v34, val_main_v33, val_main_v32, val_main_v31, val_main_call0_v5, val_main_call0_v4, val_main_call0_v3, val_main_call0_v2, val_main_call0_v1, val_main_call0_v0, val_main_call0_cst, val_main_call0_cst_0]
  rw [convolved_at U W B y1 _ ⟨y0.val, by omega⟩ y2 (by show y0.val * 704 + y2.val = 704 * y0.val + y2.val; omega),
    convolved_at U W B y1 _ ⟨4 + y0.val, by omega⟩ y2 (by show 2816 + (y0.val * 704 + y2.val) = 704 * (4 + y0.val) + y2.val; omega)]
  show _ = swish (lrow U W B ⟨y0.val, by omega⟩ y1.val y2) * lrow U W B ⟨4 + y0.val, by omega⟩ y1.val y2
  rw [swish_eq]
  rfl

end Cert.ActRefIdeal.Eq

end
-- ==== Proof.ActClaims.lean ====
/-
  The claims about the feed-forward block's activation, assembled.
-/
module

public import proofs.«01_k».proof.Defs
public import proofs.«01_k».proof.Proof.ActArray
public import proofs.«01_k».proof.Proof.ActRef
public import proofs.«01_k».proof.Proof.Gen.Act.Frame

@[expose] public section

noncomputable section

namespace Cert.ActClaims

open Idealize.ShloMosaic Idealize.SL.Sem

instance : Cert.Act.Facts := Cert.Act.Gen.facts
instance : Cert.ActIdeal.Facts := Cert.ActIdeal.Gen.facts
instance : Cert.ActRefIdeal.Facts := Cert.ActRefIdeal.Gen.facts

/-- The kernel's program ends, faultless, its arguments unchanged, every semaphore at zero. -/
theorem frame_kernel : Cert.quiescent_Act := fun m ρ _ => Cert.Act.Gen.frame m ρ

/-- The same of the kernel over the extended reals. -/
theorem frame_ideal : Cert.quiescent_ActIdeal := fun m ρ _ => Cert.ActIdeal.Gen.frame m ρ

/-- The reference ends, faultless, its arguments unchanged, every semaphore at zero. -/
theorem frame_ref : Cert.quiescent_ActRefIdeal := fun m ρ _ =>
  (θ_run Cert.ActRefIdeal.defs _ _).mono (fun r h => ⟨fun c => (h c).2, sem_eq_zero_of_no_sems (by decide) r.2⟩)
    (Cert.ActRefIdeal.Value.run m ρ)

/-- Kernel and reference end with the same result. -/
theorem algebraic : Cert.algebraic_ActIdeal_ActRefIdeal := fun m ρ m' ρ' _ hag =>
  ⟨fun c => Cert.ActIdeal.Arr.full (Cert.ActIdeal.Arr.aU m c) (Cert.ActIdeal.Arr.aW m c) (Cert.ActIdeal.Arr.aB m c),
    Cert.ActIdeal.Arr.run m ρ,
    (θ_run _ _ _).mono (fun r h c => by
      obtain ⟨h0, h2⟩ := h c
      obtain ⟨e0, e1, e2⟩ := hag c
      refine ⟨h0.trans ((Cert.ActRefIdeal.Read.val_main_v37_eq m' c).trans ?_), h2⟩
      rw [e0, e1, e2]; exact Cert.ActRefIdeal.Eq.full_eq _ _ _) (Cert.ActRefIdeal.Value.run m' ρ')⟩

end Cert.ActClaims

end
-- ==== Proof.lean ====
/-
  The claims of this directory, put together: for each kernel its frame over the machine's floats and over the extended
  reals, the frame of its reference, and the equality of kernel and reference over the extended reals.
-/
module

public import proofs.«01_k».proof.Defs
public import proofs.«01_k».proof.Proof.SconvClaims
public import proofs.«01_k».proof.Proof.DactClaims
public import proofs.«01_k».proof.Proof.DwdownClaims
public import proofs.«01_k».proof.Proof.Dh2Claims
public import proofs.«01_k».proof.Proof.DwupClaims
public import proofs.«01_k».proof.Proof.UpClaims
public import proofs.«01_k».proof.Proof.DownClaims
public import proofs.«01_k».proof.Proof.InprojClaims
public import proofs.«01_k».proof.Proof.OutprojClaims
public import proofs.«01_k».proof.Proof.DcatClaims
public import proofs.«01_k».proof.Proof.DwoutClaims
public import proofs.«01_k».proof.Proof.DhClaims
public import proofs.«01_k».proof.Proof.DwinClaims
public import proofs.«01_k».proof.Proof.Rms2Claims
public import proofs.«01_k».proof.Proof.RmsbClaims
public import proofs.«01_k».proof.Proof.ConvfClaims
public import proofs.«01_k».proof.Proof.ActClaims

@[expose] public section

noncomputable section

namespace Cert.Proof

/-- Every claim of this certificate. -/
theorem claim : Cert.Claim :=
  ⟨Cert.Sconv.Gen.facts, Cert.SconvIdeal.Gen.facts, Cert.SconvRefIdeal.Gen.facts, Cert.Dact.Gen.facts, Cert.DactIdeal.Gen.facts, Cert.DactRefIdeal.Gen.facts, Cert.Dwdown.Gen.facts, Cert.DwdownIdeal.Gen.facts, Cert.DwdownRefIdeal.Gen.facts, Cert.Dh2.Gen.facts, Cert.Dh2Ideal.Gen.facts, Cert.Dh2RefIdeal.Gen.facts, Cert.Dwup.Gen.facts, Cert.DwupIdeal.Gen.facts, Cert.DwupRefIdeal.Gen.facts, Cert.Up.Gen.facts, Cert.UpIdeal.Gen.facts, Cert.UpRefIdeal.Gen.facts, Cert.Down.Gen.facts, Cert.DownIdeal.Gen.facts, Cert.DownRefIdeal.Gen.facts, Cert.Inproj.Gen.facts, Cert.InprojIdeal.Gen.facts, Cert.InprojRefIdeal.Gen.facts, Cert.Outproj.Gen.facts, Cert.OutprojIdeal.Gen.facts, Cert.OutprojRefIdeal.Gen.facts, Cert.Dcat.Gen.facts, Cert.DcatIdeal.Gen.facts, Cert.DcatRefIdeal.Gen.facts, Cert.Dwout.Gen.facts, Cert.DwoutIdeal.Gen.facts, Cert.DwoutRefIdeal.Gen.facts, Cert.Dh.Gen.facts, Cert.DhIdeal.Gen.facts, Cert.DhRefIdeal.Gen.facts, Cert.Dwin.Gen.facts, Cert.DwinIdeal.Gen.facts, Cert.DwinRefIdeal.Gen.facts, Cert.Rms2.Gen.facts, Cert.Rms2Ideal.Gen.facts, Cert.Rms2RefIdeal.Gen.facts, Cert.Rmsb.Gen.facts, Cert.RmsbIdeal.Gen.facts, Cert.RmsbRefIdeal.Gen.facts, Cert.Convf.Gen.facts, Cert.ConvfIdeal.Gen.facts, Cert.ConvfRefIdeal.Gen.facts, Cert.Act.Gen.facts, Cert.ActIdeal.Gen.facts, Cert.ActRefIdeal.Gen.facts, Cert.Pre_rms2_finite.Gen.facts, Cert.Pre_rmsb_finite.Gen.facts,
    SconvClaims.frame_kernel, SconvClaims.frame_ideal, SconvClaims.frame_ref,
    DactClaims.frame_kernel, DactClaims.frame_ideal, DactClaims.frame_ref,
    DwdownClaims.frame_kernel, DwdownClaims.frame_ideal, DwdownClaims.frame_ref,
    Dh2Claims.frame_kernel, Dh2Claims.frame_ideal, Dh2Claims.frame_ref,
    DwupClaims.frame_kernel, DwupClaims.frame_ideal, DwupClaims.frame_ref,
    UpClaims.frame_kernel, UpClaims.frame_ideal, UpClaims.frame_ref,
    DownClaims.frame_kernel, DownClaims.frame_ideal, DownClaims.frame_ref,
    InprojClaims.frame_kernel, InprojClaims.frame_ideal, InprojClaims.frame_ref,
    OutprojClaims.frame_kernel, OutprojClaims.frame_ideal, OutprojClaims.frame_ref,
    DcatClaims.frame_kernel, DcatClaims.frame_ideal, DcatClaims.frame_ref,
    DwoutClaims.frame_kernel, DwoutClaims.frame_ideal, DwoutClaims.frame_ref,
    DhClaims.frame_kernel, DhClaims.frame_ideal, DhClaims.frame_ref,
    DwinClaims.frame_kernel, DwinClaims.frame_ideal, DwinClaims.frame_ref,
    Rms2Claims.frame_kernel, Rms2Claims.frame_ideal, Rms2Claims.frame_ideal_pre,
    Rms2Claims.frame_ref, Rms2Claims.frame_ref_pre, RmsbClaims.frame_kernel,
    RmsbClaims.frame_ideal, RmsbClaims.frame_ideal_pre, RmsbClaims.frame_ref,
    RmsbClaims.frame_ref_pre, ConvfClaims.frame_kernel, ConvfClaims.frame_ideal,
    ConvfClaims.frame_ref, ActClaims.frame_kernel, ActClaims.frame_ideal,
    ActClaims.frame_ref, trivial, SconvClaims.algebraic,
    trivial, DactClaims.algebraic, trivial,
    DwdownClaims.algebraic, trivial, Dh2Claims.algebraic,
    trivial, DwupClaims.algebraic, trivial,
    UpClaims.algebraic, trivial, DownClaims.algebraic,
    trivial, InprojClaims.algebraic, trivial,
    OutprojClaims.algebraic, trivial, DcatClaims.algebraic,
    trivial, DwoutClaims.algebraic, trivial,
    DhClaims.algebraic, trivial, DwinClaims.algebraic,
    trivial, Rms2Claims.algebraic, trivial,
    RmsbClaims.algebraic, trivial, ConvfClaims.algebraic,
    trivial, ActClaims.algebraic⟩

end Cert.Proof

end
